-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_SsdOutDx (m : (ℓ : Loc Cert.SsdOutDx.nD Cert.SsdOutDx.τ Cert.SsdOutDx.sig) → Buf (Elt Bits) ℓ) : Prop :=
  True

def Pre_SsdOutDxIdeal (m : (ℓ : Loc Cert.SsdOutDxIdeal.nD Cert.SsdOutDxIdeal.τ Cert.SsdOutDxIdeal.sig) → Buf (Elt Ideal) ℓ) : Prop :=
  True

def Pre_SsdOutDxRefIdeal (m : (ℓ : Loc Cert.SsdOutDxRefIdeal.nD Cert.SsdOutDxRefIdeal.τ Cert.SsdOutDxRefIdeal.sig) → Buf (Elt Ideal) ℓ) : Prop :=
  True

def Pre_SsdOutDw (m : (ℓ : Loc Cert.SsdOutDw.nD Cert.SsdOutDw.τ Cert.SsdOutDw.sig) → Buf (Elt Bits) ℓ) : Prop :=
  True

def Pre_SsdOutDwIdeal (m : (ℓ : Loc Cert.SsdOutDwIdeal.nD Cert.SsdOutDwIdeal.τ Cert.SsdOutDwIdeal.sig) → Buf (Elt Ideal) ℓ) : Prop :=
  True

def Pre_SsdOutDwRefIdeal (m : (ℓ : Loc Cert.SsdOutDwRefIdeal.nD Cert.SsdOutDwRefIdeal.τ Cert.SsdOutDwRefIdeal.sig) → Buf (Elt Ideal) ℓ) : Prop :=
  True

def Pre_SsdInDx (m : (ℓ : Loc Cert.SsdInDx.nD Cert.SsdInDx.τ Cert.SsdInDx.sig) → Buf (Elt Bits) ℓ) : Prop :=
  True

def Pre_SsdInDxIdeal (m : (ℓ : Loc Cert.SsdInDxIdeal.nD Cert.SsdInDxIdeal.τ Cert.SsdInDxIdeal.sig) → Buf (Elt Ideal) ℓ) : Prop :=
  True

def Pre_SsdInDxRefIdeal (m : (ℓ : Loc Cert.SsdInDxRefIdeal.nD Cert.SsdInDxRefIdeal.τ Cert.SsdInDxRefIdeal.sig) → Buf (Elt Ideal) ℓ) : Prop :=
  True

def Pre_SsdInDw (m : (ℓ : Loc Cert.SsdInDw.nD Cert.SsdInDw.τ Cert.SsdInDw.sig) → Buf (Elt Bits) ℓ) : Prop :=
  True

def Pre_SsdInDwIdeal (m : (ℓ : Loc Cert.SsdInDwIdeal.nD Cert.SsdInDwIdeal.τ Cert.SsdInDwIdeal.sig) → Buf (Elt Ideal) ℓ) : Prop :=
  True

def Pre_SsdInDwRefIdeal (m : (ℓ : Loc Cert.SsdInDwRefIdeal.nD Cert.SsdInDwRefIdeal.τ Cert.SsdInDwRefIdeal.sig) → Buf (Elt Ideal) ℓ) : Prop :=
  True

def Pre_AttnOutDx (m : (ℓ : Loc Cert.AttnOutDx.nD Cert.AttnOutDx.τ Cert.AttnOutDx.sig) → Buf (Elt Bits) ℓ) : Prop :=
  True

def Pre_AttnOutDxIdeal (m : (ℓ : Loc Cert.AttnOutDxIdeal.nD Cert.AttnOutDxIdeal.τ Cert.AttnOutDxIdeal.sig) → Buf (Elt Ideal) ℓ) : Prop :=
  True

def Pre_AttnOutDxRefIdeal (m : (ℓ : Loc Cert.AttnOutDxRefIdeal.nD Cert.AttnOutDxRefIdeal.τ Cert.AttnOutDxRefIdeal.sig) → Buf (Elt Ideal) ℓ) : Prop :=
  True

def Pre_AttnOutDw (m : (ℓ : Loc Cert.AttnOutDw.nD Cert.AttnOutDw.τ Cert.AttnOutDw.sig) → Buf (Elt Bits) ℓ) : Prop :=
  True

def Pre_AttnOutDwIdeal (m : (ℓ : Loc Cert.AttnOutDwIdeal.nD Cert.AttnOutDwIdeal.τ Cert.AttnOutDwIdeal.sig) → Buf (Elt Ideal) ℓ) : Prop :=
  True

def Pre_AttnOutDwRefIdeal (m : (ℓ : Loc Cert.AttnOutDwRefIdeal.nD Cert.AttnOutDwRefIdeal.τ Cert.AttnOutDwRefIdeal.sig) → Buf (Elt Ideal) ℓ) : Prop :=
  True

def Pre_QkvDx (m : (ℓ : Loc Cert.QkvDx.nD Cert.QkvDx.τ Cert.QkvDx.sig) → Buf (Elt Bits) ℓ) : Prop :=
  True

def Pre_QkvDxIdeal (m : (ℓ : Loc Cert.QkvDxIdeal.nD Cert.QkvDxIdeal.τ Cert.QkvDxIdeal.sig) → Buf (Elt Ideal) ℓ) : Prop :=
  True

def Pre_QkvDxRefIdeal (m : (ℓ : Loc Cert.QkvDxRefIdeal.nD Cert.QkvDxRefIdeal.τ Cert.QkvDxRefIdeal.sig) → Buf (Elt Ideal) ℓ) : Prop :=
  True

def Pre_QkvDw (m : (ℓ : Loc Cert.QkvDw.nD Cert.QkvDw.τ Cert.QkvDw.sig) → Buf (Elt Bits) ℓ) : Prop :=
  True

def Pre_QkvDwIdeal (m : (ℓ : Loc Cert.QkvDwIdeal.nD Cert.QkvDwIdeal.τ Cert.QkvDwIdeal.sig) → Buf (Elt Ideal) ℓ) : Prop :=
  True

def Pre_QkvDwRefIdeal (m : (ℓ : Loc Cert.QkvDwRefIdeal.nD Cert.QkvDwRefIdeal.τ Cert.QkvDwRefIdeal.sig) → Buf (Elt Ideal) ℓ) : Prop :=
  True

def Pre_SsdIn (m : (ℓ : Loc Cert.SsdIn.nD Cert.SsdIn.τ Cert.SsdIn.sig) → Buf (Elt Bits) ℓ) : Prop :=
  True

def Pre_SsdInIdeal (m : (ℓ : Loc Cert.SsdInIdeal.nD Cert.SsdInIdeal.τ Cert.SsdInIdeal.sig) → Buf (Elt Ideal) ℓ) : Prop :=
  True

def Pre_SsdInRefIdeal (m : (ℓ : Loc Cert.SsdInRefIdeal.nD Cert.SsdInRefIdeal.τ Cert.SsdInRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutRefIdeal (m : (ℓ : Loc Cert.SsdOutRefIdeal.nD Cert.SsdOutRefIdeal.τ Cert.SsdOutRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_GateFfn (m : (ℓ : Loc Cert.GateFfn.nD Cert.GateFfn.τ Cert.GateFfn.sig) → Buf (Elt Bits) ℓ) : Prop :=
  True

def Pre_GateFfnIdeal (m : (ℓ : Loc Cert.GateFfnIdeal.nD Cert.GateFfnIdeal.τ Cert.GateFfnIdeal.sig) → Buf (Elt Ideal) ℓ) : Prop :=
  True

def Pre_GateFfnRefIdeal (m : (ℓ : Loc Cert.GateFfnRefIdeal.nD Cert.GateFfnRefIdeal.τ Cert.GateFfnRefIdeal.sig) → Buf (Elt Ideal) ℓ) : Prop :=
  True

def Pre_GateMix (m : (ℓ : Loc Cert.GateMix.nD Cert.GateMix.τ Cert.GateMix.sig) → Buf (Elt Bits) ℓ) : Prop :=
  True

def Pre_GateMixIdeal (m : (ℓ : Loc Cert.GateMixIdeal.nD Cert.GateMixIdeal.τ Cert.GateMixIdeal.sig) → Buf (Elt Ideal) ℓ) : Prop :=
  True

def Pre_GateMixRefIdeal (m : (ℓ : Loc Cert.GateMixRefIdeal.nD Cert.GateMixRefIdeal.τ Cert.GateMixRefIdeal.sig) → Buf (Elt Ideal) ℓ) : Prop :=
  True

def Pre_NormFfn (m : (ℓ : Loc Cert.NormFfn.nD Cert.NormFfn.τ Cert.NormFfn.sig) → Buf (Elt Bits) ℓ) : Prop :=
  True

def Pre_NormFfnIdeal (m : (ℓ : Loc Cert.NormFfnIdeal.nD Cert.NormFfnIdeal.τ Cert.NormFfnIdeal.sig) → Buf (Elt Ideal) ℓ) : Prop :=
  True

def Pre_NormFfnRefIdeal (m : (ℓ : Loc Cert.NormFfnRefIdeal.nD Cert.NormFfnRefIdeal.τ Cert.NormFfnRefIdeal.sig) → Buf (Elt Ideal) ℓ) : Prop :=
  True

def Pre_NormMix (m : (ℓ : Loc Cert.NormMix.nD Cert.NormMix.τ Cert.NormMix.sig) → Buf (Elt Bits) ℓ) : Prop :=
  True

def Pre_NormMixIdeal (m : (ℓ : Loc Cert.NormMixIdeal.nD Cert.NormMixIdeal.τ Cert.NormMixIdeal.sig) → Buf (Elt Ideal) ℓ) : Prop :=
  True

def Pre_NormMixRefIdeal (m : (ℓ : Loc Cert.NormMixRefIdeal.nD Cert.NormMixRefIdeal.τ Cert.NormMixRefIdeal.sig) → Buf (Elt Ideal) ℓ) : Prop :=
  True

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidIdeal_finite_ffn [hPre_finite_ffn : Cert.Pre_finite_ffn.Facts] (m : (ℓ : Loc Cert.FfnMidIdeal.nD Cert.FfnMidIdeal.τ Cert.FfnMidIdeal.sig) → Buf (Elt Ideal) ℓ) : Prop :=
  ∀ c : Dev Cert.FfnMidIdeal.nD,
    (Cert.Pre_finite_ffn.fn (F := Ideal) (m ((c.tc : Thread Cert.FfnMidIdeal.nD Cert.FfnMidIdeal.τ).loc Cert.FfnMidIdeal.main_arg0)) (m ((c.tc : Thread Cert.FfnMidIdeal.nD Cert.FfnMidIdeal.τ).loc Cert.FfnMidIdeal.main_arg1)) (m ((c.tc : Thread Cert.FfnMidIdeal.nD Cert.FfnMidIdeal.τ).loc Cert.FfnMidIdeal.main_arg2)) (m ((c.tc : Thread Cert.FfnMidIdeal.nD Cert.FfnMidIdeal.τ).loc Cert.FfnMidIdeal.main_arg3))) = (fun _ => 1#1)

def Pre_FfnMidRefIdeal (m : (ℓ : Loc Cert.FfnMidRefIdeal.nD Cert.FfnMidRefIdeal.τ Cert.FfnMidRefIdeal.sig) → Buf (Elt Ideal) ℓ) : Prop :=
  True

def Pre_FfnMidRefIdeal_finite_ffn [hPre_finite_ffn : Cert.Pre_finite_ffn.Facts] (m : (ℓ : Loc Cert.FfnMidRefIdeal.nD Cert.FfnMidRefIdeal.τ Cert.FfnMidRefIdeal.sig) → Buf (Elt Ideal) ℓ) : Prop :=
  ∀ c : Dev Cert.FfnMidRefIdeal.nD,
    (Cert.Pre_finite_ffn.fn (F := Ideal) (m ((c.tc : Thread Cert.FfnMidRefIdeal.nD Cert.FfnMidRefIdeal.τ).loc Cert.FfnMidRefIdeal.main_arg0)) (m ((c.tc : Thread Cert.FfnMidRefIdeal.nD Cert.FfnMidRefIdeal.τ).loc Cert.FfnMidRefIdeal.main_arg1)) (m ((c.tc : Thread Cert.FfnMidRefIdeal.nD Cert.FfnMidRefIdeal.τ).loc Cert.FfnMidRefIdeal.main_arg2)) (m ((c.tc : Thread Cert.FfnMidRefIdeal.nD Cert.FfnMidRefIdeal.τ).loc Cert.FfnMidRefIdeal.main_arg3))) = (fun _ => 1#1)

def Pre_NormFfnFwd (m : (ℓ : Loc Cert.NormFfnFwd.nD Cert.NormFfnFwd.τ Cert.NormFfnFwd.sig) → Buf (Elt Bits) ℓ) : Prop :=
  True

def Pre_NormFfnFwdIdeal (m : (ℓ : Loc Cert.NormFfnFwdIdeal.nD Cert.NormFfnFwdIdeal.τ Cert.NormFfnFwdIdeal.sig) → Buf (Elt Ideal) ℓ) : Prop :=
  True

def Pre_NormFfnFwdRefIdeal (m : (ℓ : Loc Cert.NormFfnFwdRefIdeal.nD Cert.NormFfnFwdRefIdeal.τ Cert.NormFfnFwdRefIdeal.sig) → Buf (Elt Ideal) ℓ) : Prop :=
  True

def Pre_NormMixFwd (m : (ℓ : Loc Cert.NormMixFwd.nD Cert.NormMixFwd.τ Cert.NormMixFwd.sig) → Buf (Elt Bits) ℓ) : Prop :=
  True

def Pre_NormMixFwdIdeal (m : (ℓ : Loc Cert.NormMixFwdIdeal.nD Cert.NormMixFwdIdeal.τ Cert.NormMixFwdIdeal.sig) → Buf (Elt Ideal) ℓ) : Prop :=
  True

def Pre_NormMixFwdRefIdeal (m : (ℓ : Loc Cert.NormMixFwdRefIdeal.nD Cert.NormMixFwdRefIdeal.τ Cert.NormMixFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_SsdOutDx [hSsdOutDx : Cert.SsdOutDx.Facts] : Prop :=
  ∀ (m : (ℓ : Loc Cert.SsdOutDx.nD Cert.SsdOutDx.τ Cert.SsdOutDx.sig) → Buf (Elt Bits) ℓ) (g : Dev Cert.SsdOutDx.nD → PrngReg), Pre_SsdOutDx m →
    θ_run (Cert.SsdOutDx.defs (F := Bits)) (onTc (τ := Cert.SsdOutDx.τ) (Cert.SsdOutDx.main (F := Bits))) ⟨m, fun _ => 0, g⟩ (fun r => (∀ c : Dev Cert.SsdOutDx.nD,
      r.2.mem ((c.tc : Thread Cert.SsdOutDx.nD Cert.SsdOutDx.τ).loc Cert.SsdOutDx.main_arg0) = m ((c.tc : Thread Cert.SsdOutDx.nD Cert.SsdOutDx.τ).loc Cert.SsdOutDx.main_arg0)
      ∧ r.2.mem ((c.tc : Thread Cert.SsdOutDx.nD Cert.SsdOutDx.τ).loc Cert.SsdOutDx.main_arg1) = m ((c.tc : Thread Cert.SsdOutDx.nD Cert.SsdOutDx.τ).loc Cert.SsdOutDx.main_arg1))
      ∧ r.2.sem = fun _ => 0)

def quiescent_SsdOutDxIdeal [hSsdOutDxIdeal : Cert.SsdOutDxIdeal.Facts] : Prop :=
  ∀ (m : (ℓ : Loc Cert.SsdOutDxIdeal.nD Cert.SsdOutDxIdeal.τ Cert.SsdOutDxIdeal.sig) → Buf (Elt Ideal) ℓ) (g : Dev Cert.SsdOutDxIdeal.nD → PrngReg), Pre_SsdOutDxIdeal m →
    θ_run (Cert.SsdOutDxIdeal.defs (F := Ideal)) (onTc (τ := Cert.SsdOutDxIdeal.τ) (Cert.SsdOutDxIdeal.main (F := Ideal))) ⟨m, fun _ => 0, g⟩ (fun r => (∀ c : Dev Cert.SsdOutDxIdeal.nD,
      r.2.mem ((c.tc : Thread Cert.SsdOutDxIdeal.nD Cert.SsdOutDxIdeal.τ).loc Cert.SsdOutDxIdeal.main_arg0) = m ((c.tc : Thread Cert.SsdOutDxIdeal.nD Cert.SsdOutDxIdeal.τ).loc Cert.SsdOutDxIdeal.main_arg0)
      ∧ r.2.mem ((c.tc : Thread Cert.SsdOutDxIdeal.nD Cert.SsdOutDxIdeal.τ).loc Cert.SsdOutDxIdeal.main_arg1) = m ((c.tc : Thread Cert.SsdOutDxIdeal.nD Cert.SsdOutDxIdeal.τ).loc Cert.SsdOutDxIdeal.main_arg1))
      ∧ r.2.sem = fun _ => 0)

def quiescent_SsdOutDxRefIdeal [hSsdOutDxRefIdeal : Cert.SsdOutDxRefIdeal.Facts] : Prop :=
  ∀ (m : (ℓ : Loc Cert.SsdOutDxRefIdeal.nD Cert.SsdOutDxRefIdeal.τ Cert.SsdOutDxRefIdeal.sig) → Buf (Elt Ideal) ℓ) (g : Dev Cert.SsdOutDxRefIdeal.nD → PrngReg), Pre_SsdOutDxRefIdeal m →
    θ_run (Cert.SsdOutDxRefIdeal.defs (F := Ideal)) (onTc (τ := Cert.SsdOutDxRefIdeal.τ) (Cert.SsdOutDxRefIdeal.main (F := Ideal))) ⟨m, fun _ => 0, g⟩ (fun r => (∀ c : Dev Cert.SsdOutDxRefIdeal.nD,
      r.2.mem ((c.tc : Thread Cert.SsdOutDxRefIdeal.nD Cert.SsdOutDxRefIdeal.τ).loc Cert.SsdOutDxRefIdeal.main_arg0) = m ((c.tc : Thread Cert.SsdOutDxRefIdeal.nD Cert.SsdOutDxRefIdeal.τ).loc Cert.SsdOutDxRefIdeal.main_arg0)
      ∧ r.2.mem ((c.tc : Thread Cert.SsdOutDxRefIdeal.nD Cert.SsdOutDxRefIdeal.τ).loc Cert.SsdOutDxRefIdeal.main_arg1) = m ((c.tc : Thread Cert.SsdOutDxRefIdeal.nD Cert.SsdOutDxRefIdeal.τ).loc Cert.SsdOutDxRefIdeal.main_arg1))
      ∧ r.2.sem = fun _ => 0)

def quiescent_SsdOutDw [hSsdOutDw : Cert.SsdOutDw.Facts] : Prop :=
  ∀ (m : (ℓ : Loc Cert.SsdOutDw.nD Cert.SsdOutDw.τ Cert.SsdOutDw.sig) → Buf (Elt Bits) ℓ) (g : Dev Cert.SsdOutDw.nD → PrngReg), Pre_SsdOutDw m →
    θ_run (Cert.SsdOutDw.defs (F := Bits)) (onTc (τ := Cert.SsdOutDw.τ) (Cert.SsdOutDw.main (F := Bits))) ⟨m, fun _ => 0, g⟩ (fun r => (∀ c : Dev Cert.SsdOutDw.nD,
      r.2.mem ((c.tc : Thread Cert.SsdOutDw.nD Cert.SsdOutDw.τ).loc Cert.SsdOutDw.main_arg0) = m ((c.tc : Thread Cert.SsdOutDw.nD Cert.SsdOutDw.τ).loc Cert.SsdOutDw.main_arg0)
      ∧ r.2.mem ((c.tc : Thread Cert.SsdOutDw.nD Cert.SsdOutDw.τ).loc Cert.SsdOutDw.main_arg1) = m ((c.tc : Thread Cert.SsdOutDw.nD Cert.SsdOutDw.τ).loc Cert.SsdOutDw.main_arg1))
      ∧ r.2.sem = fun _ => 0)

def quiescent_SsdOutDwIdeal [hSsdOutDwIdeal : Cert.SsdOutDwIdeal.Facts] : Prop :=
  ∀ (m : (ℓ : Loc Cert.SsdOutDwIdeal.nD Cert.SsdOutDwIdeal.τ Cert.SsdOutDwIdeal.sig) → Buf (Elt Ideal) ℓ) (g : Dev Cert.SsdOutDwIdeal.nD → PrngReg), Pre_SsdOutDwIdeal m →
    θ_run (Cert.SsdOutDwIdeal.defs (F := Ideal)) (onTc (τ := Cert.SsdOutDwIdeal.τ) (Cert.SsdOutDwIdeal.main (F := Ideal))) ⟨m, fun _ => 0, g⟩ (fun r => (∀ c : Dev Cert.SsdOutDwIdeal.nD,
      r.2.mem ((c.tc : Thread Cert.SsdOutDwIdeal.nD Cert.SsdOutDwIdeal.τ).loc Cert.SsdOutDwIdeal.main_arg0) = m ((c.tc : Thread Cert.SsdOutDwIdeal.nD Cert.SsdOutDwIdeal.τ).loc Cert.SsdOutDwIdeal.main_arg0)
      ∧ r.2.mem ((c.tc : Thread Cert.SsdOutDwIdeal.nD Cert.SsdOutDwIdeal.τ).loc Cert.SsdOutDwIdeal.main_arg1) = m ((c.tc : Thread Cert.SsdOutDwIdeal.nD Cert.SsdOutDwIdeal.τ).loc Cert.SsdOutDwIdeal.main_arg1))
      ∧ r.2.sem = fun _ => 0)

def quiescent_SsdOutDwRefIdeal [hSsdOutDwRefIdeal : Cert.SsdOutDwRefIdeal.Facts] : Prop :=
  ∀ (m : (ℓ : Loc Cert.SsdOutDwRefIdeal.nD Cert.SsdOutDwRefIdeal.τ Cert.SsdOutDwRefIdeal.sig) → Buf (Elt Ideal) ℓ) (g : Dev Cert.SsdOutDwRefIdeal.nD → PrngReg), Pre_SsdOutDwRefIdeal m →
    θ_run (Cert.SsdOutDwRefIdeal.defs (F := Ideal)) (onTc (τ := Cert.SsdOutDwRefIdeal.τ) (Cert.SsdOutDwRefIdeal.main (F := Ideal))) ⟨m, fun _ => 0, g⟩ (fun r => (∀ c : Dev Cert.SsdOutDwRefIdeal.nD,
      r.2.mem ((c.tc : Thread Cert.SsdOutDwRefIdeal.nD Cert.SsdOutDwRefIdeal.τ).loc Cert.SsdOutDwRefIdeal.main_arg0) = m ((c.tc : Thread Cert.SsdOutDwRefIdeal.nD Cert.SsdOutDwRefIdeal.τ).loc Cert.SsdOutDwRefIdeal.main_arg0)
      ∧ r.2.mem ((c.tc : Thread Cert.SsdOutDwRefIdeal.nD Cert.SsdOutDwRefIdeal.τ).loc Cert.SsdOutDwRefIdeal.main_arg1) = m ((c.tc : Thread Cert.SsdOutDwRefIdeal.nD Cert.SsdOutDwRefIdeal.τ).loc Cert.SsdOutDwRefIdeal.main_arg1))
      ∧ r.2.sem = fun _ => 0)

def quiescent_SsdInDx [hSsdInDx : Cert.SsdInDx.Facts] : Prop :=
  ∀ (m : (ℓ : Loc Cert.SsdInDx.nD Cert.SsdInDx.τ Cert.SsdInDx.sig) → Buf (Elt Bits) ℓ) (g : Dev Cert.SsdInDx.nD → PrngReg), Pre_SsdInDx m →
    θ_run (Cert.SsdInDx.defs (F := Bits)) (onTc (τ := Cert.SsdInDx.τ) (Cert.SsdInDx.main (F := Bits))) ⟨m, fun _ => 0, g⟩ (fun r => (∀ c : Dev Cert.SsdInDx.nD,
      r.2.mem ((c.tc : Thread Cert.SsdInDx.nD Cert.SsdInDx.τ).loc Cert.SsdInDx.main_arg0) = m ((c.tc : Thread Cert.SsdInDx.nD Cert.SsdInDx.τ).loc Cert.SsdInDx.main_arg0)
      ∧ r.2.mem ((c.tc : Thread Cert.SsdInDx.nD Cert.SsdInDx.τ).loc Cert.SsdInDx.main_arg1) = m ((c.tc : Thread Cert.SsdInDx.nD Cert.SsdInDx.τ).loc Cert.SsdInDx.main_arg1)
      ∧ r.2.mem ((c.tc : Thread Cert.SsdInDx.nD Cert.SsdInDx.τ).loc Cert.SsdInDx.main_arg2) = m ((c.tc : Thread Cert.SsdInDx.nD Cert.SsdInDx.τ).loc Cert.SsdInDx.main_arg2))
      ∧ r.2.sem = fun _ => 0)

def quiescent_SsdInDxIdeal [hSsdInDxIdeal : Cert.SsdInDxIdeal.Facts] : Prop :=
  ∀ (m : (ℓ : Loc Cert.SsdInDxIdeal.nD Cert.SsdInDxIdeal.τ Cert.SsdInDxIdeal.sig) → Buf (Elt Ideal) ℓ) (g : Dev Cert.SsdInDxIdeal.nD → PrngReg), Pre_SsdInDxIdeal m →
    θ_run (Cert.SsdInDxIdeal.defs (F := Ideal)) (onTc (τ := Cert.SsdInDxIdeal.τ) (Cert.SsdInDxIdeal.main (F := Ideal))) ⟨m, fun _ => 0, g⟩ (fun r => (∀ c : Dev Cert.SsdInDxIdeal.nD,
      r.2.mem ((c.tc : Thread Cert.SsdInDxIdeal.nD Cert.SsdInDxIdeal.τ).loc Cert.SsdInDxIdeal.main_arg0) = m ((c.tc : Thread Cert.SsdInDxIdeal.nD Cert.SsdInDxIdeal.τ).loc Cert.SsdInDxIdeal.main_arg0)
      ∧ r.2.mem ((c.tc : Thread Cert.SsdInDxIdeal.nD Cert.SsdInDxIdeal.τ).loc Cert.SsdInDxIdeal.main_arg1) = m ((c.tc : Thread Cert.SsdInDxIdeal.nD Cert.SsdInDxIdeal.τ).loc Cert.SsdInDxIdeal.main_arg1)
      ∧ r.2.mem ((c.tc : Thread Cert.SsdInDxIdeal.nD Cert.SsdInDxIdeal.τ).loc Cert.SsdInDxIdeal.main_arg2) = m ((c.tc : Thread Cert.SsdInDxIdeal.nD Cert.SsdInDxIdeal.τ).loc Cert.SsdInDxIdeal.main_arg2))
      ∧ r.2.sem = fun _ => 0)

def quiescent_SsdInDxRefIdeal [hSsdInDxRefIdeal : Cert.SsdInDxRefIdeal.Facts] : Prop :=
  ∀ (m : (ℓ : Loc Cert.SsdInDxRefIdeal.nD Cert.SsdInDxRefIdeal.τ Cert.SsdInDxRefIdeal.sig) → Buf (Elt Ideal) ℓ) (g : Dev Cert.SsdInDxRefIdeal.nD → PrngReg), Pre_SsdInDxRefIdeal m →
    θ_run (Cert.SsdInDxRefIdeal.defs (F := Ideal)) (onTc (τ := Cert.SsdInDxRefIdeal.τ) (Cert.SsdInDxRefIdeal.main (F := Ideal))) ⟨m, fun _ => 0, g⟩ (fun r => (∀ c : Dev Cert.SsdInDxRefIdeal.nD,
      r.2.mem ((c.tc : Thread Cert.SsdInDxRefIdeal.nD Cert.SsdInDxRefIdeal.τ).loc Cert.SsdInDxRefIdeal.main_arg0) = m ((c.tc : Thread Cert.SsdInDxRefIdeal.nD Cert.SsdInDxRefIdeal.τ).loc Cert.SsdInDxRefIdeal.main_arg0)
      ∧ r.2.mem ((c.tc : Thread Cert.SsdInDxRefIdeal.nD Cert.SsdInDxRefIdeal.τ).loc Cert.SsdInDxRefIdeal.main_arg1) = m ((c.tc : Thread Cert.SsdInDxRefIdeal.nD Cert.SsdInDxRefIdeal.τ).loc Cert.SsdInDxRefIdeal.main_arg1)
      ∧ r.2.mem ((c.tc : Thread Cert.SsdInDxRefIdeal.nD Cert.SsdInDxRefIdeal.τ).loc Cert.SsdInDxRefIdeal.main_arg2) = m ((c.tc : Thread Cert.SsdInDxRefIdeal.nD Cert.SsdInDxRefIdeal.τ).loc Cert.SsdInDxRefIdeal.main_arg2))
      ∧ r.2.sem = fun _ => 0)

def quiescent_SsdInDw [hSsdInDw : Cert.SsdInDw.Facts] : Prop :=
  ∀ (m : (ℓ : Loc Cert.SsdInDw.nD Cert.SsdInDw.τ Cert.SsdInDw.sig) → Buf (Elt Bits) ℓ) (g : Dev Cert.SsdInDw.nD → PrngReg), Pre_SsdInDw m →
    θ_run (Cert.SsdInDw.defs (F := Bits)) (onTc (τ := Cert.SsdInDw.τ) (Cert.SsdInDw.main (F := Bits))) ⟨m, fun _ => 0, g⟩ (fun r => (∀ c : Dev Cert.SsdInDw.nD,
      r.2.mem ((c.tc : Thread Cert.SsdInDw.nD Cert.SsdInDw.τ).loc Cert.SsdInDw.main_arg0) = m ((c.tc : Thread Cert.SsdInDw.nD Cert.SsdInDw.τ).loc Cert.SsdInDw.main_arg0)
      ∧ r.2.mem ((c.tc : Thread Cert.SsdInDw.nD Cert.SsdInDw.τ).loc Cert.SsdInDw.main_arg1) = m ((c.tc : Thread Cert.SsdInDw.nD Cert.SsdInDw.τ).loc Cert.SsdInDw.main_arg1))
      ∧ r.2.sem = fun _ => 0)

def quiescent_SsdInDwIdeal [hSsdInDwIdeal : Cert.SsdInDwIdeal.Facts] : Prop :=
  ∀ (m : (ℓ : Loc Cert.SsdInDwIdeal.nD Cert.SsdInDwIdeal.τ Cert.SsdInDwIdeal.sig) → Buf (Elt Ideal) ℓ) (g : Dev Cert.SsdInDwIdeal.nD → PrngReg), Pre_SsdInDwIdeal m →
    θ_run (Cert.SsdInDwIdeal.defs (F := Ideal)) (onTc (τ := Cert.SsdInDwIdeal.τ) (Cert.SsdInDwIdeal.main (F := Ideal))) ⟨m, fun _ => 0, g⟩ (fun r => (∀ c : Dev Cert.SsdInDwIdeal.nD,
      r.2.mem ((c.tc : Thread Cert.SsdInDwIdeal.nD Cert.SsdInDwIdeal.τ).loc Cert.SsdInDwIdeal.main_arg0) = m ((c.tc : Thread Cert.SsdInDwIdeal.nD Cert.SsdInDwIdeal.τ).loc Cert.SsdInDwIdeal.main_arg0)
      ∧ r.2.mem ((c.tc : Thread Cert.SsdInDwIdeal.nD Cert.SsdInDwIdeal.τ).loc Cert.SsdInDwIdeal.main_arg1) = m ((c.tc : Thread Cert.SsdInDwIdeal.nD Cert.SsdInDwIdeal.τ).loc Cert.SsdInDwIdeal.main_arg1))
      ∧ r.2.sem = fun _ => 0)

def quiescent_SsdInDwRefIdeal [hSsdInDwRefIdeal : Cert.SsdInDwRefIdeal.Facts] : Prop :=
  ∀ (m : (ℓ : Loc Cert.SsdInDwRefIdeal.nD Cert.SsdInDwRefIdeal.τ Cert.SsdInDwRefIdeal.sig) → Buf (Elt Ideal) ℓ) (g : Dev Cert.SsdInDwRefIdeal.nD → PrngReg), Pre_SsdInDwRefIdeal m →
    θ_run (Cert.SsdInDwRefIdeal.defs (F := Ideal)) (onTc (τ := Cert.SsdInDwRefIdeal.τ) (Cert.SsdInDwRefIdeal.main (F := Ideal))) ⟨m, fun _ => 0, g⟩ (fun r => (∀ c : Dev Cert.SsdInDwRefIdeal.nD,
      r.2.mem ((c.tc : Thread Cert.SsdInDwRefIdeal.nD Cert.SsdInDwRefIdeal.τ).loc Cert.SsdInDwRefIdeal.main_arg0) = m ((c.tc : Thread Cert.SsdInDwRefIdeal.nD Cert.SsdInDwRefIdeal.τ).loc Cert.SsdInDwRefIdeal.main_arg0)
      ∧ r.2.mem ((c.tc : Thread Cert.SsdInDwRefIdeal.nD Cert.SsdInDwRefIdeal.τ).loc Cert.SsdInDwRefIdeal.main_arg1) = m ((c.tc : Thread Cert.SsdInDwRefIdeal.nD Cert.SsdInDwRefIdeal.τ).loc Cert.SsdInDwRefIdeal.main_arg1))
      ∧ r.2.sem = fun _ => 0)

def quiescent_AttnOutDx [hAttnOutDx : Cert.AttnOutDx.Facts] : Prop :=
  ∀ (m : (ℓ : Loc Cert.AttnOutDx.nD Cert.AttnOutDx.τ Cert.AttnOutDx.sig) → Buf (Elt Bits) ℓ) (g : Dev Cert.AttnOutDx.nD → PrngReg), Pre_AttnOutDx m →
    θ_run (Cert.AttnOutDx.defs (F := Bits)) (onTc (τ := Cert.AttnOutDx.τ) (Cert.AttnOutDx.main (F := Bits))) ⟨m, fun _ => 0, g⟩ (fun r => (∀ c : Dev Cert.AttnOutDx.nD,
      r.2.mem ((c.tc : Thread Cert.AttnOutDx.nD Cert.AttnOutDx.τ).loc Cert.AttnOutDx.main_arg0) = m ((c.tc : Thread Cert.AttnOutDx.nD Cert.AttnOutDx.τ).loc Cert.AttnOutDx.main_arg0)
      ∧ r.2.mem ((c.tc : Thread Cert.AttnOutDx.nD Cert.AttnOutDx.τ).loc Cert.AttnOutDx.main_arg1) = m ((c.tc : Thread Cert.AttnOutDx.nD Cert.AttnOutDx.τ).loc Cert.AttnOutDx.main_arg1))
      ∧ r.2.sem = fun _ => 0)

def quiescent_AttnOutDxIdeal [hAttnOutDxIdeal : Cert.AttnOutDxIdeal.Facts] : Prop :=
  ∀ (m : (ℓ : Loc Cert.AttnOutDxIdeal.nD Cert.AttnOutDxIdeal.τ Cert.AttnOutDxIdeal.sig) → Buf (Elt Ideal) ℓ) (g : Dev Cert.AttnOutDxIdeal.nD → PrngReg), Pre_AttnOutDxIdeal m →
    θ_run (Cert.AttnOutDxIdeal.defs (F := Ideal)) (onTc (τ := Cert.AttnOutDxIdeal.τ) (Cert.AttnOutDxIdeal.main (F := Ideal))) ⟨m, fun _ => 0, g⟩ (fun r => (∀ c : Dev Cert.AttnOutDxIdeal.nD,
      r.2.mem ((c.tc : Thread Cert.AttnOutDxIdeal.nD Cert.AttnOutDxIdeal.τ).loc Cert.AttnOutDxIdeal.main_arg0) = m ((c.tc : Thread Cert.AttnOutDxIdeal.nD Cert.AttnOutDxIdeal.τ).loc Cert.AttnOutDxIdeal.main_arg0)
      ∧ r.2.mem ((c.tc : Thread Cert.AttnOutDxIdeal.nD Cert.AttnOutDxIdeal.τ).loc Cert.AttnOutDxIdeal.main_arg1) = m ((c.tc : Thread Cert.AttnOutDxIdeal.nD Cert.AttnOutDxIdeal.τ).loc Cert.AttnOutDxIdeal.main_arg1))
      ∧ r.2.sem = fun _ => 0)

def quiescent_AttnOutDxRefIdeal [hAttnOutDxRefIdeal : Cert.AttnOutDxRefIdeal.Facts] : Prop :=
  ∀ (m : (ℓ : Loc Cert.AttnOutDxRefIdeal.nD Cert.AttnOutDxRefIdeal.τ Cert.AttnOutDxRefIdeal.sig) → Buf (Elt Ideal) ℓ) (g : Dev Cert.AttnOutDxRefIdeal.nD → PrngReg), Pre_AttnOutDxRefIdeal m →
    θ_run (Cert.AttnOutDxRefIdeal.defs (F := Ideal)) (onTc (τ := Cert.AttnOutDxRefIdeal.τ) (Cert.AttnOutDxRefIdeal.main (F := Ideal))) ⟨m, fun _ => 0, g⟩ (fun r => (∀ c : Dev Cert.AttnOutDxRefIdeal.nD,
      r.2.mem ((c.tc : Thread Cert.AttnOutDxRefIdeal.nD Cert.AttnOutDxRefIdeal.τ).loc Cert.AttnOutDxRefIdeal.main_arg0) = m ((c.tc : Thread Cert.AttnOutDxRefIdeal.nD Cert.AttnOutDxRefIdeal.τ).loc Cert.AttnOutDxRefIdeal.main_arg0)
      ∧ r.2.mem ((c.tc : Thread Cert.AttnOutDxRefIdeal.nD Cert.AttnOutDxRefIdeal.τ).loc Cert.AttnOutDxRefIdeal.main_arg1) = m ((c.tc : Thread Cert.AttnOutDxRefIdeal.nD Cert.AttnOutDxRefIdeal.τ).loc Cert.AttnOutDxRefIdeal.main_arg1))
      ∧ r.2.sem = fun _ => 0)

def quiescent_AttnOutDw [hAttnOutDw : Cert.AttnOutDw.Facts] : Prop :=
  ∀ (m : (ℓ : Loc Cert.AttnOutDw.nD Cert.AttnOutDw.τ Cert.AttnOutDw.sig) → Buf (Elt Bits) ℓ) (g : Dev Cert.AttnOutDw.nD → PrngReg), Pre_AttnOutDw m →
    θ_run (Cert.AttnOutDw.defs (F := Bits)) (onTc (τ := Cert.AttnOutDw.τ) (Cert.AttnOutDw.main (F := Bits))) ⟨m, fun _ => 0, g⟩ (fun r => (∀ c : Dev Cert.AttnOutDw.nD,
      r.2.mem ((c.tc : Thread Cert.AttnOutDw.nD Cert.AttnOutDw.τ).loc Cert.AttnOutDw.main_arg0) = m ((c.tc : Thread Cert.AttnOutDw.nD Cert.AttnOutDw.τ).loc Cert.AttnOutDw.main_arg0)
      ∧ r.2.mem ((c.tc : Thread Cert.AttnOutDw.nD Cert.AttnOutDw.τ).loc Cert.AttnOutDw.main_arg1) = m ((c.tc : Thread Cert.AttnOutDw.nD Cert.AttnOutDw.τ).loc Cert.AttnOutDw.main_arg1))
      ∧ r.2.sem = fun _ => 0)

def quiescent_AttnOutDwIdeal [hAttnOutDwIdeal : Cert.AttnOutDwIdeal.Facts] : Prop :=
  ∀ (m : (ℓ : Loc Cert.AttnOutDwIdeal.nD Cert.AttnOutDwIdeal.τ Cert.AttnOutDwIdeal.sig) → Buf (Elt Ideal) ℓ) (g : Dev Cert.AttnOutDwIdeal.nD → PrngReg), Pre_AttnOutDwIdeal m →
    θ_run (Cert.AttnOutDwIdeal.defs (F := Ideal)) (onTc (τ := Cert.AttnOutDwIdeal.τ) (Cert.AttnOutDwIdeal.main (F := Ideal))) ⟨m, fun _ => 0, g⟩ (fun r => (∀ c : Dev Cert.AttnOutDwIdeal.nD,
      r.2.mem ((c.tc : Thread Cert.AttnOutDwIdeal.nD Cert.AttnOutDwIdeal.τ).loc Cert.AttnOutDwIdeal.main_arg0) = m ((c.tc : Thread Cert.AttnOutDwIdeal.nD Cert.AttnOutDwIdeal.τ).loc Cert.AttnOutDwIdeal.main_arg0)
      ∧ r.2.mem ((c.tc : Thread Cert.AttnOutDwIdeal.nD Cert.AttnOutDwIdeal.τ).loc Cert.AttnOutDwIdeal.main_arg1) = m ((c.tc : Thread Cert.AttnOutDwIdeal.nD Cert.AttnOutDwIdeal.τ).loc Cert.AttnOutDwIdeal.main_arg1))
      ∧ r.2.sem = fun _ => 0)

def quiescent_AttnOutDwRefIdeal [hAttnOutDwRefIdeal : Cert.AttnOutDwRefIdeal.Facts] : Prop :=
  ∀ (m : (ℓ : Loc Cert.AttnOutDwRefIdeal.nD Cert.AttnOutDwRefIdeal.τ Cert.AttnOutDwRefIdeal.sig) → Buf (Elt Ideal) ℓ) (g : Dev Cert.AttnOutDwRefIdeal.nD → PrngReg), Pre_AttnOutDwRefIdeal m →
    θ_run (Cert.AttnOutDwRefIdeal.defs (F := Ideal)) (onTc (τ := Cert.AttnOutDwRefIdeal.τ) (Cert.AttnOutDwRefIdeal.main (F := Ideal))) ⟨m, fun _ => 0, g⟩ (fun r => (∀ c : Dev Cert.AttnOutDwRefIdeal.nD,
      r.2.mem ((c.tc : Thread Cert.AttnOutDwRefIdeal.nD Cert.AttnOutDwRefIdeal.τ).loc Cert.AttnOutDwRefIdeal.main_arg0) = m ((c.tc : Thread Cert.AttnOutDwRefIdeal.nD Cert.AttnOutDwRefIdeal.τ).loc Cert.AttnOutDwRefIdeal.main_arg0)
      ∧ r.2.mem ((c.tc : Thread Cert.AttnOutDwRefIdeal.nD Cert.AttnOutDwRefIdeal.τ).loc Cert.AttnOutDwRefIdeal.main_arg1) = m ((c.tc : Thread Cert.AttnOutDwRefIdeal.nD Cert.AttnOutDwRefIdeal.τ).loc Cert.AttnOutDwRefIdeal.main_arg1))
      ∧ r.2.sem = fun _ => 0)

def quiescent_QkvDx [hQkvDx : Cert.QkvDx.Facts] : Prop :=
  ∀ (m : (ℓ : Loc Cert.QkvDx.nD Cert.QkvDx.τ Cert.QkvDx.sig) → Buf (Elt Bits) ℓ) (g : Dev Cert.QkvDx.nD → PrngReg), Pre_QkvDx m →
    θ_run (Cert.QkvDx.defs (F := Bits)) (onTc (τ := Cert.QkvDx.τ) (Cert.QkvDx.main (F := Bits))) ⟨m, fun _ => 0, g⟩ (fun r => (∀ c : Dev Cert.QkvDx.nD,
      r.2.mem ((c.tc : Thread Cert.QkvDx.nD Cert.QkvDx.τ).loc Cert.QkvDx.main_arg0) = m ((c.tc : Thread Cert.QkvDx.nD Cert.QkvDx.τ).loc Cert.QkvDx.main_arg0)
      ∧ r.2.mem ((c.tc : Thread Cert.QkvDx.nD Cert.QkvDx.τ).loc Cert.QkvDx.main_arg1) = m ((c.tc : Thread Cert.QkvDx.nD Cert.QkvDx.τ).loc Cert.QkvDx.main_arg1)
      ∧ r.2.mem ((c.tc : Thread Cert.QkvDx.nD Cert.QkvDx.τ).loc Cert.QkvDx.main_arg2) = m ((c.tc : Thread Cert.QkvDx.nD Cert.QkvDx.τ).loc Cert.QkvDx.main_arg2))
      ∧ r.2.sem = fun _ => 0)

def quiescent_QkvDxIdeal [hQkvDxIdeal : Cert.QkvDxIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg), Pre_QkvDxIdeal m →
    θ_run (Cert.QkvDxIdeal.defs (F := Ideal)) (onTc (τ := Cert.QkvDxIdeal.τ) (Cert.QkvDxIdeal.main (F := Ideal))) ⟨m, fun _ => 0, g⟩ (fun r => (∀ c : Dev Cert.QkvDxIdeal.nD,
      r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
      ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1)
      ∧ r.2.mem ((c.tc : Thread Cert.QkvDxIdeal.nD Cert.QkvDxIdeal.τ).loc Cert.QkvDxIdeal.main_arg2) = m ((c.tc : Thread Cert.QkvDxIdeal.nD Cert.QkvDxIdeal.τ).loc Cert.QkvDxIdeal.main_arg2))
      ∧ r.2.sem = fun _ => 0)

def quiescent_QkvDxRefIdeal [hQkvDxRefIdeal : Cert.QkvDxRefIdeal.Facts] : Prop :=
  ∀ (m : (ℓ : Loc Cert.QkvDxRefIdeal.nD Cert.QkvDxRefIdeal.τ Cert.QkvDxRefIdeal.sig) → Buf (Elt Ideal) ℓ) (g : Dev Cert.QkvDxRefIdeal.nD → PrngReg), Pre_QkvDxRefIdeal m →
    θ_run (Cert.QkvDxRefIdeal.defs (F := Ideal)) (onTc (τ := Cert.QkvDxRefIdeal.τ) (Cert.QkvDxRefIdeal.main (F := Ideal))) ⟨m, fun _ => 0, g⟩ (fun r => (∀ c : Dev Cert.QkvDxRefIdeal.nD,
      r.2.mem ((c.tc : Thread Cert.QkvDxRefIdeal.nD Cert.QkvDxRefIdeal.τ).loc Cert.QkvDxRefIdeal.main_arg0) = m ((c.tc : Thread Cert.QkvDxRefIdeal.nD Cert.QkvDxRefIdeal.τ).loc Cert.QkvDxRefIdeal.main_arg0)
      ∧ r.2.mem ((c.tc : Thread Cert.QkvDxRefIdeal.nD Cert.QkvDxRefIdeal.τ).loc Cert.QkvDxRefIdeal.main_arg1) = m ((c.tc : Thread Cert.QkvDxRefIdeal.nD Cert.QkvDxRefIdeal.τ).loc Cert.QkvDxRefIdeal.main_arg1)
      ∧ r.2.mem ((c.tc : Thread Cert.QkvDxRefIdeal.nD Cert.QkvDxRefIdeal.τ).loc Cert.QkvDxRefIdeal.main_arg2) = m ((c.tc : Thread Cert.QkvDxRefIdeal.nD Cert.QkvDxRefIdeal.τ).loc Cert.QkvDxRefIdeal.main_arg2))
      ∧ r.2.sem = fun _ => 0)

def quiescent_QkvDw [hQkvDw : Cert.QkvDw.Facts] : Prop :=
  ∀ (m : (ℓ : Loc Cert.QkvDw.nD Cert.QkvDw.τ Cert.QkvDw.sig) → Buf (Elt Bits) ℓ) (g : Dev Cert.QkvDw.nD → PrngReg), Pre_QkvDw m →
    θ_run (Cert.QkvDw.defs (F := Bits)) (onTc (τ := Cert.QkvDw.τ) (Cert.QkvDw.main (F := Bits))) ⟨m, fun _ => 0, g⟩ (fun r => (∀ c : Dev Cert.QkvDw.nD,
      r.2.mem ((c.tc : Thread Cert.QkvDw.nD Cert.QkvDw.τ).loc Cert.QkvDw.main_arg0) = m ((c.tc : Thread Cert.QkvDw.nD Cert.QkvDw.τ).loc Cert.QkvDw.main_arg0)
      ∧ r.2.mem ((c.tc : Thread Cert.QkvDw.nD Cert.QkvDw.τ).loc Cert.QkvDw.main_arg1) = m ((c.tc : Thread Cert.QkvDw.nD Cert.QkvDw.τ).loc Cert.QkvDw.main_arg1))
      ∧ r.2.sem = fun _ => 0)

def quiescent_QkvDwIdeal [hQkvDwIdeal : Cert.QkvDwIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg), Pre_QkvDwIdeal m →
    θ_run (Cert.QkvDwIdeal.defs (F := Ideal)) (onTc (τ := Cert.QkvDwIdeal.τ) (Cert.QkvDwIdeal.main (F := Ideal))) ⟨m, fun _ => 0, g⟩ (fun r => (∀ c : Dev Cert.QkvDwIdeal.nD,
      r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
      ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ r.2.sem = fun _ => 0)

def quiescent_QkvDwRefIdeal [hQkvDwRefIdeal : Cert.QkvDwRefIdeal.Facts] : Prop :=
  ∀ (m : (ℓ : Loc Cert.QkvDwRefIdeal.nD Cert.QkvDwRefIdeal.τ Cert.QkvDwRefIdeal.sig) → Buf (Elt Ideal) ℓ) (g : Dev Cert.QkvDwRefIdeal.nD → PrngReg), Pre_QkvDwRefIdeal m →
    θ_run (Cert.QkvDwRefIdeal.defs (F := Ideal)) (onTc (τ := Cert.QkvDwRefIdeal.τ) (Cert.QkvDwRefIdeal.main (F := Ideal))) ⟨m, fun _ => 0, g⟩ (fun r => (∀ c : Dev Cert.QkvDwRefIdeal.nD,
      r.2.mem ((c.tc : Thread Cert.QkvDwRefIdeal.nD Cert.QkvDwRefIdeal.τ).loc Cert.QkvDwRefIdeal.main_arg0) = m ((c.tc : Thread Cert.QkvDwRefIdeal.nD Cert.QkvDwRefIdeal.τ).loc Cert.QkvDwRefIdeal.main_arg0)
      ∧ r.2.mem ((c.tc : Thread Cert.QkvDwRefIdeal.nD Cert.QkvDwRefIdeal.τ).loc Cert.QkvDwRefIdeal.main_arg1) = m ((c.tc : Thread Cert.QkvDwRefIdeal.nD Cert.QkvDwRefIdeal.τ).loc Cert.QkvDwRefIdeal.main_arg1))
      ∧ r.2.sem = fun _ => 0)

def quiescent_SsdIn [hSsdIn : Cert.SsdIn.Facts] : Prop :=
  ∀ (m : (ℓ : Loc Cert.SsdIn.nD Cert.SsdIn.τ Cert.SsdIn.sig) → Buf (Elt Bits) ℓ) (g : Dev Cert.SsdIn.nD → PrngReg), Pre_SsdIn m →
    θ_run (Cert.SsdIn.defs (F := Bits)) (onTc (τ := Cert.SsdIn.τ) (Cert.SsdIn.main (F := Bits))) ⟨m, fun _ => 0, g⟩ (fun r => (∀ c : Dev Cert.SsdIn.nD,
      r.2.mem ((c.tc : Thread Cert.SsdIn.nD Cert.SsdIn.τ).loc Cert.SsdIn.main_arg0) = m ((c.tc : Thread Cert.SsdIn.nD Cert.SsdIn.τ).loc Cert.SsdIn.main_arg0)
      ∧ r.2.mem ((c.tc : Thread Cert.SsdIn.nD Cert.SsdIn.τ).loc Cert.SsdIn.main_arg1) = m ((c.tc : Thread Cert.SsdIn.nD Cert.SsdIn.τ).loc Cert.SsdIn.main_arg1))
      ∧ r.2.sem = fun _ => 0)

def quiescent_SsdInIdeal [hSsdInIdeal : Cert.SsdInIdeal.Facts] : Prop :=
  ∀ (m : (ℓ : Loc Cert.SsdInIdeal.nD Cert.SsdInIdeal.τ Cert.SsdInIdeal.sig) → Buf (Elt Ideal) ℓ) (g : Dev Cert.SsdInIdeal.nD → PrngReg), Pre_SsdInIdeal m →
    θ_run (Cert.SsdInIdeal.defs (F := Ideal)) (onTc (τ := Cert.SsdInIdeal.τ) (Cert.SsdInIdeal.main (F := Ideal))) ⟨m, fun _ => 0, g⟩ (fun r => (∀ c : Dev Cert.SsdInIdeal.nD,
      r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
      ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1))
      ∧ r.2.sem = fun _ => 0)

def quiescent_SsdInRefIdeal [hSsdInRefIdeal : Cert.SsdInRefIdeal.Facts] : Prop :=
  ∀ (m : (ℓ : Loc Cert.SsdInRefIdeal.nD Cert.SsdInRefIdeal.τ Cert.SsdInRefIdeal.sig) → Buf (Elt Ideal) ℓ) (g : Dev Cert.SsdInRefIdeal.nD → PrngReg), Pre_SsdInRefIdeal m →
    θ_run (Cert.SsdInRefIdeal.defs (F := Ideal)) (onTc (τ := Cert.SsdInRefIdeal.τ) (Cert.SsdInRefIdeal.main (F := Ideal))) ⟨m, fun _ => 0, g⟩ (fun r => (∀ c : Dev Cert.SsdInRefIdeal.nD,
      r.2.mem ((c.tc : Thread Cert.SsdInRefIdeal.nD Cert.SsdInRefIdeal.τ).loc Cert.SsdInRefIdeal.main_arg0) = m ((c.tc : Thread Cert.SsdInRefIdeal.nD Cert.SsdInRefIdeal.τ).loc Cert.SsdInRefIdeal.main_arg0)
      ∧ r.2.mem ((c.tc : Thread Cert.SsdInRefIdeal.nD Cert.SsdInRefIdeal.τ).loc Cert.SsdInRefIdeal.main_arg1) = m ((c.tc : Thread Cert.SsdInRefIdeal.nD Cert.SsdInRefIdeal.τ).loc Cert.SsdInRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1)
      ∧ r.2.mem ((c.tc : Thread Cert.SsdOut.nD Cert.SsdOut.τ).loc Cert.SsdOut.main_arg2) = m ((c.tc : Thread Cert.SsdOut.nD Cert.SsdOut.τ).loc Cert.SsdOut.main_arg2)
      ∧ r.2.mem ((c.tc : Thread Cert.SsdOut.nD Cert.SsdOut.τ).loc Cert.SsdOut.main_arg3) = m ((c.tc : Thread Cert.SsdOut.nD Cert.SsdOut.τ).loc Cert.SsdOut.main_arg3))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
      ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
      ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3))
      ∧ r.2.sem = fun _ => 0)

def quiescent_SsdOutRefIdeal [hSsdOutRefIdeal : Cert.SsdOutRefIdeal.Facts] : Prop :=
  ∀ (m : (ℓ : Loc Cert.SsdOutRefIdeal.nD Cert.SsdOutRefIdeal.τ Cert.SsdOutRefIdeal.sig) → Buf (Elt Ideal) ℓ) (g : Dev Cert.SsdOutRefIdeal.nD → PrngReg), Pre_SsdOutRefIdeal m →
    θ_run (Cert.SsdOutRefIdeal.defs (F := Ideal)) (onTc (τ := Cert.SsdOutRefIdeal.τ) (Cert.SsdOutRefIdeal.main (F := Ideal))) ⟨m, fun _ => 0, g⟩ (fun r => (∀ c : Dev Cert.SsdOutRefIdeal.nD,
      r.2.mem ((c.tc : Thread Cert.SsdOutRefIdeal.nD Cert.SsdOutRefIdeal.τ).loc Cert.SsdOutRefIdeal.main_arg0) = m ((c.tc : Thread Cert.SsdOutRefIdeal.nD Cert.SsdOutRefIdeal.τ).loc Cert.SsdOutRefIdeal.main_arg0)
      ∧ r.2.mem ((c.tc : Thread Cert.SsdOutRefIdeal.nD Cert.SsdOutRefIdeal.τ).loc Cert.SsdOutRefIdeal.main_arg1) = m ((c.tc : Thread Cert.SsdOutRefIdeal.nD Cert.SsdOutRefIdeal.τ).loc Cert.SsdOutRefIdeal.main_arg1)
      ∧ r.2.mem ((c.tc : Thread Cert.SsdOutRefIdeal.nD Cert.SsdOutRefIdeal.τ).loc Cert.SsdOutRefIdeal.main_arg2) = m ((c.tc : Thread Cert.SsdOutRefIdeal.nD Cert.SsdOutRefIdeal.τ).loc Cert.SsdOutRefIdeal.main_arg2)
      ∧ r.2.mem ((c.tc : Thread Cert.SsdOutRefIdeal.nD Cert.SsdOutRefIdeal.τ).loc Cert.SsdOutRefIdeal.main_arg3) = m ((c.tc : Thread Cert.SsdOutRefIdeal.nD Cert.SsdOutRefIdeal.τ).loc Cert.SsdOutRefIdeal.main_arg3))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_GateFfn [hGateFfn : Cert.GateFfn.Facts] : Prop :=
  ∀ (m : (ℓ : Loc Cert.GateFfn.nD Cert.GateFfn.τ Cert.GateFfn.sig) → Buf (Elt Bits) ℓ) (g : Dev Cert.GateFfn.nD → PrngReg), Pre_GateFfn m →
    θ_run (Cert.GateFfn.defs (F := Bits)) (onTc (τ := Cert.GateFfn.τ) (Cert.GateFfn.main (F := Bits))) ⟨m, fun _ => 0, g⟩ (fun r => (∀ c : Dev Cert.GateFfn.nD,
      r.2.mem ((c.tc : Thread Cert.GateFfn.nD Cert.GateFfn.τ).loc Cert.GateFfn.main_arg0) = m ((c.tc : Thread Cert.GateFfn.nD Cert.GateFfn.τ).loc Cert.GateFfn.main_arg0)
      ∧ r.2.mem ((c.tc : Thread Cert.GateFfn.nD Cert.GateFfn.τ).loc Cert.GateFfn.main_arg1) = m ((c.tc : Thread Cert.GateFfn.nD Cert.GateFfn.τ).loc Cert.GateFfn.main_arg1)
      ∧ r.2.mem ((c.tc : Thread Cert.GateFfn.nD Cert.GateFfn.τ).loc Cert.GateFfn.main_arg2) = m ((c.tc : Thread Cert.GateFfn.nD Cert.GateFfn.τ).loc Cert.GateFfn.main_arg2))
      ∧ r.2.sem = fun _ => 0)

def quiescent_GateFfnIdeal [hGateFfnIdeal : Cert.GateFfnIdeal.Facts] : Prop :=
  ∀ (m : (ℓ : Loc Cert.GateFfnIdeal.nD Cert.GateFfnIdeal.τ Cert.GateFfnIdeal.sig) → Buf (Elt Ideal) ℓ) (g : Dev Cert.GateFfnIdeal.nD → PrngReg), Pre_GateFfnIdeal m →
    θ_run (Cert.GateFfnIdeal.defs (F := Ideal)) (onTc (τ := Cert.GateFfnIdeal.τ) (Cert.GateFfnIdeal.main (F := Ideal))) ⟨m, fun _ => 0, g⟩ (fun r => (∀ c : Dev Cert.GateFfnIdeal.nD,
      r.2.mem ((c.tc : Thread Cert.GateFfnIdeal.nD Cert.GateFfnIdeal.τ).loc Cert.GateFfnIdeal.main_arg0) = m ((c.tc : Thread Cert.GateFfnIdeal.nD Cert.GateFfnIdeal.τ).loc Cert.GateFfnIdeal.main_arg0)
      ∧ r.2.mem ((c.tc : Thread Cert.GateFfnIdeal.nD Cert.GateFfnIdeal.τ).loc Cert.GateFfnIdeal.main_arg1) = m ((c.tc : Thread Cert.GateFfnIdeal.nD Cert.GateFfnIdeal.τ).loc Cert.GateFfnIdeal.main_arg1)
      ∧ r.2.mem ((c.tc : Thread Cert.GateFfnIdeal.nD Cert.GateFfnIdeal.τ).loc Cert.GateFfnIdeal.main_arg2) = m ((c.tc : Thread Cert.GateFfnIdeal.nD Cert.GateFfnIdeal.τ).loc Cert.GateFfnIdeal.main_arg2))
      ∧ r.2.sem = fun _ => 0)

def quiescent_GateFfnRefIdeal [hGateFfnRefIdeal : Cert.GateFfnRefIdeal.Facts] : Prop :=
  ∀ (m : (ℓ : Loc Cert.GateFfnRefIdeal.nD Cert.GateFfnRefIdeal.τ Cert.GateFfnRefIdeal.sig) → Buf (Elt Ideal) ℓ) (g : Dev Cert.GateFfnRefIdeal.nD → PrngReg), Pre_GateFfnRefIdeal m →
    θ_run (Cert.GateFfnRefIdeal.defs (F := Ideal)) (onTc (τ := Cert.GateFfnRefIdeal.τ) (Cert.GateFfnRefIdeal.main (F := Ideal))) ⟨m, fun _ => 0, g⟩ (fun r => (∀ c : Dev Cert.GateFfnRefIdeal.nD,
      r.2.mem ((c.tc : Thread Cert.GateFfnRefIdeal.nD Cert.GateFfnRefIdeal.τ).loc Cert.GateFfnRefIdeal.main_arg0) = m ((c.tc : Thread Cert.GateFfnRefIdeal.nD Cert.GateFfnRefIdeal.τ).loc Cert.GateFfnRefIdeal.main_arg0)
      ∧ r.2.mem ((c.tc : Thread Cert.GateFfnRefIdeal.nD Cert.GateFfnRefIdeal.τ).loc Cert.GateFfnRefIdeal.main_arg1) = m ((c.tc : Thread Cert.GateFfnRefIdeal.nD Cert.GateFfnRefIdeal.τ).loc Cert.GateFfnRefIdeal.main_arg1)
      ∧ r.2.mem ((c.tc : Thread Cert.GateFfnRefIdeal.nD Cert.GateFfnRefIdeal.τ).loc Cert.GateFfnRefIdeal.main_arg2) = m ((c.tc : Thread Cert.GateFfnRefIdeal.nD Cert.GateFfnRefIdeal.τ).loc Cert.GateFfnRefIdeal.main_arg2))
      ∧ r.2.sem = fun _ => 0)

def quiescent_GateMix [hGateMix : Cert.GateMix.Facts] : Prop :=
  ∀ (m : (ℓ : Loc Cert.GateMix.nD Cert.GateMix.τ Cert.GateMix.sig) → Buf (Elt Bits) ℓ) (g : Dev Cert.GateMix.nD → PrngReg), Pre_GateMix m →
    θ_run (Cert.GateMix.defs (F := Bits)) (onTc (τ := Cert.GateMix.τ) (Cert.GateMix.main (F := Bits))) ⟨m, fun _ => 0, g⟩ (fun r => (∀ c : Dev Cert.GateMix.nD,
      r.2.mem ((c.tc : Thread Cert.GateMix.nD Cert.GateMix.τ).loc Cert.GateMix.main_arg0) = m ((c.tc : Thread Cert.GateMix.nD Cert.GateMix.τ).loc Cert.GateMix.main_arg0)
      ∧ r.2.mem ((c.tc : Thread Cert.GateMix.nD Cert.GateMix.τ).loc Cert.GateMix.main_arg1) = m ((c.tc : Thread Cert.GateMix.nD Cert.GateMix.τ).loc Cert.GateMix.main_arg1)
      ∧ r.2.mem ((c.tc : Thread Cert.GateMix.nD Cert.GateMix.τ).loc Cert.GateMix.main_arg2) = m ((c.tc : Thread Cert.GateMix.nD Cert.GateMix.τ).loc Cert.GateMix.main_arg2))
      ∧ r.2.sem = fun _ => 0)

def quiescent_GateMixIdeal [hGateMixIdeal : Cert.GateMixIdeal.Facts] : Prop :=
  ∀ (m : (ℓ : Loc Cert.GateMixIdeal.nD Cert.GateMixIdeal.τ Cert.GateMixIdeal.sig) → Buf (Elt Ideal) ℓ) (g : Dev Cert.GateMixIdeal.nD → PrngReg), Pre_GateMixIdeal m →
    θ_run (Cert.GateMixIdeal.defs (F := Ideal)) (onTc (τ := Cert.GateMixIdeal.τ) (Cert.GateMixIdeal.main (F := Ideal))) ⟨m, fun _ => 0, g⟩ (fun r => (∀ c : Dev Cert.GateMixIdeal.nD,
      r.2.mem ((c.tc : Thread Cert.GateMixIdeal.nD Cert.GateMixIdeal.τ).loc Cert.GateMixIdeal.main_arg0) = m ((c.tc : Thread Cert.GateMixIdeal.nD Cert.GateMixIdeal.τ).loc Cert.GateMixIdeal.main_arg0)
      ∧ r.2.mem ((c.tc : Thread Cert.GateMixIdeal.nD Cert.GateMixIdeal.τ).loc Cert.GateMixIdeal.main_arg1) = m ((c.tc : Thread Cert.GateMixIdeal.nD Cert.GateMixIdeal.τ).loc Cert.GateMixIdeal.main_arg1)
      ∧ r.2.mem ((c.tc : Thread Cert.GateMixIdeal.nD Cert.GateMixIdeal.τ).loc Cert.GateMixIdeal.main_arg2) = m ((c.tc : Thread Cert.GateMixIdeal.nD Cert.GateMixIdeal.τ).loc Cert.GateMixIdeal.main_arg2))
      ∧ r.2.sem = fun _ => 0)

def quiescent_GateMixRefIdeal [hGateMixRefIdeal : Cert.GateMixRefIdeal.Facts] : Prop :=
  ∀ (m : (ℓ : Loc Cert.GateMixRefIdeal.nD Cert.GateMixRefIdeal.τ Cert.GateMixRefIdeal.sig) → Buf (Elt Ideal) ℓ) (g : Dev Cert.GateMixRefIdeal.nD → PrngReg), Pre_GateMixRefIdeal m →
    θ_run (Cert.GateMixRefIdeal.defs (F := Ideal)) (onTc (τ := Cert.GateMixRefIdeal.τ) (Cert.GateMixRefIdeal.main (F := Ideal))) ⟨m, fun _ => 0, g⟩ (fun r => (∀ c : Dev Cert.GateMixRefIdeal.nD,
      r.2.mem ((c.tc : Thread Cert.GateMixRefIdeal.nD Cert.GateMixRefIdeal.τ).loc Cert.GateMixRefIdeal.main_arg0) = m ((c.tc : Thread Cert.GateMixRefIdeal.nD Cert.GateMixRefIdeal.τ).loc Cert.GateMixRefIdeal.main_arg0)
      ∧ r.2.mem ((c.tc : Thread Cert.GateMixRefIdeal.nD Cert.GateMixRefIdeal.τ).loc Cert.GateMixRefIdeal.main_arg1) = m ((c.tc : Thread Cert.GateMixRefIdeal.nD Cert.GateMixRefIdeal.τ).loc Cert.GateMixRefIdeal.main_arg1)
      ∧ r.2.mem ((c.tc : Thread Cert.GateMixRefIdeal.nD Cert.GateMixRefIdeal.τ).loc Cert.GateMixRefIdeal.main_arg2) = m ((c.tc : Thread Cert.GateMixRefIdeal.nD Cert.GateMixRefIdeal.τ).loc Cert.GateMixRefIdeal.main_arg2))
      ∧ r.2.sem = fun _ => 0)

def quiescent_NormFfn [hNormFfn : Cert.NormFfn.Facts] : Prop :=
  ∀ (m : (ℓ : Loc Cert.NormFfn.nD Cert.NormFfn.τ Cert.NormFfn.sig) → Buf (Elt Bits) ℓ) (g : Dev Cert.NormFfn.nD → PrngReg), Pre_NormFfn m →
    θ_run (Cert.NormFfn.defs (F := Bits)) (onTc (τ := Cert.NormFfn.τ) (Cert.NormFfn.main (F := Bits))) ⟨m, fun _ => 0, g⟩ (fun r => (∀ c : Dev Cert.NormFfn.nD,
      r.2.mem ((c.tc : Thread Cert.NormFfn.nD Cert.NormFfn.τ).loc Cert.NormFfn.main_arg0) = m ((c.tc : Thread Cert.NormFfn.nD Cert.NormFfn.τ).loc Cert.NormFfn.main_arg0)
      ∧ r.2.mem ((c.tc : Thread Cert.NormFfn.nD Cert.NormFfn.τ).loc Cert.NormFfn.main_arg1) = m ((c.tc : Thread Cert.NormFfn.nD Cert.NormFfn.τ).loc Cert.NormFfn.main_arg1)
      ∧ r.2.mem ((c.tc : Thread Cert.NormFfn.nD Cert.NormFfn.τ).loc Cert.NormFfn.main_arg2) = m ((c.tc : Thread Cert.NormFfn.nD Cert.NormFfn.τ).loc Cert.NormFfn.main_arg2)
      ∧ r.2.mem ((c.tc : Thread Cert.NormFfn.nD Cert.NormFfn.τ).loc Cert.NormFfn.main_arg3) = m ((c.tc : Thread Cert.NormFfn.nD Cert.NormFfn.τ).loc Cert.NormFfn.main_arg3)
      ∧ r.2.mem ((c.tc : Thread Cert.NormFfn.nD Cert.NormFfn.τ).loc Cert.NormFfn.main_arg4) = m ((c.tc : Thread Cert.NormFfn.nD Cert.NormFfn.τ).loc Cert.NormFfn.main_arg4))
      ∧ r.2.sem = fun _ => 0)

def quiescent_NormFfnIdeal [hNormFfnIdeal : Cert.NormFfnIdeal.Facts] : Prop :=
  ∀ (m : (ℓ : Loc Cert.NormFfnIdeal.nD Cert.NormFfnIdeal.τ Cert.NormFfnIdeal.sig) → Buf (Elt Ideal) ℓ) (g : Dev Cert.NormFfnIdeal.nD → PrngReg), Pre_NormFfnIdeal m →
    θ_run (Cert.NormFfnIdeal.defs (F := Ideal)) (onTc (τ := Cert.NormFfnIdeal.τ) (Cert.NormFfnIdeal.main (F := Ideal))) ⟨m, fun _ => 0, g⟩ (fun r => (∀ c : Dev Cert.NormFfnIdeal.nD,
      r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
      ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1)
      ∧ r.2.mem ((c.tc : Thread Cert.NormFfnIdeal.nD Cert.NormFfnIdeal.τ).loc Cert.NormFfnIdeal.main_arg2) = m ((c.tc : Thread Cert.NormFfnIdeal.nD Cert.NormFfnIdeal.τ).loc Cert.NormFfnIdeal.main_arg2)
      ∧ r.2.mem ((c.tc : Thread Cert.NormFfnIdeal.nD Cert.NormFfnIdeal.τ).loc Cert.NormFfnIdeal.main_arg3) = m ((c.tc : Thread Cert.NormFfnIdeal.nD Cert.NormFfnIdeal.τ).loc Cert.NormFfnIdeal.main_arg3)
      ∧ r.2.mem ((c.tc : Thread Cert.NormFfnIdeal.nD Cert.NormFfnIdeal.τ).loc Cert.NormFfnIdeal.main_arg4) = m ((c.tc : Thread Cert.NormFfnIdeal.nD Cert.NormFfnIdeal.τ).loc Cert.NormFfnIdeal.main_arg4))
      ∧ r.2.sem = fun _ => 0)

def quiescent_NormFfnRefIdeal [hNormFfnRefIdeal : Cert.NormFfnRefIdeal.Facts] : Prop :=
  ∀ (m : (ℓ : Loc Cert.NormFfnRefIdeal.nD Cert.NormFfnRefIdeal.τ Cert.NormFfnRefIdeal.sig) → Buf (Elt Ideal) ℓ) (g : Dev Cert.NormFfnRefIdeal.nD → PrngReg), Pre_NormFfnRefIdeal m →
    θ_run (Cert.NormFfnRefIdeal.defs (F := Ideal)) (onTc (τ := Cert.NormFfnRefIdeal.τ) (Cert.NormFfnRefIdeal.main (F := Ideal))) ⟨m, fun _ => 0, g⟩ (fun r => (∀ c : Dev Cert.NormFfnRefIdeal.nD,
      r.2.mem ((c.tc : Thread Cert.NormFfnRefIdeal.nD Cert.NormFfnRefIdeal.τ).loc Cert.NormFfnRefIdeal.main_arg0) = m ((c.tc : Thread Cert.NormFfnRefIdeal.nD Cert.NormFfnRefIdeal.τ).loc Cert.NormFfnRefIdeal.main_arg0)
      ∧ r.2.mem ((c.tc : Thread Cert.NormFfnRefIdeal.nD Cert.NormFfnRefIdeal.τ).loc Cert.NormFfnRefIdeal.main_arg1) = m ((c.tc : Thread Cert.NormFfnRefIdeal.nD Cert.NormFfnRefIdeal.τ).loc Cert.NormFfnRefIdeal.main_arg1)
      ∧ r.2.mem ((c.tc : Thread Cert.NormFfnRefIdeal.nD Cert.NormFfnRefIdeal.τ).loc Cert.NormFfnRefIdeal.main_arg2) = m ((c.tc : Thread Cert.NormFfnRefIdeal.nD Cert.NormFfnRefIdeal.τ).loc Cert.NormFfnRefIdeal.main_arg2)
      ∧ r.2.mem ((c.tc : Thread Cert.NormFfnRefIdeal.nD Cert.NormFfnRefIdeal.τ).loc Cert.NormFfnRefIdeal.main_arg3) = m ((c.tc : Thread Cert.NormFfnRefIdeal.nD Cert.NormFfnRefIdeal.τ).loc Cert.NormFfnRefIdeal.main_arg3)
      ∧ r.2.mem ((c.tc : Thread Cert.NormFfnRefIdeal.nD Cert.NormFfnRefIdeal.τ).loc Cert.NormFfnRefIdeal.main_arg4) = m ((c.tc : Thread Cert.NormFfnRefIdeal.nD Cert.NormFfnRefIdeal.τ).loc Cert.NormFfnRefIdeal.main_arg4))
      ∧ r.2.sem = fun _ => 0)

def quiescent_NormMix [hNormMix : Cert.NormMix.Facts] : Prop :=
  ∀ (m : (ℓ : Loc Cert.NormMix.nD Cert.NormMix.τ Cert.NormMix.sig) → Buf (Elt Bits) ℓ) (g : Dev Cert.NormMix.nD → PrngReg), Pre_NormMix m →
    θ_run (Cert.NormMix.defs (F := Bits)) (onTc (τ := Cert.NormMix.τ) (Cert.NormMix.main (F := Bits))) ⟨m, fun _ => 0, g⟩ (fun r => (∀ c : Dev Cert.NormMix.nD,
      r.2.mem ((c.tc : Thread Cert.NormMix.nD Cert.NormMix.τ).loc Cert.NormMix.main_arg0) = m ((c.tc : Thread Cert.NormMix.nD Cert.NormMix.τ).loc Cert.NormMix.main_arg0)
      ∧ r.2.mem ((c.tc : Thread Cert.NormMix.nD Cert.NormMix.τ).loc Cert.NormMix.main_arg1) = m ((c.tc : Thread Cert.NormMix.nD Cert.NormMix.τ).loc Cert.NormMix.main_arg1)
      ∧ r.2.mem ((c.tc : Thread Cert.NormMix.nD Cert.NormMix.τ).loc Cert.NormMix.main_arg2) = m ((c.tc : Thread Cert.NormMix.nD Cert.NormMix.τ).loc Cert.NormMix.main_arg2)
      ∧ r.2.mem ((c.tc : Thread Cert.NormMix.nD Cert.NormMix.τ).loc Cert.NormMix.main_arg3) = m ((c.tc : Thread Cert.NormMix.nD Cert.NormMix.τ).loc Cert.NormMix.main_arg3)
      ∧ r.2.mem ((c.tc : Thread Cert.NormMix.nD Cert.NormMix.τ).loc Cert.NormMix.main_arg4) = m ((c.tc : Thread Cert.NormMix.nD Cert.NormMix.τ).loc Cert.NormMix.main_arg4))
      ∧ r.2.sem = fun _ => 0)

def quiescent_NormMixIdeal [hNormMixIdeal : Cert.NormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
      ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2)
      ∧ r.2.mem ((c.tc : Thread Cert.NormMixIdeal.nD Cert.NormMixIdeal.τ).loc Cert.NormMixIdeal.main_arg3) = m ((c.tc : Thread Cert.NormMixIdeal.nD Cert.NormMixIdeal.τ).loc Cert.NormMixIdeal.main_arg3)
      ∧ r.2.mem ((c.tc : Thread Cert.NormMixIdeal.nD Cert.NormMixIdeal.τ).loc Cert.NormMixIdeal.main_arg4) = m ((c.tc : Thread Cert.NormMixIdeal.nD Cert.NormMixIdeal.τ).loc Cert.NormMixIdeal.main_arg4))
      ∧ r.2.sem = fun _ => 0)

def quiescent_NormMixRefIdeal [hNormMixRefIdeal : Cert.NormMixRefIdeal.Facts] : Prop :=
  ∀ (m : (ℓ : Loc Cert.NormMixRefIdeal.nD Cert.NormMixRefIdeal.τ Cert.NormMixRefIdeal.sig) → Buf (Elt Ideal) ℓ) (g : Dev Cert.NormMixRefIdeal.nD → PrngReg), Pre_NormMixRefIdeal m →
    θ_run (Cert.NormMixRefIdeal.defs (F := Ideal)) (onTc (τ := Cert.NormMixRefIdeal.τ) (Cert.NormMixRefIdeal.main (F := Ideal))) ⟨m, fun _ => 0, g⟩ (fun r => (∀ c : Dev Cert.NormMixRefIdeal.nD,
      r.2.mem ((c.tc : Thread Cert.NormMixRefIdeal.nD Cert.NormMixRefIdeal.τ).loc Cert.NormMixRefIdeal.main_arg0) = m ((c.tc : Thread Cert.NormMixRefIdeal.nD Cert.NormMixRefIdeal.τ).loc Cert.NormMixRefIdeal.main_arg0)
      ∧ r.2.mem ((c.tc : Thread Cert.NormMixRefIdeal.nD Cert.NormMixRefIdeal.τ).loc Cert.NormMixRefIdeal.main_arg1) = m ((c.tc : Thread Cert.NormMixRefIdeal.nD Cert.NormMixRefIdeal.τ).loc Cert.NormMixRefIdeal.main_arg1)
      ∧ r.2.mem ((c.tc : Thread Cert.NormMixRefIdeal.nD Cert.NormMixRefIdeal.τ).loc Cert.NormMixRefIdeal.main_arg2) = m ((c.tc : Thread Cert.NormMixRefIdeal.nD Cert.NormMixRefIdeal.τ).loc Cert.NormMixRefIdeal.main_arg2)
      ∧ r.2.mem ((c.tc : Thread Cert.NormMixRefIdeal.nD Cert.NormMixRefIdeal.τ).loc Cert.NormMixRefIdeal.main_arg3) = m ((c.tc : Thread Cert.NormMixRefIdeal.nD Cert.NormMixRefIdeal.τ).loc Cert.NormMixRefIdeal.main_arg3)
      ∧ r.2.mem ((c.tc : Thread Cert.NormMixRefIdeal.nD Cert.NormMixRefIdeal.τ).loc Cert.NormMixRefIdeal.main_arg4) = m ((c.tc : Thread Cert.NormMixRefIdeal.nD Cert.NormMixRefIdeal.τ).loc Cert.NormMixRefIdeal.main_arg4))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3))
      ∧ r.2.sem = fun _ => 0)

def quiescent_FfnMidIdeal_pre_finite_ffn [hFfnMidIdeal : Cert.FfnMidIdeal.Facts] [hPre_finite_ffn : Cert.Pre_finite_ffn.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal_finite_ffn m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3))
      ∧ r.2.sem = fun _ => 0)

def quiescent_FfnMidRefIdeal_pre_finite_ffn [hFfnMidRefIdeal : Cert.FfnMidRefIdeal.Facts] [hPre_finite_ffn : Cert.Pre_finite_ffn.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal_finite_ffn m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3))
      ∧ r.2.sem = fun _ => 0)

def quiescent_NormFfnFwd [hNormFfnFwd : Cert.NormFfnFwd.Facts] : Prop :=
  ∀ (m : (ℓ : Loc Cert.NormFfnFwd.nD Cert.NormFfnFwd.τ Cert.NormFfnFwd.sig) → Buf (Elt Bits) ℓ) (g : Dev Cert.NormFfnFwd.nD → PrngReg), Pre_NormFfnFwd m →
    θ_run (Cert.NormFfnFwd.defs (F := Bits)) (onTc (τ := Cert.NormFfnFwd.τ) (Cert.NormFfnFwd.main (F := Bits))) ⟨m, fun _ => 0, g⟩ (fun r => (∀ c : Dev Cert.NormFfnFwd.nD,
      r.2.mem ((c.tc : Thread Cert.NormFfnFwd.nD Cert.NormFfnFwd.τ).loc Cert.NormFfnFwd.main_arg0) = m ((c.tc : Thread Cert.NormFfnFwd.nD Cert.NormFfnFwd.τ).loc Cert.NormFfnFwd.main_arg0)
      ∧ r.2.mem ((c.tc : Thread Cert.NormFfnFwd.nD Cert.NormFfnFwd.τ).loc Cert.NormFfnFwd.main_arg1) = m ((c.tc : Thread Cert.NormFfnFwd.nD Cert.NormFfnFwd.τ).loc Cert.NormFfnFwd.main_arg1)
      ∧ r.2.mem ((c.tc : Thread Cert.NormFfnFwd.nD Cert.NormFfnFwd.τ).loc Cert.NormFfnFwd.main_arg2) = m ((c.tc : Thread Cert.NormFfnFwd.nD Cert.NormFfnFwd.τ).loc Cert.NormFfnFwd.main_arg2))
      ∧ r.2.sem = fun _ => 0)

def quiescent_NormFfnFwdIdeal [hNormFfnFwdIdeal : Cert.NormFfnFwdIdeal.Facts] : Prop :=
  ∀ (m : (ℓ : Loc Cert.NormFfnFwdIdeal.nD Cert.NormFfnFwdIdeal.τ Cert.NormFfnFwdIdeal.sig) → Buf (Elt Ideal) ℓ) (g : Dev Cert.NormFfnFwdIdeal.nD → PrngReg), Pre_NormFfnFwdIdeal m →
    θ_run (Cert.NormFfnFwdIdeal.defs (F := Ideal)) (onTc (τ := Cert.NormFfnFwdIdeal.τ) (Cert.NormFfnFwdIdeal.main (F := Ideal))) ⟨m, fun _ => 0, g⟩ (fun r => (∀ c : Dev Cert.NormFfnFwdIdeal.nD,
      r.2.mem ((c.tc : Thread Cert.NormFfnFwdIdeal.nD Cert.NormFfnFwdIdeal.τ).loc Cert.NormFfnFwdIdeal.main_arg0) = m ((c.tc : Thread Cert.NormFfnFwdIdeal.nD Cert.NormFfnFwdIdeal.τ).loc Cert.NormFfnFwdIdeal.main_arg0)
      ∧ r.2.mem ((c.tc : Thread Cert.NormFfnFwdIdeal.nD Cert.NormFfnFwdIdeal.τ).loc Cert.NormFfnFwdIdeal.main_arg1) = m ((c.tc : Thread Cert.NormFfnFwdIdeal.nD Cert.NormFfnFwdIdeal.τ).loc Cert.NormFfnFwdIdeal.main_arg1)
      ∧ r.2.mem ((c.tc : Thread Cert.NormFfnFwdIdeal.nD Cert.NormFfnFwdIdeal.τ).loc Cert.NormFfnFwdIdeal.main_arg2) = m ((c.tc : Thread Cert.NormFfnFwdIdeal.nD Cert.NormFfnFwdIdeal.τ).loc Cert.NormFfnFwdIdeal.main_arg2))
      ∧ r.2.sem = fun _ => 0)

def quiescent_NormFfnFwdRefIdeal [hNormFfnFwdRefIdeal : Cert.NormFfnFwdRefIdeal.Facts] : Prop :=
  ∀ (m : (ℓ : Loc Cert.NormFfnFwdRefIdeal.nD Cert.NormFfnFwdRefIdeal.τ Cert.NormFfnFwdRefIdeal.sig) → Buf (Elt Ideal) ℓ) (g : Dev Cert.NormFfnFwdRefIdeal.nD → PrngReg), Pre_NormFfnFwdRefIdeal m →
    θ_run (Cert.NormFfnFwdRefIdeal.defs (F := Ideal)) (onTc (τ := Cert.NormFfnFwdRefIdeal.τ) (Cert.NormFfnFwdRefIdeal.main (F := Ideal))) ⟨m, fun _ => 0, g⟩ (fun r => (∀ c : Dev Cert.NormFfnFwdRefIdeal.nD,
      r.2.mem ((c.tc : Thread Cert.NormFfnFwdRefIdeal.nD Cert.NormFfnFwdRefIdeal.τ).loc Cert.NormFfnFwdRefIdeal.main_arg0) = m ((c.tc : Thread Cert.NormFfnFwdRefIdeal.nD Cert.NormFfnFwdRefIdeal.τ).loc Cert.NormFfnFwdRefIdeal.main_arg0)
      ∧ r.2.mem ((c.tc : Thread Cert.NormFfnFwdRefIdeal.nD Cert.NormFfnFwdRefIdeal.τ).loc Cert.NormFfnFwdRefIdeal.main_arg1) = m ((c.tc : Thread Cert.NormFfnFwdRefIdeal.nD Cert.NormFfnFwdRefIdeal.τ).loc Cert.NormFfnFwdRefIdeal.main_arg1)
      ∧ r.2.mem ((c.tc : Thread Cert.NormFfnFwdRefIdeal.nD Cert.NormFfnFwdRefIdeal.τ).loc Cert.NormFfnFwdRefIdeal.main_arg2) = m ((c.tc : Thread Cert.NormFfnFwdRefIdeal.nD Cert.NormFfnFwdRefIdeal.τ).loc Cert.NormFfnFwdRefIdeal.main_arg2))
      ∧ r.2.sem = fun _ => 0)

def quiescent_NormMixFwd [hNormMixFwd : Cert.NormMixFwd.Facts] : Prop :=
  ∀ (m : (ℓ : Loc Cert.NormMixFwd.nD Cert.NormMixFwd.τ Cert.NormMixFwd.sig) → Buf (Elt Bits) ℓ) (g : Dev Cert.NormMixFwd.nD → PrngReg), Pre_NormMixFwd m →
    θ_run (Cert.NormMixFwd.defs (F := Bits)) (onTc (τ := Cert.NormMixFwd.τ) (Cert.NormMixFwd.main (F := Bits))) ⟨m, fun _ => 0, g⟩ (fun r => (∀ c : Dev Cert.NormMixFwd.nD,
      r.2.mem ((c.tc : Thread Cert.NormMixFwd.nD Cert.NormMixFwd.τ).loc Cert.NormMixFwd.main_arg0) = m ((c.tc : Thread Cert.NormMixFwd.nD Cert.NormMixFwd.τ).loc Cert.NormMixFwd.main_arg0)
      ∧ r.2.mem ((c.tc : Thread Cert.NormMixFwd.nD Cert.NormMixFwd.τ).loc Cert.NormMixFwd.main_arg1) = m ((c.tc : Thread Cert.NormMixFwd.nD Cert.NormMixFwd.τ).loc Cert.NormMixFwd.main_arg1)
      ∧ r.2.mem ((c.tc : Thread Cert.NormMixFwd.nD Cert.NormMixFwd.τ).loc Cert.NormMixFwd.main_arg2) = m ((c.tc : Thread Cert.NormMixFwd.nD Cert.NormMixFwd.τ).loc Cert.NormMixFwd.main_arg2))
      ∧ r.2.sem = fun _ => 0)

def quiescent_NormMixFwdIdeal [hNormMixFwdIdeal : Cert.NormMixFwdIdeal.Facts] : Prop :=
  ∀ (m : (ℓ : Loc Cert.NormMixFwdIdeal.nD Cert.NormMixFwdIdeal.τ Cert.NormMixFwdIdeal.sig) → Buf (Elt Ideal) ℓ) (g : Dev Cert.NormMixFwdIdeal.nD → PrngReg), Pre_NormMixFwdIdeal m →
    θ_run (Cert.NormMixFwdIdeal.defs (F := Ideal)) (onTc (τ := Cert.NormMixFwdIdeal.τ) (Cert.NormMixFwdIdeal.main (F := Ideal))) ⟨m, fun _ => 0, g⟩ (fun r => (∀ c : Dev Cert.NormMixFwdIdeal.nD,
      r.2.mem ((c.tc : Thread Cert.NormMixFwdIdeal.nD Cert.NormMixFwdIdeal.τ).loc Cert.NormMixFwdIdeal.main_arg0) = m ((c.tc : Thread Cert.NormMixFwdIdeal.nD Cert.NormMixFwdIdeal.τ).loc Cert.NormMixFwdIdeal.main_arg0)
      ∧ r.2.mem ((c.tc : Thread Cert.NormMixFwdIdeal.nD Cert.NormMixFwdIdeal.τ).loc Cert.NormMixFwdIdeal.main_arg1) = m ((c.tc : Thread Cert.NormMixFwdIdeal.nD Cert.NormMixFwdIdeal.τ).loc Cert.NormMixFwdIdeal.main_arg1)
      ∧ r.2.mem ((c.tc : Thread Cert.NormMixFwdIdeal.nD Cert.NormMixFwdIdeal.τ).loc Cert.NormMixFwdIdeal.main_arg2) = m ((c.tc : Thread Cert.NormMixFwdIdeal.nD Cert.NormMixFwdIdeal.τ).loc Cert.NormMixFwdIdeal.main_arg2))
      ∧ r.2.sem = fun _ => 0)

def quiescent_NormMixFwdRefIdeal [hNormMixFwdRefIdeal : Cert.NormMixFwdRefIdeal.Facts] : Prop :=
  ∀ (m : (ℓ : Loc Cert.NormMixFwdRefIdeal.nD Cert.NormMixFwdRefIdeal.τ Cert.NormMixFwdRefIdeal.sig) → Buf (Elt Ideal) ℓ) (g : Dev Cert.NormMixFwdRefIdeal.nD → PrngReg), Pre_NormMixFwdRefIdeal m →
    θ_run (Cert.NormMixFwdRefIdeal.defs (F := Ideal)) (onTc (τ := Cert.NormMixFwdRefIdeal.τ) (Cert.NormMixFwdRefIdeal.main (F := Ideal))) ⟨m, fun _ => 0, g⟩ (fun r => (∀ c : Dev Cert.NormMixFwdRefIdeal.nD,
      r.2.mem ((c.tc : Thread Cert.NormMixFwdRefIdeal.nD Cert.NormMixFwdRefIdeal.τ).loc Cert.NormMixFwdRefIdeal.main_arg0) = m ((c.tc : Thread Cert.NormMixFwdRefIdeal.nD Cert.NormMixFwdRefIdeal.τ).loc Cert.NormMixFwdRefIdeal.main_arg0)
      ∧ r.2.mem ((c.tc : Thread Cert.NormMixFwdRefIdeal.nD Cert.NormMixFwdRefIdeal.τ).loc Cert.NormMixFwdRefIdeal.main_arg1) = m ((c.tc : Thread Cert.NormMixFwdRefIdeal.nD Cert.NormMixFwdRefIdeal.τ).loc Cert.NormMixFwdRefIdeal.main_arg1)
      ∧ r.2.mem ((c.tc : Thread Cert.NormMixFwdRefIdeal.nD Cert.NormMixFwdRefIdeal.τ).loc Cert.NormMixFwdRefIdeal.main_arg2) = m ((c.tc : Thread Cert.NormMixFwdRefIdeal.nD Cert.NormMixFwdRefIdeal.τ).loc Cert.NormMixFwdRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v95) = v2 c
          ∧ r.2.mem ((c.tc : Thread Cert.ReferenceIdeal.nD Cert.ReferenceIdeal.τ).loc Cert.ReferenceIdeal.main_v101) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v5) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v8) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v12) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_SsdOutDx_SsdOutDxIdeal : Prop :=
  True

def algebraic_SsdOutDxIdeal_SsdOutDxRefIdeal [hSsdOutDxIdeal : Cert.SsdOutDxIdeal.Facts] [hSsdOutDxRefIdeal : Cert.SsdOutDxRefIdeal.Facts] : Prop :=
  ∀ (m : (ℓ : Loc Cert.SsdOutDxIdeal.nD Cert.SsdOutDxIdeal.τ Cert.SsdOutDxIdeal.sig) → Buf (Elt Ideal) ℓ) (g : Dev Cert.SsdOutDxIdeal.nD → PrngReg)
    (m' : (ℓ : Loc Cert.SsdOutDxRefIdeal.nD Cert.SsdOutDxRefIdeal.τ Cert.SsdOutDxRefIdeal.sig) → Buf (Elt Ideal) ℓ) (g' : Dev Cert.SsdOutDxRefIdeal.nD → PrngReg), Pre_SsdOutDxIdeal m →
    (∀ c : Dev Cert.SsdOutDxIdeal.nD,
      m' ((c.tc : Thread Cert.SsdOutDxRefIdeal.nD Cert.SsdOutDxRefIdeal.τ).loc Cert.SsdOutDxRefIdeal.main_arg0) = m ((c.tc : Thread Cert.SsdOutDxIdeal.nD Cert.SsdOutDxIdeal.τ).loc Cert.SsdOutDxIdeal.main_arg0)
      ∧ m' ((c.tc : Thread Cert.SsdOutDxRefIdeal.nD Cert.SsdOutDxRefIdeal.τ).loc Cert.SsdOutDxRefIdeal.main_arg1) = m ((c.tc : Thread Cert.SsdOutDxIdeal.nD Cert.SsdOutDxIdeal.τ).loc Cert.SsdOutDxIdeal.main_arg1)) →
    ∃ (v0 : (c : Dev Cert.SsdOutDxIdeal.nD) → Buf (Elt Ideal) ((c.tc : Thread Cert.SsdOutDxIdeal.nD Cert.SsdOutDxIdeal.τ).loc Cert.SsdOutDxIdeal.main_v0)),
      θ_run (Cert.SsdOutDxIdeal.defs (F := Ideal)) (onTc (τ := Cert.SsdOutDxIdeal.τ) (Cert.SsdOutDxIdeal.main (F := Ideal))) ⟨m, fun _ => 0, g⟩ (fun r => ∀ c : Dev Cert.SsdOutDxIdeal.nD,
          r.2.mem ((c.tc : Thread Cert.SsdOutDxIdeal.nD Cert.SsdOutDxIdeal.τ).loc Cert.SsdOutDxIdeal.main_v0) = v0 c
          ∧ r.2.mem ((c.tc : Thread Cert.SsdOutDxIdeal.nD Cert.SsdOutDxIdeal.τ).loc Cert.SsdOutDxIdeal.main_arg0) = m ((c.tc : Thread Cert.SsdOutDxIdeal.nD Cert.SsdOutDxIdeal.τ).loc Cert.SsdOutDxIdeal.main_arg0)
          ∧ r.2.mem ((c.tc : Thread Cert.SsdOutDxIdeal.nD Cert.SsdOutDxIdeal.τ).loc Cert.SsdOutDxIdeal.main_arg1) = m ((c.tc : Thread Cert.SsdOutDxIdeal.nD Cert.SsdOutDxIdeal.τ).loc Cert.SsdOutDxIdeal.main_arg1))
      ∧ θ_run (Cert.SsdOutDxRefIdeal.defs (F := Ideal)) (onTc (τ := Cert.SsdOutDxRefIdeal.τ) (Cert.SsdOutDxRefIdeal.main (F := Ideal))) ⟨m', fun _ => 0, g'⟩ (fun r => ∀ c : Dev Cert.SsdOutDxRefIdeal.nD,
          r.2.mem ((c.tc : Thread Cert.SsdOutDxRefIdeal.nD Cert.SsdOutDxRefIdeal.τ).loc Cert.SsdOutDxRefIdeal.main_v5) = v0 c
          ∧ r.2.mem ((c.tc : Thread Cert.SsdOutDxRefIdeal.nD Cert.SsdOutDxRefIdeal.τ).loc Cert.SsdOutDxRefIdeal.main_arg0) = m' ((c.tc : Thread Cert.SsdOutDxRefIdeal.nD Cert.SsdOutDxRefIdeal.τ).loc Cert.SsdOutDxRefIdeal.main_arg0)
          ∧ r.2.mem ((c.tc : Thread Cert.SsdOutDxRefIdeal.nD Cert.SsdOutDxRefIdeal.τ).loc Cert.SsdOutDxRefIdeal.main_arg1) = m' ((c.tc : Thread Cert.SsdOutDxRefIdeal.nD Cert.SsdOutDxRefIdeal.τ).loc Cert.SsdOutDxRefIdeal.main_arg1))

def preserves_SsdOutDw_SsdOutDwIdeal : Prop :=
  True

def algebraic_SsdOutDwIdeal_SsdOutDwRefIdeal [hSsdOutDwIdeal : Cert.SsdOutDwIdeal.Facts] [hSsdOutDwRefIdeal : Cert.SsdOutDwRefIdeal.Facts] : Prop :=
  ∀ (m : (ℓ : Loc Cert.SsdOutDwIdeal.nD Cert.SsdOutDwIdeal.τ Cert.SsdOutDwIdeal.sig) → Buf (Elt Ideal) ℓ) (g : Dev Cert.SsdOutDwIdeal.nD → PrngReg)
    (m' : (ℓ : Loc Cert.SsdOutDwRefIdeal.nD Cert.SsdOutDwRefIdeal.τ Cert.SsdOutDwRefIdeal.sig) → Buf (Elt Ideal) ℓ) (g' : Dev Cert.SsdOutDwRefIdeal.nD → PrngReg), Pre_SsdOutDwIdeal m →
    (∀ c : Dev Cert.SsdOutDwIdeal.nD,
      m' ((c.tc : Thread Cert.SsdOutDwRefIdeal.nD Cert.SsdOutDwRefIdeal.τ).loc Cert.SsdOutDwRefIdeal.main_arg0) = m ((c.tc : Thread Cert.SsdOutDwIdeal.nD Cert.SsdOutDwIdeal.τ).loc Cert.SsdOutDwIdeal.main_arg0)
      ∧ m' ((c.tc : Thread Cert.SsdOutDwRefIdeal.nD Cert.SsdOutDwRefIdeal.τ).loc Cert.SsdOutDwRefIdeal.main_arg1) = m ((c.tc : Thread Cert.SsdOutDwIdeal.nD Cert.SsdOutDwIdeal.τ).loc Cert.SsdOutDwIdeal.main_arg1)) →
    ∃ (v0 : (c : Dev Cert.SsdOutDwIdeal.nD) → Buf (Elt Ideal) ((c.tc : Thread Cert.SsdOutDwIdeal.nD Cert.SsdOutDwIdeal.τ).loc Cert.SsdOutDwIdeal.main_v0)),
      θ_run (Cert.SsdOutDwIdeal.defs (F := Ideal)) (onTc (τ := Cert.SsdOutDwIdeal.τ) (Cert.SsdOutDwIdeal.main (F := Ideal))) ⟨m, fun _ => 0, g⟩ (fun r => ∀ c : Dev Cert.SsdOutDwIdeal.nD,
          r.2.mem ((c.tc : Thread Cert.SsdOutDwIdeal.nD Cert.SsdOutDwIdeal.τ).loc Cert.SsdOutDwIdeal.main_v0) = v0 c
          ∧ r.2.mem ((c.tc : Thread Cert.SsdOutDwIdeal.nD Cert.SsdOutDwIdeal.τ).loc Cert.SsdOutDwIdeal.main_arg0) = m ((c.tc : Thread Cert.SsdOutDwIdeal.nD Cert.SsdOutDwIdeal.τ).loc Cert.SsdOutDwIdeal.main_arg0)
          ∧ r.2.mem ((c.tc : Thread Cert.SsdOutDwIdeal.nD Cert.SsdOutDwIdeal.τ).loc Cert.SsdOutDwIdeal.main_arg1) = m ((c.tc : Thread Cert.SsdOutDwIdeal.nD Cert.SsdOutDwIdeal.τ).loc Cert.SsdOutDwIdeal.main_arg1))
      ∧ θ_run (Cert.SsdOutDwRefIdeal.defs (F := Ideal)) (onTc (τ := Cert.SsdOutDwRefIdeal.τ) (Cert.SsdOutDwRefIdeal.main (F := Ideal))) ⟨m', fun _ => 0, g'⟩ (fun r => ∀ c : Dev Cert.SsdOutDwRefIdeal.nD,
          r.2.mem ((c.tc : Thread Cert.SsdOutDwRefIdeal.nD Cert.SsdOutDwRefIdeal.τ).loc Cert.SsdOutDwRefIdeal.main_v6) = v0 c
          ∧ r.2.mem ((c.tc : Thread Cert.SsdOutDwRefIdeal.nD Cert.SsdOutDwRefIdeal.τ).loc Cert.SsdOutDwRefIdeal.main_arg0) = m' ((c.tc : Thread Cert.SsdOutDwRefIdeal.nD Cert.SsdOutDwRefIdeal.τ).loc Cert.SsdOutDwRefIdeal.main_arg0)
          ∧ r.2.mem ((c.tc : Thread Cert.SsdOutDwRefIdeal.nD Cert.SsdOutDwRefIdeal.τ).loc Cert.SsdOutDwRefIdeal.main_arg1) = m' ((c.tc : Thread Cert.SsdOutDwRefIdeal.nD Cert.SsdOutDwRefIdeal.τ).loc Cert.SsdOutDwRefIdeal.main_arg1))

def preserves_SsdInDx_SsdInDxIdeal : Prop :=
  True

def algebraic_SsdInDxIdeal_SsdInDxRefIdeal [hSsdInDxIdeal : Cert.SsdInDxIdeal.Facts] [hSsdInDxRefIdeal : Cert.SsdInDxRefIdeal.Facts] : Prop :=
  ∀ (m : (ℓ : Loc Cert.SsdInDxIdeal.nD Cert.SsdInDxIdeal.τ Cert.SsdInDxIdeal.sig) → Buf (Elt Ideal) ℓ) (g : Dev Cert.SsdInDxIdeal.nD → PrngReg)
    (m' : (ℓ : Loc Cert.SsdInDxRefIdeal.nD Cert.SsdInDxRefIdeal.τ Cert.SsdInDxRefIdeal.sig) → Buf (Elt Ideal) ℓ) (g' : Dev Cert.SsdInDxRefIdeal.nD → PrngReg), Pre_SsdInDxIdeal m →
    (∀ c : Dev Cert.SsdInDxIdeal.nD,
      m' ((c.tc : Thread Cert.SsdInDxRefIdeal.nD Cert.SsdInDxRefIdeal.τ).loc Cert.SsdInDxRefIdeal.main_arg0) = m ((c.tc : Thread Cert.SsdInDxIdeal.nD Cert.SsdInDxIdeal.τ).loc Cert.SsdInDxIdeal.main_arg0)
      ∧ m' ((c.tc : Thread Cert.SsdInDxRefIdeal.nD Cert.SsdInDxRefIdeal.τ).loc Cert.SsdInDxRefIdeal.main_arg1) = m ((c.tc : Thread Cert.SsdInDxIdeal.nD Cert.SsdInDxIdeal.τ).loc Cert.SsdInDxIdeal.main_arg1)
      ∧ m' ((c.tc : Thread Cert.SsdInDxRefIdeal.nD Cert.SsdInDxRefIdeal.τ).loc Cert.SsdInDxRefIdeal.main_arg2) = m ((c.tc : Thread Cert.SsdInDxIdeal.nD Cert.SsdInDxIdeal.τ).loc Cert.SsdInDxIdeal.main_arg2)) →
    ∃ (v0 : (c : Dev Cert.SsdInDxIdeal.nD) → Buf (Elt Ideal) ((c.tc : Thread Cert.SsdInDxIdeal.nD Cert.SsdInDxIdeal.τ).loc Cert.SsdInDxIdeal.main_v0)),
      θ_run (Cert.SsdInDxIdeal.defs (F := Ideal)) (onTc (τ := Cert.SsdInDxIdeal.τ) (Cert.SsdInDxIdeal.main (F := Ideal))) ⟨m, fun _ => 0, g⟩ (fun r => ∀ c : Dev Cert.SsdInDxIdeal.nD,
          r.2.mem ((c.tc : Thread Cert.SsdInDxIdeal.nD Cert.SsdInDxIdeal.τ).loc Cert.SsdInDxIdeal.main_v0) = v0 c
          ∧ r.2.mem ((c.tc : Thread Cert.SsdInDxIdeal.nD Cert.SsdInDxIdeal.τ).loc Cert.SsdInDxIdeal.main_arg0) = m ((c.tc : Thread Cert.SsdInDxIdeal.nD Cert.SsdInDxIdeal.τ).loc Cert.SsdInDxIdeal.main_arg0)
          ∧ r.2.mem ((c.tc : Thread Cert.SsdInDxIdeal.nD Cert.SsdInDxIdeal.τ).loc Cert.SsdInDxIdeal.main_arg1) = m ((c.tc : Thread Cert.SsdInDxIdeal.nD Cert.SsdInDxIdeal.τ).loc Cert.SsdInDxIdeal.main_arg1)
          ∧ r.2.mem ((c.tc : Thread Cert.SsdInDxIdeal.nD Cert.SsdInDxIdeal.τ).loc Cert.SsdInDxIdeal.main_arg2) = m ((c.tc : Thread Cert.SsdInDxIdeal.nD Cert.SsdInDxIdeal.τ).loc Cert.SsdInDxIdeal.main_arg2))
      ∧ θ_run (Cert.SsdInDxRefIdeal.defs (F := Ideal)) (onTc (τ := Cert.SsdInDxRefIdeal.τ) (Cert.SsdInDxRefIdeal.main (F := Ideal))) ⟨m', fun _ => 0, g'⟩ (fun r => ∀ c : Dev Cert.SsdInDxRefIdeal.nD,
          r.2.mem ((c.tc : Thread Cert.SsdInDxRefIdeal.nD Cert.SsdInDxRefIdeal.τ).loc Cert.SsdInDxRefIdeal.main_v5) = v0 c
          ∧ r.2.mem ((c.tc : Thread Cert.SsdInDxRefIdeal.nD Cert.SsdInDxRefIdeal.τ).loc Cert.SsdInDxRefIdeal.main_arg0) = m' ((c.tc : Thread Cert.SsdInDxRefIdeal.nD Cert.SsdInDxRefIdeal.τ).loc Cert.SsdInDxRefIdeal.main_arg0)
          ∧ r.2.mem ((c.tc : Thread Cert.SsdInDxRefIdeal.nD Cert.SsdInDxRefIdeal.τ).loc Cert.SsdInDxRefIdeal.main_arg1) = m' ((c.tc : Thread Cert.SsdInDxRefIdeal.nD Cert.SsdInDxRefIdeal.τ).loc Cert.SsdInDxRefIdeal.main_arg1)
          ∧ r.2.mem ((c.tc : Thread Cert.SsdInDxRefIdeal.nD Cert.SsdInDxRefIdeal.τ).loc Cert.SsdInDxRefIdeal.main_arg2) = m' ((c.tc : Thread Cert.SsdInDxRefIdeal.nD Cert.SsdInDxRefIdeal.τ).loc Cert.SsdInDxRefIdeal.main_arg2))

def preserves_SsdInDw_SsdInDwIdeal : Prop :=
  True

def algebraic_SsdInDwIdeal_SsdInDwRefIdeal [hSsdInDwIdeal : Cert.SsdInDwIdeal.Facts] [hSsdInDwRefIdeal : Cert.SsdInDwRefIdeal.Facts] : Prop :=
  ∀ (m : (ℓ : Loc Cert.SsdInDwIdeal.nD Cert.SsdInDwIdeal.τ Cert.SsdInDwIdeal.sig) → Buf (Elt Ideal) ℓ) (g : Dev Cert.SsdInDwIdeal.nD → PrngReg)
    (m' : (ℓ : Loc Cert.SsdInDwRefIdeal.nD Cert.SsdInDwRefIdeal.τ Cert.SsdInDwRefIdeal.sig) → Buf (Elt Ideal) ℓ) (g' : Dev Cert.SsdInDwRefIdeal.nD → PrngReg), Pre_SsdInDwIdeal m →
    (∀ c : Dev Cert.SsdInDwIdeal.nD,
      m' ((c.tc : Thread Cert.SsdInDwRefIdeal.nD Cert.SsdInDwRefIdeal.τ).loc Cert.SsdInDwRefIdeal.main_arg0) = m ((c.tc : Thread Cert.SsdInDwIdeal.nD Cert.SsdInDwIdeal.τ).loc Cert.SsdInDwIdeal.main_arg0)
      ∧ m' ((c.tc : Thread Cert.SsdInDwRefIdeal.nD Cert.SsdInDwRefIdeal.τ).loc Cert.SsdInDwRefIdeal.main_arg1) = m ((c.tc : Thread Cert.SsdInDwIdeal.nD Cert.SsdInDwIdeal.τ).loc Cert.SsdInDwIdeal.main_arg1)) →
    ∃ (v0 : (c : Dev Cert.SsdInDwIdeal.nD) → Buf (Elt Ideal) ((c.tc : Thread Cert.SsdInDwIdeal.nD Cert.SsdInDwIdeal.τ).loc Cert.SsdInDwIdeal.main_v0)),
      θ_run (Cert.SsdInDwIdeal.defs (F := Ideal)) (onTc (τ := Cert.SsdInDwIdeal.τ) (Cert.SsdInDwIdeal.main (F := Ideal))) ⟨m, fun _ => 0, g⟩ (fun r => ∀ c : Dev Cert.SsdInDwIdeal.nD,
          r.2.mem ((c.tc : Thread Cert.SsdInDwIdeal.nD Cert.SsdInDwIdeal.τ).loc Cert.SsdInDwIdeal.main_v0) = v0 c
          ∧ r.2.mem ((c.tc : Thread Cert.SsdInDwIdeal.nD Cert.SsdInDwIdeal.τ).loc Cert.SsdInDwIdeal.main_arg0) = m ((c.tc : Thread Cert.SsdInDwIdeal.nD Cert.SsdInDwIdeal.τ).loc Cert.SsdInDwIdeal.main_arg0)
          ∧ r.2.mem ((c.tc : Thread Cert.SsdInDwIdeal.nD Cert.SsdInDwIdeal.τ).loc Cert.SsdInDwIdeal.main_arg1) = m ((c.tc : Thread Cert.SsdInDwIdeal.nD Cert.SsdInDwIdeal.τ).loc Cert.SsdInDwIdeal.main_arg1))
      ∧ θ_run (Cert.SsdInDwRefIdeal.defs (F := Ideal)) (onTc (τ := Cert.SsdInDwRefIdeal.τ) (Cert.SsdInDwRefIdeal.main (F := Ideal))) ⟨m', fun _ => 0, g'⟩ (fun r => ∀ c : Dev Cert.SsdInDwRefIdeal.nD,
          r.2.mem ((c.tc : Thread Cert.SsdInDwRefIdeal.nD Cert.SsdInDwRefIdeal.τ).loc Cert.SsdInDwRefIdeal.main_v5) = v0 c
          ∧ r.2.mem ((c.tc : Thread Cert.SsdInDwRefIdeal.nD Cert.SsdInDwRefIdeal.τ).loc Cert.SsdInDwRefIdeal.main_arg0) = m' ((c.tc : Thread Cert.SsdInDwRefIdeal.nD Cert.SsdInDwRefIdeal.τ).loc Cert.SsdInDwRefIdeal.main_arg0)
          ∧ r.2.mem ((c.tc : Thread Cert.SsdInDwRefIdeal.nD Cert.SsdInDwRefIdeal.τ).loc Cert.SsdInDwRefIdeal.main_arg1) = m' ((c.tc : Thread Cert.SsdInDwRefIdeal.nD Cert.SsdInDwRefIdeal.τ).loc Cert.SsdInDwRefIdeal.main_arg1))

def preserves_AttnOutDx_AttnOutDxIdeal : Prop :=
  True

def algebraic_AttnOutDxIdeal_AttnOutDxRefIdeal [hAttnOutDxIdeal : Cert.AttnOutDxIdeal.Facts] [hAttnOutDxRefIdeal : Cert.AttnOutDxRefIdeal.Facts] : Prop :=
  ∀ (m : (ℓ : Loc Cert.AttnOutDxIdeal.nD Cert.AttnOutDxIdeal.τ Cert.AttnOutDxIdeal.sig) → Buf (Elt Ideal) ℓ) (g : Dev Cert.AttnOutDxIdeal.nD → PrngReg)
    (m' : (ℓ : Loc Cert.AttnOutDxRefIdeal.nD Cert.AttnOutDxRefIdeal.τ Cert.AttnOutDxRefIdeal.sig) → Buf (Elt Ideal) ℓ) (g' : Dev Cert.AttnOutDxRefIdeal.nD → PrngReg), Pre_AttnOutDxIdeal m →
    (∀ c : Dev Cert.AttnOutDxIdeal.nD,
      m' ((c.tc : Thread Cert.AttnOutDxRefIdeal.nD Cert.AttnOutDxRefIdeal.τ).loc Cert.AttnOutDxRefIdeal.main_arg0) = m ((c.tc : Thread Cert.AttnOutDxIdeal.nD Cert.AttnOutDxIdeal.τ).loc Cert.AttnOutDxIdeal.main_arg0)
      ∧ m' ((c.tc : Thread Cert.AttnOutDxRefIdeal.nD Cert.AttnOutDxRefIdeal.τ).loc Cert.AttnOutDxRefIdeal.main_arg1) = m ((c.tc : Thread Cert.AttnOutDxIdeal.nD Cert.AttnOutDxIdeal.τ).loc Cert.AttnOutDxIdeal.main_arg1)) →
    ∃ (v0 : (c : Dev Cert.AttnOutDxIdeal.nD) → Buf (Elt Ideal) ((c.tc : Thread Cert.AttnOutDxIdeal.nD Cert.AttnOutDxIdeal.τ).loc Cert.AttnOutDxIdeal.main_v0)),
      θ_run (Cert.AttnOutDxIdeal.defs (F := Ideal)) (onTc (τ := Cert.AttnOutDxIdeal.τ) (Cert.AttnOutDxIdeal.main (F := Ideal))) ⟨m, fun _ => 0, g⟩ (fun r => ∀ c : Dev Cert.AttnOutDxIdeal.nD,
          r.2.mem ((c.tc : Thread Cert.AttnOutDxIdeal.nD Cert.AttnOutDxIdeal.τ).loc Cert.AttnOutDxIdeal.main_v0) = v0 c
          ∧ r.2.mem ((c.tc : Thread Cert.AttnOutDxIdeal.nD Cert.AttnOutDxIdeal.τ).loc Cert.AttnOutDxIdeal.main_arg0) = m ((c.tc : Thread Cert.AttnOutDxIdeal.nD Cert.AttnOutDxIdeal.τ).loc Cert.AttnOutDxIdeal.main_arg0)
          ∧ r.2.mem ((c.tc : Thread Cert.AttnOutDxIdeal.nD Cert.AttnOutDxIdeal.τ).loc Cert.AttnOutDxIdeal.main_arg1) = m ((c.tc : Thread Cert.AttnOutDxIdeal.nD Cert.AttnOutDxIdeal.τ).loc Cert.AttnOutDxIdeal.main_arg1))
      ∧ θ_run (Cert.AttnOutDxRefIdeal.defs (F := Ideal)) (onTc (τ := Cert.AttnOutDxRefIdeal.τ) (Cert.AttnOutDxRefIdeal.main (F := Ideal))) ⟨m', fun _ => 0, g'⟩ (fun r => ∀ c : Dev Cert.AttnOutDxRefIdeal.nD,
          r.2.mem ((c.tc : Thread Cert.AttnOutDxRefIdeal.nD Cert.AttnOutDxRefIdeal.τ).loc Cert.AttnOutDxRefIdeal.main_v5) = v0 c
          ∧ r.2.mem ((c.tc : Thread Cert.AttnOutDxRefIdeal.nD Cert.AttnOutDxRefIdeal.τ).loc Cert.AttnOutDxRefIdeal.main_arg0) = m' ((c.tc : Thread Cert.AttnOutDxRefIdeal.nD Cert.AttnOutDxRefIdeal.τ).loc Cert.AttnOutDxRefIdeal.main_arg0)
          ∧ r.2.mem ((c.tc : Thread Cert.AttnOutDxRefIdeal.nD Cert.AttnOutDxRefIdeal.τ).loc Cert.AttnOutDxRefIdeal.main_arg1) = m' ((c.tc : Thread Cert.AttnOutDxRefIdeal.nD Cert.AttnOutDxRefIdeal.τ).loc Cert.AttnOutDxRefIdeal.main_arg1))

def preserves_AttnOutDw_AttnOutDwIdeal : Prop :=
  True

def algebraic_AttnOutDwIdeal_AttnOutDwRefIdeal [hAttnOutDwIdeal : Cert.AttnOutDwIdeal.Facts] [hAttnOutDwRefIdeal : Cert.AttnOutDwRefIdeal.Facts] : Prop :=
  ∀ (m : (ℓ : Loc Cert.AttnOutDwIdeal.nD Cert.AttnOutDwIdeal.τ Cert.AttnOutDwIdeal.sig) → Buf (Elt Ideal) ℓ) (g : Dev Cert.AttnOutDwIdeal.nD → PrngReg)
    (m' : (ℓ : Loc Cert.AttnOutDwRefIdeal.nD Cert.AttnOutDwRefIdeal.τ Cert.AttnOutDwRefIdeal.sig) → Buf (Elt Ideal) ℓ) (g' : Dev Cert.AttnOutDwRefIdeal.nD → PrngReg), Pre_AttnOutDwIdeal m →
    (∀ c : Dev Cert.AttnOutDwIdeal.nD,
      m' ((c.tc : Thread Cert.AttnOutDwRefIdeal.nD Cert.AttnOutDwRefIdeal.τ).loc Cert.AttnOutDwRefIdeal.main_arg0) = m ((c.tc : Thread Cert.AttnOutDwIdeal.nD Cert.AttnOutDwIdeal.τ).loc Cert.AttnOutDwIdeal.main_arg0)
      ∧ m' ((c.tc : Thread Cert.AttnOutDwRefIdeal.nD Cert.AttnOutDwRefIdeal.τ).loc Cert.AttnOutDwRefIdeal.main_arg1) = m ((c.tc : Thread Cert.AttnOutDwIdeal.nD Cert.AttnOutDwIdeal.τ).loc Cert.AttnOutDwIdeal.main_arg1)) →
    ∃ (v0 : (c : Dev Cert.AttnOutDwIdeal.nD) → Buf (Elt Ideal) ((c.tc : Thread Cert.AttnOutDwIdeal.nD Cert.AttnOutDwIdeal.τ).loc Cert.AttnOutDwIdeal.main_v0)),
      θ_run (Cert.AttnOutDwIdeal.defs (F := Ideal)) (onTc (τ := Cert.AttnOutDwIdeal.τ) (Cert.AttnOutDwIdeal.main (F := Ideal))) ⟨m, fun _ => 0, g⟩ (fun r => ∀ c : Dev Cert.AttnOutDwIdeal.nD,
          r.2.mem ((c.tc : Thread Cert.AttnOutDwIdeal.nD Cert.AttnOutDwIdeal.τ).loc Cert.AttnOutDwIdeal.main_v0) = v0 c
          ∧ r.2.mem ((c.tc : Thread Cert.AttnOutDwIdeal.nD Cert.AttnOutDwIdeal.τ).loc Cert.AttnOutDwIdeal.main_arg0) = m ((c.tc : Thread Cert.AttnOutDwIdeal.nD Cert.AttnOutDwIdeal.τ).loc Cert.AttnOutDwIdeal.main_arg0)
          ∧ r.2.mem ((c.tc : Thread Cert.AttnOutDwIdeal.nD Cert.AttnOutDwIdeal.τ).loc Cert.AttnOutDwIdeal.main_arg1) = m ((c.tc : Thread Cert.AttnOutDwIdeal.nD Cert.AttnOutDwIdeal.τ).loc Cert.AttnOutDwIdeal.main_arg1))
      ∧ θ_run (Cert.AttnOutDwRefIdeal.defs (F := Ideal)) (onTc (τ := Cert.AttnOutDwRefIdeal.τ) (Cert.AttnOutDwRefIdeal.main (F := Ideal))) ⟨m', fun _ => 0, g'⟩ (fun r => ∀ c : Dev Cert.AttnOutDwRefIdeal.nD,
          r.2.mem ((c.tc : Thread Cert.AttnOutDwRefIdeal.nD Cert.AttnOutDwRefIdeal.τ).loc Cert.AttnOutDwRefIdeal.main_v6) = v0 c
          ∧ r.2.mem ((c.tc : Thread Cert.AttnOutDwRefIdeal.nD Cert.AttnOutDwRefIdeal.τ).loc Cert.AttnOutDwRefIdeal.main_arg0) = m' ((c.tc : Thread Cert.AttnOutDwRefIdeal.nD Cert.AttnOutDwRefIdeal.τ).loc Cert.AttnOutDwRefIdeal.main_arg0)
          ∧ r.2.mem ((c.tc : Thread Cert.AttnOutDwRefIdeal.nD Cert.AttnOutDwRefIdeal.τ).loc Cert.AttnOutDwRefIdeal.main_arg1) = m' ((c.tc : Thread Cert.AttnOutDwRefIdeal.nD Cert.AttnOutDwRefIdeal.τ).loc Cert.AttnOutDwRefIdeal.main_arg1))

def preserves_QkvDx_QkvDxIdeal : Prop :=
  True

def algebraic_QkvDxIdeal_QkvDxRefIdeal [hQkvDxIdeal : Cert.QkvDxIdeal.Facts] [hQkvDxRefIdeal : Cert.QkvDxRefIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg)
    (m' : (ℓ : Loc Cert.QkvDxRefIdeal.nD Cert.QkvDxRefIdeal.τ Cert.QkvDxRefIdeal.sig) → Buf (Elt Ideal) ℓ) (g' : Dev Cert.QkvDxRefIdeal.nD → PrngReg), Pre_QkvDxIdeal m →
    (∀ c : Dev Cert.QkvDxIdeal.nD,
      m' ((c.tc : Thread Cert.QkvDxRefIdeal.nD Cert.QkvDxRefIdeal.τ).loc Cert.QkvDxRefIdeal.main_arg0) = m ((c.tc : Thread Cert.QkvDxIdeal.nD Cert.QkvDxIdeal.τ).loc Cert.QkvDxIdeal.main_arg0)
      ∧ m' ((c.tc : Thread Cert.QkvDxRefIdeal.nD Cert.QkvDxRefIdeal.τ).loc Cert.QkvDxRefIdeal.main_arg1) = m ((c.tc : Thread Cert.QkvDxIdeal.nD Cert.QkvDxIdeal.τ).loc Cert.QkvDxIdeal.main_arg1)
      ∧ m' ((c.tc : Thread Cert.QkvDxRefIdeal.nD Cert.QkvDxRefIdeal.τ).loc Cert.QkvDxRefIdeal.main_arg2) = m ((c.tc : Thread Cert.QkvDxIdeal.nD Cert.QkvDxIdeal.τ).loc Cert.QkvDxIdeal.main_arg2)) →
    ∃ (v0 : (c : Dev Cert.QkvDxIdeal.nD) → Buf (Elt Ideal) ((c.tc : Thread Cert.QkvDxIdeal.nD Cert.QkvDxIdeal.τ).loc Cert.QkvDxIdeal.main_v0)),
      θ_run (Cert.QkvDxIdeal.defs (F := Ideal)) (onTc (τ := Cert.QkvDxIdeal.τ) (Cert.QkvDxIdeal.main (F := Ideal))) ⟨m, fun _ => 0, g⟩ (fun r => ∀ c : Dev Cert.QkvDxIdeal.nD,
          r.2.mem ((c.tc : Thread Cert.QkvDxIdeal.nD Cert.QkvDxIdeal.τ).loc Cert.QkvDxIdeal.main_v0) = v0 c
          ∧ r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
          ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1)
          ∧ r.2.mem ((c.tc : Thread Cert.QkvDxIdeal.nD Cert.QkvDxIdeal.τ).loc Cert.QkvDxIdeal.main_arg2) = m ((c.tc : Thread Cert.QkvDxIdeal.nD Cert.QkvDxIdeal.τ).loc Cert.QkvDxIdeal.main_arg2))
      ∧ θ_run (Cert.QkvDxRefIdeal.defs (F := Ideal)) (onTc (τ := Cert.QkvDxRefIdeal.τ) (Cert.QkvDxRefIdeal.main (F := Ideal))) ⟨m', fun _ => 0, g'⟩ (fun r => ∀ c : Dev Cert.QkvDxRefIdeal.nD,
          r.2.mem ((c.tc : Thread Cert.QkvDxRefIdeal.nD Cert.QkvDxRefIdeal.τ).loc Cert.QkvDxRefIdeal.main_v7) = v0 c
          ∧ r.2.mem ((c.tc : Thread Cert.QkvDxRefIdeal.nD Cert.QkvDxRefIdeal.τ).loc Cert.QkvDxRefIdeal.main_arg0) = m' ((c.tc : Thread Cert.QkvDxRefIdeal.nD Cert.QkvDxRefIdeal.τ).loc Cert.QkvDxRefIdeal.main_arg0)
          ∧ r.2.mem ((c.tc : Thread Cert.QkvDxRefIdeal.nD Cert.QkvDxRefIdeal.τ).loc Cert.QkvDxRefIdeal.main_arg1) = m' ((c.tc : Thread Cert.QkvDxRefIdeal.nD Cert.QkvDxRefIdeal.τ).loc Cert.QkvDxRefIdeal.main_arg1)
          ∧ r.2.mem ((c.tc : Thread Cert.QkvDxRefIdeal.nD Cert.QkvDxRefIdeal.τ).loc Cert.QkvDxRefIdeal.main_arg2) = m' ((c.tc : Thread Cert.QkvDxRefIdeal.nD Cert.QkvDxRefIdeal.τ).loc Cert.QkvDxRefIdeal.main_arg2))

def preserves_QkvDw_QkvDwIdeal : Prop :=
  True

def algebraic_QkvDwIdeal_QkvDwRefIdeal [hQkvDwIdeal : Cert.QkvDwIdeal.Facts] [hQkvDwRefIdeal : Cert.QkvDwRefIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg)
    (m' : (ℓ : Loc Cert.QkvDwRefIdeal.nD Cert.QkvDwRefIdeal.τ Cert.QkvDwRefIdeal.sig) → Buf (Elt Ideal) ℓ) (g' : Dev Cert.QkvDwRefIdeal.nD → PrngReg), Pre_QkvDwIdeal m →
    (∀ c : Dev Cert.QkvDwIdeal.nD,
      m' ((c.tc : Thread Cert.QkvDwRefIdeal.nD Cert.QkvDwRefIdeal.τ).loc Cert.QkvDwRefIdeal.main_arg0) = m ((c.tc : Thread Cert.QkvDwIdeal.nD Cert.QkvDwIdeal.τ).loc Cert.QkvDwIdeal.main_arg0)
      ∧ m' ((c.tc : Thread Cert.QkvDwRefIdeal.nD Cert.QkvDwRefIdeal.τ).loc Cert.QkvDwRefIdeal.main_arg1) = m ((c.tc : Thread Cert.QkvDwIdeal.nD Cert.QkvDwIdeal.τ).loc Cert.QkvDwIdeal.main_arg1)) →
    ∃ (v0 : (c : Dev Cert.QkvDwIdeal.nD) → Buf (Elt Ideal) ((c.tc : Thread Cert.QkvDwIdeal.nD Cert.QkvDwIdeal.τ).loc Cert.QkvDwIdeal.main_v0)),
      θ_run (Cert.QkvDwIdeal.defs (F := Ideal)) (onTc (τ := Cert.QkvDwIdeal.τ) (Cert.QkvDwIdeal.main (F := Ideal))) ⟨m, fun _ => 0, g⟩ (fun r => ∀ c : Dev Cert.QkvDwIdeal.nD,
          r.2.mem ((c.tc : Thread Cert.QkvDwIdeal.nD Cert.QkvDwIdeal.τ).loc Cert.QkvDwIdeal.main_v0) = v0 c
          ∧ r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
          ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ θ_run (Cert.QkvDwRefIdeal.defs (F := Ideal)) (onTc (τ := Cert.QkvDwRefIdeal.τ) (Cert.QkvDwRefIdeal.main (F := Ideal))) ⟨m', fun _ => 0, g'⟩ (fun r => ∀ c : Dev Cert.QkvDwRefIdeal.nD,
          r.2.mem ((c.tc : Thread Cert.QkvDwRefIdeal.nD Cert.QkvDwRefIdeal.τ).loc Cert.QkvDwRefIdeal.main_v10) = v0 c
          ∧ r.2.mem ((c.tc : Thread Cert.QkvDwRefIdeal.nD Cert.QkvDwRefIdeal.τ).loc Cert.QkvDwRefIdeal.main_arg0) = m' ((c.tc : Thread Cert.QkvDwRefIdeal.nD Cert.QkvDwRefIdeal.τ).loc Cert.QkvDwRefIdeal.main_arg0)
          ∧ r.2.mem ((c.tc : Thread Cert.QkvDwRefIdeal.nD Cert.QkvDwRefIdeal.τ).loc Cert.QkvDwRefIdeal.main_arg1) = m' ((c.tc : Thread Cert.QkvDwRefIdeal.nD Cert.QkvDwRefIdeal.τ).loc Cert.QkvDwRefIdeal.main_arg1))

def preserves_SsdIn_SsdInIdeal : Prop :=
  True

def algebraic_SsdInIdeal_SsdInRefIdeal [hSsdInIdeal : Cert.SsdInIdeal.Facts] [hSsdInRefIdeal : Cert.SsdInRefIdeal.Facts] : Prop :=
  ∀ (m : (ℓ : Loc Cert.SsdInIdeal.nD Cert.SsdInIdeal.τ Cert.SsdInIdeal.sig) → Buf (Elt Ideal) ℓ) (g : Dev Cert.SsdInIdeal.nD → PrngReg)
    (m' : (ℓ : Loc Cert.SsdInRefIdeal.nD Cert.SsdInRefIdeal.τ Cert.SsdInRefIdeal.sig) → Buf (Elt Ideal) ℓ) (g' : Dev Cert.SsdInRefIdeal.nD → PrngReg), Pre_SsdInIdeal m →
    (∀ c : Dev Cert.SsdInIdeal.nD,
      m' ((c.tc : Thread Cert.SsdInRefIdeal.nD Cert.SsdInRefIdeal.τ).loc Cert.SsdInRefIdeal.main_arg0) = m ((c.tc : Thread Cert.SsdInIdeal.nD Cert.SsdInIdeal.τ).loc Cert.SsdInIdeal.main_arg0)
      ∧ m' ((c.tc : Thread Cert.SsdInRefIdeal.nD Cert.SsdInRefIdeal.τ).loc Cert.SsdInRefIdeal.main_arg1) = m ((c.tc : Thread Cert.SsdInIdeal.nD Cert.SsdInIdeal.τ).loc Cert.SsdInIdeal.main_arg1)) →
    ∃ (v0 : (c : Dev Cert.SsdInIdeal.nD) → Buf (Elt Ideal) ((c.tc : Thread Cert.SsdInIdeal.nD Cert.SsdInIdeal.τ).loc Cert.SsdInIdeal.main_v0)),
      θ_run (Cert.SsdInIdeal.defs (F := Ideal)) (onTc (τ := Cert.SsdInIdeal.τ) (Cert.SsdInIdeal.main (F := Ideal))) ⟨m, fun _ => 0, g⟩ (fun r => ∀ c : Dev Cert.SsdInIdeal.nD,
          r.2.mem ((c.tc : Thread Cert.SsdInIdeal.nD Cert.SsdInIdeal.τ).loc Cert.SsdInIdeal.main_v0) = v0 c
          ∧ r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
          ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1))
      ∧ θ_run (Cert.SsdInRefIdeal.defs (F := Ideal)) (onTc (τ := Cert.SsdInRefIdeal.τ) (Cert.SsdInRefIdeal.main (F := Ideal))) ⟨m', fun _ => 0, g'⟩ (fun r => ∀ c : Dev Cert.SsdInRefIdeal.nD,
          r.2.mem ((c.tc : Thread Cert.SsdInRefIdeal.nD Cert.SsdInRefIdeal.τ).loc Cert.SsdInRefIdeal.main_v2) = v0 c
          ∧ r.2.mem ((c.tc : Thread Cert.SsdInRefIdeal.nD Cert.SsdInRefIdeal.τ).loc Cert.SsdInRefIdeal.main_arg0) = m' ((c.tc : Thread Cert.SsdInRefIdeal.nD Cert.SsdInRefIdeal.τ).loc Cert.SsdInRefIdeal.main_arg0)
          ∧ r.2.mem ((c.tc : Thread Cert.SsdInRefIdeal.nD Cert.SsdInRefIdeal.τ).loc Cert.SsdInRefIdeal.main_arg1) = m' ((c.tc : Thread Cert.SsdInRefIdeal.nD Cert.SsdInRefIdeal.τ).loc Cert.SsdInRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v4) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v5) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_SsdOut_SsdOutIdeal : Prop :=
  True

def algebraic_SsdOutIdeal_SsdOutRefIdeal [hSsdOutIdeal : Cert.SsdOutIdeal.Facts] [hSsdOutRefIdeal : Cert.SsdOutRefIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutRefIdeal.nD Cert.SsdOutRefIdeal.τ Cert.SsdOutRefIdeal.sig) → Buf (Elt Ideal) ℓ) (g' : Dev Cert.SsdOutRefIdeal.nD → PrngReg), Pre_SsdOutIdeal m →
    (∀ c : Dev Cert.SsdOutIdeal.nD,
      m' ((c.tc : Thread Cert.SsdOutRefIdeal.nD Cert.SsdOutRefIdeal.τ).loc Cert.SsdOutRefIdeal.main_arg0) = m ((c.tc : Thread Cert.SsdOutIdeal.nD Cert.SsdOutIdeal.τ).loc Cert.SsdOutIdeal.main_arg0)
      ∧ m' ((c.tc : Thread Cert.SsdOutRefIdeal.nD Cert.SsdOutRefIdeal.τ).loc Cert.SsdOutRefIdeal.main_arg1) = m ((c.tc : Thread Cert.SsdOutIdeal.nD Cert.SsdOutIdeal.τ).loc Cert.SsdOutIdeal.main_arg1)
      ∧ m' ((c.tc : Thread Cert.SsdOutRefIdeal.nD Cert.SsdOutRefIdeal.τ).loc Cert.SsdOutRefIdeal.main_arg2) = m ((c.tc : Thread Cert.SsdOutIdeal.nD Cert.SsdOutIdeal.τ).loc Cert.SsdOutIdeal.main_arg2)
      ∧ m' ((c.tc : Thread Cert.SsdOutRefIdeal.nD Cert.SsdOutRefIdeal.τ).loc Cert.SsdOutRefIdeal.main_arg3) = m ((c.tc : Thread Cert.SsdOutIdeal.nD Cert.SsdOutIdeal.τ).loc Cert.SsdOutIdeal.main_arg3)) →
    ∃ (v0 : (c : Dev Cert.SsdOutIdeal.nD) → Buf (Elt Ideal) ((c.tc : Thread Cert.SsdOutIdeal.nD Cert.SsdOutIdeal.τ).loc Cert.SsdOutIdeal.main_v0_0)) (v1 : (c : Dev Cert.SsdOutIdeal.nD) → Buf (Elt Ideal) ((c.tc : Thread Cert.SsdOutIdeal.nD Cert.SsdOutIdeal.τ).loc Cert.SsdOutIdeal.main_v0_1)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v0_0) = v0 c
          ∧ r.2.mem ((c.tc : Thread Cert.SsdOutIdeal.nD Cert.SsdOutIdeal.τ).loc Cert.SsdOutIdeal.main_v0_1) = v1 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
          ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
          ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3))
      ∧ θ_run (Cert.SsdOutRefIdeal.defs (F := Ideal)) (onTc (τ := Cert.SsdOutRefIdeal.τ) (Cert.SsdOutRefIdeal.main (F := Ideal))) ⟨m', fun _ => 0, g'⟩ (fun r => ∀ c : Dev Cert.SsdOutRefIdeal.nD,
          r.2.mem ((c.tc : Thread Cert.SsdOutRefIdeal.nD Cert.SsdOutRefIdeal.τ).loc Cert.SsdOutRefIdeal.main_v2) = v0 c
          ∧ r.2.mem ((c.tc : Thread Cert.SsdOutRefIdeal.nD Cert.SsdOutRefIdeal.τ).loc Cert.SsdOutRefIdeal.main_v19) = v1 c
          ∧ r.2.mem ((c.tc : Thread Cert.SsdOutRefIdeal.nD Cert.SsdOutRefIdeal.τ).loc Cert.SsdOutRefIdeal.main_arg0) = m' ((c.tc : Thread Cert.SsdOutRefIdeal.nD Cert.SsdOutRefIdeal.τ).loc Cert.SsdOutRefIdeal.main_arg0)
          ∧ r.2.mem ((c.tc : Thread Cert.SsdOutRefIdeal.nD Cert.SsdOutRefIdeal.τ).loc Cert.SsdOutRefIdeal.main_arg1) = m' ((c.tc : Thread Cert.SsdOutRefIdeal.nD Cert.SsdOutRefIdeal.τ).loc Cert.SsdOutRefIdeal.main_arg1)
          ∧ r.2.mem ((c.tc : Thread Cert.SsdOutRefIdeal.nD Cert.SsdOutRefIdeal.τ).loc Cert.SsdOutRefIdeal.main_arg2) = m' ((c.tc : Thread Cert.SsdOutRefIdeal.nD Cert.SsdOutRefIdeal.τ).loc Cert.SsdOutRefIdeal.main_arg2)
          ∧ r.2.mem ((c.tc : Thread Cert.SsdOutRefIdeal.nD Cert.SsdOutRefIdeal.τ).loc Cert.SsdOutRefIdeal.main_arg3) = m' ((c.tc : Thread Cert.SsdOutRefIdeal.nD Cert.SsdOutRefIdeal.τ).loc Cert.SsdOutRefIdeal.main_arg3))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)) →
    ∃ (v0 : (c : Dev Cert.AttnOutIdeal.nD) → Buf (Elt Ideal) ((c.tc : Thread Cert.AttnOutIdeal.nD Cert.AttnOutIdeal.τ).loc Cert.AttnOutIdeal.main_v0_0)) (v1 : (c : Dev Cert.AttnOutIdeal.nD) → Buf (Elt Ideal) ((c.tc : Thread Cert.AttnOutIdeal.nD Cert.AttnOutIdeal.τ).loc Cert.AttnOutIdeal.main_v0_1)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0_0) = v0 c
          ∧ r.2.mem ((c.tc : Thread Cert.AttnOutIdeal.nD Cert.AttnOutIdeal.τ).loc Cert.AttnOutIdeal.main_v0_1) = v1 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v2) = v0 c
          ∧ r.2.mem ((c.tc : Thread Cert.AttnOutRefIdeal.nD Cert.AttnOutRefIdeal.τ).loc Cert.AttnOutRefIdeal.main_v19) = v1 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v0_0)) (v1 : (c : Dev Cert.FfnDownIdeal.nD) → Buf (Elt Ideal) ((c.tc : Thread Cert.FfnDownIdeal.nD Cert.FfnDownIdeal.τ).loc Cert.FfnDownIdeal.main_v0_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0_0) = v0 c
          ∧ r.2.mem ((c.tc : Thread Cert.FfnDownIdeal.nD Cert.FfnDownIdeal.τ).loc Cert.FfnDownIdeal.main_v0_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_v19) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_GateFfn_GateFfnIdeal : Prop :=
  True

def algebraic_GateFfnIdeal_GateFfnRefIdeal [hGateFfnIdeal : Cert.GateFfnIdeal.Facts] [hGateFfnRefIdeal : Cert.GateFfnRefIdeal.Facts] : Prop :=
  ∀ (m : (ℓ : Loc Cert.GateFfnIdeal.nD Cert.GateFfnIdeal.τ Cert.GateFfnIdeal.sig) → Buf (Elt Ideal) ℓ) (g : Dev Cert.GateFfnIdeal.nD → PrngReg)
    (m' : (ℓ : Loc Cert.GateFfnRefIdeal.nD Cert.GateFfnRefIdeal.τ Cert.GateFfnRefIdeal.sig) → Buf (Elt Ideal) ℓ) (g' : Dev Cert.GateFfnRefIdeal.nD → PrngReg), Pre_GateFfnIdeal m →
    (∀ c : Dev Cert.GateFfnIdeal.nD,
      m' ((c.tc : Thread Cert.GateFfnRefIdeal.nD Cert.GateFfnRefIdeal.τ).loc Cert.GateFfnRefIdeal.main_arg0) = m ((c.tc : Thread Cert.GateFfnIdeal.nD Cert.GateFfnIdeal.τ).loc Cert.GateFfnIdeal.main_arg0)
      ∧ m' ((c.tc : Thread Cert.GateFfnRefIdeal.nD Cert.GateFfnRefIdeal.τ).loc Cert.GateFfnRefIdeal.main_arg1) = m ((c.tc : Thread Cert.GateFfnIdeal.nD Cert.GateFfnIdeal.τ).loc Cert.GateFfnIdeal.main_arg1)
      ∧ m' ((c.tc : Thread Cert.GateFfnRefIdeal.nD Cert.GateFfnRefIdeal.τ).loc Cert.GateFfnRefIdeal.main_arg2) = m ((c.tc : Thread Cert.GateFfnIdeal.nD Cert.GateFfnIdeal.τ).loc Cert.GateFfnIdeal.main_arg2)) →
    ∃ (v0 : (c : Dev Cert.GateFfnIdeal.nD) → Buf (Elt Ideal) ((c.tc : Thread Cert.GateFfnIdeal.nD Cert.GateFfnIdeal.τ).loc Cert.GateFfnIdeal.main_v0_0)) (v1 : (c : Dev Cert.GateFfnIdeal.nD) → Buf (Elt Ideal) ((c.tc : Thread Cert.GateFfnIdeal.nD Cert.GateFfnIdeal.τ).loc Cert.GateFfnIdeal.main_v0_1)),
      θ_run (Cert.GateFfnIdeal.defs (F := Ideal)) (onTc (τ := Cert.GateFfnIdeal.τ) (Cert.GateFfnIdeal.main (F := Ideal))) ⟨m, fun _ => 0, g⟩ (fun r => ∀ c : Dev Cert.GateFfnIdeal.nD,
          r.2.mem ((c.tc : Thread Cert.GateFfnIdeal.nD Cert.GateFfnIdeal.τ).loc Cert.GateFfnIdeal.main_v0_0) = v0 c
          ∧ r.2.mem ((c.tc : Thread Cert.GateFfnIdeal.nD Cert.GateFfnIdeal.τ).loc Cert.GateFfnIdeal.main_v0_1) = v1 c
          ∧ r.2.mem ((c.tc : Thread Cert.GateFfnIdeal.nD Cert.GateFfnIdeal.τ).loc Cert.GateFfnIdeal.main_arg0) = m ((c.tc : Thread Cert.GateFfnIdeal.nD Cert.GateFfnIdeal.τ).loc Cert.GateFfnIdeal.main_arg0)
          ∧ r.2.mem ((c.tc : Thread Cert.GateFfnIdeal.nD Cert.GateFfnIdeal.τ).loc Cert.GateFfnIdeal.main_arg1) = m ((c.tc : Thread Cert.GateFfnIdeal.nD Cert.GateFfnIdeal.τ).loc Cert.GateFfnIdeal.main_arg1)
          ∧ r.2.mem ((c.tc : Thread Cert.GateFfnIdeal.nD Cert.GateFfnIdeal.τ).loc Cert.GateFfnIdeal.main_arg2) = m ((c.tc : Thread Cert.GateFfnIdeal.nD Cert.GateFfnIdeal.τ).loc Cert.GateFfnIdeal.main_arg2))
      ∧ θ_run (Cert.GateFfnRefIdeal.defs (F := Ideal)) (onTc (τ := Cert.GateFfnRefIdeal.τ) (Cert.GateFfnRefIdeal.main (F := Ideal))) ⟨m', fun _ => 0, g'⟩ (fun r => ∀ c : Dev Cert.GateFfnRefIdeal.nD,
          r.2.mem ((c.tc : Thread Cert.GateFfnRefIdeal.nD Cert.GateFfnRefIdeal.τ).loc Cert.GateFfnRefIdeal.main_v36) = v0 c
          ∧ r.2.mem ((c.tc : Thread Cert.GateFfnRefIdeal.nD Cert.GateFfnRefIdeal.τ).loc Cert.GateFfnRefIdeal.main_v34) = v1 c
          ∧ r.2.mem ((c.tc : Thread Cert.GateFfnRefIdeal.nD Cert.GateFfnRefIdeal.τ).loc Cert.GateFfnRefIdeal.main_arg0) = m' ((c.tc : Thread Cert.GateFfnRefIdeal.nD Cert.GateFfnRefIdeal.τ).loc Cert.GateFfnRefIdeal.main_arg0)
          ∧ r.2.mem ((c.tc : Thread Cert.GateFfnRefIdeal.nD Cert.GateFfnRefIdeal.τ).loc Cert.GateFfnRefIdeal.main_arg1) = m' ((c.tc : Thread Cert.GateFfnRefIdeal.nD Cert.GateFfnRefIdeal.τ).loc Cert.GateFfnRefIdeal.main_arg1)
          ∧ r.2.mem ((c.tc : Thread Cert.GateFfnRefIdeal.nD Cert.GateFfnRefIdeal.τ).loc Cert.GateFfnRefIdeal.main_arg2) = m' ((c.tc : Thread Cert.GateFfnRefIdeal.nD Cert.GateFfnRefIdeal.τ).loc Cert.GateFfnRefIdeal.main_arg2))

def preserves_GateMix_GateMixIdeal : Prop :=
  True

def algebraic_GateMixIdeal_GateMixRefIdeal [hGateMixIdeal : Cert.GateMixIdeal.Facts] [hGateMixRefIdeal : Cert.GateMixRefIdeal.Facts] : Prop :=
  ∀ (m : (ℓ : Loc Cert.GateMixIdeal.nD Cert.GateMixIdeal.τ Cert.GateMixIdeal.sig) → Buf (Elt Ideal) ℓ) (g : Dev Cert.GateMixIdeal.nD → PrngReg)
    (m' : (ℓ : Loc Cert.GateMixRefIdeal.nD Cert.GateMixRefIdeal.τ Cert.GateMixRefIdeal.sig) → Buf (Elt Ideal) ℓ) (g' : Dev Cert.GateMixRefIdeal.nD → PrngReg), Pre_GateMixIdeal m →
    (∀ c : Dev Cert.GateMixIdeal.nD,
      m' ((c.tc : Thread Cert.GateMixRefIdeal.nD Cert.GateMixRefIdeal.τ).loc Cert.GateMixRefIdeal.main_arg0) = m ((c.tc : Thread Cert.GateMixIdeal.nD Cert.GateMixIdeal.τ).loc Cert.GateMixIdeal.main_arg0)
      ∧ m' ((c.tc : Thread Cert.GateMixRefIdeal.nD Cert.GateMixRefIdeal.τ).loc Cert.GateMixRefIdeal.main_arg1) = m ((c.tc : Thread Cert.GateMixIdeal.nD Cert.GateMixIdeal.τ).loc Cert.GateMixIdeal.main_arg1)
      ∧ m' ((c.tc : Thread Cert.GateMixRefIdeal.nD Cert.GateMixRefIdeal.τ).loc Cert.GateMixRefIdeal.main_arg2) = m ((c.tc : Thread Cert.GateMixIdeal.nD Cert.GateMixIdeal.τ).loc Cert.GateMixIdeal.main_arg2)) →
    ∃ (v0 : (c : Dev Cert.GateMixIdeal.nD) → Buf (Elt Ideal) ((c.tc : Thread Cert.GateMixIdeal.nD Cert.GateMixIdeal.τ).loc Cert.GateMixIdeal.main_v0_0)) (v1 : (c : Dev Cert.GateMixIdeal.nD) → Buf (Elt Ideal) ((c.tc : Thread Cert.GateMixIdeal.nD Cert.GateMixIdeal.τ).loc Cert.GateMixIdeal.main_v0_1)),
      θ_run (Cert.GateMixIdeal.defs (F := Ideal)) (onTc (τ := Cert.GateMixIdeal.τ) (Cert.GateMixIdeal.main (F := Ideal))) ⟨m, fun _ => 0, g⟩ (fun r => ∀ c : Dev Cert.GateMixIdeal.nD,
          r.2.mem ((c.tc : Thread Cert.GateMixIdeal.nD Cert.GateMixIdeal.τ).loc Cert.GateMixIdeal.main_v0_0) = v0 c
          ∧ r.2.mem ((c.tc : Thread Cert.GateMixIdeal.nD Cert.GateMixIdeal.τ).loc Cert.GateMixIdeal.main_v0_1) = v1 c
          ∧ r.2.mem ((c.tc : Thread Cert.GateMixIdeal.nD Cert.GateMixIdeal.τ).loc Cert.GateMixIdeal.main_arg0) = m ((c.tc : Thread Cert.GateMixIdeal.nD Cert.GateMixIdeal.τ).loc Cert.GateMixIdeal.main_arg0)
          ∧ r.2.mem ((c.tc : Thread Cert.GateMixIdeal.nD Cert.GateMixIdeal.τ).loc Cert.GateMixIdeal.main_arg1) = m ((c.tc : Thread Cert.GateMixIdeal.nD Cert.GateMixIdeal.τ).loc Cert.GateMixIdeal.main_arg1)
          ∧ r.2.mem ((c.tc : Thread Cert.GateMixIdeal.nD Cert.GateMixIdeal.τ).loc Cert.GateMixIdeal.main_arg2) = m ((c.tc : Thread Cert.GateMixIdeal.nD Cert.GateMixIdeal.τ).loc Cert.GateMixIdeal.main_arg2))
      ∧ θ_run (Cert.GateMixRefIdeal.defs (F := Ideal)) (onTc (τ := Cert.GateMixRefIdeal.τ) (Cert.GateMixRefIdeal.main (F := Ideal))) ⟨m', fun _ => 0, g'⟩ (fun r => ∀ c : Dev Cert.GateMixRefIdeal.nD,
          r.2.mem ((c.tc : Thread Cert.GateMixRefIdeal.nD Cert.GateMixRefIdeal.τ).loc Cert.GateMixRefIdeal.main_v36) = v0 c
          ∧ r.2.mem ((c.tc : Thread Cert.GateMixRefIdeal.nD Cert.GateMixRefIdeal.τ).loc Cert.GateMixRefIdeal.main_v34) = v1 c
          ∧ r.2.mem ((c.tc : Thread Cert.GateMixRefIdeal.nD Cert.GateMixRefIdeal.τ).loc Cert.GateMixRefIdeal.main_arg0) = m' ((c.tc : Thread Cert.GateMixRefIdeal.nD Cert.GateMixRefIdeal.τ).loc Cert.GateMixRefIdeal.main_arg0)
          ∧ r.2.mem ((c.tc : Thread Cert.GateMixRefIdeal.nD Cert.GateMixRefIdeal.τ).loc Cert.GateMixRefIdeal.main_arg1) = m' ((c.tc : Thread Cert.GateMixRefIdeal.nD Cert.GateMixRefIdeal.τ).loc Cert.GateMixRefIdeal.main_arg1)
          ∧ r.2.mem ((c.tc : Thread Cert.GateMixRefIdeal.nD Cert.GateMixRefIdeal.τ).loc Cert.GateMixRefIdeal.main_arg2) = m' ((c.tc : Thread Cert.GateMixRefIdeal.nD Cert.GateMixRefIdeal.τ).loc Cert.GateMixRefIdeal.main_arg2))

def preserves_NormFfn_NormFfnIdeal : Prop :=
  True

def algebraic_NormFfnIdeal_NormFfnRefIdeal [hNormFfnIdeal : Cert.NormFfnIdeal.Facts] [hNormFfnRefIdeal : Cert.NormFfnRefIdeal.Facts] : Prop :=
  ∀ (m : (ℓ : Loc Cert.NormFfnIdeal.nD Cert.NormFfnIdeal.τ Cert.NormFfnIdeal.sig) → Buf (Elt Ideal) ℓ) (g : Dev Cert.NormFfnIdeal.nD → PrngReg)
    (m' : (ℓ : Loc Cert.NormFfnRefIdeal.nD Cert.NormFfnRefIdeal.τ Cert.NormFfnRefIdeal.sig) → Buf (Elt Ideal) ℓ) (g' : Dev Cert.NormFfnRefIdeal.nD → PrngReg), Pre_NormFfnIdeal m →
    (∀ c : Dev Cert.NormFfnIdeal.nD,
      m' ((c.tc : Thread Cert.NormFfnRefIdeal.nD Cert.NormFfnRefIdeal.τ).loc Cert.NormFfnRefIdeal.main_arg0) = m ((c.tc : Thread Cert.NormFfnIdeal.nD Cert.NormFfnIdeal.τ).loc Cert.NormFfnIdeal.main_arg0)
      ∧ m' ((c.tc : Thread Cert.NormFfnRefIdeal.nD Cert.NormFfnRefIdeal.τ).loc Cert.NormFfnRefIdeal.main_arg1) = m ((c.tc : Thread Cert.NormFfnIdeal.nD Cert.NormFfnIdeal.τ).loc Cert.NormFfnIdeal.main_arg1)
      ∧ m' ((c.tc : Thread Cert.NormFfnRefIdeal.nD Cert.NormFfnRefIdeal.τ).loc Cert.NormFfnRefIdeal.main_arg2) = m ((c.tc : Thread Cert.NormFfnIdeal.nD Cert.NormFfnIdeal.τ).loc Cert.NormFfnIdeal.main_arg2)
      ∧ m' ((c.tc : Thread Cert.NormFfnRefIdeal.nD Cert.NormFfnRefIdeal.τ).loc Cert.NormFfnRefIdeal.main_arg3) = m ((c.tc : Thread Cert.NormFfnIdeal.nD Cert.NormFfnIdeal.τ).loc Cert.NormFfnIdeal.main_arg3)
      ∧ m' ((c.tc : Thread Cert.NormFfnRefIdeal.nD Cert.NormFfnRefIdeal.τ).loc Cert.NormFfnRefIdeal.main_arg4) = m ((c.tc : Thread Cert.NormFfnIdeal.nD Cert.NormFfnIdeal.τ).loc Cert.NormFfnIdeal.main_arg4)) →
    ∃ (v0 : (c : Dev Cert.NormFfnIdeal.nD) → Buf (Elt Ideal) ((c.tc : Thread Cert.NormFfnIdeal.nD Cert.NormFfnIdeal.τ).loc Cert.NormFfnIdeal.main_v0_0)) (v1 : (c : Dev Cert.NormFfnIdeal.nD) → Buf (Elt Ideal) ((c.tc : Thread Cert.NormFfnIdeal.nD Cert.NormFfnIdeal.τ).loc Cert.NormFfnIdeal.main_v0_1)),
      θ_run (Cert.NormFfnIdeal.defs (F := Ideal)) (onTc (τ := Cert.NormFfnIdeal.τ) (Cert.NormFfnIdeal.main (F := Ideal))) ⟨m, fun _ => 0, g⟩ (fun r => ∀ c : Dev Cert.NormFfnIdeal.nD,
          r.2.mem ((c.tc : Thread Cert.NormFfnIdeal.nD Cert.NormFfnIdeal.τ).loc Cert.NormFfnIdeal.main_v0_0) = v0 c
          ∧ r.2.mem ((c.tc : Thread Cert.NormFfnIdeal.nD Cert.NormFfnIdeal.τ).loc Cert.NormFfnIdeal.main_v0_1) = v1 c
          ∧ r.2.mem ((c.tc : Thread Cert.NormFfnIdeal.nD Cert.NormFfnIdeal.τ).loc Cert.NormFfnIdeal.main_arg0) = m ((c.tc : Thread Cert.NormFfnIdeal.nD Cert.NormFfnIdeal.τ).loc Cert.NormFfnIdeal.main_arg0)
          ∧ r.2.mem ((c.tc : Thread Cert.NormFfnIdeal.nD Cert.NormFfnIdeal.τ).loc Cert.NormFfnIdeal.main_arg1) = m ((c.tc : Thread Cert.NormFfnIdeal.nD Cert.NormFfnIdeal.τ).loc Cert.NormFfnIdeal.main_arg1)
          ∧ r.2.mem ((c.tc : Thread Cert.NormFfnIdeal.nD Cert.NormFfnIdeal.τ).loc Cert.NormFfnIdeal.main_arg2) = m ((c.tc : Thread Cert.NormFfnIdeal.nD Cert.NormFfnIdeal.τ).loc Cert.NormFfnIdeal.main_arg2)
          ∧ r.2.mem ((c.tc : Thread Cert.NormFfnIdeal.nD Cert.NormFfnIdeal.τ).loc Cert.NormFfnIdeal.main_arg3) = m ((c.tc : Thread Cert.NormFfnIdeal.nD Cert.NormFfnIdeal.τ).loc Cert.NormFfnIdeal.main_arg3)
          ∧ r.2.mem ((c.tc : Thread Cert.NormFfnIdeal.nD Cert.NormFfnIdeal.τ).loc Cert.NormFfnIdeal.main_arg4) = m ((c.tc : Thread Cert.NormFfnIdeal.nD Cert.NormFfnIdeal.τ).loc Cert.NormFfnIdeal.main_arg4))
      ∧ θ_run (Cert.NormFfnRefIdeal.defs (F := Ideal)) (onTc (τ := Cert.NormFfnRefIdeal.τ) (Cert.NormFfnRefIdeal.main (F := Ideal))) ⟨m', fun _ => 0, g'⟩ (fun r => ∀ c : Dev Cert.NormFfnRefIdeal.nD,
          r.2.mem ((c.tc : Thread Cert.NormFfnRefIdeal.nD Cert.NormFfnRefIdeal.τ).loc Cert.NormFfnRefIdeal.main_v134) = v0 c
          ∧ r.2.mem ((c.tc : Thread Cert.NormFfnRefIdeal.nD Cert.NormFfnRefIdeal.τ).loc Cert.NormFfnRefIdeal.main_v138) = v1 c
          ∧ r.2.mem ((c.tc : Thread Cert.NormFfnRefIdeal.nD Cert.NormFfnRefIdeal.τ).loc Cert.NormFfnRefIdeal.main_arg0) = m' ((c.tc : Thread Cert.NormFfnRefIdeal.nD Cert.NormFfnRefIdeal.τ).loc Cert.NormFfnRefIdeal.main_arg0)
          ∧ r.2.mem ((c.tc : Thread Cert.NormFfnRefIdeal.nD Cert.NormFfnRefIdeal.τ).loc Cert.NormFfnRefIdeal.main_arg1) = m' ((c.tc : Thread Cert.NormFfnRefIdeal.nD Cert.NormFfnRefIdeal.τ).loc Cert.NormFfnRefIdeal.main_arg1)
          ∧ r.2.mem ((c.tc : Thread Cert.NormFfnRefIdeal.nD Cert.NormFfnRefIdeal.τ).loc Cert.NormFfnRefIdeal.main_arg2) = m' ((c.tc : Thread Cert.NormFfnRefIdeal.nD Cert.NormFfnRefIdeal.τ).loc Cert.NormFfnRefIdeal.main_arg2)
          ∧ r.2.mem ((c.tc : Thread Cert.NormFfnRefIdeal.nD Cert.NormFfnRefIdeal.τ).loc Cert.NormFfnRefIdeal.main_arg3) = m' ((c.tc : Thread Cert.NormFfnRefIdeal.nD Cert.NormFfnRefIdeal.τ).loc Cert.NormFfnRefIdeal.main_arg3)
          ∧ r.2.mem ((c.tc : Thread Cert.NormFfnRefIdeal.nD Cert.NormFfnRefIdeal.τ).loc Cert.NormFfnRefIdeal.main_arg4) = m' ((c.tc : Thread Cert.NormFfnRefIdeal.nD Cert.NormFfnRefIdeal.τ).loc Cert.NormFfnRefIdeal.main_arg4))

def preserves_NormMix_NormMixIdeal : Prop :=
  True

def algebraic_NormMixIdeal_NormMixRefIdeal [hNormMixIdeal : Cert.NormMixIdeal.Facts] [hNormMixRefIdeal : Cert.NormMixRefIdeal.Facts] : Prop :=
  ∀ (m : (ℓ : Loc Cert.NormMixIdeal.nD Cert.NormMixIdeal.τ Cert.NormMixIdeal.sig) → Buf (Elt Ideal) ℓ) (g : Dev Cert.NormMixIdeal.nD → PrngReg)
    (m' : (ℓ : Loc Cert.NormMixRefIdeal.nD Cert.NormMixRefIdeal.τ Cert.NormMixRefIdeal.sig) → Buf (Elt Ideal) ℓ) (g' : Dev Cert.NormMixRefIdeal.nD → PrngReg), Pre_NormMixIdeal m →
    (∀ c : Dev Cert.NormMixIdeal.nD,
      m' ((c.tc : Thread Cert.NormMixRefIdeal.nD Cert.NormMixRefIdeal.τ).loc Cert.NormMixRefIdeal.main_arg0) = m ((c.tc : Thread Cert.NormMixIdeal.nD Cert.NormMixIdeal.τ).loc Cert.NormMixIdeal.main_arg0)
      ∧ m' ((c.tc : Thread Cert.NormMixRefIdeal.nD Cert.NormMixRefIdeal.τ).loc Cert.NormMixRefIdeal.main_arg1) = m ((c.tc : Thread Cert.NormMixIdeal.nD Cert.NormMixIdeal.τ).loc Cert.NormMixIdeal.main_arg1)
      ∧ m' ((c.tc : Thread Cert.NormMixRefIdeal.nD Cert.NormMixRefIdeal.τ).loc Cert.NormMixRefIdeal.main_arg2) = m ((c.tc : Thread Cert.NormMixIdeal.nD Cert.NormMixIdeal.τ).loc Cert.NormMixIdeal.main_arg2)
      ∧ m' ((c.tc : Thread Cert.NormMixRefIdeal.nD Cert.NormMixRefIdeal.τ).loc Cert.NormMixRefIdeal.main_arg3) = m ((c.tc : Thread Cert.NormMixIdeal.nD Cert.NormMixIdeal.τ).loc Cert.NormMixIdeal.main_arg3)
      ∧ m' ((c.tc : Thread Cert.NormMixRefIdeal.nD Cert.NormMixRefIdeal.τ).loc Cert.NormMixRefIdeal.main_arg4) = m ((c.tc : Thread Cert.NormMixIdeal.nD Cert.NormMixIdeal.τ).loc Cert.NormMixIdeal.main_arg4)) →
    ∃ (v0 : (c : Dev Cert.NormMixIdeal.nD) → Buf (Elt Ideal) ((c.tc : Thread Cert.NormMixIdeal.nD Cert.NormMixIdeal.τ).loc Cert.NormMixIdeal.main_v0_0)) (v1 : (c : Dev Cert.NormMixIdeal.nD) → Buf (Elt Ideal) ((c.tc : Thread Cert.NormMixIdeal.nD Cert.NormMixIdeal.τ).loc Cert.NormMixIdeal.main_v0_1)),
      θ_run (Cert.NormMixIdeal.defs (F := Ideal)) (onTc (τ := Cert.NormMixIdeal.τ) (Cert.NormMixIdeal.main (F := Ideal))) ⟨m, fun _ => 0, g⟩ (fun r => ∀ c : Dev Cert.NormMixIdeal.nD,
          r.2.mem ((c.tc : Thread Cert.NormMixIdeal.nD Cert.NormMixIdeal.τ).loc Cert.NormMixIdeal.main_v0_0) = v0 c
          ∧ r.2.mem ((c.tc : Thread Cert.NormMixIdeal.nD Cert.NormMixIdeal.τ).loc Cert.NormMixIdeal.main_v0_1) = v1 c
          ∧ r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
          ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1)
          ∧ r.2.mem ((c.tc : Thread Cert.NormMixIdeal.nD Cert.NormMixIdeal.τ).loc Cert.NormMixIdeal.main_arg2) = m ((c.tc : Thread Cert.NormMixIdeal.nD Cert.NormMixIdeal.τ).loc Cert.NormMixIdeal.main_arg2)
          ∧ r.2.mem ((c.tc : Thread Cert.NormMixIdeal.nD Cert.NormMixIdeal.τ).loc Cert.NormMixIdeal.main_arg3) = m ((c.tc : Thread Cert.NormMixIdeal.nD Cert.NormMixIdeal.τ).loc Cert.NormMixIdeal.main_arg3)
          ∧ r.2.mem ((c.tc : Thread Cert.NormMixIdeal.nD Cert.NormMixIdeal.τ).loc Cert.NormMixIdeal.main_arg4) = m ((c.tc : Thread Cert.NormMixIdeal.nD Cert.NormMixIdeal.τ).loc Cert.NormMixIdeal.main_arg4))
      ∧ θ_run (Cert.NormMixRefIdeal.defs (F := Ideal)) (onTc (τ := Cert.NormMixRefIdeal.τ) (Cert.NormMixRefIdeal.main (F := Ideal))) ⟨m', fun _ => 0, g'⟩ (fun r => ∀ c : Dev Cert.NormMixRefIdeal.nD,
          r.2.mem ((c.tc : Thread Cert.NormMixRefIdeal.nD Cert.NormMixRefIdeal.τ).loc Cert.NormMixRefIdeal.main_v134) = v0 c
          ∧ r.2.mem ((c.tc : Thread Cert.NormMixRefIdeal.nD Cert.NormMixRefIdeal.τ).loc Cert.NormMixRefIdeal.main_v138) = v1 c
          ∧ r.2.mem ((c.tc : Thread Cert.NormMixRefIdeal.nD Cert.NormMixRefIdeal.τ).loc Cert.NormMixRefIdeal.main_arg0) = m' ((c.tc : Thread Cert.NormMixRefIdeal.nD Cert.NormMixRefIdeal.τ).loc Cert.NormMixRefIdeal.main_arg0)
          ∧ r.2.mem ((c.tc : Thread Cert.NormMixRefIdeal.nD Cert.NormMixRefIdeal.τ).loc Cert.NormMixRefIdeal.main_arg1) = m' ((c.tc : Thread Cert.NormMixRefIdeal.nD Cert.NormMixRefIdeal.τ).loc Cert.NormMixRefIdeal.main_arg1)
          ∧ r.2.mem ((c.tc : Thread Cert.NormMixRefIdeal.nD Cert.NormMixRefIdeal.τ).loc Cert.NormMixRefIdeal.main_arg2) = m' ((c.tc : Thread Cert.NormMixRefIdeal.nD Cert.NormMixRefIdeal.τ).loc Cert.NormMixRefIdeal.main_arg2)
          ∧ r.2.mem ((c.tc : Thread Cert.NormMixRefIdeal.nD Cert.NormMixRefIdeal.τ).loc Cert.NormMixRefIdeal.main_arg3) = m' ((c.tc : Thread Cert.NormMixRefIdeal.nD Cert.NormMixRefIdeal.τ).loc Cert.NormMixRefIdeal.main_arg3)
          ∧ r.2.mem ((c.tc : Thread Cert.NormMixRefIdeal.nD Cert.NormMixRefIdeal.τ).loc Cert.NormMixRefIdeal.main_arg4) = m' ((c.tc : Thread Cert.NormMixRefIdeal.nD Cert.NormMixRefIdeal.τ).loc Cert.NormMixRefIdeal.main_arg4))

def preserves_FfnMid_FfnMidIdeal : Prop :=
  True

def algebraic_FfnMidIdeal_FfnMidRefIdeal_pre_finite_ffn [hFfnMidIdeal : Cert.FfnMidIdeal.Facts] [hFfnMidRefIdeal : Cert.FfnMidRefIdeal.Facts] [hPre_finite_ffn : Cert.Pre_finite_ffn.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal_finite_ffn m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)
      ∧ m' ((c.tc : Thread Cert.FfnMidRefIdeal.nD Cert.FfnMidRefIdeal.τ).loc Cert.FfnMidRefIdeal.main_arg3) = m ((c.tc : Thread Cert.FfnMidIdeal.nD Cert.FfnMidIdeal.τ).loc Cert.FfnMidIdeal.main_arg3)) →
    ∃ (v0 : (c : Dev Cert.FfnMidIdeal.nD) → Buf (Elt Ideal) ((c.tc : Thread Cert.FfnMidIdeal.nD Cert.FfnMidIdeal.τ).loc Cert.FfnMidIdeal.main_v0_0)) (v1 : (c : Dev Cert.FfnMidIdeal.nD) → Buf (Elt Ideal) ((c.tc : Thread Cert.FfnMidIdeal.nD Cert.FfnMidIdeal.τ).loc Cert.FfnMidIdeal.main_v0_1)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v0_0) = v0 c
          ∧ r.2.mem ((c.tc : Thread Cert.FfnMidIdeal.nD Cert.FfnMidIdeal.τ).loc Cert.FfnMidIdeal.main_v0_1) = v1 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v175) = v0 c
          ∧ r.2.mem ((c.tc : Thread Cert.FfnMidRefIdeal.nD Cert.FfnMidRefIdeal.τ).loc Cert.FfnMidRefIdeal.main_v181) = v1 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2)
          ∧ r.2.mem ((c.tc : Thread Cert.FfnMidRefIdeal.nD Cert.FfnMidRefIdeal.τ).loc Cert.FfnMidRefIdeal.main_arg3) = m' ((c.tc : Thread Cert.FfnMidRefIdeal.nD Cert.FfnMidRefIdeal.τ).loc Cert.FfnMidRefIdeal.main_arg3))

def preserves_NormFfnFwd_NormFfnFwdIdeal : Prop :=
  True

def algebraic_NormFfnFwdIdeal_NormFfnFwdRefIdeal [hNormFfnFwdIdeal : Cert.NormFfnFwdIdeal.Facts] [hNormFfnFwdRefIdeal : Cert.NormFfnFwdRefIdeal.Facts] : Prop :=
  ∀ (m : (ℓ : Loc Cert.NormFfnFwdIdeal.nD Cert.NormFfnFwdIdeal.τ Cert.NormFfnFwdIdeal.sig) → Buf (Elt Ideal) ℓ) (g : Dev Cert.NormFfnFwdIdeal.nD → PrngReg)
    (m' : (ℓ : Loc Cert.NormFfnFwdRefIdeal.nD Cert.NormFfnFwdRefIdeal.τ Cert.NormFfnFwdRefIdeal.sig) → Buf (Elt Ideal) ℓ) (g' : Dev Cert.NormFfnFwdRefIdeal.nD → PrngReg), Pre_NormFfnFwdIdeal m →
    (∀ c : Dev Cert.NormFfnFwdIdeal.nD,
      m' ((c.tc : Thread Cert.NormFfnFwdRefIdeal.nD Cert.NormFfnFwdRefIdeal.τ).loc Cert.NormFfnFwdRefIdeal.main_arg0) = m ((c.tc : Thread Cert.NormFfnFwdIdeal.nD Cert.NormFfnFwdIdeal.τ).loc Cert.NormFfnFwdIdeal.main_arg0)
      ∧ m' ((c.tc : Thread Cert.NormFfnFwdRefIdeal.nD Cert.NormFfnFwdRefIdeal.τ).loc Cert.NormFfnFwdRefIdeal.main_arg1) = m ((c.tc : Thread Cert.NormFfnFwdIdeal.nD Cert.NormFfnFwdIdeal.τ).loc Cert.NormFfnFwdIdeal.main_arg1)
      ∧ m' ((c.tc : Thread Cert.NormFfnFwdRefIdeal.nD Cert.NormFfnFwdRefIdeal.τ).loc Cert.NormFfnFwdRefIdeal.main_arg2) = m ((c.tc : Thread Cert.NormFfnFwdIdeal.nD Cert.NormFfnFwdIdeal.τ).loc Cert.NormFfnFwdIdeal.main_arg2)) →
    ∃ (v0 : (c : Dev Cert.NormFfnFwdIdeal.nD) → Buf (Elt Ideal) ((c.tc : Thread Cert.NormFfnFwdIdeal.nD Cert.NormFfnFwdIdeal.τ).loc Cert.NormFfnFwdIdeal.main_v0)),
      θ_run (Cert.NormFfnFwdIdeal.defs (F := Ideal)) (onTc (τ := Cert.NormFfnFwdIdeal.τ) (Cert.NormFfnFwdIdeal.main (F := Ideal))) ⟨m, fun _ => 0, g⟩ (fun r => ∀ c : Dev Cert.NormFfnFwdIdeal.nD,
          r.2.mem ((c.tc : Thread Cert.NormFfnFwdIdeal.nD Cert.NormFfnFwdIdeal.τ).loc Cert.NormFfnFwdIdeal.main_v0) = v0 c
          ∧ r.2.mem ((c.tc : Thread Cert.NormFfnFwdIdeal.nD Cert.NormFfnFwdIdeal.τ).loc Cert.NormFfnFwdIdeal.main_arg0) = m ((c.tc : Thread Cert.NormFfnFwdIdeal.nD Cert.NormFfnFwdIdeal.τ).loc Cert.NormFfnFwdIdeal.main_arg0)
          ∧ r.2.mem ((c.tc : Thread Cert.NormFfnFwdIdeal.nD Cert.NormFfnFwdIdeal.τ).loc Cert.NormFfnFwdIdeal.main_arg1) = m ((c.tc : Thread Cert.NormFfnFwdIdeal.nD Cert.NormFfnFwdIdeal.τ).loc Cert.NormFfnFwdIdeal.main_arg1)
          ∧ r.2.mem ((c.tc : Thread Cert.NormFfnFwdIdeal.nD Cert.NormFfnFwdIdeal.τ).loc Cert.NormFfnFwdIdeal.main_arg2) = m ((c.tc : Thread Cert.NormFfnFwdIdeal.nD Cert.NormFfnFwdIdeal.τ).loc Cert.NormFfnFwdIdeal.main_arg2))
      ∧ θ_run (Cert.NormFfnFwdRefIdeal.defs (F := Ideal)) (onTc (τ := Cert.NormFfnFwdRefIdeal.τ) (Cert.NormFfnFwdRefIdeal.main (F := Ideal))) ⟨m', fun _ => 0, g'⟩ (fun r => ∀ c : Dev Cert.NormFfnFwdRefIdeal.nD,
          r.2.mem ((c.tc : Thread Cert.NormFfnFwdRefIdeal.nD Cert.NormFfnFwdRefIdeal.τ).loc Cert.NormFfnFwdRefIdeal.main_v59) = v0 c
          ∧ r.2.mem ((c.tc : Thread Cert.NormFfnFwdRefIdeal.nD Cert.NormFfnFwdRefIdeal.τ).loc Cert.NormFfnFwdRefIdeal.main_arg0) = m' ((c.tc : Thread Cert.NormFfnFwdRefIdeal.nD Cert.NormFfnFwdRefIdeal.τ).loc Cert.NormFfnFwdRefIdeal.main_arg0)
          ∧ r.2.mem ((c.tc : Thread Cert.NormFfnFwdRefIdeal.nD Cert.NormFfnFwdRefIdeal.τ).loc Cert.NormFfnFwdRefIdeal.main_arg1) = m' ((c.tc : Thread Cert.NormFfnFwdRefIdeal.nD Cert.NormFfnFwdRefIdeal.τ).loc Cert.NormFfnFwdRefIdeal.main_arg1)
          ∧ r.2.mem ((c.tc : Thread Cert.NormFfnFwdRefIdeal.nD Cert.NormFfnFwdRefIdeal.τ).loc Cert.NormFfnFwdRefIdeal.main_arg2) = m' ((c.tc : Thread Cert.NormFfnFwdRefIdeal.nD Cert.NormFfnFwdRefIdeal.τ).loc Cert.NormFfnFwdRefIdeal.main_arg2))

def preserves_NormMixFwd_NormMixFwdIdeal : Prop :=
  True

def algebraic_NormMixFwdIdeal_NormMixFwdRefIdeal [hNormMixFwdIdeal : Cert.NormMixFwdIdeal.Facts] [hNormMixFwdRefIdeal : Cert.NormMixFwdRefIdeal.Facts] : Prop :=
  ∀ (m : (ℓ : Loc Cert.NormMixFwdIdeal.nD Cert.NormMixFwdIdeal.τ Cert.NormMixFwdIdeal.sig) → Buf (Elt Ideal) ℓ) (g : Dev Cert.NormMixFwdIdeal.nD → PrngReg)
    (m' : (ℓ : Loc Cert.NormMixFwdRefIdeal.nD Cert.NormMixFwdRefIdeal.τ Cert.NormMixFwdRefIdeal.sig) → Buf (Elt Ideal) ℓ) (g' : Dev Cert.NormMixFwdRefIdeal.nD → PrngReg), Pre_NormMixFwdIdeal m →
    (∀ c : Dev Cert.NormMixFwdIdeal.nD,
      m' ((c.tc : Thread Cert.NormMixFwdRefIdeal.nD Cert.NormMixFwdRefIdeal.τ).loc Cert.NormMixFwdRefIdeal.main_arg0) = m ((c.tc : Thread Cert.NormMixFwdIdeal.nD Cert.NormMixFwdIdeal.τ).loc Cert.NormMixFwdIdeal.main_arg0)
      ∧ m' ((c.tc : Thread Cert.NormMixFwdRefIdeal.nD Cert.NormMixFwdRefIdeal.τ).loc Cert.NormMixFwdRefIdeal.main_arg1) = m ((c.tc : Thread Cert.NormMixFwdIdeal.nD Cert.NormMixFwdIdeal.τ).loc Cert.NormMixFwdIdeal.main_arg1)
      ∧ m' ((c.tc : Thread Cert.NormMixFwdRefIdeal.nD Cert.NormMixFwdRefIdeal.τ).loc Cert.NormMixFwdRefIdeal.main_arg2) = m ((c.tc : Thread Cert.NormMixFwdIdeal.nD Cert.NormMixFwdIdeal.τ).loc Cert.NormMixFwdIdeal.main_arg2)) →
    ∃ (v0 : (c : Dev Cert.NormMixFwdIdeal.nD) → Buf (Elt Ideal) ((c.tc : Thread Cert.NormMixFwdIdeal.nD Cert.NormMixFwdIdeal.τ).loc Cert.NormMixFwdIdeal.main_v0)),
      θ_run (Cert.NormMixFwdIdeal.defs (F := Ideal)) (onTc (τ := Cert.NormMixFwdIdeal.τ) (Cert.NormMixFwdIdeal.main (F := Ideal))) ⟨m, fun _ => 0, g⟩ (fun r => ∀ c : Dev Cert.NormMixFwdIdeal.nD,
          r.2.mem ((c.tc : Thread Cert.NormMixFwdIdeal.nD Cert.NormMixFwdIdeal.τ).loc Cert.NormMixFwdIdeal.main_v0) = v0 c
          ∧ r.2.mem ((c.tc : Thread Cert.NormMixFwdIdeal.nD Cert.NormMixFwdIdeal.τ).loc Cert.NormMixFwdIdeal.main_arg0) = m ((c.tc : Thread Cert.NormMixFwdIdeal.nD Cert.NormMixFwdIdeal.τ).loc Cert.NormMixFwdIdeal.main_arg0)
          ∧ r.2.mem ((c.tc : Thread Cert.NormMixFwdIdeal.nD Cert.NormMixFwdIdeal.τ).loc Cert.NormMixFwdIdeal.main_arg1) = m ((c.tc : Thread Cert.NormMixFwdIdeal.nD Cert.NormMixFwdIdeal.τ).loc Cert.NormMixFwdIdeal.main_arg1)
          ∧ r.2.mem ((c.tc : Thread Cert.NormMixFwdIdeal.nD Cert.NormMixFwdIdeal.τ).loc Cert.NormMixFwdIdeal.main_arg2) = m ((c.tc : Thread Cert.NormMixFwdIdeal.nD Cert.NormMixFwdIdeal.τ).loc Cert.NormMixFwdIdeal.main_arg2))
      ∧ θ_run (Cert.NormMixFwdRefIdeal.defs (F := Ideal)) (onTc (τ := Cert.NormMixFwdRefIdeal.τ) (Cert.NormMixFwdRefIdeal.main (F := Ideal))) ⟨m', fun _ => 0, g'⟩ (fun r => ∀ c : Dev Cert.NormMixFwdRefIdeal.nD,
          r.2.mem ((c.tc : Thread Cert.NormMixFwdRefIdeal.nD Cert.NormMixFwdRefIdeal.τ).loc Cert.NormMixFwdRefIdeal.main_v59) = v0 c
          ∧ r.2.mem ((c.tc : Thread Cert.NormMixFwdRefIdeal.nD Cert.NormMixFwdRefIdeal.τ).loc Cert.NormMixFwdRefIdeal.main_arg0) = m' ((c.tc : Thread Cert.NormMixFwdRefIdeal.nD Cert.NormMixFwdRefIdeal.τ).loc Cert.NormMixFwdRefIdeal.main_arg0)
          ∧ r.2.mem ((c.tc : Thread Cert.NormMixFwdRefIdeal.nD Cert.NormMixFwdRefIdeal.τ).loc Cert.NormMixFwdRefIdeal.main_arg1) = m' ((c.tc : Thread Cert.NormMixFwdRefIdeal.nD Cert.NormMixFwdRefIdeal.τ).loc Cert.NormMixFwdRefIdeal.main_arg1)
          ∧ r.2.mem ((c.tc : Thread Cert.NormMixFwdRefIdeal.nD Cert.NormMixFwdRefIdeal.τ).loc Cert.NormMixFwdRefIdeal.main_arg2) = m' ((c.tc : Thread Cert.NormMixFwdRefIdeal.nD Cert.NormMixFwdRefIdeal.τ).loc Cert.NormMixFwdRefIdeal.main_arg2))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hSsdOutDx : Cert.SsdOutDx.Facts) (hSsdOutDxIdeal : Cert.SsdOutDxIdeal.Facts) (hSsdOutDxRefIdeal : Cert.SsdOutDxRefIdeal.Facts) (hSsdOutDw : Cert.SsdOutDw.Facts) (hSsdOutDwIdeal : Cert.SsdOutDwIdeal.Facts) (hSsdOutDwRefIdeal : Cert.SsdOutDwRefIdeal.Facts) (hSsdInDx : Cert.SsdInDx.Facts) (hSsdInDxIdeal : Cert.SsdInDxIdeal.Facts) (hSsdInDxRefIdeal : Cert.SsdInDxRefIdeal.Facts) (hSsdInDw : Cert.SsdInDw.Facts) (hSsdInDwIdeal : Cert.SsdInDwIdeal.Facts) (hSsdInDwRefIdeal : Cert.SsdInDwRefIdeal.Facts) (hAttnOutDx : Cert.AttnOutDx.Facts) (hAttnOutDxIdeal : Cert.AttnOutDxIdeal.Facts) (hAttnOutDxRefIdeal : Cert.AttnOutDxRefIdeal.Facts) (hAttnOutDw : Cert.AttnOutDw.Facts) (hAttnOutDwIdeal : Cert.AttnOutDwIdeal.Facts) (hAttnOutDwRefIdeal : Cert.AttnOutDwRefIdeal.Facts) (hQkvDx : Cert.QkvDx.Facts) (hQkvDxIdeal : Cert.QkvDxIdeal.Facts) (hQkvDxRefIdeal : Cert.QkvDxRefIdeal.Facts) (hQkvDw : Cert.QkvDw.Facts) (hQkvDwIdeal : Cert.QkvDwIdeal.Facts) (hQkvDwRefIdeal : Cert.QkvDwRefIdeal.Facts) (hSsdIn : Cert.SsdIn.Facts) (hSsdInIdeal : Cert.SsdInIdeal.Facts) (hSsdInRefIdeal : Cert.SsdInRefIdeal.Facts) (hQkv : Cert.Qkv.Facts) (hQkvIdeal : Cert.QkvIdeal.Facts) (hQkvRefIdeal : Cert.QkvRefIdeal.Facts) (hFfnUp : Cert.FfnUp.Facts) (hFfnUpIdeal : Cert.FfnUpIdeal.Facts) (hFfnUpRefIdeal : Cert.FfnUpRefIdeal.Facts) (hSsdOut : Cert.SsdOut.Facts) (hSsdOutIdeal : Cert.SsdOutIdeal.Facts) (hSsdOutRefIdeal : Cert.SsdOutRefIdeal.Facts) (hAttnOut : Cert.AttnOut.Facts) (hAttnOutIdeal : Cert.AttnOutIdeal.Facts) (hAttnOutRefIdeal : Cert.AttnOutRefIdeal.Facts) (hFfnDown : Cert.FfnDown.Facts) (hFfnDownIdeal : Cert.FfnDownIdeal.Facts) (hFfnDownRefIdeal : Cert.FfnDownRefIdeal.Facts) (hGateFfn : Cert.GateFfn.Facts) (hGateFfnIdeal : Cert.GateFfnIdeal.Facts) (hGateFfnRefIdeal : Cert.GateFfnRefIdeal.Facts) (hGateMix : Cert.GateMix.Facts) (hGateMixIdeal : Cert.GateMixIdeal.Facts) (hGateMixRefIdeal : Cert.GateMixRefIdeal.Facts) (hNormFfn : Cert.NormFfn.Facts) (hNormFfnIdeal : Cert.NormFfnIdeal.Facts) (hNormFfnRefIdeal : Cert.NormFfnRefIdeal.Facts) (hNormMix : Cert.NormMix.Facts) (hNormMixIdeal : Cert.NormMixIdeal.Facts) (hNormMixRefIdeal : Cert.NormMixRefIdeal.Facts) (hFfnMid : Cert.FfnMid.Facts) (hFfnMidIdeal : Cert.FfnMidIdeal.Facts) (hFfnMidRefIdeal : Cert.FfnMidRefIdeal.Facts) (hNormFfnFwd : Cert.NormFfnFwd.Facts) (hNormFfnFwdIdeal : Cert.NormFfnFwdIdeal.Facts) (hNormFfnFwdRefIdeal : Cert.NormFfnFwdRefIdeal.Facts) (hNormMixFwd : Cert.NormMixFwd.Facts) (hNormMixFwdIdeal : Cert.NormMixFwdIdeal.Facts) (hNormMixFwdRefIdeal : Cert.NormMixFwdRefIdeal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_SsdOutDx (hSsdOutDx := hSsdOutDx)
    ∧ quiescent_SsdOutDxIdeal (hSsdOutDxIdeal := hSsdOutDxIdeal)
    ∧ quiescent_SsdOutDxRefIdeal (hSsdOutDxRefIdeal := hSsdOutDxRefIdeal)
    ∧ quiescent_SsdOutDw (hSsdOutDw := hSsdOutDw)
    ∧ quiescent_SsdOutDwIdeal (hSsdOutDwIdeal := hSsdOutDwIdeal)
    ∧ quiescent_SsdOutDwRefIdeal (hSsdOutDwRefIdeal := hSsdOutDwRefIdeal)
    ∧ quiescent_SsdInDx (hSsdInDx := hSsdInDx)
    ∧ quiescent_SsdInDxIdeal (hSsdInDxIdeal := hSsdInDxIdeal)
    ∧ quiescent_SsdInDxRefIdeal (hSsdInDxRefIdeal := hSsdInDxRefIdeal)
    ∧ quiescent_SsdInDw (hSsdInDw := hSsdInDw)
    ∧ quiescent_SsdInDwIdeal (hSsdInDwIdeal := hSsdInDwIdeal)
    ∧ quiescent_SsdInDwRefIdeal (hSsdInDwRefIdeal := hSsdInDwRefIdeal)
    ∧ quiescent_AttnOutDx (hAttnOutDx := hAttnOutDx)
    ∧ quiescent_AttnOutDxIdeal (hAttnOutDxIdeal := hAttnOutDxIdeal)
    ∧ quiescent_AttnOutDxRefIdeal (hAttnOutDxRefIdeal := hAttnOutDxRefIdeal)
    ∧ quiescent_AttnOutDw (hAttnOutDw := hAttnOutDw)
    ∧ quiescent_AttnOutDwIdeal (hAttnOutDwIdeal := hAttnOutDwIdeal)
    ∧ quiescent_AttnOutDwRefIdeal (hAttnOutDwRefIdeal := hAttnOutDwRefIdeal)
    ∧ quiescent_QkvDx (hQkvDx := hQkvDx)
    ∧ quiescent_QkvDxIdeal (hQkvDxIdeal := hQkvDxIdeal)
    ∧ quiescent_QkvDxRefIdeal (hQkvDxRefIdeal := hQkvDxRefIdeal)
    ∧ quiescent_QkvDw (hQkvDw := hQkvDw)
    ∧ quiescent_QkvDwIdeal (hQkvDwIdeal := hQkvDwIdeal)
    ∧ quiescent_QkvDwRefIdeal (hQkvDwRefIdeal := hQkvDwRefIdeal)
    ∧ quiescent_SsdIn (hSsdIn := hSsdIn)
    ∧ quiescent_SsdInIdeal (hSsdInIdeal := hSsdInIdeal)
    ∧ quiescent_SsdInRefIdeal (hSsdInRefIdeal := hSsdInRefIdeal)
    ∧ quiescent_Qkv (hQkv := hQkv)
    ∧ quiescent_QkvIdeal (hQkvIdeal := hQkvIdeal)
    ∧ quiescent_QkvRefIdeal (hQkvRefIdeal := hQkvRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_SsdOut (hSsdOut := hSsdOut)
    ∧ quiescent_SsdOutIdeal (hSsdOutIdeal := hSsdOutIdeal)
    ∧ quiescent_SsdOutRefIdeal (hSsdOutRefIdeal := hSsdOutRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_GateFfn (hGateFfn := hGateFfn)
    ∧ quiescent_GateFfnIdeal (hGateFfnIdeal := hGateFfnIdeal)
    ∧ quiescent_GateFfnRefIdeal (hGateFfnRefIdeal := hGateFfnRefIdeal)
    ∧ quiescent_GateMix (hGateMix := hGateMix)
    ∧ quiescent_GateMixIdeal (hGateMixIdeal := hGateMixIdeal)
    ∧ quiescent_GateMixRefIdeal (hGateMixRefIdeal := hGateMixRefIdeal)
    ∧ quiescent_NormFfn (hNormFfn := hNormFfn)
    ∧ quiescent_NormFfnIdeal (hNormFfnIdeal := hNormFfnIdeal)
    ∧ quiescent_NormFfnRefIdeal (hNormFfnRefIdeal := hNormFfnRefIdeal)
    ∧ quiescent_NormMix (hNormMix := hNormMix)
    ∧ quiescent_NormMixIdeal (hNormMixIdeal := hNormMixIdeal)
    ∧ quiescent_NormMixRefIdeal (hNormMixRefIdeal := hNormMixRefIdeal)
    ∧ quiescent_FfnMid (hFfnMid := hFfnMid)
    ∧ quiescent_FfnMidIdeal (hFfnMidIdeal := hFfnMidIdeal)
    ∧ quiescent_FfnMidIdeal_pre_finite_ffn (hFfnMidIdeal := hFfnMidIdeal) (hPre_finite_ffn := hPre_finite_ffn)
    ∧ quiescent_FfnMidRefIdeal (hFfnMidRefIdeal := hFfnMidRefIdeal)
    ∧ quiescent_FfnMidRefIdeal_pre_finite_ffn (hFfnMidRefIdeal := hFfnMidRefIdeal) (hPre_finite_ffn := hPre_finite_ffn)
    ∧ quiescent_NormFfnFwd (hNormFfnFwd := hNormFfnFwd)
    ∧ quiescent_NormFfnFwdIdeal (hNormFfnFwdIdeal := hNormFfnFwdIdeal)
    ∧ quiescent_NormFfnFwdRefIdeal (hNormFfnFwdRefIdeal := hNormFfnFwdRefIdeal)
    ∧ quiescent_NormMixFwd (hNormMixFwd := hNormMixFwd)
    ∧ quiescent_NormMixFwdIdeal (hNormMixFwdIdeal := hNormMixFwdIdeal)
    ∧ quiescent_NormMixFwdRefIdeal (hNormMixFwdRefIdeal := hNormMixFwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_SsdOutDx_SsdOutDxIdeal
    ∧ algebraic_SsdOutDxIdeal_SsdOutDxRefIdeal (hSsdOutDxIdeal := hSsdOutDxIdeal) (hSsdOutDxRefIdeal := hSsdOutDxRefIdeal)
    ∧ preserves_SsdOutDw_SsdOutDwIdeal
    ∧ algebraic_SsdOutDwIdeal_SsdOutDwRefIdeal (hSsdOutDwIdeal := hSsdOutDwIdeal) (hSsdOutDwRefIdeal := hSsdOutDwRefIdeal)
    ∧ preserves_SsdInDx_SsdInDxIdeal
    ∧ algebraic_SsdInDxIdeal_SsdInDxRefIdeal (hSsdInDxIdeal := hSsdInDxIdeal) (hSsdInDxRefIdeal := hSsdInDxRefIdeal)
    ∧ preserves_SsdInDw_SsdInDwIdeal
    ∧ algebraic_SsdInDwIdeal_SsdInDwRefIdeal (hSsdInDwIdeal := hSsdInDwIdeal) (hSsdInDwRefIdeal := hSsdInDwRefIdeal)
    ∧ preserves_AttnOutDx_AttnOutDxIdeal
    ∧ algebraic_AttnOutDxIdeal_AttnOutDxRefIdeal (hAttnOutDxIdeal := hAttnOutDxIdeal) (hAttnOutDxRefIdeal := hAttnOutDxRefIdeal)
    ∧ preserves_AttnOutDw_AttnOutDwIdeal
    ∧ algebraic_AttnOutDwIdeal_AttnOutDwRefIdeal (hAttnOutDwIdeal := hAttnOutDwIdeal) (hAttnOutDwRefIdeal := hAttnOutDwRefIdeal)
    ∧ preserves_QkvDx_QkvDxIdeal
    ∧ algebraic_QkvDxIdeal_QkvDxRefIdeal (hQkvDxIdeal := hQkvDxIdeal) (hQkvDxRefIdeal := hQkvDxRefIdeal)
    ∧ preserves_QkvDw_QkvDwIdeal
    ∧ algebraic_QkvDwIdeal_QkvDwRefIdeal (hQkvDwIdeal := hQkvDwIdeal) (hQkvDwRefIdeal := hQkvDwRefIdeal)
    ∧ preserves_SsdIn_SsdInIdeal
    ∧ algebraic_SsdInIdeal_SsdInRefIdeal (hSsdInIdeal := hSsdInIdeal) (hSsdInRefIdeal := hSsdInRefIdeal)
    ∧ preserves_Qkv_QkvIdeal
    ∧ algebraic_QkvIdeal_QkvRefIdeal (hQkvIdeal := hQkvIdeal) (hQkvRefIdeal := hQkvRefIdeal)
    ∧ preserves_FfnUp_FfnUpIdeal
    ∧ algebraic_FfnUpIdeal_FfnUpRefIdeal (hFfnUpIdeal := hFfnUpIdeal) (hFfnUpRefIdeal := hFfnUpRefIdeal)
    ∧ preserves_SsdOut_SsdOutIdeal
    ∧ algebraic_SsdOutIdeal_SsdOutRefIdeal (hSsdOutIdeal := hSsdOutIdeal) (hSsdOutRefIdeal := hSsdOutRefIdeal)
    ∧ preserves_AttnOut_AttnOutIdeal
    ∧ algebraic_AttnOutIdeal_AttnOutRefIdeal (hAttnOutIdeal := hAttnOutIdeal) (hAttnOutRefIdeal := hAttnOutRefIdeal)
    ∧ preserves_FfnDown_FfnDownIdeal
    ∧ algebraic_FfnDownIdeal_FfnDownRefIdeal (hFfnDownIdeal := hFfnDownIdeal) (hFfnDownRefIdeal := hFfnDownRefIdeal)
    ∧ preserves_GateFfn_GateFfnIdeal
    ∧ algebraic_GateFfnIdeal_GateFfnRefIdeal (hGateFfnIdeal := hGateFfnIdeal) (hGateFfnRefIdeal := hGateFfnRefIdeal)
    ∧ preserves_GateMix_GateMixIdeal
    ∧ algebraic_GateMixIdeal_GateMixRefIdeal (hGateMixIdeal := hGateMixIdeal) (hGateMixRefIdeal := hGateMixRefIdeal)
    ∧ preserves_NormFfn_NormFfnIdeal
    ∧ algebraic_NormFfnIdeal_NormFfnRefIdeal (hNormFfnIdeal := hNormFfnIdeal) (hNormFfnRefIdeal := hNormFfnRefIdeal)
    ∧ preserves_NormMix_NormMixIdeal
    ∧ algebraic_NormMixIdeal_NormMixRefIdeal (hNormMixIdeal := hNormMixIdeal) (hNormMixRefIdeal := hNormMixRefIdeal)
    ∧ preserves_FfnMid_FfnMidIdeal
    ∧ algebraic_FfnMidIdeal_FfnMidRefIdeal_pre_finite_ffn (hFfnMidIdeal := hFfnMidIdeal) (hFfnMidRefIdeal := hFfnMidRefIdeal) (hPre_finite_ffn := hPre_finite_ffn)
    ∧ preserves_NormFfnFwd_NormFfnFwdIdeal
    ∧ algebraic_NormFfnFwdIdeal_NormFfnFwdRefIdeal (hNormFfnFwdIdeal := hNormFfnFwdIdeal) (hNormFfnFwdRefIdeal := hNormFfnFwdRefIdeal)
    ∧ preserves_NormMixFwd_NormMixFwdIdeal
    ∧ algebraic_NormMixFwdIdeal_NormMixFwdRefIdeal (hNormMixFwdIdeal := hNormMixFwdIdeal) (hNormMixFwdRefIdeal := hNormMixFwdRefIdeal)
-- ==== Pre_finite.lean ====
abbrev S8448x2048 : Shape := ⟨2, ![8448, 2048]⟩
abbrev S8448x512 : Shape := ⟨2, ![8448, 512]⟩
abbrev S16 : Shape := ⟨1, ![16]⟩
abbrev S_ : Shape := ⟨0, ![]⟩

class Facts : Prop where
  bitsLt_bf16_f32 : FTy.bits .bf16 < FTy.bits .f32
  bcast_S_S8448x2048 : S_.BroadcastsInDim S8448x2048 (![] : Fin 0 → Fin S8448x2048.rank)
  reducesTo_S8448x2048_S_d0_1 : S8448x2048.ReducesTo [0, 1] S_
  h_S_ : 0 < S_.numel
  bcast_S_S8448x512 : S_.BroadcastsInDim S8448x512 (![] : Fin 0 → Fin S8448x512.rank)
  reducesTo_S8448x512_S_d0_1 : S8448x512.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S8448x2048 .bf16) (main_v16 : IVec S_ 1) (main_v17 : FVec F S16 .f32) : IVec S_ 1 :=
  let main_cst_4 : FVec F S_ .f32 := constant S_ .f32 0x7F800000#32
  let main_v18 : FVec F S16 .f32 := broadcastInDim S16 ![] bcast_S_S16 main_cst_4
  let main_v19 : IVec S16 1 := cmpf .olt main_v17 main_v18
  let main_c_5 : IVec S_ 1 := constantI S_ 1 1#1
  let main_v20 : IVec S_ 1 := (fun x v => Host.reduce IntOp.andi x v reducesTo_S16_S_d0 h_S_) main_v19 main_c_5
  let main_v21 : IVec S_ 1 := andi main_v16 main_v20
  let main_v22 : FVec F S8448x2048 .f32 := (extf .f32 · bitsLt_bf16_f32) main_arg4
  let main_v23 : FVec F S8448x2048 .f32 := Host.absf main_v22
  let main_cst_6 : FVec F S_ .f32 := constant S_ .f32 0x7F800000#32
  let main_v24 : FVec F S8448x2048 .f32 := broadcastInDim S8448x2048 ![] bcast_S_S8448x2048 main_cst_6
  let main_v25 : IVec S8448x2048 1 := cmpf .olt main_v23 main_v24
  let main_c_7 : IVec S_ 1 := constantI S_ 1 1#1
  let main_v26 : IVec S_ 1 := (fun x v => Host.reduce IntOp.andi x v reducesTo_S8448x2048_S_d0_1 h_S_) main_v25 main_c_7
  let main_v27 : IVec S_ 1 := andi main_v21 main_v26
  main_v27

def fn {F : FTy → Type} [FloatOps F] (main_arg0 : FVec F S8448x2048 .bf16) (main_arg1 : FVec F S8448x512 .bf16) (main_arg2 : FVec F S8448x512 .bf16) (main_arg3 : FVec F S16 .f32) (main_arg4 : FVec F S8448x2048 .bf16) : IVec S_ 1 :=
  let main_v0 : FVec F S8448x2048 .f32 := (extf .f32 · bitsLt_bf16_f32) main_arg0
  let main_v1 : FVec F S8448x2048 .f32 := Host.absf main_v0
  let main_cst : FVec F S_ .f32 := constant S_ .f32 0x7F800000#32
  let main_v2 : FVec F S8448x2048 .f32 := broadcastInDim S8448x2048 ![] bcast_S_S8448x2048 main_cst
  let main_v3 : IVec S8448x2048 1 := cmpf .olt main_v1 main_v2
  let main_c : IVec S_ 1 := constantI S_ 1 1#1
  let main_v4 : IVec S_ 1 := (fun x v => Host.reduce IntOp.andi x v reducesTo_S8448x2048_S_d0_1 h_S_) main_v3 main_c
  let main_v5 : FVec F S8448x512 .f32 := (extf .f32 · bitsLt_bf16_f32) main_arg1
  let main_v6 : FVec F S8448x512 .f32 := Host.absf main_v5
  let main_cst_0 : FVec F S_ .f32 := constant S_ .f32 0x7F800000#32
  let main_v7 : FVec F S8448x512 .f32 := broadcastInDim S8448x512 ![] bcast_S_S8448x512 main_cst_0
  let main_v8 : IVec S8448x512 1 := cmpf .olt main_v6 main_v7
  let main_c_1 : IVec S_ 1 := constantI S_ 1 1#1
  let main_v9 : IVec S_ 1 := (fun x v => Host.reduce IntOp.andi x v reducesTo_S8448x512_S_d0_1 h_S_) main_v8 main_c_1
  let main_v10 : IVec S_ 1 := andi main_v4 main_v9
  let main_v11 : FVec F S8448x512 .f32 := (extf .f32 · bitsLt_bf16_f32) main_arg2
  let main_v12 : FVec F S8448x512 .f32 := Host.absf main_v11
  let main_cst_2 : FVec F S_ .f32 := constant S_ .f32 0x7F800000#32
  let main_v13 : FVec F S8448x512 .f32 := broadcastInDim S8448x512 ![] bcast_S_S8448x512 main_cst_2
  let main_v14 : IVec S8448x512 1 := cmpf .olt main_v12 main_v13
  let main_c_3 : IVec S_ 1 := constantI S_ 1 1#1
  let main_v15 : IVec S_ 1 := (fun x v => Host.reduce IntOp.andi x v reducesTo_S8448x512_S_d0_1 h_S_) main_v14 main_c_3
  let main_v16 : IVec S_ 1 := andi main_v10 main_v15
  let main_v17 : FVec F S16 .f32 := Host.absf main_arg3
  fn_part1 (F := F) main_arg4 main_v16 main_v17
-- ==== Pre_finite_ffn.lean ====
abbrev S8448x11264 : Shape := ⟨2, ![8448, 11264]⟩
abbrev S8448x5632 : Shape := ⟨2, ![8448, 5632]⟩
abbrev S3x11264 : Shape := ⟨2, ![3, 11264]⟩
abbrev S1x11264 : Shape := ⟨2, ![1, 11264]⟩
abbrev S_ : Shape := ⟨0, ![]⟩

class Facts : Prop where
  bcast_S_S8448x11264 : S_.BroadcastsInDim S8448x11264 (![] : Fin 0 → Fin S8448x11264.rank)
  reducesTo_S8448x11264_S_d0_1 : S8448x11264.ReducesTo [0, 1] S_
  h_S_ : 0 < S_.numel
  bitsLt_bf16_f32 : FTy.bits .bf16 < FTy.bits .f32
  bcast_S_S8448x5632 : S_.BroadcastsInDim S8448x5632 (![] : Fin 0 → Fin S8448x5632.rank)
  reducesTo_S8448x5632_S_d0_1 : S8448x5632.ReducesTo [0, 1] S_
  bcast_S_S3x11264 : S_.BroadcastsInDim S3x11264 (![] : Fin 0 → Fin S3x11264.rank)
  reducesTo_S3x11264_S_d0_1 : S3x11264.ReducesTo [0, 1] S_
  bcast_S_S1x11264 : S_.BroadcastsInDim S1x11264 (![] : Fin 0 → Fin S1x11264.rank)
  reducesTo_S1x11264_S_d0_1 : S1x11264.ReducesTo [0, 1] S_

variable [Facts]

def fn_part1 {F : FTy → Type} [FloatOps F] (main_v14 : IVec S_ 1) (main_v15 : FVec F S1x11264 .f32) (main_v16 : FVec F S1x11264 .f32) : IVec S_ 1 :=
  let main_v17 : IVec S1x11264 1 := cmpf .olt main_v15 main_v16
  let main_c_5 : IVec S_ 1 := constantI S_ 1 1#1
  let main_v18 : IVec S_ 1 := (fun x v => Host.reduce IntOp.andi x v reducesTo_S1x11264_S_d0_1 h_S_) main_v17 main_c_5
  let main_v19 : IVec S_ 1 := andi main_v14 main_v18
  main_v19

def fn {F : FTy → Type} [FloatOps F] (main_arg0 : FVec F S8448x11264 .f32) (main_arg1 : FVec F S8448x5632 .bf16) (main_arg2 : FVec F S3x11264 .f32) (main_arg3 : FVec F S1x11264 .f32) : IVec S_ 1 :=
  let main_v0 : FVec F S8448x11264 .f32 := Host.absf main_arg0
  let main_cst : FVec F S_ .f32 := constant S_ .f32 0x7F800000#32
  let main_v1 : FVec F S8448x11264 .f32 := broadcastInDim S8448x11264 ![] bcast_S_S8448x11264 main_cst
  let main_v2 : IVec S8448x11264 1 := cmpf .olt main_v0 main_v1
  let main_c : IVec S_ 1 := constantI S_ 1 1#1
  let main_v3 : IVec S_ 1 := (fun x v => Host.reduce IntOp.andi x v reducesTo_S8448x11264_S_d0_1 h_S_) main_v2 main_c
  let main_v4 : FVec F S8448x5632 .f32 := (extf .f32 · bitsLt_bf16_f32) main_arg1
  let main_v5 : FVec F S8448x5632 .f32 := Host.absf main_v4
  let main_cst_0 : FVec F S_ .f32 := constant S_ .f32 0x7F800000#32
  let main_v6 : FVec F S8448x5632 .f32 := broadcastInDim S8448x5632 ![] bcast_S_S8448x5632 main_cst_0
  let main_v7 : IVec S8448x5632 1 := cmpf .olt main_v5 main_v6
  let main_c_1 : IVec S_ 1 := constantI S_ 1 1#1
  let main_v8 : IVec S_ 1 := (fun x v => Host.reduce IntOp.andi x v reducesTo_S8448x5632_S_d0_1 h_S_) main_v7 main_c_1
  let main_v9 : IVec S_ 1 := andi main_v3 main_v8
  let main_v10 : FVec F S3x11264 .f32 := Host.absf main_arg2
  let main_cst_2 : FVec F S_ .f32 := constant S_ .f32 0x7F800000#32
  let main_v11 : FVec F S3x11264 .f32 := broadcastInDim S3x11264 ![] bcast_S_S3x11264 main_cst_2
  let main_v12 : IVec S3x11264 1 := cmpf .olt main_v10 main_v11
  let main_c_3 : IVec S_ 1 := constantI S_ 1 1#1
  let main_v13 : IVec S_ 1 := (fun x v => Host.reduce IntOp.andi x v reducesTo_S3x11264_S_d0_1 h_S_) main_v12 main_c_3
  let main_v14 : IVec S_ 1 := andi main_v9 main_v13
  let main_v15 : FVec F S1x11264 .f32 := Host.absf main_arg3
  let main_cst_4 : FVec F S_ .f32 := constant S_ .f32 0x7F800000#32
  let main_v16 : FVec F S1x11264 .f32 := broadcastInDim S1x11264 ![] bcast_S_S1x11264 main_cst_4
  fn_part1 (F := F) main_v14 main_v15 main_v16
-- ==== Kernel.lean ====
abbrev S8448x2048 : Shape := ⟨2, ![8448, 2048]⟩
abbrev S8448x512 : Shape := ⟨2, ![8448, 512]⟩
abbrev S16 : Shape := ⟨1, ![16]⟩
abbrev S32x128 : Shape := ⟨2, ![32, 128]⟩
abbrev S128x512 : Shape := ⟨2, ![128, 512]⟩
abbrev S8448x128 : Shape := ⟨2, ![8448, 128]⟩
abbrev S8x128 : Shape := ⟨2, ![8, 128]⟩
abbrev S128x128 : Shape := ⟨2, ![128, 128]⟩
abbrev S512x128 : Shape := ⟨2, ![512, 128]⟩
abbrev S256x128 : Shape := ⟨2, ![256, 128]⟩
abbrev S384x128 : Shape := ⟨2, ![384, 128]⟩
abbrev S512x256 : Shape := ⟨2, ![512, 256]⟩
abbrev S512x384 : Shape := ⟨2, ![512, 384]⟩
abbrev S512x1 : Shape := ⟨2, ![512, 1]⟩
abbrev S1 : Shape := ⟨1, ![1]⟩
abbrev S512 : Shape := ⟨1, ![512]⟩
abbrev S1x512x1 : Shape := ⟨3, ![1, 512, 1]⟩
abbrev S1x1x1 : Shape := ⟨3, ![1, 1, 1]⟩

abbrev nBuf : Space → Nat
  | .hbm => 9
  | .vmem => 16
  | .smem => 1
  | _ => 0

abbrev bufTy : (tb : Table) → Fin (tcTables nBuf tb) → BufTy
  | .hbm, ⟨0, _⟩ => ⟨S8448x2048, .bf16⟩
  | .hbm, ⟨1, _⟩ => ⟨S8448x512, .bf16⟩
  | .hbm, ⟨2, _⟩ => ⟨S8448x512, .bf16⟩
  | .hbm, ⟨3, _⟩ => ⟨S16, .f32⟩
  | .hbm, ⟨4, _⟩ => ⟨S8448x2048, .bf16⟩
  | .hbm, ⟨5, _⟩ => ⟨S8448x2048, .f32⟩
  | .hbm, ⟨6, _⟩ => ⟨S8448x512, .f32⟩
  | .hbm, ⟨7, _⟩ => ⟨S8448x512, .f32⟩
  | .hbm, ⟨8, _⟩ => ⟨S32x128, .f32⟩
  | .local _ .vmem, ⟨0, _⟩ => ⟨S128x512, .bf16⟩
  | .local _ .vmem, ⟨1, _⟩ => ⟨S128x512, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S8448x128, .bf16⟩
  | .local _ .vmem, ⟨6, _⟩ => ⟨S128x512, .bf16⟩
  | .local _ .vmem, ⟨7, _⟩ => ⟨S128x512, .bf16⟩
  | .local _ .vmem, ⟨8, _⟩ => ⟨S128x512, .f32⟩
  | .local _ .vmem, ⟨9, _⟩ => ⟨S128x512, .f32⟩
  | .local _ .vmem, ⟨10, _⟩ => ⟨S8448x128, .f32⟩
  | .local _ .vmem, ⟨11, _⟩ => ⟨S8448x128, .f32⟩
  | .local _ .vmem, ⟨12, _⟩ => ⟨S8448x128, .f32⟩
  | .local _ .vmem, ⟨13, _⟩ => ⟨S8448x128, .f32⟩
  | .local _ .vmem, ⟨14, _⟩ => ⟨S8x128, .f32⟩
  | .local _ .vmem, ⟨15, _⟩ => ⟨S8x128, .f32⟩
  | .local _ .smem, ⟨0, _⟩ => ⟨S16, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 66], ![false, false]⟩

def k0_mult1 (i : grid0.Coords) : BitVec 32 :=
  let c63_i32 : BitVec 32 := 63#32
  let c0_i32 : BitVec 32 := 0#32
  let arg1 : BitVec 32 := BitVec.ofNat 32 (i 1).val
  let c1_i32 : BitVec 32 := 1#32
  let v0 : BitVec 32 := Scalar.subi arg1 c1_i32
  let v1 : BitVec 32 := Scalar.maxsi c0_i32 v0
  let v2 : BitVec 32 := Scalar.minsi c63_i32 v1
  let c128_i32 : BitVec 32 := 128#32
  let v3 : BitVec 32 := Scalar.muli v2 c128_i32
  v3
def k0_off1 (i : grid0.Coords) : Fin 2 → Nat :=
  let c63_i32 : BitVec 32 := 63#32
  let c0_i32 : BitVec 32 := 0#32
  let arg1 : BitVec 32 := BitVec.ofNat 32 (i 1).val
  let c1_i32 : BitVec 32 := 1#32
  let v0 : BitVec 32 := Scalar.subi arg1 c1_i32
  let v1 : BitVec 32 := Scalar.maxsi c0_i32 v0
  let v2 : BitVec 32 := Scalar.minsi c63_i32 v1
  let c128_i32 : BitVec 32 := 128#32
  let v3 : BitVec 32 := Scalar.muli v2 c128_i32
  let v4 : BitVec 32 := v3
  let v12 : Index := Scalar.indexCast v4
  let c0_3 : Index := 0#32
  ![v12.toNat, 0]
def k0_off2 (i : grid0.Coords) (c0_i32_26 : BitVec 32) : Fin 1 → Nat :=
  let arg0 : BitVec 32 := BitVec.ofNat 32 (i 0).val
  let c4_i32 : BitVec 32 := 4#32
  let v83 : BitVec 32 := Scalar.muli arg0 c4_i32
  let v84 : BitVec 32 := Scalar.addi v83 c0_i32_26
  let v85 : Index := Scalar.indexCast v84
  ![v85.toNat]
def k0_cond2 (i : grid0.Coords) : BitVec 1 :=
  let arg1 : BitVec 32 := BitVec.ofNat 32 (i 1).val
  let c0_i32_90 : BitVec 32 := 0#32
  let v261 : BitVec 1 := Scalar.cmpi .eq arg1 c0_i32_90
  let v262 : BitVec 32 := Scalar.extui v261
  let c0_i32_91 : BitVec 32 := 0#32
  let v263 : BitVec 1 := Scalar.cmpi .ne v262 c0_i32_91
  v263

def k0_cond3 (i : grid0.Coords) : BitVec 1 :=
  let arg1 : BitVec 32 := BitVec.ofNat 32 (i 1).val
  let c0_i32_92 : BitVec 32 := 0#32
  let v264 : BitVec 1 := Scalar.cmpi .sgt arg1 c0_i32_92
  let v265 : BitVec 32 := Scalar.extui v264
  let c0_i32_93 : BitVec 32 := 0#32
  let v266 : BitVec 1 := Scalar.cmpi .ne v265 c0_i32_93
  v266

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8448x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8448x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8448x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8448x2048 : Shape := ⟨2, ![8448, 2048]⟩
abbrev S8448x512 : Shape := ⟨2, ![8448, 512]⟩
abbrev S16 : Shape := ⟨1, ![16]⟩
abbrev S8448x4x4x128 : Shape := ⟨4, ![8448, 4, 4, 128]⟩
abbrev S8448x4x128 : Shape := ⟨3, ![8448, 4, 128]⟩
abbrev S8448x8448 : Shape := ⟨2, ![8448, 8448]⟩
abbrev S_ : Shape := ⟨0, ![]⟩
abbrev S4x8448x8448x4 : Shape := ⟨4, ![4, 8448, 8448, 4]⟩
abbrev S4x4x8448x8448 : Shape := ⟨4, ![4, 4, 8448, 8448]⟩
abbrev S1x1x8448x8448 : Shape := ⟨4, ![1, 1, 8448, 8448]⟩
abbrev S4x4x1x1 : Shape := ⟨4, ![4, 4, 1, 1]⟩
abbrev S4x4x8448x1 : Shape := ⟨4, ![4, 4, 8448, 1]⟩
abbrev S4x4x8448x8449 : Shape := ⟨4, ![4, 4, 8448, 8449]⟩
abbrev S4x4x8448 : Shape := ⟨3, ![4, 4, 8448]⟩
abbrev S4x128x4x8448 : Shape := ⟨4, ![4, 128, 4, 8448]⟩
abbrev S4x128x8448 : Shape := ⟨3, ![4, 128, 8448]⟩
abbrev S4x4 : Shape := ⟨2, ![4, 4]⟩
abbrev S4x8448x4x128 : Shape := ⟨4, ![4, 8448, 4, 128]⟩
abbrev S4x8448x128 : Shape := ⟨3, ![4, 8448, 128]⟩
abbrev S4x1x4 : Shape := ⟨3, ![4, 1, 4]⟩
abbrev S4x1x128 : Shape := ⟨3, ![4, 1, 128]⟩
abbrev S4x8x128 : Shape := ⟨3, ![4, 8, 128]⟩
abbrev S32x128 : Shape := ⟨2, ![32, 128]⟩

abbrev nBuf : Space → Nat
  | .hbm => 136
  | .vmem => 0
  | .smem => 0
  | _ => 0

abbrev hbmTy0_0 (i : Nat) : BufTy := match i % 128 with
  | 0 => ⟨S8448x2048, .bf16⟩
  | 1 => ⟨S8448x512, .bf16⟩
  | 2 => ⟨S8448x512, .bf16⟩
  | 3 => ⟨S16, .f32⟩
  | 4 => ⟨S8448x2048, .bf16⟩
  | 5 => ⟨S8448x2048, .f32⟩
  | 6 => ⟨S8448x512, .f32⟩
  | 7 => ⟨S8448x512, .f32⟩
  | 8 => ⟨S8448x4x4x128, .f32⟩
  | 9 => ⟨S8448x4x128, .f32⟩
  | 10 => ⟨S8448x4x128, .f32⟩
  | 11 => ⟨S8448x8448, .i32⟩
  | 12 => ⟨S8448x8448, .i32⟩
  | 13 => ⟨S_, .i32⟩
  | 14 => ⟨S8448x8448, .i32⟩
  | 15 => ⟨S8448x8448, .i1⟩
  | 16 => ⟨S_, .i32⟩
  | 17 => ⟨S8448x8448, .i32⟩
  | 18 => ⟨S8448x8448, .i1⟩
  | 19 => ⟨S8448x8448, .i32⟩
  | 20 => ⟨S8448x8448, .i32⟩
  | 21 => ⟨S_, .i32⟩
  | 22 => ⟨S8448x8448, .i32⟩
  | 23 => ⟨S8448x8448, .i1⟩
  | 24 => ⟨S8448x8448, .i1⟩
  | 25 => ⟨S8448x8448, .i1⟩
  | 26 => ⟨S4x8448x8448x4, .f32⟩
  | 27 => ⟨S4x4x8448x8448, .f32⟩
  | 28 => ⟨S_, .f32⟩
  | 29 => ⟨S4x4x8448x8448, .f32⟩
  | 30 => ⟨S4x4x8448x8448, .f32⟩
  | 31 => ⟨S1x1x8448x8448, .i1⟩
  | 32 => ⟨S_, .f32⟩
  | 33 => ⟨S_, .f32⟩
  | 34 => ⟨S4x4x8448x8448, .i1⟩
  | 35 => ⟨S4x4x8448x8448, .f32⟩
  | 36 => ⟨S4x4x8448x8448, .f32⟩
  | 37 => ⟨S_, .f32⟩
  | 38 => ⟨S4x4x8448x8448, .f32⟩
  | 39 => ⟨S4x4x1x1, .f32⟩
  | 40 => ⟨S4x4x8448x1, .f32⟩
  | 41 => ⟨S4x4x8448x8449, .f32⟩
  | 42 => ⟨S_, .f32⟩
  | 43 => ⟨S4x4x8448, .f32⟩
  | 44 => ⟨S4x4x8448x1, .f32⟩
  | 45 => ⟨S4x4x8448x8449, .f32⟩
  | 46 => ⟨S4x4x8448x8449, .i1⟩
  | 47 => ⟨S4x4x8448x8449, .f32⟩
  | 48 => ⟨S_, .f32⟩
  | 49 => ⟨S4x4x8448, .f32⟩
  | 50 => ⟨S_, .f32⟩
  | 51 => ⟨S4x4x8448, .f32⟩
  | 52 => ⟨S4x4x8448, .f32⟩
  | 53 => ⟨S_, .f32⟩
  | 54 => ⟨S4x4x8448, .f32⟩
  | 55 => ⟨S4x4x8448, .i1⟩
  | 56 => ⟨S_, .f32⟩
  | 57 => ⟨S4x4x8448, .f32⟩
  | 58 => ⟨S4x4x8448, .i1⟩
  | 59 => ⟨S_, .f32⟩
  | 60 => ⟨S4x4x8448, .f32⟩
  | 61 => ⟨S_, .f32⟩
  | 62 => ⟨S4x4x8448, .f32⟩
  | 63 => ⟨S_, .f32⟩
  | 64 => ⟨S4x4x8448, .f32⟩
  | 65 => ⟨S4x4x8448, .f32⟩
  | 66 => ⟨S4x4x8448, .f32⟩
  | 67 => ⟨S4x4x8448x1, .f32⟩
  | 68 => ⟨S4x4x8448x8449, .f32⟩
  | 69 => ⟨S4x4x8448x8449, .f32⟩
  | 70 => ⟨S4x4x8448x8449, .f32⟩
  | 71 => ⟨S_, .f32⟩
  | 72 => ⟨S4x4x8448, .f32⟩
  | 73 => ⟨S4x4x8448x1, .f32⟩
  | 74 => ⟨S4x4x8448x8449, .f32⟩
  | 75 => ⟨S4x4x8448x8449, .f32⟩
  | 76 => ⟨S4x4x8448x1, .f32⟩
  | 77 => ⟨S_, .f32⟩
  | 78 => ⟨S4x4x8448x1, .f32⟩
  | 79 => ⟨S4x4x8448x1, .f32⟩
  | 80 => ⟨S4x4x8448x8448, .f32⟩
  | 81 => ⟨S4x4x8448x8448, .bf16⟩
  | 82 => ⟨S4x4x8448x8448, .f32⟩
  | 83 => ⟨S4x128x4x8448, .f32⟩
  | 84 => ⟨S8448x4x4x128, .f32⟩
  | 85 => ⟨S8448x2048, .f32⟩
  | 86 => ⟨S8448x2048, .f32⟩
  | 87 => ⟨S8448x4x4x128, .f32⟩
  | 88 => ⟨S4x128x4x8448, .f32⟩
  | 89 => ⟨S4x4x8448x8448, .f32⟩
  | 90 => ⟨S4x128x8448, .f32⟩
  | 91 => ⟨S8448x4x128, .f32⟩
  | 92 => ⟨S4x4x8448x8448, .bf16⟩
  | 93 => ⟨S4x4x8448x8448, .f32⟩
  | 94 => ⟨S_, .f32⟩
  | 95 => ⟨S4x4x8448x8449, .f32⟩
  | 96 => ⟨S4x4x8448x8449, .f32⟩
  | 97 => ⟨S4x4x8448x8449, .f32⟩
  | 98 => ⟨S4x4x8448x8449, .f32⟩
  | 99 => ⟨S_, .f32⟩
  | 100 => ⟨S4x4x8448, .f32⟩
  | 101 => ⟨S4x4x8448x1, .f32⟩
  | 102 => ⟨S4x4x8448x1, .f32⟩
  | 103 => ⟨S4x4x8448x8449, .f32⟩
  | 104 => ⟨S4x4x8448x8449, .f32⟩
  | 105 => ⟨S_, .f32⟩
  | 106 => ⟨S4x4x8448, .f32⟩
  | 107 => ⟨S4x4x8448x8449, .f32⟩
  | 108 => ⟨S4x4x8448x8449, .f32⟩
  | 109 => ⟨S4x4x8448x8449, .f32⟩
  | 110 => ⟨S4x4x8448x8448, .f32⟩
  | 111 => ⟨S4x4x8448x1, .f32⟩
  | 112 => ⟨S_, .f32⟩
  | 113 => ⟨S4x4, .f32⟩
  | 114 => ⟨S4x4x1x1, .f32⟩
  | 115 => ⟨S16, .f32⟩
  | 116 => ⟨S_, .f32⟩
  | 117 => ⟨S4x4x8448x8448, .f32⟩
  | 118 => ⟨S4x4x8448x8448, .f32⟩
  | 119 => ⟨S_, .f32⟩
  | 120 => ⟨S4x4x8448x8448, .f32⟩
  | 121 => ⟨S4x4x8448x8448, .f32⟩
  | 122 => ⟨S4x8448x8448x4, .f32⟩
  | 123 => ⟨S4x8448x4x128, .f32⟩
  | 124 => ⟨S8448x4x4x128, .f32⟩
  | 125 => ⟨S4x8448x128, .f32⟩
  | 126 => ⟨S8448x4x128, .f32⟩
  | 127 => ⟨S8448x512, .f32⟩
  | _ => ⟨S8448x2048, .bf16⟩

abbrev hbmTy0_1 (i : Nat) : BufTy := match i % 128 with
  | 0 => ⟨S8448x512, .f32⟩
  | 1 => ⟨S8448x2048, .f32⟩
  | 2 => ⟨S4x1x4, .f32⟩
  | 3 => ⟨S_, .i32⟩
  | 4 => ⟨S_, .f32⟩
  | 5 => ⟨S4x1x128, .f32⟩
  | 6 => ⟨S4x8x128, .f32⟩
  | 7 => ⟨S32x128, .f32⟩
  | _ => ⟨S8448x2048, .bf16⟩

abbrev hbmTy (i : Nat) : BufTy := match i / 128 with
  | 0 => hbmTy0_0 i
  | 1 => hbmTy0_1 i
  | _ => ⟨S8448x2048, .bf16⟩

abbrev bufTy : (tb : Table) → Fin (tcTables nBuf tb) → BufTy
  | .hbm, ⟨i, _⟩ => hbmTy i
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_call0_v0 : Ref sig .tc := ⟨.hbm, 33, rfl⟩
abbrev main_v23_1 : Ref sig .tc := ⟨.hbm, 34, rfl⟩
abbrev main_call0_v2 : Ref sig .tc := ⟨.hbm, 35, rfl⟩
abbrev main_v23_0 : Ref sig .tc := ⟨.hbm, 36, rfl⟩
abbrev main_call0_cst : Ref sig .tc := ⟨.hbm, 37, rfl⟩
abbrev main_v23_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_cst_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_15 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_16 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_call1_cst : Ref sig .tc := ⟨.hbm, 116, rfl⟩
abbrev main_call1_v0 : Ref sig .tc := ⟨.hbm, 117, rfl⟩
abbrev main_v87 : Ref sig .tc := ⟨.hbm, 118, rfl⟩
abbrev main_cst_17 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_c_18 : Ref sig .tc := ⟨.hbm, 131, rfl⟩
abbrev main_call2_v0 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩

abbrev nD : Nat := 1
abbrev τ : Topo := Topo.v7x

variable {F : FTy → Type} [FloatOps F]
-- ==== DownDx.lean ====
abbrev S8448x2048 : Shape := ⟨2, ![8448, 2048]⟩
abbrev S5632x2048 : Shape := ⟨2, ![5632, 2048]⟩
abbrev S8448x5632 : Shape := ⟨2, ![8448, 5632]⟩
abbrev S768x2048 : Shape := ⟨2, ![768, 2048]⟩
abbrev S1408x2048 : Shape := ⟨2, ![1408, 2048]⟩
abbrev S768x1408 : Shape := ⟨2, ![768, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S5632x2048, .bf16⟩
  | .hbm, ⟨2, _⟩ => ⟨S8448x5632, .bf16⟩
  | .local _ .vmem, ⟨0, _⟩ => ⟨S768x2048, .bf16⟩
  | .local _ .vmem, ⟨1, _⟩ => ⟨S768x2048, .bf16⟩
  | .local _ .vmem, ⟨2, _⟩ => ⟨S1408x2048, .bf16⟩
  | .local _ .vmem, ⟨3, _⟩ => ⟨S1408x2048, .bf16⟩
  | .local _ .vmem, ⟨4, _⟩ => ⟨S768x1408, .bf16⟩
  | .local _ .vmem, ⟨5, _⟩ => ⟨S768x1408, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S8448x2048 : Shape := ⟨2, ![8448, 2048]⟩
abbrev S5632x2048 : Shape := ⟨2, ![5632, 2048]⟩
abbrev S_ : Shape := ⟨0, ![]⟩
abbrev S8448x5632 : Shape := ⟨2, ![8448, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S5632x2048, .bf16⟩
  | .hbm, ⟨2, _⟩ => ⟨S_, .f32⟩
  | .hbm, ⟨3, _⟩ => ⟨S8448x5632, .f32⟩
  | .hbm, ⟨4, _⟩ => ⟨S5632x2048, .f32⟩
  | .hbm, ⟨5, _⟩ => ⟨S8448x2048, .f32⟩
  | .hbm, ⟨6, _⟩ => ⟨S8448x2048, .f32⟩
  | .hbm, ⟨7, _⟩ => ⟨S8448x5632, .f32⟩
  | .hbm, ⟨8, _⟩ => ⟨S8448x5632, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownDw.lean ====
abbrev S8448x5632 : Shape := ⟨2, ![8448, 5632]⟩
abbrev S8448x2048 : Shape := ⟨2, ![8448, 2048]⟩
abbrev S5632x2048 : Shape := ⟨2, ![5632, 2048]⟩
abbrev S4224x512 : Shape := ⟨2, ![4224, 512]⟩
abbrev S4224x1024 : Shape := ⟨2, ![4224, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S8448x2048, .bf16⟩
  | .hbm, ⟨2, _⟩ => ⟨S5632x2048, .bf16⟩
  | .local _ .vmem, ⟨0, _⟩ => ⟨S4224x512, .bf16⟩
  | .local _ .vmem, ⟨1, _⟩ => ⟨S4224x512, .bf16⟩
  | .local _ .vmem, ⟨2, _⟩ => ⟨S4224x1024, .bf16⟩
  | .local _ .vmem, ⟨3, _⟩ => ⟨S4224x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8448x5632 : Shape := ⟨2, ![8448, 5632]⟩
abbrev S8448x2048 : Shape := ⟨2, ![8448, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S8448x2048, .bf16⟩
  | .hbm, ⟨2, _⟩ => ⟨S_, .f32⟩
  | .hbm, ⟨3, _⟩ => ⟨S5632x2048, .f32⟩
  | .hbm, ⟨4, _⟩ => ⟨S8448x5632, .f32⟩
  | .hbm, ⟨5, _⟩ => ⟨S8448x2048, .f32⟩
  | .hbm, ⟨6, _⟩ => ⟨S8448x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDx.lean ====
abbrev S8448x11264 : Shape := ⟨2, ![8448, 11264]⟩
abbrev S8x2048x1408 : Shape := ⟨3, ![8, 2048, 1408]⟩
abbrev S8448x2048 : Shape := ⟨2, ![8448, 2048]⟩
abbrev S768x1408 : Shape := ⟨2, ![768, 1408]⟩
abbrev S1x1024x1408 : Shape := ⟨3, ![1, 1024, 1408]⟩
abbrev S768x1024 : Shape := ⟨2, ![768, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x11264, .bf16⟩
  | .hbm, ⟨1, _⟩ => ⟨S8x2048x1408, .bf16⟩
  | .hbm, ⟨2, _⟩ => ⟨S8448x2048, .bf16⟩
  | .local _ .vmem, ⟨0, _⟩ => ⟨S768x1408, .bf16⟩
  | .local _ .vmem, ⟨1, _⟩ => ⟨S768x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S8448x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let v17 : BitVec 1 := Scalar.cmpi .eq c2_i32 c0_i32_5
  let c1_i32_6 : BitVec 32 := 1#32
  let v18 : BitVec 32 := Scalar.select v17 c1_i32_6 c2_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.muli v26 c4_i32
  let c2_i32_10 : BitVec 32 := 2#32
  let v28 : BitVec 32 := Scalar.divsi v16 c2_i32_10
  let c0_i32_11 : BitVec 32 := 0#32
  let v29 : BitVec 1 := Scalar.cmpi .sgt v16 c0_i32_11
  let v30 : BitVec 32 := Scalar.extui v29
  let c0_i32_12 : BitVec 32 := 0#32
  let v31 : BitVec 1 := Scalar.cmpi .slt v16 c0_i32_12
  let v32 : BitVec 32 := Scalar.extui v31
  let v33 : BitVec 32 := Scalar.subi v30 v32
  let c0_i32_13 : BitVec 32 := 0#32
  let v34 : BitVec 1 := Scalar.cmpi .sgt c2_i32_10 c0_i32_13
  let v35 : BitVec 32 := Scalar.extui v34
  let c0_i32_14 : BitVec 32 := 0#32
  let v36 : BitVec 1 := Scalar.cmpi .slt c2_i32_10 c0_i32_14
  let v37 : BitVec 32 := Scalar.extui v36
  let v38 : BitVec 32 := Scalar.subi v35 v37
  let v39 : BitVec 1 := Scalar.cmpi .ne v33 v38
  let v40 : BitVec 32 := Scalar.remsi v16 c2_i32_10
  let c0_i32_15 : BitVec 32 := 0#32
  let v41 : BitVec 1 := Scalar.cmpi .ne v40 c0_i32_15
  let v42 : BitVec 1 := Scalar.andi v39 v41
  let c1_i32_16 : BitVec 32 := 1#32
  let v43 : BitVec 32 := Scalar.subi v28 c1_i32_16
  let v44 : BitVec 32 := Scalar.select v42 v43 v28
  let v45 : BitVec 32 := Scalar.addi v27 v44
  let c1_i32_17 : BitVec 32 := 1#32
  let c0_i32_18 : BitVec 32 := 0#32
  let v46 : BitVec 1 := Scalar.cmpi .eq c1_i32_17 c0_i32_18
  let c1_i32_19 : BitVec 32 := 1#32
  let v47 : BitVec 32 := Scalar.select v46 c1_i32_19 c1_i32_17
  let v48 : BitVec 32 := Scalar.remsi arg2 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  ![v45.toNat, arg1.toNat, v55.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S8448x11264 : Shape := ⟨2, ![8448, 11264]⟩
abbrev S8x2048x1408 : Shape := ⟨3, ![8, 2048, 1408]⟩
abbrev S_ : Shape := ⟨0, ![]⟩
abbrev S8448x2048 : Shape := ⟨2, ![8448, 2048]⟩
abbrev S2x4x2048x1408 : Shape := ⟨4, ![2, 4, 2048, 1408]⟩
abbrev S2048x4x2x1408 : Shape := ⟨4, ![2048, 4, 2, 1408]⟩
abbrev S2048x11264 : Shape := ⟨2, ![2048, 11264]⟩

abbrev nBuf : Space → Nat
  | .hbm => 12
  | .vmem => 0
  | .smem => 0
  | _ => 0

abbrev bufTy : (tb : Table) → Fin (tcTables nBuf tb) → BufTy
  | .hbm, ⟨0, _⟩ => ⟨S8448x11264, .bf16⟩
  | .hbm, ⟨1, _⟩ => ⟨S8x2048x1408, .bf16⟩
  | .hbm, ⟨2, _⟩ => ⟨S_, .f32⟩
  | .hbm, ⟨3, _⟩ => ⟨S8448x2048, .f32⟩
  | .hbm, ⟨4, _⟩ => ⟨S8x2048x1408, .f32⟩
  | .hbm, ⟨5, _⟩ => ⟨S2x4x2048x1408, .f32⟩
  | .hbm, ⟨6, _⟩ => ⟨S2048x4x2x1408, .f32⟩
  | .hbm, ⟨7, _⟩ => ⟨S2048x11264, .f32⟩
  | .hbm, ⟨8, _⟩ => ⟨S8448x11264, .f32⟩
  | .hbm, ⟨9, _⟩ => ⟨S8448x11264, .f32⟩
  | .hbm, ⟨10, _⟩ => ⟨S8448x2048, .f32⟩
  | .hbm, ⟨11, _⟩ => ⟨S8448x2048, .bf16⟩
  | _, _ => ⟨S8448x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== UpDw.lean ====
abbrev S8448x2048 : Shape := ⟨2, ![8448, 2048]⟩
abbrev S8448x11264 : Shape := ⟨2, ![8448, 11264]⟩
abbrev S8x2048x1408 : Shape := ⟨3, ![8, 2048, 1408]⟩
abbrev S4224x512 : Shape := ⟨2, ![4224, 512]⟩
abbrev S4224x1408 : Shape := ⟨2, ![4224, 1408]⟩
abbrev S1x512x1408 : Shape := ⟨3, ![1, 512, 1408]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x11264, .bf16⟩
  | .hbm, ⟨2, _⟩ => ⟨S8x2048x1408, .bf16⟩
  | .local _ .vmem, ⟨0, _⟩ => ⟨S4224x512, .bf16⟩
  | .local _ .vmem, ⟨1, _⟩ => ⟨S4224x512, .bf16⟩
  | .local _ .vmem, ⟨2, _⟩ => ⟨S4224x1408, .bf16⟩
  | .local _ .vmem, ⟨3, _⟩ => ⟨S4224x1408, .bf16⟩
  | .local _ .vmem, ⟨4, _⟩ => ⟨S1x512x1408, .bf16⟩
  | .local _ .vmem, ⟨5, _⟩ => ⟨S1x512x1408, .bf16⟩
  | .local _ .vmem, ⟨6, _⟩ => ⟨S512x1408, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let v17 : BitVec 1 := Scalar.cmpi .eq c2_i32 c0_i32_5
  let c1_i32_6 : BitVec 32 := 1#32
  let v18 : BitVec 32 := Scalar.select v17 c1_i32_6 c2_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.muli v26 c4_i32
  let c2_i32_10 : BitVec 32 := 2#32
  let v28 : BitVec 32 := Scalar.divsi v16 c2_i32_10
  let c0_i32_11 : BitVec 32 := 0#32
  let v29 : BitVec 1 := Scalar.cmpi .sgt v16 c0_i32_11
  let v30 : BitVec 32 := Scalar.extui v29
  let c0_i32_12 : BitVec 32 := 0#32
  let v31 : BitVec 1 := Scalar.cmpi .slt v16 c0_i32_12
  let v32 : BitVec 32 := Scalar.extui v31
  let v33 : BitVec 32 := Scalar.subi v30 v32
  let c0_i32_13 : BitVec 32 := 0#32
  let v34 : BitVec 1 := Scalar.cmpi .sgt c2_i32_10 c0_i32_13
  let v35 : BitVec 32 := Scalar.extui v34
  let c0_i32_14 : BitVec 32 := 0#32
  let v36 : BitVec 1 := Scalar.cmpi .slt c2_i32_10 c0_i32_14
  let v37 : BitVec 32 := Scalar.extui v36
  let v38 : BitVec 32 := Scalar.subi v35 v37
  let v39 : BitVec 1 := Scalar.cmpi .ne v33 v38
  let v40 : BitVec 32 := Scalar.remsi v16 c2_i32_10
  let c0_i32_15 : BitVec 32 := 0#32
  let v41 : BitVec 1 := Scalar.cmpi .ne v40 c0_i32_15
  let v42 : BitVec 1 := Scalar.andi v39 v41
  let c1_i32_16 : BitVec 32 := 1#32
  let v43 : BitVec 32 := Scalar.subi v28 c1_i32_16
  let v44 : BitVec 32 := Scalar.select v42 v43 v28
  let v45 : BitVec 32 := Scalar.addi v27 v44
  let c1_i32_17 : BitVec 32 := 1#32
  let c0_i32_18 : BitVec 32 := 0#32
  let v46 : BitVec 1 := Scalar.cmpi .eq c1_i32_17 c0_i32_18
  let c1_i32_19 : BitVec 32 := 1#32
  let v47 : BitVec 32 := Scalar.select v46 c1_i32_19 c1_i32_17
  let v48 : BitVec 32 := Scalar.remsi arg1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  ![v45.toNat, arg0.toNat, v55.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8448x2048 : Shape := ⟨2, ![8448, 2048]⟩
abbrev S8448x11264 : Shape := ⟨2, ![8448, 11264]⟩
abbrev S_ : Shape := ⟨0, ![]⟩
abbrev S8x2048x1408 : Shape := ⟨3, ![8, 2048, 1408]⟩
abbrev S2x4x2048x1408 : Shape := ⟨4, ![2, 4, 2048, 1408]⟩
abbrev S2048x4x2x1408 : Shape := ⟨4, ![2048, 4, 2, 1408]⟩
abbrev S2048x11264 : Shape := ⟨2, ![2048, 11264]⟩
abbrev S11264x2048 : Shape := ⟨2, ![11264, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x11264, .bf16⟩
  | .hbm, ⟨2, _⟩ => ⟨S_, .f32⟩
  | .hbm, ⟨3, _⟩ => ⟨S8x2048x1408, .f32⟩
  | .hbm, ⟨4, _⟩ => ⟨S8448x2048, .f32⟩
  | .hbm, ⟨5, _⟩ => ⟨S2x4x2048x1408, .f32⟩
  | .hbm, ⟨6, _⟩ => ⟨S2048x4x2x1408, .f32⟩
  | .hbm, ⟨7, _⟩ => ⟨S2048x11264, .f32⟩
  | .hbm, ⟨8, _⟩ => ⟨S8448x11264, .f32⟩
  | .hbm, ⟨9, _⟩ => ⟨S8448x11264, .f32⟩
  | .hbm, ⟨10, _⟩ => ⟨S11264x2048, .f32⟩
  | .hbm, ⟨11, _⟩ => ⟨S2048x11264, .f32⟩
  | .hbm, ⟨12, _⟩ => ⟨S2048x4x2x1408, .f32⟩
  | .hbm, ⟨13, _⟩ => ⟨S2x4x2048x1408, .f32⟩
  | .hbm, ⟨14, _⟩ => ⟨S8x2048x1408, .f32⟩
  | .hbm, ⟨15, _⟩ => ⟨S8x2048x1408, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== SsdOutDx.lean ====
abbrev S8448x2048 : Shape := ⟨2, ![8448, 2048]⟩
abbrev S4096x2048 : Shape := ⟨2, ![4096, 2048]⟩
abbrev S8448x4096 : Shape := ⟨2, ![8448, 4096]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S4096x2048, .bf16⟩
  | .hbm, ⟨2, _⟩ => ⟨S8448x4096, .bf16⟩
  | .local _ .vmem, ⟨0, _⟩ => ⟨S768x2048, .bf16⟩
  | .local _ .vmem, ⟨1, _⟩ => ⟨S768x2048, .bf16⟩
  | .local _ .vmem, ⟨2, _⟩ => ⟨S1024x2048, .bf16⟩
  | .local _ .vmem, ⟨3, _⟩ => ⟨S1024x2048, .bf16⟩
  | .local _ .vmem, ⟨4, _⟩ => ⟨S768x1024, .bf16⟩
  | .local _ .vmem, ⟨5, _⟩ => ⟨S768x1024, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdOutDxRefIdeal.lean ====
abbrev S8448x2048 : Shape := ⟨2, ![8448, 2048]⟩
abbrev S4096x2048 : Shape := ⟨2, ![4096, 2048]⟩
abbrev S_ : Shape := ⟨0, ![]⟩
abbrev S8448x4096 : Shape := ⟨2, ![8448, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S4096x2048, .bf16⟩
  | .hbm, ⟨2, _⟩ => ⟨S_, .f32⟩
  | .hbm, ⟨3, _⟩ => ⟨S8448x4096, .f32⟩
  | .hbm, ⟨4, _⟩ => ⟨S4096x2048, .f32⟩
  | .hbm, ⟨5, _⟩ => ⟨S8448x2048, .f32⟩
  | .hbm, ⟨6, _⟩ => ⟨S8448x2048, .f32⟩
  | .hbm, ⟨7, _⟩ => ⟨S8448x4096, .f32⟩
  | .hbm, ⟨8, _⟩ => ⟨S8448x4096, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SsdOutDw.lean ====
abbrev S8448x4096 : Shape := ⟨2, ![8448, 4096]⟩
abbrev S8448x2048 : Shape := ⟨2, ![8448, 2048]⟩
abbrev S4096x2048 : Shape := ⟨2, ![4096, 2048]⟩
abbrev S4224x512 : Shape := ⟨2, ![4224, 512]⟩
abbrev S4224x1024 : Shape := ⟨2, ![4224, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x4096, .bf16⟩
  | .hbm, ⟨1, _⟩ => ⟨S8448x2048, .bf16⟩
  | .hbm, ⟨2, _⟩ => ⟨S4096x2048, .bf16⟩
  | .local _ .vmem, ⟨0, _⟩ => ⟨S4224x512, .bf16⟩
  | .local _ .vmem, ⟨1, _⟩ => ⟨S4224x512, .bf16⟩
  | .local _ .vmem, ⟨2, _⟩ => ⟨S4224x1024, .bf16⟩
  | .local _ .vmem, ⟨3, _⟩ => ⟨S4224x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdOutDwRefIdeal.lean ====
abbrev S8448x4096 : Shape := ⟨2, ![8448, 4096]⟩
abbrev S8448x2048 : Shape := ⟨2, ![8448, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S8448x2048, .bf16⟩
  | .hbm, ⟨2, _⟩ => ⟨S_, .f32⟩
  | .hbm, ⟨3, _⟩ => ⟨S4096x2048, .f32⟩
  | .hbm, ⟨4, _⟩ => ⟨S8448x4096, .f32⟩
  | .hbm, ⟨5, _⟩ => ⟨S8448x2048, .f32⟩
  | .hbm, ⟨6, _⟩ => ⟨S8448x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SsdInDx.lean ====
abbrev S8448x10368 : Shape := ⟨2, ![8448, 10368]⟩
abbrev S2048x10368 : Shape := ⟨2, ![2048, 10368]⟩
abbrev S8x128 : Shape := ⟨2, ![8, 128]⟩
abbrev S8448x2048 : Shape := ⟨2, ![8448, 2048]⟩
abbrev S768x3456 : Shape := ⟨2, ![768, 3456]⟩
abbrev S1024x3456 : Shape := ⟨2, ![1024, 3456]⟩
abbrev S768x1024 : Shape := ⟨2, ![768, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8448x10368, .bf16⟩
  | .hbm, ⟨1, _⟩ => ⟨S2048x10368, .bf16⟩
  | .hbm, ⟨2, _⟩ => ⟨S8x128, .f32⟩
  | .hbm, ⟨3, _⟩ => ⟨S8448x2048, .bf16⟩
  | .local _ .vmem, ⟨0, _⟩ => ⟨S768x3456, .bf16⟩
  | .local _ .vmem, ⟨1, _⟩ => ⟨S768x3456, .bf16⟩
  | .local _ .vmem, ⟨2, _⟩ => ⟨S1024x3456, .bf16⟩
  | .local _ .vmem, ⟨3, _⟩ => ⟨S1024x3456, .bf16⟩
  | .local _ .vmem, ⟨4, _⟩ => ⟨S8x128, .f32⟩
  | .local _ .vmem, ⟨5, _⟩ => ⟨S768x1024, .bf16⟩
  | .local _ .vmem, ⟨6, _⟩ => ⟨S768x1024, .bf16⟩
  | .local _ .vmem, ⟨7, _⟩ => ⟨S768x1024, .f32⟩
  | _, _ => ⟨S8448x10368, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![11, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3456 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SsdInDxRefIdeal.lean ====
abbrev S8448x10368 : Shape := ⟨2, ![8448, 10368]⟩
abbrev S2048x10368 : Shape := ⟨2, ![2048, 10368]⟩
abbrev S8x128 : Shape := ⟨2, ![8, 128]⟩
abbrev S_ : Shape := ⟨0, ![]⟩
abbrev S8448x2048 : Shape := ⟨2, ![8448, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8448x10368, .bf16⟩
  | .hbm, ⟨1, _⟩ => ⟨S2048x10368, .bf16⟩
  | .hbm, ⟨2, _⟩ => ⟨S8x128, .f32⟩
  | .hbm, ⟨3, _⟩ => ⟨S_, .f32⟩
  | .hbm, ⟨4, _⟩ => ⟨S8448x2048, .f32⟩
  | .hbm, ⟨5, _⟩ => ⟨S2048x10368, .f32⟩
  | .hbm, ⟨6, _⟩ => ⟨S8448x10368, .f32⟩
  | .hbm, ⟨7, _⟩ => ⟨S8448x10368, .f32⟩
  | .hbm, ⟨8, _⟩ => ⟨S8448x2048, .f32⟩
  | .hbm, ⟨9, _⟩ => ⟨S8448x2048, .bf16⟩
  | _, _ => ⟨S8448x10368, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== SsdInDw.lean ====
abbrev S8448x2048 : Shape := ⟨2, ![8448, 2048]⟩
abbrev S8448x10368 : Shape := ⟨2, ![8448, 10368]⟩
abbrev S2048x10368 : Shape := ⟨2, ![2048, 10368]⟩
abbrev S4224x512 : Shape := ⟨2, ![4224, 512]⟩
abbrev S4224x1152 : Shape := ⟨2, ![4224, 1152]⟩
abbrev S512x1152 : Shape := ⟨2, ![512, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x10368, .bf16⟩
  | .hbm, ⟨2, _⟩ => ⟨S2048x10368, .f32⟩
  | .local _ .vmem, ⟨0, _⟩ => ⟨S4224x512, .bf16⟩
  | .local _ .vmem, ⟨1, _⟩ => ⟨S4224x512, .bf16⟩
  | .local _ .vmem, ⟨2, _⟩ => ⟨S4224x1152, .bf16⟩
  | .local _ .vmem, ⟨3, _⟩ => ⟨S4224x1152, .bf16⟩
  | .local _ .vmem, ⟨4, _⟩ => ⟨S512x1152, .f32⟩
  | .local _ .vmem, ⟨5, _⟩ => ⟨S512x1152, .f32⟩
  | .local _ .vmem, ⟨6, _⟩ => ⟨S512x1152, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 9, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdInDwRefIdeal.lean ====
abbrev S8448x2048 : Shape := ⟨2, ![8448, 2048]⟩
abbrev S8448x10368 : Shape := ⟨2, ![8448, 10368]⟩
abbrev S_ : Shape := ⟨0, ![]⟩
abbrev S2048x10368 : Shape := ⟨2, ![2048, 10368]⟩
abbrev S10368x2048 : Shape := ⟨2, ![10368, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x10368, .bf16⟩
  | .hbm, ⟨2, _⟩ => ⟨S_, .f32⟩
  | .hbm, ⟨3, _⟩ => ⟨S2048x10368, .f32⟩
  | .hbm, ⟨4, _⟩ => ⟨S8448x2048, .f32⟩
  | .hbm, ⟨5, _⟩ => ⟨S8448x10368, .f32⟩
  | .hbm, ⟨6, _⟩ => ⟨S8448x10368, .f32⟩
  | .hbm, ⟨7, _⟩ => ⟨S10368x2048, .f32⟩
  | .hbm, ⟨8, _⟩ => ⟨S2048x10368, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnOutDx.lean ====
abbrev S8448x2048 : Shape := ⟨2, ![8448, 2048]⟩
abbrev S2048x2048 : Shape := ⟨2, ![2048, 2048]⟩
abbrev S768x2048 : Shape := ⟨2, ![768, 2048]⟩
abbrev S1024x2048 : Shape := ⟨2, ![1024, 2048]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .bf16⟩
  | .local _ .vmem, ⟨0, _⟩ => ⟨S768x2048, .bf16⟩
  | .local _ .vmem, ⟨1, _⟩ => ⟨S768x2048, .bf16⟩
  | .local _ .vmem, ⟨2, _⟩ => ⟨S1024x2048, .bf16⟩
  | .local _ .vmem, ⟨3, _⟩ => ⟨S1024x2048, .bf16⟩
  | .local _ .vmem, ⟨4, _⟩ => ⟨S768x1024, .bf16⟩
  | .local _ .vmem, ⟨5, _⟩ => ⟨S768x1024, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutDxRefIdeal.lean ====
abbrev S8448x2048 : Shape := ⟨2, ![8448, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S_, .f32⟩
  | .hbm, ⟨3, _⟩ => ⟨S8448x2048, .f32⟩
  | .hbm, ⟨4, _⟩ => ⟨S2048x2048, .f32⟩
  | .hbm, ⟨5, _⟩ => ⟨S8448x2048, .f32⟩
  | .hbm, ⟨6, _⟩ => ⟨S8448x2048, .f32⟩
  | .hbm, ⟨7, _⟩ => ⟨S8448x2048, .f32⟩
  | .hbm, ⟨8, _⟩ => ⟨S8448x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnOutDw.lean ====
abbrev S8448x2048 : Shape := ⟨2, ![8448, 2048]⟩
abbrev S2048x2048 : Shape := ⟨2, ![2048, 2048]⟩
abbrev S4224x512 : Shape := ⟨2, ![4224, 512]⟩
abbrev S4224x1024 : Shape := ⟨2, ![4224, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S2048x2048, .bf16⟩
  | .local _ .vmem, ⟨0, _⟩ => ⟨S4224x512, .bf16⟩
  | .local _ .vmem, ⟨1, _⟩ => ⟨S4224x512, .bf16⟩
  | .local _ .vmem, ⟨2, _⟩ => ⟨S4224x1024, .bf16⟩
  | .local _ .vmem, ⟨3, _⟩ => ⟨S4224x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutDwRefIdeal.lean ====
abbrev S8448x2048 : Shape := ⟨2, ![8448, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S_, .f32⟩
  | .hbm, ⟨3, _⟩ => ⟨S2048x2048, .f32⟩
  | .hbm, ⟨4, _⟩ => ⟨S8448x2048, .f32⟩
  | .hbm, ⟨5, _⟩ => ⟨S8448x2048, .f32⟩
  | .hbm, ⟨6, _⟩ => ⟨S8448x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QkvDx.lean ====
abbrev S8448x3072 : Shape := ⟨2, ![8448, 3072]⟩
abbrev S8x2048x384 : Shape := ⟨3, ![8, 2048, 384]⟩
abbrev S8x128 : Shape := ⟨2, ![8, 128]⟩
abbrev S8448x2048 : Shape := ⟨2, ![8448, 2048]⟩
abbrev S768x384 : Shape := ⟨2, ![768, 384]⟩
abbrev S1x1024x384 : Shape := ⟨3, ![1, 1024, 384]⟩
abbrev S768x1024 : Shape := ⟨2, ![768, 1024]⟩
abbrev S1024x384 : Shape := ⟨2, ![1024, 384]⟩

abbrev nBuf : Space → Nat
  | .hbm => 4
  | .vmem => 8
  | .smem => 0
  | _ => 0

abbrev bufTy : (tb : Table) → Fin (tcTables nBuf tb) → BufTy
  | .hbm, ⟨0, _⟩ => ⟨S8448x3072, .bf16⟩
  | .hbm, ⟨1, _⟩ => ⟨S8x2048x384, .bf16⟩
  | .hbm, ⟨2, _⟩ => ⟨S8x128, .f32⟩
  | .hbm, ⟨3, _⟩ => ⟨S8448x2048, .bf16⟩
  | .local _ .vmem, ⟨0, _⟩ => ⟨S768x384, .bf16⟩
  | .local _ .vmem, ⟨1, _⟩ => ⟨S768x384, .bf16⟩
  | .local _ .vmem, ⟨2, _⟩ => ⟨S1x1024x384, .bf16⟩
  | .local _ .vmem, ⟨3, _⟩ => ⟨S1x1024x384, .bf16⟩
  | .local _ .vmem, ⟨4, _⟩ => ⟨S8x128, .f32⟩
  | .local _ .vmem, ⟨5, _⟩ => ⟨S768x1024, .bf16⟩
  | .local _ .vmem, ⟨6, _⟩ => ⟨S768x1024, .bf16⟩
  | .local _ .vmem, ⟨7, _⟩ => ⟨S768x1024, .f32⟩
  | _, _ => ⟨S8448x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![11, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== QkvDxRefIdeal.lean ====
abbrev S8448x3072 : Shape := ⟨2, ![8448, 3072]⟩
abbrev S8x2048x384 : Shape := ⟨3, ![8, 2048, 384]⟩
abbrev S8x128 : Shape := ⟨2, ![8, 128]⟩
abbrev S_ : Shape := ⟨0, ![]⟩
abbrev S8448x2048 : Shape := ⟨2, ![8448, 2048]⟩
abbrev S2048x8x384 : Shape := ⟨3, ![2048, 8, 384]⟩
abbrev S2048x3072 : Shape := ⟨2, ![2048, 3072]⟩

abbrev nBuf : Space → Nat
  | .hbm => 12
  | .vmem => 0
  | .smem => 0
  | _ => 0

abbrev bufTy : (tb : Table) → Fin (tcTables nBuf tb) → BufTy
  | .hbm, ⟨0, _⟩ => ⟨S8448x3072, .bf16⟩
  | .hbm, ⟨1, _⟩ => ⟨S8x2048x384, .bf16⟩
  | .hbm, ⟨2, _⟩ => ⟨S8x128, .f32⟩
  | .hbm, ⟨3, _⟩ => ⟨S_, .f32⟩
  | .hbm, ⟨4, _⟩ => ⟨S8448x2048, .f32⟩
  | .hbm, ⟨5, _⟩ => ⟨S8x2048x384, .f32⟩
  | .hbm, ⟨6, _⟩ => ⟨S2048x8x384, .f32⟩
  | .hbm, ⟨7, _⟩ => ⟨S2048x3072, .f32⟩
  | .hbm, ⟨8, _⟩ => ⟨S8448x3072, .f32⟩
  | .hbm, ⟨9, _⟩ => ⟨S8448x3072, .f32⟩
  | .hbm, ⟨10, _⟩ => ⟨S8448x2048, .f32⟩
  | .hbm, ⟨11, _⟩ => ⟨S8448x2048, .bf16⟩
  | _, _ => ⟨S8448x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== QkvDw.lean ====
abbrev S8448x2048 : Shape := ⟨2, ![8448, 2048]⟩
abbrev S8448x3072 : Shape := ⟨2, ![8448, 3072]⟩
abbrev S8x2048x384 : Shape := ⟨3, ![8, 2048, 384]⟩
abbrev S2112x1024 : Shape := ⟨2, ![2112, 1024]⟩
abbrev S2112x384 : Shape := ⟨2, ![2112, 384]⟩
abbrev S1x1024x384 : Shape := ⟨3, ![1, 1024, 384]⟩
abbrev S1024x384 : Shape := ⟨2, ![1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x3072, .bf16⟩
  | .hbm, ⟨2, _⟩ => ⟨S8x2048x384, .bf16⟩
  | .local _ .vmem, ⟨0, _⟩ => ⟨S2112x1024, .bf16⟩
  | .local _ .vmem, ⟨1, _⟩ => ⟨S2112x1024, .bf16⟩
  | .local _ .vmem, ⟨2, _⟩ => ⟨S2112x384, .bf16⟩
  | .local _ .vmem, ⟨3, _⟩ => ⟨S2112x384, .bf16⟩
  | .local _ .vmem, ⟨4, _⟩ => ⟨S1x1024x384, .bf16⟩
  | .local _ .vmem, ⟨5, _⟩ => ⟨S1x1024x384, .bf16⟩
  | .local _ .vmem, ⟨6, _⟩ => ⟨S1024x384, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2112x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDwRefIdeal.lean ====
abbrev S8448x2048 : Shape := ⟨2, ![8448, 2048]⟩
abbrev S8448x3072 : Shape := ⟨2, ![8448, 3072]⟩
abbrev S_ : Shape := ⟨0, ![]⟩
abbrev S8x2048x384 : Shape := ⟨3, ![8, 2048, 384]⟩
abbrev S2048x8x384 : Shape := ⟨3, ![2048, 8, 384]⟩
abbrev S2048x3072 : Shape := ⟨2, ![2048, 3072]⟩
abbrev S3072x2048 : Shape := ⟨2, ![3072, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x3072, .bf16⟩
  | .hbm, ⟨2, _⟩ => ⟨S_, .f32⟩
  | .hbm, ⟨3, _⟩ => ⟨S8x2048x384, .f32⟩
  | .hbm, ⟨4, _⟩ => ⟨S8448x2048, .f32⟩
  | .hbm, ⟨5, _⟩ => ⟨S2048x8x384, .f32⟩
  | .hbm, ⟨6, _⟩ => ⟨S2048x3072, .f32⟩
  | .hbm, ⟨7, _⟩ => ⟨S8448x3072, .f32⟩
  | .hbm, ⟨8, _⟩ => ⟨S8448x3072, .f32⟩
  | .hbm, ⟨9, _⟩ => ⟨S3072x2048, .f32⟩
  | .hbm, ⟨10, _⟩ => ⟨S2048x3072, .f32⟩
  | .hbm, ⟨11, _⟩ => ⟨S2048x8x384, .f32⟩
  | .hbm, ⟨12, _⟩ => ⟨S8x2048x384, .f32⟩
  | .hbm, ⟨13, _⟩ => ⟨S8x2048x384, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== SsdIn.lean ====
abbrev S8448x2048 : Shape := ⟨2, ![8448, 2048]⟩
abbrev S2048x10368 : Shape := ⟨2, ![2048, 10368]⟩
abbrev S8448x10368 : Shape := ⟨2, ![8448, 10368]⟩
abbrev S768x2048 : Shape := ⟨2, ![768, 2048]⟩
abbrev S2048x1152 : Shape := ⟨2, ![2048, 1152]⟩
abbrev S768x1152 : Shape := ⟨2, ![768, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x10368, .bf16⟩
  | .hbm, ⟨2, _⟩ => ⟨S8448x10368, .f32⟩
  | .local _ .vmem, ⟨0, _⟩ => ⟨S768x2048, .bf16⟩
  | .local _ .vmem, ⟨1, _⟩ => ⟨S768x2048, .bf16⟩
  | .local _ .vmem, ⟨2, _⟩ => ⟨S2048x1152, .bf16⟩
  | .local _ .vmem, ⟨3, _⟩ => ⟨S2048x1152, .bf16⟩
  | .local _ .vmem, ⟨4, _⟩ => ⟨S768x1152, .f32⟩
  | .local _ .vmem, ⟨5, _⟩ => ⟨S768x1152, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SsdInRefIdeal.lean ====
abbrev S8448x2048 : Shape := ⟨2, ![8448, 2048]⟩
abbrev S2048x10368 : Shape := ⟨2, ![2048, 10368]⟩
abbrev S8448x10368 : Shape := ⟨2, ![8448, 10368]⟩

abbrev nBuf : Space → Nat
  | .hbm => 5
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x10368, .bf16⟩
  | .hbm, ⟨2, _⟩ => ⟨S8448x2048, .f32⟩
  | .hbm, ⟨3, _⟩ => ⟨S2048x10368, .f32⟩
  | .hbm, ⟨4, _⟩ => ⟨S8448x10368, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Qkv.lean ====
abbrev S8448x2048 : Shape := ⟨2, ![8448, 2048]⟩
abbrev S8x2048x384 : Shape := ⟨3, ![8, 2048, 384]⟩
abbrev S8448x3072 : Shape := ⟨2, ![8448, 3072]⟩
abbrev S768x2048 : Shape := ⟨2, ![768, 2048]⟩
abbrev S1x2048x384 : Shape := ⟨3, ![1, 2048, 384]⟩
abbrev S768x384 : Shape := ⟨2, ![768, 384]⟩
abbrev S2048x384 : Shape := ⟨2, ![2048, 384]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S8x2048x384, .bf16⟩
  | .hbm, ⟨2, _⟩ => ⟨S8448x3072, .f32⟩
  | .local _ .vmem, ⟨0, _⟩ => ⟨S768x2048, .bf16⟩
  | .local _ .vmem, ⟨1, _⟩ => ⟨S768x2048, .bf16⟩
  | .local _ .vmem, ⟨2, _⟩ => ⟨S1x2048x384, .bf16⟩
  | .local _ .vmem, ⟨3, _⟩ => ⟨S1x2048x384, .bf16⟩
  | .local _ .vmem, ⟨4, _⟩ => ⟨S768x384, .f32⟩
  | .local _ .vmem, ⟨5, _⟩ => ⟨S768x384, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S8448x2048 : Shape := ⟨2, ![8448, 2048]⟩
abbrev S8x2048x384 : Shape := ⟨3, ![8, 2048, 384]⟩
abbrev S2048x8x384 : Shape := ⟨3, ![2048, 8, 384]⟩
abbrev S2048x3072 : Shape := ⟨2, ![2048, 3072]⟩
abbrev S8448x3072 : Shape := ⟨2, ![8448, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8x2048x384, .bf16⟩
  | .hbm, ⟨2, _⟩ => ⟨S8448x2048, .f32⟩
  | .hbm, ⟨3, _⟩ => ⟨S8x2048x384, .f32⟩
  | .hbm, ⟨4, _⟩ => ⟨S2048x8x384, .f32⟩
  | .hbm, ⟨5, _⟩ => ⟨S2048x3072, .f32⟩
  | .hbm, ⟨6, _⟩ => ⟨S8448x3072, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnUp.lean ====
abbrev S8448x2048 : Shape := ⟨2, ![8448, 2048]⟩
abbrev S8x2048x1408 : Shape := ⟨3, ![8, 2048, 1408]⟩
abbrev S8448x11264 : Shape := ⟨2, ![8448, 11264]⟩
abbrev S768x2048 : Shape := ⟨2, ![768, 2048]⟩
abbrev S1x2048x1408 : Shape := ⟨3, ![1, 2048, 1408]⟩
abbrev S768x1408 : Shape := ⟨2, ![768, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S8x2048x1408, .bf16⟩
  | .hbm, ⟨2, _⟩ => ⟨S8448x11264, .f32⟩
  | .local _ .vmem, ⟨0, _⟩ => ⟨S768x2048, .bf16⟩
  | .local _ .vmem, ⟨1, _⟩ => ⟨S768x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S768x1408, .f32⟩
  | .local _ .vmem, ⟨5, _⟩ => ⟨S768x1408, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let c0_i32_5 : BitVec 32 := 0#32
  let v17 : BitVec 1 := Scalar.cmpi .eq c2_i32 c0_i32_5
  let c1_i32_6 : BitVec 32 := 1#32
  let v18 : BitVec 32 := Scalar.select v17 c1_i32_6 c2_i32
  let v19 : BitVec 32 := Scalar.remsi v16 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.muli v26 c4_i32
  let c2_i32_10 : BitVec 32 := 2#32
  let v28 : BitVec 32 := Scalar.divsi v16 c2_i32_10
  let c0_i32_11 : BitVec 32 := 0#32
  let v29 : BitVec 1 := Scalar.cmpi .sgt v16 c0_i32_11
  let v30 : BitVec 32 := Scalar.extui v29
  let c0_i32_12 : BitVec 32 := 0#32
  let v31 : BitVec 1 := Scalar.cmpi .slt v16 c0_i32_12
  let v32 : BitVec 32 := Scalar.extui v31
  let v33 : BitVec 32 := Scalar.subi v30 v32
  let c0_i32_13 : BitVec 32 := 0#32
  let v34 : BitVec 1 := Scalar.cmpi .sgt c2_i32_10 c0_i32_13
  let v35 : BitVec 32 := Scalar.extui v34
  let c0_i32_14 : BitVec 32 := 0#32
  let v36 : BitVec 1 := Scalar.cmpi .slt c2_i32_10 c0_i32_14
  let v37 : BitVec 32 := Scalar.extui v36
  let v38 : BitVec 32 := Scalar.subi v35 v37
  let v39 : BitVec 1 := Scalar.cmpi .ne v33 v38
  let v40 : BitVec 32 := Scalar.remsi v16 c2_i32_10
  let c0_i32_15 : BitVec 32 := 0#32
  let v41 : BitVec 1 := Scalar.cmpi .ne v40 c0_i32_15
  let v42 : BitVec 1 := Scalar.andi v39 v41
  let c1_i32_16 : BitVec 32 := 1#32
  let v43 : BitVec 32 := Scalar.subi v28 c1_i32_16
  let v44 : BitVec 32 := Scalar.select v42 v43 v28
  let v45 : BitVec 32 := Scalar.addi v27 v44
  let c1_i32_17 : BitVec 32 := 1#32
  let c0_i32_18 : BitVec 32 := 0#32
  let v46 : BitVec 1 := Scalar.cmpi .eq c1_i32_17 c0_i32_18
  let c1_i32_19 : BitVec 32 := 1#32
  let v47 : BitVec 32 := Scalar.select v46 c1_i32_19 c1_i32_17
  let v48 : BitVec 32 := Scalar.remsi arg1 v47
  let c0_i32_20 : BitVec 32 := 0#32
  let v49 : BitVec 1 := Scalar.cmpi .ne v48 c0_i32_20
  let c0_i32_21 : BitVec 32 := 0#32
  let v50 : BitVec 1 := Scalar.cmpi .slt v48 c0_i32_21
  let c0_i32_22 : BitVec 32 := 0#32
  let v51 : BitVec 1 := Scalar.cmpi .slt v47 c0_i32_22
  let v52 : BitVec 1 := Scalar.xori v50 v51
  let v53 : BitVec 1 := Scalar.andi v52 v49
  let v54 : BitVec 32 := Scalar.addi v48 v47
  let v55 : BitVec 32 := Scalar.select v53 v54 v48
  let c0_i32_23 : BitVec 32 := 0#32
  ![v45.toNat, arg2.toNat, v55.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S8448x2048 : Shape := ⟨2, ![8448, 2048]⟩
abbrev S8x2048x1408 : Shape := ⟨3, ![8, 2048, 1408]⟩
abbrev S2x4x2048x1408 : Shape := ⟨4, ![2, 4, 2048, 1408]⟩
abbrev S2048x4x2x1408 : Shape := ⟨4, ![2048, 4, 2, 1408]⟩
abbrev S2048x11264 : Shape := ⟨2, ![2048, 11264]⟩
abbrev S8448x11264 : Shape := ⟨2, ![8448, 11264]⟩

abbrev nBuf : Space → Nat
  | .hbm => 8
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8x2048x1408, .bf16⟩
  | .hbm, ⟨2, _⟩ => ⟨S8448x2048, .f32⟩
  | .hbm, ⟨3, _⟩ => ⟨S8x2048x1408, .f32⟩
  | .hbm, ⟨4, _⟩ => ⟨S2x4x2048x1408, .f32⟩
  | .hbm, ⟨5, _⟩ => ⟨S2048x4x2x1408, .f32⟩
  | .hbm, ⟨6, _⟩ => ⟨S2048x11264, .f32⟩
  | .hbm, ⟨7, _⟩ => ⟨S8448x11264, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== SsdOut.lean ====
abbrev S8448x4096 : Shape := ⟨2, ![8448, 4096]⟩
abbrev S4096x2048 : Shape := ⟨2, ![4096, 2048]⟩
abbrev S8448x2048 : Shape := ⟨2, ![8448, 2048]⟩
abbrev S2x2048 : Shape := ⟨2, ![2, 2048]⟩
abbrev S768x4096 : Shape := ⟨2, ![768, 4096]⟩
abbrev S4096x512 : Shape := ⟨2, ![4096, 512]⟩
abbrev S768x512 : Shape := ⟨2, ![768, 512]⟩
abbrev S2x512 : Shape := ⟨2, ![2, 512]⟩
abbrev S768x1 : Shape := ⟨2, ![768, 1]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S8448x4096, .bf16⟩
  | .hbm, ⟨1, _⟩ => ⟨S4096x2048, .bf16⟩
  | .hbm, ⟨2, _⟩ => ⟨S8448x2048, .f32⟩
  | .hbm, ⟨3, _⟩ => ⟨S2x2048, .f32⟩
  | .hbm, ⟨4, _⟩ => ⟨S8448x2048, .f32⟩
  | .hbm, ⟨5, _⟩ => ⟨S8448x2048, .f32⟩
  | .local _ .vmem, ⟨0, _⟩ => ⟨S768x4096, .bf16⟩
  | .local _ .vmem, ⟨1, _⟩ => ⟨S768x4096, .bf16⟩
  | .local _ .vmem, ⟨2, _⟩ => ⟨S4096x512, .bf16⟩
  | .local _ .vmem, ⟨3, _⟩ => ⟨S4096x512, .bf16⟩
  | .local _ .vmem, ⟨4, _⟩ => ⟨S768x512, .f32⟩
  | .local _ .vmem, ⟨5, _⟩ => ⟨S768x512, .f32⟩
  | .local _ .vmem, ⟨6, _⟩ => ⟨S2x512, .f32⟩
  | .local _ .vmem, ⟨7, _⟩ => ⟨S2x512, .f32⟩
  | .local _ .vmem, ⟨8, _⟩ => ⟨S768x512, .f32⟩
  | .local _ .vmem, ⟨9, _⟩ => ⟨S768x512, .f32⟩
  | .local _ .vmem, ⟨10, _⟩ => ⟨S768x512, .f32⟩
  | .local _ .vmem, ⟨11, _⟩ => ⟨S768x512, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![11, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S768x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== SsdOutRefIdeal.lean ====
abbrev S8448x4096 : Shape := ⟨2, ![8448, 4096]⟩
abbrev S4096x2048 : Shape := ⟨2, ![4096, 2048]⟩
abbrev S8448x2048 : Shape := ⟨2, ![8448, 2048]⟩
abbrev S2x2048 : Shape := ⟨2, ![2, 2048]⟩
abbrev S1x2048 : Shape := ⟨2, ![1, 2048]⟩
abbrev S2048 : Shape := ⟨1, ![2048]⟩
abbrev S256x2048 : Shape := ⟨2, ![256, 2048]⟩
abbrev S8192x2048 : Shape := ⟨2, ![8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x2048, .bf16⟩
  | .hbm, ⟨2, _⟩ => ⟨S8448x2048, .f32⟩
  | .hbm, ⟨3, _⟩ => ⟨S2x2048, .f32⟩
  | .hbm, ⟨4, _⟩ => ⟨S8448x4096, .f32⟩
  | .hbm, ⟨5, _⟩ => ⟨S4096x2048, .f32⟩
  | .hbm, ⟨6, _⟩ => ⟨S8448x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S256x2048, .f32⟩
  | .hbm, ⟨12, _⟩ => ⟨S256x2048, .f32⟩
  | .hbm, ⟨13, _⟩ => ⟨S1x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8448x2048, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== AttnOut.lean ====
abbrev S8448x2048 : Shape := ⟨2, ![8448, 2048]⟩
abbrev S2048x2048 : Shape := ⟨2, ![2048, 2048]⟩
abbrev S2x2048 : Shape := ⟨2, ![2, 2048]⟩
abbrev S768x2048 : Shape := ⟨2, ![768, 2048]⟩
abbrev S2048x1024 : Shape := ⟨2, ![2048, 1024]⟩
abbrev S768x1024 : Shape := ⟨2, ![768, 1024]⟩
abbrev S2x1024 : Shape := ⟨2, ![2, 1024]⟩
abbrev S768x1 : Shape := ⟨2, ![768, 1]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .f32⟩
  | .hbm, ⟨3, _⟩ => ⟨S2x2048, .f32⟩
  | .hbm, ⟨4, _⟩ => ⟨S8448x2048, .f32⟩
  | .hbm, ⟨5, _⟩ => ⟨S8448x2048, .f32⟩
  | .local _ .vmem, ⟨0, _⟩ => ⟨S768x2048, .bf16⟩
  | .local _ .vmem, ⟨1, _⟩ => ⟨S768x2048, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | .local _ .vmem, ⟨6, _⟩ => ⟨S2x1024, .f32⟩
  | .local _ .vmem, ⟨7, _⟩ => ⟨S2x1024, .f32⟩
  | .local _ .vmem, ⟨8, _⟩ => ⟨S768x1024, .f32⟩
  | .local _ .vmem, ⟨9, _⟩ => ⟨S768x1024, .f32⟩
  | .local _ .vmem, ⟨10, _⟩ => ⟨S768x1024, .f32⟩
  | .local _ .vmem, ⟨11, _⟩ => ⟨S768x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== AttnOutRefIdeal.lean ====
abbrev S8448x2048 : Shape := ⟨2, ![8448, 2048]⟩
abbrev S2048x2048 : Shape := ⟨2, ![2048, 2048]⟩
abbrev S2x2048 : Shape := ⟨2, ![2, 2048]⟩
abbrev S1x2048 : Shape := ⟨2, ![1, 2048]⟩
abbrev S2048 : Shape := ⟨1, ![2048]⟩
abbrev S256x2048 : Shape := ⟨2, ![256, 2048]⟩
abbrev S8192x2048 : Shape := ⟨2, ![8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x2048, .bf16⟩
  | .hbm, ⟨2, _⟩ => ⟨S8448x2048, .f32⟩
  | .hbm, ⟨3, _⟩ => ⟨S2x2048, .f32⟩
  | .hbm, ⟨4, _⟩ => ⟨S8448x2048, .f32⟩
  | .hbm, ⟨5, _⟩ => ⟨S2048x2048, .f32⟩
  | .hbm, ⟨6, _⟩ => ⟨S8448x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S256x2048, .f32⟩
  | .hbm, ⟨12, _⟩ => ⟨S256x2048, .f32⟩
  | .hbm, ⟨13, _⟩ => ⟨S1x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8448x2048, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== FfnDown.lean ====
abbrev S8448x5632 : Shape := ⟨2, ![8448, 5632]⟩
abbrev S5632x2048 : Shape := ⟨2, ![5632, 2048]⟩
abbrev S8448x2048 : Shape := ⟨2, ![8448, 2048]⟩
abbrev S2x2048 : Shape := ⟨2, ![2, 2048]⟩
abbrev S768x5632 : Shape := ⟨2, ![768, 5632]⟩
abbrev S5632x512 : Shape := ⟨2, ![5632, 512]⟩
abbrev S768x512 : Shape := ⟨2, ![768, 512]⟩
abbrev S2x512 : Shape := ⟨2, ![2, 512]⟩
abbrev S768x1 : Shape := ⟨2, ![768, 1]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .bf16⟩
  | .hbm, ⟨2, _⟩ => ⟨S8448x2048, .f32⟩
  | .hbm, ⟨3, _⟩ => ⟨S2x2048, .f32⟩
  | .hbm, ⟨4, _⟩ => ⟨S8448x2048, .f32⟩
  | .hbm, ⟨5, _⟩ => ⟨S8448x2048, .f32⟩
  | .local _ .vmem, ⟨0, _⟩ => ⟨S768x5632, .bf16⟩
  | .local _ .vmem, ⟨1, _⟩ => ⟨S768x5632, .bf16⟩
  | .local _ .vmem, ⟨2, _⟩ => ⟨S5632x512, .bf16⟩
  | .local _ .vmem, ⟨3, _⟩ => ⟨S5632x512, .bf16⟩
  | .local _ .vmem, ⟨4, _⟩ => ⟨S768x512, .f32⟩
  | .local _ .vmem, ⟨5, _⟩ => ⟨S768x512, .f32⟩
  | .local _ .vmem, ⟨6, _⟩ => ⟨S2x512, .f32⟩
  | .local _ .vmem, ⟨7, _⟩ => ⟨S2x512, .f32⟩
  | .local _ .vmem, ⟨8, _⟩ => ⟨S768x512, .f32⟩
  | .local _ .vmem, ⟨9, _⟩ => ⟨S768x512, .f32⟩
  | .local _ .vmem, ⟨10, _⟩ => ⟨S768x512, .f32⟩
  | .local _ .vmem, ⟨11, _⟩ => ⟨S768x512, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![11, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S768x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnDownRefIdeal.lean ====
abbrev S8448x5632 : Shape := ⟨2, ![8448, 5632]⟩
abbrev S5632x2048 : Shape := ⟨2, ![5632, 2048]⟩
abbrev S8448x2048 : Shape := ⟨2, ![8448, 2048]⟩
abbrev S2x2048 : Shape := ⟨2, ![2, 2048]⟩
abbrev S1x2048 : Shape := ⟨2, ![1, 2048]⟩
abbrev S2048 : Shape := ⟨1, ![2048]⟩
abbrev S256x2048 : Shape := ⟨2, ![256, 2048]⟩
abbrev S8192x2048 : Shape := ⟨2, ![8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S5632x2048, .bf16⟩
  | .hbm, ⟨2, _⟩ => ⟨S8448x2048, .f32⟩
  | .hbm, ⟨3, _⟩ => ⟨S2x2048, .f32⟩
  | .hbm, ⟨4, _⟩ => ⟨S8448x5632, .f32⟩
  | .hbm, ⟨5, _⟩ => ⟨S5632x2048, .f32⟩
  | .hbm, ⟨6, _⟩ => ⟨S8448x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S256x2048, .f32⟩
  | .hbm, ⟨12, _⟩ => ⟨S256x2048, .f32⟩
  | .hbm, ⟨13, _⟩ => ⟨S1x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8448x2048, .f32⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩

abbrev nD : Nat := 1
abbrev τ : Topo := Topo.v7x

variable {F : FTy → Type} [FloatOps F]
-- ==== GateFfn.lean ====
abbrev S8448x2048 : Shape := ⟨2, ![8448, 2048]⟩
abbrev S2x6x2048 : Shape := ⟨3, ![2, 6, 2048]⟩
abbrev S2x8x2048 : Shape := ⟨3, ![2, 8, 2048]⟩
abbrev S256x2048 : Shape := ⟨2, ![256, 2048]⟩
abbrev S1x6x2048 : Shape := ⟨3, ![1, 6, 2048]⟩
abbrev S1x8x2048 : Shape := ⟨3, ![1, 8, 2048]⟩
abbrev S1x1x2048 : Shape := ⟨3, ![1, 1, 2048]⟩
abbrev S1x2048 : Shape := ⟨2, ![1, 2048]⟩
abbrev S2048 : Shape := ⟨1, ![2048]⟩
abbrev S7x2048 : Shape := ⟨2, ![7, 2048]⟩
abbrev S8x2048 : Shape := ⟨2, ![8, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S2x6x2048, .f32⟩
  | .hbm, ⟨3, _⟩ => ⟨S8448x2048, .bf16⟩
  | .hbm, ⟨4, _⟩ => ⟨S2x8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x6x2048, .f32⟩
  | .local _ .vmem, ⟨5, _⟩ => ⟨S1x6x2048, .f32⟩
  | .local _ .vmem, ⟨6, _⟩ => ⟨S256x2048, .bf16⟩
  | .local _ .vmem, ⟨7, _⟩ => ⟨S256x2048, .bf16⟩
  | .local _ .vmem, ⟨8, _⟩ => ⟨S1x8x2048, .f32⟩
  | .local _ .vmem, ⟨9, _⟩ => ⟨S1x8x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let c1_i32 : BitVec 32 := 1#32
  let v14 : BitVec 1 := Scalar.cmpi .eq arg0 c1_i32
  let v15 : BitVec 1 := Scalar.ori v13 v14
  let v16 : BitVec 32 := Scalar.extui v15
  let c0_i32_8 : BitVec 32 := 0#32
  let v17 : BitVec 1 := Scalar.cmpi .ne v16 c0_i32_8
  v17

def k0_cond2 (i : grid0.Coords) : BitVec 1 :=
  let arg0 : BitVec 32 := BitVec.ofNat 32 (i 0).val
  let c0_i32_9 : BitVec 32 := 0#32
  let v18 : BitVec 1 := Scalar.cmpi .ne arg0 c0_i32_9
  let c1_i32_10 : BitVec 32 := 1#32
  let v19 : BitVec 1 := Scalar.cmpi .ne arg0 c1_i32_10
  let v20 : BitVec 1 := Scalar.andi v18 v19
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c256_i32_0 : BitVec 32 := 256#32
  let v1 : BitVec 1 := Scalar.cmpi .slt v0 c256_i32_0
  let c0_i32 : BitVec 32 := 0#32
  let c1_i32 : BitVec 32 := 1#32
  let v2 : BitVec 32 := Scalar.select v1 c0_i32 c1_i32
  let c0_i32_1 : BitVec 32 := 0#32
  let c0_i32_2 : BitVec 32 := 0#32
  let c0_i32_3 : BitVec 32 := 0#32
  ![v2.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c256_i32 : BitVec 32 := 256#32
  let v0 : BitVec 32 := Scalar.muli arg0 c256_i32
  let c256_i32_0 : BitVec 32 := 256#32
  let v1 : BitVec 1 := Scalar.cmpi .slt v0 c256_i32_0
  let c0_i32 : BitVec 32 := 0#32
  let c1_i32 : BitVec 32 := 1#32
  let v2 : BitVec 32 := Scalar.select v1 c0_i32 c1_i32
  let c0_i32_1 : BitVec 32 := 0#32
  let c0_i32_2 : BitVec 32 := 0#32
  let c0_i32_3 : BitVec 32 := 0#32
  ![v2.toNat, c0_i32_1.toNat, c0_i32_2.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateFfnRefIdeal.lean ====
abbrev S8448x2048 : Shape := ⟨2, ![8448, 2048]⟩
abbrev S2x6x2048 : Shape := ⟨3, ![2, 6, 2048]⟩
abbrev S256x2048 : Shape := ⟨2, ![256, 2048]⟩
abbrev S8192x2048 : Shape := ⟨2, ![8192, 2048]⟩
abbrev S1x6x2048 : Shape := ⟨3, ![1, 6, 2048]⟩
abbrev S6x2048 : Shape := ⟨2, ![6, 2048]⟩
abbrev S1x2048 : Shape := ⟨2, ![1, 2048]⟩
abbrev S2048 : Shape := ⟨1, ![2048]⟩
abbrev S_ : Shape := ⟨0, ![]⟩
abbrev S2x2048 : Shape := ⟨2, ![2, 2048]⟩
abbrev S2x1x2048 : Shape := ⟨3, ![2, 1, 2048]⟩
abbrev S2x8x2048 : Shape := ⟨3, ![2, 8, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S2x6x2048, .f32⟩
  | .hbm, ⟨3, _⟩ => ⟨S256x2048, .f32⟩
  | .hbm, ⟨4, _⟩ => ⟨S8192x2048, .f32⟩
  | .hbm, ⟨5, _⟩ => ⟨S256x2048, .f32⟩
  | .hbm, ⟨6, _⟩ => ⟨S8192x2048, .f32⟩
  | .hbm, ⟨7, _⟩ => ⟨S1x6x2048, .f32⟩
  | .hbm, ⟨8, _⟩ => ⟨S6x2048, .f32⟩
  | .hbm, ⟨9, _⟩ => ⟨S1x6x2048, .f32⟩
  | .hbm, ⟨10, _⟩ => ⟨S6x2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S2048, .f32⟩
  | .hbm, ⟨21, _⟩ => ⟨S1x2048, .f32⟩
  | .hbm, ⟨22, _⟩ => ⟨S_, .f32⟩
  | .hbm, ⟨23, _⟩ => ⟨S2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S1x2048, .f32⟩
  | .hbm, ⟨39, _⟩ => ⟨S2x2048, .f32⟩
  | .hbm, ⟨40, _⟩ => ⟨S2x1x2048, .f32⟩
  | .hbm, ⟨41, _⟩ => ⟨S_, .i32⟩
  | .hbm, ⟨42, _⟩ => ⟨S_, .f32⟩
  | .hbm, ⟨43, _⟩ => ⟨S2x8x2048, .f32⟩
  | .hbm, ⟨44, _⟩ => ⟨S8448x2048, .f32⟩
  | .hbm, ⟨45, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_1 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c : Ref sig .tc := ⟨.hbm, 41, rfl⟩
abbrev main_call0_v0 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== GateMix.lean ====
abbrev S8448x2048 : Shape := ⟨2, ![8448, 2048]⟩
abbrev S2x6x2048 : Shape := ⟨3, ![2, 6, 2048]⟩
abbrev S2x8x2048 : Shape := ⟨3, ![2, 8, 2048]⟩
abbrev S256x2048 : Shape := ⟨2, ![256, 2048]⟩
abbrev S1x6x2048 : Shape := ⟨3, ![1, 6, 2048]⟩
abbrev S1x8x2048 : Shape := ⟨3, ![1, 8, 2048]⟩
abbrev S1x1x2048 : Shape := ⟨3, ![1, 1, 2048]⟩
abbrev S1x2048 : Shape := ⟨2, ![1, 2048]⟩
abbrev S2048 : Shape := ⟨1, ![2048]⟩
abbrev S7x2048 : Shape := ⟨2, ![7, 2048]⟩
abbrev S8x2048 : Shape := ⟨2, ![8, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S2x6x2048, .f32⟩
  | .hbm, ⟨3, _⟩ => ⟨S8448x2048, .bf16⟩
  | .hbm, ⟨4, _⟩ => ⟨S2x8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x6x2048, .f32⟩
  | .local _ .vmem, ⟨5, _⟩ => ⟨S1x6x2048, .f32⟩
  | .local _ .vmem, ⟨6, _⟩ => ⟨S256x2048, .bf16⟩
  | .local _ .vmem, ⟨7, _⟩ => ⟨S256x2048, .bf16⟩
  | .local _ .vmem, ⟨8, _⟩ => ⟨S1x8x2048, .f32⟩
  | .local _ .vmem, ⟨9, _⟩ => ⟨S1x8x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let c1_i32 : BitVec 32 := 1#32
  let v14 : BitVec 1 := Scalar.cmpi .eq arg0 c1_i32
  let v15 : BitVec 1 := Scalar.ori v13 v14
  let v16 : BitVec 32 := Scalar.extui v15
  let c0_i32_8 : BitVec 32 := 0#32
  let v17 : BitVec 1 := Scalar.cmpi .ne v16 c0_i32_8
  v17

def k0_cond2 (i : grid0.Coords) : BitVec 1 :=
  let arg0 : BitVec 32 := BitVec.ofNat 32 (i 0).val
  let c0_i32_9 : BitVec 32 := 0#32
  let v18 : BitVec 1 := Scalar.cmpi .ne arg0 c0_i32_9
  let c1_i32_10 : BitVec 32 := 1#32
  let v19 : BitVec 1 := Scalar.cmpi .ne arg0 c1_i32_10
  let v20 : BitVec 1 := Scalar.andi v18 v19
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c256_i32_0 : BitVec 32 := 256#32
  let v1 : BitVec 1 := Scalar.cmpi .slt v0 c256_i32_0
  let c0_i32 : BitVec 32 := 0#32
  let c1_i32 : BitVec 32 := 1#32
  let v2 : BitVec 32 := Scalar.select v1 c0_i32 c1_i32
  let c0_i32_1 : BitVec 32 := 0#32
  let c0_i32_2 : BitVec 32 := 0#32
  let c0_i32_3 : BitVec 32 := 0#32
  ![v2.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c256_i32 : BitVec 32 := 256#32
  let v0 : BitVec 32 := Scalar.muli arg0 c256_i32
  let c256_i32_0 : BitVec 32 := 256#32
  let v1 : BitVec 1 := Scalar.cmpi .slt v0 c256_i32_0
  let c0_i32 : BitVec 32 := 0#32
  let c1_i32 : BitVec 32 := 1#32
  let v2 : BitVec 32 := Scalar.select v1 c0_i32 c1_i32
  let c0_i32_1 : BitVec 32 := 0#32
  let c0_i32_2 : BitVec 32 := 0#32
  let c0_i32_3 : BitVec 32 := 0#32
  ![v2.toNat, c0_i32_1.toNat, c0_i32_2.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateMixRefIdeal.lean ====
abbrev S8448x2048 : Shape := ⟨2, ![8448, 2048]⟩
abbrev S2x6x2048 : Shape := ⟨3, ![2, 6, 2048]⟩
abbrev S256x2048 : Shape := ⟨2, ![256, 2048]⟩
abbrev S8192x2048 : Shape := ⟨2, ![8192, 2048]⟩
abbrev S1x6x2048 : Shape := ⟨3, ![1, 6, 2048]⟩
abbrev S6x2048 : Shape := ⟨2, ![6, 2048]⟩
abbrev S1x2048 : Shape := ⟨2, ![1, 2048]⟩
abbrev S2048 : Shape := ⟨1, ![2048]⟩
abbrev S_ : Shape := ⟨0, ![]⟩
abbrev S2x2048 : Shape := ⟨2, ![2, 2048]⟩
abbrev S2x1x2048 : Shape := ⟨3, ![2, 1, 2048]⟩
abbrev S2x8x2048 : Shape := ⟨3, ![2, 8, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S2x6x2048, .f32⟩
  | .hbm, ⟨3, _⟩ => ⟨S256x2048, .f32⟩
  | .hbm, ⟨4, _⟩ => ⟨S8192x2048, .f32⟩
  | .hbm, ⟨5, _⟩ => ⟨S256x2048, .f32⟩
  | .hbm, ⟨6, _⟩ => ⟨S8192x2048, .f32⟩
  | .hbm, ⟨7, _⟩ => ⟨S1x6x2048, .f32⟩
  | .hbm, ⟨8, _⟩ => ⟨S6x2048, .f32⟩
  | .hbm, ⟨9, _⟩ => ⟨S1x6x2048, .f32⟩
  | .hbm, ⟨10, _⟩ => ⟨S6x2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S2048, .f32⟩
  | .hbm, ⟨21, _⟩ => ⟨S1x2048, .f32⟩
  | .hbm, ⟨22, _⟩ => ⟨S_, .f32⟩
  | .hbm, ⟨23, _⟩ => ⟨S2048, .f32⟩
  | .hbm, ⟨24, _⟩ => ⟨S1x2048, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S_, .f32⟩
  | .hbm, ⟨36, _⟩ => ⟨S2048, .f32⟩
  | .hbm, ⟨37, _⟩ => ⟨S1x2048, .f32⟩
  | .hbm, ⟨38, _⟩ => ⟨S1x2048, .f32⟩
  | .hbm, ⟨39, _⟩ => ⟨S2x2048, .f32⟩
  | .hbm, ⟨40, _⟩ => ⟨S2x1x2048, .f32⟩
  | .hbm, ⟨41, _⟩ => ⟨S_, .i32⟩
  | .hbm, ⟨42, _⟩ => ⟨S_, .f32⟩
  | .hbm, ⟨43, _⟩ => ⟨S2x8x2048, .f32⟩
  | .hbm, ⟨44, _⟩ => ⟨S8448x2048, .f32⟩
  | .hbm, ⟨45, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_1 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c : Ref sig .tc := ⟨.hbm, 41, rfl⟩
abbrev main_call0_v0 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩

abbrev nD : Nat := 1
abbrev τ : Topo := Topo.v7x

variable {F : FTy → Type} [FloatOps F]
-- ==== NormFfn.lean ====
abbrev S8448x2048 : Shape := ⟨2, ![8448, 2048]⟩
abbrev S1x2048 : Shape := ⟨2, ![1, 2048]⟩
abbrev S2x6x2048 : Shape := ⟨3, ![2, 6, 2048]⟩
abbrev S2x8x2048 : Shape := ⟨3, ![2, 8, 2048]⟩
abbrev S256x2048 : Shape := ⟨2, ![256, 2048]⟩
abbrev S1x6x2048 : Shape := ⟨3, ![1, 6, 2048]⟩
abbrev S1x8x2048 : Shape := ⟨3, ![1, 8, 2048]⟩
abbrev S256 : Shape := ⟨1, ![256]⟩
abbrev S256x1 : Shape := ⟨2, ![256, 1]⟩
abbrev S1x1x2048 : Shape := ⟨3, ![1, 1, 2048]⟩
abbrev S2048 : Shape := ⟨1, ![2048]⟩
abbrev S5x2048 : Shape := ⟨2, ![5, 2048]⟩
abbrev S8x2048 : Shape := ⟨2, ![8, 2048]⟩

abbrev nBuf : Space → Nat
  | .hbm => 7
  | .vmem => 13
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S2x6x2048, .f32⟩
  | .hbm, ⟨3, _⟩ => ⟨S8448x2048, .bf16⟩
  | .hbm, ⟨4, _⟩ => ⟨S8448x2048, .f32⟩
  | .hbm, ⟨5, _⟩ => ⟨S8448x2048, .f32⟩
  | .hbm, ⟨6, _⟩ => ⟨S2x8x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S256x2048, .bf16⟩
  | .local _ .vmem, ⟨6, _⟩ => ⟨S256x2048, .bf16⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x8x2048, .f32⟩
  | .local _ .vmem, ⟨12, _⟩ => ⟨S1x8x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let c1_i32 : BitVec 32 := 1#32
  let v48 : BitVec 1 := Scalar.cmpi .eq arg0 c1_i32
  let v49 : BitVec 1 := Scalar.ori v47 v48
  let v50 : BitVec 32 := Scalar.extui v49
  let c0_i32_20 : BitVec 32 := 0#32
  let v51 : BitVec 1 := Scalar.cmpi .ne v50 c0_i32_20
  v51

def k0_cond2 (i : grid0.Coords) : BitVec 1 :=
  let arg0 : BitVec 32 := BitVec.ofNat 32 (i 0).val
  let c0_i32_21 : BitVec 32 := 0#32
  let v52 : BitVec 1 := Scalar.cmpi .ne arg0 c0_i32_21
  let c1_i32_22 : BitVec 32 := 1#32
  let v53 : BitVec 1 := Scalar.cmpi .ne arg0 c1_i32_22
  let v54 : BitVec 1 := Scalar.andi v52 v53
  let v55 : BitVec 32 := Scalar.extui v54
  let c0_i32_23 : BitVec 32 := 0#32
  let v56 : BitVec 1 := Scalar.cmpi .ne v55 c0_i32_23
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c256_i32_0 : BitVec 32 := 256#32
  let v1 : BitVec 1 := Scalar.cmpi .slt v0 c256_i32_0
  let c0_i32 : BitVec 32 := 0#32
  let c1_i32 : BitVec 32 := 1#32
  let v2 : BitVec 32 := Scalar.select v1 c0_i32 c1_i32
  let c0_i32_1 : BitVec 32 := 0#32
  let c0_i32_2 : BitVec 32 := 0#32
  let c0_i32_3 : BitVec 32 := 0#32
  ![v2.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c256_i32 : BitVec 32 := 256#32
  let v0 : BitVec 32 := Scalar.muli arg0 c256_i32
  let c256_i32_0 : BitVec 32 := 256#32
  let v1 : BitVec 1 := Scalar.cmpi .slt v0 c256_i32_0
  let c0_i32 : BitVec 32 := 0#32
  let c1_i32 : BitVec 32 := 1#32
  let v2 : BitVec 32 := Scalar.select v1 c0_i32 c1_i32
  let c0_i32_1 : BitVec 32 := 0#32
  let c0_i32_2 : BitVec 32 := 0#32
  let c0_i32_3 : BitVec 32 := 0#32
  ![v2.toNat, c0_i32_1.toNat, c0_i32_2.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormFfnRefIdeal.lean ====
abbrev S8448x2048 : Shape := ⟨2, ![8448, 2048]⟩
abbrev S1x2048 : Shape := ⟨2, ![1, 2048]⟩
abbrev S2x6x2048 : Shape := ⟨3, ![2, 6, 2048]⟩
abbrev S256x2048 : Shape := ⟨2, ![256, 2048]⟩
abbrev S8192x2048 : Shape := ⟨2, ![8192, 2048]⟩
abbrev S1x6x2048 : Shape := ⟨3, ![1, 6, 2048]⟩
abbrev S6x2048 : Shape := ⟨2, ![6, 2048]⟩
abbrev S2048 : Shape := ⟨1, ![2048]⟩
abbrev S_ : Shape := ⟨0, ![]⟩
abbrev S256 : Shape := ⟨1, ![256]⟩
abbrev S256x1 : Shape := ⟨2, ![256, 1]⟩
abbrev S3x2048 : Shape := ⟨2, ![3, 2048]⟩
abbrev S8192 : Shape := ⟨1, ![8192]⟩
abbrev S8192x1 : Shape := ⟨2, ![8192, 1]⟩
abbrev S1x3x2048 : Shape := ⟨3, ![1, 3, 2048]⟩
abbrev S2x3x2048 : Shape := ⟨3, ![2, 3, 2048]⟩
abbrev S2x8x2048 : Shape := ⟨3, ![2, 8, 2048]⟩

abbrev nBuf : Space → Nat
  | .hbm => 174
  | .vmem => 0
  | .smem => 0
  | _ => 0

abbrev hbmTy0_0 (i : Nat) : BufTy := match i % 128 with
  | 0 => ⟨S8448x2048, .f32⟩
  | 1 => ⟨S1x2048, .f32⟩
  | 2 => ⟨S2x6x2048, .f32⟩
  | 3 => ⟨S8448x2048, .bf16⟩
  | 4 => ⟨S8448x2048, .f32⟩
  | 5 => ⟨S256x2048, .f32⟩
  | 6 => ⟨S8192x2048, .f32⟩
  | 7 => ⟨S8448x2048, .f32⟩
  | 8 => ⟨S256x2048, .f32⟩
  | 9 => ⟨S8192x2048, .f32⟩
  | 10 => ⟨S1x6x2048, .f32⟩
  | 11 => ⟨S6x2048, .f32⟩
  | 12 => ⟨S1x6x2048, .f32⟩
  | 13 => ⟨S6x2048, .f32⟩
  | 14 => ⟨S2048, .f32⟩
  | 15 => ⟨S1x2048, .f32⟩
  | 16 => ⟨S2048, .f32⟩
  | 17 => ⟨S1x2048, .f32⟩
  | 18 => ⟨S2048, .f32⟩
  | 19 => ⟨S256x2048, .f32⟩
  | 20 => ⟨S_, .f32⟩
  | 21 => ⟨S256, .f32⟩
  | 22 => ⟨S256x1, .f32⟩
  | 23 => ⟨S_, .f32⟩
  | 24 => ⟨S256x1, .f32⟩
  | 25 => ⟨S256x1, .f32⟩
  | 26 => ⟨S_, .f32⟩
  | 27 => ⟨S256x1, .f32⟩
  | 28 => ⟨S256x1, .f32⟩
  | 29 => ⟨S256x1, .f32⟩
  | 30 => ⟨S256x1, .f32⟩
  | 31 => ⟨S_, .f32⟩
  | 32 => ⟨S256x1, .f32⟩
  | 33 => ⟨S256x1, .f32⟩
  | 34 => ⟨S256x2048, .f32⟩
  | 35 => ⟨S256x2048, .f32⟩
  | 36 => ⟨S1x2048, .f32⟩
  | 37 => ⟨S256x2048, .f32⟩
  | 38 => ⟨S256x2048, .f32⟩
  | 39 => ⟨S_, .f32⟩
  | 40 => ⟨S2048, .f32⟩
  | 41 => ⟨S2048, .f32⟩
  | 42 => ⟨S1x2048, .f32⟩
  | 43 => ⟨S256x2048, .f32⟩
  | 44 => ⟨S256x2048, .f32⟩
  | 45 => ⟨S1x2048, .f32⟩
  | 46 => ⟨S256x2048, .f32⟩
  | 47 => ⟨S256x2048, .f32⟩
  | 48 => ⟨S_, .f32⟩
  | 49 => ⟨S2048, .f32⟩
  | 50 => ⟨S1x2048, .f32⟩
  | 51 => ⟨S_, .f32⟩
  | 52 => ⟨S2048, .f32⟩
  | 53 => ⟨S256x2048, .f32⟩
  | 54 => ⟨S_, .f32⟩
  | 55 => ⟨S2048, .f32⟩
  | 56 => ⟨S1x2048, .f32⟩
  | 57 => ⟨S256x2048, .f32⟩
  | 58 => ⟨S256x2048, .f32⟩
  | 59 => ⟨S_, .f32⟩
  | 60 => ⟨S2048, .f32⟩
  | 61 => ⟨S256x2048, .f32⟩
  | 62 => ⟨S_, .f32⟩
  | 63 => ⟨S2048, .f32⟩
  | 64 => ⟨S1x2048, .f32⟩
  | 65 => ⟨S256x2048, .f32⟩
  | 66 => ⟨S256x2048, .f32⟩
  | 67 => ⟨S_, .f32⟩
  | 68 => ⟨S2048, .f32⟩
  | 69 => ⟨S256x2048, .f32⟩
  | 70 => ⟨S_, .f32⟩
  | 71 => ⟨S256, .f32⟩
  | 72 => ⟨S256x1, .f32⟩
  | 73 => ⟨S256x2048, .f32⟩
  | 74 => ⟨S256x2048, .f32⟩
  | 75 => ⟨S256x1, .f32⟩
  | 76 => ⟨S_, .f32⟩
  | 77 => ⟨S256x1, .f32⟩
  | 78 => ⟨S256x1, .f32⟩
  | 79 => ⟨S_, .f32⟩
  | 80 => ⟨S256, .f32⟩
  | 81 => ⟨S256x2048, .f32⟩
  | 82 => ⟨S256x2048, .f32⟩
  | 83 => ⟨S256x2048, .f32⟩
  | 84 => ⟨S256x2048, .f32⟩
  | 85 => ⟨S256x2048, .f32⟩
  | 86 => ⟨S1x2048, .f32⟩
  | 87 => ⟨S1x2048, .f32⟩
  | 88 => ⟨S1x2048, .f32⟩
  | 89 => ⟨S3x2048, .f32⟩
  | 90 => ⟨S2048, .f32⟩
  | 91 => ⟨S1x2048, .f32⟩
  | 92 => ⟨S2048, .f32⟩
  | 93 => ⟨S1x2048, .f32⟩
  | 94 => ⟨S2048, .f32⟩
  | 95 => ⟨S8192x2048, .f32⟩
  | 96 => ⟨S_, .f32⟩
  | 97 => ⟨S8192, .f32⟩
  | 98 => ⟨S8192x1, .f32⟩
  | 99 => ⟨S_, .f32⟩
  | 100 => ⟨S8192x1, .f32⟩
  | 101 => ⟨S8192x1, .f32⟩
  | 102 => ⟨S_, .f32⟩
  | 103 => ⟨S8192x1, .f32⟩
  | 104 => ⟨S8192x1, .f32⟩
  | 105 => ⟨S8192x1, .f32⟩
  | 106 => ⟨S8192x1, .f32⟩
  | 107 => ⟨S_, .f32⟩
  | 108 => ⟨S8192x1, .f32⟩
  | 109 => ⟨S8192x1, .f32⟩
  | 110 => ⟨S8192x2048, .f32⟩
  | 111 => ⟨S8192x2048, .f32⟩
  | 112 => ⟨S1x2048, .f32⟩
  | 113 => ⟨S8192x2048, .f32⟩
  | 114 => ⟨S8192x2048, .f32⟩
  | 115 => ⟨S_, .f32⟩
  | 116 => ⟨S2048, .f32⟩
  | 117 => ⟨S2048, .f32⟩
  | 118 => ⟨S1x2048, .f32⟩
  | 119 => ⟨S8192x2048, .f32⟩
  | 120 => ⟨S8192x2048, .f32⟩
  | 121 => ⟨S1x2048, .f32⟩
  | 122 => ⟨S8192x2048, .f32⟩
  | 123 => ⟨S8192x2048, .f32⟩
  | 124 => ⟨S_, .f32⟩
  | 125 => ⟨S2048, .f32⟩
  | 126 => ⟨S1x2048, .f32⟩
  | 127 => ⟨S_, .f32⟩
  | _ => ⟨S8448x2048, .f32⟩

abbrev hbmTy0_1 (i : Nat) : BufTy := match i % 128 with
  | 0 => ⟨S2048, .f32⟩
  | 1 => ⟨S8192x2048, .f32⟩
  | 2 => ⟨S_, .f32⟩
  | 3 => ⟨S2048, .f32⟩
  | 4 => ⟨S1x2048, .f32⟩
  | 5 => ⟨S8192x2048, .f32⟩
  | 6 => ⟨S8192x2048, .f32⟩
  | 7 => ⟨S_, .f32⟩
  | 8 => ⟨S2048, .f32⟩
  | 9 => ⟨S8192x2048, .f32⟩
  | 10 => ⟨S_, .f32⟩
  | 11 => ⟨S2048, .f32⟩
  | 12 => ⟨S1x2048, .f32⟩
  | 13 => ⟨S8192x2048, .f32⟩
  | 14 => ⟨S8192x2048, .f32⟩
  | 15 => ⟨S_, .f32⟩
  | 16 => ⟨S2048, .f32⟩
  | 17 => ⟨S8192x2048, .f32⟩
  | 18 => ⟨S_, .f32⟩
  | 19 => ⟨S8192, .f32⟩
  | 20 => ⟨S8192x1, .f32⟩
  | 21 => ⟨S8192x2048, .f32⟩
  | 22 => ⟨S8192x2048, .f32⟩
  | 23 => ⟨S8192x1, .f32⟩
  | 24 => ⟨S_, .f32⟩
  | 25 => ⟨S8192x1, .f32⟩
  | 26 => ⟨S8192x1, .f32⟩
  | 27 => ⟨S_, .f32⟩
  | 28 => ⟨S8192, .f32⟩
  | 29 => ⟨S8192x2048, .f32⟩
  | 30 => ⟨S8192x2048, .f32⟩
  | 31 => ⟨S8192x2048, .f32⟩
  | 32 => ⟨S8192x2048, .f32⟩
  | 33 => ⟨S8192x2048, .f32⟩
  | 34 => ⟨S1x2048, .f32⟩
  | 35 => ⟨S1x2048, .f32⟩
  | 36 => ⟨S1x2048, .f32⟩
  | 37 => ⟨S3x2048, .f32⟩
  | 38 => ⟨S8448x2048, .f32⟩
  | 39 => ⟨S8448x2048, .f32⟩
  | 40 => ⟨S1x3x2048, .f32⟩
  | 41 => ⟨S1x3x2048, .f32⟩
  | 42 => ⟨S2x3x2048, .f32⟩
  | 43 => ⟨S_, .i32⟩
  | 44 => ⟨S_, .f32⟩
  | 45 => ⟨S2x8x2048, .f32⟩
  | _ => ⟨S8448x2048, .f32⟩

abbrev hbmTy (i : Nat) : BufTy := match i / 128 with
  | 0 => hbmTy0_0 i
  | 1 => hbmTy0_1 i
  | _ => ⟨S8448x2048, .f32⟩

abbrev bufTy : (tb : Table) → Fin (tcTables nBuf tb) → BufTy
  | .hbm, ⟨i, _⟩ => hbmTy i
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_cst_10 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_v60 : Ref sig .tc := ⟨.hbm, 78, rfl⟩
abbrev main_cst_12 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_13 : Ref sig .tc := ⟨.hbm, 96, rfl⟩
abbrev main_v77 : Ref sig .tc := ⟨.hbm, 97, rfl⟩
abbrev main_v78 : Ref sig .tc := ⟨.hbm, 98, rfl⟩
abbrev main_cst_14 : Ref sig .tc := ⟨.hbm, 99, rfl⟩
abbrev main_v79 : Ref sig .tc := ⟨.hbm, 100, rfl⟩
abbrev main_v80 : Ref sig .tc := ⟨.hbm, 101, rfl⟩
abbrev main_cst_15 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_16 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_17 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_18 : Ref sig .tc := ⟨.hbm, 124, rfl⟩
abbrev main_v100 : Ref sig .tc := ⟨.hbm, 125, rfl⟩
abbrev main_v101 : Ref sig .tc := ⟨.hbm, 126, rfl⟩
abbrev main_cst_19 : Ref sig .tc := ⟨.hbm, 127, rfl⟩
abbrev main_v102 : Ref sig .tc := ⟨.hbm, 128, rfl⟩
abbrev main_v103 : Ref sig .tc := ⟨.hbm, 129, rfl⟩
abbrev main_cst_20 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_21 : Ref sig .tc := ⟨.hbm, 135, rfl⟩
abbrev main_v108 : Ref sig .tc := ⟨.hbm, 136, rfl⟩
abbrev main_v109 : Ref sig .tc := ⟨.hbm, 137, rfl⟩
abbrev main_cst_22 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_cst_23 : Ref sig .tc := ⟨.hbm, 143, rfl⟩
abbrev main_v114 : Ref sig .tc := ⟨.hbm, 144, rfl⟩
abbrev main_v115 : Ref sig .tc := ⟨.hbm, 145, rfl⟩
abbrev main_cst_24 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_cst_25 : Ref sig .tc := ⟨.hbm, 152, rfl⟩
abbrev main_v121 : Ref sig .tc := ⟨.hbm, 153, rfl⟩
abbrev main_v122 : Ref sig .tc := ⟨.hbm, 154, rfl⟩
abbrev main_cst_26 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_c : Ref sig .tc := ⟨.hbm, 171, rfl⟩
abbrev main_call0_v0 : Ref sig .tc := ⟨.hbm, 172, rfl⟩
abbrev main_v138 : Ref sig .tc := ⟨.hbm, 173, rfl⟩

abbrev nD : Nat := 1
abbrev τ : Topo := Topo.v7x

variable {F : FTy → Type} [FloatOps F]
-- ==== NormMix.lean ====
abbrev S8448x2048 : Shape := ⟨2, ![8448, 2048]⟩
abbrev S1x2048 : Shape := ⟨2, ![1, 2048]⟩
abbrev S2x6x2048 : Shape := ⟨3, ![2, 6, 2048]⟩
abbrev S2x8x2048 : Shape := ⟨3, ![2, 8, 2048]⟩
abbrev S256x2048 : Shape := ⟨2, ![256, 2048]⟩
abbrev S1x6x2048 : Shape := ⟨3, ![1, 6, 2048]⟩
abbrev S1x8x2048 : Shape := ⟨3, ![1, 8, 2048]⟩
abbrev S256 : Shape := ⟨1, ![256]⟩
abbrev S256x1 : Shape := ⟨2, ![256, 1]⟩
abbrev S1x1x2048 : Shape := ⟨3, ![1, 1, 2048]⟩
abbrev S2048 : Shape := ⟨1, ![2048]⟩
abbrev S5x2048 : Shape := ⟨2, ![5, 2048]⟩
abbrev S8x2048 : Shape := ⟨2, ![8, 2048]⟩

abbrev nBuf : Space → Nat
  | .hbm => 7
  | .vmem => 13
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S2x6x2048, .f32⟩
  | .hbm, ⟨3, _⟩ => ⟨S8448x2048, .bf16⟩
  | .hbm, ⟨4, _⟩ => ⟨S8448x2048, .f32⟩
  | .hbm, ⟨5, _⟩ => ⟨S8448x2048, .f32⟩
  | .hbm, ⟨6, _⟩ => ⟨S2x8x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S256x2048, .bf16⟩
  | .local _ .vmem, ⟨6, _⟩ => ⟨S256x2048, .bf16⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x8x2048, .f32⟩
  | .local _ .vmem, ⟨12, _⟩ => ⟨S1x8x2048, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let c1_i32 : BitVec 32 := 1#32
  let v48 : BitVec 1 := Scalar.cmpi .eq arg0 c1_i32
  let v49 : BitVec 1 := Scalar.ori v47 v48
  let v50 : BitVec 32 := Scalar.extui v49
  let c0_i32_20 : BitVec 32 := 0#32
  let v51 : BitVec 1 := Scalar.cmpi .ne v50 c0_i32_20
  v51

def k0_cond2 (i : grid0.Coords) : BitVec 1 :=
  let arg0 : BitVec 32 := BitVec.ofNat 32 (i 0).val
  let c0_i32_21 : BitVec 32 := 0#32
  let v52 : BitVec 1 := Scalar.cmpi .ne arg0 c0_i32_21
  let c1_i32_22 : BitVec 32 := 1#32
  let v53 : BitVec 1 := Scalar.cmpi .ne arg0 c1_i32_22
  let v54 : BitVec 1 := Scalar.andi v52 v53
  let v55 : BitVec 32 := Scalar.extui v54
  let c0_i32_23 : BitVec 32 := 0#32
  let v56 : BitVec 1 := Scalar.cmpi .ne v55 c0_i32_23
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c256_i32_0 : BitVec 32 := 256#32
  let v1 : BitVec 1 := Scalar.cmpi .slt v0 c256_i32_0
  let c0_i32 : BitVec 32 := 0#32
  let c1_i32 : BitVec 32 := 1#32
  let v2 : BitVec 32 := Scalar.select v1 c0_i32 c1_i32
  let c0_i32_1 : BitVec 32 := 0#32
  let c0_i32_2 : BitVec 32 := 0#32
  let c0_i32_3 : BitVec 32 := 0#32
  ![v2.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c256_i32 : BitVec 32 := 256#32
  let v0 : BitVec 32 := Scalar.muli arg0 c256_i32
  let c256_i32_0 : BitVec 32 := 256#32
  let v1 : BitVec 1 := Scalar.cmpi .slt v0 c256_i32_0
  let c0_i32 : BitVec 32 := 0#32
  let c1_i32 : BitVec 32 := 1#32
  let v2 : BitVec 32 := Scalar.select v1 c0_i32 c1_i32
  let c0_i32_1 : BitVec 32 := 0#32
  let c0_i32_2 : BitVec 32 := 0#32
  let c0_i32_3 : BitVec 32 := 0#32
  ![v2.toNat, c0_i32_1.toNat, c0_i32_2.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormMixRefIdeal.lean ====
abbrev S8448x2048 : Shape := ⟨2, ![8448, 2048]⟩
abbrev S1x2048 : Shape := ⟨2, ![1, 2048]⟩
abbrev S2x6x2048 : Shape := ⟨3, ![2, 6, 2048]⟩
abbrev S256x2048 : Shape := ⟨2, ![256, 2048]⟩
abbrev S8192x2048 : Shape := ⟨2, ![8192, 2048]⟩
abbrev S1x6x2048 : Shape := ⟨3, ![1, 6, 2048]⟩
abbrev S6x2048 : Shape := ⟨2, ![6, 2048]⟩
abbrev S2048 : Shape := ⟨1, ![2048]⟩
abbrev S_ : Shape := ⟨0, ![]⟩
abbrev S256 : Shape := ⟨1, ![256]⟩
abbrev S256x1 : Shape := ⟨2, ![256, 1]⟩
abbrev S3x2048 : Shape := ⟨2, ![3, 2048]⟩
abbrev S8192 : Shape := ⟨1, ![8192]⟩
abbrev S8192x1 : Shape := ⟨2, ![8192, 1]⟩
abbrev S1x3x2048 : Shape := ⟨3, ![1, 3, 2048]⟩
abbrev S2x3x2048 : Shape := ⟨3, ![2, 3, 2048]⟩
abbrev S2x8x2048 : Shape := ⟨3, ![2, 8, 2048]⟩

abbrev nBuf : Space → Nat
  | .hbm => 174
  | .vmem => 0
  | .smem => 0
  | _ => 0

abbrev hbmTy0_0 (i : Nat) : BufTy := match i % 128 with
  | 0 => ⟨S8448x2048, .f32⟩
  | 1 => ⟨S1x2048, .f32⟩
  | 2 => ⟨S2x6x2048, .f32⟩
  | 3 => ⟨S8448x2048, .bf16⟩
  | 4 => ⟨S8448x2048, .f32⟩
  | 5 => ⟨S256x2048, .f32⟩
  | 6 => ⟨S8192x2048, .f32⟩
  | 7 => ⟨S8448x2048, .f32⟩
  | 8 => ⟨S256x2048, .f32⟩
  | 9 => ⟨S8192x2048, .f32⟩
  | 10 => ⟨S1x6x2048, .f32⟩
  | 11 => ⟨S6x2048, .f32⟩
  | 12 => ⟨S1x6x2048, .f32⟩
  | 13 => ⟨S6x2048, .f32⟩
  | 14 => ⟨S2048, .f32⟩
  | 15 => ⟨S1x2048, .f32⟩
  | 16 => ⟨S2048, .f32⟩
  | 17 => ⟨S1x2048, .f32⟩
  | 18 => ⟨S2048, .f32⟩
  | 19 => ⟨S256x2048, .f32⟩
  | 20 => ⟨S_, .f32⟩
  | 21 => ⟨S256, .f32⟩
  | 22 => ⟨S256x1, .f32⟩
  | 23 => ⟨S_, .f32⟩
  | 24 => ⟨S256x1, .f32⟩
  | 25 => ⟨S256x1, .f32⟩
  | 26 => ⟨S_, .f32⟩
  | 27 => ⟨S256x1, .f32⟩
  | 28 => ⟨S256x1, .f32⟩
  | 29 => ⟨S256x1, .f32⟩
  | 30 => ⟨S256x1, .f32⟩
  | 31 => ⟨S_, .f32⟩
  | 32 => ⟨S256x1, .f32⟩
  | 33 => ⟨S256x1, .f32⟩
  | 34 => ⟨S256x2048, .f32⟩
  | 35 => ⟨S256x2048, .f32⟩
  | 36 => ⟨S1x2048, .f32⟩
  | 37 => ⟨S256x2048, .f32⟩
  | 38 => ⟨S256x2048, .f32⟩
  | 39 => ⟨S_, .f32⟩
  | 40 => ⟨S2048, .f32⟩
  | 41 => ⟨S2048, .f32⟩
  | 42 => ⟨S1x2048, .f32⟩
  | 43 => ⟨S256x2048, .f32⟩
  | 44 => ⟨S256x2048, .f32⟩
  | 45 => ⟨S1x2048, .f32⟩
  | 46 => ⟨S256x2048, .f32⟩
  | 47 => ⟨S256x2048, .f32⟩
  | 48 => ⟨S_, .f32⟩
  | 49 => ⟨S2048, .f32⟩
  | 50 => ⟨S1x2048, .f32⟩
  | 51 => ⟨S_, .f32⟩
  | 52 => ⟨S2048, .f32⟩
  | 53 => ⟨S256x2048, .f32⟩
  | 54 => ⟨S_, .f32⟩
  | 55 => ⟨S2048, .f32⟩
  | 56 => ⟨S1x2048, .f32⟩
  | 57 => ⟨S256x2048, .f32⟩
  | 58 => ⟨S256x2048, .f32⟩
  | 59 => ⟨S_, .f32⟩
  | 60 => ⟨S2048, .f32⟩
  | 61 => ⟨S256x2048, .f32⟩
  | 62 => ⟨S_, .f32⟩
  | 63 => ⟨S2048, .f32⟩
  | 64 => ⟨S1x2048, .f32⟩
  | 65 => ⟨S256x2048, .f32⟩
  | 66 => ⟨S256x2048, .f32⟩
  | 67 => ⟨S_, .f32⟩
  | 68 => ⟨S2048, .f32⟩
  | 69 => ⟨S256x2048, .f32⟩
  | 70 => ⟨S_, .f32⟩
  | 71 => ⟨S256, .f32⟩
  | 72 => ⟨S256x1, .f32⟩
  | 73 => ⟨S256x2048, .f32⟩
  | 74 => ⟨S256x2048, .f32⟩
  | 75 => ⟨S256x1, .f32⟩
  | 76 => ⟨S_, .f32⟩
  | 77 => ⟨S256x1, .f32⟩
  | 78 => ⟨S256x1, .f32⟩
  | 79 => ⟨S_, .f32⟩
  | 80 => ⟨S256, .f32⟩
  | 81 => ⟨S256x2048, .f32⟩
  | 82 => ⟨S256x2048, .f32⟩
  | 83 => ⟨S256x2048, .f32⟩
  | 84 => ⟨S256x2048, .f32⟩
  | 85 => ⟨S256x2048, .f32⟩
  | 86 => ⟨S1x2048, .f32⟩
  | 87 => ⟨S1x2048, .f32⟩
  | 88 => ⟨S1x2048, .f32⟩
  | 89 => ⟨S3x2048, .f32⟩
  | 90 => ⟨S2048, .f32⟩
  | 91 => ⟨S1x2048, .f32⟩
  | 92 => ⟨S2048, .f32⟩
  | 93 => ⟨S1x2048, .f32⟩
  | 94 => ⟨S2048, .f32⟩
  | 95 => ⟨S8192x2048, .f32⟩
  | 96 => ⟨S_, .f32⟩
  | 97 => ⟨S8192, .f32⟩
  | 98 => ⟨S8192x1, .f32⟩
  | 99 => ⟨S_, .f32⟩
  | 100 => ⟨S8192x1, .f32⟩
  | 101 => ⟨S8192x1, .f32⟩
  | 102 => ⟨S_, .f32⟩
  | 103 => ⟨S8192x1, .f32⟩
  | 104 => ⟨S8192x1, .f32⟩
  | 105 => ⟨S8192x1, .f32⟩
  | 106 => ⟨S8192x1, .f32⟩
  | 107 => ⟨S_, .f32⟩
  | 108 => ⟨S8192x1, .f32⟩
  | 109 => ⟨S8192x1, .f32⟩
  | 110 => ⟨S8192x2048, .f32⟩
  | 111 => ⟨S8192x2048, .f32⟩
  | 112 => ⟨S1x2048, .f32⟩
  | 113 => ⟨S8192x2048, .f32⟩
  | 114 => ⟨S8192x2048, .f32⟩
  | 115 => ⟨S_, .f32⟩
  | 116 => ⟨S2048, .f32⟩
  | 117 => ⟨S2048, .f32⟩
  | 118 => ⟨S1x2048, .f32⟩
  | 119 => ⟨S8192x2048, .f32⟩
  | 120 => ⟨S8192x2048, .f32⟩
  | 121 => ⟨S1x2048, .f32⟩
  | 122 => ⟨S8192x2048, .f32⟩
  | 123 => ⟨S8192x2048, .f32⟩
  | 124 => ⟨S_, .f32⟩
  | 125 => ⟨S2048, .f32⟩
  | 126 => ⟨S1x2048, .f32⟩
  | 127 => ⟨S_, .f32⟩
  | _ => ⟨S8448x2048, .f32⟩

abbrev hbmTy0_1 (i : Nat) : BufTy := match i % 128 with
  | 0 => ⟨S2048, .f32⟩
  | 1 => ⟨S8192x2048, .f32⟩
  | 2 => ⟨S_, .f32⟩
  | 3 => ⟨S2048, .f32⟩
  | 4 => ⟨S1x2048, .f32⟩
  | 5 => ⟨S8192x2048, .f32⟩
  | 6 => ⟨S8192x2048, .f32⟩
  | 7 => ⟨S_, .f32⟩
  | 8 => ⟨S2048, .f32⟩
  | 9 => ⟨S8192x2048, .f32⟩
  | 10 => ⟨S_, .f32⟩
  | 11 => ⟨S2048, .f32⟩
  | 12 => ⟨S1x2048, .f32⟩
  | 13 => ⟨S8192x2048, .f32⟩
  | 14 => ⟨S8192x2048, .f32⟩
  | 15 => ⟨S_, .f32⟩
  | 16 => ⟨S2048, .f32⟩
  | 17 => ⟨S8192x2048, .f32⟩
  | 18 => ⟨S_, .f32⟩
  | 19 => ⟨S8192, .f32⟩
  | 20 => ⟨S8192x1, .f32⟩
  | 21 => ⟨S8192x2048, .f32⟩
  | 22 => ⟨S8192x2048, .f32⟩
  | 23 => ⟨S8192x1, .f32⟩
  | 24 => ⟨S_, .f32⟩
  | 25 => ⟨S8192x1, .f32⟩
  | 26 => ⟨S8192x1, .f32⟩
  | 27 => ⟨S_, .f32⟩
  | 28 => ⟨S8192, .f32⟩
  | 29 => ⟨S8192x2048, .f32⟩
  | 30 => ⟨S8192x2048, .f32⟩
  | 31 => ⟨S8192x2048, .f32⟩
  | 32 => ⟨S8192x2048, .f32⟩
  | 33 => ⟨S8192x2048, .f32⟩
  | 34 => ⟨S1x2048, .f32⟩
  | 35 => ⟨S1x2048, .f32⟩
  | 36 => ⟨S1x2048, .f32⟩
  | 37 => ⟨S3x2048, .f32⟩
  | 38 => ⟨S8448x2048, .f32⟩
  | 39 => ⟨S8448x2048, .f32⟩
  | 40 => ⟨S1x3x2048, .f32⟩
  | 41 => ⟨S1x3x2048, .f32⟩
  | 42 => ⟨S2x3x2048, .f32⟩
  | 43 => ⟨S_, .i32⟩
  | 44 => ⟨S_, .f32⟩
  | 45 => ⟨S2x8x2048, .f32⟩
  | _ => ⟨S8448x2048, .f32⟩

abbrev hbmTy (i : Nat) : BufTy := match i / 128 with
  | 0 => hbmTy0_0 i
  | 1 => hbmTy0_1 i
  | _ => ⟨S8448x2048, .f32⟩

abbrev bufTy : (tb : Table) → Fin (tcTables nBuf tb) → BufTy
  | .hbm, ⟨i, _⟩ => hbmTy i
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_9 : Ref sig .tc := ⟨.hbm, 67, rfl⟩
abbrev main_v52 : Ref sig .tc := ⟨.hbm, 68, rfl⟩
abbrev main_v53 : Ref sig .tc := ⟨.hbm, 69, rfl⟩
abbrev main_cst_10 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_v60 : Ref sig .tc := ⟨.hbm, 78, rfl⟩
abbrev main_cst_12 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_13 : Ref sig .tc := ⟨.hbm, 96, rfl⟩
abbrev main_v77 : Ref sig .tc := ⟨.hbm, 97, rfl⟩
abbrev main_v78 : Ref sig .tc := ⟨.hbm, 98, rfl⟩
abbrev main_cst_14 : Ref sig .tc := ⟨.hbm, 99, rfl⟩
abbrev main_v79 : Ref sig .tc := ⟨.hbm, 100, rfl⟩
abbrev main_v80 : Ref sig .tc := ⟨.hbm, 101, rfl⟩
abbrev main_cst_15 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_16 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_17 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_cst_18 : Ref sig .tc := ⟨.hbm, 124, rfl⟩
abbrev main_v100 : Ref sig .tc := ⟨.hbm, 125, rfl⟩
abbrev main_v101 : Ref sig .tc := ⟨.hbm, 126, rfl⟩
abbrev main_cst_19 : Ref sig .tc := ⟨.hbm, 127, rfl⟩
abbrev main_v102 : Ref sig .tc := ⟨.hbm, 128, rfl⟩
abbrev main_v103 : Ref sig .tc := ⟨.hbm, 129, rfl⟩
abbrev main_cst_20 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_cst_21 : Ref sig .tc := ⟨.hbm, 135, rfl⟩
abbrev main_v108 : Ref sig .tc := ⟨.hbm, 136, rfl⟩
abbrev main_v109 : Ref sig .tc := ⟨.hbm, 137, rfl⟩
abbrev main_cst_22 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_cst_23 : Ref sig .tc := ⟨.hbm, 143, rfl⟩
abbrev main_v114 : Ref sig .tc := ⟨.hbm, 144, rfl⟩
abbrev main_v115 : Ref sig .tc := ⟨.hbm, 145, rfl⟩
abbrev main_cst_24 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_cst_25 : Ref sig .tc := ⟨.hbm, 152, rfl⟩
abbrev main_v121 : Ref sig .tc := ⟨.hbm, 153, rfl⟩
abbrev main_v122 : Ref sig .tc := ⟨.hbm, 154, rfl⟩
abbrev main_cst_26 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_c : Ref sig .tc := ⟨.hbm, 171, rfl⟩
abbrev main_call0_v0 : Ref sig .tc := ⟨.hbm, 172, rfl⟩
abbrev main_v138 : Ref sig .tc := ⟨.hbm, 173, rfl⟩

abbrev nD : Nat := 1
abbrev τ : Topo := Topo.v7x

variable {F : FTy → Type} [FloatOps F]
-- ==== FfnMid.lean ====
abbrev S8448x11264 : Shape := ⟨2, ![8448, 11264]⟩
abbrev S8448x5632 : Shape := ⟨2, ![8448, 5632]⟩
abbrev S3x11264 : Shape := ⟨2, ![3, 11264]⟩
abbrev S1x11264 : Shape := ⟨2, ![1, 11264]⟩
abbrev S8x11264 : Shape := ⟨2, ![8, 11264]⟩
abbrev S8x2816 : Shape := ⟨2, ![8, 2816]⟩
abbrev S128x2816 : Shape := ⟨2, ![128, 2816]⟩
abbrev S8x1408 : Shape := ⟨2, ![8, 1408]⟩
abbrev S128x1408 : Shape := ⟨2, ![128, 1408]⟩
abbrev S3x2816 : Shape := ⟨2, ![3, 2816]⟩
abbrev S1x2816 : Shape := ⟨2, ![1, 2816]⟩
abbrev S144x1 : Shape := ⟨2, ![144, 1]⟩
abbrev S144x2816 : Shape := ⟨2, ![144, 2816]⟩
abbrev S144x1408 : Shape := ⟨2, ![144, 1408]⟩
abbrev S2816 : Shape := ⟨1, ![2816]⟩
abbrev S4x2816 : Shape := ⟨2, ![4, 2816]⟩

abbrev nBuf : Space → Nat
  | .hbm => 6
  | .vmem => 20
  | .smem => 0
  | _ => 0

abbrev bufTy : (tb : Table) → Fin (tcTables nBuf tb) → BufTy
  | .hbm, ⟨0, _⟩ => ⟨S8448x11264, .f32⟩
  | .hbm, ⟨1, _⟩ => ⟨S8448x5632, .bf16⟩
  | .hbm, ⟨2, _⟩ => ⟨S3x11264, .f32⟩
  | .hbm, ⟨3, _⟩ => ⟨S1x11264, .f32⟩
  | .hbm, ⟨4, _⟩ => ⟨S8448x11264, .bf16⟩
  | .hbm, ⟨5, _⟩ => ⟨S8x11264, .f32⟩
  | .local _ .vmem, ⟨0, _⟩ => ⟨S8x2816, .f32⟩
  | .local _ .vmem, ⟨1, _⟩ => ⟨S8x2816, .f32⟩
  | .local _ .vmem, ⟨2, _⟩ => ⟨S128x2816, .f32⟩
  | .local _ .vmem, ⟨3, _⟩ => ⟨S128x2816, .f32⟩
  | .local _ .vmem, ⟨4, _⟩ => ⟨S8x2816, .f32⟩
  | .local _ .vmem, ⟨5, _⟩ => ⟨S8x2816, .f32⟩
  | .local _ .vmem, ⟨6, _⟩ => ⟨S8x1408, .bf16⟩
  | .local _ .vmem, ⟨7, _⟩ => ⟨S8x1408, .bf16⟩
  | .local _ .vmem, ⟨8, _⟩ => ⟨S128x1408, .bf16⟩
  | .local _ .vmem, ⟨9, _⟩ => ⟨S128x1408, .bf16⟩
  | .local _ .vmem, ⟨10, _⟩ => ⟨S8x1408, .bf16⟩
  | .local _ .vmem, ⟨11, _⟩ => ⟨S8x1408, .bf16⟩
  | .local _ .vmem, ⟨12, _⟩ => ⟨S3x2816, .f32⟩
  | .local _ .vmem, ⟨13, _⟩ => ⟨S3x2816, .f32⟩
  | .local _ .vmem, ⟨14, _⟩ => ⟨S1x2816, .f32⟩
  | .local _ .vmem, ⟨15, _⟩ => ⟨S1x2816, .f32⟩
  | .local _ .vmem, ⟨16, _⟩ => ⟨S128x2816, .bf16⟩
  | .local _ .vmem, ⟨17, _⟩ => ⟨S128x2816, .bf16⟩
  | .local _ .vmem, ⟨18, _⟩ => ⟨S8x2816, .f32⟩
  | .local _ .vmem, ⟨19, _⟩ => ⟨S8x2816, .f32⟩
  | _, _ => ⟨S8448x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 66], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 1 := Scalar.cmpi .eq arg1 c1_i32
  let v2 : BitVec 1 := Scalar.ori v0 v1
  let c2_i32 : BitVec 32 := 2#32
  let v3 : BitVec 1 := Scalar.cmpi .eq arg1 c2_i32
  let v4 : BitVec 1 := Scalar.ori v2 v3
  let c65_i32 : BitVec 32 := 65#32
  let v5 : BitVec 1 := Scalar.cmpi .eq arg1 c65_i32
  let v6 : BitVec 1 := Scalar.ori v4 v5
  let v7 : BitVec 32 := Scalar.extui v6
  let c0_i32_0 : BitVec 32 := 0#32
  let v8 : BitVec 1 := Scalar.cmpi .ne v7 c0_i32_0
  v8

def k0_cond4 (i : grid0.Coords) : BitVec 1 :=
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 1 := Scalar.cmpi .eq arg1 c1_i32
  let v2 : BitVec 1 := Scalar.ori v0 v1
  let c2_i32 : BitVec 32 := 2#32
  let v3 : BitVec 1 := Scalar.cmpi .eq arg1 c2_i32
  let v4 : BitVec 1 := Scalar.ori v2 v3
  let c65_i32 : BitVec 32 := 65#32
  let v5 : BitVec 1 := Scalar.cmpi .eq arg1 c65_i32
  let v6 : BitVec 1 := Scalar.ori v4 v5
  let v_true : BitVec 1 := 1#1
  let v9 : BitVec 1 := Scalar.xori v6 v_true
  let v10 : BitVec 32 := Scalar.extui v9
  let c0_i32_1 : BitVec 32 := 0#32
  let v11 : BitVec 1 := Scalar.cmpi .ne v10 c0_i32_1
  v11

def k0_cond2 (i : grid0.Coords) : BitVec 1 :=
  let arg1 : BitVec 32 := BitVec.ofNat 32 (i 1).val
  let c0_i32_33 : BitVec 32 := 0#32
  let v118 : BitVec 1 := Scalar.cmpi .eq arg1 c0_i32_33
  let v119 : BitVec 32 := Scalar.extui v118
  let c0_i32_34 : BitVec 32 := 0#32
  let v120 : BitVec 1 := Scalar.cmpi .ne v119 c0_i32_34
  v120

def k0_cond3 (i : grid0.Coords) : BitVec 1 :=
  let arg1 : BitVec 32 := BitVec.ofNat 32 (i 1).val
  let c0_i32_35 : BitVec 32 := 0#32
  let v121 : BitVec 1 := Scalar.cmpi .sgt arg1 c0_i32_35
  let v122 : BitVec 32 := Scalar.extui v121
  let c0_i32_36 : BitVec 32 := 0#32
  let v123 : BitVec 1 := Scalar.cmpi .ne v122 c0_i32_36
  v123

def k0_cond5 (i : grid0.Coords) : BitVec 1 :=
  let arg1 : BitVec 32 := BitVec.ofNat 32 (i 1).val
  let c0_i32_28 : BitVec 32 := 0#32
  let v87 : BitVec 1 := Scalar.cmpi .eq arg1 c0_i32_28
  let v88 : BitVec 32 := Scalar.extui v87
  let c0_i32_29 : BitVec 32 := 0#32
  let v89 : BitVec 1 := Scalar.cmpi .ne v88 c0_i32_29
  v89

def k0_cond6 (i : grid0.Coords) : BitVec 1 :=
  let arg1 : BitVec 32 := BitVec.ofNat 32 (i 1).val
  let c0_i32_30 : BitVec 32 := 0#32
  let v90 : BitVec 1 := Scalar.cmpi .sgt arg1 c0_i32_30
  let v91 : BitVec 32 := Scalar.extui v90
  let c0_i32_31 : BitVec 32 := 0#32
  let v92 : BitVec 1 := Scalar.cmpi .ne v91 c0_i32_31
  v92

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c1055_i32 : BitVec 32 := 1055#32
  let v2 : BitVec 32 := Scalar.minsi v1 c1055_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c1055_i32 : BitVec 32 := 1055#32
  let v2 : BitVec 32 := Scalar.minsi v1 c1055_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S128x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x2816 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnMidRefIdeal.lean ====
abbrev S8448x11264 : Shape := ⟨2, ![8448, 11264]⟩
abbrev S8448x5632 : Shape := ⟨2, ![8448, 5632]⟩
abbrev S3x11264 : Shape := ⟨2, ![3, 11264]⟩
abbrev S1x11264 : Shape := ⟨2, ![1, 11264]⟩
abbrev S3x4x2x1408 : Shape := ⟨4, ![3, 4, 2, 1408]⟩
abbrev S3x2x4x1408 : Shape := ⟨4, ![3, 2, 4, 1408]⟩
abbrev S1x4x2x1408 : Shape := ⟨4, ![1, 4, 2, 1408]⟩
abbrev S1x2x4x1408 : Shape := ⟨4, ![1, 2, 4, 1408]⟩
abbrev S11264 : Shape := ⟨1, ![11264]⟩
abbrev S8448x4x2x1408 : Shape := ⟨4, ![8448, 4, 2, 1408]⟩
abbrev S8448x2x4x1408 : Shape := ⟨4, ![8448, 2, 4, 1408]⟩
abbrev S256x11264 : Shape := ⟨2, ![256, 11264]⟩
abbrev S8192x11264 : Shape := ⟨2, ![8192, 11264]⟩
abbrev S256x5632 : Shape := ⟨2, ![256, 5632]⟩
abbrev S8192x5632 : Shape := ⟨2, ![8192, 5632]⟩
abbrev S_ : Shape := ⟨0, ![]⟩
abbrev S255x11264 : Shape := ⟨2, ![255, 11264]⟩
abbrev S8191x11264 : Shape := ⟨2, ![8191, 11264]⟩
abbrev S4x11264 : Shape := ⟨2, ![4, 11264]⟩
abbrev S4x2x4x1408 : Shape := ⟨4, ![4, 2, 4, 1408]⟩
abbrev S4x4x2x1408 : Shape := ⟨4, ![4, 4, 2, 1408]⟩
abbrev S8x11264 : Shape := ⟨2, ![8, 11264]⟩

abbrev nBuf : Space → Nat
  | .hbm => 256
  | .vmem => 0
  | .smem => 0
  | _ => 0

abbrev hbmTy0_0 (i : Nat) : BufTy := match i % 128 with
  | 0 => ⟨S8448x11264, .f32⟩
  | 1 => ⟨S8448x5632, .bf16⟩
  | 2 => ⟨S3x11264, .f32⟩
  | 3 => ⟨S1x11264, .f32⟩
  | 4 => ⟨S3x4x2x1408, .f32⟩
  | 5 => ⟨S3x2x4x1408, .f32⟩
  | 6 => ⟨S3x11264, .f32⟩
  | 7 => ⟨S1x4x2x1408, .f32⟩
  | 8 => ⟨S1x2x4x1408, .f32⟩
  | 9 => ⟨S1x11264, .f32⟩
  | 10 => ⟨S11264, .f32⟩
  | 11 => ⟨S8448x4x2x1408, .f32⟩
  | 12 => ⟨S8448x2x4x1408, .f32⟩
  | 13 => ⟨S8448x11264, .f32⟩
  | 14 => ⟨S256x11264, .f32⟩
  | 15 => ⟨S8192x11264, .f32⟩
  | 16 => ⟨S8448x5632, .f32⟩
  | 17 => ⟨S256x5632, .f32⟩
  | 18 => ⟨S8192x5632, .f32⟩
  | 19 => ⟨S1x11264, .f32⟩
  | 20 => ⟨S_, .f32⟩
  | 21 => ⟨S1x11264, .f32⟩
  | 22 => ⟨S255x11264, .f32⟩
  | 23 => ⟨S256x11264, .f32⟩
  | 24 => ⟨S_, .f32⟩
  | 25 => ⟨S1x11264, .f32⟩
  | 26 => ⟨S1x11264, .f32⟩
  | 27 => ⟨S11264, .f32⟩
  | 28 => ⟨S1x11264, .f32⟩
  | 29 => ⟨S256x11264, .f32⟩
  | 30 => ⟨S256x11264, .f32⟩
  | 31 => ⟨S1x11264, .f32⟩
  | 32 => ⟨S11264, .f32⟩
  | 33 => ⟨S1x11264, .f32⟩
  | 34 => ⟨S256x11264, .f32⟩
  | 35 => ⟨S256x11264, .f32⟩
  | 36 => ⟨S256x11264, .f32⟩
  | 37 => ⟨S255x11264, .f32⟩
  | 38 => ⟨S256x11264, .f32⟩
  | 39 => ⟨S_, .f32⟩
  | 40 => ⟨S1x11264, .f32⟩
  | 41 => ⟨S1x11264, .f32⟩
  | 42 => ⟨S11264, .f32⟩
  | 43 => ⟨S1x11264, .f32⟩
  | 44 => ⟨S256x11264, .f32⟩
  | 45 => ⟨S256x11264, .f32⟩
  | 46 => ⟨S256x11264, .f32⟩
  | 47 => ⟨S1x11264, .f32⟩
  | 48 => ⟨S256x11264, .f32⟩
  | 49 => ⟨S256x11264, .f32⟩
  | 50 => ⟨S256x5632, .f32⟩
  | 51 => ⟨S256x5632, .f32⟩
  | 52 => ⟨S256x5632, .f32⟩
  | 53 => ⟨S256x5632, .f32⟩
  | 54 => ⟨S_, .f32⟩
  | 55 => ⟨S256x5632, .f32⟩
  | 56 => ⟨S256x5632, .f32⟩
  | 57 => ⟨S_, .f32⟩
  | 58 => ⟨S256x5632, .f32⟩
  | 59 => ⟨S256x5632, .f32⟩
  | 60 => ⟨S_, .f32⟩
  | 61 => ⟨S256x5632, .f32⟩
  | 62 => ⟨S256x5632, .f32⟩
  | 63 => ⟨S256x5632, .f32⟩
  | 64 => ⟨S256x5632, .f32⟩
  | 65 => ⟨S256x5632, .f32⟩
  | 66 => ⟨S256x5632, .f32⟩
  | 67 => ⟨S256x5632, .f32⟩
  | 68 => ⟨S256x5632, .f32⟩
  | 69 => ⟨S256x5632, .f32⟩
  | 70 => ⟨S256x5632, .f32⟩
  | 71 => ⟨S256x5632, .f32⟩
  | 72 => ⟨S_, .f32⟩
  | 73 => ⟨S256x11264, .f32⟩
  | 74 => ⟨S_, .f32⟩
  | 75 => ⟨S256x11264, .f32⟩
  | 76 => ⟨S256x11264, .f32⟩
  | 77 => ⟨S_, .f32⟩
  | 78 => ⟨S11264, .f32⟩
  | 79 => ⟨S1x11264, .f32⟩
  | 80 => ⟨S_, .f32⟩
  | 81 => ⟨S11264, .f32⟩
  | 82 => ⟨S256x11264, .f32⟩
  | 83 => ⟨S_, .f32⟩
  | 84 => ⟨S11264, .f32⟩
  | 85 => ⟨S1x11264, .f32⟩
  | 86 => ⟨S256x11264, .f32⟩
  | 87 => ⟨S256x11264, .f32⟩
  | 88 => ⟨S_, .f32⟩
  | 89 => ⟨S11264, .f32⟩
  | 90 => ⟨S1x11264, .f32⟩
  | 91 => ⟨S_, .f32⟩
  | 92 => ⟨S3x11264, .f32⟩
  | 93 => ⟨S255x11264, .f32⟩
  | 94 => ⟨S1x11264, .f32⟩
  | 95 => ⟨S_, .f32⟩
  | 96 => ⟨S256x11264, .f32⟩
  | 97 => ⟨S256x11264, .f32⟩
  | 98 => ⟨S_, .f32⟩
  | 99 => ⟨S11264, .f32⟩
  | 100 => ⟨S1x11264, .f32⟩
  | 101 => ⟨S256x11264, .f32⟩
  | 102 => ⟨S256x11264, .f32⟩
  | 103 => ⟨S256x11264, .f32⟩
  | 104 => ⟨S_, .f32⟩
  | 105 => ⟨S11264, .f32⟩
  | 106 => ⟨S1x11264, .f32⟩
  | 107 => ⟨S_, .f32⟩
  | 108 => ⟨S3x11264, .f32⟩
  | 109 => ⟨S3x11264, .f32⟩
  | 110 => ⟨S256x11264, .f32⟩
  | 111 => ⟨S_, .f32⟩
  | 112 => ⟨S11264, .f32⟩
  | 113 => ⟨S1x11264, .f32⟩
  | 114 => ⟨S256x11264, .f32⟩
  | 115 => ⟨S256x11264, .f32⟩
  | 116 => ⟨S_, .f32⟩
  | 117 => ⟨S11264, .f32⟩
  | 118 => ⟨S1x11264, .f32⟩
  | 119 => ⟨S_, .f32⟩
  | 120 => ⟨S3x11264, .f32⟩
  | 121 => ⟨S3x11264, .f32⟩
  | 122 => ⟨S1x11264, .f32⟩
  | 123 => ⟨S255x11264, .f32⟩
  | 124 => ⟨S_, .f32⟩
  | 125 => ⟨S256x11264, .f32⟩
  | 126 => ⟨S256x11264, .f32⟩
  | 127 => ⟨S_, .f32⟩
  | _ => ⟨S8448x11264, .f32⟩

abbrev hbmTy0_1 (i : Nat) : BufTy := match i % 128 with
  | 0 => ⟨S3x11264, .f32⟩
  | 1 => ⟨S3x11264, .f32⟩
  | 2 => ⟨S_, .f32⟩
  | 3 => ⟨S11264, .f32⟩
  | 4 => ⟨S11264, .f32⟩
  | 5 => ⟨S1x11264, .f32⟩
  | 6 => ⟨S_, .f32⟩
  | 7 => ⟨S1x11264, .f32⟩
  | 8 => ⟨S8191x11264, .f32⟩
  | 9 => ⟨S8192x11264, .f32⟩
  | 10 => ⟨S_, .f32⟩
  | 11 => ⟨S1x11264, .f32⟩
  | 12 => ⟨S1x11264, .f32⟩
  | 13 => ⟨S11264, .f32⟩
  | 14 => ⟨S1x11264, .f32⟩
  | 15 => ⟨S8192x11264, .f32⟩
  | 16 => ⟨S8192x11264, .f32⟩
  | 17 => ⟨S1x11264, .f32⟩
  | 18 => ⟨S11264, .f32⟩
  | 19 => ⟨S1x11264, .f32⟩
  | 20 => ⟨S8192x11264, .f32⟩
  | 21 => ⟨S8192x11264, .f32⟩
  | 22 => ⟨S8192x11264, .f32⟩
  | 23 => ⟨S8191x11264, .f32⟩
  | 24 => ⟨S8192x11264, .f32⟩
  | 25 => ⟨S_, .f32⟩
  | 26 => ⟨S1x11264, .f32⟩
  | 27 => ⟨S1x11264, .f32⟩
  | 28 => ⟨S11264, .f32⟩
  | 29 => ⟨S1x11264, .f32⟩
  | 30 => ⟨S8192x11264, .f32⟩
  | 31 => ⟨S8192x11264, .f32⟩
  | 32 => ⟨S8192x11264, .f32⟩
  | 33 => ⟨S1x11264, .f32⟩
  | 34 => ⟨S8192x11264, .f32⟩
  | 35 => ⟨S8192x11264, .f32⟩
  | 36 => ⟨S8192x5632, .f32⟩
  | 37 => ⟨S8192x5632, .f32⟩
  | 38 => ⟨S8192x5632, .f32⟩
  | 39 => ⟨S8192x5632, .f32⟩
  | 40 => ⟨S_, .f32⟩
  | 41 => ⟨S8192x5632, .f32⟩
  | 42 => ⟨S8192x5632, .f32⟩
  | 43 => ⟨S_, .f32⟩
  | 44 => ⟨S8192x5632, .f32⟩
  | 45 => ⟨S8192x5632, .f32⟩
  | 46 => ⟨S_, .f32⟩
  | 47 => ⟨S8192x5632, .f32⟩
  | 48 => ⟨S8192x5632, .f32⟩
  | 49 => ⟨S8192x5632, .f32⟩
  | 50 => ⟨S8192x5632, .f32⟩
  | 51 => ⟨S8192x5632, .f32⟩
  | 52 => ⟨S8192x5632, .f32⟩
  | 53 => ⟨S8192x5632, .f32⟩
  | 54 => ⟨S8192x5632, .f32⟩
  | 55 => ⟨S8192x5632, .f32⟩
  | 56 => ⟨S8192x5632, .f32⟩
  | 57 => ⟨S8192x5632, .f32⟩
  | 58 => ⟨S_, .f32⟩
  | 59 => ⟨S8192x11264, .f32⟩
  | 60 => ⟨S_, .f32⟩
  | 61 => ⟨S8192x11264, .f32⟩
  | 62 => ⟨S8192x11264, .f32⟩
  | 63 => ⟨S_, .f32⟩
  | 64 => ⟨S11264, .f32⟩
  | 65 => ⟨S1x11264, .f32⟩
  | 66 => ⟨S_, .f32⟩
  | 67 => ⟨S11264, .f32⟩
  | 68 => ⟨S8192x11264, .f32⟩
  | 69 => ⟨S_, .f32⟩
  | 70 => ⟨S11264, .f32⟩
  | 71 => ⟨S1x11264, .f32⟩
  | 72 => ⟨S8192x11264, .f32⟩
  | 73 => ⟨S8192x11264, .f32⟩
  | 74 => ⟨S_, .f32⟩
  | 75 => ⟨S11264, .f32⟩
  | 76 => ⟨S1x11264, .f32⟩
  | 77 => ⟨S_, .f32⟩
  | 78 => ⟨S3x11264, .f32⟩
  | 79 => ⟨S8191x11264, .f32⟩
  | 80 => ⟨S1x11264, .f32⟩
  | 81 => ⟨S_, .f32⟩
  | 82 => ⟨S8192x11264, .f32⟩
  | 83 => ⟨S8192x11264, .f32⟩
  | 84 => ⟨S_, .f32⟩
  | 85 => ⟨S11264, .f32⟩
  | 86 => ⟨S1x11264, .f32⟩
  | 87 => ⟨S8192x11264, .f32⟩
  | 88 => ⟨S8192x11264, .f32⟩
  | 89 => ⟨S8192x11264, .f32⟩
  | 90 => ⟨S_, .f32⟩
  | 91 => ⟨S11264, .f32⟩
  | 92 => ⟨S1x11264, .f32⟩
  | 93 => ⟨S_, .f32⟩
  | 94 => ⟨S3x11264, .f32⟩
  | 95 => ⟨S3x11264, .f32⟩
  | 96 => ⟨S8192x11264, .f32⟩
  | 97 => ⟨S_, .f32⟩
  | 98 => ⟨S11264, .f32⟩
  | 99 => ⟨S1x11264, .f32⟩
  | 100 => ⟨S8192x11264, .f32⟩
  | 101 => ⟨S8192x11264, .f32⟩
  | 102 => ⟨S_, .f32⟩
  | 103 => ⟨S11264, .f32⟩
  | 104 => ⟨S1x11264, .f32⟩
  | 105 => ⟨S_, .f32⟩
  | 106 => ⟨S3x11264, .f32⟩
  | 107 => ⟨S3x11264, .f32⟩
  | 108 => ⟨S1x11264, .f32⟩
  | 109 => ⟨S8191x11264, .f32⟩
  | 110 => ⟨S_, .f32⟩
  | 111 => ⟨S8192x11264, .f32⟩
  | 112 => ⟨S8192x11264, .f32⟩
  | 113 => ⟨S3x11264, .f32⟩
  | 114 => ⟨S11264, .f32⟩
  | 115 => ⟨S8448x11264, .f32⟩
  | 116 => ⟨S8448x2x4x1408, .f32⟩
  | 117 => ⟨S8448x4x2x1408, .f32⟩
  | 118 => ⟨S8448x11264, .f32⟩
  | 119 => ⟨S8448x11264, .bf16⟩
  | 120 => ⟨S1x11264, .f32⟩
  | 121 => ⟨S4x11264, .f32⟩
  | 122 => ⟨S4x2x4x1408, .f32⟩
  | 123 => ⟨S4x4x2x1408, .f32⟩
  | 124 => ⟨S4x11264, .f32⟩
  | 125 => ⟨S_, .i32⟩
  | 126 => ⟨S_, .f32⟩
  | 127 => ⟨S8x11264, .f32⟩
  | _ => ⟨S8448x11264, .f32⟩

abbrev hbmTy (i : Nat) : BufTy := match i / 128 with
  | 0 => hbmTy0_0 i
  | 1 => hbmTy0_1 i
  | _ => ⟨S8448x11264, .f32⟩

abbrev bufTy : (tb : Table) → Fin (tcTables nBuf tb) → BufTy
  | .hbm, ⟨i, _⟩ => hbmTy i
  | _, _ => ⟨S8448x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_1 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_v45_2 : Ref sig .tc := ⟨.hbm, 59, rfl⟩
abbrev main_call0_cst_1 : Ref sig .tc := ⟨.hbm, 60, rfl⟩
abbrev main_call0_v6 : Ref sig .tc := ⟨.hbm, 61, rfl⟩
abbrev main_call0_v7 : Ref sig .tc := ⟨.hbm, 62, rfl⟩
abbrev main_v45_1 : Ref sig .tc := ⟨.hbm, 63, rfl⟩
abbrev main_v45_0 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v49 : Ref sig .tc := ⟨.hbm, 71, rfl⟩
abbrev main_cst_2 : Ref sig .tc := ⟨.hbm, 72, rfl⟩
abbrev main_v50 : Ref sig .tc := ⟨.hbm, 73, rfl⟩
abbrev main_cst_3 : Ref sig .tc := ⟨.hbm, 74, rfl⟩
abbrev main_v51 : Ref sig .tc := ⟨.hbm, 75, rfl⟩
abbrev main_v52 : Ref sig .tc := ⟨.hbm, 76, rfl⟩
abbrev main_cst_4 : Ref sig .tc := ⟨.hbm, 77, rfl⟩
abbrev main_v53 : Ref sig .tc := ⟨.hbm, 78, rfl⟩
abbrev main_v54 : Ref sig .tc := ⟨.hbm, 79, rfl⟩
abbrev main_cst_5 : Ref sig .tc := ⟨.hbm, 80, rfl⟩
abbrev main_v55 : Ref sig .tc := ⟨.hbm, 81, rfl⟩
abbrev main_v56 : Ref sig .tc := ⟨.hbm, 82, rfl⟩
abbrev main_cst_6 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_7 : Ref sig .tc := ⟨.hbm, 88, rfl⟩
abbrev main_v61 : Ref sig .tc := ⟨.hbm, 89, rfl⟩
abbrev main_v62 : Ref sig .tc := ⟨.hbm, 90, rfl⟩
abbrev main_cst_8 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_9 : Ref sig .tc := ⟨.hbm, 95, rfl⟩
abbrev main_v66 : Ref sig .tc := ⟨.hbm, 96, rfl⟩
abbrev main_v67 : Ref sig .tc := ⟨.hbm, 97, rfl⟩
abbrev main_cst_10 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_11 : Ref sig .tc := ⟨.hbm, 104, rfl⟩
abbrev main_v73 : Ref sig .tc := ⟨.hbm, 105, rfl⟩
abbrev main_v74 : Ref sig .tc := ⟨.hbm, 106, rfl⟩
abbrev main_cst_12 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_13 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_14 : Ref sig .tc := ⟨.hbm, 116, rfl⟩
abbrev main_v82 : Ref sig .tc := ⟨.hbm, 117, rfl⟩
abbrev main_v83 : Ref sig .tc := ⟨.hbm, 118, rfl⟩
abbrev main_cst_15 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_16 : Ref sig .tc := ⟨.hbm, 124, rfl⟩
abbrev main_v88 : Ref sig .tc := ⟨.hbm, 125, rfl⟩
abbrev main_v89 : Ref sig .tc := ⟨.hbm, 126, rfl⟩
abbrev main_cst_17 : Ref sig .tc := ⟨.hbm, 127, rfl⟩
abbrev main_v90 : Ref sig .tc := ⟨.hbm, 128, rfl⟩
abbrev main_v91 : Ref sig .tc := ⟨.hbm, 129, rfl⟩
abbrev main_cst_18 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_19 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_20 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_21 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_call2_v0 : Ref sig .tc := ⟨.hbm, 166, rfl⟩
abbrev main_call2_v1 : Ref sig .tc := ⟨.hbm, 167, rfl⟩
abbrev main_call2_cst : Ref sig .tc := ⟨.hbm, 168, rfl⟩
abbrev main_call2_v2 : Ref sig .tc := ⟨.hbm, 169, rfl⟩
abbrev main_call2_v3 : Ref sig .tc := ⟨.hbm, 170, rfl⟩
abbrev main_call2_cst_0 : Ref sig .tc := ⟨.hbm, 171, rfl⟩
abbrev main_call2_v4 : Ref sig .tc := ⟨.hbm, 172, rfl⟩
abbrev main_v124_2 : Ref sig .tc := ⟨.hbm, 173, rfl⟩
abbrev main_call2_cst_1 : Ref sig .tc := ⟨.hbm, 174, rfl⟩
abbrev main_call2_v6 : Ref sig .tc := ⟨.hbm, 175, rfl⟩
abbrev main_call2_v7 : Ref sig .tc := ⟨.hbm, 176, rfl⟩
abbrev main_v124_1 : Ref sig .tc := ⟨.hbm, 177, rfl⟩
abbrev main_v124_0 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_call3_v0 : Ref sig .tc := ⟨.hbm, 182, rfl⟩
abbrev main_call3_v1 : Ref sig .tc := ⟨.hbm, 183, rfl⟩
abbrev main_call3_v2 : Ref sig .tc := ⟨.hbm, 184, rfl⟩
abbrev main_v128 : Ref sig .tc := ⟨.hbm, 185, rfl⟩
abbrev main_cst_22 : Ref sig .tc := ⟨.hbm, 186, rfl⟩
abbrev main_v129 : Ref sig .tc := ⟨.hbm, 187, rfl⟩
abbrev main_cst_23 : Ref sig .tc := ⟨.hbm, 188, rfl⟩
abbrev main_v130 : Ref sig .tc := ⟨.hbm, 189, rfl⟩
abbrev main_v131 : Ref sig .tc := ⟨.hbm, 190, rfl⟩
abbrev main_cst_24 : Ref sig .tc := ⟨.hbm, 191, rfl⟩
abbrev main_v132 : Ref sig .tc := ⟨.hbm, 192, rfl⟩
abbrev main_v133 : Ref sig .tc := ⟨.hbm, 193, rfl⟩
abbrev main_cst_25 : Ref sig .tc := ⟨.hbm, 194, rfl⟩
abbrev main_v134 : Ref sig .tc := ⟨.hbm, 195, rfl⟩
abbrev main_v135 : Ref sig .tc := ⟨.hbm, 196, rfl⟩
abbrev main_cst_26 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_cst_27 : Ref sig .tc := ⟨.hbm, 202, rfl⟩
abbrev main_v140 : Ref sig .tc := ⟨.hbm, 203, rfl⟩
abbrev main_v141 : Ref sig .tc := ⟨.hbm, 204, rfl⟩
abbrev main_cst_28 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_cst_29 : Ref sig .tc := ⟨.hbm, 209, rfl⟩
abbrev main_v145 : Ref sig .tc := ⟨.hbm, 210, rfl⟩
abbrev main_v146 : Ref sig .tc := ⟨.hbm, 211, rfl⟩
abbrev main_cst_30 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_cst_31 : Ref sig .tc := ⟨.hbm, 218, rfl⟩
abbrev main_v152 : Ref sig .tc := ⟨.hbm, 219, rfl⟩
abbrev main_v153 : Ref sig .tc := ⟨.hbm, 220, rfl⟩
abbrev main_cst_32 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_cst_33 : Ref sig .tc := ⟨.hbm, 225, rfl⟩
abbrev main_v157 : Ref sig .tc := ⟨.hbm, 226, rfl⟩
abbrev main_v158 : Ref sig .tc := ⟨.hbm, 227, rfl⟩
abbrev main_v159 : Ref sig .tc := ⟨.hbm, 228, rfl⟩
abbrev main_v160 : Ref sig .tc := ⟨.hbm, 229, rfl⟩
abbrev main_cst_34 : Ref sig .tc := ⟨.hbm, 230, rfl⟩
abbrev main_v161 : Ref sig .tc := ⟨.hbm, 231, rfl⟩
abbrev main_v162 : Ref sig .tc := ⟨.hbm, 232, rfl⟩
abbrev main_cst_35 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_cst_36 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_c : Ref sig .tc := ⟨.hbm, 253, rfl⟩
abbrev main_call4_v0 : Ref sig .tc := ⟨.hbm, 254, rfl⟩
abbrev main_v181 : Ref sig .tc := ⟨.hbm, 255, rfl⟩

abbrev nD : Nat := 1
abbrev τ : Topo := Topo.v7x

variable {F : FTy → Type} [FloatOps F]
-- ==== NormFfnFwd.lean ====
abbrev S8448x2048 : Shape := ⟨2, ![8448, 2048]⟩
abbrev S1x2048 : Shape := ⟨2, ![1, 2048]⟩
abbrev S2x6x2048 : Shape := ⟨3, ![2, 6, 2048]⟩
abbrev S256x2048 : Shape := ⟨2, ![256, 2048]⟩
abbrev S1x6x2048 : Shape := ⟨3, ![1, 6, 2048]⟩
abbrev S256 : Shape := ⟨1, ![256]⟩
abbrev S256x1 : Shape := ⟨2, ![256, 1]⟩
abbrev S1x1x2048 : Shape := ⟨3, ![1, 1, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S2x6x2048, .f32⟩
  | .hbm, ⟨3, _⟩ => ⟨S8448x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S256x2048, .bf16⟩
  | .local _ .vmem, ⟨6, _⟩ => ⟨S256x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c256_i32_0 : BitVec 32 := 256#32
  let v1 : BitVec 1 := Scalar.cmpi .slt v0 c256_i32_0
  let c0_i32 : BitVec 32 := 0#32
  let c1_i32 : BitVec 32 := 1#32
  let v2 : BitVec 32 := Scalar.select v1 c0_i32 c1_i32
  let c0_i32_1 : BitVec 32 := 0#32
  let c0_i32_2 : BitVec 32 := 0#32
  let c0_i32_3 : BitVec 32 := 0#32
  ![v2.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormFfnFwdRefIdeal.lean ====
abbrev S8448x2048 : Shape := ⟨2, ![8448, 2048]⟩
abbrev S1x2048 : Shape := ⟨2, ![1, 2048]⟩
abbrev S2x6x2048 : Shape := ⟨3, ![2, 6, 2048]⟩
abbrev S256x2048 : Shape := ⟨2, ![256, 2048]⟩
abbrev S8192x2048 : Shape := ⟨2, ![8192, 2048]⟩
abbrev S1x6x2048 : Shape := ⟨3, ![1, 6, 2048]⟩
abbrev S6x2048 : Shape := ⟨2, ![6, 2048]⟩
abbrev S2048 : Shape := ⟨1, ![2048]⟩
abbrev S_ : Shape := ⟨0, ![]⟩
abbrev S256 : Shape := ⟨1, ![256]⟩
abbrev S256x1 : Shape := ⟨2, ![256, 1]⟩
abbrev S8192 : Shape := ⟨1, ![8192]⟩
abbrev S8192x1 : Shape := ⟨2, ![8192, 1]⟩

abbrev nBuf : Space → Nat
  | .hbm => 71
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S2x6x2048, .f32⟩
  | .hbm, ⟨3, _⟩ => ⟨S256x2048, .f32⟩
  | .hbm, ⟨4, _⟩ => ⟨S8192x2048, .f32⟩
  | .hbm, ⟨5, _⟩ => ⟨S1x6x2048, .f32⟩
  | .hbm, ⟨6, _⟩ => ⟨S6x2048, .f32⟩
  | .hbm, ⟨7, _⟩ => ⟨S1x6x2048, .f32⟩
  | .hbm, ⟨8, _⟩ => ⟨S6x2048, .f32⟩
  | .hbm, ⟨9, _⟩ => ⟨S2048, .f32⟩
  | .hbm, ⟨10, _⟩ => ⟨S256x2048, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S256x2048, .f32⟩
  | .hbm, ⟨22, _⟩ => ⟨S256x2048, .f32⟩
  | .hbm, ⟨23, _⟩ => ⟨S1x2048, .f32⟩
  | .hbm, ⟨24, _⟩ => ⟨S256x2048, .f32⟩
  | .hbm, ⟨25, _⟩ => ⟨S256x2048, .f32⟩
  | .hbm, ⟨26, _⟩ => ⟨S1x2048, .f32⟩
  | .hbm, ⟨27, _⟩ => ⟨S2048, .f32⟩
  | .hbm, ⟨28, _⟩ => ⟨S1x2048, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S1x2048, .f32⟩
  | .hbm, ⟨34, _⟩ => ⟨S256x2048, .f32⟩
  | .hbm, ⟨35, _⟩ => ⟨S256x2048, .f32⟩
  | .hbm, ⟨36, _⟩ => ⟨S1x2048, .f32⟩
  | .hbm, ⟨37, _⟩ => ⟨S256x2048, .f32⟩
  | .hbm, ⟨38, _⟩ => ⟨S256x2048, .f32⟩
  | .hbm, ⟨39, _⟩ => ⟨S2048, .f32⟩
  | .hbm, ⟨40, _⟩ => ⟨S8192x2048, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x2048, .f32⟩
  | .hbm, ⟨52, _⟩ => ⟨S8192x2048, .f32⟩
  | .hbm, ⟨53, _⟩ => ⟨S1x2048, .f32⟩
  | .hbm, ⟨54, _⟩ => ⟨S8192x2048, .f32⟩
  | .hbm, ⟨55, _⟩ => ⟨S8192x2048, .f32⟩
  | .hbm, ⟨56, _⟩ => ⟨S1x2048, .f32⟩
  | .hbm, ⟨57, _⟩ => ⟨S2048, .f32⟩
  | .hbm, ⟨58, _⟩ => ⟨S1x2048, .f32⟩
  | .hbm, ⟨59, _⟩ => ⟨S2048, .f32⟩
  | .hbm, ⟨60, _⟩ => ⟨S_, .f32⟩
  | .hbm, ⟨61, _⟩ => ⟨S2048, .f32⟩
  | .hbm, ⟨62, _⟩ => ⟨S2048, .f32⟩
  | .hbm, ⟨63, _⟩ => ⟨S1x2048, .f32⟩
  | .hbm, ⟨64, _⟩ => ⟨S8192x2048, .f32⟩
  | .hbm, ⟨65, _⟩ => ⟨S8192x2048, .f32⟩
  | .hbm, ⟨66, _⟩ => ⟨S1x2048, .f32⟩
  | .hbm, ⟨67, _⟩ => ⟨S8192x2048, .f32⟩
  | .hbm, ⟨68, _⟩ => ⟨S8192x2048, .f32⟩
  | .hbm, ⟨69, _⟩ => ⟨S8448x2048, .f32⟩
  | .hbm, ⟨70, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩

abbrev nD : Nat := 1
abbrev τ : Topo := Topo.v7x

variable {F : FTy → Type} [FloatOps F]
-- ==== NormMixFwd.lean ====
abbrev S8448x2048 : Shape := ⟨2, ![8448, 2048]⟩
abbrev S1x2048 : Shape := ⟨2, ![1, 2048]⟩
abbrev S2x6x2048 : Shape := ⟨3, ![2, 6, 2048]⟩
abbrev S256x2048 : Shape := ⟨2, ![256, 2048]⟩
abbrev S1x6x2048 : Shape := ⟨3, ![1, 6, 2048]⟩
abbrev S256 : Shape := ⟨1, ![256]⟩
abbrev S256x1 : Shape := ⟨2, ![256, 1]⟩
abbrev S1x1x2048 : Shape := ⟨3, ![1, 1, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S2x6x2048, .f32⟩
  | .hbm, ⟨3, _⟩ => ⟨S8448x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S256x2048, .bf16⟩
  | .local _ .vmem, ⟨6, _⟩ => ⟨S256x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c256_i32_0 : BitVec 32 := 256#32
  let v1 : BitVec 1 := Scalar.cmpi .slt v0 c256_i32_0
  let c0_i32 : BitVec 32 := 0#32
  let c1_i32 : BitVec 32 := 1#32
  let v2 : BitVec 32 := Scalar.select v1 c0_i32 c1_i32
  let c0_i32_1 : BitVec 32 := 0#32
  let c0_i32_2 : BitVec 32 := 0#32
  let c0_i32_3 : BitVec 32 := 0#32
  ![v2.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormMixFwdRefIdeal.lean ====
abbrev S8448x2048 : Shape := ⟨2, ![8448, 2048]⟩
abbrev S1x2048 : Shape := ⟨2, ![1, 2048]⟩
abbrev S2x6x2048 : Shape := ⟨3, ![2, 6, 2048]⟩
abbrev S256x2048 : Shape := ⟨2, ![256, 2048]⟩
abbrev S8192x2048 : Shape := ⟨2, ![8192, 2048]⟩
abbrev S1x6x2048 : Shape := ⟨3, ![1, 6, 2048]⟩
abbrev S6x2048 : Shape := ⟨2, ![6, 2048]⟩
abbrev S2048 : Shape := ⟨1, ![2048]⟩
abbrev S_ : Shape := ⟨0, ![]⟩
abbrev S256 : Shape := ⟨1, ![256]⟩
abbrev S256x1 : Shape := ⟨2, ![256, 1]⟩
abbrev S8192 : Shape := ⟨1, ![8192]⟩
abbrev S8192x1 : Shape := ⟨2, ![8192, 1]⟩

abbrev nBuf : Space → Nat
  | .hbm => 71
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S1x2048, .f32⟩
  | .hbm, ⟨2, _⟩ => ⟨S2x6x2048, .f32⟩
  | .hbm, ⟨3, _⟩ => ⟨S256x2048, .f32⟩
  | .hbm, ⟨4, _⟩ => ⟨S8192x2048, .f32⟩
  | .hbm, ⟨5, _⟩ => ⟨S1x6x2048, .f32⟩
  | .hbm, ⟨6, _⟩ => ⟨S6x2048, .f32⟩
  | .hbm, ⟨7, _⟩ => ⟨S1x6x2048, .f32⟩
  | .hbm, ⟨8, _⟩ => ⟨S6x2048, .f32⟩
  | .hbm, ⟨9, _⟩ => ⟨S2048, .f32⟩
  | .hbm, ⟨10, _⟩ => ⟨S256x2048, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S256x2048, .f32⟩
  | .hbm, ⟨22, _⟩ => ⟨S256x2048, .f32⟩
  | .hbm, ⟨23, _⟩ => ⟨S1x2048, .f32⟩
  | .hbm, ⟨24, _⟩ => ⟨S256x2048, .f32⟩
  | .hbm, ⟨25, _⟩ => ⟨S256x2048, .f32⟩
  | .hbm, ⟨26, _⟩ => ⟨S1x2048, .f32⟩
  | .hbm, ⟨27, _⟩ => ⟨S2048, .f32⟩
  | .hbm, ⟨28, _⟩ => ⟨S1x2048, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S1x2048, .f32⟩
  | .hbm, ⟨34, _⟩ => ⟨S256x2048, .f32⟩
  | .hbm, ⟨35, _⟩ => ⟨S256x2048, .f32⟩
  | .hbm, ⟨36, _⟩ => ⟨S1x2048, .f32⟩
  | .hbm, ⟨37, _⟩ => ⟨S256x2048, .f32⟩
  | .hbm, ⟨38, _⟩ => ⟨S256x2048, .f32⟩
  | .hbm, ⟨39, _⟩ => ⟨S2048, .f32⟩
  | .hbm, ⟨40, _⟩ => ⟨S8192x2048, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x2048, .f32⟩
  | .hbm, ⟨52, _⟩ => ⟨S8192x2048, .f32⟩
  | .hbm, ⟨53, _⟩ => ⟨S1x2048, .f32⟩
  | .hbm, ⟨54, _⟩ => ⟨S8192x2048, .f32⟩
  | .hbm, ⟨55, _⟩ => ⟨S8192x2048, .f32⟩
  | .hbm, ⟨56, _⟩ => ⟨S1x2048, .f32⟩
  | .hbm, ⟨57, _⟩ => ⟨S2048, .f32⟩
  | .hbm, ⟨58, _⟩ => ⟨S1x2048, .f32⟩
  | .hbm, ⟨59, _⟩ => ⟨S2048, .f32⟩
  | .hbm, ⟨60, _⟩ => ⟨S_, .f32⟩
  | .hbm, ⟨61, _⟩ => ⟨S2048, .f32⟩
  | .hbm, ⟨62, _⟩ => ⟨S2048, .f32⟩
  | .hbm, ⟨63, _⟩ => ⟨S1x2048, .f32⟩
  | .hbm, ⟨64, _⟩ => ⟨S8192x2048, .f32⟩
  | .hbm, ⟨65, _⟩ => ⟨S8192x2048, .f32⟩
  | .hbm, ⟨66, _⟩ => ⟨S1x2048, .f32⟩
  | .hbm, ⟨67, _⟩ => ⟨S8192x2048, .f32⟩
  | .hbm, ⟨68, _⟩ => ⟨S8192x2048, .f32⟩
  | .hbm, ⟨69, _⟩ => ⟨S8448x2048, .f32⟩
  | .hbm, ⟨70, _⟩ => ⟨S8448x2048, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩

abbrev nD : Nat := 1
abbrev τ : Topo := Topo.v7x

variable {F : FTy → Type} [FloatOps F]
-- ==== Proof.Put.lean ====
/-
  A store into a rectangle of an array, as a plain function `put`.
-/
module

public import Idealize.ShloMosaic.Lib.Claim
public import Idealize.ShloMosaic.Lib.Tactic
public import Idealize.ShloMosaic.Lib.Pipeline.FrameBody

@[expose] public section

noncomputable section

/-! ### A store into a rectangle -/

namespace Cert.Attn

open Idealize.ShloMosaic

/-- The array `X` with the rectangle `r` overwritten by `w`. -/
def put {Val : EltTy → Type} {s : Shape} {e : EltTy} (r : Rect s) (w : r.shape.Idx → Val e) (X : s.Idx → Val e) : s.Idx → Val e :=
  open scoped Classical in fun y => if h : ∃ x, r.emb x = y then w h.choose else X y

theorem put_emb {Val : EltTy → Type} {s : Shape} {e : EltTy} (r : Rect s) (w : r.shape.Idx → Val e) (X : s.Idx → Val e) (x : r.shape.Idx) :
    put r w X (r.emb x) = w x := by
  have h : ∃ x', r.emb x' = r.emb x := ⟨x, rfl⟩
  unfold put
  rw [dif_pos h]
  exact congrArg w (r.emb.injective h.choose_spec)

theorem put_off {Val : EltTy → Type} {s : Shape} {e : EltTy} (r : Rect s) (w : r.shape.Idx → Val e) (X : s.Idx → Val e) (y : s.Idx)
    (h : y ∉ r.set) : put r w X y = X y := by
  unfold put
  rw [dif_neg]
  rintro ⟨x, rfl⟩
  exact h (by rw [← Rect.map_emb_univ]; exact Finset.mem_map_of_mem _ (Finset.mem_univ x))

/-- The newest of a list of stores, read back. -/
theorem read_writes_put {sig : RefSig} {κ : Kind} {sp : Space} {Val : EltTy → Type} {s : Shape} {e : EltTy} (v : View sig κ sp s e)
    (f : v.ty.Contents Val) (r : Rect s) (w : r.shape.Idx → Val e) (L : List (View.Piece Val s e)) :
    v.read Val (v.writes Val f (⟨r, w⟩ :: L)) = put r w (v.read Val (v.writes Val f L)) := by
  funext y
  by_cases hy : y ∈ r.set
  · obtain ⟨x, rfl⟩ := r.exists_idx_of_mem hy
    refine (View.read_writes_cons_emb _ _ _ _ _ x).trans (put_emb r w _ x).symm
  · rw [put_off _ _ _ _ hy]
    exact View.read_writes_cons_miss v f ⟨r, w⟩ L y hy

/-- A store over the whole array. -/
theorem put_whole {Val : EltTy → Type} {s : Shape} {e : EltTy} (o : Fin s.rank → ℕ) (ho : ∀ a, o a = 0) (inb) (w : s.Idx → Val e) (X : s.Idx → Val e) :
    put (Val := Val) (Rect.unit (s := s) o s.size inb) w X = w := by
  funext y
  have e : (Rect.unit (s := s) o s.size inb).emb y = y := by
    funext a
    apply Fin.ext
    show o a + 1 * (y a).val = (y a).val
    rw [ho a]; omega
  exact (congrArg (put (Val := Val) (Rect.unit (s := s) o s.size inb) w X) e).symm.trans (put_emb (Rect.unit (s := s) o s.size inb) w X y)

end Cert.Attn

end
-- ==== Proof.Attn.Point.lean ====
/-
  The windowed attention's gradient, one grid point at a time: what the body computes from the blocks it is handed
  (the sinks' table, the queries of one block for the four heads of a group, the group's keys and values, the cotangent's
  block), as plain functions.
-/
module

public import proofs.«01_k».proof.Proof.Put
public import proofs.«01_k».proof.Proof.Gen.KernelIdeal.Frame
public import proofs.«01_k».proof.Proof.Gen.KernelIdeal.Skeleton
public import Idealize.ShloMosaic.Lib.Claim
public import Idealize.ShloMosaic.Lib.Tactic

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.Tactic

variable {F : FTy → Type} [FloatOps F]

/-- The first row of the window of query block `i 1`. -/
abbrev row0 (i : grid0.Coords) : ℕ := 128 * min ((i 1).val - 1) 63

set_option maxHeartbeats 1000000 in
theorem off1_row (q : Fin 66) : (Scalar.indexCast (Scalar.muli (Scalar.minsi 63#32 (Scalar.maxsi 0#32 (Scalar.subi (BitVec.ofNat 32 q.val) 1#32))) 128#32) : Index).toNat = 128 * min (q.val - 1) 63 := by
  revert q; decide +kernel

theorem off1_eq (i : grid0.Coords) : k0_off1 i = ![row0 i, 0] := by
  unfold k0_off1
  exact congrArg (fun n => (![n, 0] : Fin 2 → ℕ)) (off1_row (i 1))

instance (i : grid0.Coords) : ClosedOff (k0_off1 i) := ⟨![row0 i, 0], off1_eq i⟩

/-! ### The rectangles the body reads and writes -/

/-- The context's rows of a group's keys or values. -/
abbrev rCtx : Rect S8448x128 := Rect.unit (s := S8448x128) ![0, 0] S256x128.size inb_S8448x128_S256x128_0_0
/-- The window's rows. -/
abbrev rWin (i : grid0.Coords) : Rect S8448x128 := Rect.unit (s := S8448x128) (k0_off1 i) S384x128.size (k0_off1_inb i)
/-- The whole of a block of queries. -/
abbrev rBlk : Rect S128x512 := Rect.unit (s := S128x512) ![0, 0] S128x512.size inb_S128x512_S128x512_0_0
/-- The sink of head `g` of the group. -/
abbrev rSink (i : grid0.Coords) (g : Fin 4) : Rect S16 := Rect.unit (s := S16) (k0_off2 i (BitVec.ofNat 32 g.val)) S1.size (k0_off2_inb i g)

/-! ### The words of the point's rows -/

def w0w (i : grid0.Coords) : BitVec 32 := Scalar.muli (Scalar.minsi 63#32 (Scalar.maxsi 0#32 (Scalar.subi (BitVec.ofNat 32 (i 1).val) 1#32))) 128#32
def q0w (i : grid0.Coords) : BitVec 32 := Scalar.muli (BitVec.ofNat 32 (i 1).val) 128#32

variable (i : grid0.Coords) (x2 : Vec F S16 .f32) (x3 : Vec F S128x512 .bf16) (x4 x5 : Vec F S8448x128 .bf16) (x6 : Vec F S128x512 .bf16)

/-- The four sinks of the group. -/
def sinkOf (g : Fin 4) : Elt F .f32 := View.ld x2 (rSink i g) (Shape.Idx.first (numel1_S1.symm ▸ Nat.one_pos))

/-- The scores of the context's keys, and of the window's, masked. -/
def sc : FVec F S512x256 .f32 := k0_pay4 (View.ld x3 rBlk) (View.ld x4 rCtx)
def sb : FVec F S512x384 .f32 := k0_pay7 (w0w i) (k0_pay5 (View.ld x3 rBlk) (View.ld x4 (rWin i))) (q0w i) k0_pay6

/-- The exponentials, the sink's, and the sums of the two rows. -/
def ec : FVec F S512x256 .f32 := k0_pay13 (sc x3 x4) (sb i x3 x4) k0_pay8 k0_pay9 k0_pay10 (sinkOf i x2 0) (sinkOf i x2 1) (sinkOf i x2 2) (sinkOf i x2 3)
def eb : FVec F S512x384 .f32 := k0_pay14 (sc x3 x4) (sb i x3 x4) k0_pay8 k0_pay9 k0_pay10 (sinkOf i x2 0) (sinkOf i x2 1) (sinkOf i x2 2) (sinkOf i x2 3)
def es : FVec F S512x1 .f32 := k0_pay15 (sc x3 x4) (sb i x3 x4) k0_pay8 k0_pay9 k0_pay10 (sinkOf i x2 0) (sinkOf i x2 1) (sinkOf i x2 2) (sinkOf i x2 3)
def tc : FVec F S512x1 .f32 := k0_pay16 (sc x3 x4) (sb i x3 x4) k0_pay8 k0_pay9 k0_pay10 (sinkOf i x2 0) (sinkOf i x2 1) (sinkOf i x2 2) (sinkOf i x2 3)
def tb : FVec F S512 .f32 := k0_pay17 (sc x3 x4) (sb i x3 x4) k0_pay8 k0_pay9 k0_pay10 (sinkOf i x2 0) (sinkOf i x2 1) (sinkOf i x2 2) (sinkOf i x2 3)

/-- The probabilities. -/
def pc : FVec F S512x256 .f32 := k0_pay19 (ec i x2 x3 x4) (es i x2 x3 x4) (tc i x2 x3 x4) (tb i x2 x3 x4)
def pb : FVec F S512x384 .f32 := k0_pay20 (eb i x2 x3 x4) (es i x2 x3 x4) (tc i x2 x3 x4) (tb i x2 x3 x4)
def ps : FVec F S512x1 .f32 := k0_pay21 (es i x2 x3 x4) (tc i x2 x3 x4) (tb i x2 x3 x4)

/-- The row sums of the probabilities times their cotangents. -/
def dl : FVec F S512x1 .f32 := k0_pay25 (ec i x2 x3 x4) (eb i x2 x3 x4) (es i x2 x3 x4) (tc i x2 x3 x4) (tb i x2 x3 x4) (View.ld x6 rBlk) (View.ld x5 rCtx) (View.ld x5 (rWin i))

/-- The scores' cotangents. -/
def gc : FVec F S512x256 .bf16 := k0_pay26 (ec i x2 x3 x4) (eb i x2 x3 x4) (es i x2 x3 x4) (tc i x2 x3 x4) (tb i x2 x3 x4) (View.ld x6 rBlk) (View.ld x5 rCtx) (View.ld x5 (rWin i))
def gb : FVec F S512x384 .bf16 := k0_pay27 (ec i x2 x3 x4) (eb i x2 x3 x4) (es i x2 x3 x4) (tc i x2 x3 x4) (tb i x2 x3 x4) (View.ld x6 rBlk) (View.ld x5 rCtx) (View.ld x5 (rWin i))

/-- The queries' gradient, the four heads side by side. -/
def dqv : FVec F S128x512 .f32 :=
  k0_pay32
    (k0_pay28 (View.ld x4 rCtx) (View.ld x4 (rWin i)) (ec i x2 x3 x4) (eb i x2 x3 x4) (es i x2 x3 x4) (tc i x2 x3 x4) (tb i x2 x3 x4) (View.ld x6 rBlk) (View.ld x5 rCtx) (View.ld x5 (rWin i)))
    (k0_pay29 (View.ld x4 rCtx) (View.ld x4 (rWin i)) (ec i x2 x3 x4) (eb i x2 x3 x4) (es i x2 x3 x4) (tc i x2 x3 x4) (tb i x2 x3 x4) (View.ld x6 rBlk) (View.ld x5 rCtx) (View.ld x5 (rWin i)))
    (k0_pay30 (View.ld x4 rCtx) (View.ld x4 (rWin i)) (ec i x2 x3 x4) (eb i x2 x3 x4) (es i x2 x3 x4) (tc i x2 x3 x4) (tb i x2 x3 x4) (View.ld x6 rBlk) (View.ld x5 rCtx) (View.ld x5 (rWin i)))
    (k0_pay31 (View.ld x4 rCtx) (View.ld x4 (rWin i)) (ec i x2 x3 x4) (eb i x2 x3 x4) (es i x2 x3 x4) (tc i x2 x3 x4) (tb i x2 x3 x4) (View.ld x6 rBlk) (View.ld x5 rCtx) (View.ld x5 (rWin i)))

/-- The keys' gradient after the point, the context's rows added first and then the window's. -/
def dk1 (y : Vec F S8448x128 .f32) : Vec F S8448x128 .f32 :=
  put (Val := Elt F) (e := .f32) rCtx (k0_pay35 (k0_pay3 (View.ld x3 rBlk)) (gc i x2 x3 x4 x5 x6) (View.ld y rCtx)) y
def dk2 (y : Vec F S8448x128 .f32) : Vec F S8448x128 .f32 :=
  put (Val := Elt F) (e := .f32) (rWin i) (k0_pay37 (k0_pay3 (View.ld x3 rBlk)) (gb i x2 x3 x4 x5 x6) (View.ld y (rWin i))) y
def dkv (y : Vec F S8448x128 .f32) : Vec F S8448x128 .f32 := dk2 i x2 x3 x4 x5 x6 (dk1 i x2 x3 x4 x5 x6 y)

/-- The values' gradient after the point. -/
def dv1 (y : Vec F S8448x128 .f32) : Vec F S8448x128 .f32 :=
  put (Val := Elt F) (e := .f32) rCtx (k0_pay36 (pc i x2 x3 x4) (k0_pay22 (View.ld x6 rBlk)) (View.ld y rCtx)) y
def dv2 (y : Vec F S8448x128 .f32) : Vec F S8448x128 .f32 :=
  put (Val := Elt F) (e := .f32) (rWin i) (k0_pay38 (pb i x2 x3 x4) (k0_pay22 (View.ld x6 rBlk)) (View.ld y (rWin i))) y
def dvv (y : Vec F S8448x128 .f32) : Vec F S8448x128 .f32 := dv2 i x2 x3 x4 x6 (dv1 i x2 x3 x4 x6 y)

/-- The sinks' gradient of the point: alone, and added to what is there. -/
def tneg : FVec F S512x1 .f32 := k0_pay39 (ps i x2 x3 x4) (dl i x2 x3 x4 x5 x6)
def ds1 : FVec F S8x128 .f32 :=
  k0_pay1 (k0_pay40 (tneg i x2 x3 x4 x5 x6) (Scalar.ofBits .f32 0x00000000#32)) (k0_pay41 k0_pay8 (tneg i x2 x3 x4 x5 x6) (Scalar.ofBits .f32 0x00000000#32)) k0_pay42 (k0_pay43 k0_pay8) (Scalar.ofBits .f32 0x00000000#32)
def ds2 (y : Vec F S8x128 .f32) : FVec F S8x128 .f32 :=
  k0_pay2 (k0_pay40 (tneg i x2 x3 x4 x5 x6) (Scalar.ofBits .f32 0x00000000#32)) (k0_pay41 k0_pay8 (tneg i x2 x3 x4 x5 x6) (Scalar.ofBits .f32 0x00000000#32)) k0_pay42 (k0_pay43 k0_pay8) (Scalar.ofBits .f32 0x00000000#32)
    (View.ld y (Rect.unit (s := S8x128) ![0, 0] S8x128.size inb_S8x128_S8x128_0_0))

end Cert.KernelIdeal.Hand
end
-- ==== Proof.Attn.Run.lean ====
/-
  The windowed attention's gradient: the body run once in each of its two cases, at the first query block of a group
  (the accumulators are overwritten) and at a later one (they are added to).
-/
module

public import proofs.«01_k».proof.Proof.Attn.Point

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A later block of a group. -/
theorem runB (c : Dev nD) (i : grid0.Coords)
    (arg2 : Memref sig .tc .smem S16 .f32) (harg2 : arg2.IsWhole)
    (arg3 : Memref sig .tc .vmem S128x512 .bf16) (harg3 : arg3.IsWhole)
    (arg4 : Memref sig .tc .vmem S8448x128 .bf16) (harg4 : arg4.IsWhole)
    (arg5 : Memref sig .tc .vmem S8448x128 .bf16) (harg5 : arg5.IsWhole)
    (arg6 : Memref sig .tc .vmem S128x512 .bf16) (harg6 : arg6.IsWhole)
    (arg7 : Memref sig .tc .vmem S128x512 .f32) (harg7 : arg7.IsWhole)
    (arg8 : Memref sig .tc .vmem S8448x128 .f32) (harg8 : arg8.IsWhole)
    (arg9 : Memref sig .tc .vmem S8448x128 .f32) (harg9 : arg9.IsWhole)
    (arg10 : Memref sig .tc .vmem S8x128 .f32) (harg10 : arg10.IsWhole)
    (hc2 : ¬ k0_cond2 i = 1#1) (hc3 : k0_cond3 i = 1#1)
    (x2 : Vec F S16 .f32) (x3 : Vec F S128x512 .bf16) (x4 x5 : Vec F S8448x128 .bf16) (x6 : Vec F S128x512 .bf16)
    (x8 x9 : Vec F S8448x128 .f32) (x10 : Vec F S8x128 .f32) (E : Set ℕ) (K : PUnit → sProp 𝕄) :
    iprop(owns (c : Thread nD τ) arg2 fullShare x2 ∗ owns (c : Thread nD τ) arg3 fullShare x3
      ∗ owns (c : Thread nD τ) arg4 fullShare x4 ∗ owns (c : Thread nD τ) arg5 fullShare x5
      ∗ owns (c : Thread nD τ) arg6 fullShare x6 ∗ (∃ d, owns (c : Thread nD τ) arg7 fullShare d)
      ∗ owns (c : Thread nD τ) arg8 fullShare x8 ∗ owns (c : Thread nD τ) arg9 fullShare x9
      ∗ owns (c : Thread nD τ) arg10 fullShare x10
      ∗ (iprop(owns (c : Thread nD τ) arg2 fullShare x2 ∗ owns (c : Thread nD τ) arg3 fullShare x3
      ∗ owns (c : Thread nD τ) arg4 fullShare x4 ∗ owns (c : Thread nD τ) arg5 fullShare x5
      ∗ owns (c : Thread nD τ) arg6 fullShare x6 ∗ owns (c : Thread nD τ) arg7 fullShare (dqv i x2 x3 x4 x5 x6)
      ∗ owns (c : Thread nD τ) arg8 fullShare (dkv i x2 x3 x4 x5 x6 x8) ∗ owns (c : Thread nD τ) arg9 fullShare (dvv i x2 x3 x4 x6 x9)
      ∗ owns (c : Thread nD τ) arg10 fullShare (ds2 i x2 x3 x4 x5 x6 x10)) -∗ K ⟨⟩))
    ⊢ wp frame (wpE (defs₀ (F := F)) Variants.none c none) E
        (cc0_attn_bwd i arg2 harg2 arg3 harg3 arg4 harg4 arg5 harg5 arg6 harg6 arg7 harg7 arg8 harg8 arg9 harg9 arg10 harg10) K := by
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, Hk⟩
  sl_exec (disch := first | sl_exact hc2 | sl_exact hc3)
  sl_step
  iapply Hk
  subst hf2 hf3 hf4 hf5 hf6 hf8 hf9 hf10
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  isplitl [H7]
  · iexists _; isplitr; swap; · iexact H7
    ipureintro
    rw [read_writes_put, put_whole _ (by decide)]
    rfl
  isplitl [H8]
  · iexists _; isplitr; swap; · iexact H8
    ipureintro
    refine (read_writes_put _ _ _ _ _).trans ?_
    exact congrArg (dk2 i (arg2.view.read (Elt F) f2) (arg3.view.read (Elt F) f3) (arg4.view.read (Elt F) f4) (arg5.view.read (Elt F) f5) (arg6.view.read (Elt F) f6)) (read_writes_put arg8.view f8 rCtx _ [] : arg8.view.read (Elt F) (arg8.view.writes (Elt F) f8 _) = _)
  isplitl [H9]
  · iexists _; isplitr; swap; · iexact H9
    ipureintro
    refine (read_writes_put _ _ _ _ _).trans ?_
    exact congrArg (dv2 i (arg2.view.read (Elt F) f2) (arg3.view.read (Elt F) f3) (arg4.view.read (Elt F) f4) (arg6.view.read (Elt F) f6)) (read_writes_put arg9.view f9 rCtx _ [] : arg9.view.read (Elt F) (arg9.view.writes (Elt F) f9 _) = _)
  · iexists _; isplitr; swap; · iexact H10
    ipureintro
    rw [read_writes_put, put_whole _ (by decide)]
    rfl

set_option maxHeartbeats 4000000 in
/-- The first block of a group. -/
theorem runA (c : Dev nD) (i : grid0.Coords)
    (arg2 : Memref sig .tc .smem S16 .f32) (harg2 : arg2.IsWhole)
    (arg3 : Memref sig .tc .vmem S128x512 .bf16) (harg3 : arg3.IsWhole)
    (arg4 : Memref sig .tc .vmem S8448x128 .bf16) (harg4 : arg4.IsWhole)
    (arg5 : Memref sig .tc .vmem S8448x128 .bf16) (harg5 : arg5.IsWhole)
    (arg6 : Memref sig .tc .vmem S128x512 .bf16) (harg6 : arg6.IsWhole)
    (arg7 : Memref sig .tc .vmem S128x512 .f32) (harg7 : arg7.IsWhole)
    (arg8 : Memref sig .tc .vmem S8448x128 .f32) (harg8 : arg8.IsWhole)
    (arg9 : Memref sig .tc .vmem S8448x128 .f32) (harg9 : arg9.IsWhole)
    (arg10 : Memref sig .tc .vmem S8x128 .f32) (harg10 : arg10.IsWhole)
    (hc2 : k0_cond2 i = 1#1) (hc3 : ¬ k0_cond3 i = 1#1)
    (x2 : Vec F S16 .f32) (x3 : Vec F S128x512 .bf16) (x4 x5 : Vec F S8448x128 .bf16) (x6 : Vec F S128x512 .bf16)
    (E : Set ℕ) (K : PUnit → sProp 𝕄) :
    iprop(owns (c : Thread nD τ) arg2 fullShare x2 ∗ owns (c : Thread nD τ) arg3 fullShare x3
      ∗ owns (c : Thread nD τ) arg4 fullShare x4 ∗ owns (c : Thread nD τ) arg5 fullShare x5
      ∗ owns (c : Thread nD τ) arg6 fullShare x6 ∗ (∃ d, owns (c : Thread nD τ) arg7 fullShare d)
      ∗ (∃ d, owns (c : Thread nD τ) arg8 fullShare d) ∗ (∃ d, owns (c : Thread nD τ) arg9 fullShare d)
      ∗ (∃ d, owns (c : Thread nD τ) arg10 fullShare d)
      ∗ (iprop(owns (c : Thread nD τ) arg2 fullShare x2 ∗ owns (c : Thread nD τ) arg3 fullShare x3
      ∗ owns (c : Thread nD τ) arg4 fullShare x4 ∗ owns (c : Thread nD τ) arg5 fullShare x5
      ∗ owns (c : Thread nD τ) arg6 fullShare x6 ∗ owns (c : Thread nD τ) arg7 fullShare (dqv i x2 x3 x4 x5 x6)
      ∗ owns (c : Thread nD τ) arg8 fullShare (dkv i x2 x3 x4 x5 x6 k0_pay33) ∗ owns (c : Thread nD τ) arg9 fullShare (dvv i x2 x3 x4 x6 k0_pay34)
      ∗ owns (c : Thread nD τ) arg10 fullShare (ds1 i x2 x3 x4 x5 x6)) -∗ K ⟨⟩))
    ⊢ wp frame (wpE (defs₀ (F := F)) Variants.none c none) E
        (cc0_attn_bwd i arg2 harg2 arg3 harg3 arg4 harg4 arg5 harg5 arg6 harg6 arg7 harg7 arg8 harg8 arg9 harg9 arg10 harg10) K := by
  simp only [cc0_attn_bwd_eq_skeleton]; unfold cc0_attn_bwd_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  sl_exec (disch := first | sl_exact hc2 | sl_exact hc3)
  sl_step
  iapply Hk
  subst hf2 hf3 hf4 hf5 hf6
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  isplitl [H7]
  · iexists _; isplitr; swap; · iexact H7
    ipureintro
    rw [read_writes_put, put_whole _ (by decide)]
    rfl
  isplitl [H8]
  · iexists _; isplitr; swap; · iexact H8
    ipureintro
    refine (read_writes_put _ _ _ _ _).trans ?_
    exact congrArg (dk2 i (arg2.view.read (Elt F) f2) (arg3.view.read (Elt F) f3) (arg4.view.read (Elt F) f4) (arg5.view.read (Elt F) f5) (arg6.view.read (Elt F) f6)) ((read_writes_put arg8.view arg8.view.junk rCtx _ _ : arg8.view.read (Elt F) (arg8.view.writes (Elt F) arg8.view.junk _) = _).trans
      (congrArg (dk1 i (arg2.view.read (Elt F) f2) (arg3.view.read (Elt F) f3) (arg4.view.read (Elt F) f4) (arg5.view.read (Elt F) f5) (arg6.view.read (Elt F) f6)) ((read_writes_put arg8.view arg8.view.junk _ _ [] : arg8.view.read (Elt F) (arg8.view.writes (Elt F) arg8.view.junk _) = _).trans (put_whole _ (by decide) _ _ _))))
  isplitl [H9]
  · iexists _; isplitr; swap; · iexact H9
    ipureintro
    refine (read_writes_put _ _ _ _ _).trans ?_
    exact congrArg (dv2 i (arg2.view.read (Elt F) f2) (arg3.view.read (Elt F) f3) (arg4.view.read (Elt F) f4) (arg6.view.read (Elt F) f6)) ((read_writes_put arg9.view arg9.view.junk rCtx _ _ : arg9.view.read (Elt F) (arg9.view.writes (Elt F) arg9.view.junk _) = _).trans
      (congrArg (dv1 i (arg2.view.read (Elt F) f2) (arg3.view.read (Elt F) f3) (arg4.view.read (Elt F) f4) (arg6.view.read (Elt F) f6)) ((read_writes_put arg9.view arg9.view.junk _ _ [] : arg9.view.read (Elt F) (arg9.view.writes (Elt F) arg9.view.junk _) = _).trans (put_whole _ (by decide) _ _ _))))
  · iexists _; isplitr; swap; · iexact H10
    ipureintro
    rw [read_writes_put, put_whole _ (by decide)]
    rfl

end Cert.KernelIdeal.Hand
end
-- ==== Proof.Attn.Frame.lean ====
/-
  The windowed attention's gradient: the launch. What every window's buffer holds after each point, and the run of
  the whole call from it.
-/
module

public import proofs.«01_k».proof.Proof.Attn.Run
public import proofs.«01_k».proof.Proof.Gen.KernelIdeal.Frame

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-! ### Which case a point is in -/

theorem cond2_iff : ∀ t : Fin cfg0.N, k0_cond2 (grid0.coords t) = 1#1 ↔ t.val % 66 = 0 :=
  (by decide +kernel : ∀ t : Fin grid0.N, k0_cond2 (grid0.coords t) = 1#1 ↔ t.val % 66 = 0)
theorem cond3_iff : ∀ t : Fin cfg0.N, k0_cond3 (grid0.coords t) = 1#1 ↔ t.val % 66 ≠ 0 :=
  (by decide +kernel : ∀ t : Fin grid0.N, k0_cond3 (grid0.coords t) = 1#1 ↔ t.val % 66 ≠ 0)

theorem live8 (i : grid0.Coords) : cfg0.idle 8 i = false := by
  have h : ∀ q : Fin 66, (!(Scalar.cmpi .ne (Scalar.extui (Scalar.cmpi .eq (BitVec.ofNat 32 q.val) 0#32)) 0#32 == 1#1)
      && !(Scalar.cmpi .ne (Scalar.extui (Scalar.cmpi .sgt (BitVec.ofNat 32 q.val) 0#32)) 0#32 == 1#1)) = false := by
    decide +kernel
  exact h (i 1)

/-! ### The accumulators -/

/-- A point's inputs, at the shapes the body reads them. -/
abbrev b0 (c : Dev nD) (t : Fin cfg0.N) : Vec F S16 .f32 := iblk m c 0 t
abbrev b1 (c : Dev nD) (t : Fin cfg0.N) : Vec F S128x512 .bf16 := iblk m c 1 t
abbrev b2 (c : Dev nD) (t : Fin cfg0.N) : Vec F S8448x128 .bf16 := iblk m c 2 t
abbrev b3 (c : Dev nD) (t : Fin cfg0.N) : Vec F S8448x128 .bf16 := iblk m c 3 t
abbrev b4 (c : Dev nD) (t : Fin cfg0.N) : Vec F S128x512 .bf16 := iblk m c 4 t

/-- The keys' gradient after point `n`. -/
def dkAt (c : Dev nD) : (n : ℕ) → n < cfg0.N → Vec F S8448x128 .f32
  | 0, h => dkv (grid0.coords ⟨0, h⟩) (b0 m c ⟨0, h⟩) (b1 m c ⟨0, h⟩) (b2 m c ⟨0, h⟩) (b3 m c ⟨0, h⟩) (b4 m c ⟨0, h⟩) k0_pay33
  | n + 1, h => dkv (grid0.coords ⟨n + 1, h⟩) (b0 m c ⟨n + 1, h⟩) (b1 m c ⟨n + 1, h⟩) (b2 m c ⟨n + 1, h⟩) (b3 m c ⟨n + 1, h⟩) (b4 m c ⟨n + 1, h⟩)
      (if (n + 1) % 66 = 0 then k0_pay33 else dkAt c n (Nat.lt_of_succ_lt h))

/-- The values' gradient after point `n`. -/
def dvAt (c : Dev nD) : (n : ℕ) → n < cfg0.N → Vec F S8448x128 .f32
  | 0, h => dvv (grid0.coords ⟨0, h⟩) (b0 m c ⟨0, h⟩) (b1 m c ⟨0, h⟩) (b2 m c ⟨0, h⟩) (b4 m c ⟨0, h⟩) k0_pay34
  | n + 1, h => dvv (grid0.coords ⟨n + 1, h⟩) (b0 m c ⟨n + 1, h⟩) (b1 m c ⟨n + 1, h⟩) (b2 m c ⟨n + 1, h⟩) (b4 m c ⟨n + 1, h⟩)
      (if (n + 1) % 66 = 0 then k0_pay34 else dvAt c n (Nat.lt_of_succ_lt h))

/-- The sinks' gradient after point `n`. -/
def dsAt (c : Dev nD) : (n : ℕ) → n < cfg0.N → Vec F S8x128 .f32
  | 0, h => ds1 (grid0.coords ⟨0, h⟩) (b0 m c ⟨0, h⟩) (b1 m c ⟨0, h⟩) (b2 m c ⟨0, h⟩) (b3 m c ⟨0, h⟩) (b4 m c ⟨0, h⟩)
  | n + 1, h => if (n + 1) % 66 = 0
      then ds1 (grid0.coords ⟨n + 1, h⟩) (b0 m c ⟨n + 1, h⟩) (b1 m c ⟨n + 1, h⟩) (b2 m c ⟨n + 1, h⟩) (b3 m c ⟨n + 1, h⟩) (b4 m c ⟨n + 1, h⟩)
      else ds2 (grid0.coords ⟨n + 1, h⟩) (b0 m c ⟨n + 1, h⟩) (b1 m c ⟨n + 1, h⟩) (b2 m c ⟨n + 1, h⟩) (b3 m c ⟨n + 1, h⟩) (b4 m c ⟨n + 1, h⟩)
        (dsAt c n (Nat.lt_of_succ_lt h))

theorem dkAt_first (c : Dev nD) (t : Fin cfg0.N) (h : t.val % 66 = 0) :
    dkAt m c t.val t.isLt = dkv (grid0.coords t) (b0 m c t) (b1 m c t) (b2 m c t) (b3 m c t) (b4 m c t) k0_pay33 := by
  obtain ⟨n, hn⟩ := t
  cases n with
  | zero => rfl
  | succ n => unfold dkAt; rw [if_pos h]

theorem dkAt_later (c : Dev nD) (t : Fin cfg0.N) (h : t.val % 66 ≠ 0) :
    dkAt m c t.val t.isLt = dkv (grid0.coords t) (b0 m c t) (b1 m c t) (b2 m c t) (b3 m c t) (b4 m c t)
      (dkAt m c (t.val - 1) (Nat.lt_of_le_of_lt (Nat.sub_le _ _) t.isLt)) := by
  obtain ⟨n, hn⟩ := t
  cases n with
  | zero => exact absurd rfl h
  | succ n => conv_lhs => unfold dkAt
              rw [if_neg h]; rfl

theorem dvAt_first (c : Dev nD) (t : Fin cfg0.N) (h : t.val % 66 = 0) :
    dvAt m c t.val t.isLt = dvv (grid0.coords t) (b0 m c t) (b1 m c t) (b2 m c t) (b4 m c t) k0_pay34 := by
  obtain ⟨n, hn⟩ := t
  cases n with
  | zero => rfl
  | succ n => unfold dvAt; rw [if_pos h]

theorem dvAt_later (c : Dev nD) (t : Fin cfg0.N) (h : t.val % 66 ≠ 0) :
    dvAt m c t.val t.isLt = dvv (grid0.coords t) (b0 m c t) (b1 m c t) (b2 m c t) (b4 m c t)
      (dvAt m c (t.val - 1) (Nat.lt_of_le_of_lt (Nat.sub_le _ _) t.isLt)) := by
  obtain ⟨n, hn⟩ := t
  cases n with
  | zero => exact absurd rfl h
  | succ n => conv_lhs => unfold dvAt
              rw [if_neg h]; rfl

theorem dsAt_first (c : Dev nD) (t : Fin cfg0.N) (h : t.val % 66 = 0) :
    dsAt m c t.val t.isLt = ds1 (grid0.coords t) (b0 m c t) (b1 m c t) (b2 m c t) (b3 m c t) (b4 m c t) := by
  obtain ⟨n, hn⟩ := t
  cases n with
  | zero => rfl
  | succ n => unfold dsAt; rw [if_pos h]

theorem dsAt_later (c : Dev nD) (t : Fin cfg0.N) (h : t.val % 66 ≠ 0) :
    dsAt m c t.val t.isLt = ds2 (grid0.coords t) (b0 m c t) (b1 m c t) (b2 m c t) (b3 m c t) (b4 m c t)
      (dsAt m c (t.val - 1) (Nat.lt_of_le_of_lt (Nat.sub_le _ _) t.isLt)) := by
  obtain ⟨n, hn⟩ := t
  cases n with
  | zero => exact absurd rfl h
  | succ n => conv_lhs => unfold dsAt
              rw [if_neg h]; rfl

/-! ### The proof data -/

/-- What each window's buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqv (grid0.coords t) (b0 m c t) (b1 m c t) (b2 m c t) (b3 m c t) (b4 m c t)
    | ⟨6, _⟩ => dkAt m c t.val t.isLt
    | ⟨7, _⟩ => dvAt m c t.val t.isLt
    | ⟨8, _⟩ => dsAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = dqv (grid0.coords t) (b0 m c t) (b1 m c t) (b2 m c t) (b3 m c t) (b4 m c t) := by dsimp only [dats]
theorem after_6 (c : Dev nD) (t : Fin cfg0.N) : (dats m 0 c).after 6 t = dkAt m c t.val t.isLt := by dsimp only [dats]
theorem after_7 (c : Dev nD) (t : Fin cfg0.N) : (dats m 0 c).after 7 t = dvAt m c t.val t.isLt := by dsimp only [dats]
theorem after_8 (c : Dev nD) (t : Fin cfg0.N) : (dats m 0 c).after 8 t = dsAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

theorem before_6 (c : Dev nD) (t : Fin cfg0.N) (h : t.val % 66 ≠ 0) (d) :
    (dats m 0 c).before 6 t d = dkAt m c (t.val - 1) (Nat.lt_of_le_of_lt (Nat.sub_le _ _) t.isLt) := by
  rw [(dats m 0 c).before_out_kept 6 rfl t (fun e => h (by rw [e])) (by
    refine Bool.eq_false_iff.mpr fun e => ?_
    have := (flush0_6 _).mp e
    dsimp only at this; omega) (fun _ => rfl) (fun _ _ => rfl), after_6]
theorem before_7 (c : Dev nD) (t : Fin cfg0.N) (h : t.val % 66 ≠ 0) (d) :
    (dats m 0 c).before 7 t d = dvAt m c (t.val - 1) (Nat.lt_of_le_of_lt (Nat.sub_le _ _) t.isLt) := by
  rw [(dats m 0 c).before_out_kept 7 rfl t (fun e => h (by rw [e])) (by
    refine Bool.eq_false_iff.mpr fun e => ?_
    have := (flush0_7 _).mp e
    dsimp only at this; omega) (fun _ => rfl) (fun _ _ => rfl), after_7]
theorem before_8 (c : Dev nD) (t : Fin cfg0.N) (h : t.val % 66 ≠ 0) (d) :
    (dats m 0 c).before 8 t d = dsAt m c (t.val - 1) (Nat.lt_of_le_of_lt (Nat.sub_le _ _) t.isLt) := by
  rw [(dats m 0 c).before_out_kept 8 rfl t (fun e => h (by rw [e])) (by
    refine Bool.eq_false_iff.mpr fun e => ?_
    have := (flush0_8 _).mp e
    dsimp only at this; omega) live8 (fun _ _ => rfl), after_8]

/-! ### The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

theorem leaves_of (c : Dev nD) (w : Fin cfg0.W) (t : Fin cfg0.N) (hl : cfg0.idle w (grid0.coords t) = false) :
    (dats (F := F) m 0 c).leavesExact w t = owns (c : Thread nD τ) ((cfg0.win w).stage (cfg0.slots t w)) fullShare ((dats m 0 c).after w t) := by
  unfold Dat.leavesExact; rw [hl]

set_option maxHeartbeats 3200000 in
/-- The body at any point: the inputs' buffers hold their blocks, the accumulators what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = (dats m 0 c).Φ t.castSucc from rfl]
  rw [leaves_of m c 0 t rfl, leaves_of m c 1 t rfl, leaves_of m c 2 t rfl, leaves_of m c 3 t rfl, leaves_of m c 4 t rfl,
    leaves_of m c 5 t rfl, leaves_of m c 6 t rfl, leaves_of m c 7 t rfl, leaves_of m c 8 t (live8 _)]
  rw [after_0, after_1, after_2, after_3, after_4, after_5, after_6, after_7, after_8]
  by_cases h : t.val % 66 = 0
  · rw [dkAt_first m c t h, dvAt_first m c t h, dsAt_first m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid0.coords t) _ _ _ _ _ _ _ _ _ _ _ _ _ _ _ _ _ _ ((cond2_iff t).mpr h) (fun e => (cond3_iff t).mp e h)
      (b0 m c t) (b1 m c t) (b2 m c t) (b3 m c t) (b4 m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [dkAt_later m c t h, dvAt_later m c t h, dsAt_later m c t h]
    simp only [before_6 m c t h, before_7 m c t h, before_8 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runB c (grid0.coords t) _ _ _ _ _ _ _ _ _ _ _ _ _ _ _ _ _ _ (fun e => h ((cond2_iff t).mp e)) ((cond3_iff t).mpr h)
      (b0 m c t) (b1 m c t) (b2 m c t) (b3 m c t) (b4 m c t) _ _ _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

set_option backward.isDefEq.respectTransparency.types false in
/-- The whole call's run: every array of the pipeline at what the proof data says, every other buffer as it was,
    every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they began and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.Attn.Twin.lean ====
/-
  The frame of the kernel as printed, from the run proved for every float instance.
-/
module

public import proofs.«01_k».proof.Proof.Gen.Kernel
public import proofs.«01_k».proof.Proof.Gen.KernelIdeal
public import proofs.«01_k».proof.Defs
public import proofs.«01_k».proof.Proof.Attn.Frame

@[expose] public section
set_option maxRecDepth 16384
noncomputable section
namespace Cert.Attn
open Idealize.ShloMosaic Idealize.SL.Sem
variable {F : FTy → Type} [FloatOps F]

theorem e_body : @Kernel.cc0_attn_bwd F _ Kernel.Gen.facts = @KernelIdeal.cc0_attn_bwd F _ KernelIdeal.Gen.facts := rfl

theorem e_defs₀ : @Kernel.defs₀ F _ Kernel.Gen.facts = @KernelIdeal.defs₀ F _ KernelIdeal.Gen.facts := by
  unfold Kernel.defs₀ KernelIdeal.defs₀
  refine congrArg (Defs.onTc (nD := KernelIdeal.nD) (τ := KernelIdeal.τ) (sig := KernelIdeal.sig) (Val := Elt F) (Λ := KernelIdeal.Λ₀)) ?_
  funext l a
  match l, a with
  | 0, (t, s) => rfl
  | ⟨n + 1, h⟩, _ => exact absurd h (Nat.not_lt.2 (Nat.le_add_left _ _))

theorem e_defs : @Kernel.defs F _ Kernel.Gen.facts = @KernelIdeal.defs F _ KernelIdeal.Gen.facts := by
  unfold Kernel.defs KernelIdeal.defs
  exact congrArg (Pipeline.defs KernelIdeal.pcfgs) e_defs₀

theorem e_main : @Kernel.main F _ = @KernelIdeal.main F _ := rfl

/-- The kernel as printed runs, its arguments end as they began and every counter is at zero: it is the idealized
    program's text, of which the run is proved for every float instance. -/
theorem frame_kernel : Cert.quiescent_Kernel := fun m ρ _ => by
  rw [e_defs, e_main]
  exact KernelIdeal.Hand.frame (F := Bits) m ρ

end Cert.Attn
end
-- ==== Proof.Attn.Spec.lean ====
/-
  The gradient of the windowed attention over the reals, in plain sums: the one statement the kernel's arrays and the
  reference's are both brought to. Beside it the small facts about words and extended reals the two sides share.
-/
module

public import Idealize.ShloMosaic.PureOps.Ideal
public import Idealize.ShloMosaic.PureOps.Ideal.Laws

@[expose] public section

noncomputable section

namespace Cert.Attn

open Idealize.ShloMosaic

/-! ### Words -/

theorem sel_ofBool {α : Type} (b : Bool) (x y : α) : Scalar.select (BitVec.ofBool b) x y = if b then x else y := by
  cases b <;> rfl

theorem sel_decide {α : Type} (p : Prop) [Decidable p] (x y : α) :
    Scalar.select (BitVec.ofBool (decide p)) x y = if p then x else y := by
  rw [sel_ofBool]; by_cases h : p <;> simp [h]

theorem and_decide (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem or_decide (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

theorem toInt_small (a : ℕ) (ha : a < 2 ^ 20) : (BitVec.ofNat 32 a).toInt = a := by
  rw [BitVec.toInt_eq_toNat_cond, BitVec.toNat_ofNat]; omega

theorem eq_word (a b : ℕ) (ha : a < 2 ^ 20) (hb : b < 2 ^ 20) :
    IntOp.cmpi .eq (BitVec.ofNat 32 a) (BitVec.ofNat 32 b) = BitVec.ofBool (decide (a = b)) := by
  have : (BitVec.ofNat 32 a = BitVec.ofNat 32 b) ↔ a = b := by
    rw [← BitVec.toNat_inj, BitVec.toNat_ofNat, BitVec.toNat_ofNat]; omega
  unfold IntOp.cmpi
  by_cases h : a = b
  · simp [h]
  · have h' : (BitVec.ofNat 32 a == BitVec.ofNat 32 b) = false := beq_eq_false_iff_ne.mpr fun e => h (this.mp e)
    simp [h, h']

theorem slt_word (a b : ℕ) (ha : a < 2 ^ 20) (hb : b < 2 ^ 20) :
    IntOp.cmpi .slt (BitVec.ofNat 32 a) (BitVec.ofNat 32 b) = BitVec.ofBool (decide (a < b)) := by
  unfold IntOp.cmpi
  simp only [BitVec.slt, toInt_small a ha, toInt_small b hb, Nat.cast_lt]

theorem sge_word (a b : ℕ) (ha : a < 2 ^ 20) (hb : b < 2 ^ 20) :
    IntOp.cmpi .sge (BitVec.ofNat 32 a) (BitVec.ofNat 32 b) = BitVec.ofBool (decide (b ≤ a)) := by
  unfold IntOp.cmpi
  simp only [BitVec.sle, toInt_small a ha, toInt_small b hb, Nat.cast_le]

/-- Two small numbers at most 128 apart, as the words say it. -/
theorem near_word (a b : ℕ) (ha : a < 2 ^ 20) (hb : b < 2 ^ 20) :
    IntOp.cmpi .sle (IntOp.absi (IntOp.subi (BitVec.ofNat 32 a) (BitVec.ofNat 32 b))) 128#32
      = BitVec.ofBool (decide (a ≤ b + 128 ∧ b ≤ a + 128)) := by
  have key : IntOp.absi (IntOp.subi (BitVec.ofNat 32 a) (BitVec.ofNat 32 b)) = BitVec.ofNat 32 (if b ≤ a then a - b else b - a) := by
    unfold IntOp.absi IntOp.subi
    by_cases h : b ≤ a
    · have e : BitVec.ofNat 32 a - BitVec.ofNat 32 b = BitVec.ofNat 32 (a - b) := by
        rw [← BitVec.toNat_inj]; simp only [BitVec.toNat_sub, BitVec.toNat_ofNat]; omega
      rw [e, if_pos h, if_neg]
      rw [BitVec.msb_eq_decide]; simp only [BitVec.toNat_ofNat, decide_eq_true_eq]; omega
    · have e : BitVec.ofNat 32 a - BitVec.ofNat 32 b = -BitVec.ofNat 32 (b - a) := by
        rw [← BitVec.toNat_inj]; simp only [BitVec.toNat_sub, BitVec.toNat_neg, BitVec.toNat_ofNat]; omega
      rw [e, if_neg h, if_pos, BitVec.neg_neg]
      rw [BitVec.msb_eq_decide]; simp only [BitVec.toNat_neg, BitVec.toNat_ofNat, decide_eq_true_eq]; omega
  rw [key]
  have hn : (if b ≤ a then a - b else b - a) < 2 ^ 20 := by split <;> omega
  unfold IntOp.cmpi
  have h128 : (128#32 : BitVec 32).toInt = 128 := by decide
  simp only [BitVec.sle, toInt_small _ hn, h128]
  congr 1
  rw [decide_eq_decide]
  split <;> omega

/-! ### Extended reals -/

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

theorem exp_coe (x : ℝ) : Ideal.exp (x : EReal) = ((Real.exp x : ℝ) : EReal) := rfl

theorem exp_bot : Ideal.exp (⊥ : EReal) = 0 := rfl

theorem bot_sub_coe (x : ℝ) : (⊥ : EReal) - (x : EReal) = ⊥ := by
  rw [sub_eq_add_neg, EReal.bot_add]

/-- The pattern of minus infinity. -/
theorem ninf : Ideal.ofBits .f32 0xFF800000#32 = (⊥ : EReal) := by
  simp [Ideal.ofBits, Ideal.ieee]

/-- The greatest of finitely many values none of which is `⊤` is not `⊤`. -/
theorem fold_max_ne_top {ι : Type} (s : Finset ι) (v : ι → EReal) (hv : ∀ i ∈ s, v i ≠ ⊤) :
    s.fold max (⊥ : EReal) v ≠ ⊤ := by
  classical
  induction s using Finset.induction_on with
  | empty => simp
  | insert a s ha ih =>
    rw [Finset.fold_insert ha]
    have h1 := hv a (Finset.mem_insert_self a s)
    have h2 := ih fun i hi => hv i (Finset.mem_insert_of_mem hi)
    intro h
    rcases max_choice (v a) (s.fold max (⊥ : EReal) v) with e | e
    · exact h1 (e ▸ h)
    · exact h2 (e ▸ h)

/-- The greatest of values none of which is `⊤`, and of a real one, is a real one. -/
theorem max_real (a : EReal) (ha : a ≠ ⊤) (x : ℝ) : ∃ M : ℝ, max a (x : EReal) = (M : EReal) := by
  refine ⟨(max a (x : EReal)).toReal, (EReal.coe_toReal ?_ ?_).symm⟩
  · intro h
    rcases max_choice a (x : EReal) with e | e
    · exact ha (e ▸ h)
    · exact EReal.coe_ne_top x (e ▸ h)
  · intro h
    have : (x : EReal) ≤ ⊥ := h ▸ le_max_right a (x : EReal)
    exact EReal.coe_ne_bot x (le_bot_iff.mp this)

/-! ### The gradient -/

/-- Row `i` reads key `j`. -/
def seen (i j : ℕ) : Prop := j < 256 ∨ (256 ≤ i ∧ i ≤ j + 128 ∧ j ≤ i + 128)

instance (i j : ℕ) : Decidable (seen i j) := by unfold seen; infer_instance

/-- The arrays as functions of row and column, and the scale. -/
structure Data where
  /-- the queries, sixteen heads of 128 columns -/
  Q : ℕ → ℕ → ℝ
  /-- the keys, four heads -/
  K : ℕ → ℕ → ℝ
  /-- the values, four heads -/
  V : ℕ → ℕ → ℝ
  /-- the cotangent of the output, sixteen heads -/
  D : ℕ → ℕ → ℝ
  /-- the sinks, sixteen -/
  sk : ℕ → ℝ
  /-- the scale of the scores -/
  σ : ℝ

namespace Data

variable (A : Data)

/-- The score of key `j` for row `i`, head `g` of group `h`. -/
def sc (h g i j : ℕ) : ℝ := (∑ d : Fin 128, A.Q i (512 * h + 128 * g + d) * A.K j (128 * h + d)) * A.σ

/-- Its exponential, zero where the key isn't read. -/
def ex (h g i j : ℕ) : ℝ := if seen i j then Real.exp (A.sc h g i j) else 0

/-- The softmax's denominator, the sink's share in it. -/
def Z (h g i : ℕ) : ℝ := ∑ j : Fin 8448, A.ex h g i j + Real.exp (A.sk (4 * h + g))

/-- The probabilities, and the sink's. -/
def p (h g i j : ℕ) : ℝ := A.ex h g i j / A.Z h g i
def ps (h g i : ℕ) : ℝ := Real.exp (A.sk (4 * h + g)) / A.Z h g i

/-- The probabilities' cotangents, their mean, and the scores' cotangents. -/
def dp (h g i j : ℕ) : ℝ := ∑ d : Fin 128, A.D i (512 * h + 128 * g + d) * A.V j (128 * h + d)
def del (h g i : ℕ) : ℝ := ∑ j : Fin 8448, A.p h g i j * A.dp h g i j
def gs (h g i j : ℕ) : ℝ := A.p h g i j * (A.dp h g i j - A.del h g i) * A.σ

/-- The four gradients. -/
def dq (h g i d : ℕ) : ℝ := ∑ j : Fin 8448, A.gs h g i j * A.K j (128 * h + d)
def dk (h j d : ℕ) : ℝ := ∑ g : Fin 4, ∑ i : Fin 8448, A.gs h g i j * A.Q i (512 * h + 128 * g + d)
def dv (h j d : ℕ) : ℝ := ∑ g : Fin 4, ∑ i : Fin 8448, A.p h g i j * A.D i (512 * h + 128 * g + d)
def dsk (h g : ℕ) : ℝ := ∑ i : Fin 8448, -(A.ps h g i * A.del h g i)

theorem Z_pos (h g i : ℕ) : 0 < A.Z h g i := by
  unfold Z
  refine add_pos_of_nonneg_of_pos (Finset.sum_nonneg fun j _ => ?_) (Real.exp_pos _)
  unfold ex; split
  · exact (Real.exp_pos _).le
  · exact le_rfl

theorem Z_ne (h g i : ℕ) : A.Z h g i ≠ 0 := (A.Z_pos h g i).ne'

theorem ex_off {h g i j : ℕ} (hs : ¬ seen i j) : A.ex h g i j = 0 := if_neg hs
theorem p_off {h g i j : ℕ} (hs : ¬ seen i j) : A.p h g i j = 0 := by rw [p, ex_off A hs, zero_div]
theorem gs_off {h g i j : ℕ} (hs : ¬ seen i j) : A.gs h g i j = 0 := by rw [gs, p_off A hs, zero_mul, zero_mul]

end Data

/-! ### A sum over all the keys, from the context's and the window's -/

/-- The first row of the window of query block `b`. -/
def win (b : ℕ) : ℕ := 128 * min (b - 1) 63

theorem seen_win {b i j : ℕ} (hb : b < 66) (hi : i / 128 = b) (hj : j < 8448) (hs : seen i j) (h256 : 256 ≤ j) : win b ≤ j ∧ j < win b + 384 := by
  unfold win; unfold seen at hs
  omega

theorem sum_window (w : ℕ) (hw : w + 384 ≤ 8448) (f : ℕ → ℝ) (hf : ∀ j, 256 ≤ j → j < 8448 → ¬ (w ≤ j ∧ j < w + 384) → f j = 0) :
    ∑ j : Fin 8448, f j = ∑ j : Fin 256, f j + ∑ u : Fin 384, (if 256 ≤ w + u then f (w + u) else 0) := by
  rw [← Finset.sum_range (fun j => f j), ← Finset.sum_range (fun j => f j),
    ← Finset.sum_range (fun u => if 256 ≤ w + u then f (w + u) else 0)]
  have h1 : ∑ u ∈ Finset.range 384, (if 256 ≤ w + u then f (w + u) else 0) = ∑ j ∈ Finset.Ico w (w + 384), (if 256 ≤ j then f j else 0) := by
    rw [Finset.sum_Ico_eq_sum_range, Nat.add_sub_cancel_left]
  have h2 : ∑ j ∈ Finset.Ico w (w + 384), (if 256 ≤ j then f j else 0) = ∑ j ∈ Finset.range 8448, (if 256 ≤ j then f j else 0) := by
    refine Finset.sum_subset (fun j hj => ?_) fun j hj hn => ?_
    · rw [Finset.mem_Ico] at hj; rw [Finset.mem_range]; omega
    · rw [Finset.mem_range] at hj; rw [Finset.mem_Ico] at hn
      split
      · exact hf j (by assumption) hj hn
      · rfl
  have h3 : ∑ j ∈ Finset.range 256, f j = ∑ j ∈ Finset.range 8448, (if j < 256 then f j else 0) := by
    rw [← Finset.sum_filter]
    refine Finset.sum_congr ?_ fun _ _ => rfl
    ext j; simp only [Finset.mem_range, Finset.mem_filter]; omega
  rw [h1, h2, h3, ← Finset.sum_add_distrib]
  refine Finset.sum_congr rfl fun j _ => ?_
  by_cases h : j < 256
  · rw [if_pos h, if_neg (by omega), add_zero]
  · rw [if_neg h, if_pos (by omega), zero_add]

/-! ### A sum over the rows, block by block -/

/-- The rows of all the blocks, the four heads of a block stacked. -/
theorem sum_blocks (f : ℕ → ℕ → ℝ) :
    ∑ b : Fin 66, ∑ r : Fin 512, f (r / 128) (128 * b + r % 128) = ∑ g : Fin 4, ∑ i : Fin 8448, f g i := by
  have e1 : ∀ b : Fin 66, ∑ r : Fin 512, f (r / 128) (128 * b + r % 128) = ∑ g : Fin 4, ∑ u : Fin 128, f g (128 * b + u) := fun b => by
    rw [← Fintype.sum_prod_type' (f := fun (g : Fin 4) (u : Fin 128) => f g (128 * b + u))]
    refine (Fintype.sum_equiv (finProdFinEquiv (m := 4) (n := 128)) _ (fun r => f (r / 128) (128 * b + r % 128)) fun x => ?_).symm
    have hx : ((finProdFinEquiv x : Fin (4 * 128)) : ℕ) = x.2 + 128 * x.1 := rfl
    have h2 := x.2.isLt
    show _ = f (((finProdFinEquiv x : Fin (4 * 128)) : ℕ) / 128) (128 * b + ((finProdFinEquiv x : Fin (4 * 128)) : ℕ) % 128)
    rw [hx]
    congr 1
    · omega
    · omega
  rw [Finset.sum_congr rfl fun b _ => e1 b, Finset.sum_comm]
  refine Finset.sum_congr rfl fun g _ => ?_
  rw [← Fintype.sum_prod_type' (f := fun (b : Fin 66) (u : Fin 128) => f g (128 * b + u))]
  refine Fintype.sum_equiv (finProdFinEquiv (m := 66) (n := 128)) _ (fun i => f g i) fun x => ?_
  have hx : ((finProdFinEquiv x : Fin (66 * 128)) : ℕ) = x.2 + 128 * x.1 := rfl
  show _ = f g ((finProdFinEquiv x : Fin (66 * 128)) : ℕ)
  rw [hx, add_comm]

end Cert.Attn

end
-- ==== Proof.Attn.Read.lean ====
/-
  The body's values at an index, on the extended reals: what each vector of the point is, entry by entry.
-/
module

public import proofs.«01_k».proof.Proof.Attn.Point
public import proofs.«01_k».proof.Proof.Attn.Spec
public import Idealize.ShloMosaic.PureOps.Ideal.Laws
public import Idealize.ShloMosaic.Lib.ValueIdx
public import Idealize.ShloMosaic.Lib.Pointwise

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.Tactic

/-- The literal by which the scores are scaled, as printed. -/
abbrev lit : EReal := Ideal.ofBits .f32 0x3DB504F3#32

set_option maxHeartbeats 1000000 in
theorem stack_apply (x : Vec Ideal S128x512 .bf16) (r : Fin 512) (d : Fin 128) :
    k0_pay3 (F := Ideal) x (ix2 r d) = x (ix2 ⟨r.val % 128, by omega⟩ ⟨128 * (r.val / 128) + d.val, by omega⟩) := by
  pointwise [k0_pay3]
  have hr := r.isLt
  split_ifs with h1 h2 h3 <;> congr 2 <;> apply Fin.ext <;> simp only <;> omega

theorem stack'_apply (x : Vec Ideal S128x512 .bf16) (r : Fin 512) (d : Fin 128) :
    k0_pay22 (F := Ideal) x (ix2 r d) = x (ix2 ⟨r.val % 128, by omega⟩ ⟨128 * (r.val / 128) + d.val, by omega⟩) :=
  stack_apply x r d

theorem pay4_apply (x : Vec Ideal S128x512 .bf16) (k : Vec Ideal S256x128 .bf16) (r : Fin 512) (j : Fin 256) :
    k0_pay4 (F := Ideal) x k (ix2 r j) = (∑ d : Fin 128, k0_pay3 (F := Ideal) x (ix2 r d) * k (ix2 j d)) * lit := by
  pointwise [k0_pay4]

theorem pay5_apply (x : Vec Ideal S128x512 .bf16) (k : Vec Ideal S384x128 .bf16) (r : Fin 512) (j : Fin 384) :
    k0_pay5 (F := Ideal) x k (ix2 r j) = (∑ d : Fin 128, k0_pay3 (F := Ideal) x (ix2 r d) * k (ix2 j d)) * lit := by
  pointwise [k0_pay5]

set_option maxHeartbeats 2000000 in
theorem pay6_apply (r : Fin 512) (j : Fin 384) : k0_pay6 (ix2 r j) = BitVec.ofNat 32 (r.val % 128) := by
  pointwise [k0_pay6]
  clear j
  revert r; decide +kernel

set_option maxHeartbeats 2000000 in
theorem pay8_apply (r : Fin 512) : k0_pay8 (ix2 r 0) = BitVec.ofNat 32 (r.val / 128) := by
  pointwise [k0_pay8]
  revert r; decide +kernel

/-- The mask. -/
theorem pay7_apply (w q : ℕ) (hw : w < 2 ^ 19) (hq : q < 2 ^ 19) (v : FVec Ideal S512x384 .f32) (r : Fin 512) (j : Fin 384) :
    k0_pay7 (F := Ideal) (BitVec.ofNat 32 w) v (BitVec.ofNat 32 q) k0_pay6 (ix2 r j)
      = if ((w + j.val ≤ q + r.val % 128 + 128 ∧ q + r.val % 128 ≤ w + j.val + 128) ∧ 256 ≤ w + j.val) ∧ 256 ≤ q + r.val % 128
        then v (ix2 r j) else ⊥ := by
  have hj := j.isLt
  pointwise [k0_pay7]
  rw [pay6_apply]
  have e1 : IntOp.addi (BitVec.ofNat 32 w) (BitVec.ofNat 32 j.val) = BitVec.ofNat 32 (w + j.val) := (BitVec.ofNat_add _ _).symm
  have e2 : IntOp.addi (BitVec.ofNat 32 q) (BitVec.ofNat 32 (r.val % 128)) = BitVec.ofNat 32 (q + r.val % 128) := (BitVec.ofNat_add _ _).symm
  rw [e1, e2, near_word _ _ (by omega) (by omega), sge_word _ 256 (by omega) (by omega), sge_word _ 256 (by omega) (by omega),
    and_decide, and_decide, sel_decide, ninf]

/-- The sink of the row's head. -/
theorem pay11_apply (s : Fin 4 → EReal) (r : Fin 512) :
    k0_pay11 (F := Ideal) k0_pay8 k0_pay9 k0_pay10 (s 0) (s 1) (s 2) (s 3) (ix2 r 0) = s ⟨r.val / 128, by omega⟩ := by
  have hr := r.isLt
  pointwise [k0_pay11, k0_pay10, k0_pay9]
  rw [pay8_apply, eq_word _ 0 (by omega) (by omega), eq_word _ 1 (by omega) (by omega), eq_word _ 2 (by omega) (by omega),
    eq_word _ 3 (by omega) (by omega), sel_decide, sel_decide, sel_decide, sel_decide]
  obtain ⟨r, hr'⟩ := r
  simp only at *
  split_ifs <;> first | (congr 1; apply Fin.ext; simp; omega) | omega

section Rows
variable (a : FVec Ideal S512x256 .f32) (b : FVec Ideal S512x384 .f32) (s : Fin 4 → EReal) (r : Fin 512)

theorem pay12_apply : k0_pay12 (F := Ideal) a b k0_pay8 k0_pay9 k0_pay10 (s 0) (s 1) (s 2) (s 3) (ix2 r 0)
    = max (max (Finset.univ.fold max ⊥ fun x : Fin 256 => a (ix2 r x)) (Finset.univ.fold max ⊥ fun x : Fin 384 => b (ix2 r x))) (s ⟨r.val / 128, by omega⟩) := by
  pointwise [k0_pay12]
  rw [pay11_apply s, ninf]

theorem pay13_apply (j : Fin 256) : k0_pay13 (F := Ideal) a b k0_pay8 k0_pay9 k0_pay10 (s 0) (s 1) (s 2) (s 3) (ix2 r j)
    = Ideal.exp (a (ix2 r j) - k0_pay12 (F := Ideal) a b k0_pay8 k0_pay9 k0_pay10 (s 0) (s 1) (s 2) (s 3) (ix2 r 0)) := by
  pointwise [k0_pay13]

theorem pay14_apply (j : Fin 384) : k0_pay14 (F := Ideal) a b k0_pay8 k0_pay9 k0_pay10 (s 0) (s 1) (s 2) (s 3) (ix2 r j)
    = Ideal.exp (b (ix2 r j) - k0_pay12 (F := Ideal) a b k0_pay8 k0_pay9 k0_pay10 (s 0) (s 1) (s 2) (s 3) (ix2 r 0)) := by
  pointwise [k0_pay14]

theorem pay15_apply : k0_pay15 (F := Ideal) a b k0_pay8 k0_pay9 k0_pay10 (s 0) (s 1) (s 2) (s 3) (ix2 r 0)
    = Ideal.exp (s ⟨r.val / 128, by omega⟩ - k0_pay12 (F := Ideal) a b k0_pay8 k0_pay9 k0_pay10 (s 0) (s 1) (s 2) (s 3) (ix2 r 0)) := by
  pointwise [k0_pay15]
  rw [pay11_apply s]

theorem pay16_apply : k0_pay16 (F := Ideal) a b k0_pay8 k0_pay9 k0_pay10 (s 0) (s 1) (s 2) (s 3) (ix2 r 0)
    = ∑ j : Fin 256, k0_pay13 (F := Ideal) a b k0_pay8 k0_pay9 k0_pay10 (s 0) (s 1) (s 2) (s 3) (ix2 r j) := by
  pointwise [k0_pay16]

theorem pay17_apply : k0_pay17 (F := Ideal) a b k0_pay8 k0_pay9 k0_pay10 (s 0) (s 1) (s 2) (s 3) (ix1 r)
    = ∑ j : Fin 384, k0_pay14 (F := Ideal) a b k0_pay8 k0_pay9 k0_pay10 (s 0) (s 1) (s 2) (s 3) (ix2 r j) := by
  pointwise [k0_pay17]
end Rows

section Probs
variable (e1 : FVec Ideal S512x256 .f32) (e2 : FVec Ideal S512x384 .f32) (e3 t1 : FVec Ideal S512x1 .f32) (t2 : FVec Ideal S512 .f32)
  (o : Vec Ideal S128x512 .bf16) (v1 k1 : Vec Ideal S256x128 .bf16) (v2 k2 : Vec Ideal S384x128 .bf16) (r : Fin 512)

theorem pay18_apply : k0_pay18 (F := Ideal) e3 t1 t2 (ix2 r 0) = Ideal.div 1 (t1 (ix2 r 0) + t2 (ix1 r) + e3 (ix2 r 0)) := by
  pointwise [k0_pay18]

theorem pay19_apply (j : Fin 256) : k0_pay19 (F := Ideal) e1 e3 t1 t2 (ix2 r j) = e1 (ix2 r j) * k0_pay18 (F := Ideal) e3 t1 t2 (ix2 r 0) := by
  pointwise [k0_pay19]
theorem pay20_apply (j : Fin 384) : k0_pay20 (F := Ideal) e2 e3 t1 t2 (ix2 r j) = e2 (ix2 r j) * k0_pay18 (F := Ideal) e3 t1 t2 (ix2 r 0) := by
  pointwise [k0_pay20]
theorem pay21_apply : k0_pay21 (F := Ideal) e3 t1 t2 (ix2 r 0) = e3 (ix2 r 0) * k0_pay18 (F := Ideal) e3 t1 t2 (ix2 r 0) := by
  pointwise [k0_pay21]

theorem pay23_apply (j : Fin 256) : k0_pay23 (F := Ideal) o v1 (ix2 r j) = ∑ d : Fin 128, k0_pay22 (F := Ideal) o (ix2 r d) * v1 (ix2 j d) := by
  pointwise [k0_pay23]
theorem pay24_apply (j : Fin 384) : k0_pay24 (F := Ideal) o v2 (ix2 r j) = ∑ d : Fin 128, k0_pay22 (F := Ideal) o (ix2 r d) * v2 (ix2 j d) := by
  pointwise [k0_pay24]

theorem pay25_apply : k0_pay25 (F := Ideal) e1 e2 e3 t1 t2 o v1 v2 (ix2 r 0)
    = ∑ j : Fin 256, k0_pay19 (F := Ideal) e1 e3 t1 t2 (ix2 r j) * k0_pay23 (F := Ideal) o v1 (ix2 r j)
      + ∑ j : Fin 384, k0_pay20 (F := Ideal) e2 e3 t1 t2 (ix2 r j) * k0_pay24 (F := Ideal) o v2 (ix2 r j) := by
  pointwise [k0_pay25]

theorem pay26_apply (j : Fin 256) : k0_pay26 (F := Ideal) e1 e2 e3 t1 t2 o v1 v2 (ix2 r j)
    = k0_pay19 (F := Ideal) e1 e3 t1 t2 (ix2 r j) * (k0_pay23 (F := Ideal) o v1 (ix2 r j) - k0_pay25 (F := Ideal) e1 e2 e3 t1 t2 o v1 v2 (ix2 r 0)) * lit := by
  pointwise [k0_pay26]
theorem pay27_apply (j : Fin 384) : k0_pay27 (F := Ideal) e1 e2 e3 t1 t2 o v1 v2 (ix2 r j)
    = k0_pay20 (F := Ideal) e2 e3 t1 t2 (ix2 r j) * (k0_pay24 (F := Ideal) o v2 (ix2 r j) - k0_pay25 (F := Ideal) e1 e2 e3 t1 t2 o v1 v2 (ix2 r 0)) * lit := by
  pointwise [k0_pay27]

theorem pay28_apply (d : Fin 128) : k0_pay28 (F := Ideal) k1 k2 e1 e2 e3 t1 t2 o v1 v2 (ix2 r d)
    = ∑ j : Fin 256, k0_pay26 (F := Ideal) e1 e2 e3 t1 t2 o v1 v2 (ix2 r j) * k1 (ix2 j d)
      + ∑ j : Fin 384, k0_pay27 (F := Ideal) e1 e2 e3 t1 t2 o v1 v2 (ix2 r j) * k2 (ix2 j d) := by
  pointwise [k0_pay28]

set_option maxHeartbeats 1000000 in
/-- The four heads side by side again. -/
theorem pay32_apply (u : Fin 128) (l : Fin 512) :
    k0_pay32 (F := Ideal) (k0_pay28 (F := Ideal) k1 k2 e1 e2 e3 t1 t2 o v1 v2) (k0_pay29 (F := Ideal) k1 k2 e1 e2 e3 t1 t2 o v1 v2)
        (k0_pay30 (F := Ideal) k1 k2 e1 e2 e3 t1 t2 o v1 v2) (k0_pay31 (F := Ideal) k1 k2 e1 e2 e3 t1 t2 o v1 v2) (ix2 u l)
      = k0_pay28 (F := Ideal) k1 k2 e1 e2 e3 t1 t2 o v1 v2 (ix2 ⟨128 * (l.val / 128) + u.val, by omega⟩ ⟨l.val % 128, by omega⟩) := by
  unfold k0_pay29 k0_pay30 k0_pay31
  generalize k0_pay28 (F := Ideal) k1 k2 e1 e2 e3 t1 t2 o v1 v2 = y
  pointwise [k0_pay32]
  have hl := l.isLt
  split_ifs with h1 h2 h3 <;> congr 2 <;> apply Fin.ext <;> simp only <;> omega
end Probs

section Acc
variable (q : FVec Ideal S512x128 .bf16) (j' : Fin 128)

theorem pay35_apply (g : FVec Ideal S512x256 .bf16) (y : Vec Ideal S256x128 .f32) (j : Fin 256) (d : Fin 128) :
    k0_pay35 (F := Ideal) q g y (ix2 j d) = y (ix2 j d) + ∑ r : Fin 512, g (ix2 r j) * q (ix2 r d) := by
  pointwise [k0_pay35]
theorem pay36_apply (g : FVec Ideal S512x256 .f32) (y : Vec Ideal S256x128 .f32) (j : Fin 256) (d : Fin 128) :
    k0_pay36 (F := Ideal) g q y (ix2 j d) = y (ix2 j d) + ∑ r : Fin 512, g (ix2 r j) * q (ix2 r d) := by
  pointwise [k0_pay36]
theorem pay37_apply (g : FVec Ideal S512x384 .bf16) (y : Vec Ideal S384x128 .f32) (j : Fin 384) (d : Fin 128) :
    k0_pay37 (F := Ideal) q g y (ix2 j d) = y (ix2 j d) + ∑ r : Fin 512, g (ix2 r j) * q (ix2 r d) := by
  pointwise [k0_pay37]
theorem pay38_apply (g : FVec Ideal S512x384 .f32) (y : Vec Ideal S384x128 .f32) (j : Fin 384) (d : Fin 128) :
    k0_pay38 (F := Ideal) g q y (ix2 j d) = y (ix2 j d) + ∑ r : Fin 512, g (ix2 r j) * q (ix2 r d) := by
  pointwise [k0_pay38]

end Acc

/-- A head's share of the sinks' gradient: the rows of the head, summed. -/
abbrev headSum (t : FVec Ideal S512x1 .f32) (g : ℕ) : EReal := ∑ r : Fin 512, if r.val / 128 = g then 0 - t (ix2 r 0) else 0

set_option maxHeartbeats 2000000 in
theorem pay1_apply (t : FVec Ideal S512x1 .f32) (a : Fin 8) (l : Fin 128) :
    k0_pay1 (F := Ideal) (k0_pay40 t (Scalar.ofBits .f32 0x00000000#32)) (k0_pay41 k0_pay8 t (Scalar.ofBits .f32 0x00000000#32)) k0_pay42 (k0_pay43 k0_pay8)
        (Scalar.ofBits .f32 0x00000000#32) (ix2 a l)
      = if l.val < 4 then headSum t l.val else 0 := by
  have hl := l.isLt
  have hz : (Scalar.ofBits (F := Ideal) .f32 0x00000000#32) = (0 : EReal) := Ideal.ofBits_zero_f32
  rw [hz]
  have key : ∀ g : ℕ, g < 4 → (∑ x : Fin 512, ∑ x_1 : Fin 1, Scalar.select (IntOp.cmpi .eq (k0_pay8 (ix2 x 0)) (BitVec.ofNat 32 g)) ((0 : EReal) - t (ix2 x 0)) 0)
      = headSum t g := fun g hg => Finset.sum_congr rfl fun x _ => by
    have hx := x.isLt
    rw [Fin.sum_univ_one, pay8_apply, eq_word _ g (by omega) (by omega), sel_decide]
  have k0 := key 0 (by omega)
  have k1 := key 1 (by omega)
  have k2 := key 2 (by omega)
  have k3 := key 3 (by omega)
  pointwise [k0_pay1, k0_pay41, k0_pay40, k0_pay42, k0_pay43]
  rw [eq_word _ 0 (by omega) (by omega), eq_word _ 1 (by omega) (by omega), eq_word _ 2 (by omega) (by omega),
    eq_word _ 3 (by omega) (by omega), sel_decide, sel_decide, sel_decide, sel_decide]
  rw [k0, k1, k2, k3]
  obtain ⟨l, hl'⟩ := l
  simp only at *
  split_ifs <;> first | rfl | (subst_vars; rfl) | omega

theorem pay39_apply (x y : FVec Ideal S512x1 .f32) (r : Fin 512) : k0_pay39 (F := Ideal) x y (ix2 r 0) = x (ix2 r 0) * y (ix2 r 0) := by
  pointwise [k0_pay39]

end Cert.KernelIdeal.Hand
end
-- ==== Proof.Attn.Kern.lean ====
/-
  One grid point's values over the reals: where the blocks the point is handed hold real numbers, every vector it
  computes is the gradient's, of the specification.
-/
module

public import proofs.«01_k».proof.Proof.Attn.Read

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.Tactic

theorem sum_real {n : ℕ} (f g : Fin n → EReal) (a b : Fin n → ℝ) (hf : ∀ d, f d = ((a d : ℝ) : EReal)) (hg : ∀ d, g d = ((b d : ℝ) : EReal)) :
    ∑ d, f d * g d = ((∑ d, a d * b d : ℝ) : EReal) := by
  rw [← coe_sum]
  exact Finset.sum_congr rfl fun d _ => by rw [hf, hg, EReal.coe_mul]

/-! ### The blocks, read -/

theorem ld_blk (x : Vec Ideal S128x512 .bf16) (u : Fin 128) (l : Fin 512) : View.ld x rBlk (ix2 u l) = x (ix2 u l) := by
  refine congrArg x (funext fun a => Fin.ext ?_)
  match a with
  | 0 => show 0 + 1 * u.val = u.val; omega
  | 1 => show 0 + 1 * l.val = l.val; omega

theorem ld_ctx {e : EltTy} (x : Vec Ideal S8448x128 e) (j : Fin 256) (d : Fin 128) : View.ld x rCtx (ix2 j d) = x (ix2 ⟨j.val, by omega⟩ d) := by
  refine congrArg x (funext fun a => Fin.ext ?_)
  match a with
  | 0 => show 0 + 1 * j.val = j.val; omega
  | 1 => show 0 + 1 * d.val = d.val; omega

theorem win_le (b : ℕ) (w : Fin 384) : win b + w.val < 8448 := by unfold win; omega

theorem off1_0 (i : grid0.Coords) : k0_off1 i 0 = win (i 1).val := by rw [off1_eq]; rfl
theorem off1_1 (i : grid0.Coords) : k0_off1 i 1 = 0 := by rw [off1_eq]; rfl

theorem ld_win {e : EltTy} (i : grid0.Coords) (x : Vec Ideal S8448x128 e) (w : Fin 384) (d : Fin 128) :
    View.ld x (rWin i) (ix2 w d) = x (ix2 ⟨win (i 1).val + w.val, win_le _ w⟩ d) := by
  refine congrArg x (funext fun a => Fin.ext ?_)
  match a with
  | 0 => show k0_off1 i 0 + 1 * w.val = win (i 1).val + w.val; rw [off1_0]; omega
  | 1 => show k0_off1 i 1 + 1 * d.val = d.val; rw [off1_1]; omega

theorem sinkOf_apply (i : grid0.Coords) (x : Vec Ideal S16 .f32) (g : Fin 4) :
    sinkOf i x g = x (ix1 ⟨4 * (i 0).val + g.val, by have := (i 0).isLt; change (i 0).val < 4 at this; omega⟩) := by
  refine congrArg x (funext fun a => Fin.ext ?_)
  match a with
  | 0 =>
    show k0_off2 i (BitVec.ofNat 32 g.val) 0 + 1 * 0 = 4 * (i 0).val + g.val
    rw [k0_off2_eq i g]
    simp

theorem w0w_eq (i : grid0.Coords) : w0w i = BitVec.ofNat 32 (win (i 1).val) := by
  have : ∀ q : Fin 66, Scalar.muli (Scalar.minsi 63#32 (Scalar.maxsi 0#32 (Scalar.subi (BitVec.ofNat 32 q.val) 1#32))) 128#32
      = BitVec.ofNat 32 (128 * min (q.val - 1) 63) := by decide +kernel
  exact this (i 1)

theorem q0w_eq (i : grid0.Coords) : q0w i = BitVec.ofNat 32 (128 * (i 1).val) := by
  have : ∀ q : Fin 66, Scalar.muli (BitVec.ofNat 32 q.val) 128#32 = BitVec.ofNat 32 (128 * q.val) := by decide +kernel
  exact this (i 1)

/-! ### The point -/

/-- The blocks of the point `i` hold the arrays of `A`. -/
structure Holds (A : Data) (i : grid0.Coords) (x2 : Vec Ideal S16 .f32) (x3 : Vec Ideal S128x512 .bf16) (x4 x5 : Vec Ideal S8448x128 .bf16)
    (x6 : Vec Ideal S128x512 .bf16) : Prop where
  s : ∀ n : Fin 16, x2 (ix1 n) = ((A.sk n.val : ℝ) : EReal)
  q : ∀ (u : Fin 128) (l : Fin 512), x3 (ix2 u l) = ((A.Q (128 * (i 1).val + u.val) (512 * (i 0).val + l.val) : ℝ) : EReal)
  k : ∀ (j : Fin 8448) (d : Fin 128), x4 (ix2 j d) = ((A.K j.val (128 * (i 0).val + d.val) : ℝ) : EReal)
  v : ∀ (j : Fin 8448) (d : Fin 128), x5 (ix2 j d) = ((A.V j.val (128 * (i 0).val + d.val) : ℝ) : EReal)
  o : ∀ (u : Fin 128) (l : Fin 512), x6 (ix2 u l) = ((A.D (128 * (i 1).val + u.val) (512 * (i 0).val + l.val) : ℝ) : EReal)
  l : lit = ((A.σ : ℝ) : EReal)

variable {A : Data} {i : grid0.Coords} {x2 : Vec Ideal S16 .f32} {x3 : Vec Ideal S128x512 .bf16} {x4 x5 : Vec Ideal S8448x128 .bf16}
  {x6 : Vec Ideal S128x512 .bf16} (H : Holds A i x2 x3 x4 x5 x6) (r : Fin 512)
include H

omit H in
theorem b_lt : (i 1).val < 66 := (i 1).isLt

theorem q_apply (d : Fin 128) : k0_pay3 (F := Ideal) (View.ld x3 rBlk) (ix2 r d) = ((A.Q (128 * (i 1).val + r.val % 128) (512 * (i 0).val + 128 * (r.val / 128) + d.val) : ℝ) : EReal) := by
  rw [stack_apply, ld_blk, H.q]
  simp only [Nat.add_assoc]

theorem o_apply (d : Fin 128) : k0_pay22 (F := Ideal) (View.ld x6 rBlk) (ix2 r d) = ((A.D (128 * (i 1).val + r.val % 128) (512 * (i 0).val + 128 * (r.val / 128) + d.val) : ℝ) : EReal) := by
  rw [stack'_apply, ld_blk, H.o]
  simp only [Nat.add_assoc]

theorem kctx_apply (j : Fin 256) (d : Fin 128) : View.ld x4 rCtx (ix2 j d) = ((A.K j.val (128 * (i 0).val + d.val) : ℝ) : EReal) :=
  (ld_ctx x4 j d).trans (H.k _ _)
theorem vctx_apply (j : Fin 256) (d : Fin 128) : View.ld x5 rCtx (ix2 j d) = ((A.V j.val (128 * (i 0).val + d.val) : ℝ) : EReal) :=
  (ld_ctx x5 j d).trans (H.v _ _)
theorem kwin_apply (w : Fin 384) (d : Fin 128) : View.ld x4 (rWin i) (ix2 w d) = ((A.K (win (i 1).val + w.val) (128 * (i 0).val + d.val) : ℝ) : EReal) :=
  (ld_win i x4 w d).trans (H.k _ _)
theorem vwin_apply (w : Fin 384) (d : Fin 128) : View.ld x5 (rWin i) (ix2 w d) = ((A.V (win (i 1).val + w.val) (128 * (i 0).val + d.val) : ℝ) : EReal) :=
  (ld_win i x5 w d).trans (H.v _ _)

theorem sc_apply (j : Fin 256) : sc (F := Ideal) x3 x4 (ix2 r j) = ((A.sc (i 0).val (r.val / 128) (128 * (i 1).val + r.val % 128) j.val : ℝ) : EReal) := by
  unfold sc
  rw [pay4_apply, H.l]
  exact (congrArg (· * ((A.σ : ℝ) : EReal)) (sum_real _ _ _ _ (q_apply H r) (kctx_apply H j))).trans (EReal.coe_mul _ _).symm

theorem raw_apply (w : Fin 384) : k0_pay5 (F := Ideal) (View.ld x3 rBlk) (View.ld x4 (rWin i)) (ix2 r w)
    = ((A.sc (i 0).val (r.val / 128) (128 * (i 1).val + r.val % 128) (win (i 1).val + w.val) : ℝ) : EReal) := by
  rw [pay5_apply, H.l]
  exact (congrArg (· * ((A.σ : ℝ) : EReal)) (sum_real _ _ _ _ (q_apply H r) (kwin_apply H w))).trans (EReal.coe_mul _ _).symm

theorem sb_apply (w : Fin 384) : sb (F := Ideal) i x3 x4 (ix2 r w)
    = if 256 ≤ win (i 1).val + w.val ∧ seen (128 * (i 1).val + r.val % 128) (win (i 1).val + w.val) then ((A.sc (i 0).val (r.val / 128) (128 * (i 1).val + r.val % 128) (win (i 1).val + w.val) : ℝ) : EReal) else ⊥ := by
  have hb : (i 1).val < 66 := (i 1).isLt
  have hw := win_le (i 1).val w
  unfold sb
  rw [w0w_eq, q0w_eq, pay7_apply _ _ (by omega) (by omega), raw_apply H]
  refine if_congr ?_ rfl rfl
  unfold seen
  omega

theorem sink_apply : sinkOf i x2 ⟨r.val / 128, by omega⟩ = ((A.sk (4 * (i 0).val + (r.val / 128)) : ℝ) : EReal) := by
  rw [sinkOf_apply, H.s]

theorem top_apply : ∃ M : ℝ, k0_pay12 (F := Ideal) (sc x3 x4) (sb i x3 x4) k0_pay8 k0_pay9 k0_pay10 (sinkOf i x2 0) (sinkOf i x2 1) (sinkOf i x2 2) (sinkOf i x2 3) (ix2 r 0)
    = (M : EReal) := by
  rw [pay12_apply _ _ (sinkOf i x2), sink_apply H]
  refine max_real _ ?_ _
  intro h
  rcases max_choice (Finset.univ.fold max ⊥ fun x : Fin 256 => sc (F := Ideal) x3 x4 (ix2 r x)) (Finset.univ.fold max ⊥ fun x : Fin 384 => sb (F := Ideal) i x3 x4 (ix2 r x)) with e | e
  · rw [e] at h
    exact fold_max_ne_top _ _ (fun j _ => by rw [sc_apply H]; exact EReal.coe_ne_top _) h
  · rw [e] at h
    refine fold_max_ne_top _ _ (fun j _ => ?_) h
    rw [sb_apply H]
    split
    · exact EReal.coe_ne_top _
    · exact bot_ne_top

/-- The exponentials of a row, all of them by the one factor. -/
theorem exps : ∃ c : ℝ, 0 < c
    ∧ (∀ j : Fin 256, ec (F := Ideal) i x2 x3 x4 (ix2 r j) = ((A.ex (i 0).val (r.val / 128) (128 * (i 1).val + r.val % 128) j.val * c : ℝ) : EReal))
    ∧ (∀ w : Fin 384, eb (F := Ideal) i x2 x3 x4 (ix2 r w)
        = ((if 256 ≤ win (i 1).val + w.val then A.ex (i 0).val (r.val / 128) (128 * (i 1).val + r.val % 128) (win (i 1).val + w.val) * c else 0 : ℝ) : EReal))
    ∧ es (F := Ideal) i x2 x3 x4 (ix2 r 0) = ((Real.exp (A.sk (4 * (i 0).val + (r.val / 128))) * c : ℝ) : EReal) := by
  obtain ⟨M, hM⟩ := top_apply H r
  refine ⟨Real.exp (-M), Real.exp_pos _, fun j => ?_, fun w => ?_, ?_⟩
  · unfold ec
    rw [pay13_apply _ _ (sinkOf i x2), hM, sc_apply H, ← EReal.coe_sub, exp_coe, sub_eq_add_neg, Real.exp_add]
    unfold Data.ex
    rw [if_pos (show seen _ _ from Or.inl j.isLt)]
  · unfold eb
    rw [pay14_apply _ _ (sinkOf i x2), hM, sb_apply H]
    unfold Data.ex
    by_cases h1 : 256 ≤ win (i 1).val + w.val
    · by_cases h2 : seen (128 * (i 1).val + r.val % 128) (win (i 1).val + w.val)
      · rw [if_pos ⟨h1, h2⟩, if_pos h1, if_pos h2, ← EReal.coe_sub, exp_coe, sub_eq_add_neg, Real.exp_add]
      · rw [if_neg (fun h => h2 h.2), if_pos h1, if_neg h2, bot_sub_coe, exp_bot, zero_mul, EReal.coe_zero]
    · rw [if_neg (fun h => h1 h.1), if_neg h1, bot_sub_coe, exp_bot, EReal.coe_zero]
  · unfold es
    rw [pay15_apply _ _ (sinkOf i x2), hM, sink_apply H, ← EReal.coe_sub, exp_coe, sub_eq_add_neg, Real.exp_add]

/-- A sum over the row's keys, the context's and the window's. -/
theorem keys (f : ℕ → ℝ) (hf : ∀ j, ¬ seen (128 * (i 1).val + r.val % 128) j → f j = 0) :
    ∑ j : Fin 256, f j + ∑ w : Fin 384, (if 256 ≤ win (i 1).val + w then f (win (i 1).val + w) else 0) = ∑ j : Fin 8448, f j := by
  refine (sum_window _ (by unfold win; omega) f fun j h1 h2 h3 => hf j fun hs => h3 ?_).symm
  have hb : (i 1).val < 66 := (i 1).isLt
  exact seen_win hb (by omega) h2 hs h1

theorem denom (c : ℝ) :
    ∑ j : Fin 256, A.ex (i 0).val (r.val / 128) (128 * (i 1).val + r.val % 128) j.val * c + ∑ w : Fin 384, (if 256 ≤ win (i 1).val + w.val then A.ex (i 0).val (r.val / 128) (128 * (i 1).val + r.val % 128) (win (i 1).val + w.val) * c else 0)
      + Real.exp (A.sk (4 * (i 0).val + (r.val / 128))) * c = A.Z (i 0).val (r.val / 128) (128 * (i 1).val + r.val % 128) * c := by
  have := keys H r (fun j => A.ex (i 0).val (r.val / 128) (128 * (i 1).val + r.val % 128) j * c) (fun j hs => by simp only [A.ex_off hs, zero_mul])
  rw [this, ← Finset.sum_mul, ← add_mul]
  rfl

/-- The probabilities. -/
theorem probs : (∀ j : Fin 256, pc (F := Ideal) i x2 x3 x4 (ix2 r j) = ((A.p (i 0).val (r.val / 128) (128 * (i 1).val + r.val % 128) j.val : ℝ) : EReal))
    ∧ (∀ w : Fin 384, pb (F := Ideal) i x2 x3 x4 (ix2 r w)
        = ((if 256 ≤ win (i 1).val + w.val then A.p (i 0).val (r.val / 128) (128 * (i 1).val + r.val % 128) (win (i 1).val + w.val) else 0 : ℝ) : EReal))
    ∧ ps (F := Ideal) i x2 x3 x4 (ix2 r 0) = ((A.ps (i 0).val (r.val / 128) (128 * (i 1).val + r.val % 128) : ℝ) : EReal) := by
  obtain ⟨c, hc, h1, h2, h3⟩ := exps H r
  have e1 : tc (F := Ideal) i x2 x3 x4 (ix2 r 0) = ((∑ j : Fin 256, A.ex (i 0).val (r.val / 128) (128 * (i 1).val + r.val % 128) j.val * c : ℝ) : EReal) := by
    unfold tc
    rw [pay16_apply _ _ (sinkOf i x2), ← coe_sum]
    exact Finset.sum_congr rfl fun j _ => h1 j
  have e2 : tb (F := Ideal) i x2 x3 x4 (ix1 r)
      = ((∑ w : Fin 384, (if 256 ≤ win (i 1).val + w.val then A.ex (i 0).val (r.val / 128) (128 * (i 1).val + r.val % 128) (win (i 1).val + w.val) * c else 0) : ℝ) : EReal) := by
    unfold tb
    rw [pay17_apply _ _ (sinkOf i x2), ← coe_sum]
    exact Finset.sum_congr rfl fun j _ => h2 j
  have hZ := A.Z_ne (i 0).val (r.val / 128) (128 * (i 1).val + r.val % 128)
  have e3 : k0_pay18 (F := Ideal) (es i x2 x3 x4) (tc i x2 x3 x4) (tb i x2 x3 x4) (ix2 r 0) = ((1 / (A.Z (i 0).val (r.val / 128) (128 * (i 1).val + r.val % 128) * c) : ℝ) : EReal) := by
    rw [pay18_apply, e1, e2, h3, ← EReal.coe_add, ← EReal.coe_add, denom H, ← EReal.coe_one, div_coe _ _ (mul_ne_zero hZ hc.ne')]
  have fac : ∀ x : ℝ, x * c * (1 / (A.Z (i 0).val (r.val / 128) (128 * (i 1).val + r.val % 128) * c)) = x / A.Z (i 0).val (r.val / 128) (128 * (i 1).val + r.val % 128) := fun x => by
    field_simp
  refine ⟨fun j => ?_, fun w => ?_, ?_⟩
  · unfold pc
    rw [pay19_apply, h1, e3, ← EReal.coe_mul, fac]
    rfl
  · unfold pb
    rw [pay20_apply, h2, e3, ← EReal.coe_mul]
    congr 1
    split
    · rw [fac]; rfl
    · rw [zero_mul]
  · unfold ps
    rw [pay21_apply, h3, e3, ← EReal.coe_mul, fac]
    rfl

theorem dpc_apply (j : Fin 256) : k0_pay23 (F := Ideal) (View.ld x6 rBlk) (View.ld x5 rCtx) (ix2 r j) = ((A.dp (i 0).val (r.val / 128) (128 * (i 1).val + r.val % 128) j.val : ℝ) : EReal) := by
  rw [pay23_apply]
  exact sum_real _ _ _ _ (o_apply H r) (vctx_apply H j)

theorem dpb_apply (w : Fin 384) : k0_pay24 (F := Ideal) (View.ld x6 rBlk) (View.ld x5 (rWin i)) (ix2 r w)
    = ((A.dp (i 0).val (r.val / 128) (128 * (i 1).val + r.val % 128) (win (i 1).val + w.val) : ℝ) : EReal) := by
  rw [pay24_apply]
  exact sum_real _ _ _ _ (o_apply H r) (vwin_apply H w)

theorem dl_apply : dl (F := Ideal) i x2 x3 x4 x5 x6 (ix2 r 0) = ((A.del (i 0).val (r.val / 128) (128 * (i 1).val + r.val % 128) : ℝ) : EReal) := by
  obtain ⟨h1, h2, -⟩ := probs H r
  unfold pc at h1
  unfold pb at h2
  unfold dl
  rw [pay25_apply]
  simp only [h1, h2, dpc_apply H, dpb_apply H, ← EReal.coe_mul, coe_sum, ← EReal.coe_add, ite_mul, zero_mul]
  rw [keys H r (fun j => A.p (i 0).val (r.val / 128) (128 * (i 1).val + r.val % 128) j * A.dp (i 0).val (r.val / 128) (128 * (i 1).val + r.val % 128) j) fun j hs => by simp only [A.p_off hs, zero_mul]]
  rfl

theorem gc_apply (j : Fin 256) : gc (F := Ideal) i x2 x3 x4 x5 x6 (ix2 r j) = ((A.gs (i 0).val (r.val / 128) (128 * (i 1).val + r.val % 128) j.val : ℝ) : EReal) := by
  obtain ⟨h1, h2, -⟩ := probs H r
  have hd := dl_apply H r
  unfold pc at h1
  unfold dl at hd
  unfold gc
  rw [pay26_apply, h1, hd, dpc_apply H, H.l, ← EReal.coe_sub, ← EReal.coe_mul, ← EReal.coe_mul]
  rfl

theorem gb_apply (w : Fin 384) : gb (F := Ideal) i x2 x3 x4 x5 x6 (ix2 r w)
    = ((if 256 ≤ win (i 1).val + w.val then A.gs (i 0).val (r.val / 128) (128 * (i 1).val + r.val % 128) (win (i 1).val + w.val) else 0 : ℝ) : EReal) := by
  obtain ⟨h1, h2, -⟩ := probs H r
  have hd := dl_apply H r
  unfold pb at h2
  unfold dl at hd
  unfold gb
  rw [pay27_apply, h2, hd, dpb_apply H, H.l, ← EReal.coe_sub, ← EReal.coe_mul, ← EReal.coe_mul]
  simp only [ite_mul, zero_mul]
  rfl

/-- The queries' gradient. -/
theorem dqv_apply (u : Fin 128) (l : Fin 512) :
    dqv (F := Ideal) i x2 x3 x4 x5 x6 (ix2 u l) = ((A.dq (i 0).val (l.val / 128) (128 * (i 1).val + u.val) (l.val % 128) : ℝ) : EReal) := by
  unfold dqv
  rw [pay32_apply, pay28_apply]
  have k := keys H ⟨128 * (l.val / 128) + u.val, by omega⟩
    (fun j => A.gs (i 0).val ((128 * (l.val / 128) + u.val) / 128) (128 * (i 1).val + (128 * (l.val / 128) + u.val) % 128) j * A.K j (128 * (i 0).val + l.val % 128))
    fun j hs => by simp only [A.gs_off hs, zero_mul]
  refine (congrArg₂ (· + ·) (sum_real _ _ _ _ (gc_apply H ⟨128 * (l.val / 128) + u.val, by omega⟩) (fun j => kctx_apply H j ⟨l.val % 128, by omega⟩))
    (sum_real _ _ _ _ (gb_apply H ⟨128 * (l.val / 128) + u.val, by omega⟩) (fun w => kwin_apply H w ⟨l.val % 128, by omega⟩))).trans ?_
  simp only [← EReal.coe_add, ite_mul, zero_mul]
  rw [k]
  have d1 : (128 * (l.val / 128) + u.val) / 128 = l.val / 128 := by omega
  have d2 : (128 * (l.val / 128) + u.val) % 128 = u.val := by omega
  rw [d1, d2]
  rfl

end Cert.KernelIdeal.Hand
end
-- ==== Proof.Attn.Acc.lean ====
/-
  The accumulated gradients of one group: what a point adds to the keys' and the values' gradients, and to the sinks'.
-/
module

public import proofs.«01_k».proof.Proof.Attn.Kern

@[expose] public section

set_option maxRecDepth 16384

noncomputable section

namespace Cert.Attn.Data

/-- What the queries of block `b` add to the keys' gradient, to the values', and to the sinks'. -/
def ck (A : Data) (h b j d : ℕ) : ℝ := ∑ r : Fin 512, A.gs h (r.val / 128) (128 * b + r.val % 128) j * A.Q (128 * b + r.val % 128) (512 * h + 128 * (r.val / 128) + d)
def cv (A : Data) (h b j d : ℕ) : ℝ := ∑ r : Fin 512, A.p h (r.val / 128) (128 * b + r.val % 128) j * A.D (128 * b + r.val % 128) (512 * h + 128 * (r.val / 128) + d)
def cs (A : Data) (h b g : ℕ) : ℝ := ∑ r : Fin 512, if r.val / 128 = g then -(A.ps h (r.val / 128) (128 * b + r.val % 128) * A.del h (r.val / 128) (128 * b + r.val % 128)) else 0

theorem sum_ck (A : Data) (h j d : ℕ) : ∑ b : Fin 66, A.ck h b j d = A.dk h j d :=
  sum_blocks fun g i => A.gs h g i j * A.Q i (512 * h + 128 * g + d)
theorem sum_cv (A : Data) (h j d : ℕ) : ∑ b : Fin 66, A.cv h b j d = A.dv h j d :=
  sum_blocks fun g i => A.p h g i j * A.D i (512 * h + 128 * g + d)
theorem sum_cs (A : Data) (h : ℕ) (g : Fin 4) : ∑ b : Fin 66, A.cs h b g = A.dsk h g := by
  refine (sum_blocks fun g' i => if g' = g.val then -(A.ps h g' i * A.del h g' i) else 0).trans ?_
  rw [Finset.sum_eq_single g]
  · exact Finset.sum_congr rfl fun i _ => if_pos rfl
  · intro g' _ hg
    exact Finset.sum_eq_zero fun i _ => if_neg fun e => hg (Fin.ext e)
  · intro hg; exact absurd (Finset.mem_univ g) hg

theorem ck_off (A : Data) {h b j : ℕ} (d : ℕ) (hb : b < 66) (h1 : 256 ≤ j) (h2 : j < 8448) (h3 : ¬ (win b ≤ j ∧ j < win b + 384)) : A.ck h b j d = 0 :=
  Finset.sum_eq_zero fun r _ => by
    rw [A.gs_off fun hs => h3 (seen_win hb (by omega) h2 hs h1), zero_mul]
theorem cv_off (A : Data) {h b j : ℕ} (d : ℕ) (hb : b < 66) (h1 : 256 ≤ j) (h2 : j < 8448) (h3 : ¬ (win b ≤ j ∧ j < win b + 384)) : A.cv h b j d = 0 :=
  Finset.sum_eq_zero fun r _ => by
    rw [A.p_off fun hs => h3 (seen_win hb (by omega) h2 hs h1), zero_mul]

end Cert.Attn.Data

namespace Cert.KernelIdeal.Hand

open Cert.KernelIdeal Cert.KernelIdeal.Gen Cert.Attn
open Idealize.ShloMosaic Idealize.ShloMosaic.TcCoe Idealize.ShloMosaic.Tactic

/-! ### The two stores, at an index -/

theorem put_ctx (w : Vec Ideal S256x128 .f32) (X : Vec Ideal S8448x128 .f32) (j : Fin 8448) (d : Fin 128) :
    put (Val := Elt Ideal) (e := .f32) rCtx w X (ix2 j d) = if h : j.val < 256 then w (ix2 ⟨j.val, h⟩ d) else X (ix2 j d) := by
  by_cases h : j.val < 256
  · rw [dif_pos h]
    have e : rCtx.emb (ix2 (⟨j.val, h⟩ : Fin 256) d) = ix2 j d := by
      refine funext fun a => Fin.ext ?_
      match a with
      | 0 => show 0 + 1 * j.val = j.val; omega
      | 1 => show 0 + 1 * d.val = d.val; omega
    exact (congrArg (put (Val := Elt Ideal) (e := .f32) rCtx w X) e).symm.trans (put_emb rCtx w X _)
  · rw [dif_neg h]
    unfold put
    rw [dif_neg]
    rintro ⟨x, hx⟩
    have h0 : 0 + 1 * (x 0).val = j.val := congrArg Fin.val (congrFun hx 0)
    have hlt : (x 0).val < 256 := (x 0).isLt
    omega

theorem put_win (i : grid0.Coords) (w : Vec Ideal S384x128 .f32) (X : Vec Ideal S8448x128 .f32) (j : Fin 8448) (d : Fin 128) :
    put (Val := Elt Ideal) (e := .f32) (rWin i) w X (ix2 j d)
      = if h : win (i 1).val ≤ j.val ∧ j.val < win (i 1).val + 384 then w (ix2 ⟨j.val - win (i 1).val, by omega⟩ d) else X (ix2 j d) := by
  by_cases h : win (i 1).val ≤ j.val ∧ j.val < win (i 1).val + 384
  · rw [dif_pos h]
    have e : (rWin i).emb (ix2 (⟨j.val - win (i 1).val, by omega⟩ : Fin 384) d) = ix2 j d := by
      refine funext fun a => Fin.ext ?_
      match a with
      | 0 => show k0_off1 i 0 + 1 * (j.val - win (i 1).val) = j.val; rw [off1_0]; omega
      | 1 => show k0_off1 i 1 + 1 * d.val = d.val; rw [off1_1]; omega
    exact (congrArg (put (Val := Elt Ideal) (e := .f32) (rWin i) w X) e).symm.trans (put_emb (rWin i) w X _)
  · rw [dif_neg h]
    unfold put
    rw [dif_neg]
    rintro ⟨x, hx⟩
    have h0 : k0_off1 i 0 + 1 * (x 0).val = j.val := congrArg Fin.val (congrFun hx 0)
    rw [off1_0] at h0
    have hlt : (x 0).val < 384 := (x 0).isLt
    omega

/-- The context's rows and the window's, added to. -/
theorem put_acc (i : grid0.Coords) (X : Vec Ideal S8448x128 .f32) (wc : Vec Ideal S256x128 .f32) (wb : Vec Ideal S384x128 .f32) (Y C : ℕ → ℕ → ℝ)
    (hX : ∀ (j : Fin 8448) (d : Fin 128), X (ix2 j d) = ((Y j.val d.val : ℝ) : EReal))
    (hc : ∀ (j : Fin 256) (d : Fin 128), wc (ix2 j d) = View.ld X rCtx (ix2 j d) + ((C j.val d.val : ℝ) : EReal))
    (hb : ∀ (w : Fin 384) (d : Fin 128), wb (ix2 w d) = View.ld (put (Val := Elt Ideal) (e := .f32) rCtx wc X) (rWin i) (ix2 w d)
        + ((if 256 ≤ win (i 1).val + w.val then C (win (i 1).val + w.val) d.val else 0 : ℝ) : EReal))
    (hC : ∀ j d, 256 ≤ j → j < 8448 → ¬ (win (i 1).val ≤ j ∧ j < win (i 1).val + 384) → C j d = 0) (j : Fin 8448) (d : Fin 128) :
    put (Val := Elt Ideal) (e := .f32) (rWin i) wb (put (Val := Elt Ideal) (e := .f32) rCtx wc X) (ix2 j d) = ((Y j.val d.val + C j.val d.val : ℝ) : EReal) := by
  have h1 : put (Val := Elt Ideal) (e := .f32) rCtx wc X (ix2 j d) = ((Y j.val d.val + (if j.val < 256 then C j.val d.val else 0) : ℝ) : EReal) := by
    rw [put_ctx]
    by_cases h : j.val < 256
    · rw [dif_pos h, if_pos h, hc, EReal.coe_add]
      exact congrArg (· + _) ((ld_ctx X _ d).trans (hX _ _))
    · rw [dif_neg h, if_neg h, hX, add_zero]
  rw [put_win]
  by_cases h : win (i 1).val ≤ j.val ∧ j.val < win (i 1).val + 384
  · rw [dif_pos h, hb]
    have ej : win (i 1).val + (j.val - win (i 1).val) = j.val := by omega
    have h2 := (ld_win i (put (Val := Elt Ideal) (e := .f32) rCtx wc X) ⟨j.val - win (i 1).val, by omega⟩ d)
    have h3 : (⟨win (i 1).val + (j.val - win (i 1).val), by omega⟩ : Fin 8448) = j := Fin.ext ej
    simp only [h3] at h2
    rw [h2, h1, ← EReal.coe_add]
    simp only [ej]
    congr 1
    by_cases h4 : j.val < 256
    · rw [if_pos h4, if_neg (by omega), add_zero]
    · rw [if_neg h4, if_pos (by omega), add_zero]
  · rw [dif_neg h, h1]
    congr 2
    by_cases h4 : j.val < 256
    · rw [if_pos h4]
    · rw [if_neg h4, hC _ _ (by omega) j.isLt h]

variable {A : Data} {i : grid0.Coords} {x2 : Vec Ideal S16 .f32} {x3 : Vec Ideal S128x512 .bf16} {x4 x5 : Vec Ideal S8448x128 .bf16}
  {x6 : Vec Ideal S128x512 .bf16} (H : Holds A i x2 x3 x4 x5 x6)
include H

theorem dkv_apply (X : Vec Ideal S8448x128 .f32) (Y : ℕ → ℕ → ℝ) (hX : ∀ (j : Fin 8448) (d : Fin 128), X (ix2 j d) = ((Y j.val d.val : ℝ) : EReal))
    (j : Fin 8448) (d : Fin 128) :
    dkv (F := Ideal) i x2 x3 x4 x5 x6 X (ix2 j d) = ((Y j.val d.val + A.ck (i 0).val (i 1).val j.val d.val : ℝ) : EReal) := by
  unfold dkv dk2 dk1
  refine put_acc i X _ _ Y (A.ck (i 0).val (i 1).val) hX (fun j d => ?_) (fun w d => ?_) (fun j d h1 h2 h3 => A.ck_off d (i 1).isLt h1 h2 h3) j d
  · refine (pay35_apply _ _ _ j d).trans (congrArg (_ + ·) ?_)
    exact sum_real _ _ _ _ (fun r => gc_apply H r j) (fun r => q_apply H r d)
  · refine (pay37_apply _ _ _ w d).trans (congrArg (_ + ·) ?_)
    refine (sum_real _ _ _ _ (fun r => gb_apply H r w) (fun r => q_apply H r d)).trans (congrArg _ ?_)
    by_cases h : 256 ≤ win (i 1).val + w.val
    · simp only [if_pos h]; rfl
    · simp only [if_neg h, zero_mul, Finset.sum_const_zero]

theorem dvv_apply (X : Vec Ideal S8448x128 .f32) (Y : ℕ → ℕ → ℝ) (hX : ∀ (j : Fin 8448) (d : Fin 128), X (ix2 j d) = ((Y j.val d.val : ℝ) : EReal))
    (j : Fin 8448) (d : Fin 128) :
    dvv (F := Ideal) i x2 x3 x4 x6 X (ix2 j d) = ((Y j.val d.val + A.cv (i 0).val (i 1).val j.val d.val : ℝ) : EReal) := by
  unfold dvv dv2 dv1
  refine put_acc i X _ _ Y (A.cv (i 0).val (i 1).val) hX (fun j d => ?_) (fun w d => ?_) (fun j d h1 h2 h3 => A.cv_off d (i 1).isLt h1 h2 h3) j d
  · refine (pay36_apply _ _ _ j d).trans (congrArg (_ + ·) ?_)
    exact sum_real _ _ _ _ (fun r => (probs H r).1 j) (fun r => o_apply H r d)
  · refine (pay38_apply _ _ _ w d).trans (congrArg (_ + ·) ?_)
    refine (sum_real _ _ _ _ (fun r => (probs H r).2.1 w) (fun r => o_apply H r d)).trans (congrArg _ ?_)
    by_cases h : 256 ≤ win (i 1).val + w.val
    · simp only [if_pos h]; rfl
    · simp only [if_neg h, zero_mul, Finset.sum_const_zero]

theorem tneg_apply (r : Fin 512) : tneg (F := Ideal) i x2 x3 x4 x5 x6 (ix2 r 0)
    = ((A.ps (i 0).val (r.val / 128) (128 * (i 1).val + r.val % 128) * A.del (i 0).val (r.val / 128) (128 * (i 1).val + r.val % 128) : ℝ) : EReal) := by
  unfold tneg
  rw [pay39_apply, (probs H r).2.2, dl_apply H r, EReal.coe_mul]

theorem headSum_eq (g : ℕ) : headSum (tneg (F := Ideal) i x2 x3 x4 x5 x6) g = ((A.cs (i 0).val (i 1).val g : ℝ) : EReal) := by
  unfold headSum Data.cs
  rw [← coe_sum]
  refine Finset.sum_congr rfl fun r _ => ?_
  by_cases h : r.val / 128 = g
  · rw [if_pos h, if_pos h, tneg_apply H r, zero_sub, EReal.coe_neg]
  · rw [if_neg h, if_neg h, EReal.coe_zero]

theorem ds1_apply (a : Fin 8) (l : Fin 128) : ds1 (F := Ideal) i x2 x3 x4 x5 x6 (ix2 a l)
    = ((if l.val < 4 then A.cs (i 0).val (i 1).val l.val else 0 : ℝ) : EReal) := by
  unfold ds1
  rw [pay1_apply, headSum_eq H]
  split
  · rfl
  · exact EReal.coe_zero.symm

theorem ds2_apply (X : Vec Ideal S8x128 .f32) (Y : ℕ → ℝ) (hX : ∀ (a : Fin 8) (l : Fin 128), X (ix2 a l) = ((Y l.val : ℝ) : EReal))
    (a : Fin 8) (l : Fin 128) : ds2 (F := Ideal) i x2 x3 x4 x5 x6 X (ix2 a l)
    = ((Y l.val + (if l.val < 4 then A.cs (i 0).val (i 1).val l.val else 0) : ℝ) : EReal) := by
  have h1 := ds1_apply H a l
  have h2 : View.ld X (Rect.unit (s := S8x128) ![0, 0] S8x128.size inb_S8x128_S8x128_0_0) (ix2 a l) = X (ix2 a l) := by
    refine congrArg X (funext fun k => Fin.ext ?_)
    match k with
    | 0 => show 0 + 1 * a.val = a.val; omega
    | 1 => show 0 + 1 * l.val = l.val; omega
  have h3 : ds2 (F := Ideal) i x2 x3 x4 x5 x6 X (ix2 a l)
      = View.ld X (Rect.unit (s := S8x128) ![0, 0] S8x128.size inb_S8x128_S8x128_0_0) (ix2 a l) + ds1 (F := Ideal) i x2 x3 x4 x5 x6 (ix2 a l) := by
    unfold ds2 ds1
    pointwise [k0_pay2]
  rw [h3, h2, hX, h1, EReal.coe_add]

end Cert.KernelIdeal.Hand
end
-- ==== Proof.Attn.Arrays.lean ====
/-
  The argument arrays as real numbers: what the precondition gives, and the specification's data made of the arrays.
-/
module

public import proofs.«01_k».proof.Proof.Gen.Pre_finite
public import proofs.«01_k».proof.Proof.Attn.Spec
public import Idealize.ShloMosaic.Lib.ReduceAll
public import Idealize.ShloMosaic.Lib.Affine
public import Idealize.ShloMosaic.Lib.ValueIdx
public import Idealize.ShloMosaic.Lib.Pointwise

@[expose] public section

set_option maxRecDepth 16384

noncomputable section

namespace Cert.Attn

open Idealize.ShloMosaic

/-- The five arrays hold real numbers. -/
structure Reals (x0 : (⟨2, ![8448, 2048]⟩ : Shape).Idx → EReal) (x1 x2 : (⟨2, ![8448, 512]⟩ : Shape).Idx → EReal) (x3 : (⟨1, ![16]⟩ : Shape).Idx → EReal)
    (x4 : (⟨2, ![8448, 2048]⟩ : Shape).Idx → EReal) : Prop where
  r0 : ∀ i, x0 i = (((x0 i).toReal : ℝ) : EReal)
  r1 : ∀ i, x1 i = (((x1 i).toReal : ℝ) : EReal)
  r2 : ∀ i, x2 i = (((x2 i).toReal : ℝ) : EReal)
  r3 : ∀ i, x3 i = (((x3 i).toReal : ℝ) : EReal)
  r4 : ∀ i, x4 i = (((x4 i).toReal : ℝ) : EReal)

theorem pinf : Ideal.ofBits .f32 0x7F800000#32 = (⊤ : EReal) := by
  simp [Ideal.ofBits, Ideal.ieee]

theorem real_of_lt {x : EReal} (h : Ideal.cmp .olt (max x (-x)) (Ideal.ofBits .f32 0x7F800000#32) = 1#1) : x = ((x.toReal : ℝ) : EReal) := by
  rw [pinf] at h
  have h' : max x (-x) < ⊤ := by
    by_contra hn
    simp [Ideal.cmp, hn] at h
  refine (EReal.coe_toReal ?_ ?_).symm
  · rintro rfl; simp at h'
  · rintro rfl; simp at h'

/-- The precondition: every entry of every argument is a real number. -/
theorem reals_of_pre (x0 : FVec Ideal Cert.Pre_finite.S8448x2048 .bf16) (x1 x2 : FVec Ideal Cert.Pre_finite.S8448x512 .bf16) (x3 : FVec Ideal Cert.Pre_finite.S16 .f32)
    (x4 : FVec Ideal Cert.Pre_finite.S8448x2048 .bf16) (h : Cert.Pre_finite.fn (F := Ideal) x0 x1 x2 x3 x4 = fun _ => 1#1) : Reals x0 x1 x2 x3 x4 := by
  have h0 := congrFun h default
  unfold Cert.Pre_finite.fn Cert.Pre_finite.fn_part1 at h0
  obtain ⟨h0, h4⟩ := IntOp.andi_eq_one.mp h0
  obtain ⟨h0, h3⟩ := IntOp.andi_eq_one.mp h0
  obtain ⟨h0, h2⟩ := IntOp.andi_eq_one.mp h0
  obtain ⟨h0, h1⟩ := IntOp.andi_eq_one.mp h0
  have hs : Subsingleton Cert.Pre_finite.S_.Idx := ⟨fun a b => funext fun k => k.elim0⟩
  exact
    { r0 := fun i => real_of_lt (Host.reduce_andi_all _ _ _ _ _ h0 i)
      r1 := fun i => real_of_lt (Host.reduce_andi_all _ _ _ _ _ h1 i)
      r2 := fun i => real_of_lt (Host.reduce_andi_all _ _ _ _ _ h2 i)
      r3 := fun i => real_of_lt (Host.reduce_andi_all _ _ _ _ _ h3 i)
      r4 := fun i => real_of_lt (Host.reduce_andi_all _ _ _ _ _ h4 i) }

/-- The specification's data, of the arrays. -/
def ofArrays (x0 : (⟨2, ![8448, 2048]⟩ : Shape).Idx → EReal) (x1 x2 : (⟨2, ![8448, 512]⟩ : Shape).Idx → EReal) (x3 : (⟨1, ![16]⟩ : Shape).Idx → EReal)
    (x4 : (⟨2, ![8448, 2048]⟩ : Shape).Idx → EReal) : Data where
  Q i l := if h : i < 8448 ∧ l < 2048 then (x0 (ix2 ⟨i, h.1⟩ ⟨l, h.2⟩)).toReal else 0
  K i l := if h : i < 8448 ∧ l < 512 then (x1 (ix2 ⟨i, h.1⟩ ⟨l, h.2⟩)).toReal else 0
  V i l := if h : i < 8448 ∧ l < 512 then (x2 (ix2 ⟨i, h.1⟩ ⟨l, h.2⟩)).toReal else 0
  D i l := if h : i < 8448 ∧ l < 2048 then (x4 (ix2 ⟨i, h.1⟩ ⟨l, h.2⟩)).toReal else 0
  sk n := if h : n < 16 then (x3 (ix1 ⟨n, h⟩)).toReal else 0
  σ := (Ideal.ofBits .f32 0x3DB504F3#32).toReal

theorem lit_real : Ideal.ofBits .f32 0x3DB504F3#32 = (((Ideal.ofBits .f32 0x3DB504F3#32).toReal : ℝ) : EReal) := by
  have e : ∃ r : ℝ, Ideal.ofBits .f32 0x3DB504F3#32 = (r : EReal) := by
    simp only [Ideal.ofBits, Ideal.ieee]
    simp
    exact ⟨_, (EReal.coe_mul _ _).symm⟩
  obtain ⟨r, hr⟩ := e
  rw [hr, EReal.toReal_coe]

variable {x0 : (⟨2, ![8448, 2048]⟩ : Shape).Idx → EReal} {x1 x2 : (⟨2, ![8448, 512]⟩ : Shape).Idx → EReal} {x3 : (⟨1, ![16]⟩ : Shape).Idx → EReal}
    {x4 : (⟨2, ![8448, 2048]⟩ : Shape).Idx → EReal} (R : Reals x0 x1 x2 x3 x4)
include R

theorem Reals.q (i l : ℕ) (hi : i < 8448) (hl : l < 2048) : x0 (ix2 ⟨i, hi⟩ ⟨l, hl⟩) = (((ofArrays x0 x1 x2 x3 x4).Q i l : ℝ) : EReal) := by
  rw [R.r0]; unfold ofArrays; simp only; rw [dif_pos ⟨hi, hl⟩]
theorem Reals.k (i l : ℕ) (hi : i < 8448) (hl : l < 512) : x1 (ix2 ⟨i, hi⟩ ⟨l, hl⟩) = (((ofArrays x0 x1 x2 x3 x4).K i l : ℝ) : EReal) := by
  rw [R.r1]; unfold ofArrays; simp only; rw [dif_pos ⟨hi, hl⟩]
theorem Reals.v (i l : ℕ) (hi : i < 8448) (hl : l < 512) : x2 (ix2 ⟨i, hi⟩ ⟨l, hl⟩) = (((ofArrays x0 x1 x2 x3 x4).V i l : ℝ) : EReal) := by
  rw [R.r2]; unfold ofArrays; simp only; rw [dif_pos ⟨hi, hl⟩]
theorem Reals.o (i l : ℕ) (hi : i < 8448) (hl : l < 2048) : x4 (ix2 ⟨i, hi⟩ ⟨l, hl⟩) = (((ofArrays x0 x1 x2 x3 x4).D i l : ℝ) : EReal) := by
  rw [R.r4]; unfold ofArrays; simp only; rw [dif_pos ⟨hi, hl⟩]
theorem Reals.s (n : ℕ) (hn : n < 16) : x3 (ix1 ⟨n, hn⟩) = (((ofArrays x0 x1 x2 x3 x4).sk n : ℝ) : EReal) := by
  rw [R.r3]; unfold ofArrays; simp only; rw [dif_pos hn]

end Cert.Attn
end
-- ==== Proof.Attn.Final.lean ====
/-
  The windowed attention's gradient: the four arrays the call leaves, of the arrays it is handed.
-/
module

public import proofs.«01_k».proof.Proof.Attn.Acc
public import proofs.«01_k».proof.Proof.Attn.Arrays
public import proofs.«01_k».proof.Proof.Attn.Frame
public import Idealize.ShloMosaic.Lib.Pipeline.ValueKit.Point

@[expose] public section

set_option maxRecDepth 16384

noncomputable section

namespace Cert.KernelIdeal.Hand

open Cert.KernelIdeal Cert.KernelIdeal.Gen Cert.Attn
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem c0 : ∀ t : Fin cfg0.N, (grid0.coords t 0).val = t.val / 66 := (by decide +kernel : ∀ t : Fin grid0.N, (grid0.coords t 0).val = t.val / 66)
theorem c1 : ∀ t : Fin cfg0.N, (grid0.coords t 1).val = t.val % 66 := (by decide +kernel : ∀ t : Fin grid0.N, (grid0.coords t 1).val = t.val % 66)

theorem ix_0 : ∀ t : Fin cfg0.N, win0_0.index t = ![0] := (by decide +kernel : ∀ t : Fin grid0.N, _)
theorem ix_1 : ∀ t : Fin cfg0.N, win0_1.index t = ![t.val % 66, t.val / 66] := (by decide +kernel : ∀ t : Fin grid0.N, _)
theorem ix_2 : ∀ t : Fin cfg0.N, win0_2.index t = ![0, t.val / 66] := (by decide +kernel : ∀ t : Fin grid0.N, _)
theorem ix_3 : ∀ t : Fin cfg0.N, win0_3.index t = ![0, t.val / 66] := (by decide +kernel : ∀ t : Fin grid0.N, _)
theorem ix_4 : ∀ t : Fin cfg0.N, win0_4.index t = ![t.val % 66, t.val / 66] := (by decide +kernel : ∀ t : Fin grid0.N, _)
theorem ix_5 : ∀ t : Fin cfg0.N, win0_5.index t = ![t.val % 66, t.val / 66] := (by decide +kernel : ∀ t : Fin grid0.N, _)
theorem ix_6 : ∀ t : Fin cfg0.N, win0_6.index t = ![0, t.val / 66] := (by decide +kernel : ∀ t : Fin grid0.N, _)
theorem ix_7 : ∀ t : Fin cfg0.N, win0_7.index t = ![0, t.val / 66] := (by decide +kernel : ∀ t : Fin grid0.N, _)
theorem ix_8 : ∀ t : Fin cfg0.N, win0_8.index t = ![t.val / 66, 0] := (by decide +kernel : ∀ t : Fin grid0.N, _)

/-- The arguments hold real numbers. -/
abbrev RealMem : Prop := Reals (m ((c : Thread nD τ).loc main_arg0)) (m ((c : Thread nD τ).loc main_arg1)) (m ((c : Thread nD τ).loc main_arg2))
  (m ((c : Thread nD τ).loc main_arg3)) (m ((c : Thread nD τ).loc main_arg4))

/-- The specification's data, of the arguments. -/
abbrev dat : Data := ofArrays (m ((c : Thread nD τ).loc main_arg0)) (m ((c : Thread nD τ).loc main_arg1)) (m ((c : Thread nD τ).loc main_arg2))
  (m ((c : Thread nD τ).loc main_arg3)) (m ((c : Thread nD τ).loc main_arg4))

variable {m c}
variable (R : RealMem m c) (t : Fin cfg0.N)
include R

theorem holds : Holds (dat m c) (grid0.coords t) (b0 m c t) (b1 m c t) (b2 m c t) (b3 m c t) (b4 m c t) where
  s n := by
    refine Eq.trans ?_ (R.s n.val n.isLt)
    blk_ext! [b0, iblk, V, ix_0 t]
  q u l := by
    have h0 := t.isLt
    change t.val < 264 at h0
    refine Eq.trans ?_ (R.q (128 * (grid0.coords t 1).val + u.val) (512 * (grid0.coords t 0).val + l.val) (by rw [c1]; omega) (by rw [c0]; omega))
    blk_ext! [b1, iblk, V, ix_1 t, c0 t, c1 t]
  k j d := by
    have h0 := t.isLt
    change t.val < 264 at h0
    refine Eq.trans ?_ (R.k j.val (128 * (grid0.coords t 0).val + d.val) j.isLt (by rw [c0]; omega))
    blk_ext! [b2, iblk, V, ix_2 t, c0 t, c1 t]
  v j d := by
    have h0 := t.isLt
    change t.val < 264 at h0
    refine Eq.trans ?_ (R.v j.val (128 * (grid0.coords t 0).val + d.val) j.isLt (by rw [c0]; omega))
    blk_ext! [b3, iblk, V, ix_3 t, c0 t, c1 t]
  o u l := by
    have h0 := t.isLt
    change t.val < 264 at h0
    refine Eq.trans ?_ (R.o (128 * (grid0.coords t 1).val + u.val) (512 * (grid0.coords t 0).val + l.val) (by rw [c1]; omega) (by rw [c0]; omega))
    blk_ext! [b4, iblk, V, ix_4 t, c0 t, c1 t]
  l := lit_real

/-! ### The accumulators, point by point -/

theorem dkAt_apply : ∀ (n : ℕ) (hn : n < cfg0.N) (j : Fin 8448) (d : Fin 128),
    dkAt m c n hn (ix2 j d) = ((∑ b ∈ Finset.range (n % 66 + 1), (dat m c).ck (n / 66) b j.val d.val : ℝ) : EReal) := by
  intro n
  induction n using Nat.strong_induction_on with
  | _ n ih =>
    intro hn j d
    by_cases h : n % 66 = 0
    · have e := dkv_apply (holds R ⟨n, hn⟩) (k0_pay33 (F := Ideal)) (fun _ _ => 0) (fun j d => by pointwise [k0_pay33]; exact EReal.coe_zero.symm) j d
      rw [c0, c1] at e
      rw [dkAt_first m c ⟨n, hn⟩ h, e]
      simp only [h, zero_add, Finset.range_one, Finset.sum_singleton]
    · have e := dkv_apply (holds R ⟨n, hn⟩) _ (fun j d => ∑ b ∈ Finset.range ((n - 1) % 66 + 1), (dat m c).ck ((n - 1) / 66) b j d)
        (fun j d => ih (n - 1) (by omega) (by omega) j d) j d
      rw [c0, c1] at e
      rw [dkAt_later m c ⟨n, hn⟩ h, e]
      dsimp only
      have e1 : (n - 1) % 66 + 1 = n % 66 := by omega
      have e2 : (n - 1) / 66 = n / 66 := by omega
      rw [e1, e2, Finset.sum_range_succ]

theorem dvAt_apply : ∀ (n : ℕ) (hn : n < cfg0.N) (j : Fin 8448) (d : Fin 128),
    dvAt m c n hn (ix2 j d) = ((∑ b ∈ Finset.range (n % 66 + 1), (dat m c).cv (n / 66) b j.val d.val : ℝ) : EReal) := by
  intro n
  induction n using Nat.strong_induction_on with
  | _ n ih =>
    intro hn j d
    by_cases h : n % 66 = 0
    · have e := dvv_apply (holds R ⟨n, hn⟩) (k0_pay34 (F := Ideal)) (fun _ _ => 0) (fun j d => by pointwise [k0_pay34]; exact EReal.coe_zero.symm) j d
      rw [c0, c1] at e
      rw [dvAt_first m c ⟨n, hn⟩ h, e]
      simp only [h, zero_add, Finset.range_one, Finset.sum_singleton]
    · have e := dvv_apply (holds R ⟨n, hn⟩) _ (fun j d => ∑ b ∈ Finset.range ((n - 1) % 66 + 1), (dat m c).cv ((n - 1) / 66) b j d)
        (fun j d => ih (n - 1) (by omega) (by omega) j d) j d
      rw [c0, c1] at e
      rw [dvAt_later m c ⟨n, hn⟩ h, e]
      dsimp only
      have e1 : (n - 1) % 66 + 1 = n % 66 := by omega
      have e2 : (n - 1) / 66 = n / 66 := by omega
      rw [e1, e2, Finset.sum_range_succ]

theorem dsAt_apply : ∀ (n : ℕ) (hn : n < cfg0.N) (a : Fin 8) (l : Fin 128),
    dsAt m c n hn (ix2 a l) = ((∑ b ∈ Finset.range (n % 66 + 1), (if l.val < 4 then (dat m c).cs (n / 66) b l.val else 0) : ℝ) : EReal) := by
  intro n
  induction n using Nat.strong_induction_on with
  | _ n ih =>
    intro hn a l
    by_cases h : n % 66 = 0
    · have e := ds1_apply (holds R ⟨n, hn⟩) a l
      rw [c0, c1] at e
      rw [dsAt_first m c ⟨n, hn⟩ h, e]
      simp only [h, zero_add, Finset.range_one, Finset.sum_singleton]
    · have e := ds2_apply (holds R ⟨n, hn⟩) _ (fun l => ∑ b ∈ Finset.range ((n - 1) % 66 + 1), (if l < 4 then (dat m c).cs ((n - 1) / 66) b l else 0))
        (fun a l => ih (n - 1) (by omega) (by omega) a l) a l
      rw [c0, c1] at e
      rw [dsAt_later m c ⟨n, hn⟩ h, e]
      dsimp only
      have e1 : (n - 1) % 66 + 1 = n % 66 := by omega
      have e2 : (n - 1) / 66 = n / 66 := by omega
      rw [e1, e2, Finset.sum_range_succ]

/-! ### The four arrays -/

omit R in
/-- The four gradients as arrays. -/
def gq (A : Data) : S8448x2048.Idx → EReal := fun x => ((A.dq ((x 1).val / 512) ((x 1).val % 512 / 128) (x 0).val ((x 1).val % 128) : ℝ) : EReal)
omit R in
def gk (A : Data) : S8448x512.Idx → EReal := fun x => ((A.dk ((x 1).val / 128) (x 0).val ((x 1).val % 128) : ℝ) : EReal)
omit R in
def gv (A : Data) : S8448x512.Idx → EReal := fun x => ((A.dv ((x 1).val / 128) (x 0).val ((x 1).val % 128) : ℝ) : EReal)
omit R in
def gsk (A : Data) : S32x128.Idx → EReal := fun x => ((if (x 1).val < 4 then A.dsk ((x 0).val / 8) (x 1).val else 0 : ℝ) : EReal)

theorem final_q : (dats (F := Ideal) m 0 c).arrAt 5 cfg0.N = gq (dat m c) := by
  refine (dats m 0 c).arrAt_eq_of_covers 5 _ (by decide +kernel) fun t hf y => ?_
  blk_simp
  rw [after_5]
  obtain ⟨u, l, rfl⟩ : ∃ (u : Fin 128) (l : Fin 512), y = ix2 u l := ⟨y 0, y 1, funext fun a => by match a with | 0 => rfl | 1 => rfl⟩
  refine (dqv_apply (holds R t) u l).trans ?_
  unfold gq
  blk_simp [ix_5 t, c0 t, c1 t]
  have e1 : (t.val / 66 * 512 + l.val) / 512 = t.val / 66 := by omega
  have e2 : (t.val / 66 * 512 + l.val) % 512 = l.val := by omega
  have e3 : (t.val / 66 * 512 + l.val) % 128 = l.val % 128 := by omega
  rw [e1, e2, e3, Nat.mul_comm 128]

theorem final_k : (dats (F := Ideal) m 0 c).arrAt 6 cfg0.N = gk (dat m c) := by
  refine (dats m 0 c).arrAt_eq_of_covers 6 _ (by decide +kernel) fun t hf y => ?_
  have ht := (flush0_6 t).mp hf
  blk_simp
  rw [after_6]
  obtain ⟨u, l, rfl⟩ : ∃ (u : Fin 8448) (l : Fin 128), y = ix2 u l := ⟨y 0, y 1, funext fun a => by match a with | 0 => rfl | 1 => rfl⟩
  refine (dkAt_apply R t.val t.isLt u l).trans ?_
  rw [ht, Finset.sum_range, Data.sum_ck]
  unfold gk
  blk_simp [ix_6 t, c0 t, c1 t]
  have e1 : (t.val / 66 * 128 + l.val) / 128 = t.val / 66 := by omega
  have e2 : (t.val / 66 * 128 + l.val) % 128 = l.val := by omega
  rw [e1, e2]

theorem final_v : (dats (F := Ideal) m 0 c).arrAt 7 cfg0.N = gv (dat m c) := by
  refine (dats m 0 c).arrAt_eq_of_covers 7 _ (by decide +kernel) fun t hf y => ?_
  have ht := (flush0_7 t).mp hf
  blk_simp
  rw [after_7]
  obtain ⟨u, l, rfl⟩ : ∃ (u : Fin 8448) (l : Fin 128), y = ix2 u l := ⟨y 0, y 1, funext fun a => by match a with | 0 => rfl | 1 => rfl⟩
  refine (dvAt_apply R t.val t.isLt u l).trans ?_
  rw [ht, Finset.sum_range, Data.sum_cv]
  unfold gv
  blk_simp [ix_7 t, c0 t, c1 t]
  have e1 : (t.val / 66 * 128 + l.val) / 128 = t.val / 66 := by omega
  have e2 : (t.val / 66 * 128 + l.val) % 128 = l.val := by omega
  rw [e1, e2]

theorem final_s : (dats (F := Ideal) m 0 c).arrAt 8 cfg0.N = gsk (dat m c) := by
  refine (dats m 0 c).arrAt_eq_of_covers 8 _ (by decide +kernel) fun t hf y => ?_
  have ht := (flush0_8 t).mp hf
  blk_simp
  rw [after_8]
  obtain ⟨u, l, rfl⟩ : ∃ (u : Fin 8) (l : Fin 128), y = ix2 u l := ⟨y 0, y 1, funext fun a => by match a with | 0 => rfl | 1 => rfl⟩
  refine (dsAt_apply R t.val t.isLt u l).trans ?_
  rw [ht, Finset.sum_range]
  unfold gsk
  blk_simp [ix_8 t, c0 t, c1 t]
  have e1 : (t.val / 66 * 8 + u.val) / 8 = t.val / 66 := by omega
  rw [e1]
  congr 1
  by_cases h : l.val < 4
  · simp only [if_pos h]
    exact Data.sum_cs _ _ ⟨l.val, h⟩
  · simp only [if_neg h, Finset.sum_const_zero]

end Cert.KernelIdeal.Hand
end
-- ==== Proof.Attn.Ref.lean ====
/-
  The reference's values: the masked softmax with its sink and the gradient of it, entry by entry over the reals.
-/
module

public import proofs.«01_k».proof.Proof.Gen.ReferenceIdeal.Read
public import proofs.«01_k».proof.Proof.Attn.Arrays
public import Idealize.ShloMosaic.Lib.Pointwise

@[expose] public section

set_option maxRecDepth 16384

noncomputable section

namespace Cert.ReferenceIdeal.Hand

open Cert.ReferenceIdeal Cert.ReferenceIdeal.Gen Cert.ReferenceIdeal.Read Cert.Attn
open Idealize.ShloMosaic Idealize.ShloMosaic.TcCoe

theorem sum_reals {n : ℕ} (f g : Fin n → EReal) (a b : Fin n → ℝ) (hf : ∀ d, f d = ((a d : ℝ) : EReal)) (hg : ∀ d, g d = ((b d : ℝ) : EReal)) :
    ∑ d, f d * g d = ((∑ d, a d * b d : ℝ) : EReal) := by
  rw [← coe_sum]
  exact Finset.sum_congr rfl fun d _ => by rw [hf, hg, EReal.coe_mul]

variable {x0 : FVec Ideal S8448x2048 .bf16} {x1 x2 : FVec Ideal S8448x512 .bf16} {x3 : FVec Ideal S16 .f32} {x4 : FVec Ideal S8448x2048 .bf16}
  (R : Reals x0 x1 x2 x3 x4)

/-! ### The inputs and the mask, at an index -/

theorem v17_apply (i j : Fin 8448) : val_main_v17 (F := Ideal) (ix2 i j) = BitVec.ofBool (decide (seen i.val j.val)) := by
  pointwise [val_main_v17, val_main_v16, val_main_v15, val_main_v14, val_main_c_1, val_main_v13, val_main_v12, val_main_v11, val_main_v10, val_main_v9, val_main_v8, val_main_v7, val_main_v6, val_main_c, val_main_c_0]
  have hi := i.isLt
  have hj := j.isLt
  rw [near_word _ _ (by omega) (by omega), show (256#32 : BitVec 32) = BitVec.ofNat 32 256 from rfl, slt_word _ _ (by omega) (by omega), sge_word _ _ (by omega) (by omega), and_decide, or_decide]
  congr 1

theorem v23_1_apply (h g : Fin 4) (i j : Fin 8448) : val_main_v23_1 (F := Ideal) (ix4 h g i j) = BitVec.ofBool (decide (seen i.val j.val)) := by
  refine Eq.trans ?_ (v17_apply i j)
  pointwise [val_main_v23_1, val_main_v22]

include R

theorem v4_apply (j : Fin 8448) (h : Fin 4) (d : Fin 128) : val_main_v4 (F := Ideal) x1 (ix3 j h d) = (((ofArrays x0 x1 x2 x3 x4).K j.val (128 * h.val + d.val) : ℝ) : EReal) := by
  rw [← R.k j.val (128 * h.val + d.val) j.isLt (by omega)]
  pointwise [val_main_v4, val_main_v1]
  congr 3
  omega

theorem v5_apply (j : Fin 8448) (h : Fin 4) (d : Fin 128) : val_main_v5 (F := Ideal) x2 (ix3 j h d) = (((ofArrays x0 x1 x2 x3 x4).V j.val (128 * h.val + d.val) : ℝ) : EReal) := by
  rw [← R.v j.val (128 * h.val + d.val) j.isLt (by omega)]
  pointwise [val_main_v5, val_main_v2]
  congr 3
  omega

theorem v3_apply (i : Fin 8448) (h g : Fin 4) (d : Fin 128) : val_main_v3 (F := Ideal) x0 (ix4 i h g d) = (((ofArrays x0 x1 x2 x3 x4).Q i.val (512 * h.val + 128 * g.val + d.val) : ℝ) : EReal) := by
  rw [← R.q i.val (512 * h.val + 128 * g.val + d.val) i.isLt (by omega)]
  pointwise [val_main_v3, val_main_v0]
  congr 3
  omega

theorem v63_apply (i : Fin 8448) (h g : Fin 4) (d : Fin 128) : val_main_v63 (F := Ideal) x4 (ix4 h d g i) = (((ofArrays x0 x1 x2 x3 x4).D i.val (512 * h.val + 128 * g.val + d.val) : ℝ) : EReal) := by
  rw [← R.o i.val (512 * h.val + 128 * g.val + d.val) i.isLt (by omega)]
  pointwise [val_main_v63, val_main_v62, val_main_v61]
  congr 3
  omega

/-! ### The scores and the softmax -/

theorem v23_apply (h g : Fin 4) (i j : Fin 8448) : val_main_v23_0 (F := Ideal) x0 x1 (ix4 h g i j)
    = if seen i.val j.val then (((ofArrays x0 x1 x2 x3 x4).sc h.val g.val i.val j.val : ℝ) : EReal) else ⊥ := by
  have e1 : val_main_v21 (F := Ideal) x0 x1 (ix4 h g i j) = (((ofArrays x0 x1 x2 x3 x4).sc h.val g.val i.val j.val : ℝ) : EReal) := by
    have e2 : val_main_v21 (F := Ideal) x0 x1 (ix4 h g i j)
        = (∑ d : Fin 128, val_main_v4 (F := Ideal) x1 (ix3 j h d) * val_main_v3 (F := Ideal) x0 (ix4 i h g d)) * Ideal.ofBits .f32 0x3DB504F3#32 := by
      pointwise [val_main_v21, val_main_v20, val_main_cst, val_main_v19, val_main_v18]
    rw [e2, sum_reals _ _ _ _ (fun d => v4_apply R j h d) (fun d => v3_apply R i h g d), lit_real, ← EReal.coe_mul]
    congr 2
    exact Finset.sum_congr rfl fun d _ => mul_comm _ _
  have e3 : val_main_v23_0 (F := Ideal) x0 x1 (ix4 h g i j)
      = Scalar.select (val_main_v23_1 (F := Ideal) (ix4 h g i j)) (val_main_v21 (F := Ideal) x0 x1 (ix4 h g i j)) (val_main_call0_v2 (F := Ideal) (ix4 h g i j)) := rfl
  have e4 : val_main_call0_v2 (F := Ideal) (ix4 h g i j) = ⊥ := by
    refine Eq.trans ?_ ninf
    pointwise [val_main_call0_v2]
    rfl
  rw [e3, v23_1_apply, sel_decide, e1, e4]

/-- The numerators of a row, the sink's the last. -/
def num (A : Data) (h g i j : ℕ) : ℝ := if j < 8448 then A.ex h g i j else Real.exp (A.sk (4 * h + g))
/-- The cotangent of a row's probabilities, the sink's zero. -/
def cot (A : Data) (h g i j : ℕ) : ℝ := if j < 8448 then A.dp h g i j else 0

omit R in
theorem sum_num (A : Data) (h g i : ℕ) : ∑ j : Fin 8449, num A h g i j.val = A.Z h g i := by
  rw [Fin.sum_univ_castSucc]
  unfold num Data.Z
  refine congrArg₂ (· + ·) (Finset.sum_congr rfl fun j _ => if_pos j.isLt) (if_neg (lt_irrefl _))

theorem v26_apply (h g : Fin 4) (i : Fin 8448) (j : Fin 8449) : val_main_v26 (F := Ideal) x0 x1 x3 (ix4 h g i j)
    = if j.val < 8448 then (if seen i.val j.val then (((ofArrays x0 x1 x2 x3 x4).sc h.val g.val i.val j.val : ℝ) : EReal) else ⊥)
      else (((ofArrays x0 x1 x2 x3 x4).sk (4 * h.val + g.val) : ℝ) : EReal) := by
  have e : val_main_v26 (F := Ideal) x0 x1 x3 (ix4 h g i j)
      = if hj : j.val < 8448 then val_main_v23_0 (F := Ideal) x0 x1 (ix4 h g i ⟨j.val, hj⟩) else x3 (ix1 ⟨h.val * 4 + g.val, by omega⟩) := by
    pointwise [val_main_v26, val_main_v25, val_main_v24]
  rw [e]
  by_cases hj : j.val < 8448
  · rw [dif_pos hj, if_pos hj, v23_apply R]
  · rw [dif_neg hj, if_neg hj, R.s (h.val * 4 + g.val) (by omega), Nat.mul_comm]

omit R in
theorem fold_word (s : Finset S4x4x8448x8449.Idx) (y : S4x4x8448x8449.Idx → EReal) (b : EReal) (hb : b = ⊥) :
    Finset.fold (FloatOps.maximumf (F := Ideal) (φ := .f32)) b y s = Finset.fold max (⊥ : EReal) y s := by
  rw [hb]
  rfl

omit R in
theorem drop_last (h g : Fin 4) (i : Fin 8448) (k : Fin 8449) : reducesTo_S4x4x8448x8449_S4x4x8448_d3.drop (ix4 h g i k) = ix3 h g i :=
  funext fun a => Fin.ext (by match a with | 0 => rfl | 1 => rfl | 2 => rfl)

omit R in
theorem v27_fold (h g : Fin 4) (i : Fin 8448) : val_main_v27 (F := Ideal) x0 x1 x3 (ix3 h g i)
    = Finset.fold max (⊥ : EReal) (val_main_v26 (F := Ideal) x0 x1 x3) {y | reducesTo_S4x4x8448x8449_S4x4x8448_d3.drop y = ix3 h g i} := by
  unfold val_main_v27
  generalize val_main_v26 (F := Ideal) x0 x1 x3 = y
  rw [Host.reduce_eq_fold]
  exact fold_word _ y _ ninf

theorem v26_ne_top (y : S4x4x8448x8449.Idx) : val_main_v26 (F := Ideal) x0 x1 x3 y ≠ ⊤ := by
  have ey : y = ix4 (y 0) (y 1) (y 2) (y 3) := funext fun a => by match a with | 0 => rfl | 1 => rfl | 2 => rfl | 3 => rfl
  rw [ey]
  refine ne_of_eq_of_ne (v26_apply R (y 0) (y 1) (y 2) (y 3)) ?_
  split_ifs
  · exact EReal.coe_ne_top _
  · exact bot_ne_top
  · exact EReal.coe_ne_top _

omit R in
/-- The largest of a set of values none of which is plus infinity and one of which is a number is a number. -/
theorem fold_max_real (s : Finset S4x4x8448x8449.Idx) (y : S4x4x8448x8449.Idx → EReal) (hy : ∀ k, y k ≠ ⊤) (k : S4x4x8448x8449.Idx) (hk : k ∈ s)
    (r : ℝ) (hr : y k = (r : EReal)) : ∃ M : ℝ, Finset.fold max (⊥ : EReal) y s = (M : EReal) := by
  refine ⟨_, (EReal.coe_toReal (fold_max_ne_top _ _ fun k _ => hy k) ?_).symm⟩
  intro hb
  have hle : y k ≤ ⊥ := hb ▸ (Finset.le_fold_max _).mpr (Or.inr ⟨_, hk, le_rfl⟩)
  rw [hr] at hle
  exact EReal.coe_ne_bot _ (le_bot_iff.mp hle)

omit R in
theorem max_word (a b : EReal) : FloatOps.maximumf (F := Ideal) (φ := .f32) a b = max a b := rfl

omit R in
theorem v33_bot (i : S4x4x8448.Idx) : val_main_v33 (F := Ideal) i = (⊥ : EReal) := by
  rw [val_main_v33_apply]
  exact ninf

theorem v34_real (h g : Fin 4) (i : Fin 8448) : ∃ M : ℝ, val_main_v34 (F := Ideal) x0 x1 x3 (ix3 h g i) = (M : EReal) := by
  rw [val_main_v34_apply, max_word, v33_bot, max_eq_right bot_le, v27_fold]
  have hk : ¬ ((⟨8448, by omega⟩ : Fin 8449).val < 8448) := lt_irrefl _
  refine fold_max_real _ _ (v26_ne_top R) (ix4 h g i ⟨8448, by omega⟩) ?_ _ ((v26_apply R h g i ⟨8448, by omega⟩).trans (if_neg hk))
  rw [Finset.mem_filter]
  exact ⟨Finset.mem_univ _, drop_last h g i _⟩

omit R in
theorem v48_sum (h g : Fin 4) (i : Fin 8448) : val_main_v48 (F := Ideal) x0 x1 x3 (ix3 h g i) = ∑ k : Fin 8449, val_main_v47 (F := Ideal) x0 x1 x3 (ix4 h g i k) := by
  rw [val_main_v48_apply]
  refine (congrArg (· + _) Ideal.ofBits_zero_f32).trans ((zero_add _).trans (Finset.sum_congr rfl fun k _ => congrArg _ (funext fun a => ?_)))
  match a with | 0 => rfl | 1 => rfl | 2 => rfl | 3 => rfl

/-- The numerators of a row as the reference has them, all by the one factor, and their sum. -/
theorem row (h g : Fin 4) (i : Fin 8448) : ∃ c : ℝ, 0 < c
    ∧ (∀ j : Fin 8449, val_main_v47 (F := Ideal) x0 x1 x3 (ix4 h g i j) = ((num (ofArrays x0 x1 x2 x3 x4) h.val g.val i.val j.val * c : ℝ) : EReal))
    ∧ val_main_v48 (F := Ideal) x0 x1 x3 (ix3 h g i) = (((ofArrays x0 x1 x2 x3 x4).Z h.val g.val i.val * c : ℝ) : EReal) := by
  obtain ⟨M, hM⟩ := v34_real R h g i
  have k : ∀ j : Fin 8449, val_main_v47 (F := Ideal) x0 x1 x3 (ix4 h g i j) = ((num (ofArrays x0 x1 x2 x3 x4) h.val g.val i.val j.val * Real.exp (-M) : ℝ) : EReal) := fun j => by
    have e45 : val_main_v45 (F := Ideal) x0 x1 x3 (ix4 h g i j) = (M : EReal) := by
      rw [val_main_v45_apply, val_main_v44_apply, ← hM]
      exact congrArg _ (funext fun a => by match a with | 0 => rfl | 1 => rfl | 2 => rfl)
    have e47 : val_main_v47 (F := Ideal) x0 x1 x3 (ix4 h g i j) = Ideal.exp (val_main_v26 (F := Ideal) x0 x1 x3 (ix4 h g i j) - val_main_v45 (F := Ideal) x0 x1 x3 (ix4 h g i j)) := rfl
    rw [e47, e45, v26_apply R]
    unfold num Data.ex
    by_cases hj : j.val < 8448
    · rw [if_pos hj, if_pos hj]
      by_cases hs : seen i.val j.val
      · rw [if_pos hs, if_pos hs, ← EReal.coe_sub, exp_coe, sub_eq_add_neg, Real.exp_add]
      · rw [if_neg hs, if_neg hs, bot_sub_coe, exp_bot, zero_mul, EReal.coe_zero]
    · rw [if_neg hj, if_neg hj, ← EReal.coe_sub, exp_coe, sub_eq_add_neg, Real.exp_add]
  refine ⟨Real.exp (-M), Real.exp_pos _, k, ?_⟩
  rw [v48_sum, ← sum_num, Finset.sum_mul, ← coe_sum]
  exact Finset.sum_congr rfl fun j _ => k j

omit R in
theorem v49_apply (h g : Fin 4) (i : Fin 8448) : val_main_v49 (F := Ideal) x0 x1 x3 (ix4 h g i 0) = val_main_v48 (F := Ideal) x0 x1 x3 (ix3 h g i) := by
  rw [val_main_v49_apply]
  exact congrArg _ (funext fun a => by match a with | 0 => rfl | 1 => rfl | 2 => rfl)

omit R in
theorem v50_apply (h g : Fin 4) (i : Fin 8448) (j : Fin 8449) : val_main_v50 (F := Ideal) x0 x1 x3 (ix4 h g i j) = val_main_v48 (F := Ideal) x0 x1 x3 (ix3 h g i) := by
  rw [← v49_apply, val_main_v50_apply]
  exact congrArg _ (funext fun a => by match a with | 0 => rfl | 1 => rfl | 2 => rfl | 3 => rfl)

omit R in
theorem v76_apply (h g : Fin 4) (i : Fin 8448) (j : Fin 8449) : val_main_v76 (F := Ideal) x0 x1 x3 (ix4 h g i j) = val_main_v48 (F := Ideal) x0 x1 x3 (ix3 h g i) := by
  rw [← v49_apply, val_main_v76_apply]
  exact congrArg _ (funext fun a => by match a with | 0 => rfl | 1 => rfl | 2 => rfl | 3 => rfl)

omit R in
theorem v70_apply (h g : Fin 4) (i : Fin 8448) (j : Fin 8449) : val_main_v70 (F := Ideal) x0 x1 x3 (ix4 h g i j)
    = Ideal.div (Ideal.ofBits .f32 0x3F800000#32) (val_main_v48 (F := Ideal) x0 x1 x3 (ix3 h g i) * val_main_v48 (F := Ideal) x0 x1 x3 (ix3 h g i)) := by
  rw [← v49_apply, val_main_v70_apply]
  have e : (idx_main_v70 (ix4 h g i j)) = ix4 h g i (0 : Fin 1) := funext fun a => by match a with | 0 => rfl | 1 => rfl | 2 => rfl | 3 => rfl
  rw [e]
  rfl

omit R in
theorem one_word : Ideal.ofBits .f32 0x3F800000#32 = ((1 : ℝ) : EReal) := by
  simp only [Ideal.ofBits, Ideal.ieee]
  simp
  rw [← EReal.coe_mul]
  norm_num

/-- The probabilities. -/
theorem v57_apply (h g : Fin 4) (i j : Fin 8448) : val_main_v57 (F := Ideal) x0 x1 x3 (ix4 h g i j) = (((ofArrays x0 x1 x2 x3 x4).p h.val g.val i.val j.val : ℝ) : EReal) := by
  obtain ⟨c, hc, h1, h2⟩ := row R h g i
  have hj := j.isLt
  have e : val_main_v57 (F := Ideal) x0 x1 x3 (ix4 h g i j) = val_main_v51 (F := Ideal) x0 x1 x3 (ix4 h g i (⟨j.val, by omega⟩ : Fin 8449)) := by
    pointwise [val_main_v57, val_main_v56, val_main_v55]
  have e2 : val_main_v51 (F := Ideal) x0 x1 x3 (ix4 h g i (⟨j.val, by omega⟩ : Fin 8449))
      = Ideal.div (val_main_v47 (F := Ideal) x0 x1 x3 (ix4 h g i (⟨j.val, by omega⟩ : Fin 8449))) (val_main_v50 (F := Ideal) x0 x1 x3 (ix4 h g i (⟨j.val, by omega⟩ : Fin 8449))) := rfl
  have hZ := (ofArrays x0 x1 x2 x3 x4).Z_ne h.val g.val i.val
  rw [e, e2, v50_apply, h1, h2, div_coe _ _ (mul_ne_zero hZ hc.ne')]
  congr 1
  unfold num Data.p
  rw [if_pos hj]
  field_simp

/-! ### The cotangents -/

theorem v64_apply (h g : Fin 4) (i j : Fin 8448) : val_main_v64 (F := Ideal) x2 x4 (ix4 h g i j) = (((ofArrays x0 x1 x2 x3 x4).dp h.val g.val i.val j.val : ℝ) : EReal) := by
  have e : val_main_v64 (F := Ideal) x2 x4 (ix4 h g i j) = ∑ d : Fin 128, val_main_v63 (F := Ideal) x4 (ix4 h d g i) * val_main_v5 (F := Ideal) x2 (ix3 j h d) := by
    pointwise [val_main_v64]
  rw [e, sum_reals _ _ _ _ (fun d => v63_apply R i h g d) (fun d => v5_apply R j h d)]
  rfl

theorem v69_apply (h g : Fin 4) (i : Fin 8448) (j : Fin 8449) : val_main_v69 (F := Ideal) x2 x4 (ix4 h g i j) = ((cot (ofArrays x0 x1 x2 x3 x4) h.val g.val i.val j.val : ℝ) : EReal) := by
  have e : val_main_v69 (F := Ideal) x2 x4 (ix4 h g i j) = if hj : j.val < 8448 then val_main_v64 (F := Ideal) x2 x4 (ix4 h g i ⟨j.val, hj⟩) else Ideal.ofBits .f32 0x00000000#32 := by
    pointwise [val_main_v69, val_main_v68, val_main_v67, val_main_cst_13]
  rw [e]
  unfold cot
  by_cases hj : j.val < 8448
  · rw [dif_pos hj, if_pos hj, v64_apply R]
  · rw [dif_neg hj, if_neg hj, Ideal.ofBits_zero_f32, EReal.coe_zero]

omit R in
theorem v73_sum (h g : Fin 4) (i : Fin 8448) : val_main_v73 (F := Ideal) x0 x1 x2 x3 x4 (ix3 h g i) = ∑ k : Fin 8449, val_main_v72 (F := Ideal) x0 x1 x2 x3 x4 (ix4 h g i k) := by
  rw [val_main_v73_apply]
  refine (congrArg (· + _) Ideal.ofBits_zero_f32).trans ((zero_add _).trans (Finset.sum_congr rfl fun k _ => congrArg _ (funext fun a => ?_)))
  match a with | 0 => rfl | 1 => rfl | 2 => rfl | 3 => rfl

omit R in
theorem v79_neg (h g : Fin 4) (i : Fin 8448) (j : Fin 8449) : val_main_v79 (F := Ideal) x0 x1 x2 x3 x4 (ix4 h g i j) = -val_main_v73 (F := Ideal) x0 x1 x2 x3 x4 (ix3 h g i) := by
  have e : val_main_v78 (F := Ideal) x0 x1 x2 x3 x4 (ix3 h g i) = -val_main_v73 (F := Ideal) x0 x1 x2 x3 x4 (ix3 h g i) := by
    pointwise [val_main_v78, val_main_v75, val_main_v74, val_main_cst_15]
    simp
  rw [val_main_v79_apply, ← e]
  exact congrArg _ (funext fun a => by match a with | 0 => rfl | 1 => rfl | 2 => rfl)

/-- The scores' cotangents before the mask and the scale, the sink's the last. -/
theorem v81_apply (h g : Fin 4) (i : Fin 8448) (j : Fin 8449) : val_main_v81 (F := Ideal) x0 x1 x2 x3 x4 (ix4 h g i j)
    = ((num (ofArrays x0 x1 x2 x3 x4) h.val g.val i.val j.val / (ofArrays x0 x1 x2 x3 x4).Z h.val g.val i.val
        * (cot (ofArrays x0 x1 x2 x3 x4) h.val g.val i.val j.val - (ofArrays x0 x1 x2 x3 x4).del h.val g.val i.val) : ℝ) : EReal) := by
  obtain ⟨c, hc, h1, h2⟩ := row R h g i
  have hZ := (ofArrays x0 x1 x2 x3 x4).Z_ne h.val g.val i.val
  have hZc := mul_ne_zero hZ hc.ne'
  have e70 : ∀ k : Fin 8449, val_main_v70 (F := Ideal) x0 x1 x3 (ix4 h g i k)
      = ((1 / ((ofArrays x0 x1 x2 x3 x4).Z h.val g.val i.val * c * ((ofArrays x0 x1 x2 x3 x4).Z h.val g.val i.val * c)) : ℝ) : EReal) := fun k => by
    rw [v70_apply, h2, ← EReal.coe_mul, one_word, div_coe _ _ (mul_ne_zero hZc hZc)]
  have e72 : ∀ k : Fin 8449, val_main_v72 (F := Ideal) x0 x1 x2 x3 x4 (ix4 h g i k)
      = ((cot (ofArrays x0 x1 x2 x3 x4) h.val g.val i.val k.val * (1 / ((ofArrays x0 x1 x2 x3 x4).Z h.val g.val i.val * c * ((ofArrays x0 x1 x2 x3 x4).Z h.val g.val i.val * c)))
          * (num (ofArrays x0 x1 x2 x3 x4) h.val g.val i.val k.val * c) : ℝ) : EReal) := fun k => by
    have e : val_main_v72 (F := Ideal) x0 x1 x2 x3 x4 (ix4 h g i k)
        = val_main_v69 (F := Ideal) x2 x4 (ix4 h g i k) * val_main_v70 (F := Ideal) x0 x1 x3 (ix4 h g i k) * val_main_v47 (F := Ideal) x0 x1 x3 (ix4 h g i k) := rfl
    rw [e, v69_apply R, e70, h1, ← EReal.coe_mul, ← EReal.coe_mul]
  have e73 : val_main_v73 (F := Ideal) x0 x1 x2 x3 x4 (ix3 h g i)
      = (((ofArrays x0 x1 x2 x3 x4).del h.val g.val i.val / ((ofArrays x0 x1 x2 x3 x4).Z h.val g.val i.val * c) : ℝ) : EReal) := by
    rw [v73_sum, Finset.sum_congr rfl fun k _ => e72 k, coe_sum, Fin.sum_univ_castSucc]
    congr 1
    unfold cot num
    simp only [Fin.val_castSucc, Fin.val_last, Fin.is_lt, if_true, lt_irrefl, if_false, zero_mul, add_zero]
    unfold Data.del
    rw [Finset.sum_div]
    refine Finset.sum_congr rfl fun k _ => ?_
    unfold Data.p
    field_simp
  have e77 : val_main_v77 (F := Ideal) x0 x1 x2 x3 x4 (ix4 h g i j)
      = ((cot (ofArrays x0 x1 x2 x3 x4) h.val g.val i.val j.val / ((ofArrays x0 x1 x2 x3 x4).Z h.val g.val i.val * c) : ℝ) : EReal) := by
    have e : val_main_v77 (F := Ideal) x0 x1 x2 x3 x4 (ix4 h g i j) = Ideal.div (val_main_v69 (F := Ideal) x2 x4 (ix4 h g i j)) (val_main_v76 (F := Ideal) x0 x1 x3 (ix4 h g i j)) := rfl
    rw [e, v76_apply, v69_apply R, h2, div_coe _ _ hZc]
  have e81 : val_main_v81 (F := Ideal) x0 x1 x2 x3 x4 (ix4 h g i j)
      = (val_main_v77 (F := Ideal) x0 x1 x2 x3 x4 (ix4 h g i j) + val_main_v79 (F := Ideal) x0 x1 x2 x3 x4 (ix4 h g i j)) * val_main_v47 (F := Ideal) x0 x1 x3 (ix4 h g i j) := rfl
  rw [e81, e77, v79_neg, e73, h1, ← EReal.coe_neg, ← EReal.coe_add, ← EReal.coe_mul]
  congr 1
  field_simp
  ring

/-- The scores' cotangents. -/
theorem v89_apply (h g : Fin 4) (i j : Fin 8448) : val_main_v89 (F := Ideal) x0 x1 x2 x3 x4 (ix4 h g i j) = (((ofArrays x0 x1 x2 x3 x4).gs h.val g.val i.val j.val : ℝ) : EReal) := by
  have hj := j.isLt
  have e82 : val_main_v82 (F := Ideal) x0 x1 x2 x3 x4 (ix4 h g i j) = val_main_v81 (F := Ideal) x0 x1 x2 x3 x4 (ix4 h g i (⟨j.val, by omega⟩ : Fin 8449)) := by
    pointwise [val_main_v82]
  have e88 : val_main_v88 (F := Ideal) (ix4 h g i j) = Ideal.ofBits .f32 0x3DB504F3#32 := by
    pointwise [val_main_v88]
    rfl
  have e0 : val_main_call1_v0 (F := Ideal) (ix4 h g i j) = 0 := by
    refine Eq.trans ?_ Ideal.ofBits_zero_f32
    pointwise [val_main_call1_v0, val_main_call1_cst]
  have e : val_main_v89 (F := Ideal) x0 x1 x2 x3 x4 (ix4 h g i j)
      = Scalar.select (val_main_v23_1 (F := Ideal) (ix4 h g i j)) (val_main_v82 (F := Ideal) x0 x1 x2 x3 x4 (ix4 h g i j)) (val_main_call1_v0 (F := Ideal) (ix4 h g i j))
        * val_main_v88 (F := Ideal) (ix4 h g i j) := rfl
  rw [e, e82, e88, e0, v23_1_apply, sel_decide, v81_apply R, lit_real]
  unfold num cot
  simp only [hj, if_true]
  by_cases hs : seen i.val j.val
  · rw [if_pos hs, ← EReal.coe_mul]
    rfl
  · rw [if_neg hs, (ofArrays x0 x1 x2 x3 x4).gs_off hs, zero_mul, EReal.coe_zero]

/-- The sinks' gradient. -/
theorem v84_apply (h g : Fin 4) : val_main_v84 (F := Ideal) x0 x1 x2 x3 x4 (ix2 h g) = (((ofArrays x0 x1 x2 x3 x4).dsk h.val g.val : ℝ) : EReal) := by
  have e : val_main_v84 (F := Ideal) x0 x1 x2 x3 x4 (ix2 h g) = ∑ i : Fin 8448, val_main_v81 (F := Ideal) x0 x1 x2 x3 x4 (ix4 h g i (8448 : Fin 8449)) := by
    pointwise [val_main_v84, val_main_cst_16, val_main_v83]
    simp
  rw [e, Finset.sum_congr rfl fun i _ => v81_apply R h g i 8448, coe_sum]
  congr 1
  refine Finset.sum_congr rfl fun i _ => ?_
  unfold num cot Data.ps
  rw [if_neg (by decide), if_neg (by decide)]
  ring

/-! ### The four results -/

theorem v97_apply (a : Fin 8448) (l : Fin 2048) : val_main_v97 (F := Ideal) x0 x1 x2 x3 x4 (ix2 a l)
    = (((ofArrays x0 x1 x2 x3 x4).dq (l.val / 512) (l.val % 512 / 128) a.val (l.val % 128) : ℝ) : EReal) := by
  have hl := l.isLt
  have e : val_main_v97 (F := Ideal) x0 x1 x2 x3 x4 (ix2 a l)
      = ∑ j : Fin 8448, val_main_v89 (F := Ideal) x0 x1 x2 x3 x4 (ix4 ⟨l.val / 512, by omega⟩ ⟨l.val % 512 / 128, by omega⟩ a j)
          * val_main_v4 (F := Ideal) x1 (ix3 j ⟨l.val / 512, by omega⟩ ⟨l.val % 128, by omega⟩) := by
    pointwise [val_main_v97, val_main_v92, val_main_v91, val_main_v90]
    have e1 : l.val / 128 % 4 = l.val % 512 / 128 := by omega
    simp only [e1]
  rw [e, sum_reals _ _ _ _ (fun j => v89_apply R _ _ a j) (fun j => v4_apply R j _ _)]
  rfl

theorem v96_apply (a : Fin 8448) (l : Fin 512) : val_main_v96 (F := Ideal) x0 x1 x2 x3 x4 (ix2 a l)
    = (((ofArrays x0 x1 x2 x3 x4).dk (l.val / 128) a.val (l.val % 128) : ℝ) : EReal) := by
  have hl := l.isLt
  have e : val_main_v96 (F := Ideal) x0 x1 x2 x3 x4 (ix2 a l)
      = ∑ i : Fin 8448, ∑ g : Fin 4, val_main_v89 (F := Ideal) x0 x1 x2 x3 x4 (ix4 ⟨l.val / 128, by omega⟩ g i a)
          * val_main_v3 (F := Ideal) x0 (ix4 i ⟨l.val / 128, by omega⟩ g ⟨l.val % 128, by omega⟩) := by
    pointwise [val_main_v96, val_main_v94, val_main_v93, val_main_v90]
  rw [e, Finset.sum_comm]
  unfold Data.dk
  rw [← coe_sum]
  exact Finset.sum_congr rfl fun g _ => sum_reals _ _ _ _ (fun i => v89_apply R _ g i a) (fun i => v3_apply R i _ g _)

theorem v95_apply (a : Fin 8448) (l : Fin 512) : val_main_v95 (F := Ideal) x0 x1 x3 x4 (ix2 a l)
    = (((ofArrays x0 x1 x2 x3 x4).dv (l.val / 128) a.val (l.val % 128) : ℝ) : EReal) := by
  have hl := l.isLt
  have e : val_main_v95 (F := Ideal) x0 x1 x3 x4 (ix2 a l)
      = ∑ g : Fin 4, ∑ i : Fin 8448, val_main_v57 (F := Ideal) x0 x1 x3 (ix4 ⟨l.val / 128, by omega⟩ g i a)
          * val_main_v63 (F := Ideal) x4 (ix4 ⟨l.val / 128, by omega⟩ ⟨l.val % 128, by omega⟩ g i) := by
    pointwise [val_main_v95, val_main_v66, val_main_v65]
    exact Finset.sum_congr rfl fun g _ => Finset.sum_congr rfl fun i _ => mul_comm _ _
  rw [e]
  unfold Data.dv
  rw [← coe_sum]
  exact Finset.sum_congr rfl fun g _ => sum_reals _ _ _ _ (fun i => v57_apply R _ g i a) (fun i => v63_apply R i _ g _)

theorem v101_apply (a : Fin 32) (l : Fin 128) : val_main_v101 (F := Ideal) x0 x1 x2 x3 x4 (ix2 a l)
    = ((if l.val < 4 then (ofArrays x0 x1 x2 x3 x4).dsk (a.val / 8) l.val else 0 : ℝ) : EReal) := by
  have ha := a.isLt
  have e : val_main_v101 (F := Ideal) x0 x1 x2 x3 x4 (ix2 a l)
      = if hl : a.val / 8 < 4 ∧ l.val < 4 then val_main_v84 (F := Ideal) x0 x1 x2 x3 x4 (ix2 ⟨a.val / 8, hl.1⟩ ⟨l.val, hl.2⟩) else 0 := by
    pointwise [val_main_v101, val_main_v100, val_main_v99, val_main_v98, val_main_v87, val_main_v86, val_main_v85, val_main_call2_v0, val_main_c_18]
    have e0 : FloatOps.sitofp (F := Ideal) .f32 0#32 = (0 : EReal) := by simp [FloatOps.sitofp]
    split_ifs
    · rfl
    · exact e0
  rw [e]
  by_cases hl : l.val < 4
  · rw [dif_pos ⟨by omega, hl⟩, if_pos hl, v84_apply R]
  · rw [dif_neg fun h => hl h.2, if_neg hl, EReal.coe_zero]

theorem result_v97 : val_main_v97 (F := Ideal) x0 x1 x2 x3 x4
    = fun x => (((ofArrays x0 x1 x2 x3 x4).dq ((x 1).val / 512) ((x 1).val % 512 / 128) (x 0).val ((x 1).val % 128) : ℝ) : EReal) :=
  funext fun x => by
    have ex : x = ix2 (x 0) (x 1) := funext fun a => by match a with | 0 => rfl | 1 => rfl
    exact (congrArg _ ex).trans (v97_apply R (x 0) (x 1))

theorem result_v96 : val_main_v96 (F := Ideal) x0 x1 x2 x3 x4
    = fun x => (((ofArrays x0 x1 x2 x3 x4).dk ((x 1).val / 128) (x 0).val ((x 1).val % 128) : ℝ) : EReal) :=
  funext fun x => by
    have ex : x = ix2 (x 0) (x 1) := funext fun a => by match a with | 0 => rfl | 1 => rfl
    exact (congrArg _ ex).trans (v96_apply R (x 0) (x 1))

theorem result_v95 : val_main_v95 (F := Ideal) x0 x1 x3 x4
    = fun x => (((ofArrays x0 x1 x2 x3 x4).dv ((x 1).val / 128) (x 0).val ((x 1).val % 128) : ℝ) : EReal) :=
  funext fun x => by
    have ex : x = ix2 (x 0) (x 1) := funext fun a => by match a with | 0 => rfl | 1 => rfl
    exact (congrArg _ ex).trans (v95_apply R (x 0) (x 1))

theorem result_v101 : val_main_v101 (F := Ideal) x0 x1 x2 x3 x4
    = fun x => ((if (x 1).val < 4 then (ofArrays x0 x1 x2 x3 x4).dsk ((x 0).val / 8) (x 1).val else 0 : ℝ) : EReal) :=
  funext fun x => by
    have ex : x = ix2 (x 0) (x 1) := funext fun a => by match a with | 0 => rfl | 1 => rfl
    exact (congrArg _ ex).trans (v101_apply R (x 0) (x 1))

end Cert.ReferenceIdeal.Hand
end
-- ==== Proof.Attn.Claim.lean ====
/-
  The gradient of the attention, kernel and reference: both end with the specification's arrays.
-/
module

public import proofs.«01_k».proof.Defs
public import proofs.«01_k».proof.Proof.Attn.Twin
public import proofs.«01_k».proof.Proof.Attn.Final
public import proofs.«01_k».proof.Proof.Attn.Ref
public import Idealize.ShloMosaic.Lib.Quiescent
public import Idealize.ShloMosaic.Lib.Claim

@[expose] public section

set_option maxRecDepth 16384
noncomputable section
namespace Cert.Attn
open Idealize.ShloMosaic Idealize.SL.Sem

theorem frame_ideal : Cert.quiescent_KernelIdeal := fun m ρ _ => KernelIdeal.Hand.frame (F := Ideal) m ρ

theorem frame_ideal_finite : Cert.quiescent_KernelIdeal_pre_finite := fun m ρ _ => KernelIdeal.Hand.frame (F := Ideal) m ρ

/-- The reference's run leaves its arguments, and it declares no counter. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run (Cert.ReferenceIdeal.defs (F := Ideal)) _ _).mono (fun r h => ⟨fun c => (h c).2.2.2.2, sem_eq_zero_of_no_sems rfl r.2⟩) (Cert.ReferenceIdeal.Value.run (F := Ideal) m g)

theorem frame_reference : Cert.quiescent_ReferenceIdeal := fun m g _ => reference_frame m g

theorem frame_reference_finite : Cert.quiescent_ReferenceIdeal_pre_finite := fun m g _ => reference_frame m g

/-- Equal arguments that hold real numbers: the two programs end with equal results. -/
theorem same : Cert.algebraic_KernelIdeal_ReferenceIdeal_pre_finite := fun m g m' g' hpre hagree => by
  have R : ∀ c, KernelIdeal.Hand.RealMem m c := fun c => reals_of_pre _ _ _ _ _ (hpre c)
  refine ⟨fun c => KernelIdeal.Hand.gq (KernelIdeal.Hand.dat m c), fun c => KernelIdeal.Hand.gk (KernelIdeal.Hand.dat m c),
    fun c => KernelIdeal.Hand.gv (KernelIdeal.Hand.dat m c), fun c => KernelIdeal.Hand.gsk (KernelIdeal.Hand.dat m c), ?_, ?_⟩
  · refine (θ_run (Cert.KernelIdeal.defs (F := Ideal)) _ _).mono (fun r h c => ?_)
      (θ_run_and (KernelIdeal.Hand.run_main (F := Ideal) m g) (KernelIdeal.Hand.frame (F := Ideal) m g))
    exact ⟨(h.1.1.out_eq c 5).trans (KernelIdeal.Hand.final_q (R c)), (h.1.1.out_eq c 6).trans (KernelIdeal.Hand.final_k (R c)),
      (h.1.1.out_eq c 7).trans (KernelIdeal.Hand.final_v (R c)), (h.1.1.out_eq c 8).trans (KernelIdeal.Hand.final_s (R c)), h.2.1 c⟩
  · refine (θ_run (Cert.ReferenceIdeal.defs (F := Ideal)) _ _).mono (fun r h c => ?_) (Cert.ReferenceIdeal.Value.run (F := Ideal) m' g')
    obtain ⟨h0, h1, h2, h3, ha⟩ := h c
    obtain ⟨a0, a1, a2, a3, a4⟩ := hagree c
    rw [ReferenceIdeal.Read.val_main_v97_eq, a0, a1, a2, a3, a4] at h0
    rw [ReferenceIdeal.Read.val_main_v96_eq, a0, a1, a2, a3, a4] at h1
    rw [ReferenceIdeal.Read.val_main_v95_eq, a0, a1, a3, a4] at h2
    rw [ReferenceIdeal.Read.val_main_v101_eq, a0, a1, a2, a3, a4] at h3
    exact ⟨h0.trans (ReferenceIdeal.Hand.result_v97 (R c)), h1.trans (ReferenceIdeal.Hand.result_v96 (R c)),
      h2.trans (ReferenceIdeal.Hand.result_v95 (R c)), h3.trans (ReferenceIdeal.Hand.result_v101 (R c)), ha⟩

end Cert.Attn
end
-- ==== Proof.Prod.Base.lean ====
/-
  Products summed block by block: arrays read at natural numbers, and the sum over a block added to the sum before it.
-/
module

public import Idealize.ShloMosaic.PureOps.Ideal.Laws
public import Idealize.ShloMosaic.Lib.ValueIdx
public import Idealize.ShloMosaic.Lib.Pointwise

@[expose] public section

noncomputable section

namespace Cert.Prod

open Idealize.ShloMosaic Idealize.ShloMosaic.Tactic

/-- A matrix at two natural numbers, nothing outside it. -/
def at2 {n k : ℕ} (x : (⟨2, ![n, k]⟩ : Shape).Idx → EReal) (i j : ℕ) : EReal :=
  if h : i < n ∧ j < k then x (ix2 ⟨i, h.1⟩ ⟨j, h.2⟩) else 0

/-- A stack of matrices at three. -/
def at3 {p n k : ℕ} (x : (⟨3, ![p, n, k]⟩ : Shape).Idx → EReal) (s i j : ℕ) : EReal :=
  if h : s < p ∧ i < n ∧ j < k then x (ix3 ⟨s, h.1⟩ ⟨i, h.2.1⟩ ⟨j, h.2.2⟩) else 0

theorem at2_lt {n k : ℕ} (x : (⟨2, ![n, k]⟩ : Shape).Idx → EReal) {i j : ℕ} (hi : i < n) (hj : j < k) :
    at2 x i j = x (ix2 ⟨i, hi⟩ ⟨j, hj⟩) := dif_pos ⟨hi, hj⟩

theorem at3_lt {p n k : ℕ} (x : (⟨3, ![p, n, k]⟩ : Shape).Idx → EReal) {s i j : ℕ} (hs : s < p) (hi : i < n) (hj : j < k) :
    at3 x s i j = x (ix3 ⟨s, hs⟩ ⟨i, hi⟩ ⟨j, hj⟩) := dif_pos ⟨hs, hi, hj⟩

theorem z2 : (![0, 0] : Fin 2 → ℕ) = fun _ => 0 := by decide
theorem z3 : (![0, 0, 0] : Fin 3 → ℕ) = fun _ => 0 := by decide

/-- The first block's sum. -/
theorem sum_first {b : ℕ} (f : ℕ → EReal) {n : ℕ} (hn : n = 0) :
    ∑ k : Fin b, f (n * b + k.val) = ∑ k ∈ Finset.range ((n + 1) * b), f k := by
  subst hn
  rw [show (0 + 1) * b = b by rw [Nat.zero_add, Nat.one_mul], Finset.sum_range]
  simp only [Nat.zero_mul, Nat.zero_add]

/-- One block's sum added to the sum of those before it. -/
theorem sum_next {b : ℕ} (f : ℕ → EReal) {n n' : ℕ} (hn : n' + 1 = n) :
    ∑ k ∈ Finset.range ((n' + 1) * b), f k + ∑ k : Fin b, f (n * b + k.val) = ∑ k ∈ Finset.range ((n + 1) * b), f k := by
  rw [hn, Nat.add_mul, Nat.one_mul, Finset.sum_range_add, Finset.sum_range fun x => f (n * b + x)]

/-- The shard that stands at the place `s`: a shard of the value, then the shard of its gate. -/
def perm (s : ℕ) : ℕ := s % 2 * 4 + s / 2

/-- Where the shard `s` stands. -/
def place (s : ℕ) : ℕ := s % 4 * 2 + s / 4

end Cert.Prod

end
-- ==== Proof.Prod.DownDx.lean ====
/-
  The gradient of the FFN's second product to its input: the array the call leaves, of the arrays it is handed.
-/
module

public import proofs.«01_k».proof.Proof.Prod.Base
public import proofs.«01_k».proof.Proof.Gen.DownDxIdeal.Frame
public import Idealize.ShloMosaic.Lib.Pipeline.ValueKit.Point

@[expose] public section

set_option maxRecDepth 16384

noncomputable section

namespace Cert.Prod.DownDx

open Idealize.ShloMosaic Idealize.ShloMosaic.Tactic Cert.Prod

/-- The row `r` of the first factor, and the column `s` of the second. -/
def A (x0 : (⟨2, ![8448, 2048]⟩ : Shape).Idx → EReal) (r k : ℕ) : EReal := at2 x0 r k
def B (x1 : (⟨2, ![5632, 2048]⟩ : Shape).Idx → EReal) (k s : ℕ) : EReal := at2 x1 s k

/-- The product. -/
def spec (x0 : (⟨2, ![8448, 2048]⟩ : Shape).Idx → EReal) (x1 : (⟨2, ![5632, 2048]⟩ : Shape).Idx → EReal) : (⟨2, ![8448, 5632]⟩ : Shape).Idx → EReal :=
  fun i => ∑ k ∈ Finset.range (1 * 2048), A x0 (i 0).val k * B x1 k (i 1).val

end Cert.Prod.DownDx

namespace Cert.DownDxIdeal.Hand

open Cert.DownDxIdeal Cert.DownDxIdeal.Gen Cert.Prod Cert.Prod.DownDx
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![t.val / 4, 0] := (by decide +kernel : ∀ t : Fin grid0.N, _)
theorem ix_1 : ∀ t : Fin cfg0.N, win0_1.index t = ![t.val % 4, 0] := (by decide +kernel : ∀ t : Fin grid0.N, _)
theorem ix_2 : ∀ t : Fin cfg0.N, win0_2.index t = ![t.val / 4, t.val % 4] := (by decide +kernel : ∀ t : Fin grid0.N, _)

def mA (r k : ℕ) : EReal := A (m ((c : Thread nD τ).loc main_arg0)) r k
def mB (k s : ℕ) : EReal := B (m ((c : Thread nD τ).loc main_arg1)) k s

theorem N_le (t : Fin cfg0.N) : t.val < 44 := t.isLt.trans_eq N_0

theorem blk_0 (t : Fin cfg0.N) (r : Fin 768) (k : Fin 2048) :
    iblk m c 0 t (ix2 r k) = mA m c (t.val / 4 * 768 + r.val) (0 * 2048 + k.val) := by
  have h := N_le t
  unfold mA A
  rw [at2_lt _ (by omega) (by omega)]
  blk_ext! [iblk, V, ix_0 t]

theorem blk_1 (t : Fin cfg0.N) (s : Fin 1408) (k : Fin 2048) :
    iblk m c 1 t (ix2 s k) = mB m c (0 * 2048 + k.val) (t.val % 4 * 1408 + s.val) := by
  have h := N_le t
  unfold mB B
  rw [at2_lt _ (by omega) (by omega)]
  blk_ext! [iblk, V, ix_1 t]

theorem pay1_apply (w : Vec Ideal S1408x2048 .bf16) (a : Vec Ideal S768x2048 .bf16) (r : Fin 768) (s : Fin 1408) :
    k0_pay1 (F := Ideal) w a (ix2 r s) = ∑ k : Fin 2048, a (ix2 r k) * w (ix2 s k) := by
  pointwise [k0_pay1]

theorem out_apply (t : Fin cfg0.N) (r : Fin 768) (s : Fin 1408) : out0_2 (iblk m c 0 t) (iblk m c 1 t) (ix2 r s)
    = ∑ k ∈ Finset.range (1 * 2048), mA m c (t.val / 4 * 768 + r.val) k * mB m c k (t.val % 4 * 1408 + s.val) := by
  unfold out0_2
  rw [View.canon_unit_zero (S := S768x1408) z2]
  simp only [View.ld_unit_zero (S := S768x2048) z2, View.ld_unit_zero (S := S1408x2048) z2]
  rw [pay1_apply]
  simp only [blk_0, blk_1]
  exact sum_first (fun k => mA m c (t.val / 4 * 768 + r.val) k * mB m c k (t.val % 4 * 1408 + s.val)) rfl

theorem final : (dats (F := Ideal) m 0 c).arrAt 2 cfg0.N = spec (m ((c : Thread nD τ).loc main_arg0)) (m ((c : Thread nD τ).loc main_arg1)) := by
  refine (dats m 0 c).arrAt_eq_of_covers 2 _ (by decide +kernel) fun t hf y => ?_
  have h := N_le t
  blk_simp
  rw [after0_2]
  obtain ⟨r, s, rfl⟩ : ∃ (r : Fin 768) (s : Fin 1408), y = ix2 r s := ⟨y 0, y 1, funext fun a => by match a with | 0 => rfl | 1 => rfl⟩
  refine (out_apply m c t r s).trans ?_
  unfold spec
  blk_simp [ix_2 t]
  rfl

end Cert.DownDxIdeal.Hand

end
-- ==== Proof.Prod.DownDxClaim.lean ====
/-
  The gradient of the FFN's second product to its input: kernel and reference end with the same array.
-/
module

public import proofs.«01_k».proof.Defs
public import proofs.«01_k».proof.Proof.Prod.DownDx
public import proofs.«01_k».proof.Proof.Gen.DownDx
public import proofs.«01_k».proof.Proof.Gen.DownDx.Frame
public import proofs.«01_k».proof.Proof.Gen.DownDxIdeal
public import proofs.«01_k».proof.Proof.Gen.DownDxRefIdeal.Run
public import proofs.«01_k».proof.Proof.Gen.DownDxRefIdeal.Read
public import Idealize.ShloMosaic.Lib.Quiescent
public import Idealize.ShloMosaic.Lib.Claim

@[expose] public section

set_option maxRecDepth 16384

noncomputable section

namespace Cert.DownDxRefIdeal.Hand

open Cert.DownDxRefIdeal Cert.DownDxRefIdeal.Gen Cert.DownDxRefIdeal.Read Cert.Prod Cert.Prod.DownDx
open Idealize.ShloMosaic Idealize.ShloMosaic.TcCoe Idealize.ShloMosaic.Tactic

theorem result (x0 : (⟨2, ![8448, 2048]⟩ : Shape).Idx → EReal) (x1 : (⟨2, ![5632, 2048]⟩ : Shape).Idx → EReal) : val_main_v5 (F := Ideal) x0 x1 = spec x0 x1 := by
  funext i
  have h0 : (i 0).val < 8448 := (i 0).isLt
  have h1 : (i 1).val < 5632 := (i 1).isLt
  simp only [val_main_v5_apply, val_main_v4_apply, val_main_v3_apply, val_main_v1_apply]
  show ∑ k : Fin 2048, x0 _ * x1 _ = _
  unfold spec
  rw [Finset.sum_range]
  refine Finset.sum_congr rfl fun k _ => ?_
  have hk : k.val < 2048 := k.isLt
  skip
  unfold A B
  refine congrArg₂ (· * ·) ?_ ?_
  · rw [at2_lt _ (by omega) (by omega)]
    exact congrArg x0 (funext fun a => Fin.ext (by
      match a with
      | ⟨0, _⟩ => first | rfl | (show _ = (i 0).val; (try dsimp only); omega)
      | ⟨1, _⟩ => first | rfl | (show _ = k.val; (try dsimp only); omega)))
  · rw [at2_lt _ (by omega) (by omega)]
    exact congrArg x1 (funext fun a => Fin.ext (by
      match a with
      | ⟨0, _⟩ => first | rfl | (show _ = (i 1).val; (try dsimp only); omega)
      | ⟨1, _⟩ => first | rfl | (show _ = k.val; (try dsimp only); omega)))

end Cert.DownDxRefIdeal.Hand

namespace Cert.Prod.DownDx

open Idealize.ShloMosaic Idealize.SL.Sem

theorem frame_ideal : Cert.quiescent_DownDxIdeal := fun m g _ => Cert.DownDxIdeal.Gen.frame (F := Ideal) m g

theorem frame_kernel : Cert.quiescent_DownDx := fun m g _ => Cert.DownDx.Gen.frame (F := Bits) m g

theorem frame_reference : Cert.quiescent_DownDxRefIdeal := fun m g _ =>
  (θ_run (Cert.DownDxRefIdeal.defs (F := Ideal)) _ _).mono (fun r h => ⟨fun c => (h c).2, sem_eq_zero_of_no_sems rfl r.2⟩) (Cert.DownDxRefIdeal.Value.run (F := Ideal) m g)

/-- From equal arguments the two programs end with equal results. -/
theorem same : Cert.algebraic_DownDxIdeal_DownDxRefIdeal := fun m g m' g' _ hagree => by
  refine ⟨fun c => spec (m ((c.tc : Thread Cert.DownDxIdeal.nD Cert.DownDxIdeal.τ).loc Cert.DownDxIdeal.main_arg0)) (m ((c.tc : Thread Cert.DownDxIdeal.nD Cert.DownDxIdeal.τ).loc Cert.DownDxIdeal.main_arg1)), ?_, ?_⟩
  · refine (θ_run (Cert.DownDxIdeal.defs (F := Ideal)) _ _).mono (fun r h c => ?_)
      (θ_run_and (Cert.DownDxIdeal.Gen.run_main (F := Ideal) m g) (Cert.DownDxIdeal.Gen.frame (F := Ideal) m g))
    exact ⟨(h.1.out_eq c 2).trans (Cert.DownDxIdeal.Hand.final m c), h.2.1 c⟩
  · refine (θ_run (Cert.DownDxRefIdeal.defs (F := Ideal)) _ _).mono (fun r h c => ?_) (Cert.DownDxRefIdeal.Value.run (F := Ideal) m' g')
    obtain ⟨h0, ha⟩ := h c
    obtain ⟨a0, a1⟩ := hagree c
    rw [Cert.DownDxRefIdeal.Read.val_main_v5_eq, a0, a1] at h0
    exact ⟨h0.trans (Cert.DownDxRefIdeal.Hand.result _ _), ha⟩

end Cert.Prod.DownDx

end
-- ==== Proof.Prod.DownDw.lean ====
/-
  The gradient of the FFN's second product to its weight: the array the call leaves, of the arrays it is handed.
-/
module

public import proofs.«01_k».proof.Proof.Prod.Base
public import proofs.«01_k».proof.Proof.Gen.DownDwIdeal.Frame
public import Idealize.ShloMosaic.Lib.Pipeline.ValueKit.Point

@[expose] public section

set_option maxRecDepth 16384

noncomputable section

namespace Cert.Prod.DownDw

open Idealize.ShloMosaic Idealize.ShloMosaic.Tactic Cert.Prod

/-- The row `r` of the first factor, and the column `s` of the second. -/
def A (x0 : (⟨2, ![8448, 5632]⟩ : Shape).Idx → EReal) (r k : ℕ) : EReal := at2 x0 k r
def B (x1 : (⟨2, ![8448, 2048]⟩ : Shape).Idx → EReal) (k s : ℕ) : EReal := at2 x1 k s

/-- The product. -/
def spec (x0 : (⟨2, ![8448, 5632]⟩ : Shape).Idx → EReal) (x1 : (⟨2, ![8448, 2048]⟩ : Shape).Idx → EReal) : (⟨2, ![5632, 2048]⟩ : Shape).Idx → EReal :=
  fun i => ∑ k ∈ Finset.range (2 * 4224), A x0 (i 0).val k * B x1 k (i 1).val

end Cert.Prod.DownDw

namespace Cert.DownDwIdeal.Hand

open Cert.DownDwIdeal Cert.DownDwIdeal.Gen Cert.Prod Cert.Prod.DownDw
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![t.val % 2, t.val / 4] := (by decide +kernel : ∀ t : Fin grid0.N, _)
theorem ix_1 : ∀ t : Fin cfg0.N, win0_1.index t = ![t.val % 2, t.val / 2 % 2] := (by decide +kernel : ∀ t : Fin grid0.N, _)
theorem ix_2 : ∀ t : Fin cfg0.N, win0_2.index t = ![t.val / 4, t.val / 2 % 2] := (by decide +kernel : ∀ t : Fin grid0.N, _)

def mA (r k : ℕ) : EReal := A (m ((c : Thread nD τ).loc main_arg0)) r k
def mB (k s : ℕ) : EReal := B (m ((c : Thread nD τ).loc main_arg1)) k s

theorem N_le (t : Fin cfg0.N) : t.val < 44 := t.isLt.trans_eq N_0

theorem blk_0 (t : Fin cfg0.N) (r : Fin 512) (k : Fin 4224) :
    iblk m c 0 t (ix2 k r) = mA m c (t.val / 4 * 512 + r.val) (t.val % 2 * 4224 + k.val) := by
  have h := N_le t
  unfold mA A
  rw [at2_lt _ (by omega) (by omega)]
  blk_ext! [iblk, V, ix_0 t]

theorem blk_1 (t : Fin cfg0.N) (s : Fin 1024) (k : Fin 4224) :
    iblk m c 1 t (ix2 k s) = mB m c (t.val % 2 * 4224 + k.val) (t.val / 2 % 2 * 1024 + s.val) := by
  have h := N_le t
  unfold mB B
  rw [at2_lt _ (by omega) (by omega)]
  blk_ext! [iblk, V, ix_1 t]

theorem pay1_apply (w : Vec Ideal S4224x1024 .bf16) (a : Vec Ideal S4224x512 .bf16) (r : Fin 512) (s : Fin 1024) :
    k0_pay1 (F := Ideal) w a (ix2 r s) = ∑ k : Fin 4224, a (ix2 k r) * w (ix2 k s) := by
  pointwise [k0_pay1]

theorem pay2_apply (w : Vec Ideal S4224x1024 .bf16) (a : Vec Ideal S4224x512 .bf16) (r : Fin 512) (s : Fin 1024) :
    k0_pay2 (F := Ideal) w a (ix2 r s) = ∑ k : Fin 4224, a (ix2 k r) * w (ix2 k s) := by
  pointwise [k0_pay2]
  exact pay1_apply w a r s

theorem pay3_apply (w : Vec Ideal S4224x1024 .bf16) (a : Vec Ideal S4224x512 .bf16) (x : Vec Ideal S512x1024 .f32) (r : Fin 512) (s : Fin 1024) :
    k0_pay3 (F := Ideal) w a x (ix2 r s) = x (ix2 r s) + ∑ k : Fin 4224, a (ix2 k r) * w (ix2 k s) := by
  pointwise [k0_pay3]
  rw [pay1_apply w a r s]

theorem pay4_apply (x : Vec Ideal S512x1024 .f32) (r : Fin 512) (s : Fin 1024) : k0_pay4 (F := Ideal) x (ix2 r s) = x (ix2 r s) := by
  pointwise [k0_pay4]

theorem scr_A (t : Fin cfg0.N) (h0 : t.val % 2 = 0) (h1 : ¬t.val % 2 = 1) (h2 : ¬t.val % 2 = 1) :
    (outsAt0 m c t.val t.isLt).2 = k0_pay2 (iblk m c 1 t) (iblk m c 0 t) := by
  rw [outsAt0_A m c t h0 h1 h2]
  dsimp only
  unfold sout0_A_0
  rw [View.read_writes_eq_canon _ _ _ (scover0_A_0 c _ _ _ _ _ _ _ _ _ _ _ _ _ _ )]
  unfold kernelRun0_A
  dsimp only
  sl_unfold_words
  simp only [View.readAt_eq_ld, (hs0_0 t).read_unread, (hs0_1 t).read_unread]
  simp only [View.canon_unit_zero (S := S512x1024) z2, View.ld_unit_zero (S := S4224x1024) z2, View.ld_unit_zero (S := S4224x512) z2,
    View.ld_unit_zero (S := S512x1024) z2, View.readCov_unit_zero (S := S512x1024) _ z2]

theorem out_last (t : Fin cfg0.N) (h0 : ¬t.val % 2 = 0) (h1 : t.val % 2 = 1) (h2 : t.val % 2 = 1) :
    (outsAt0 m c t.val t.isLt).1 = k0_pay4 (k0_pay3 (iblk m c 1 t) (iblk m c 0 t) (outsAt0 m c (t.val - 1) (Nat.lt_of_le_of_lt (Nat.sub_le _ _) t.isLt)).2) := by
  rw [outsAt0_B m c t h0 h1 h2]
  dsimp only
  unfold out0_B_2
  rw [View.read_writes_eq_canon _ _ _ (cover0_B_2 c _ _ _ _ _ _ _ _ _ _ _ _ _ _ _ )]
  unfold kernelRun0_B
  dsimp only
  sl_unfold_words
  simp only [View.readAt_eq_ld, (hs0_0 t).read_unread, (hs0_1 t).read_unread, (Memref.isWhole_whole cc0_scratch0).read_unread]
  simp only [View.canon_unit_zero (S := S512x1024) z2, View.canon_unit_zero (S := S512x1024) z2, View.ld_unit_zero (S := S4224x1024) z2, View.ld_unit_zero (S := S4224x512) z2,
    View.ld_unit_zero (S := S512x1024) z2, View.readCov_unit_zero (S := S512x1024) _ z2]

theorem scr_apply : ∀ (n : ℕ) (hn : n < cfg0.N), ¬n % 2 = 1 → ∀ (r : Fin 512) (s : Fin 1024), (outsAt0 m c n hn).2 (ix2 r s)
    = ∑ k ∈ Finset.range ((n % 2 + 1) * 4224), mA m c (n / 4 * 512 + r.val) k * mB m c k (n / 2 % 2 * 1024 + s.val) := by
  intro n
  induction n using Nat.strong_induction_on with
  | _ n ih =>
    intro hn h2 r s
    by_cases h : n % 2 = 0
    · refine (congrFun (scr_A m c ⟨n, hn⟩ h (by dsimp only; omega) h2) (ix2 r s)).trans ?_
      rw [pay2_apply]
      simp only [blk_0, blk_1]
      exact sum_first (fun k => mA m c (n / 4 * 512 + r.val) k * mB m c k (n / 2 % 2 * 1024 + s.val)) h
    · exact absurd h (by omega)

theorem out_apply (t : Fin cfg0.N) (h2 : t.val % 2 = 1) (r : Fin 512) (s : Fin 1024) : (outsAt0 m c t.val t.isLt).1 (ix2 r s)
    = ∑ k ∈ Finset.range (2 * 4224), mA m c (t.val / 4 * 512 + r.val) k * mB m c k (t.val / 2 % 2 * 1024 + s.val) := by
  refine (congrFun (out_last m c t (by omega) (by omega) h2) (ix2 r s)).trans ?_
  rw [pay4_apply, pay3_apply, scr_apply m c (t.val - 1) _ (by omega)]
  simp only [blk_0, blk_1]
  have e1 : (t.val - 1) / 4 = t.val / 4 := by omega
  have e2 : (t.val - 1) / 2 % 2 = t.val / 2 % 2 := by omega
  rw [e1, e2]
  refine (sum_next (fun k => mA m c (t.val / 4 * 512 + r.val) k * mB m c k (t.val / 2 % 2 * 1024 + s.val)) (by omega)).trans ?_
  rw [h2]

theorem final : (dats (F := Ideal) m 0 c).arrAt 2 cfg0.N = spec (m ((c : Thread nD τ).loc main_arg0)) (m ((c : Thread nD τ).loc main_arg1)) := by
  refine (dats m 0 c).arrAt_eq_of_covers 2 _ (by decide +kernel) fun t hf y => ?_
  have h := N_le t
  have h2 : t.val % 2 = 1 := (flush0_2 t).mp hf
  blk_simp
  rw [after0_2]
  obtain ⟨r, s, rfl⟩ : ∃ (r : Fin 512) (s : Fin 1024), y = ix2 r s := ⟨y 0, y 1, funext fun a => by match a with | 0 => rfl | 1 => rfl⟩
  refine (out_apply m c t h2 r s).trans ?_
  unfold spec
  blk_simp [ix_2 t]
  rfl

end Cert.DownDwIdeal.Hand

end
-- ==== Proof.Prod.DownDwClaim.lean ====
/-
  The gradient of the FFN's second product to its weight: kernel and reference end with the same array.
-/
module

public import proofs.«01_k».proof.Defs
public import proofs.«01_k».proof.Proof.Prod.DownDw
public import proofs.«01_k».proof.Proof.Gen.DownDw
public import proofs.«01_k».proof.Proof.Gen.DownDw.Frame
public import proofs.«01_k».proof.Proof.Gen.DownDwIdeal
public import proofs.«01_k».proof.Proof.Gen.DownDwRefIdeal.Run
public import proofs.«01_k».proof.Proof.Gen.DownDwRefIdeal.Read
public import Idealize.ShloMosaic.Lib.Quiescent
public import Idealize.ShloMosaic.Lib.Claim

@[expose] public section

set_option maxRecDepth 16384

noncomputable section

namespace Cert.DownDwRefIdeal.Hand

open Cert.DownDwRefIdeal Cert.DownDwRefIdeal.Gen Cert.DownDwRefIdeal.Read Cert.Prod Cert.Prod.DownDw
open Idealize.ShloMosaic Idealize.ShloMosaic.TcCoe Idealize.ShloMosaic.Tactic

theorem result (x0 : (⟨2, ![8448, 5632]⟩ : Shape).Idx → EReal) (x1 : (⟨2, ![8448, 2048]⟩ : Shape).Idx → EReal) : val_main_v6 (F := Ideal) x0 x1 = spec x0 x1 := by
  funext i
  have h0 : (i 0).val < 5632 := (i 0).isLt
  have h1 : (i 1).val < 2048 := (i 1).isLt
  simp only [val_main_v6_apply, val_main_v5_apply, val_main_v4_apply, val_main_v3_apply, val_main_v1_apply]
  show ∑ k : Fin 8448, x1 _ * x0 _ = _
  unfold spec
  rw [Finset.sum_range]
  refine Finset.sum_congr rfl fun k _ => ?_
  have hk : k.val < 8448 := k.isLt
  refine (mul_comm _ _).trans ?_
  unfold A B
  refine congrArg₂ (· * ·) ?_ ?_
  · rw [at2_lt _ (by omega) (by omega)]
    exact congrArg x0 (funext fun a => Fin.ext (by
      match a with
      | ⟨0, _⟩ => first | rfl | (show _ = k.val; (try dsimp only); omega)
      | ⟨1, _⟩ => first | rfl | (show _ = (i 0).val; (try dsimp only); omega)))
  · rw [at2_lt _ (by omega) (by omega)]
    exact congrArg x1 (funext fun a => Fin.ext (by
      match a with
      | ⟨0, _⟩ => first | rfl | (show _ = k.val; (try dsimp only); omega)
      | ⟨1, _⟩ => first | rfl | (show _ = (i 1).val; (try dsimp only); omega)))

end Cert.DownDwRefIdeal.Hand

namespace Cert.Prod.DownDw

open Idealize.ShloMosaic Idealize.SL.Sem

theorem frame_ideal : Cert.quiescent_DownDwIdeal := fun m g _ => Cert.DownDwIdeal.Gen.frame (F := Ideal) m g

theorem frame_kernel : Cert.quiescent_DownDw := fun m g _ => Cert.DownDw.Gen.frame (F := Bits) m g

theorem frame_reference : Cert.quiescent_DownDwRefIdeal := fun m g _ =>
  (θ_run (Cert.DownDwRefIdeal.defs (F := Ideal)) _ _).mono (fun r h => ⟨fun c => (h c).2, sem_eq_zero_of_no_sems rfl r.2⟩) (Cert.DownDwRefIdeal.Value.run (F := Ideal) m g)

/-- From equal arguments the two programs end with equal results. -/
theorem same : Cert.algebraic_DownDwIdeal_DownDwRefIdeal := fun m g m' g' _ hagree => by
  refine ⟨fun c => spec (m ((c.tc : Thread Cert.DownDwIdeal.nD Cert.DownDwIdeal.τ).loc Cert.DownDwIdeal.main_arg0)) (m ((c.tc : Thread Cert.DownDwIdeal.nD Cert.DownDwIdeal.τ).loc Cert.DownDwIdeal.main_arg1)), ?_, ?_⟩
  · refine (θ_run (Cert.DownDwIdeal.defs (F := Ideal)) _ _).mono (fun r h c => ?_)
      (θ_run_and (Cert.DownDwIdeal.Gen.run_main (F := Ideal) m g) (Cert.DownDwIdeal.Gen.frame (F := Ideal) m g))
    exact ⟨(h.1.out_eq c 2).trans (Cert.DownDwIdeal.Hand.final m c), h.2.1 c⟩
  · refine (θ_run (Cert.DownDwRefIdeal.defs (F := Ideal)) _ _).mono (fun r h c => ?_) (Cert.DownDwRefIdeal.Value.run (F := Ideal) m' g')
    obtain ⟨h0, ha⟩ := h c
    obtain ⟨a0, a1⟩ := hagree c
    rw [Cert.DownDwRefIdeal.Read.val_main_v6_eq, a0, a1] at h0
    exact ⟨h0.trans (Cert.DownDwRefIdeal.Hand.result _ _), ha⟩

end Cert.Prod.DownDw

end
-- ==== Proof.Prod.UpDx.lean ====
/-
  The gradient of the FFN's first product to its input: the array the call leaves, of the arrays it is handed.
-/
module

public import proofs.«01_k».proof.Proof.Prod.Base
public import proofs.«01_k».proof.Proof.Gen.UpDxIdeal.Frame
public import Idealize.ShloMosaic.Lib.Pipeline.ValueKit.Point

@[expose] public section

set_option maxRecDepth 16384

noncomputable section

namespace Cert.Prod.UpDx

open Idealize.ShloMosaic Idealize.ShloMosaic.Tactic Cert.Prod

/-- The row `r` of the first factor, and the column `s` of the second. -/
def A (x0 : (⟨2, ![8448, 11264]⟩ : Shape).Idx → EReal) (r k : ℕ) : EReal := at2 x0 r k
def B (x1 : (⟨3, ![8, 2048, 1408]⟩ : Shape).Idx → EReal) (k s : ℕ) : EReal := at3 x1 (perm (k / 1408)) s (k % 1408)

/-- The product. -/
def spec (x0 : (⟨2, ![8448, 11264]⟩ : Shape).Idx → EReal) (x1 : (⟨3, ![8, 2048, 1408]⟩ : Shape).Idx → EReal) : (⟨2, ![8448, 2048]⟩ : Shape).Idx → EReal :=
  fun i => ∑ k ∈ Finset.range (8 * 1408), A x0 (i 0).val k * B x1 k (i 1).val

end Cert.Prod.UpDx

namespace Cert.UpDxIdeal.Hand

open Cert.UpDxIdeal Cert.UpDxIdeal.Gen Cert.Prod Cert.Prod.UpDx
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![t.val / 16, t.val % 8] := (by decide +kernel : ∀ t : Fin grid0.N, _)
theorem ix_1 : ∀ t : Fin cfg0.N, win0_1.index t = ![perm (t.val % 8), t.val / 8 % 2, 0] := (by decide +kernel : ∀ t : Fin grid0.N, _)
theorem ix_2 : ∀ t : Fin cfg0.N, win0_2.index t = ![t.val / 16, t.val / 8 % 2] := (by decide +kernel : ∀ t : Fin grid0.N, _)

def mA (r k : ℕ) : EReal := A (m ((c : Thread nD τ).loc main_arg0)) r k
def mB (k s : ℕ) : EReal := B (m ((c : Thread nD τ).loc main_arg1)) k s

theorem N_le (t : Fin cfg0.N) : t.val < 176 := t.isLt.trans_eq N_0

theorem blk_0 (t : Fin cfg0.N) (r : Fin 768) (k : Fin 1408) :
    iblk m c 0 t (ix2 r k) = mA m c (t.val / 16 * 768 + r.val) (t.val % 8 * 1408 + k.val) := by
  have h := N_le t
  unfold mA A
  rw [at2_lt _ (by omega) (by omega)]
  blk_ext! [iblk, V, ix_0 t]

theorem blk_1 (t : Fin cfg0.N) (s : Fin 1024) (k : Fin 1408) :
    iblk m c 1 t (ix3 0 s k) = mB m c (t.val % 8 * 1408 + k.val) (t.val / 8 % 2 * 1024 + s.val) := by
  have h := N_le t
  have e1 : (t.val % 8 * 1408 + k.val) / 1408 = t.val % 8 := by omega
  have e2 : (t.val % 8 * 1408 + k.val) % 1408 = k.val := by omega
  unfold mB B
  rw [e1, e2, at3_lt _ (by unfold perm; omega) (by omega) (by omega)]
  blk_ext! [iblk, V, ix_1 t]

theorem pay1_apply (w : Vec Ideal S1x1024x1408 .bf16) (a : Vec Ideal S768x1408 .bf16) (r : Fin 768) (s : Fin 1024) :
    k0_pay1 (F := Ideal) w a (ix2 r s) = ∑ k : Fin 1408, a (ix2 r k) * w (ix3 0 s k) := by
  pointwise [k0_pay1]

theorem pay2_apply (w : Vec Ideal S1x1024x1408 .bf16) (a : Vec Ideal S768x1408 .bf16) (r : Fin 768) (s : Fin 1024) :
    k0_pay2 (F := Ideal) w a (ix2 r s) = ∑ k : Fin 1408, a (ix2 r k) * w (ix3 0 s k) := by
  pointwise [k0_pay2]
  exact pay1_apply w a r s

theorem pay3_apply (w : Vec Ideal S1x1024x1408 .bf16) (a : Vec Ideal S768x1408 .bf16) (x : Vec Ideal S768x1024 .f32) (r : Fin 768) (s : Fin 1024) :
    k0_pay3 (F := Ideal) w a x (ix2 r s) = x (ix2 r s) + ∑ k : Fin 1408, a (ix2 r k) * w (ix3 0 s k) := by
  pointwise [k0_pay3]
  rw [pay1_apply w a r s]

theorem pay4_apply (x : Vec Ideal S768x1024 .f32) (r : Fin 768) (s : Fin 1024) : k0_pay4 (F := Ideal) x (ix2 r s) = x (ix2 r s) := by
  pointwise [k0_pay4]

theorem scr_A (t : Fin cfg0.N) (h0 : t.val % 8 = 0) (h1 : ¬1 ≤ t.val % 8) (h2 : ¬t.val % 8 = 7) :
    (outsAt0 m c t.val t.isLt).2 = k0_pay2 (iblk m c 1 t) (iblk m c 0 t) := by
  rw [outsAt0_A m c t h0 h1 h2]
  dsimp only
  unfold sout0_A_0
  rw [View.read_writes_eq_canon _ _ _ (scover0_A_0 c _ _ _ _ _ _ _ _ _ _ _ _ _ _ )]
  unfold kernelRun0_A
  dsimp only
  sl_unfold_words
  simp only [View.readAt_eq_ld, (hs0_0 t).read_unread, (hs0_1 t).read_unread]
  simp only [View.canon_unit_zero (S := S768x1024) z2, View.ld_unit_zero (S := S1x1024x1408) z3, View.ld_unit_zero (S := S768x1408) z2,
    View.ld_unit_zero (S := S768x1024) z2, View.readCov_unit_zero (S := S768x1024) _ z2]

theorem scr_B (t : Fin cfg0.N) (h0 : ¬t.val % 8 = 0) (h1 : 1 ≤ t.val % 8) (h2 : ¬t.val % 8 = 7) :
    (outsAt0 m c t.val t.isLt).2 = k0_pay3 (iblk m c 1 t) (iblk m c 0 t) (outsAt0 m c (t.val - 1) (Nat.lt_of_le_of_lt (Nat.sub_le _ _) t.isLt)).2 := by
  rw [outsAt0_B m c t h0 h1 h2]
  dsimp only
  unfold sout0_B_0
  rw [View.read_writes_eq_canon _ _ _ (scover0_B_0 c _ _ _ _ _ _ _ _ _ _ _ _ _ _ _ )]
  unfold kernelRun0_B
  dsimp only
  sl_unfold_words
  simp only [View.readAt_eq_ld, (hs0_0 t).read_unread, (hs0_1 t).read_unread, (Memref.isWhole_whole cc0_scratch0).read_unread]
  simp only [View.canon_unit_zero (S := S768x1024) z2, View.canon_unit_zero (S := S768x1024) z2, View.ld_unit_zero (S := S1x1024x1408) z3, View.ld_unit_zero (S := S768x1408) z2,
    View.ld_unit_zero (S := S768x1024) z2, View.readCov_unit_zero (S := S768x1024) _ z2]

theorem out_last (t : Fin cfg0.N) (h0 : ¬t.val % 8 = 0) (h1 : 1 ≤ t.val % 8) (h2 : t.val % 8 = 7) :
    (outsAt0 m c t.val t.isLt).1 = k0_pay4 (k0_pay3 (iblk m c 1 t) (iblk m c 0 t) (outsAt0 m c (t.val - 1) (Nat.lt_of_le_of_lt (Nat.sub_le _ _) t.isLt)).2) := by
  rw [outsAt0_C m c t h0 h1 h2]
  dsimp only
  unfold out0_C_2
  rw [View.read_writes_eq_canon _ _ _ (cover0_C_2 c _ _ _ _ _ _ _ _ _ _ _ _ _ _ _ )]
  unfold kernelRun0_C
  dsimp only
  sl_unfold_words
  simp only [View.readAt_eq_ld, (hs0_0 t).read_unread, (hs0_1 t).read_unread, (Memref.isWhole_whole cc0_scratch0).read_unread]
  simp only [View.canon_unit_zero (S := S768x1024) z2, View.canon_unit_zero (S := S768x1024) z2, View.ld_unit_zero (S := S1x1024x1408) z3, View.ld_unit_zero (S := S768x1408) z2,
    View.ld_unit_zero (S := S768x1024) z2, View.readCov_unit_zero (S := S768x1024) _ z2]

theorem scr_apply : ∀ (n : ℕ) (hn : n < cfg0.N), ¬n % 8 = 7 → ∀ (r : Fin 768) (s : Fin 1024), (outsAt0 m c n hn).2 (ix2 r s)
    = ∑ k ∈ Finset.range ((n % 8 + 1) * 1408), mA m c (n / 16 * 768 + r.val) k * mB m c k (n / 8 % 2 * 1024 + s.val) := by
  intro n
  induction n using Nat.strong_induction_on with
  | _ n ih =>
    intro hn h2 r s
    by_cases h : n % 8 = 0
    · refine (congrFun (scr_A m c ⟨n, hn⟩ h (by dsimp only; omega) h2) (ix2 r s)).trans ?_
      rw [pay2_apply]
      simp only [blk_0, blk_1]
      exact sum_first (fun k => mA m c (n / 16 * 768 + r.val) k * mB m c k (n / 8 % 2 * 1024 + s.val)) h
    · refine (congrFun (scr_B m c ⟨n, hn⟩ h (by dsimp only; omega) h2) (ix2 r s)).trans ?_
      rw [pay3_apply]
      dsimp only
      rw [ih (n - 1) (by omega) _ (by omega)]
      simp only [blk_0, blk_1]
      have e1 : (n - 1) / 16 = n / 16 := by omega
      have e2 : (n - 1) / 8 % 2 = n / 8 % 2 := by omega
      rw [e1, e2]
      exact sum_next (fun k => mA m c (n / 16 * 768 + r.val) k * mB m c k (n / 8 % 2 * 1024 + s.val)) (by omega)

theorem out_apply (t : Fin cfg0.N) (h2 : t.val % 8 = 7) (r : Fin 768) (s : Fin 1024) : (outsAt0 m c t.val t.isLt).1 (ix2 r s)
    = ∑ k ∈ Finset.range (8 * 1408), mA m c (t.val / 16 * 768 + r.val) k * mB m c k (t.val / 8 % 2 * 1024 + s.val) := by
  refine (congrFun (out_last m c t (by omega) (by omega) h2) (ix2 r s)).trans ?_
  rw [pay4_apply, pay3_apply, scr_apply m c (t.val - 1) _ (by omega)]
  simp only [blk_0, blk_1]
  have e1 : (t.val - 1) / 16 = t.val / 16 := by omega
  have e2 : (t.val - 1) / 8 % 2 = t.val / 8 % 2 := by omega
  rw [e1, e2]
  refine (sum_next (fun k => mA m c (t.val / 16 * 768 + r.val) k * mB m c k (t.val / 8 % 2 * 1024 + s.val)) (by omega)).trans ?_
  rw [h2]

theorem final : (dats (F := Ideal) m 0 c).arrAt 2 cfg0.N = spec (m ((c : Thread nD τ).loc main_arg0)) (m ((c : Thread nD τ).loc main_arg1)) := by
  refine (dats m 0 c).arrAt_eq_of_covers 2 _ (by decide +kernel) fun t hf y => ?_
  have h := N_le t
  have h2 : t.val % 8 = 7 := (flush0_2 t).mp hf
  blk_simp
  rw [after0_2]
  obtain ⟨r, s, rfl⟩ : ∃ (r : Fin 768) (s : Fin 1024), y = ix2 r s := ⟨y 0, y 1, funext fun a => by match a with | 0 => rfl | 1 => rfl⟩
  refine (out_apply m c t h2 r s).trans ?_
  unfold spec
  blk_simp [ix_2 t]
  rfl

end Cert.UpDxIdeal.Hand

end
-- ==== Proof.Prod.UpDxClaim.lean ====
/-
  The gradient of the FFN's first product to its input: kernel and reference end with the same array.
-/
module

public import proofs.«01_k».proof.Defs
public import proofs.«01_k».proof.Proof.Prod.UpDx
public import proofs.«01_k».proof.Proof.Gen.UpDx
public import proofs.«01_k».proof.Proof.Gen.UpDx.Frame
public import proofs.«01_k».proof.Proof.Gen.UpDxIdeal
public import proofs.«01_k».proof.Proof.Gen.UpDxRefIdeal.Run
public import proofs.«01_k».proof.Proof.Gen.UpDxRefIdeal.Read
public import Idealize.ShloMosaic.Lib.Quiescent
public import Idealize.ShloMosaic.Lib.Claim

@[expose] public section

set_option maxRecDepth 16384

noncomputable section

namespace Cert.UpDxRefIdeal.Hand

open Cert.UpDxRefIdeal Cert.UpDxRefIdeal.Gen Cert.UpDxRefIdeal.Read Cert.Prod Cert.Prod.UpDx
open Idealize.ShloMosaic Idealize.ShloMosaic.TcCoe Idealize.ShloMosaic.Tactic

theorem result (x0 : (⟨2, ![8448, 11264]⟩ : Shape).Idx → EReal) (x1 : (⟨3, ![8, 2048, 1408]⟩ : Shape).Idx → EReal) : val_main_v8 (F := Ideal) x0 x1 = spec x0 x1 := by
  funext i
  have h0 : (i 0).val < 8448 := (i 0).isLt
  have h1 : (i 1).val < 2048 := (i 1).isLt
  simp only [val_main_v8_apply, val_main_v7_apply, val_main_v6_apply, val_main_v4_apply, val_main_v3_apply, val_main_v2_apply, val_main_v1_apply]
  show ∑ k : Fin 11264, x0 _ * x1 _ = _
  unfold spec
  rw [Finset.sum_range]
  refine Finset.sum_congr rfl fun k _ => ?_
  have hk : k.val < 11264 := k.isLt
  skip
  have e0 : ((i 1).val * 11264 + k.val) / 1408 % 2 = k.val / 1408 % 2 := by omega
  have e1 : ((i 1).val * 11264 + k.val) / 2816 % 4 = k.val / 1408 / 2 := by omega
  have e2 : ((i 1).val * 11264 + k.val) / 11264 = (i 1).val := by omega
  have e3 : ((i 1).val * 11264 + k.val) % 1408 = k.val % 1408 := by omega
  unfold A B
  refine congrArg₂ (· * ·) ?_ ?_
  · rw [at2_lt _ (by omega) (by omega)]
    exact congrArg x0 (funext fun a => Fin.ext (by
      match a with
      | ⟨0, _⟩ => first | rfl | (show _ = (i 0).val; (try simp only [perm, place, e0, e1, e2, e3]); omega)
      | ⟨1, _⟩ => first | rfl | (show _ = k.val; (try simp only [perm, place, e0, e1, e2, e3]); omega)))
  · rw [at3_lt _ (by first | omega | (simp only [perm, place]; omega)) (by first | omega | (simp only [perm, place]; omega)) (by first | omega | (simp only [perm, place]; omega))]
    exact congrArg x1 (funext fun a => Fin.ext (by
      match a with
      | ⟨0, _⟩ => first | rfl | (show _ = perm (k.val / 1408); (try simp only [perm, place, e0, e1, e2, e3]); omega)
      | ⟨1, _⟩ => first | rfl | (show _ = (i 1).val; (try simp only [perm, place, e0, e1, e2, e3]); omega)
      | ⟨2, _⟩ => first | rfl | (show _ = k.val % 1408; (try simp only [perm, place, e0, e1, e2, e3]); omega)))

end Cert.UpDxRefIdeal.Hand

namespace Cert.Prod.UpDx

open Idealize.ShloMosaic Idealize.SL.Sem

theorem frame_ideal : Cert.quiescent_UpDxIdeal := fun m g _ => Cert.UpDxIdeal.Gen.frame (F := Ideal) m g

theorem frame_kernel : Cert.quiescent_UpDx := fun m g _ => Cert.UpDx.Gen.frame (F := Bits) m g

theorem frame_reference : Cert.quiescent_UpDxRefIdeal := fun m g _ =>
  (θ_run (Cert.UpDxRefIdeal.defs (F := Ideal)) _ _).mono (fun r h => ⟨fun c => (h c).2, sem_eq_zero_of_no_sems rfl r.2⟩) (Cert.UpDxRefIdeal.Value.run (F := Ideal) m g)

/-- From equal arguments the two programs end with equal results. -/
theorem same : Cert.algebraic_UpDxIdeal_UpDxRefIdeal := fun m g m' g' _ hagree => by
  refine ⟨fun c => spec (m ((c.tc : Thread Cert.UpDxIdeal.nD Cert.UpDxIdeal.τ).loc Cert.UpDxIdeal.main_arg0)) (m ((c.tc : Thread Cert.UpDxIdeal.nD Cert.UpDxIdeal.τ).loc Cert.UpDxIdeal.main_arg1)), ?_, ?_⟩
  · refine (θ_run (Cert.UpDxIdeal.defs (F := Ideal)) _ _).mono (fun r h c => ?_)
      (θ_run_and (Cert.UpDxIdeal.Gen.run_main (F := Ideal) m g) (Cert.UpDxIdeal.Gen.frame (F := Ideal) m g))
    exact ⟨(h.1.out_eq c 2).trans (Cert.UpDxIdeal.Hand.final m c), h.2.1 c⟩
  · refine (θ_run (Cert.UpDxRefIdeal.defs (F := Ideal)) _ _).mono (fun r h c => ?_) (Cert.UpDxRefIdeal.Value.run (F := Ideal) m' g')
    obtain ⟨h0, ha⟩ := h c
    obtain ⟨a0, a1⟩ := hagree c
    rw [Cert.UpDxRefIdeal.Read.val_main_v8_eq, a0, a1] at h0
    exact ⟨h0.trans (Cert.UpDxRefIdeal.Hand.result _ _), ha⟩

end Cert.Prod.UpDx

end
-- ==== Proof.Prod.UpDw.lean ====
/-
  The gradient of the FFN's first product to its weight: the array the call leaves, of the arrays it is handed.
-/
module

public import proofs.«01_k».proof.Proof.Prod.Base
public import proofs.«01_k».proof.Proof.Gen.UpDwIdeal.Frame
public import Idealize.ShloMosaic.Lib.Pipeline.ValueKit.Point

@[expose] public section

set_option maxRecDepth 16384

noncomputable section

namespace Cert.Prod.UpDw

open Idealize.ShloMosaic Idealize.ShloMosaic.Tactic Cert.Prod

/-- The row `r` of the first factor, and the column `s` of the second. -/
def A (x0 : (⟨2, ![8448, 2048]⟩ : Shape).Idx → EReal) (r k : ℕ) : EReal := at2 x0 k r
def B (x1 : (⟨2, ![8448, 11264]⟩ : Shape).Idx → EReal) (k s : ℕ) : EReal := at2 x1 k s

/-- The product. -/
def spec (x0 : (⟨2, ![8448, 2048]⟩ : Shape).Idx → EReal) (x1 : (⟨2, ![8448, 11264]⟩ : Shape).Idx → EReal) : (⟨3, ![8, 2048, 1408]⟩ : Shape).Idx → EReal :=
  fun i => ∑ k ∈ Finset.range (2 * 4224), A x0 (i 1).val k * B x1 k (place ((i 0).val) * 1408 + (i 2).val)

end Cert.Prod.UpDw

namespace Cert.UpDwIdeal.Hand

open Cert.UpDwIdeal Cert.UpDwIdeal.Gen Cert.Prod Cert.Prod.UpDw
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![t.val % 2, t.val / 16] := (by decide +kernel : ∀ t : Fin grid0.N, _)
theorem ix_1 : ∀ t : Fin cfg0.N, win0_1.index t = ![t.val % 2, t.val / 2 % 8] := (by decide +kernel : ∀ t : Fin grid0.N, _)
theorem ix_2 : ∀ t : Fin cfg0.N, win0_2.index t = ![perm (t.val / 2 % 8), t.val / 16, 0] := (by decide +kernel : ∀ t : Fin grid0.N, _)

def mA (r k : ℕ) : EReal := A (m ((c : Thread nD τ).loc main_arg0)) r k
def mB (k s : ℕ) : EReal := B (m ((c : Thread nD τ).loc main_arg1)) k s

theorem N_le (t : Fin cfg0.N) : t.val < 64 := t.isLt.trans_eq N_0

theorem blk_0 (t : Fin cfg0.N) (r : Fin 512) (k : Fin 4224) :
    iblk m c 0 t (ix2 k r) = mA m c (t.val / 16 * 512 + r.val) (t.val % 2 * 4224 + k.val) := by
  have h := N_le t
  unfold mA A
  rw [at2_lt _ (by omega) (by omega)]
  blk_ext! [iblk, V, ix_0 t]

theorem blk_1 (t : Fin cfg0.N) (s : Fin 1408) (k : Fin 4224) :
    iblk m c 1 t (ix2 k s) = mB m c (t.val % 2 * 4224 + k.val) (t.val / 2 % 8 * 1408 + s.val) := by
  have h := N_le t
  unfold mB B
  rw [at2_lt _ (by omega) (by omega)]
  blk_ext! [iblk, V, ix_1 t]

theorem pay1_apply (w : Vec Ideal S4224x1408 .bf16) (a : Vec Ideal S4224x512 .bf16) (r : Fin 512) (s : Fin 1408) :
    k0_pay1 (F := Ideal) w a (ix2 r s) = ∑ k : Fin 4224, a (ix2 k r) * w (ix2 k s) := by
  pointwise [k0_pay1]

theorem pay2_apply (w : Vec Ideal S4224x1408 .bf16) (a : Vec Ideal S4224x512 .bf16) (r : Fin 512) (s : Fin 1408) :
    k0_pay2 (F := Ideal) w a (ix2 r s) = ∑ k : Fin 4224, a (ix2 k r) * w (ix2 k s) := by
  pointwise [k0_pay2]
  exact pay1_apply w a r s

theorem pay3_apply (w : Vec Ideal S4224x1408 .bf16) (a : Vec Ideal S4224x512 .bf16) (x : Vec Ideal S512x1408 .f32) (r : Fin 512) (s : Fin 1408) :
    k0_pay3 (F := Ideal) w a x (ix2 r s) = x (ix2 r s) + ∑ k : Fin 4224, a (ix2 k r) * w (ix2 k s) := by
  pointwise [k0_pay3]
  rw [pay1_apply w a r s]

theorem pay4_apply (x : Vec Ideal S512x1408 .f32) (r : Fin 512) (s : Fin 1408) : k0_pay4 (F := Ideal) x (ix3 0 r s) = x (ix2 r s) := by
  pointwise [k0_pay4]

theorem scr_A (t : Fin cfg0.N) (h0 : t.val % 2 = 0) (h1 : ¬t.val % 2 = 1) (h2 : ¬t.val % 2 = 1) :
    (outsAt0 m c t.val t.isLt).2 = k0_pay2 (iblk m c 1 t) (iblk m c 0 t) := by
  rw [outsAt0_A m c t h0 h1 h2]
  dsimp only
  unfold sout0_A_0
  rw [View.read_writes_eq_canon _ _ _ (scover0_A_0 c _ _ _ _ _ _ _ _ _ _ _ _ _ _ )]
  unfold kernelRun0_A
  dsimp only
  sl_unfold_words
  simp only [View.readAt_eq_ld, (hs0_0 t).read_unread, (hs0_1 t).read_unread]
  simp only [View.canon_unit_zero (S := S512x1408) z2, View.ld_unit_zero (S := S4224x1408) z2, View.ld_unit_zero (S := S4224x512) z2,
    View.ld_unit_zero (S := S512x1408) z2, View.readCov_unit_zero (S := S512x1408) _ z2]

theorem out_last (t : Fin cfg0.N) (h0 : ¬t.val % 2 = 0) (h1 : t.val % 2 = 1) (h2 : t.val % 2 = 1) :
    (outsAt0 m c t.val t.isLt).1 = k0_pay4 (k0_pay3 (iblk m c 1 t) (iblk m c 0 t) (outsAt0 m c (t.val - 1) (Nat.lt_of_le_of_lt (Nat.sub_le _ _) t.isLt)).2) := by
  rw [outsAt0_B m c t h0 h1 h2]
  dsimp only
  unfold out0_B_2
  rw [View.read_writes_eq_canon _ _ _ (cover0_B_2 c _ _ _ _ _ _ _ _ _ _ _ _ _ _ _ )]
  unfold kernelRun0_B
  dsimp only
  sl_unfold_words
  simp only [View.readAt_eq_ld, (hs0_0 t).read_unread, (hs0_1 t).read_unread, (Memref.isWhole_whole cc0_scratch0).read_unread]
  simp only [View.canon_unit_zero (S := S512x1408) z2, View.canon_unit_zero (S := S1x512x1408) z3, View.ld_unit_zero (S := S4224x1408) z2, View.ld_unit_zero (S := S4224x512) z2,
    View.ld_unit_zero (S := S512x1408) z2, View.readCov_unit_zero (S := S512x1408) _ z2]

theorem scr_apply : ∀ (n : ℕ) (hn : n < cfg0.N), ¬n % 2 = 1 → ∀ (r : Fin 512) (s : Fin 1408), (outsAt0 m c n hn).2 (ix2 r s)
    = ∑ k ∈ Finset.range ((n % 2 + 1) * 4224), mA m c (n / 16 * 512 + r.val) k * mB m c k (n / 2 % 8 * 1408 + s.val) := by
  intro n
  induction n using Nat.strong_induction_on with
  | _ n ih =>
    intro hn h2 r s
    by_cases h : n % 2 = 0
    · refine (congrFun (scr_A m c ⟨n, hn⟩ h (by dsimp only; omega) h2) (ix2 r s)).trans ?_
      rw [pay2_apply]
      simp only [blk_0, blk_1]
      exact sum_first (fun k => mA m c (n / 16 * 512 + r.val) k * mB m c k (n / 2 % 8 * 1408 + s.val)) h
    · exact absurd h (by omega)

theorem out_apply (t : Fin cfg0.N) (h2 : t.val % 2 = 1) (r : Fin 512) (s : Fin 1408) : (outsAt0 m c t.val t.isLt).1 (ix3 0 r s)
    = ∑ k ∈ Finset.range (2 * 4224), mA m c (t.val / 16 * 512 + r.val) k * mB m c k (t.val / 2 % 8 * 1408 + s.val) := by
  refine (congrFun (out_last m c t (by omega) (by omega) h2) (ix3 0 r s)).trans ?_
  rw [pay4_apply, pay3_apply, scr_apply m c (t.val - 1) _ (by omega)]
  simp only [blk_0, blk_1]
  have e1 : (t.val - 1) / 16 = t.val / 16 := by omega
  have e2 : (t.val - 1) / 2 % 8 = t.val / 2 % 8 := by omega
  rw [e1, e2]
  refine (sum_next (fun k => mA m c (t.val / 16 * 512 + r.val) k * mB m c k (t.val / 2 % 8 * 1408 + s.val)) (by omega)).trans ?_
  rw [h2]

theorem final : (dats (F := Ideal) m 0 c).arrAt 2 cfg0.N = spec (m ((c : Thread nD τ).loc main_arg0)) (m ((c : Thread nD τ).loc main_arg1)) := by
  refine (dats m 0 c).arrAt_eq_of_covers 2 _ (by decide +kernel) fun t hf y => ?_
  have h := N_le t
  have h2 : t.val % 2 = 1 := (flush0_2 t).mp hf
  blk_simp
  rw [after0_2]
  obtain ⟨r, s, rfl⟩ : ∃ (r : Fin 512) (s : Fin 1408), y = ix3 0 r s := ⟨y 1, y 2, funext fun a => by match a with | 0 => exact Subsingleton.elim (α := Fin 1) _ _ | 1 => rfl | 2 => rfl⟩
  refine (out_apply m c t h2 r s).trans ?_
  unfold spec
  blk_simp [ix_2 t]
  have e3 : place (perm (t.val / 2 % 8) + ((0 : Fin 1) : ℕ)) = t.val / 2 % 8 := by simp only [perm, place, Fin.val_zero]; omega
  rw [e3]
  rfl

end Cert.UpDwIdeal.Hand

end
-- ==== Proof.Prod.UpDwClaim.lean ====
/-
  The gradient of the FFN's first product to its weight: kernel and reference end with the same array.
-/
module

public import proofs.«01_k».proof.Defs
public import proofs.«01_k».proof.Proof.Prod.UpDw
public import proofs.«01_k».proof.Proof.Gen.UpDw
public import proofs.«01_k».proof.Proof.Gen.UpDw.Frame
public import proofs.«01_k».proof.Proof.Gen.UpDwIdeal
public import proofs.«01_k».proof.Proof.Gen.UpDwRefIdeal.Run
public import proofs.«01_k».proof.Proof.Gen.UpDwRefIdeal.Read
public import Idealize.ShloMosaic.Lib.Quiescent
public import Idealize.ShloMosaic.Lib.Claim

@[expose] public section

set_option maxRecDepth 16384

noncomputable section

namespace Cert.UpDwRefIdeal.Hand

open Cert.UpDwRefIdeal Cert.UpDwRefIdeal.Gen Cert.UpDwRefIdeal.Read Cert.Prod Cert.Prod.UpDw
open Idealize.ShloMosaic Idealize.ShloMosaic.TcCoe Idealize.ShloMosaic.Tactic

theorem result (x0 : (⟨2, ![8448, 2048]⟩ : Shape).Idx → EReal) (x1 : (⟨2, ![8448, 11264]⟩ : Shape).Idx → EReal) : val_main_v12 (F := Ideal) x0 x1 = spec x0 x1 := by
  funext i
  have h0 : (i 0).val < 8 := (i 0).isLt
  have h1 : (i 1).val < 2048 := (i 1).isLt
  have h2 : (i 2).val < 1408 := (i 2).isLt
  simp only [val_main_v12_apply, val_main_v11_apply, val_main_v10_apply, val_main_v9_apply, val_main_v8_apply, val_main_v7_apply, val_main_v6_apply, val_main_v1_apply]
  show ∑ k : Fin 8448, x1 _ * x0 _ = _
  unfold spec
  rw [Finset.sum_range]
  refine Finset.sum_congr rfl fun k _ => ?_
  have hk : k.val < 8448 := k.isLt
  refine (mul_comm _ _).trans ?_
  have e0 : (((i 0).val * 2048 + (i 1).val) * 1408 + (i 2).val) / 1408 % 2048 = (i 1).val := by omega
  have e1 : (((i 0).val * 2048 + (i 1).val) * 1408 + (i 2).val) / 2883584 % 4 = (i 0).val % 4 := by omega
  have e2 : (((i 0).val * 2048 + (i 1).val) * 1408 + (i 2).val) / 11534336 = (i 0).val / 4 := by omega
  have e3 : (((i 0).val * 2048 + (i 1).val) * 1408 + (i 2).val) % 1408 = (i 2).val := by omega
  unfold A B
  refine congrArg₂ (· * ·) ?_ ?_
  · rw [at2_lt _ (by omega) (by omega)]
    exact congrArg x0 (funext fun a => Fin.ext (by
      match a with
      | ⟨0, _⟩ => first | rfl | (show _ = k.val; (try simp only [perm, place, e0, e1, e2, e3]); omega)
      | ⟨1, _⟩ => first | rfl | (show _ = (i 1).val; (try simp only [perm, place, e0, e1, e2, e3]); omega)))
  · rw [at2_lt _ (by first | omega | (simp only [perm, place]; omega)) (by first | omega | (simp only [perm, place]; omega))]
    exact congrArg x1 (funext fun a => Fin.ext (by
      match a with
      | ⟨0, _⟩ => first | rfl | (show _ = k.val; (try simp only [perm, place, e0, e1, e2, e3]); omega)
      | ⟨1, _⟩ => first | rfl | (show _ = (place ((i 0).val) * 1408 + (i 2).val); (try simp only [perm, place, e0, e1, e2, e3]); omega)))

end Cert.UpDwRefIdeal.Hand

namespace Cert.Prod.UpDw

open Idealize.ShloMosaic Idealize.SL.Sem

theorem frame_ideal : Cert.quiescent_UpDwIdeal := fun m g _ => Cert.UpDwIdeal.Gen.frame (F := Ideal) m g

theorem frame_kernel : Cert.quiescent_UpDw := fun m g _ => Cert.UpDw.Gen.frame (F := Bits) m g

theorem frame_reference : Cert.quiescent_UpDwRefIdeal := fun m g _ =>
  (θ_run (Cert.UpDwRefIdeal.defs (F := Ideal)) _ _).mono (fun r h => ⟨fun c => (h c).2, sem_eq_zero_of_no_sems rfl r.2⟩) (Cert.UpDwRefIdeal.Value.run (F := Ideal) m g)

/-- From equal arguments the two programs end with equal results. -/
theorem same : Cert.algebraic_UpDwIdeal_UpDwRefIdeal := fun m g m' g' _ hagree => by
  refine ⟨fun c => spec (m ((c.tc : Thread Cert.UpDwIdeal.nD Cert.UpDwIdeal.τ).loc Cert.UpDwIdeal.main_arg0)) (m ((c.tc : Thread Cert.UpDwIdeal.nD Cert.UpDwIdeal.τ).loc Cert.UpDwIdeal.main_arg1)), ?_, ?_⟩
  · refine (θ_run (Cert.UpDwIdeal.defs (F := Ideal)) _ _).mono (fun r h c => ?_)
      (θ_run_and (Cert.UpDwIdeal.Gen.run_main (F := Ideal) m g) (Cert.UpDwIdeal.Gen.frame (F := Ideal) m g))
    exact ⟨(h.1.out_eq c 2).trans (Cert.UpDwIdeal.Hand.final m c), h.2.1 c⟩
  · refine (θ_run (Cert.UpDwRefIdeal.defs (F := Ideal)) _ _).mono (fun r h c => ?_) (Cert.UpDwRefIdeal.Value.run (F := Ideal) m' g')
    obtain ⟨h0, ha⟩ := h c
    obtain ⟨a0, a1⟩ := hagree c
    rw [Cert.UpDwRefIdeal.Read.val_main_v12_eq, a0, a1] at h0
    exact ⟨h0.trans (Cert.UpDwRefIdeal.Hand.result _ _), ha⟩

end Cert.Prod.UpDw

end
-- ==== Proof.Prod.SsdOutDx.lean ====
/-
  The gradient of the scan layer's last product to its input: the array the call leaves, of the arrays it is handed.
-/
module

public import proofs.«01_k».proof.Proof.Prod.Base
public import proofs.«01_k».proof.Proof.Gen.SsdOutDxIdeal.Frame
public import Idealize.ShloMosaic.Lib.Pipeline.ValueKit.Point

@[expose] public section

set_option maxRecDepth 16384

noncomputable section

namespace Cert.Prod.SsdOutDx

open Idealize.ShloMosaic Idealize.ShloMosaic.Tactic Cert.Prod

/-- The row `r` of the first factor, and the column `s` of the second. -/
def A (x0 : (⟨2, ![8448, 2048]⟩ : Shape).Idx → EReal) (r k : ℕ) : EReal := at2 x0 r k
def B (x1 : (⟨2, ![4096, 2048]⟩ : Shape).Idx → EReal) (k s : ℕ) : EReal := at2 x1 s k

/-- The product. -/
def spec (x0 : (⟨2, ![8448, 2048]⟩ : Shape).Idx → EReal) (x1 : (⟨2, ![4096, 2048]⟩ : Shape).Idx → EReal) : (⟨2, ![8448, 4096]⟩ : Shape).Idx → EReal :=
  fun i => ∑ k ∈ Finset.range (1 * 2048), A x0 (i 0).val k * B x1 k (i 1).val

end Cert.Prod.SsdOutDx

namespace Cert.SsdOutDxIdeal.Hand

open Cert.SsdOutDxIdeal Cert.SsdOutDxIdeal.Gen Cert.Prod Cert.Prod.SsdOutDx
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![t.val / 4, 0] := (by decide +kernel : ∀ t : Fin grid0.N, _)
theorem ix_1 : ∀ t : Fin cfg0.N, win0_1.index t = ![t.val % 4, 0] := (by decide +kernel : ∀ t : Fin grid0.N, _)
theorem ix_2 : ∀ t : Fin cfg0.N, win0_2.index t = ![t.val / 4, t.val % 4] := (by decide +kernel : ∀ t : Fin grid0.N, _)

def mA (r k : ℕ) : EReal := A (m ((c : Thread nD τ).loc main_arg0)) r k
def mB (k s : ℕ) : EReal := B (m ((c : Thread nD τ).loc main_arg1)) k s

theorem N_le (t : Fin cfg0.N) : t.val < 44 := t.isLt.trans_eq N_0

theorem blk_0 (t : Fin cfg0.N) (r : Fin 768) (k : Fin 2048) :
    iblk m c 0 t (ix2 r k) = mA m c (t.val / 4 * 768 + r.val) (0 * 2048 + k.val) := by
  have h := N_le t
  unfold mA A
  rw [at2_lt _ (by omega) (by omega)]
  blk_ext! [iblk, V, ix_0 t]

theorem blk_1 (t : Fin cfg0.N) (s : Fin 1024) (k : Fin 2048) :
    iblk m c 1 t (ix2 s k) = mB m c (0 * 2048 + k.val) (t.val % 4 * 1024 + s.val) := by
  have h := N_le t
  unfold mB B
  rw [at2_lt _ (by omega) (by omega)]
  blk_ext! [iblk, V, ix_1 t]

theorem pay1_apply (w : Vec Ideal S1024x2048 .bf16) (a : Vec Ideal S768x2048 .bf16) (r : Fin 768) (s : Fin 1024) :
    k0_pay1 (F := Ideal) w a (ix2 r s) = ∑ k : Fin 2048, a (ix2 r k) * w (ix2 s k) := by
  pointwise [k0_pay1]

theorem out_apply (t : Fin cfg0.N) (r : Fin 768) (s : Fin 1024) : out0_2 (iblk m c 0 t) (iblk m c 1 t) (ix2 r s)
    = ∑ k ∈ Finset.range (1 * 2048), mA m c (t.val / 4 * 768 + r.val) k * mB m c k (t.val % 4 * 1024 + s.val) := by
  unfold out0_2
  rw [View.canon_unit_zero (S := S768x1024) z2]
  simp only [View.ld_unit_zero (S := S768x2048) z2, View.ld_unit_zero (S := S1024x2048) z2]
  rw [pay1_apply]
  simp only [blk_0, blk_1]
  exact sum_first (fun k => mA m c (t.val / 4 * 768 + r.val) k * mB m c k (t.val % 4 * 1024 + s.val)) rfl

theorem final : (dats (F := Ideal) m 0 c).arrAt 2 cfg0.N = spec (m ((c : Thread nD τ).loc main_arg0)) (m ((c : Thread nD τ).loc main_arg1)) := by
  refine (dats m 0 c).arrAt_eq_of_covers 2 _ (by decide +kernel) fun t hf y => ?_
  have h := N_le t
  blk_simp
  rw [after0_2]
  obtain ⟨r, s, rfl⟩ : ∃ (r : Fin 768) (s : Fin 1024), y = ix2 r s := ⟨y 0, y 1, funext fun a => by match a with | 0 => rfl | 1 => rfl⟩
  refine (out_apply m c t r s).trans ?_
  unfold spec
  blk_simp [ix_2 t]
  rfl

end Cert.SsdOutDxIdeal.Hand

end
-- ==== Proof.Prod.SsdOutDxClaim.lean ====
/-
  The gradient of the scan layer's last product to its input: kernel and reference end with the same array.
-/
module

public import proofs.«01_k».proof.Defs
public import proofs.«01_k».proof.Proof.Prod.SsdOutDx
public import proofs.«01_k».proof.Proof.Gen.SsdOutDx
public import proofs.«01_k».proof.Proof.Gen.SsdOutDx.Frame
public import proofs.«01_k».proof.Proof.Gen.SsdOutDxIdeal
public import proofs.«01_k».proof.Proof.Gen.SsdOutDxRefIdeal.Run
public import proofs.«01_k».proof.Proof.Gen.SsdOutDxRefIdeal.Read
public import Idealize.ShloMosaic.Lib.Quiescent
public import Idealize.ShloMosaic.Lib.Claim

@[expose] public section

set_option maxRecDepth 16384

noncomputable section

namespace Cert.SsdOutDxRefIdeal.Hand

open Cert.SsdOutDxRefIdeal Cert.SsdOutDxRefIdeal.Gen Cert.SsdOutDxRefIdeal.Read Cert.Prod Cert.Prod.SsdOutDx
open Idealize.ShloMosaic Idealize.ShloMosaic.TcCoe Idealize.ShloMosaic.Tactic

theorem result (x0 : (⟨2, ![8448, 2048]⟩ : Shape).Idx → EReal) (x1 : (⟨2, ![4096, 2048]⟩ : Shape).Idx → EReal) : val_main_v5 (F := Ideal) x0 x1 = spec x0 x1 := by
  funext i
  have h0 : (i 0).val < 8448 := (i 0).isLt
  have h1 : (i 1).val < 4096 := (i 1).isLt
  simp only [val_main_v5_apply, val_main_v4_apply, val_main_v3_apply, val_main_v1_apply]
  show ∑ k : Fin 2048, x0 _ * x1 _ = _
  unfold spec
  rw [Finset.sum_range]
  refine Finset.sum_congr rfl fun k _ => ?_
  have hk : k.val < 2048 := k.isLt
  skip
  unfold A B
  refine congrArg₂ (· * ·) ?_ ?_
  · rw [at2_lt _ (by omega) (by omega)]
    exact congrArg x0 (funext fun a => Fin.ext (by
      match a with
      | ⟨0, _⟩ => first | rfl | (show _ = (i 0).val; (try dsimp only); omega)
      | ⟨1, _⟩ => first | rfl | (show _ = k.val; (try dsimp only); omega)))
  · rw [at2_lt _ (by omega) (by omega)]
    exact congrArg x1 (funext fun a => Fin.ext (by
      match a with
      | ⟨0, _⟩ => first | rfl | (show _ = (i 1).val; (try dsimp only); omega)
      | ⟨1, _⟩ => first | rfl | (show _ = k.val; (try dsimp only); omega)))

end Cert.SsdOutDxRefIdeal.Hand

namespace Cert.Prod.SsdOutDx

open Idealize.ShloMosaic Idealize.SL.Sem

theorem frame_ideal : Cert.quiescent_SsdOutDxIdeal := fun m g _ => Cert.SsdOutDxIdeal.Gen.frame (F := Ideal) m g

theorem frame_kernel : Cert.quiescent_SsdOutDx := fun m g _ => Cert.SsdOutDx.Gen.frame (F := Bits) m g

theorem frame_reference : Cert.quiescent_SsdOutDxRefIdeal := fun m g _ =>
  (θ_run (Cert.SsdOutDxRefIdeal.defs (F := Ideal)) _ _).mono (fun r h => ⟨fun c => (h c).2, sem_eq_zero_of_no_sems rfl r.2⟩) (Cert.SsdOutDxRefIdeal.Value.run (F := Ideal) m g)

/-- From equal arguments the two programs end with equal results. -/
theorem same : Cert.algebraic_SsdOutDxIdeal_SsdOutDxRefIdeal := fun m g m' g' _ hagree => by
  refine ⟨fun c => spec (m ((c.tc : Thread Cert.SsdOutDxIdeal.nD Cert.SsdOutDxIdeal.τ).loc Cert.SsdOutDxIdeal.main_arg0)) (m ((c.tc : Thread Cert.SsdOutDxIdeal.nD Cert.SsdOutDxIdeal.τ).loc Cert.SsdOutDxIdeal.main_arg1)), ?_, ?_⟩
  · refine (θ_run (Cert.SsdOutDxIdeal.defs (F := Ideal)) _ _).mono (fun r h c => ?_)
      (θ_run_and (Cert.SsdOutDxIdeal.Gen.run_main (F := Ideal) m g) (Cert.SsdOutDxIdeal.Gen.frame (F := Ideal) m g))
    exact ⟨(h.1.out_eq c 2).trans (Cert.SsdOutDxIdeal.Hand.final m c), h.2.1 c⟩
  · refine (θ_run (Cert.SsdOutDxRefIdeal.defs (F := Ideal)) _ _).mono (fun r h c => ?_) (Cert.SsdOutDxRefIdeal.Value.run (F := Ideal) m' g')
    obtain ⟨h0, ha⟩ := h c
    obtain ⟨a0, a1⟩ := hagree c
    rw [Cert.SsdOutDxRefIdeal.Read.val_main_v5_eq, a0, a1] at h0
    exact ⟨h0.trans (Cert.SsdOutDxRefIdeal.Hand.result _ _), ha⟩

end Cert.Prod.SsdOutDx

end
-- ==== Proof.Prod.SsdOutDw.lean ====
/-
  The gradient of the scan layer's last product to its weight: the array the call leaves, of the arrays it is handed.
-/
module

public import proofs.«01_k».proof.Proof.Prod.Base
public import proofs.«01_k».proof.Proof.Gen.SsdOutDwIdeal.Frame
public import Idealize.ShloMosaic.Lib.Pipeline.ValueKit.Point

@[expose] public section

set_option maxRecDepth 16384

noncomputable section

namespace Cert.Prod.SsdOutDw

open Idealize.ShloMosaic Idealize.ShloMosaic.Tactic Cert.Prod

/-- The row `r` of the first factor, and the column `s` of the second. -/
def A (x0 : (⟨2, ![8448, 4096]⟩ : Shape).Idx → EReal) (r k : ℕ) : EReal := at2 x0 k r
def B (x1 : (⟨2, ![8448, 2048]⟩ : Shape).Idx → EReal) (k s : ℕ) : EReal := at2 x1 k s

/-- The product. -/
def spec (x0 : (⟨2, ![8448, 4096]⟩ : Shape).Idx → EReal) (x1 : (⟨2, ![8448, 2048]⟩ : Shape).Idx → EReal) : (⟨2, ![4096, 2048]⟩ : Shape).Idx → EReal :=
  fun i => ∑ k ∈ Finset.range (2 * 4224), A x0 (i 0).val k * B x1 k (i 1).val

end Cert.Prod.SsdOutDw

namespace Cert.SsdOutDwIdeal.Hand

open Cert.SsdOutDwIdeal Cert.SsdOutDwIdeal.Gen Cert.Prod Cert.Prod.SsdOutDw
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![t.val % 2, t.val / 4] := (by decide +kernel : ∀ t : Fin grid0.N, _)
theorem ix_1 : ∀ t : Fin cfg0.N, win0_1.index t = ![t.val % 2, t.val / 2 % 2] := (by decide +kernel : ∀ t : Fin grid0.N, _)
theorem ix_2 : ∀ t : Fin cfg0.N, win0_2.index t = ![t.val / 4, t.val / 2 % 2] := (by decide +kernel : ∀ t : Fin grid0.N, _)

def mA (r k : ℕ) : EReal := A (m ((c : Thread nD τ).loc main_arg0)) r k
def mB (k s : ℕ) : EReal := B (m ((c : Thread nD τ).loc main_arg1)) k s

theorem N_le (t : Fin cfg0.N) : t.val < 32 := t.isLt.trans_eq N_0

theorem blk_0 (t : Fin cfg0.N) (r : Fin 512) (k : Fin 4224) :
    iblk m c 0 t (ix2 k r) = mA m c (t.val / 4 * 512 + r.val) (t.val % 2 * 4224 + k.val) := by
  have h := N_le t
  unfold mA A
  rw [at2_lt _ (by omega) (by omega)]
  blk_ext! [iblk, V, ix_0 t]

theorem blk_1 (t : Fin cfg0.N) (s : Fin 1024) (k : Fin 4224) :
    iblk m c 1 t (ix2 k s) = mB m c (t.val % 2 * 4224 + k.val) (t.val / 2 % 2 * 1024 + s.val) := by
  have h := N_le t
  unfold mB B
  rw [at2_lt _ (by omega) (by omega)]
  blk_ext! [iblk, V, ix_1 t]

theorem pay1_apply (w : Vec Ideal S4224x1024 .bf16) (a : Vec Ideal S4224x512 .bf16) (r : Fin 512) (s : Fin 1024) :
    k0_pay1 (F := Ideal) w a (ix2 r s) = ∑ k : Fin 4224, a (ix2 k r) * w (ix2 k s) := by
  pointwise [k0_pay1]

theorem pay2_apply (w : Vec Ideal S4224x1024 .bf16) (a : Vec Ideal S4224x512 .bf16) (r : Fin 512) (s : Fin 1024) :
    k0_pay2 (F := Ideal) w a (ix2 r s) = ∑ k : Fin 4224, a (ix2 k r) * w (ix2 k s) := by
  pointwise [k0_pay2]
  exact pay1_apply w a r s

theorem pay3_apply (w : Vec Ideal S4224x1024 .bf16) (a : Vec Ideal S4224x512 .bf16) (x : Vec Ideal S512x1024 .f32) (r : Fin 512) (s : Fin 1024) :
    k0_pay3 (F := Ideal) w a x (ix2 r s) = x (ix2 r s) + ∑ k : Fin 4224, a (ix2 k r) * w (ix2 k s) := by
  pointwise [k0_pay3]
  rw [pay1_apply w a r s]

theorem pay4_apply (x : Vec Ideal S512x1024 .f32) (r : Fin 512) (s : Fin 1024) : k0_pay4 (F := Ideal) x (ix2 r s) = x (ix2 r s) := by
  pointwise [k0_pay4]

theorem scr_A (t : Fin cfg0.N) (h0 : t.val % 2 = 0) (h1 : ¬t.val % 2 = 1) (h2 : ¬t.val % 2 = 1) :
    (outsAt0 m c t.val t.isLt).2 = k0_pay2 (iblk m c 1 t) (iblk m c 0 t) := by
  rw [outsAt0_A m c t h0 h1 h2]
  dsimp only
  unfold sout0_A_0
  rw [View.read_writes_eq_canon _ _ _ (scover0_A_0 c _ _ _ _ _ _ _ _ _ _ _ _ _ _ )]
  unfold kernelRun0_A
  dsimp only
  sl_unfold_words
  simp only [View.readAt_eq_ld, (hs0_0 t).read_unread, (hs0_1 t).read_unread]
  simp only [View.canon_unit_zero (S := S512x1024) z2, View.ld_unit_zero (S := S4224x1024) z2, View.ld_unit_zero (S := S4224x512) z2,
    View.ld_unit_zero (S := S512x1024) z2, View.readCov_unit_zero (S := S512x1024) _ z2]

theorem out_last (t : Fin cfg0.N) (h0 : ¬t.val % 2 = 0) (h1 : t.val % 2 = 1) (h2 : t.val % 2 = 1) :
    (outsAt0 m c t.val t.isLt).1 = k0_pay4 (k0_pay3 (iblk m c 1 t) (iblk m c 0 t) (outsAt0 m c (t.val - 1) (Nat.lt_of_le_of_lt (Nat.sub_le _ _) t.isLt)).2) := by
  rw [outsAt0_B m c t h0 h1 h2]
  dsimp only
  unfold out0_B_2
  rw [View.read_writes_eq_canon _ _ _ (cover0_B_2 c _ _ _ _ _ _ _ _ _ _ _ _ _ _ _ )]
  unfold kernelRun0_B
  dsimp only
  sl_unfold_words
  simp only [View.readAt_eq_ld, (hs0_0 t).read_unread, (hs0_1 t).read_unread, (Memref.isWhole_whole cc0_scratch0).read_unread]
  simp only [View.canon_unit_zero (S := S512x1024) z2, View.canon_unit_zero (S := S512x1024) z2, View.ld_unit_zero (S := S4224x1024) z2, View.ld_unit_zero (S := S4224x512) z2,
    View.ld_unit_zero (S := S512x1024) z2, View.readCov_unit_zero (S := S512x1024) _ z2]

theorem scr_apply : ∀ (n : ℕ) (hn : n < cfg0.N), ¬n % 2 = 1 → ∀ (r : Fin 512) (s : Fin 1024), (outsAt0 m c n hn).2 (ix2 r s)
    = ∑ k ∈ Finset.range ((n % 2 + 1) * 4224), mA m c (n / 4 * 512 + r.val) k * mB m c k (n / 2 % 2 * 1024 + s.val) := by
  intro n
  induction n using Nat.strong_induction_on with
  | _ n ih =>
    intro hn h2 r s
    by_cases h : n % 2 = 0
    · refine (congrFun (scr_A m c ⟨n, hn⟩ h (by dsimp only; omega) h2) (ix2 r s)).trans ?_
      rw [pay2_apply]
      simp only [blk_0, blk_1]
      exact sum_first (fun k => mA m c (n / 4 * 512 + r.val) k * mB m c k (n / 2 % 2 * 1024 + s.val)) h
    · exact absurd h (by omega)

theorem out_apply (t : Fin cfg0.N) (h2 : t.val % 2 = 1) (r : Fin 512) (s : Fin 1024) : (outsAt0 m c t.val t.isLt).1 (ix2 r s)
    = ∑ k ∈ Finset.range (2 * 4224), mA m c (t.val / 4 * 512 + r.val) k * mB m c k (t.val / 2 % 2 * 1024 + s.val) := by
  refine (congrFun (out_last m c t (by omega) (by omega) h2) (ix2 r s)).trans ?_
  rw [pay4_apply, pay3_apply, scr_apply m c (t.val - 1) _ (by omega)]
  simp only [blk_0, blk_1]
  have e1 : (t.val - 1) / 4 = t.val / 4 := by omega
  have e2 : (t.val - 1) / 2 % 2 = t.val / 2 % 2 := by omega
  rw [e1, e2]
  refine (sum_next (fun k => mA m c (t.val / 4 * 512 + r.val) k * mB m c k (t.val / 2 % 2 * 1024 + s.val)) (by omega)).trans ?_
  rw [h2]

theorem final : (dats (F := Ideal) m 0 c).arrAt 2 cfg0.N = spec (m ((c : Thread nD τ).loc main_arg0)) (m ((c : Thread nD τ).loc main_arg1)) := by
  refine (dats m 0 c).arrAt_eq_of_covers 2 _ (by decide +kernel) fun t hf y => ?_
  have h := N_le t
  have h2 : t.val % 2 = 1 := (flush0_2 t).mp hf
  blk_simp
  rw [after0_2]
  obtain ⟨r, s, rfl⟩ : ∃ (r : Fin 512) (s : Fin 1024), y = ix2 r s := ⟨y 0, y 1, funext fun a => by match a with | 0 => rfl | 1 => rfl⟩
  refine (out_apply m c t h2 r s).trans ?_
  unfold spec
  blk_simp [ix_2 t]
  rfl

end Cert.SsdOutDwIdeal.Hand

end
-- ==== Proof.Prod.SsdOutDwClaim.lean ====
/-
  The gradient of the scan layer's last product to its weight: kernel and reference end with the same array.
-/
module

public import proofs.«01_k».proof.Defs
public import proofs.«01_k».proof.Proof.Prod.SsdOutDw
public import proofs.«01_k».proof.Proof.Gen.SsdOutDw
public import proofs.«01_k».proof.Proof.Gen.SsdOutDw.Frame
public import proofs.«01_k».proof.Proof.Gen.SsdOutDwIdeal
public import proofs.«01_k».proof.Proof.Gen.SsdOutDwRefIdeal.Run
public import proofs.«01_k».proof.Proof.Gen.SsdOutDwRefIdeal.Read
public import Idealize.ShloMosaic.Lib.Quiescent
public import Idealize.ShloMosaic.Lib.Claim

@[expose] public section

set_option maxRecDepth 16384

noncomputable section

namespace Cert.SsdOutDwRefIdeal.Hand

open Cert.SsdOutDwRefIdeal Cert.SsdOutDwRefIdeal.Gen Cert.SsdOutDwRefIdeal.Read Cert.Prod Cert.Prod.SsdOutDw
open Idealize.ShloMosaic Idealize.ShloMosaic.TcCoe Idealize.ShloMosaic.Tactic

theorem result (x0 : (⟨2, ![8448, 4096]⟩ : Shape).Idx → EReal) (x1 : (⟨2, ![8448, 2048]⟩ : Shape).Idx → EReal) : val_main_v6 (F := Ideal) x0 x1 = spec x0 x1 := by
  funext i
  have h0 : (i 0).val < 4096 := (i 0).isLt
  have h1 : (i 1).val < 2048 := (i 1).isLt
  simp only [val_main_v6_apply, val_main_v5_apply, val_main_v4_apply, val_main_v3_apply, val_main_v1_apply]
  show ∑ k : Fin 8448, x1 _ * x0 _ = _
  unfold spec
  rw [Finset.sum_range]
  refine Finset.sum_congr rfl fun k _ => ?_
  have hk : k.val < 8448 := k.isLt
  refine (mul_comm _ _).trans ?_
  unfold A B
  refine congrArg₂ (· * ·) ?_ ?_
  · rw [at2_lt _ (by omega) (by omega)]
    exact congrArg x0 (funext fun a => Fin.ext (by
      match a with
      | ⟨0, _⟩ => first | rfl | (show _ = k.val; (try dsimp only); omega)
      | ⟨1, _⟩ => first | rfl | (show _ = (i 0).val; (try dsimp only); omega)))
  · rw [at2_lt _ (by omega) (by omega)]
    exact congrArg x1 (funext fun a => Fin.ext (by
      match a with
      | ⟨0, _⟩ => first | rfl | (show _ = k.val; (try dsimp only); omega)
      | ⟨1, _⟩ => first | rfl | (show _ = (i 1).val; (try dsimp only); omega)))

end Cert.SsdOutDwRefIdeal.Hand

namespace Cert.Prod.SsdOutDw

open Idealize.ShloMosaic Idealize.SL.Sem

theorem frame_ideal : Cert.quiescent_SsdOutDwIdeal := fun m g _ => Cert.SsdOutDwIdeal.Gen.frame (F := Ideal) m g

theorem frame_kernel : Cert.quiescent_SsdOutDw := fun m g _ => Cert.SsdOutDw.Gen.frame (F := Bits) m g

theorem frame_reference : Cert.quiescent_SsdOutDwRefIdeal := fun m g _ =>
  (θ_run (Cert.SsdOutDwRefIdeal.defs (F := Ideal)) _ _).mono (fun r h => ⟨fun c => (h c).2, sem_eq_zero_of_no_sems rfl r.2⟩) (Cert.SsdOutDwRefIdeal.Value.run (F := Ideal) m g)

/-- From equal arguments the two programs end with equal results. -/
theorem same : Cert.algebraic_SsdOutDwIdeal_SsdOutDwRefIdeal := fun m g m' g' _ hagree => by
  refine ⟨fun c => spec (m ((c.tc : Thread Cert.SsdOutDwIdeal.nD Cert.SsdOutDwIdeal.τ).loc Cert.SsdOutDwIdeal.main_arg0)) (m ((c.tc : Thread Cert.SsdOutDwIdeal.nD Cert.SsdOutDwIdeal.τ).loc Cert.SsdOutDwIdeal.main_arg1)), ?_, ?_⟩
  · refine (θ_run (Cert.SsdOutDwIdeal.defs (F := Ideal)) _ _).mono (fun r h c => ?_)
      (θ_run_and (Cert.SsdOutDwIdeal.Gen.run_main (F := Ideal) m g) (Cert.SsdOutDwIdeal.Gen.frame (F := Ideal) m g))
    exact ⟨(h.1.out_eq c 2).trans (Cert.SsdOutDwIdeal.Hand.final m c), h.2.1 c⟩
  · refine (θ_run (Cert.SsdOutDwRefIdeal.defs (F := Ideal)) _ _).mono (fun r h c => ?_) (Cert.SsdOutDwRefIdeal.Value.run (F := Ideal) m' g')
    obtain ⟨h0, ha⟩ := h c
    obtain ⟨a0, a1⟩ := hagree c
    rw [Cert.SsdOutDwRefIdeal.Read.val_main_v6_eq, a0, a1] at h0
    exact ⟨h0.trans (Cert.SsdOutDwRefIdeal.Hand.result _ _), ha⟩

end Cert.Prod.SsdOutDw

end
-- ==== Proof.Prod.SsdInDx.lean ====
/-
  The gradient of the scan layer's first product to its input: the array the call leaves, of the arrays it is handed.
-/
module

public import proofs.«01_k».proof.Proof.Prod.Base
public import proofs.«01_k».proof.Proof.Gen.SsdInDxIdeal.Frame
public import Idealize.ShloMosaic.Lib.Pipeline.ValueKit.Point

@[expose] public section

set_option maxRecDepth 16384

noncomputable section

namespace Cert.Prod.SsdInDx

open Idealize.ShloMosaic Idealize.ShloMosaic.Tactic Cert.Prod

/-- The row `r` of the first factor, and the column `s` of the second. -/
def A (x0 : (⟨2, ![8448, 10368]⟩ : Shape).Idx → EReal) (r k : ℕ) : EReal := at2 x0 r k
def B (x1 : (⟨2, ![2048, 10368]⟩ : Shape).Idx → EReal) (k s : ℕ) : EReal := at2 x1 s k

/-- The product. -/
def spec (x0 : (⟨2, ![8448, 10368]⟩ : Shape).Idx → EReal) (x1 : (⟨2, ![2048, 10368]⟩ : Shape).Idx → EReal) : (⟨2, ![8448, 2048]⟩ : Shape).Idx → EReal :=
  fun i => ∑ k ∈ Finset.range (3 * 3456), A x0 (i 0).val k * B x1 k (i 1).val

end Cert.Prod.SsdInDx

namespace Cert.SsdInDxIdeal.Hand

open Cert.SsdInDxIdeal Cert.SsdInDxIdeal.Gen Cert.Prod Cert.Prod.SsdInDx
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![t.val / 6, t.val % 3] := (by decide +kernel : ∀ t : Fin grid0.N, _)
theorem ix_1 : ∀ t : Fin cfg0.N, win0_1.index t = ![t.val / 3 % 2, t.val % 3] := (by decide +kernel : ∀ t : Fin grid0.N, _)
theorem ix_3 : ∀ t : Fin cfg0.N, win0_3.index t = ![t.val / 6, t.val / 3 % 2] := (by decide +kernel : ∀ t : Fin grid0.N, _)

def mA (r k : ℕ) : EReal := A (m ((c : Thread nD τ).loc main_arg0)) r k
def mB (k s : ℕ) : EReal := B (m ((c : Thread nD τ).loc main_arg1)) k s

theorem N_le (t : Fin cfg0.N) : t.val < 66 := t.isLt.trans_eq N_0

theorem blk_0 (t : Fin cfg0.N) (r : Fin 768) (k : Fin 3456) :
    iblk m c 0 t (ix2 r k) = mA m c (t.val / 6 * 768 + r.val) (t.val % 3 * 3456 + k.val) := by
  have h := N_le t
  unfold mA A
  rw [at2_lt _ (by omega) (by omega)]
  blk_ext! [iblk, V, ix_0 t]

theorem blk_1 (t : Fin cfg0.N) (s : Fin 1024) (k : Fin 3456) :
    iblk m c 1 t (ix2 s k) = mB m c (t.val % 3 * 3456 + k.val) (t.val / 3 % 2 * 1024 + s.val) := by
  have h := N_le t
  unfold mB B
  rw [at2_lt _ (by omega) (by omega)]
  blk_ext! [iblk, V, ix_1 t]

theorem pay1_apply (w : Vec Ideal S1024x3456 .bf16) (a : Vec Ideal S768x3456 .bf16) (r : Fin 768) (s : Fin 1024) :
    k0_pay1 (F := Ideal) w a (ix2 r s) = ∑ k : Fin 3456, a (ix2 r k) * w (ix2 s k) := by
  pointwise [k0_pay1]

theorem pay2_apply (w : Vec Ideal S1024x3456 .bf16) (a : Vec Ideal S768x3456 .bf16) (r : Fin 768) (s : Fin 1024) :
    k0_pay2 (F := Ideal) w a (ix2 r s) = ∑ k : Fin 3456, a (ix2 r k) * w (ix2 s k) := by
  pointwise [k0_pay2]
  exact pay1_apply w a r s

theorem pay3_apply (w : Vec Ideal S1024x3456 .bf16) (a : Vec Ideal S768x3456 .bf16) (x : Vec Ideal S768x1024 .f32) (r : Fin 768) (s : Fin 1024) :
    k0_pay3 (F := Ideal) w a x (ix2 r s) = x (ix2 r s) + ∑ k : Fin 3456, a (ix2 r k) * w (ix2 s k) := by
  pointwise [k0_pay3]
  rw [pay1_apply w a r s]

theorem pay4_apply (x : Vec Ideal S768x1024 .f32) (r : Fin 768) (s : Fin 1024) : k0_pay4 (F := Ideal) x (ix2 r s) = x (ix2 r s) := by
  pointwise [k0_pay4]

theorem scr_A (t : Fin cfg0.N) (h0 : t.val % 3 = 0) (h1 : ¬1 ≤ t.val % 3) (h2 : ¬t.val % 3 = 2) :
    (outsAt0 m c t.val t.isLt).2 = k0_pay2 (iblk m c 1 t) (iblk m c 0 t) := by
  rw [outsAt0_A m c t h0 h1 h2]
  dsimp only
  unfold sout0_A_0
  rw [View.read_writes_eq_canon _ _ _ (scover0_A_0 c _ _ _ _ _ _ _ _ _ _ _ _ _ _ _ _ _ )]
  unfold kernelRun0_A
  dsimp only
  sl_unfold_words
  simp only [View.readAt_eq_ld, (hs0_0 t).read_unread, (hs0_1 t).read_unread]
  simp only [View.canon_unit_zero (S := S768x1024) z2, View.ld_unit_zero (S := S1024x3456) z2, View.ld_unit_zero (S := S768x3456) z2,
    View.ld_unit_zero (S := S768x1024) z2, View.readCov_unit_zero (S := S768x1024) _ z2]

theorem scr_B (t : Fin cfg0.N) (h0 : ¬t.val % 3 = 0) (h1 : 1 ≤ t.val % 3) (h2 : ¬t.val % 3 = 2) :
    (outsAt0 m c t.val t.isLt).2 = k0_pay3 (iblk m c 1 t) (iblk m c 0 t) (outsAt0 m c (t.val - 1) (Nat.lt_of_le_of_lt (Nat.sub_le _ _) t.isLt)).2 := by
  rw [outsAt0_B m c t h0 h1 h2]
  dsimp only
  unfold sout0_B_0
  rw [View.read_writes_eq_canon _ _ _ (scover0_B_0 c _ _ _ _ _ _ _ _ _ _ _ _ _ _ _ _ _ _ )]
  unfold kernelRun0_B
  dsimp only
  sl_unfold_words
  simp only [View.readAt_eq_ld, (hs0_0 t).read_unread, (hs0_1 t).read_unread, (Memref.isWhole_whole cc0_scratch0).read_unread]
  simp only [View.canon_unit_zero (S := S768x1024) z2, View.canon_unit_zero (S := S768x1024) z2, View.ld_unit_zero (S := S1024x3456) z2, View.ld_unit_zero (S := S768x3456) z2,
    View.ld_unit_zero (S := S768x1024) z2, View.readCov_unit_zero (S := S768x1024) _ z2]

theorem out_last (t : Fin cfg0.N) (h0 : ¬t.val % 3 = 0) (h1 : 1 ≤ t.val % 3) (h2 : t.val % 3 = 2) :
    (outsAt0 m c t.val t.isLt).1 = k0_pay4 (k0_pay3 (iblk m c 1 t) (iblk m c 0 t) (outsAt0 m c (t.val - 1) (Nat.lt_of_le_of_lt (Nat.sub_le _ _) t.isLt)).2) := by
  rw [outsAt0_C m c t h0 h1 h2]
  dsimp only
  unfold out0_C_3
  rw [View.read_writes_eq_canon _ _ _ (cover0_C_3 c _ _ _ _ _ _ _ _ _ _ _ _ _ _ _ _ _ _ )]
  unfold kernelRun0_C
  dsimp only
  sl_unfold_words
  simp only [View.readAt_eq_ld, (hs0_0 t).read_unread, (hs0_1 t).read_unread, (Memref.isWhole_whole cc0_scratch0).read_unread]
  simp only [View.canon_unit_zero (S := S768x1024) z2, View.canon_unit_zero (S := S768x1024) z2, View.ld_unit_zero (S := S1024x3456) z2, View.ld_unit_zero (S := S768x3456) z2,
    View.ld_unit_zero (S := S768x1024) z2, View.readCov_unit_zero (S := S768x1024) _ z2]

theorem scr_apply : ∀ (n : ℕ) (hn : n < cfg0.N), ¬n % 3 = 2 → ∀ (r : Fin 768) (s : Fin 1024), (outsAt0 m c n hn).2 (ix2 r s)
    = ∑ k ∈ Finset.range ((n % 3 + 1) * 3456), mA m c (n / 6 * 768 + r.val) k * mB m c k (n / 3 % 2 * 1024 + s.val) := by
  intro n
  induction n using Nat.strong_induction_on with
  | _ n ih =>
    intro hn h2 r s
    by_cases h : n % 3 = 0
    · refine (congrFun (scr_A m c ⟨n, hn⟩ h (by dsimp only; omega) h2) (ix2 r s)).trans ?_
      rw [pay2_apply]
      simp only [blk_0, blk_1]
      exact sum_first (fun k => mA m c (n / 6 * 768 + r.val) k * mB m c k (n / 3 % 2 * 1024 + s.val)) h
    · refine (congrFun (scr_B m c ⟨n, hn⟩ h (by dsimp only; omega) h2) (ix2 r s)).trans ?_
      rw [pay3_apply]
      dsimp only
      rw [ih (n - 1) (by omega) _ (by omega)]
      simp only [blk_0, blk_1]
      have e1 : (n - 1) / 6 = n / 6 := by omega
      have e2 : (n - 1) / 3 % 2 = n / 3 % 2 := by omega
      rw [e1, e2]
      exact sum_next (fun k => mA m c (n / 6 * 768 + r.val) k * mB m c k (n / 3 % 2 * 1024 + s.val)) (by omega)

theorem out_apply (t : Fin cfg0.N) (h2 : t.val % 3 = 2) (r : Fin 768) (s : Fin 1024) : (outsAt0 m c t.val t.isLt).1 (ix2 r s)
    = ∑ k ∈ Finset.range (3 * 3456), mA m c (t.val / 6 * 768 + r.val) k * mB m c k (t.val / 3 % 2 * 1024 + s.val) := by
  refine (congrFun (out_last m c t (by omega) (by omega) h2) (ix2 r s)).trans ?_
  rw [pay4_apply, pay3_apply, scr_apply m c (t.val - 1) _ (by omega)]
  simp only [blk_0, blk_1]
  have e1 : (t.val - 1) / 6 = t.val / 6 := by omega
  have e2 : (t.val - 1) / 3 % 2 = t.val / 3 % 2 := by omega
  rw [e1, e2]
  refine (sum_next (fun k => mA m c (t.val / 6 * 768 + r.val) k * mB m c k (t.val / 3 % 2 * 1024 + s.val)) (by omega)).trans ?_
  rw [h2]

theorem final : (dats (F := Ideal) m 0 c).arrAt 3 cfg0.N = spec (m ((c : Thread nD τ).loc main_arg0)) (m ((c : Thread nD τ).loc main_arg1)) := by
  refine (dats m 0 c).arrAt_eq_of_covers 3 _ (by decide +kernel) fun t hf y => ?_
  have h := N_le t
  have h2 : t.val % 3 = 2 := (flush0_3 t).mp hf
  blk_simp
  rw [after0_3]
  obtain ⟨r, s, rfl⟩ : ∃ (r : Fin 768) (s : Fin 1024), y = ix2 r s := ⟨y 0, y 1, funext fun a => by match a with | 0 => rfl | 1 => rfl⟩
  refine (out_apply m c t h2 r s).trans ?_
  unfold spec
  blk_simp [ix_3 t]
  rfl

end Cert.SsdInDxIdeal.Hand

end
-- ==== Proof.Prod.SsdInDxClaim.lean ====
/-
  The gradient of the scan layer's first product to its input: kernel and reference end with the same array.
-/
module

public import proofs.«01_k».proof.Defs
public import proofs.«01_k».proof.Proof.Prod.SsdInDx
public import proofs.«01_k».proof.Proof.Gen.SsdInDx
public import proofs.«01_k».proof.Proof.Gen.SsdInDx.Frame
public import proofs.«01_k».proof.Proof.Gen.SsdInDxIdeal
public import proofs.«01_k».proof.Proof.Gen.SsdInDxRefIdeal.Run
public import proofs.«01_k».proof.Proof.Gen.SsdInDxRefIdeal.Read
public import Idealize.ShloMosaic.Lib.Quiescent
public import Idealize.ShloMosaic.Lib.Claim

@[expose] public section

set_option maxRecDepth 16384

noncomputable section

namespace Cert.SsdInDxRefIdeal.Hand

open Cert.SsdInDxRefIdeal Cert.SsdInDxRefIdeal.Gen Cert.SsdInDxRefIdeal.Read Cert.Prod Cert.Prod.SsdInDx
open Idealize.ShloMosaic Idealize.ShloMosaic.TcCoe Idealize.ShloMosaic.Tactic

theorem result (x0 : (⟨2, ![8448, 10368]⟩ : Shape).Idx → EReal) (x1 : (⟨2, ![2048, 10368]⟩ : Shape).Idx → EReal) : val_main_v5 (F := Ideal) x0 x1 = spec x0 x1 := by
  funext i
  have h0 : (i 0).val < 8448 := (i 0).isLt
  have h1 : (i 1).val < 2048 := (i 1).isLt
  simp only [val_main_v5_apply, val_main_v4_apply, val_main_v3_apply, val_main_v1_apply]
  show ∑ k : Fin 10368, x0 _ * x1 _ = _
  unfold spec
  rw [Finset.sum_range]
  refine Finset.sum_congr rfl fun k _ => ?_
  have hk : k.val < 10368 := k.isLt
  skip
  unfold A B
  refine congrArg₂ (· * ·) ?_ ?_
  · rw [at2_lt _ (by omega) (by omega)]
    exact congrArg x0 (funext fun a => Fin.ext (by
      match a with
      | ⟨0, _⟩ => first | rfl | (show _ = (i 0).val; (try dsimp only); omega)
      | ⟨1, _⟩ => first | rfl | (show _ = k.val; (try dsimp only); omega)))
  · rw [at2_lt _ (by omega) (by omega)]
    exact congrArg x1 (funext fun a => Fin.ext (by
      match a with
      | ⟨0, _⟩ => first | rfl | (show _ = (i 1).val; (try dsimp only); omega)
      | ⟨1, _⟩ => first | rfl | (show _ = k.val; (try dsimp only); omega)))

end Cert.SsdInDxRefIdeal.Hand

namespace Cert.Prod.SsdInDx

open Idealize.ShloMosaic Idealize.SL.Sem

theorem frame_ideal : Cert.quiescent_SsdInDxIdeal := fun m g _ => Cert.SsdInDxIdeal.Gen.frame (F := Ideal) m g

theorem frame_kernel : Cert.quiescent_SsdInDx := fun m g _ => Cert.SsdInDx.Gen.frame (F := Bits) m g

theorem frame_reference : Cert.quiescent_SsdInDxRefIdeal := fun m g _ =>
  (θ_run (Cert.SsdInDxRefIdeal.defs (F := Ideal)) _ _).mono (fun r h => ⟨fun c => (h c).2, sem_eq_zero_of_no_sems rfl r.2⟩) (Cert.SsdInDxRefIdeal.Value.run (F := Ideal) m g)

/-- From equal arguments the two programs end with equal results. -/
theorem same : Cert.algebraic_SsdInDxIdeal_SsdInDxRefIdeal := fun m g m' g' _ hagree => by
  refine ⟨fun c => spec (m ((c.tc : Thread Cert.SsdInDxIdeal.nD Cert.SsdInDxIdeal.τ).loc Cert.SsdInDxIdeal.main_arg0)) (m ((c.tc : Thread Cert.SsdInDxIdeal.nD Cert.SsdInDxIdeal.τ).loc Cert.SsdInDxIdeal.main_arg1)), ?_, ?_⟩
  · refine (θ_run (Cert.SsdInDxIdeal.defs (F := Ideal)) _ _).mono (fun r h c => ?_)
      (θ_run_and (Cert.SsdInDxIdeal.Gen.run_main (F := Ideal) m g) (Cert.SsdInDxIdeal.Gen.frame (F := Ideal) m g))
    exact ⟨(h.1.out_eq c 3).trans (Cert.SsdInDxIdeal.Hand.final m c), h.2.1 c⟩
  · refine (θ_run (Cert.SsdInDxRefIdeal.defs (F := Ideal)) _ _).mono (fun r h c => ?_) (Cert.SsdInDxRefIdeal.Value.run (F := Ideal) m' g')
    obtain ⟨h0, ha⟩ := h c
    obtain ⟨a0, a1, a2⟩ := hagree c
    rw [Cert.SsdInDxRefIdeal.Read.val_main_v5_eq, a0, a1] at h0
    exact ⟨h0.trans (Cert.SsdInDxRefIdeal.Hand.result _ _), ha⟩

end Cert.Prod.SsdInDx

end
-- ==== Proof.Prod.SsdInDw.lean ====
/-
  The gradient of the scan layer's first product to its weight: the array the call leaves, of the arrays it is handed.
-/
module

public import proofs.«01_k».proof.Proof.Prod.Base
public import proofs.«01_k».proof.Proof.Gen.SsdInDwIdeal.Frame
public import Idealize.ShloMosaic.Lib.Pipeline.ValueKit.Point

@[expose] public section

set_option maxRecDepth 16384

noncomputable section

namespace Cert.Prod.SsdInDw

open Idealize.ShloMosaic Idealize.ShloMosaic.Tactic Cert.Prod

/-- The row `r` of the first factor, and the column `s` of the second. -/
def A (x0 : (⟨2, ![8448, 2048]⟩ : Shape).Idx → EReal) (r k : ℕ) : EReal := at2 x0 k r
def B (x1 : (⟨2, ![8448, 10368]⟩ : Shape).Idx → EReal) (k s : ℕ) : EReal := at2 x1 k s

/-- The product. -/
def spec (x0 : (⟨2, ![8448, 2048]⟩ : Shape).Idx → EReal) (x1 : (⟨2, ![8448, 10368]⟩ : Shape).Idx → EReal) : (⟨2, ![2048, 10368]⟩ : Shape).Idx → EReal :=
  fun i => ∑ k ∈ Finset.range (2 * 4224), A x0 (i 0).val k * B x1 k (i 1).val

end Cert.Prod.SsdInDw

namespace Cert.SsdInDwIdeal.Hand

open Cert.SsdInDwIdeal Cert.SsdInDwIdeal.Gen Cert.Prod Cert.Prod.SsdInDw
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![t.val % 2, t.val / 18] := (by decide +kernel : ∀ t : Fin grid0.N, _)
theorem ix_1 : ∀ t : Fin cfg0.N, win0_1.index t = ![t.val % 2, t.val / 2 % 9] := (by decide +kernel : ∀ t : Fin grid0.N, _)
theorem ix_2 : ∀ t : Fin cfg0.N, win0_2.index t = ![t.val / 18, t.val / 2 % 9] := (by decide +kernel : ∀ t : Fin grid0.N, _)

def mA (r k : ℕ) : EReal := A (m ((c : Thread nD τ).loc main_arg0)) r k
def mB (k s : ℕ) : EReal := B (m ((c : Thread nD τ).loc main_arg1)) k s

theorem N_le (t : Fin cfg0.N) : t.val < 72 := t.isLt.trans_eq N_0

theorem blk_0 (t : Fin cfg0.N) (r : Fin 512) (k : Fin 4224) :
    iblk m c 0 t (ix2 k r) = mA m c (t.val / 18 * 512 + r.val) (t.val % 2 * 4224 + k.val) := by
  have h := N_le t
  unfold mA A
  rw [at2_lt _ (by omega) (by omega)]
  blk_ext! [iblk, V, ix_0 t]

theorem blk_1 (t : Fin cfg0.N) (s : Fin 1152) (k : Fin 4224) :
    iblk m c 1 t (ix2 k s) = mB m c (t.val % 2 * 4224 + k.val) (t.val / 2 % 9 * 1152 + s.val) := by
  have h := N_le t
  unfold mB B
  rw [at2_lt _ (by omega) (by omega)]
  blk_ext! [iblk, V, ix_1 t]

theorem pay1_apply (w : Vec Ideal S4224x1152 .bf16) (a : Vec Ideal S4224x512 .bf16) (r : Fin 512) (s : Fin 1152) :
    k0_pay1 (F := Ideal) w a (ix2 r s) = ∑ k : Fin 4224, a (ix2 k r) * w (ix2 k s) := by
  pointwise [k0_pay1]

theorem pay2_apply (w : Vec Ideal S4224x1152 .bf16) (a : Vec Ideal S4224x512 .bf16) (r : Fin 512) (s : Fin 1152) :
    k0_pay2 (F := Ideal) w a (ix2 r s) = ∑ k : Fin 4224, a (ix2 k r) * w (ix2 k s) := by
  pointwise [k0_pay2]
  exact pay1_apply w a r s

theorem pay3_apply (w : Vec Ideal S4224x1152 .bf16) (a : Vec Ideal S4224x512 .bf16) (x : Vec Ideal S512x1152 .f32) (r : Fin 512) (s : Fin 1152) :
    k0_pay3 (F := Ideal) w a x (ix2 r s) = x (ix2 r s) + ∑ k : Fin 4224, a (ix2 k r) * w (ix2 k s) := by
  pointwise [k0_pay3]
  rw [pay1_apply w a r s]

theorem scr_A (t : Fin cfg0.N) (h0 : t.val % 2 = 0) (h1 : ¬t.val % 2 = 1) (h2 : ¬t.val % 2 = 1) :
    (outsAt0 m c t.val t.isLt).2 = k0_pay2 (iblk m c 1 t) (iblk m c 0 t) := by
  rw [outsAt0_A m c t h0 h1 h2]
  dsimp only
  unfold sout0_A_0
  rw [View.read_writes_eq_canon _ _ _ (scover0_A_0 c _ _ _ _ _ _ _ _ _ _ _ _ _ _ )]
  unfold kernelRun0_A
  dsimp only
  sl_unfold_words
  simp only [View.readAt_eq_ld, (hs0_0 t).read_unread, (hs0_1 t).read_unread]
  simp only [View.canon_unit_zero (S := S512x1152) z2, View.ld_unit_zero (S := S4224x1152) z2, View.ld_unit_zero (S := S4224x512) z2,
    View.ld_unit_zero (S := S512x1152) z2, View.readCov_unit_zero (S := S512x1152) _ z2]

theorem out_last (t : Fin cfg0.N) (h0 : ¬t.val % 2 = 0) (h1 : t.val % 2 = 1) (h2 : t.val % 2 = 1) :
    (outsAt0 m c t.val t.isLt).1 = k0_pay3 (iblk m c 1 t) (iblk m c 0 t) (outsAt0 m c (t.val - 1) (Nat.lt_of_le_of_lt (Nat.sub_le _ _) t.isLt)).2 := by
  rw [outsAt0_B m c t h0 h1 h2]
  dsimp only
  unfold out0_B_2
  rw [View.read_writes_eq_canon _ _ _ (cover0_B_2 c _ _ _ _ _ _ _ _ _ _ _ _ _ _ _ )]
  unfold kernelRun0_B
  dsimp only
  sl_unfold_words
  simp only [View.readAt_eq_ld, (hs0_0 t).read_unread, (hs0_1 t).read_unread, (Memref.isWhole_whole cc0_scratch0).read_unread]
  simp only [View.canon_unit_zero (S := S512x1152) z2, View.canon_unit_zero (S := S512x1152) z2, View.ld_unit_zero (S := S4224x1152) z2, View.ld_unit_zero (S := S4224x512) z2,
    View.ld_unit_zero (S := S512x1152) z2, View.readCov_unit_zero (S := S512x1152) _ z2]

theorem scr_apply : ∀ (n : ℕ) (hn : n < cfg0.N), ¬n % 2 = 1 → ∀ (r : Fin 512) (s : Fin 1152), (outsAt0 m c n hn).2 (ix2 r s)
    = ∑ k ∈ Finset.range ((n % 2 + 1) * 4224), mA m c (n / 18 * 512 + r.val) k * mB m c k (n / 2 % 9 * 1152 + s.val) := by
  intro n
  induction n using Nat.strong_induction_on with
  | _ n ih =>
    intro hn h2 r s
    by_cases h : n % 2 = 0
    · refine (congrFun (scr_A m c ⟨n, hn⟩ h (by dsimp only; omega) h2) (ix2 r s)).trans ?_
      rw [pay2_apply]
      simp only [blk_0, blk_1]
      exact sum_first (fun k => mA m c (n / 18 * 512 + r.val) k * mB m c k (n / 2 % 9 * 1152 + s.val)) h
    · exact absurd h (by omega)

theorem out_apply (t : Fin cfg0.N) (h2 : t.val % 2 = 1) (r : Fin 512) (s : Fin 1152) : (outsAt0 m c t.val t.isLt).1 (ix2 r s)
    = ∑ k ∈ Finset.range (2 * 4224), mA m c (t.val / 18 * 512 + r.val) k * mB m c k (t.val / 2 % 9 * 1152 + s.val) := by
  refine (congrFun (out_last m c t (by omega) (by omega) h2) (ix2 r s)).trans ?_
  rw [pay3_apply, scr_apply m c (t.val - 1) _ (by omega)]
  simp only [blk_0, blk_1]
  have e1 : (t.val - 1) / 18 = t.val / 18 := by omega
  have e2 : (t.val - 1) / 2 % 9 = t.val / 2 % 9 := by omega
  rw [e1, e2]
  refine (sum_next (fun k => mA m c (t.val / 18 * 512 + r.val) k * mB m c k (t.val / 2 % 9 * 1152 + s.val)) (by omega)).trans ?_
  rw [h2]

theorem final : (dats (F := Ideal) m 0 c).arrAt 2 cfg0.N = spec (m ((c : Thread nD τ).loc main_arg0)) (m ((c : Thread nD τ).loc main_arg1)) := by
  refine (dats m 0 c).arrAt_eq_of_covers 2 _ (by decide +kernel) fun t hf y => ?_
  have h := N_le t
  have h2 : t.val % 2 = 1 := (flush0_2 t).mp hf
  blk_simp
  rw [after0_2]
  obtain ⟨r, s, rfl⟩ : ∃ (r : Fin 512) (s : Fin 1152), y = ix2 r s := ⟨y 0, y 1, funext fun a => by match a with | 0 => rfl | 1 => rfl⟩
  refine (out_apply m c t h2 r s).trans ?_
  unfold spec
  blk_simp [ix_2 t]
  rfl

end Cert.SsdInDwIdeal.Hand

end
-- ==== Proof.Prod.SsdInDwClaim.lean ====
/-
  The gradient of the scan layer's first product to its weight: kernel and reference end with the same array.
-/
module

public import proofs.«01_k».proof.Defs
public import proofs.«01_k».proof.Proof.Prod.SsdInDw
public import proofs.«01_k».proof.Proof.Gen.SsdInDw
public import proofs.«01_k».proof.Proof.Gen.SsdInDw.Frame
public import proofs.«01_k».proof.Proof.Gen.SsdInDwIdeal
public import proofs.«01_k».proof.Proof.Gen.SsdInDwRefIdeal.Run
public import proofs.«01_k».proof.Proof.Gen.SsdInDwRefIdeal.Read
public import Idealize.ShloMosaic.Lib.Quiescent
public import Idealize.ShloMosaic.Lib.Claim

@[expose] public section

set_option maxRecDepth 16384

noncomputable section

namespace Cert.SsdInDwRefIdeal.Hand

open Cert.SsdInDwRefIdeal Cert.SsdInDwRefIdeal.Gen Cert.SsdInDwRefIdeal.Read Cert.Prod Cert.Prod.SsdInDw
open Idealize.ShloMosaic Idealize.ShloMosaic.TcCoe Idealize.ShloMosaic.Tactic

theorem result (x0 : (⟨2, ![8448, 2048]⟩ : Shape).Idx → EReal) (x1 : (⟨2, ![8448, 10368]⟩ : Shape).Idx → EReal) : val_main_v5 (F := Ideal) x0 x1 = spec x0 x1 := by
  funext i
  have h0 : (i 0).val < 2048 := (i 0).isLt
  have h1 : (i 1).val < 10368 := (i 1).isLt
  simp only [val_main_v5_apply, val_main_v4_apply, val_main_v3_apply, val_main_v1_apply]
  show ∑ k : Fin 8448, x1 _ * x0 _ = _
  unfold spec
  rw [Finset.sum_range]
  refine Finset.sum_congr rfl fun k _ => ?_
  have hk : k.val < 8448 := k.isLt
  refine (mul_comm _ _).trans ?_
  unfold A B
  refine congrArg₂ (· * ·) ?_ ?_
  · rw [at2_lt _ (by omega) (by omega)]
    exact congrArg x0 (funext fun a => Fin.ext (by
      match a with
      | ⟨0, _⟩ => first | rfl | (show _ = k.val; (try dsimp only); omega)
      | ⟨1, _⟩ => first | rfl | (show _ = (i 0).val; (try dsimp only); omega)))
  · rw [at2_lt _ (by omega) (by omega)]
    exact congrArg x1 (funext fun a => Fin.ext (by
      match a with
      | ⟨0, _⟩ => first | rfl | (show _ = k.val; (try dsimp only); omega)
      | ⟨1, _⟩ => first | rfl | (show _ = (i 1).val; (try dsimp only); omega)))

end Cert.SsdInDwRefIdeal.Hand

namespace Cert.Prod.SsdInDw

open Idealize.ShloMosaic Idealize.SL.Sem

theorem frame_ideal : Cert.quiescent_SsdInDwIdeal := fun m g _ => Cert.SsdInDwIdeal.Gen.frame (F := Ideal) m g

theorem frame_kernel : Cert.quiescent_SsdInDw := fun m g _ => Cert.SsdInDw.Gen.frame (F := Bits) m g

theorem frame_reference : Cert.quiescent_SsdInDwRefIdeal := fun m g _ =>
  (θ_run (Cert.SsdInDwRefIdeal.defs (F := Ideal)) _ _).mono (fun r h => ⟨fun c => (h c).2, sem_eq_zero_of_no_sems rfl r.2⟩) (Cert.SsdInDwRefIdeal.Value.run (F := Ideal) m g)

/-- From equal arguments the two programs end with equal results. -/
theorem same : Cert.algebraic_SsdInDwIdeal_SsdInDwRefIdeal := fun m g m' g' _ hagree => by
  refine ⟨fun c => spec (m ((c.tc : Thread Cert.SsdInDwIdeal.nD Cert.SsdInDwIdeal.τ).loc Cert.SsdInDwIdeal.main_arg0)) (m ((c.tc : Thread Cert.SsdInDwIdeal.nD Cert.SsdInDwIdeal.τ).loc Cert.SsdInDwIdeal.main_arg1)), ?_, ?_⟩
  · refine (θ_run (Cert.SsdInDwIdeal.defs (F := Ideal)) _ _).mono (fun r h c => ?_)
      (θ_run_and (Cert.SsdInDwIdeal.Gen.run_main (F := Ideal) m g) (Cert.SsdInDwIdeal.Gen.frame (F := Ideal) m g))
    exact ⟨(h.1.out_eq c 2).trans (Cert.SsdInDwIdeal.Hand.final m c), h.2.1 c⟩
  · refine (θ_run (Cert.SsdInDwRefIdeal.defs (F := Ideal)) _ _).mono (fun r h c => ?_) (Cert.SsdInDwRefIdeal.Value.run (F := Ideal) m' g')
    obtain ⟨h0, ha⟩ := h c
    obtain ⟨a0, a1⟩ := hagree c
    rw [Cert.SsdInDwRefIdeal.Read.val_main_v5_eq, a0, a1] at h0
    exact ⟨h0.trans (Cert.SsdInDwRefIdeal.Hand.result _ _), ha⟩

end Cert.Prod.SsdInDw

end
-- ==== Proof.Prod.AttnOutDx.lean ====
/-
  The gradient of the attention layer's last product to its input: the array the call leaves, of the arrays it is handed.
-/
module

public import proofs.«01_k».proof.Proof.Prod.Base
public import proofs.«01_k».proof.Proof.Gen.AttnOutDxIdeal.Frame
public import Idealize.ShloMosaic.Lib.Pipeline.ValueKit.Point

@[expose] public section

set_option maxRecDepth 16384

noncomputable section

namespace Cert.Prod.AttnOutDx

open Idealize.ShloMosaic Idealize.ShloMosaic.Tactic Cert.Prod

/-- The row `r` of the first factor, and the column `s` of the second. -/
def A (x0 : (⟨2, ![8448, 2048]⟩ : Shape).Idx → EReal) (r k : ℕ) : EReal := at2 x0 r k
def B (x1 : (⟨2, ![2048, 2048]⟩ : Shape).Idx → EReal) (k s : ℕ) : EReal := at2 x1 s k

/-- The product. -/
def spec (x0 : (⟨2, ![8448, 2048]⟩ : Shape).Idx → EReal) (x1 : (⟨2, ![2048, 2048]⟩ : Shape).Idx → EReal) : (⟨2, ![8448, 2048]⟩ : Shape).Idx → EReal :=
  fun i => ∑ k ∈ Finset.range (1 * 2048), A x0 (i 0).val k * B x1 k (i 1).val

end Cert.Prod.AttnOutDx

namespace Cert.AttnOutDxIdeal.Hand

open Cert.AttnOutDxIdeal Cert.AttnOutDxIdeal.Gen Cert.Prod Cert.Prod.AttnOutDx
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![t.val / 2, 0] := (by decide +kernel : ∀ t : Fin grid0.N, _)
theorem ix_1 : ∀ t : Fin cfg0.N, win0_1.index t = ![t.val % 2, 0] := (by decide +kernel : ∀ t : Fin grid0.N, _)
theorem ix_2 : ∀ t : Fin cfg0.N, win0_2.index t = ![t.val / 2, t.val % 2] := (by decide +kernel : ∀ t : Fin grid0.N, _)

def mA (r k : ℕ) : EReal := A (m ((c : Thread nD τ).loc main_arg0)) r k
def mB (k s : ℕ) : EReal := B (m ((c : Thread nD τ).loc main_arg1)) k s

theorem N_le (t : Fin cfg0.N) : t.val < 22 := t.isLt.trans_eq N_0

theorem blk_0 (t : Fin cfg0.N) (r : Fin 768) (k : Fin 2048) :
    iblk m c 0 t (ix2 r k) = mA m c (t.val / 2 * 768 + r.val) (0 * 2048 + k.val) := by
  have h := N_le t
  unfold mA A
  rw [at2_lt _ (by omega) (by omega)]
  blk_ext! [iblk, V, ix_0 t]

theorem blk_1 (t : Fin cfg0.N) (s : Fin 1024) (k : Fin 2048) :
    iblk m c 1 t (ix2 s k) = mB m c (0 * 2048 + k.val) (t.val % 2 * 1024 + s.val) := by
  have h := N_le t
  unfold mB B
  rw [at2_lt _ (by omega) (by omega)]
  blk_ext! [iblk, V, ix_1 t]

theorem pay1_apply (w : Vec Ideal S1024x2048 .bf16) (a : Vec Ideal S768x2048 .bf16) (r : Fin 768) (s : Fin 1024) :
    k0_pay1 (F := Ideal) w a (ix2 r s) = ∑ k : Fin 2048, a (ix2 r k) * w (ix2 s k) := by
  pointwise [k0_pay1]

theorem out_apply (t : Fin cfg0.N) (r : Fin 768) (s : Fin 1024) : out0_2 (iblk m c 0 t) (iblk m c 1 t) (ix2 r s)
    = ∑ k ∈ Finset.range (1 * 2048), mA m c (t.val / 2 * 768 + r.val) k * mB m c k (t.val % 2 * 1024 + s.val) := by
  unfold out0_2
  rw [View.canon_unit_zero (S := S768x1024) z2]
  simp only [View.ld_unit_zero (S := S768x2048) z2, View.ld_unit_zero (S := S1024x2048) z2]
  rw [pay1_apply]
  simp only [blk_0, blk_1]
  exact sum_first (fun k => mA m c (t.val / 2 * 768 + r.val) k * mB m c k (t.val % 2 * 1024 + s.val)) rfl

theorem final : (dats (F := Ideal) m 0 c).arrAt 2 cfg0.N = spec (m ((c : Thread nD τ).loc main_arg0)) (m ((c : Thread nD τ).loc main_arg1)) := by
  refine (dats m 0 c).arrAt_eq_of_covers 2 _ (by decide +kernel) fun t hf y => ?_
  have h := N_le t
  blk_simp
  rw [after0_2]
  obtain ⟨r, s, rfl⟩ : ∃ (r : Fin 768) (s : Fin 1024), y = ix2 r s := ⟨y 0, y 1, funext fun a => by match a with | 0 => rfl | 1 => rfl⟩
  refine (out_apply m c t r s).trans ?_
  unfold spec
  blk_simp [ix_2 t]
  rfl

end Cert.AttnOutDxIdeal.Hand

end
-- ==== Proof.Prod.AttnOutDxClaim.lean ====
/-
  The gradient of the attention layer's last product to its input: kernel and reference end with the same array.
-/
module

public import proofs.«01_k».proof.Defs
public import proofs.«01_k».proof.Proof.Prod.AttnOutDx
public import proofs.«01_k».proof.Proof.Gen.AttnOutDx
public import proofs.«01_k».proof.Proof.Gen.AttnOutDx.Frame
public import proofs.«01_k».proof.Proof.Gen.AttnOutDxIdeal
public import proofs.«01_k».proof.Proof.Gen.AttnOutDxRefIdeal.Run
public import proofs.«01_k».proof.Proof.Gen.AttnOutDxRefIdeal.Read
public import Idealize.ShloMosaic.Lib.Quiescent
public import Idealize.ShloMosaic.Lib.Claim

@[expose] public section

set_option maxRecDepth 16384

noncomputable section

namespace Cert.AttnOutDxRefIdeal.Hand

open Cert.AttnOutDxRefIdeal Cert.AttnOutDxRefIdeal.Gen Cert.AttnOutDxRefIdeal.Read Cert.Prod Cert.Prod.AttnOutDx
open Idealize.ShloMosaic Idealize.ShloMosaic.TcCoe Idealize.ShloMosaic.Tactic

theorem result (x0 : (⟨2, ![8448, 2048]⟩ : Shape).Idx → EReal) (x1 : (⟨2, ![2048, 2048]⟩ : Shape).Idx → EReal) : val_main_v5 (F := Ideal) x0 x1 = spec x0 x1 := by
  funext i
  have h0 : (i 0).val < 8448 := (i 0).isLt
  have h1 : (i 1).val < 2048 := (i 1).isLt
  simp only [val_main_v5_apply, val_main_v4_apply, val_main_v3_apply, val_main_v1_apply]
  show ∑ k : Fin 2048, x0 _ * x1 _ = _
  unfold spec
  rw [Finset.sum_range]
  refine Finset.sum_congr rfl fun k _ => ?_
  have hk : k.val < 2048 := k.isLt
  skip
  unfold A B
  refine congrArg₂ (· * ·) ?_ ?_
  · rw [at2_lt _ (by omega) (by omega)]
    exact congrArg x0 (funext fun a => Fin.ext (by
      match a with
      | ⟨0, _⟩ => first | rfl | (show _ = (i 0).val; (try dsimp only); omega)
      | ⟨1, _⟩ => first | rfl | (show _ = k.val; (try dsimp only); omega)))
  · rw [at2_lt _ (by omega) (by omega)]
    exact congrArg x1 (funext fun a => Fin.ext (by
      match a with
      | ⟨0, _⟩ => first | rfl | (show _ = (i 1).val; (try dsimp only); omega)
      | ⟨1, _⟩ => first | rfl | (show _ = k.val; (try dsimp only); omega)))

end Cert.AttnOutDxRefIdeal.Hand

namespace Cert.Prod.AttnOutDx

open Idealize.ShloMosaic Idealize.SL.Sem

theorem frame_ideal : Cert.quiescent_AttnOutDxIdeal := fun m g _ => Cert.AttnOutDxIdeal.Gen.frame (F := Ideal) m g

theorem frame_kernel : Cert.quiescent_AttnOutDx := fun m g _ => Cert.AttnOutDx.Gen.frame (F := Bits) m g

theorem frame_reference : Cert.quiescent_AttnOutDxRefIdeal := fun m g _ =>
  (θ_run (Cert.AttnOutDxRefIdeal.defs (F := Ideal)) _ _).mono (fun r h => ⟨fun c => (h c).2, sem_eq_zero_of_no_sems rfl r.2⟩) (Cert.AttnOutDxRefIdeal.Value.run (F := Ideal) m g)

/-- From equal arguments the two programs end with equal results. -/
theorem same : Cert.algebraic_AttnOutDxIdeal_AttnOutDxRefIdeal := fun m g m' g' _ hagree => by
  refine ⟨fun c => spec (m ((c.tc : Thread Cert.AttnOutDxIdeal.nD Cert.AttnOutDxIdeal.τ).loc Cert.AttnOutDxIdeal.main_arg0)) (m ((c.tc : Thread Cert.AttnOutDxIdeal.nD Cert.AttnOutDxIdeal.τ).loc Cert.AttnOutDxIdeal.main_arg1)), ?_, ?_⟩
  · refine (θ_run (Cert.AttnOutDxIdeal.defs (F := Ideal)) _ _).mono (fun r h c => ?_)
      (θ_run_and (Cert.AttnOutDxIdeal.Gen.run_main (F := Ideal) m g) (Cert.AttnOutDxIdeal.Gen.frame (F := Ideal) m g))
    exact ⟨(h.1.out_eq c 2).trans (Cert.AttnOutDxIdeal.Hand.final m c), h.2.1 c⟩
  · refine (θ_run (Cert.AttnOutDxRefIdeal.defs (F := Ideal)) _ _).mono (fun r h c => ?_) (Cert.AttnOutDxRefIdeal.Value.run (F := Ideal) m' g')
    obtain ⟨h0, ha⟩ := h c
    obtain ⟨a0, a1⟩ := hagree c
    rw [Cert.AttnOutDxRefIdeal.Read.val_main_v5_eq, a0, a1] at h0
    exact ⟨h0.trans (Cert.AttnOutDxRefIdeal.Hand.result _ _), ha⟩

end Cert.Prod.AttnOutDx

end
-- ==== Proof.Prod.AttnOutDw.lean ====
/-
  The gradient of the attention layer's last product to its weight: the array the call leaves, of the arrays it is handed.
-/
module

public import proofs.«01_k».proof.Proof.Prod.Base
public import proofs.«01_k».proof.Proof.Gen.AttnOutDwIdeal.Frame
public import Idealize.ShloMosaic.Lib.Pipeline.ValueKit.Point

@[expose] public section

set_option maxRecDepth 16384

noncomputable section

namespace Cert.Prod.AttnOutDw

open Idealize.ShloMosaic Idealize.ShloMosaic.Tactic Cert.Prod

/-- The row `r` of the first factor, and the column `s` of the second. -/
def A (x0 : (⟨2, ![8448, 2048]⟩ : Shape).Idx → EReal) (r k : ℕ) : EReal := at2 x0 k r
def B (x1 : (⟨2, ![8448, 2048]⟩ : Shape).Idx → EReal) (k s : ℕ) : EReal := at2 x1 k s

/-- The product. -/
def spec (x0 : (⟨2, ![8448, 2048]⟩ : Shape).Idx → EReal) (x1 : (⟨2, ![8448, 2048]⟩ : Shape).Idx → EReal) : (⟨2, ![2048, 2048]⟩ : Shape).Idx → EReal :=
  fun i => ∑ k ∈ Finset.range (2 * 4224), A x0 (i 0).val k * B x1 k (i 1).val

end Cert.Prod.AttnOutDw

namespace Cert.AttnOutDwIdeal.Hand

open Cert.AttnOutDwIdeal Cert.AttnOutDwIdeal.Gen Cert.Prod Cert.Prod.AttnOutDw
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![t.val % 2, t.val / 4] := (by decide +kernel : ∀ t : Fin grid0.N, _)
theorem ix_1 : ∀ t : Fin cfg0.N, win0_1.index t = ![t.val % 2, t.val / 2 % 2] := (by decide +kernel : ∀ t : Fin grid0.N, _)
theorem ix_2 : ∀ t : Fin cfg0.N, win0_2.index t = ![t.val / 4, t.val / 2 % 2] := (by decide +kernel : ∀ t : Fin grid0.N, _)

def mA (r k : ℕ) : EReal := A (m ((c : Thread nD τ).loc main_arg0)) r k
def mB (k s : ℕ) : EReal := B (m ((c : Thread nD τ).loc main_arg1)) k s

theorem N_le (t : Fin cfg0.N) : t.val < 16 := t.isLt.trans_eq N_0

theorem blk_0 (t : Fin cfg0.N) (r : Fin 512) (k : Fin 4224) :
    iblk m c 0 t (ix2 k r) = mA m c (t.val / 4 * 512 + r.val) (t.val % 2 * 4224 + k.val) := by
  have h := N_le t
  unfold mA A
  rw [at2_lt _ (by omega) (by omega)]
  blk_ext! [iblk, V, ix_0 t]

theorem blk_1 (t : Fin cfg0.N) (s : Fin 1024) (k : Fin 4224) :
    iblk m c 1 t (ix2 k s) = mB m c (t.val % 2 * 4224 + k.val) (t.val / 2 % 2 * 1024 + s.val) := by
  have h := N_le t
  unfold mB B
  rw [at2_lt _ (by omega) (by omega)]
  blk_ext! [iblk, V, ix_1 t]

theorem pay1_apply (w : Vec Ideal S4224x1024 .bf16) (a : Vec Ideal S4224x512 .bf16) (r : Fin 512) (s : Fin 1024) :
    k0_pay1 (F := Ideal) w a (ix2 r s) = ∑ k : Fin 4224, a (ix2 k r) * w (ix2 k s) := by
  pointwise [k0_pay1]

theorem pay2_apply (w : Vec Ideal S4224x1024 .bf16) (a : Vec Ideal S4224x512 .bf16) (r : Fin 512) (s : Fin 1024) :
    k0_pay2 (F := Ideal) w a (ix2 r s) = ∑ k : Fin 4224, a (ix2 k r) * w (ix2 k s) := by
  pointwise [k0_pay2]
  exact pay1_apply w a r s

theorem pay3_apply (w : Vec Ideal S4224x1024 .bf16) (a : Vec Ideal S4224x512 .bf16) (x : Vec Ideal S512x1024 .f32) (r : Fin 512) (s : Fin 1024) :
    k0_pay3 (F := Ideal) w a x (ix2 r s) = x (ix2 r s) + ∑ k : Fin 4224, a (ix2 k r) * w (ix2 k s) := by
  pointwise [k0_pay3]
  rw [pay1_apply w a r s]

theorem pay4_apply (x : Vec Ideal S512x1024 .f32) (r : Fin 512) (s : Fin 1024) : k0_pay4 (F := Ideal) x (ix2 r s) = x (ix2 r s) := by
  pointwise [k0_pay4]

theorem scr_A (t : Fin cfg0.N) (h0 : t.val % 2 = 0) (h1 : ¬t.val % 2 = 1) (h2 : ¬t.val % 2 = 1) :
    (outsAt0 m c t.val t.isLt).2 = k0_pay2 (iblk m c 1 t) (iblk m c 0 t) := by
  rw [outsAt0_A m c t h0 h1 h2]
  dsimp only
  unfold sout0_A_0
  rw [View.read_writes_eq_canon _ _ _ (scover0_A_0 c _ _ _ _ _ _ _ _ _ _ _ _ _ _ )]
  unfold kernelRun0_A
  dsimp only
  sl_unfold_words
  simp only [View.readAt_eq_ld, (hs0_0 t).read_unread, (hs0_1 t).read_unread]
  simp only [View.canon_unit_zero (S := S512x1024) z2, View.ld_unit_zero (S := S4224x1024) z2, View.ld_unit_zero (S := S4224x512) z2,
    View.ld_unit_zero (S := S512x1024) z2, View.readCov_unit_zero (S := S512x1024) _ z2]

theorem out_last (t : Fin cfg0.N) (h0 : ¬t.val % 2 = 0) (h1 : t.val % 2 = 1) (h2 : t.val % 2 = 1) :
    (outsAt0 m c t.val t.isLt).1 = k0_pay4 (k0_pay3 (iblk m c 1 t) (iblk m c 0 t) (outsAt0 m c (t.val - 1) (Nat.lt_of_le_of_lt (Nat.sub_le _ _) t.isLt)).2) := by
  rw [outsAt0_B m c t h0 h1 h2]
  dsimp only
  unfold out0_B_2
  rw [View.read_writes_eq_canon _ _ _ (cover0_B_2 c _ _ _ _ _ _ _ _ _ _ _ _ _ _ _ )]
  unfold kernelRun0_B
  dsimp only
  sl_unfold_words
  simp only [View.readAt_eq_ld, (hs0_0 t).read_unread, (hs0_1 t).read_unread, (Memref.isWhole_whole cc0_scratch0).read_unread]
  simp only [View.canon_unit_zero (S := S512x1024) z2, View.canon_unit_zero (S := S512x1024) z2, View.ld_unit_zero (S := S4224x1024) z2, View.ld_unit_zero (S := S4224x512) z2,
    View.ld_unit_zero (S := S512x1024) z2, View.readCov_unit_zero (S := S512x1024) _ z2]

theorem scr_apply : ∀ (n : ℕ) (hn : n < cfg0.N), ¬n % 2 = 1 → ∀ (r : Fin 512) (s : Fin 1024), (outsAt0 m c n hn).2 (ix2 r s)
    = ∑ k ∈ Finset.range ((n % 2 + 1) * 4224), mA m c (n / 4 * 512 + r.val) k * mB m c k (n / 2 % 2 * 1024 + s.val) := by
  intro n
  induction n using Nat.strong_induction_on with
  | _ n ih =>
    intro hn h2 r s
    by_cases h : n % 2 = 0
    · refine (congrFun (scr_A m c ⟨n, hn⟩ h (by dsimp only; omega) h2) (ix2 r s)).trans ?_
      rw [pay2_apply]
      simp only [blk_0, blk_1]
      exact sum_first (fun k => mA m c (n / 4 * 512 + r.val) k * mB m c k (n / 2 % 2 * 1024 + s.val)) h
    · exact absurd h (by omega)

theorem out_apply (t : Fin cfg0.N) (h2 : t.val % 2 = 1) (r : Fin 512) (s : Fin 1024) : (outsAt0 m c t.val t.isLt).1 (ix2 r s)
    = ∑ k ∈ Finset.range (2 * 4224), mA m c (t.val / 4 * 512 + r.val) k * mB m c k (t.val / 2 % 2 * 1024 + s.val) := by
  refine (congrFun (out_last m c t (by omega) (by omega) h2) (ix2 r s)).trans ?_
  rw [pay4_apply, pay3_apply, scr_apply m c (t.val - 1) _ (by omega)]
  simp only [blk_0, blk_1]
  have e1 : (t.val - 1) / 4 = t.val / 4 := by omega
  have e2 : (t.val - 1) / 2 % 2 = t.val / 2 % 2 := by omega
  rw [e1, e2]
  refine (sum_next (fun k => mA m c (t.val / 4 * 512 + r.val) k * mB m c k (t.val / 2 % 2 * 1024 + s.val)) (by omega)).trans ?_
  rw [h2]

theorem final : (dats (F := Ideal) m 0 c).arrAt 2 cfg0.N = spec (m ((c : Thread nD τ).loc main_arg0)) (m ((c : Thread nD τ).loc main_arg1)) := by
  refine (dats m 0 c).arrAt_eq_of_covers 2 _ (by decide +kernel) fun t hf y => ?_
  have h := N_le t
  have h2 : t.val % 2 = 1 := (flush0_2 t).mp hf
  blk_simp
  rw [after0_2]
  obtain ⟨r, s, rfl⟩ : ∃ (r : Fin 512) (s : Fin 1024), y = ix2 r s := ⟨y 0, y 1, funext fun a => by match a with | 0 => rfl | 1 => rfl⟩
  refine (out_apply m c t h2 r s).trans ?_
  unfold spec
  blk_simp [ix_2 t]
  rfl

end Cert.AttnOutDwIdeal.Hand

end
-- ==== Proof.Prod.AttnOutDwClaim.lean ====
/-
  The gradient of the attention layer's last product to its weight: kernel and reference end with the same array.
-/
module

public import proofs.«01_k».proof.Defs
public import proofs.«01_k».proof.Proof.Prod.AttnOutDw
public import proofs.«01_k».proof.Proof.Gen.AttnOutDw
public import proofs.«01_k».proof.Proof.Gen.AttnOutDw.Frame
public import proofs.«01_k».proof.Proof.Gen.AttnOutDwIdeal
public import proofs.«01_k».proof.Proof.Gen.AttnOutDwRefIdeal.Run
public import proofs.«01_k».proof.Proof.Gen.AttnOutDwRefIdeal.Read
public import Idealize.ShloMosaic.Lib.Quiescent
public import Idealize.ShloMosaic.Lib.Claim

@[expose] public section

set_option maxRecDepth 16384

noncomputable section

namespace Cert.AttnOutDwRefIdeal.Hand

open Cert.AttnOutDwRefIdeal Cert.AttnOutDwRefIdeal.Gen Cert.AttnOutDwRefIdeal.Read Cert.Prod Cert.Prod.AttnOutDw
open Idealize.ShloMosaic Idealize.ShloMosaic.TcCoe Idealize.ShloMosaic.Tactic

theorem result (x0 : (⟨2, ![8448, 2048]⟩ : Shape).Idx → EReal) (x1 : (⟨2, ![8448, 2048]⟩ : Shape).Idx → EReal) : val_main_v6 (F := Ideal) x0 x1 = spec x0 x1 := by
  funext i
  have h0 : (i 0).val < 2048 := (i 0).isLt
  have h1 : (i 1).val < 2048 := (i 1).isLt
  simp only [val_main_v6_apply, val_main_v5_apply, val_main_v4_apply, val_main_v3_apply, val_main_v1_apply]
  show ∑ k : Fin 8448, x1 _ * x0 _ = _
  unfold spec
  rw [Finset.sum_range]
  refine Finset.sum_congr rfl fun k _ => ?_
  have hk : k.val < 8448 := k.isLt
  refine (mul_comm _ _).trans ?_
  unfold A B
  refine congrArg₂ (· * ·) ?_ ?_
  · rw [at2_lt _ (by omega) (by omega)]
    exact congrArg x0 (funext fun a => Fin.ext (by
      match a with
      | ⟨0, _⟩ => first | rfl | (show _ = k.val; (try dsimp only); omega)
      | ⟨1, _⟩ => first | rfl | (show _ = (i 0).val; (try dsimp only); omega)))
  · rw [at2_lt _ (by omega) (by omega)]
    exact congrArg x1 (funext fun a => Fin.ext (by
      match a with
      | ⟨0, _⟩ => first | rfl | (show _ = k.val; (try dsimp only); omega)
      | ⟨1, _⟩ => first | rfl | (show _ = (i 1).val; (try dsimp only); omega)))

end Cert.AttnOutDwRefIdeal.Hand

namespace Cert.Prod.AttnOutDw

open Idealize.ShloMosaic Idealize.SL.Sem

theorem frame_ideal : Cert.quiescent_AttnOutDwIdeal := fun m g _ => Cert.AttnOutDwIdeal.Gen.frame (F := Ideal) m g

theorem frame_kernel : Cert.quiescent_AttnOutDw := fun m g _ => Cert.AttnOutDw.Gen.frame (F := Bits) m g

theorem frame_reference : Cert.quiescent_AttnOutDwRefIdeal := fun m g _ =>
  (θ_run (Cert.AttnOutDwRefIdeal.defs (F := Ideal)) _ _).mono (fun r h => ⟨fun c => (h c).2, sem_eq_zero_of_no_sems rfl r.2⟩) (Cert.AttnOutDwRefIdeal.Value.run (F := Ideal) m g)

/-- From equal arguments the two programs end with equal results. -/
theorem same : Cert.algebraic_AttnOutDwIdeal_AttnOutDwRefIdeal := fun m g m' g' _ hagree => by
  refine ⟨fun c => spec (m ((c.tc : Thread Cert.AttnOutDwIdeal.nD Cert.AttnOutDwIdeal.τ).loc Cert.AttnOutDwIdeal.main_arg0)) (m ((c.tc : Thread Cert.AttnOutDwIdeal.nD Cert.AttnOutDwIdeal.τ).loc Cert.AttnOutDwIdeal.main_arg1)), ?_, ?_⟩
  · refine (θ_run (Cert.AttnOutDwIdeal.defs (F := Ideal)) _ _).mono (fun r h c => ?_)
      (θ_run_and (Cert.AttnOutDwIdeal.Gen.run_main (F := Ideal) m g) (Cert.AttnOutDwIdeal.Gen.frame (F := Ideal) m g))
    exact ⟨(h.1.out_eq c 2).trans (Cert.AttnOutDwIdeal.Hand.final m c), h.2.1 c⟩
  · refine (θ_run (Cert.AttnOutDwRefIdeal.defs (F := Ideal)) _ _).mono (fun r h c => ?_) (Cert.AttnOutDwRefIdeal.Value.run (F := Ideal) m' g')
    obtain ⟨h0, ha⟩ := h c
    obtain ⟨a0, a1⟩ := hagree c
    rw [Cert.AttnOutDwRefIdeal.Read.val_main_v6_eq, a0, a1] at h0
    exact ⟨h0.trans (Cert.AttnOutDwRefIdeal.Hand.result _ _), ha⟩

end Cert.Prod.AttnOutDw

end
-- ==== Proof.Prod.QkvDx.lean ====
/-
  The gradient of the attention layer's first product to its input: the array the call leaves, of the arrays it is handed.
-/
module

public import proofs.«01_k».proof.Proof.Prod.Base
public import proofs.«01_k».proof.Proof.Gen.QkvDxIdeal.Frame
public import Idealize.ShloMosaic.Lib.Pipeline.ValueKit.Point

@[expose] public section

set_option maxRecDepth 16384

noncomputable section

namespace Cert.Prod.QkvDx

open Idealize.ShloMosaic Idealize.ShloMosaic.Tactic Cert.Prod

/-- The row `r` of the first factor, and the column `s` of the second. -/
def A (x0 : (⟨2, ![8448, 3072]⟩ : Shape).Idx → EReal) (r k : ℕ) : EReal := at2 x0 r k
def B (x1 : (⟨3, ![8, 2048, 384]⟩ : Shape).Idx → EReal) (k s : ℕ) : EReal := at3 x1 ((k / 384)) s (k % 384)

/-- The product. -/
def spec (x0 : (⟨2, ![8448, 3072]⟩ : Shape).Idx → EReal) (x1 : (⟨3, ![8, 2048, 384]⟩ : Shape).Idx → EReal) : (⟨2, ![8448, 2048]⟩ : Shape).Idx → EReal :=
  fun i => ∑ k ∈ Finset.range (8 * 384), A x0 (i 0).val k * B x1 k (i 1).val

end Cert.Prod.QkvDx

namespace Cert.QkvDxIdeal.Hand

open Cert.QkvDxIdeal Cert.QkvDxIdeal.Gen Cert.Prod Cert.Prod.QkvDx
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![t.val / 16, t.val % 8] := (by decide +kernel : ∀ t : Fin grid0.N, _)
theorem ix_1 : ∀ t : Fin cfg0.N, win0_1.index t = ![(t.val % 8), t.val / 8 % 2, 0] := (by decide +kernel : ∀ t : Fin grid0.N, _)
theorem ix_3 : ∀ t : Fin cfg0.N, win0_3.index t = ![t.val / 16, t.val / 8 % 2] := (by decide +kernel : ∀ t : Fin grid0.N, _)

def mA (r k : ℕ) : EReal := A (m ((c : Thread nD τ).loc main_arg0)) r k
def mB (k s : ℕ) : EReal := B (m ((c : Thread nD τ).loc main_arg1)) k s

theorem N_le (t : Fin cfg0.N) : t.val < 176 := t.isLt.trans_eq N_0

theorem blk_0 (t : Fin cfg0.N) (r : Fin 768) (k : Fin 384) :
    iblk m c 0 t (ix2 r k) = mA m c (t.val / 16 * 768 + r.val) (t.val % 8 * 384 + k.val) := by
  have h := N_le t
  unfold mA A
  rw [at2_lt _ (by omega) (by omega)]
  blk_ext! [iblk, V, ix_0 t]

theorem blk_1 (t : Fin cfg0.N) (s : Fin 1024) (k : Fin 384) :
    iblk m c 1 t (ix3 0 s k) = mB m c (t.val % 8 * 384 + k.val) (t.val / 8 % 2 * 1024 + s.val) := by
  have h := N_le t
  have e1 : (t.val % 8 * 384 + k.val) / 384 = t.val % 8 := by omega
  have e2 : (t.val % 8 * 384 + k.val) % 384 = k.val := by omega
  unfold mB B
  rw [e1, e2, at3_lt _ (by omega) (by omega) (by omega)]
  blk_ext! [iblk, V, ix_1 t]

theorem pay1_apply (w : Vec Ideal S1x1024x384 .bf16) (a : Vec Ideal S768x384 .bf16) (r : Fin 768) (s : Fin 1024) :
    k0_pay1 (F := Ideal) w a (ix2 r s) = ∑ k : Fin 384, a (ix2 r k) * w (ix3 0 s k) := by
  pointwise [k0_pay1]

theorem pay2_apply (w : Vec Ideal S1x1024x384 .bf16) (a : Vec Ideal S768x384 .bf16) (r : Fin 768) (s : Fin 1024) :
    k0_pay2 (F := Ideal) w a (ix2 r s) = ∑ k : Fin 384, a (ix2 r k) * w (ix3 0 s k) := by
  pointwise [k0_pay2]
  exact pay1_apply w a r s

theorem pay3_apply (w : Vec Ideal S1x1024x384 .bf16) (a : Vec Ideal S768x384 .bf16) (x : Vec Ideal S768x1024 .f32) (r : Fin 768) (s : Fin 1024) :
    k0_pay3 (F := Ideal) w a x (ix2 r s) = x (ix2 r s) + ∑ k : Fin 384, a (ix2 r k) * w (ix3 0 s k) := by
  pointwise [k0_pay3]
  rw [pay1_apply w a r s]

theorem pay4_apply (x : Vec Ideal S768x1024 .f32) (r : Fin 768) (s : Fin 1024) : k0_pay4 (F := Ideal) x (ix2 r s) = x (ix2 r s) := by
  pointwise [k0_pay4]

theorem scr_A (t : Fin cfg0.N) (h0 : t.val % 8 = 0) (h1 : ¬1 ≤ t.val % 8) (h2 : ¬t.val % 8 = 7) :
    (outsAt0 m c t.val t.isLt).2 = k0_pay2 (iblk m c 1 t) (iblk m c 0 t) := by
  rw [outsAt0_A m c t h0 h1 h2]
  dsimp only
  unfold sout0_A_0
  rw [View.read_writes_eq_canon _ _ _ (scover0_A_0 c _ _ _ _ _ _ _ _ _ _ _ _ _ _ _ _ _ )]
  unfold kernelRun0_A
  dsimp only
  sl_unfold_words
  simp only [View.readAt_eq_ld, (hs0_0 t).read_unread, (hs0_1 t).read_unread]
  simp only [View.canon_unit_zero (S := S768x1024) z2, View.ld_unit_zero (S := S1x1024x384) z3, View.ld_unit_zero (S := S768x384) z2,
    View.ld_unit_zero (S := S768x1024) z2, View.readCov_unit_zero (S := S768x1024) _ z2]

theorem scr_B (t : Fin cfg0.N) (h0 : ¬t.val % 8 = 0) (h1 : 1 ≤ t.val % 8) (h2 : ¬t.val % 8 = 7) :
    (outsAt0 m c t.val t.isLt).2 = k0_pay3 (iblk m c 1 t) (iblk m c 0 t) (outsAt0 m c (t.val - 1) (Nat.lt_of_le_of_lt (Nat.sub_le _ _) t.isLt)).2 := by
  rw [outsAt0_B m c t h0 h1 h2]
  dsimp only
  unfold sout0_B_0
  rw [View.read_writes_eq_canon _ _ _ (scover0_B_0 c _ _ _ _ _ _ _ _ _ _ _ _ _ _ _ _ _ _ )]
  unfold kernelRun0_B
  dsimp only
  sl_unfold_words
  simp only [View.readAt_eq_ld, (hs0_0 t).read_unread, (hs0_1 t).read_unread, (Memref.isWhole_whole cc0_scratch0).read_unread]
  simp only [View.canon_unit_zero (S := S768x1024) z2, View.canon_unit_zero (S := S768x1024) z2, View.ld_unit_zero (S := S1x1024x384) z3, View.ld_unit_zero (S := S768x384) z2,
    View.ld_unit_zero (S := S768x1024) z2, View.readCov_unit_zero (S := S768x1024) _ z2]

theorem out_last (t : Fin cfg0.N) (h0 : ¬t.val % 8 = 0) (h1 : 1 ≤ t.val % 8) (h2 : t.val % 8 = 7) :
    (outsAt0 m c t.val t.isLt).1 = k0_pay4 (k0_pay3 (iblk m c 1 t) (iblk m c 0 t) (outsAt0 m c (t.val - 1) (Nat.lt_of_le_of_lt (Nat.sub_le _ _) t.isLt)).2) := by
  rw [outsAt0_C m c t h0 h1 h2]
  dsimp only
  unfold out0_C_3
  rw [View.read_writes_eq_canon _ _ _ (cover0_C_3 c _ _ _ _ _ _ _ _ _ _ _ _ _ _ _ _ _ _ )]
  unfold kernelRun0_C
  dsimp only
  sl_unfold_words
  simp only [View.readAt_eq_ld, (hs0_0 t).read_unread, (hs0_1 t).read_unread, (Memref.isWhole_whole cc0_scratch0).read_unread]
  simp only [View.canon_unit_zero (S := S768x1024) z2, View.canon_unit_zero (S := S768x1024) z2, View.ld_unit_zero (S := S1x1024x384) z3, View.ld_unit_zero (S := S768x384) z2,
    View.ld_unit_zero (S := S768x1024) z2, View.readCov_unit_zero (S := S768x1024) _ z2]

theorem scr_apply : ∀ (n : ℕ) (hn : n < cfg0.N), ¬n % 8 = 7 → ∀ (r : Fin 768) (s : Fin 1024), (outsAt0 m c n hn).2 (ix2 r s)
    = ∑ k ∈ Finset.range ((n % 8 + 1) * 384), mA m c (n / 16 * 768 + r.val) k * mB m c k (n / 8 % 2 * 1024 + s.val) := by
  intro n
  induction n using Nat.strong_induction_on with
  | _ n ih =>
    intro hn h2 r s
    by_cases h : n % 8 = 0
    · refine (congrFun (scr_A m c ⟨n, hn⟩ h (by dsimp only; omega) h2) (ix2 r s)).trans ?_
      rw [pay2_apply]
      simp only [blk_0, blk_1]
      exact sum_first (fun k => mA m c (n / 16 * 768 + r.val) k * mB m c k (n / 8 % 2 * 1024 + s.val)) h
    · refine (congrFun (scr_B m c ⟨n, hn⟩ h (by dsimp only; omega) h2) (ix2 r s)).trans ?_
      rw [pay3_apply]
      dsimp only
      rw [ih (n - 1) (by omega) _ (by omega)]
      simp only [blk_0, blk_1]
      have e1 : (n - 1) / 16 = n / 16 := by omega
      have e2 : (n - 1) / 8 % 2 = n / 8 % 2 := by omega
      rw [e1, e2]
      exact sum_next (fun k => mA m c (n / 16 * 768 + r.val) k * mB m c k (n / 8 % 2 * 1024 + s.val)) (by omega)

theorem out_apply (t : Fin cfg0.N) (h2 : t.val % 8 = 7) (r : Fin 768) (s : Fin 1024) : (outsAt0 m c t.val t.isLt).1 (ix2 r s)
    = ∑ k ∈ Finset.range (8 * 384), mA m c (t.val / 16 * 768 + r.val) k * mB m c k (t.val / 8 % 2 * 1024 + s.val) := by
  refine (congrFun (out_last m c t (by omega) (by omega) h2) (ix2 r s)).trans ?_
  rw [pay4_apply, pay3_apply, scr_apply m c (t.val - 1) _ (by omega)]
  simp only [blk_0, blk_1]
  have e1 : (t.val - 1) / 16 = t.val / 16 := by omega
  have e2 : (t.val - 1) / 8 % 2 = t.val / 8 % 2 := by omega
  rw [e1, e2]
  refine (sum_next (fun k => mA m c (t.val / 16 * 768 + r.val) k * mB m c k (t.val / 8 % 2 * 1024 + s.val)) (by omega)).trans ?_
  rw [h2]

theorem final : (dats (F := Ideal) m 0 c).arrAt 3 cfg0.N = spec (m ((c : Thread nD τ).loc main_arg0)) (m ((c : Thread nD τ).loc main_arg1)) := by
  refine (dats m 0 c).arrAt_eq_of_covers 3 _ (by decide +kernel) fun t hf y => ?_
  have h := N_le t
  have h2 : t.val % 8 = 7 := (flush0_3 t).mp hf
  blk_simp
  rw [after0_3]
  obtain ⟨r, s, rfl⟩ : ∃ (r : Fin 768) (s : Fin 1024), y = ix2 r s := ⟨y 0, y 1, funext fun a => by match a with | 0 => rfl | 1 => rfl⟩
  refine (out_apply m c t h2 r s).trans ?_
  unfold spec
  blk_simp [ix_3 t]
  rfl

end Cert.QkvDxIdeal.Hand

end
-- ==== Proof.Prod.QkvDxClaim.lean ====
/-
  The gradient of the attention layer's first product to its input: kernel and reference end with the same array.
-/
module

public import proofs.«01_k».proof.Defs
public import proofs.«01_k».proof.Proof.Prod.QkvDx
public import proofs.«01_k».proof.Proof.Gen.QkvDx
public import proofs.«01_k».proof.Proof.Gen.QkvDx.Frame
public import proofs.«01_k».proof.Proof.Gen.QkvDxIdeal
public import proofs.«01_k».proof.Proof.Gen.QkvDxRefIdeal.Run
public import proofs.«01_k».proof.Proof.Gen.QkvDxRefIdeal.Read
public import Idealize.ShloMosaic.Lib.Quiescent
public import Idealize.ShloMosaic.Lib.Claim

@[expose] public section

set_option maxRecDepth 16384

noncomputable section

namespace Cert.QkvDxRefIdeal.Hand

open Cert.QkvDxRefIdeal Cert.QkvDxRefIdeal.Gen Cert.QkvDxRefIdeal.Read Cert.Prod Cert.Prod.QkvDx
open Idealize.ShloMosaic Idealize.ShloMosaic.TcCoe Idealize.ShloMosaic.Tactic

theorem result (x0 : (⟨2, ![8448, 3072]⟩ : Shape).Idx → EReal) (x1 : (⟨3, ![8, 2048, 384]⟩ : Shape).Idx → EReal) : val_main_v7 (F := Ideal) x0 x1 = spec x0 x1 := by
  funext i
  have h0 : (i 0).val < 8448 := (i 0).isLt
  have h1 : (i 1).val < 2048 := (i 1).isLt
  simp only [val_main_v7_apply, val_main_v6_apply, val_main_v5_apply, val_main_v3_apply, val_main_v2_apply, val_main_v1_apply]
  show ∑ k : Fin 3072, x0 _ * x1 _ = _
  unfold spec
  rw [Finset.sum_range]
  refine Finset.sum_congr rfl fun k _ => ?_
  have hk : k.val < 3072 := k.isLt
  skip
  unfold A B
  refine congrArg₂ (· * ·) ?_ ?_
  · rw [at2_lt _ (by omega) (by omega)]
    exact congrArg x0 (funext fun a => Fin.ext (by
      match a with
      | ⟨0, _⟩ => first | rfl | (show _ = (i 0).val; (try dsimp only); omega)
      | ⟨1, _⟩ => first | rfl | (show _ = k.val; (try dsimp only); omega)))
  · rw [at3_lt _ (by omega) (by omega) (by omega)]
    exact congrArg x1 (funext fun a => Fin.ext (by
      match a with
      | ⟨0, _⟩ => first | rfl | (show _ = (k.val / 384); (try dsimp only); omega)
      | ⟨1, _⟩ => first | rfl | (show _ = (i 1).val; (try dsimp only); omega)
      | ⟨2, _⟩ => first | rfl | (show _ = k.val % 384; (try dsimp only); omega)))

end Cert.QkvDxRefIdeal.Hand

namespace Cert.Prod.QkvDx

open Idealize.ShloMosaic Idealize.SL.Sem

theorem frame_ideal : Cert.quiescent_QkvDxIdeal := fun m g _ => Cert.QkvDxIdeal.Gen.frame (F := Ideal) m g

theorem frame_kernel : Cert.quiescent_QkvDx := fun m g _ => Cert.QkvDx.Gen.frame (F := Bits) m g

theorem frame_reference : Cert.quiescent_QkvDxRefIdeal := fun m g _ =>
  (θ_run (Cert.QkvDxRefIdeal.defs (F := Ideal)) _ _).mono (fun r h => ⟨fun c => (h c).2, sem_eq_zero_of_no_sems rfl r.2⟩) (Cert.QkvDxRefIdeal.Value.run (F := Ideal) m g)

/-- From equal arguments the two programs end with equal results. -/
theorem same : Cert.algebraic_QkvDxIdeal_QkvDxRefIdeal := fun m g m' g' _ hagree => by
  refine ⟨fun c => spec (m ((c.tc : Thread Cert.QkvDxIdeal.nD Cert.QkvDxIdeal.τ).loc Cert.QkvDxIdeal.main_arg0)) (m ((c.tc : Thread Cert.QkvDxIdeal.nD Cert.QkvDxIdeal.τ).loc Cert.QkvDxIdeal.main_arg1)), ?_, ?_⟩
  · refine (θ_run (Cert.QkvDxIdeal.defs (F := Ideal)) _ _).mono (fun r h c => ?_)
      (θ_run_and (Cert.QkvDxIdeal.Gen.run_main (F := Ideal) m g) (Cert.QkvDxIdeal.Gen.frame (F := Ideal) m g))
    exact ⟨(h.1.out_eq c 3).trans (Cert.QkvDxIdeal.Hand.final m c), h.2.1 c⟩
  · refine (θ_run (Cert.QkvDxRefIdeal.defs (F := Ideal)) _ _).mono (fun r h c => ?_) (Cert.QkvDxRefIdeal.Value.run (F := Ideal) m' g')
    obtain ⟨h0, ha⟩ := h c
    obtain ⟨a0, a1, a2⟩ := hagree c
    rw [Cert.QkvDxRefIdeal.Read.val_main_v7_eq, a0, a1] at h0
    exact ⟨h0.trans (Cert.QkvDxRefIdeal.Hand.result _ _), ha⟩

end Cert.Prod.QkvDx

end
-- ==== Proof.Prod.QkvDw.lean ====
/-
  The gradient of the attention layer's first product to its weight: the array the call leaves, of the arrays it is handed.
-/
module

public import proofs.«01_k».proof.Proof.Prod.Base
public import proofs.«01_k».proof.Proof.Gen.QkvDwIdeal.Frame
public import Idealize.ShloMosaic.Lib.Pipeline.ValueKit.Point

@[expose] public section

set_option maxRecDepth 16384

noncomputable section

namespace Cert.Prod.QkvDw

open Idealize.ShloMosaic Idealize.ShloMosaic.Tactic Cert.Prod

/-- The row `r` of the first factor, and the column `s` of the second. -/
def A (x0 : (⟨2, ![8448, 2048]⟩ : Shape).Idx → EReal) (r k : ℕ) : EReal := at2 x0 k r
def B (x1 : (⟨2, ![8448, 3072]⟩ : Shape).Idx → EReal) (k s : ℕ) : EReal := at2 x1 k s

/-- The product. -/
def spec (x0 : (⟨2, ![8448, 2048]⟩ : Shape).Idx → EReal) (x1 : (⟨2, ![8448, 3072]⟩ : Shape).Idx → EReal) : (⟨3, ![8, 2048, 384]⟩ : Shape).Idx → EReal :=
  fun i => ∑ k ∈ Finset.range (4 * 2112), A x0 (i 1).val k * B x1 k (((i 0).val) * 384 + (i 2).val)

end Cert.Prod.QkvDw

namespace Cert.QkvDwIdeal.Hand

open Cert.QkvDwIdeal Cert.QkvDwIdeal.Gen Cert.Prod Cert.Prod.QkvDw
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![t.val % 4, t.val / 32] := (by decide +kernel : ∀ t : Fin grid0.N, _)
theorem ix_1 : ∀ t : Fin cfg0.N, win0_1.index t = ![t.val % 4, t.val / 4 % 8] := (by decide +kernel : ∀ t : Fin grid0.N, _)
theorem ix_2 : ∀ t : Fin cfg0.N, win0_2.index t = ![(t.val / 4 % 8), t.val / 32, 0] := (by decide +kernel : ∀ t : Fin grid0.N, _)

def mA (r k : ℕ) : EReal := A (m ((c : Thread nD τ).loc main_arg0)) r k
def mB (k s : ℕ) : EReal := B (m ((c : Thread nD τ).loc main_arg1)) k s

theorem N_le (t : Fin cfg0.N) : t.val < 64 := t.isLt.trans_eq N_0

theorem blk_0 (t : Fin cfg0.N) (r : Fin 1024) (k : Fin 2112) :
    iblk m c 0 t (ix2 k r) = mA m c (t.val / 32 * 1024 + r.val) (t.val % 4 * 2112 + k.val) := by
  have h := N_le t
  unfold mA A
  rw [at2_lt _ (by omega) (by omega)]
  blk_ext! [iblk, V, ix_0 t]

theorem blk_1 (t : Fin cfg0.N) (s : Fin 384) (k : Fin 2112) :
    iblk m c 1 t (ix2 k s) = mB m c (t.val % 4 * 2112 + k.val) (t.val / 4 % 8 * 384 + s.val) := by
  have h := N_le t
  unfold mB B
  rw [at2_lt _ (by omega) (by omega)]
  blk_ext! [iblk, V, ix_1 t]

theorem pay1_apply (w : Vec Ideal S2112x384 .bf16) (a : Vec Ideal S2112x1024 .bf16) (r : Fin 1024) (s : Fin 384) :
    k0_pay1 (F := Ideal) w a (ix2 r s) = ∑ k : Fin 2112, a (ix2 k r) * w (ix2 k s) := by
  pointwise [k0_pay1]

theorem pay2_apply (w : Vec Ideal S2112x384 .bf16) (a : Vec Ideal S2112x1024 .bf16) (r : Fin 1024) (s : Fin 384) :
    k0_pay2 (F := Ideal) w a (ix2 r s) = ∑ k : Fin 2112, a (ix2 k r) * w (ix2 k s) := by
  pointwise [k0_pay2]
  exact pay1_apply w a r s

theorem pay3_apply (w : Vec Ideal S2112x384 .bf16) (a : Vec Ideal S2112x1024 .bf16) (x : Vec Ideal S1024x384 .f32) (r : Fin 1024) (s : Fin 384) :
    k0_pay3 (F := Ideal) w a x (ix2 r s) = x (ix2 r s) + ∑ k : Fin 2112, a (ix2 k r) * w (ix2 k s) := by
  pointwise [k0_pay3]
  rw [pay1_apply w a r s]

theorem pay4_apply (x : Vec Ideal S1024x384 .f32) (r : Fin 1024) (s : Fin 384) : k0_pay4 (F := Ideal) x (ix3 0 r s) = x (ix2 r s) := by
  pointwise [k0_pay4]

theorem scr_A (t : Fin cfg0.N) (h0 : t.val % 4 = 0) (h1 : ¬1 ≤ t.val % 4) (h2 : ¬t.val % 4 = 3) :
    (outsAt0 m c t.val t.isLt).2 = k0_pay2 (iblk m c 1 t) (iblk m c 0 t) := by
  rw [outsAt0_A m c t h0 h1 h2]
  dsimp only
  unfold sout0_A_0
  rw [View.read_writes_eq_canon _ _ _ (scover0_A_0 c _ _ _ _ _ _ _ _ _ _ _ _ _ _ )]
  unfold kernelRun0_A
  dsimp only
  sl_unfold_words
  simp only [View.readAt_eq_ld, (hs0_0 t).read_unread, (hs0_1 t).read_unread]
  simp only [View.canon_unit_zero (S := S1024x384) z2, View.ld_unit_zero (S := S2112x384) z2, View.ld_unit_zero (S := S2112x1024) z2,
    View.ld_unit_zero (S := S1024x384) z2, View.readCov_unit_zero (S := S1024x384) _ z2]

theorem scr_B (t : Fin cfg0.N) (h0 : ¬t.val % 4 = 0) (h1 : 1 ≤ t.val % 4) (h2 : ¬t.val % 4 = 3) :
    (outsAt0 m c t.val t.isLt).2 = k0_pay3 (iblk m c 1 t) (iblk m c 0 t) (outsAt0 m c (t.val - 1) (Nat.lt_of_le_of_lt (Nat.sub_le _ _) t.isLt)).2 := by
  rw [outsAt0_B m c t h0 h1 h2]
  dsimp only
  unfold sout0_B_0
  rw [View.read_writes_eq_canon _ _ _ (scover0_B_0 c _ _ _ _ _ _ _ _ _ _ _ _ _ _ _ )]
  unfold kernelRun0_B
  dsimp only
  sl_unfold_words
  simp only [View.readAt_eq_ld, (hs0_0 t).read_unread, (hs0_1 t).read_unread, (Memref.isWhole_whole cc0_scratch0).read_unread]
  simp only [View.canon_unit_zero (S := S1024x384) z2, View.canon_unit_zero (S := S1x1024x384) z3, View.ld_unit_zero (S := S2112x384) z2, View.ld_unit_zero (S := S2112x1024) z2,
    View.ld_unit_zero (S := S1024x384) z2, View.readCov_unit_zero (S := S1024x384) _ z2]

theorem out_last (t : Fin cfg0.N) (h0 : ¬t.val % 4 = 0) (h1 : 1 ≤ t.val % 4) (h2 : t.val % 4 = 3) :
    (outsAt0 m c t.val t.isLt).1 = k0_pay4 (k0_pay3 (iblk m c 1 t) (iblk m c 0 t) (outsAt0 m c (t.val - 1) (Nat.lt_of_le_of_lt (Nat.sub_le _ _) t.isLt)).2) := by
  rw [outsAt0_C m c t h0 h1 h2]
  dsimp only
  unfold out0_C_2
  rw [View.read_writes_eq_canon _ _ _ (cover0_C_2 c _ _ _ _ _ _ _ _ _ _ _ _ _ _ _ )]
  unfold kernelRun0_C
  dsimp only
  sl_unfold_words
  simp only [View.readAt_eq_ld, (hs0_0 t).read_unread, (hs0_1 t).read_unread, (Memref.isWhole_whole cc0_scratch0).read_unread]
  simp only [View.canon_unit_zero (S := S1024x384) z2, View.canon_unit_zero (S := S1x1024x384) z3, View.ld_unit_zero (S := S2112x384) z2, View.ld_unit_zero (S := S2112x1024) z2,
    View.ld_unit_zero (S := S1024x384) z2, View.readCov_unit_zero (S := S1024x384) _ z2]

theorem scr_apply : ∀ (n : ℕ) (hn : n < cfg0.N), ¬n % 4 = 3 → ∀ (r : Fin 1024) (s : Fin 384), (outsAt0 m c n hn).2 (ix2 r s)
    = ∑ k ∈ Finset.range ((n % 4 + 1) * 2112), mA m c (n / 32 * 1024 + r.val) k * mB m c k (n / 4 % 8 * 384 + s.val) := by
  intro n
  induction n using Nat.strong_induction_on with
  | _ n ih =>
    intro hn h2 r s
    by_cases h : n % 4 = 0
    · refine (congrFun (scr_A m c ⟨n, hn⟩ h (by dsimp only; omega) h2) (ix2 r s)).trans ?_
      rw [pay2_apply]
      simp only [blk_0, blk_1]
      exact sum_first (fun k => mA m c (n / 32 * 1024 + r.val) k * mB m c k (n / 4 % 8 * 384 + s.val)) h
    · refine (congrFun (scr_B m c ⟨n, hn⟩ h (by dsimp only; omega) h2) (ix2 r s)).trans ?_
      rw [pay3_apply]
      dsimp only
      rw [ih (n - 1) (by omega) _ (by omega)]
      simp only [blk_0, blk_1]
      have e1 : (n - 1) / 32 = n / 32 := by omega
      have e2 : (n - 1) / 4 % 8 = n / 4 % 8 := by omega
      rw [e1, e2]
      exact sum_next (fun k => mA m c (n / 32 * 1024 + r.val) k * mB m c k (n / 4 % 8 * 384 + s.val)) (by omega)

theorem out_apply (t : Fin cfg0.N) (h2 : t.val % 4 = 3) (r : Fin 1024) (s : Fin 384) : (outsAt0 m c t.val t.isLt).1 (ix3 0 r s)
    = ∑ k ∈ Finset.range (4 * 2112), mA m c (t.val / 32 * 1024 + r.val) k * mB m c k (t.val / 4 % 8 * 384 + s.val) := by
  refine (congrFun (out_last m c t (by omega) (by omega) h2) (ix3 0 r s)).trans ?_
  rw [pay4_apply, pay3_apply, scr_apply m c (t.val - 1) _ (by omega)]
  simp only [blk_0, blk_1]
  have e1 : (t.val - 1) / 32 = t.val / 32 := by omega
  have e2 : (t.val - 1) / 4 % 8 = t.val / 4 % 8 := by omega
  rw [e1, e2]
  refine (sum_next (fun k => mA m c (t.val / 32 * 1024 + r.val) k * mB m c k (t.val / 4 % 8 * 384 + s.val)) (by omega)).trans ?_
  rw [h2]

theorem final : (dats (F := Ideal) m 0 c).arrAt 2 cfg0.N = spec (m ((c : Thread nD τ).loc main_arg0)) (m ((c : Thread nD τ).loc main_arg1)) := by
  refine (dats m 0 c).arrAt_eq_of_covers 2 _ (by decide +kernel) fun t hf y => ?_
  have h := N_le t
  have h2 : t.val % 4 = 3 := (flush0_2 t).mp hf
  blk_simp
  rw [after0_2]
  obtain ⟨r, s, rfl⟩ : ∃ (r : Fin 1024) (s : Fin 384), y = ix3 0 r s := ⟨y 1, y 2, funext fun a => by match a with | 0 => exact Subsingleton.elim (α := Fin 1) _ _ | 1 => rfl | 2 => rfl⟩
  refine (out_apply m c t h2 r s).trans ?_
  unfold spec
  blk_simp [ix_2 t]
  have e3 : ((t.val / 4 % 8) + ((0 : Fin 1) : ℕ)) = t.val / 4 % 8 := by simp only [Fin.val_zero]; omega
  rw [e3]
  rfl

end Cert.QkvDwIdeal.Hand

end
-- ==== Proof.Prod.QkvDwClaim.lean ====
/-
  The gradient of the attention layer's first product to its weight: kernel and reference end with the same array.
-/
module

public import proofs.«01_k».proof.Defs
public import proofs.«01_k».proof.Proof.Prod.QkvDw
public import proofs.«01_k».proof.Proof.Gen.QkvDw
public import proofs.«01_k».proof.Proof.Gen.QkvDw.Frame
public import proofs.«01_k».proof.Proof.Gen.QkvDwIdeal
public import proofs.«01_k».proof.Proof.Gen.QkvDwRefIdeal.Run
public import proofs.«01_k».proof.Proof.Gen.QkvDwRefIdeal.Read
public import Idealize.ShloMosaic.Lib.Quiescent
public import Idealize.ShloMosaic.Lib.Claim

@[expose] public section

set_option maxRecDepth 16384

noncomputable section

namespace Cert.QkvDwRefIdeal.Hand

open Cert.QkvDwRefIdeal Cert.QkvDwRefIdeal.Gen Cert.QkvDwRefIdeal.Read Cert.Prod Cert.Prod.QkvDw
open Idealize.ShloMosaic Idealize.ShloMosaic.TcCoe Idealize.ShloMosaic.Tactic

theorem result (x0 : (⟨2, ![8448, 2048]⟩ : Shape).Idx → EReal) (x1 : (⟨2, ![8448, 3072]⟩ : Shape).Idx → EReal) : val_main_v10 (F := Ideal) x0 x1 = spec x0 x1 := by
  funext i
  have h0 : (i 0).val < 8 := (i 0).isLt
  have h1 : (i 1).val < 2048 := (i 1).isLt
  have h2 : (i 2).val < 384 := (i 2).isLt
  simp only [val_main_v10_apply, val_main_v9_apply, val_main_v8_apply, val_main_v7_apply, val_main_v6_apply, val_main_v5_apply, val_main_v1_apply]
  show ∑ k : Fin 8448, x1 _ * x0 _ = _
  unfold spec
  rw [Finset.sum_range]
  refine Finset.sum_congr rfl fun k _ => ?_
  have hk : k.val < 8448 := k.isLt
  refine (mul_comm _ _).trans ?_
  unfold A B
  refine congrArg₂ (· * ·) ?_ ?_
  · rw [at2_lt _ (by omega) (by omega)]
    exact congrArg x0 (funext fun a => Fin.ext (by
      match a with
      | ⟨0, _⟩ => first | rfl | (show _ = k.val; (try dsimp only); omega)
      | ⟨1, _⟩ => first | rfl | (show _ = (i 1).val; (try dsimp only); omega)))
  · rw [at2_lt _ (by omega) (by omega)]
    exact congrArg x1 (funext fun a => Fin.ext (by
      match a with
      | ⟨0, _⟩ => first | rfl | (show _ = k.val; (try dsimp only); omega)
      | ⟨1, _⟩ => first | rfl | (show _ = (((i 0).val) * 384 + (i 2).val); (try dsimp only); omega)))

end Cert.QkvDwRefIdeal.Hand

namespace Cert.Prod.QkvDw

open Idealize.ShloMosaic Idealize.SL.Sem

theorem frame_ideal : Cert.quiescent_QkvDwIdeal := fun m g _ => Cert.QkvDwIdeal.Gen.frame (F := Ideal) m g

theorem frame_kernel : Cert.quiescent_QkvDw := fun m g _ => Cert.QkvDw.Gen.frame (F := Bits) m g

theorem frame_reference : Cert.quiescent_QkvDwRefIdeal := fun m g _ =>
  (θ_run (Cert.QkvDwRefIdeal.defs (F := Ideal)) _ _).mono (fun r h => ⟨fun c => (h c).2, sem_eq_zero_of_no_sems rfl r.2⟩) (Cert.QkvDwRefIdeal.Value.run (F := Ideal) m g)

/-- From equal arguments the two programs end with equal results. -/
theorem same : Cert.algebraic_QkvDwIdeal_QkvDwRefIdeal := fun m g m' g' _ hagree => by
  refine ⟨fun c => spec (m ((c.tc : Thread Cert.QkvDwIdeal.nD Cert.QkvDwIdeal.τ).loc Cert.QkvDwIdeal.main_arg0)) (m ((c.tc : Thread Cert.QkvDwIdeal.nD Cert.QkvDwIdeal.τ).loc Cert.QkvDwIdeal.main_arg1)), ?_, ?_⟩
  · refine (θ_run (Cert.QkvDwIdeal.defs (F := Ideal)) _ _).mono (fun r h c => ?_)
      (θ_run_and (Cert.QkvDwIdeal.Gen.run_main (F := Ideal) m g) (Cert.QkvDwIdeal.Gen.frame (F := Ideal) m g))
    exact ⟨(h.1.out_eq c 2).trans (Cert.QkvDwIdeal.Hand.final m c), h.2.1 c⟩
  · refine (θ_run (Cert.QkvDwRefIdeal.defs (F := Ideal)) _ _).mono (fun r h c => ?_) (Cert.QkvDwRefIdeal.Value.run (F := Ideal) m' g')
    obtain ⟨h0, ha⟩ := h c
    obtain ⟨a0, a1⟩ := hagree c
    rw [Cert.QkvDwRefIdeal.Read.val_main_v10_eq, a0, a1] at h0
    exact ⟨h0.trans (Cert.QkvDwRefIdeal.Hand.result _ _), ha⟩

end Cert.Prod.QkvDw

end
-- ==== Proof.Prod.SsdIn.lean ====
/-
  The scan layer's first product: the array the call leaves, of the arrays it is handed.
-/
module

public import proofs.«01_k».proof.Proof.Prod.Base
public import proofs.«01_k».proof.Proof.Gen.SsdInIdeal.Frame
public import Idealize.ShloMosaic.Lib.Pipeline.ValueKit.Point

@[expose] public section

set_option maxRecDepth 16384

noncomputable section

namespace Cert.Prod.SsdIn

open Idealize.ShloMosaic Idealize.ShloMosaic.Tactic Cert.Prod

/-- The row `r` of the first factor, and the column `s` of the second. -/
def A (x0 : (⟨2, ![8448, 2048]⟩ : Shape).Idx → EReal) (r k : ℕ) : EReal := at2 x0 r k
def B (x1 : (⟨2, ![2048, 10368]⟩ : Shape).Idx → EReal) (k s : ℕ) : EReal := at2 x1 k s

/-- The product. -/
def spec (x0 : (⟨2, ![8448, 2048]⟩ : Shape).Idx → EReal) (x1 : (⟨2, ![2048, 10368]⟩ : Shape).Idx → EReal) : (⟨2, ![8448, 10368]⟩ : Shape).Idx → EReal :=
  fun i => ∑ k ∈ Finset.range (1 * 2048), A x0 (i 0).val k * B x1 k (i 1).val

end Cert.Prod.SsdIn

namespace Cert.SsdInIdeal.Hand

open Cert.SsdInIdeal Cert.SsdInIdeal.Gen Cert.Prod Cert.Prod.SsdIn
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![t.val / 9, 0] := (by decide +kernel : ∀ t : Fin grid0.N, _)
theorem ix_1 : ∀ t : Fin cfg0.N, win0_1.index t = ![0, t.val % 9] := (by decide +kernel : ∀ t : Fin grid0.N, _)
theorem ix_2 : ∀ t : Fin cfg0.N, win0_2.index t = ![t.val / 9, t.val % 9] := (by decide +kernel : ∀ t : Fin grid0.N, _)

def mA (r k : ℕ) : EReal := A (m ((c : Thread nD τ).loc main_arg0)) r k
def mB (k s : ℕ) : EReal := B (m ((c : Thread nD τ).loc main_arg1)) k s

theorem N_le (t : Fin cfg0.N) : t.val < 99 := t.isLt.trans_eq N_0

theorem blk_0 (t : Fin cfg0.N) (r : Fin 768) (k : Fin 2048) :
    iblk m c 0 t (ix2 r k) = mA m c (t.val / 9 * 768 + r.val) (0 * 2048 + k.val) := by
  have h := N_le t
  unfold mA A
  rw [at2_lt _ (by omega) (by omega)]
  blk_ext! [iblk, V, ix_0 t]

theorem blk_1 (t : Fin cfg0.N) (s : Fin 1152) (k : Fin 2048) :
    iblk m c 1 t (ix2 k s) = mB m c (0 * 2048 + k.val) (t.val % 9 * 1152 + s.val) := by
  have h := N_le t
  unfold mB B
  rw [at2_lt _ (by omega) (by omega)]
  blk_ext! [iblk, V, ix_1 t]

theorem pay1_apply (w : Vec Ideal S2048x1152 .bf16) (a : Vec Ideal S768x2048 .bf16) (r : Fin 768) (s : Fin 1152) :
    k0_pay1 (F := Ideal) w a (ix2 r s) = ∑ k : Fin 2048, a (ix2 r k) * w (ix2 k s) := by
  pointwise [k0_pay1]

theorem out_apply (t : Fin cfg0.N) (r : Fin 768) (s : Fin 1152) : out0_2 (iblk m c 0 t) (iblk m c 1 t) (ix2 r s)
    = ∑ k ∈ Finset.range (1 * 2048), mA m c (t.val / 9 * 768 + r.val) k * mB m c k (t.val % 9 * 1152 + s.val) := by
  unfold out0_2
  rw [View.canon_unit_zero (S := S768x1152) z2]
  simp only [View.ld_unit_zero (S := S768x2048) z2, View.ld_unit_zero (S := S2048x1152) z2]
  rw [pay1_apply]
  simp only [blk_0, blk_1]
  exact sum_first (fun k => mA m c (t.val / 9 * 768 + r.val) k * mB m c k (t.val % 9 * 1152 + s.val)) rfl

theorem final : (dats (F := Ideal) m 0 c).arrAt 2 cfg0.N = spec (m ((c : Thread nD τ).loc main_arg0)) (m ((c : Thread nD τ).loc main_arg1)) := by
  refine (dats m 0 c).arrAt_eq_of_covers 2 _ (by decide +kernel) fun t hf y => ?_
  have h := N_le t
  blk_simp
  rw [after0_2]
  obtain ⟨r, s, rfl⟩ : ∃ (r : Fin 768) (s : Fin 1152), y = ix2 r s := ⟨y 0, y 1, funext fun a => by match a with | 0 => rfl | 1 => rfl⟩
  refine (out_apply m c t r s).trans ?_
  unfold spec
  blk_simp [ix_2 t]
  rfl

end Cert.SsdInIdeal.Hand

end
-- ==== Proof.Prod.SsdInClaim.lean ====
/-
  The scan layer's first product: kernel and reference end with the same array.
-/
module

public import proofs.«01_k».proof.Defs
public import proofs.«01_k».proof.Proof.Prod.SsdIn
public import proofs.«01_k».proof.Proof.Gen.SsdIn
public import proofs.«01_k».proof.Proof.Gen.SsdIn.Frame
public import proofs.«01_k».proof.Proof.Gen.SsdInIdeal
public import proofs.«01_k».proof.Proof.Gen.SsdInRefIdeal.Run
public import proofs.«01_k».proof.Proof.Gen.SsdInRefIdeal.Read
public import Idealize.ShloMosaic.Lib.Quiescent
public import Idealize.ShloMosaic.Lib.Claim

@[expose] public section

set_option maxRecDepth 16384

noncomputable section

namespace Cert.SsdInRefIdeal.Hand

open Cert.SsdInRefIdeal Cert.SsdInRefIdeal.Gen Cert.SsdInRefIdeal.Read Cert.Prod Cert.Prod.SsdIn
open Idealize.ShloMosaic Idealize.ShloMosaic.TcCoe Idealize.ShloMosaic.Tactic

theorem result (x0 : (⟨2, ![8448, 2048]⟩ : Shape).Idx → EReal) (x1 : (⟨2, ![2048, 10368]⟩ : Shape).Idx → EReal) : val_main_v2 (F := Ideal) x0 x1 = spec x0 x1 := by
  funext i
  have h0 : (i 0).val < 8448 := (i 0).isLt
  have h1 : (i 1).val < 10368 := (i 1).isLt
  simp only [val_main_v2_apply, val_main_v1_apply, val_main_v0_apply]
  show ∑ k : Fin 2048, x0 _ * x1 _ = _
  unfold spec
  rw [Finset.sum_range]
  refine Finset.sum_congr rfl fun k _ => ?_
  have hk : k.val < 2048 := k.isLt
  skip
  unfold A B
  refine congrArg₂ (· * ·) ?_ ?_
  · rw [at2_lt _ (by omega) (by omega)]
    exact congrArg x0 (funext fun a => Fin.ext (by
      match a with
      | ⟨0, _⟩ => first | rfl | (show _ = (i 0).val; (try dsimp only); omega)
      | ⟨1, _⟩ => first | rfl | (show _ = k.val; (try dsimp only); omega)))
  · rw [at2_lt _ (by omega) (by omega)]
    exact congrArg x1 (funext fun a => Fin.ext (by
      match a with
      | ⟨0, _⟩ => first | rfl | (show _ = k.val; (try dsimp only); omega)
      | ⟨1, _⟩ => first | rfl | (show _ = (i 1).val; (try dsimp only); omega)))

end Cert.SsdInRefIdeal.Hand

namespace Cert.Prod.SsdIn

open Idealize.ShloMosaic Idealize.SL.Sem

theorem frame_ideal : Cert.quiescent_SsdInIdeal := fun m g _ => Cert.SsdInIdeal.Gen.frame (F := Ideal) m g

theorem frame_kernel : Cert.quiescent_SsdIn := fun m g _ => Cert.SsdIn.Gen.frame (F := Bits) m g

theorem frame_reference : Cert.quiescent_SsdInRefIdeal := fun m g _ =>
  (θ_run (Cert.SsdInRefIdeal.defs (F := Ideal)) _ _).mono (fun r h => ⟨fun c => (h c).2, sem_eq_zero_of_no_sems rfl r.2⟩) (Cert.SsdInRefIdeal.Value.run (F := Ideal) m g)

/-- From equal arguments the two programs end with equal results. -/
theorem same : Cert.algebraic_SsdInIdeal_SsdInRefIdeal := fun m g m' g' _ hagree => by
  refine ⟨fun c => spec (m ((c.tc : Thread Cert.SsdInIdeal.nD Cert.SsdInIdeal.τ).loc Cert.SsdInIdeal.main_arg0)) (m ((c.tc : Thread Cert.SsdInIdeal.nD Cert.SsdInIdeal.τ).loc Cert.SsdInIdeal.main_arg1)), ?_, ?_⟩
  · refine (θ_run (Cert.SsdInIdeal.defs (F := Ideal)) _ _).mono (fun r h c => ?_)
      (θ_run_and (Cert.SsdInIdeal.Gen.run_main (F := Ideal) m g) (Cert.SsdInIdeal.Gen.frame (F := Ideal) m g))
    exact ⟨(h.1.out_eq c 2).trans (Cert.SsdInIdeal.Hand.final m c), h.2.1 c⟩
  · refine (θ_run (Cert.SsdInRefIdeal.defs (F := Ideal)) _ _).mono (fun r h c => ?_) (Cert.SsdInRefIdeal.Value.run (F := Ideal) m' g')
    obtain ⟨h0, ha⟩ := h c
    obtain ⟨a0, a1⟩ := hagree c
    rw [Cert.SsdInRefIdeal.Read.val_main_v2_eq, a0, a1] at h0
    exact ⟨h0.trans (Cert.SsdInRefIdeal.Hand.result _ _), ha⟩

end Cert.Prod.SsdIn

end
-- ==== Proof.Prod.Qkv.lean ====
/-
  The attention layer's first product: the array the call leaves, of the arrays it is handed.
-/
module

public import proofs.«01_k».proof.Proof.Prod.Base
public import proofs.«01_k».proof.Proof.Gen.QkvIdeal.Frame
public import Idealize.ShloMosaic.Lib.Pipeline.ValueKit.Point

@[expose] public section

set_option maxRecDepth 16384

noncomputable section

namespace Cert.Prod.Qkv

open Idealize.ShloMosaic Idealize.ShloMosaic.Tactic Cert.Prod

/-- The row `r` of the first factor, and the column `s` of the second. -/
def A (x0 : (⟨2, ![8448, 2048]⟩ : Shape).Idx → EReal) (r k : ℕ) : EReal := at2 x0 r k
def B (x1 : (⟨3, ![8, 2048, 384]⟩ : Shape).Idx → EReal) (k s : ℕ) : EReal := at3 x1 ((s / 384)) k (s % 384)

/-- The product. -/
def spec (x0 : (⟨2, ![8448, 2048]⟩ : Shape).Idx → EReal) (x1 : (⟨3, ![8, 2048, 384]⟩ : Shape).Idx → EReal) : (⟨2, ![8448, 3072]⟩ : Shape).Idx → EReal :=
  fun i => ∑ k ∈ Finset.range (1 * 2048), A x0 (i 0).val k * B x1 k (i 1).val

end Cert.Prod.Qkv

namespace Cert.QkvIdeal.Hand

open Cert.QkvIdeal Cert.QkvIdeal.Gen Cert.Prod Cert.Prod.Qkv
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![t.val / 8, 0] := (by decide +kernel : ∀ t : Fin grid0.N, _)
theorem ix_1 : ∀ t : Fin cfg0.N, win0_1.index t = ![(t.val % 8), 0, 0] := (by decide +kernel : ∀ t : Fin grid0.N, _)
theorem ix_2 : ∀ t : Fin cfg0.N, win0_2.index t = ![t.val / 8, t.val % 8] := (by decide +kernel : ∀ t : Fin grid0.N, _)

def mA (r k : ℕ) : EReal := A (m ((c : Thread nD τ).loc main_arg0)) r k
def mB (k s : ℕ) : EReal := B (m ((c : Thread nD τ).loc main_arg1)) k s

theorem N_le (t : Fin cfg0.N) : t.val < 88 := t.isLt.trans_eq N_0

theorem blk_0 (t : Fin cfg0.N) (r : Fin 768) (k : Fin 2048) :
    iblk m c 0 t (ix2 r k) = mA m c (t.val / 8 * 768 + r.val) (0 * 2048 + k.val) := by
  have h := N_le t
  unfold mA A
  rw [at2_lt _ (by omega) (by omega)]
  blk_ext! [iblk, V, ix_0 t]

theorem blk_1 (t : Fin cfg0.N) (s : Fin 384) (k : Fin 2048) :
    iblk m c 1 t (ix3 0 k s) = mB m c (0 * 2048 + k.val) (t.val % 8 * 384 + s.val) := by
  have h := N_le t
  have e1 : (t.val % 8 * 384 + s.val) / 384 = t.val % 8 := by omega
  have e2 : (t.val % 8 * 384 + s.val) % 384 = s.val := by omega
  unfold mB B
  rw [e1, e2, at3_lt _ (by omega) (by omega) (by omega)]
  blk_ext! [iblk, V, ix_1 t]

theorem pay1_apply (w : Vec Ideal S1x2048x384 .bf16) (a : Vec Ideal S768x2048 .bf16) (r : Fin 768) (s : Fin 384) :
    k0_pay1 (F := Ideal) w a (ix2 r s) = ∑ k : Fin 2048, a (ix2 r k) * w (ix3 0 k s) := by
  pointwise [k0_pay1]

theorem out_apply (t : Fin cfg0.N) (r : Fin 768) (s : Fin 384) : out0_2 (iblk m c 0 t) (iblk m c 1 t) (ix2 r s)
    = ∑ k ∈ Finset.range (1 * 2048), mA m c (t.val / 8 * 768 + r.val) k * mB m c k (t.val % 8 * 384 + s.val) := by
  unfold out0_2
  rw [View.canon_unit_zero (S := S768x384) z2]
  simp only [View.ld_unit_zero (S := S768x2048) z2, View.ld_unit_zero (S := S1x2048x384) z3]
  rw [pay1_apply]
  simp only [blk_0, blk_1]
  exact sum_first (fun k => mA m c (t.val / 8 * 768 + r.val) k * mB m c k (t.val % 8 * 384 + s.val)) rfl

theorem final : (dats (F := Ideal) m 0 c).arrAt 2 cfg0.N = spec (m ((c : Thread nD τ).loc main_arg0)) (m ((c : Thread nD τ).loc main_arg1)) := by
  refine (dats m 0 c).arrAt_eq_of_covers 2 _ (by decide +kernel) fun t hf y => ?_
  have h := N_le t
  blk_simp
  rw [after0_2]
  obtain ⟨r, s, rfl⟩ : ∃ (r : Fin 768) (s : Fin 384), y = ix2 r s := ⟨y 0, y 1, funext fun a => by match a with | 0 => rfl | 1 => rfl⟩
  refine (out_apply m c t r s).trans ?_
  unfold spec
  blk_simp [ix_2 t]
  rfl

end Cert.QkvIdeal.Hand

end
-- ==== Proof.Prod.QkvClaim.lean ====
/-
  The attention layer's first product: kernel and reference end with the same array.
-/
module

public import proofs.«01_k».proof.Defs
public import proofs.«01_k».proof.Proof.Prod.Qkv
public import proofs.«01_k».proof.Proof.Gen.Qkv
public import proofs.«01_k».proof.Proof.Gen.Qkv.Frame
public import proofs.«01_k».proof.Proof.Gen.QkvIdeal
public import proofs.«01_k».proof.Proof.Gen.QkvRefIdeal.Run
public import proofs.«01_k».proof.Proof.Gen.QkvRefIdeal.Read
public import Idealize.ShloMosaic.Lib.Quiescent
public import Idealize.ShloMosaic.Lib.Claim

@[expose] public section

set_option maxRecDepth 16384

noncomputable section

namespace Cert.QkvRefIdeal.Hand

open Cert.QkvRefIdeal Cert.QkvRefIdeal.Gen Cert.QkvRefIdeal.Read Cert.Prod Cert.Prod.Qkv
open Idealize.ShloMosaic Idealize.ShloMosaic.TcCoe Idealize.ShloMosaic.Tactic

theorem result (x0 : (⟨2, ![8448, 2048]⟩ : Shape).Idx → EReal) (x1 : (⟨3, ![8, 2048, 384]⟩ : Shape).Idx → EReal) : val_main_v4 (F := Ideal) x0 x1 = spec x0 x1 := by
  funext i
  have h0 : (i 0).val < 8448 := (i 0).isLt
  have h1 : (i 1).val < 3072 := (i 1).isLt
  simp only [val_main_v4_apply, val_main_v3_apply, val_main_v2_apply, val_main_v1_apply, val_main_v0_apply]
  show ∑ k : Fin 2048, x0 _ * x1 _ = _
  unfold spec
  rw [Finset.sum_range]
  refine Finset.sum_congr rfl fun k _ => ?_
  have hk : k.val < 2048 := k.isLt
  skip
  unfold A B
  refine congrArg₂ (· * ·) ?_ ?_
  · rw [at2_lt _ (by omega) (by omega)]
    exact congrArg x0 (funext fun a => Fin.ext (by
      match a with
      | ⟨0, _⟩ => first | rfl | (show _ = (i 0).val; (try dsimp only); omega)
      | ⟨1, _⟩ => first | rfl | (show _ = k.val; (try dsimp only); omega)))
  · rw [at3_lt _ (by omega) (by omega) (by omega)]
    exact congrArg x1 (funext fun a => Fin.ext (by
      match a with
      | ⟨0, _⟩ => first | rfl | (show _ = ((i 1).val / 384); (try dsimp only); omega)
      | ⟨1, _⟩ => first | rfl | (show _ = k.val; (try dsimp only); omega)
      | ⟨2, _⟩ => first | rfl | (show _ = (i 1).val % 384; (try dsimp only); omega)))

end Cert.QkvRefIdeal.Hand

namespace Cert.Prod.Qkv

open Idealize.ShloMosaic Idealize.SL.Sem

theorem frame_ideal : Cert.quiescent_QkvIdeal := fun m g _ => Cert.QkvIdeal.Gen.frame (F := Ideal) m g

theorem frame_kernel : Cert.quiescent_Qkv := fun m g _ => Cert.Qkv.Gen.frame (F := Bits) m g

theorem frame_reference : Cert.quiescent_QkvRefIdeal := fun m g _ =>
  (θ_run (Cert.QkvRefIdeal.defs (F := Ideal)) _ _).mono (fun r h => ⟨fun c => (h c).2, sem_eq_zero_of_no_sems rfl r.2⟩) (Cert.QkvRefIdeal.Value.run (F := Ideal) m g)

/-- From equal arguments the two programs end with equal results. -/
theorem same : Cert.algebraic_QkvIdeal_QkvRefIdeal := fun m g m' g' _ hagree => by
  refine ⟨fun c => spec (m ((c.tc : Thread Cert.QkvIdeal.nD Cert.QkvIdeal.τ).loc Cert.QkvIdeal.main_arg0)) (m ((c.tc : Thread Cert.QkvIdeal.nD Cert.QkvIdeal.τ).loc Cert.QkvIdeal.main_arg1)), ?_, ?_⟩
  · refine (θ_run (Cert.QkvIdeal.defs (F := Ideal)) _ _).mono (fun r h c => ?_)
      (θ_run_and (Cert.QkvIdeal.Gen.run_main (F := Ideal) m g) (Cert.QkvIdeal.Gen.frame (F := Ideal) m g))
    exact ⟨(h.1.out_eq c 2).trans (Cert.QkvIdeal.Hand.final m c), h.2.1 c⟩
  · refine (θ_run (Cert.QkvRefIdeal.defs (F := Ideal)) _ _).mono (fun r h c => ?_) (Cert.QkvRefIdeal.Value.run (F := Ideal) m' g')
    obtain ⟨h0, ha⟩ := h c
    obtain ⟨a0, a1⟩ := hagree c
    rw [Cert.QkvRefIdeal.Read.val_main_v4_eq, a0, a1] at h0
    exact ⟨h0.trans (Cert.QkvRefIdeal.Hand.result _ _), ha⟩

end Cert.Prod.Qkv

end
-- ==== Proof.Prod.FfnUp.lean ====
/-
  The FFN's first product: the array the call leaves, of the arrays it is handed.
-/
module

public import proofs.«01_k».proof.Proof.Prod.Base
public import proofs.«01_k».proof.Proof.Gen.FfnUpIdeal.Frame
public import Idealize.ShloMosaic.Lib.Pipeline.ValueKit.Point

@[expose] public section

set_option maxRecDepth 16384

noncomputable section

namespace Cert.Prod.FfnUp

open Idealize.ShloMosaic Idealize.ShloMosaic.Tactic Cert.Prod

/-- The row `r` of the first factor, and the column `s` of the second. -/
def A (x0 : (⟨2, ![8448, 2048]⟩ : Shape).Idx → EReal) (r k : ℕ) : EReal := at2 x0 r k
def B (x1 : (⟨3, ![8, 2048, 1408]⟩ : Shape).Idx → EReal) (k s : ℕ) : EReal := at3 x1 (perm (s / 1408)) k (s % 1408)

/-- The product. -/
def spec (x0 : (⟨2, ![8448, 2048]⟩ : Shape).Idx → EReal) (x1 : (⟨3, ![8, 2048, 1408]⟩ : Shape).Idx → EReal) : (⟨2, ![8448, 11264]⟩ : Shape).Idx → EReal :=
  fun i => ∑ k ∈ Finset.range (1 * 2048), A x0 (i 0).val k * B x1 k (i 1).val

end Cert.Prod.FfnUp

namespace Cert.FfnUpIdeal.Hand

open Cert.FfnUpIdeal Cert.FfnUpIdeal.Gen Cert.Prod Cert.Prod.FfnUp
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![t.val / 8, 0] := (by decide +kernel : ∀ t : Fin grid0.N, _)
theorem ix_1 : ∀ t : Fin cfg0.N, win0_1.index t = ![perm (t.val % 8), 0, 0] := (by decide +kernel : ∀ t : Fin grid0.N, _)
theorem ix_2 : ∀ t : Fin cfg0.N, win0_2.index t = ![t.val / 8, t.val % 8] := (by decide +kernel : ∀ t : Fin grid0.N, _)

def mA (r k : ℕ) : EReal := A (m ((c : Thread nD τ).loc main_arg0)) r k
def mB (k s : ℕ) : EReal := B (m ((c : Thread nD τ).loc main_arg1)) k s

theorem N_le (t : Fin cfg0.N) : t.val < 88 := t.isLt.trans_eq N_0

theorem blk_0 (t : Fin cfg0.N) (r : Fin 768) (k : Fin 2048) :
    iblk m c 0 t (ix2 r k) = mA m c (t.val / 8 * 768 + r.val) (0 * 2048 + k.val) := by
  have h := N_le t
  unfold mA A
  rw [at2_lt _ (by omega) (by omega)]
  blk_ext! [iblk, V, ix_0 t]

theorem blk_1 (t : Fin cfg0.N) (s : Fin 1408) (k : Fin 2048) :
    iblk m c 1 t (ix3 0 k s) = mB m c (0 * 2048 + k.val) (t.val % 8 * 1408 + s.val) := by
  have h := N_le t
  have e1 : (t.val % 8 * 1408 + s.val) / 1408 = t.val % 8 := by omega
  have e2 : (t.val % 8 * 1408 + s.val) % 1408 = s.val := by omega
  unfold mB B
  rw [e1, e2, at3_lt _ (by unfold perm; omega) (by omega) (by omega)]
  blk_ext! [iblk, V, ix_1 t]

theorem pay1_apply (w : Vec Ideal S1x2048x1408 .bf16) (a : Vec Ideal S768x2048 .bf16) (r : Fin 768) (s : Fin 1408) :
    k0_pay1 (F := Ideal) w a (ix2 r s) = ∑ k : Fin 2048, a (ix2 r k) * w (ix3 0 k s) := by
  pointwise [k0_pay1]

theorem out_apply (t : Fin cfg0.N) (r : Fin 768) (s : Fin 1408) : out0_2 (iblk m c 0 t) (iblk m c 1 t) (ix2 r s)
    = ∑ k ∈ Finset.range (1 * 2048), mA m c (t.val / 8 * 768 + r.val) k * mB m c k (t.val % 8 * 1408 + s.val) := by
  unfold out0_2
  rw [View.canon_unit_zero (S := S768x1408) z2]
  simp only [View.ld_unit_zero (S := S768x2048) z2, View.ld_unit_zero (S := S1x2048x1408) z3]
  rw [pay1_apply]
  simp only [blk_0, blk_1]
  exact sum_first (fun k => mA m c (t.val / 8 * 768 + r.val) k * mB m c k (t.val % 8 * 1408 + s.val)) rfl

theorem final : (dats (F := Ideal) m 0 c).arrAt 2 cfg0.N = spec (m ((c : Thread nD τ).loc main_arg0)) (m ((c : Thread nD τ).loc main_arg1)) := by
  refine (dats m 0 c).arrAt_eq_of_covers 2 _ (by decide +kernel) fun t hf y => ?_
  have h := N_le t
  blk_simp
  rw [after0_2]
  obtain ⟨r, s, rfl⟩ : ∃ (r : Fin 768) (s : Fin 1408), y = ix2 r s := ⟨y 0, y 1, funext fun a => by match a with | 0 => rfl | 1 => rfl⟩
  refine (out_apply m c t r s).trans ?_
  unfold spec
  blk_simp [ix_2 t]
  rfl

end Cert.FfnUpIdeal.Hand

end
-- ==== Proof.Prod.FfnUpClaim.lean ====
/-
  The FFN's first product: kernel and reference end with the same array.
-/
module

public import proofs.«01_k».proof.Defs
public import proofs.«01_k».proof.Proof.Prod.FfnUp
public import proofs.«01_k».proof.Proof.Gen.FfnUp
public import proofs.«01_k».proof.Proof.Gen.FfnUp.Frame
public import proofs.«01_k».proof.Proof.Gen.FfnUpIdeal
public import proofs.«01_k».proof.Proof.Gen.FfnUpRefIdeal.Run
public import proofs.«01_k».proof.Proof.Gen.FfnUpRefIdeal.Read
public import Idealize.ShloMosaic.Lib.Quiescent
public import Idealize.ShloMosaic.Lib.Claim

@[expose] public section

set_option maxRecDepth 16384

noncomputable section

namespace Cert.FfnUpRefIdeal.Hand

open Cert.FfnUpRefIdeal Cert.FfnUpRefIdeal.Gen Cert.FfnUpRefIdeal.Read Cert.Prod Cert.Prod.FfnUp
open Idealize.ShloMosaic Idealize.ShloMosaic.TcCoe Idealize.ShloMosaic.Tactic

theorem result (x0 : (⟨2, ![8448, 2048]⟩ : Shape).Idx → EReal) (x1 : (⟨3, ![8, 2048, 1408]⟩ : Shape).Idx → EReal) : val_main_v5 (F := Ideal) x0 x1 = spec x0 x1 := by
  funext i
  have h0 : (i 0).val < 8448 := (i 0).isLt
  have h1 : (i 1).val < 11264 := (i 1).isLt
  simp only [val_main_v5_apply, val_main_v4_apply, val_main_v3_apply, val_main_v2_apply, val_main_v1_apply, val_main_v0_apply]
  show ∑ k : Fin 2048, x0 _ * x1 _ = _
  unfold spec
  rw [Finset.sum_range]
  refine Finset.sum_congr rfl fun k _ => ?_
  have hk : k.val < 2048 := k.isLt
  skip
  have e0 : (k.val * 11264 + (i 1).val) / 1408 % 2 = (i 1).val / 1408 % 2 := by omega
  have e1 : (k.val * 11264 + (i 1).val) / 2816 % 4 = (i 1).val / 1408 / 2 := by omega
  have e2 : (k.val * 11264 + (i 1).val) / 11264 = k.val := by omega
  have e3 : (k.val * 11264 + (i 1).val) % 1408 = (i 1).val % 1408 := by omega
  unfold A B
  refine congrArg₂ (· * ·) ?_ ?_
  · rw [at2_lt _ (by omega) (by omega)]
    exact congrArg x0 (funext fun a => Fin.ext (by
      match a with
      | ⟨0, _⟩ => first | rfl | (show _ = (i 0).val; (try simp only [perm, place, e0, e1, e2, e3]); omega)
      | ⟨1, _⟩ => first | rfl | (show _ = k.val; (try simp only [perm, place, e0, e1, e2, e3]); omega)))
  · rw [at3_lt _ (by first | omega | (simp only [perm, place]; omega)) (by first | omega | (simp only [perm, place]; omega)) (by first | omega | (simp only [perm, place]; omega))]
    exact congrArg x1 (funext fun a => Fin.ext (by
      match a with
      | ⟨0, _⟩ => first | rfl | (show _ = perm ((i 1).val / 1408); (try simp only [perm, place, e0, e1, e2, e3]); omega)
      | ⟨1, _⟩ => first | rfl | (show _ = k.val; (try simp only [perm, place, e0, e1, e2, e3]); omega)
      | ⟨2, _⟩ => first | rfl | (show _ = (i 1).val % 1408; (try simp only [perm, place, e0, e1, e2, e3]); omega)))

end Cert.FfnUpRefIdeal.Hand

namespace Cert.Prod.FfnUp

open Idealize.ShloMosaic Idealize.SL.Sem

theorem frame_ideal : Cert.quiescent_FfnUpIdeal := fun m g _ => Cert.FfnUpIdeal.Gen.frame (F := Ideal) m g

theorem frame_kernel : Cert.quiescent_FfnUp := fun m g _ => Cert.FfnUp.Gen.frame (F := Bits) m g

theorem frame_reference : Cert.quiescent_FfnUpRefIdeal := fun m g _ =>
  (θ_run (Cert.FfnUpRefIdeal.defs (F := Ideal)) _ _).mono (fun r h => ⟨fun c => (h c).2, sem_eq_zero_of_no_sems rfl r.2⟩) (Cert.FfnUpRefIdeal.Value.run (F := Ideal) m g)

/-- From equal arguments the two programs end with equal results. -/
theorem same : Cert.algebraic_FfnUpIdeal_FfnUpRefIdeal := fun m g m' g' _ hagree => by
  refine ⟨fun c => spec (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)), ?_, ?_⟩
  · refine (θ_run (Cert.FfnUpIdeal.defs (F := Ideal)) _ _).mono (fun r h c => ?_)
      (θ_run_and (Cert.FfnUpIdeal.Gen.run_main (F := Ideal) m g) (Cert.FfnUpIdeal.Gen.frame (F := Ideal) m g))
    exact ⟨(h.1.out_eq c 2).trans (Cert.FfnUpIdeal.Hand.final m c), h.2.1 c⟩
  · refine (θ_run (Cert.FfnUpRefIdeal.defs (F := Ideal)) _ _).mono (fun r h c => ?_) (Cert.FfnUpRefIdeal.Value.run (F := Ideal) m' g')
    obtain ⟨h0, ha⟩ := h c
    obtain ⟨a0, a1⟩ := hagree c
    rw [Cert.FfnUpRefIdeal.Read.val_main_v5_eq, a0, a1] at h0
    exact ⟨h0.trans (Cert.FfnUpRefIdeal.Hand.result _ _), ha⟩

end Cert.Prod.FfnUp

end
-- ==== Proof.Prod.Gate.lean ====
/-
  The rows of the context have the gate's first row, the others its second.
-/
module

public import proofs.«01_k».proof.Proof.Prod.Base
public import Idealize.ShloMosaic.Lib.WordCmp
public import Idealize.ShloMosaic.Lib.Pipeline.Value

@[expose] public section

noncomputable section

namespace Cert.Prod

open Idealize.ShloMosaic Idealize.ShloMosaic.Tactic

/-- The choice between the gate's rows, made by the row's number as a word. -/
theorem pick (a r : ℕ) (ha : a < 11) (hr : r < 768) (x y : EReal) :
    Scalar.select (IntOp.cmpi .slt (IntOp.addi (Scalar.muli (BitVec.ofNat 32 a) 768#32) (BitVec.ofNat 32 r)) 256#32) x y
      = if a * 768 + r < 256 then x else y := by
  have e : IntOp.addi (Scalar.muli (BitVec.ofNat 32 a) 768#32) (BitVec.ofNat 32 r) = BitVec.ofNat 32 (a * 768 + r) := by
    show BitVec.ofNat 32 a * BitVec.ofNat 32 768 + BitVec.ofNat 32 r = _
    rw [BitVec.ofNat_add, BitVec.ofNat_mul]
  rw [e, show (256#32 : BitVec 32) = BitVec.ofNat 32 256 from rfl, WordCmp.cmpi_slt_ofNat (by omega) (by omega)]
  by_cases h : a * 768 + r < 256
  · rw [if_pos h, decide_eq_true h]
    rfl
  · rw [if_neg h, decide_eq_false h]
    rfl

/-- The stream with the gated product added to it. -/
def gatedAt (x : (⟨2, ![8448, 2048]⟩ : Shape).Idx → EReal) (g : (⟨2, ![2, 2048]⟩ : Shape).Idx → EReal)
    (f : (⟨2, ![8448, 2048]⟩ : Shape).Idx → EReal) : (⟨2, ![8448, 2048]⟩ : Shape).Idx → EReal :=
  fun i => at2 x (i 0).val (i 1).val + (if (i 0).val < 256 then at2 g 0 (i 1).val else at2 g 1 (i 1).val) * f i

theorem gatedAt_apply (x : (⟨2, ![8448, 2048]⟩ : Shape).Idx → EReal) (g : (⟨2, ![2, 2048]⟩ : Shape).Idx → EReal)
    (f : (⟨2, ![8448, 2048]⟩ : Shape).Idx → EReal) (i : (⟨2, ![8448, 2048]⟩ : Shape).Idx) :
    gatedAt x g f i = x i + (if (i 0).val < 256 then g (ix2 0 (i 1)) else g (ix2 1 (i 1))) * f i := by
  have h0 : (i 0).val < 8448 := (i 0).isLt
  have h1 : (i 1).val < 2048 := (i 1).isLt
  unfold gatedAt
  rw [at2_lt x h0 h1, at2_lt g (i := 0) (by omega) h1, at2_lt g (i := 1) (by omega) h1]
  exact congrArg₂ (· + ·) (congrArg x (funext fun a => by match a with | 0 => rfl | 1 => rfl)) rfl

end Cert.Prod

end
-- ==== Proof.Prod.SsdOut.lean ====
/-
  The scan layer's last product, and the stream after it: the arrays the call leaves, of the arrays it is handed.
-/
module

public import proofs.«01_k».proof.Proof.Prod.Gate
public import proofs.«01_k».proof.Proof.Gen.SsdOutIdeal.Frame
public import Idealize.ShloMosaic.Lib.Pipeline.ValueKit.Point

@[expose] public section

set_option maxRecDepth 16384

noncomputable section

namespace Cert.Prod.SsdOut

open Idealize.ShloMosaic Idealize.ShloMosaic.Tactic Cert.Prod

/-- The product. -/
def spec (x0 : (⟨2, ![8448, 4096]⟩ : Shape).Idx → EReal) (x1 : (⟨2, ![4096, 2048]⟩ : Shape).Idx → EReal) : (⟨2, ![8448, 2048]⟩ : Shape).Idx → EReal :=
  fun i => ∑ k : Fin 4096, at2 x0 (i 0).val k.val * at2 x1 k.val (i 1).val

end Cert.Prod.SsdOut

namespace Cert.SsdOutIdeal.Hand

open Cert.SsdOutIdeal Cert.SsdOutIdeal.Gen Cert.Prod Cert.Prod.SsdOut
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![t.val / 4, 0] := (by decide +kernel : ∀ t : Fin grid0.N, _)
theorem ix_1 : ∀ t : Fin cfg0.N, win0_1.index t = ![0, t.val % 4] := (by decide +kernel : ∀ t : Fin grid0.N, _)
theorem ix_2 : ∀ t : Fin cfg0.N, win0_2.index t = ![t.val / 4, t.val % 4] := (by decide +kernel : ∀ t : Fin grid0.N, _)
theorem ix_3 : ∀ t : Fin cfg0.N, win0_3.index t = ![0, t.val % 4] := (by decide +kernel : ∀ t : Fin grid0.N, _)
theorem ix_4 : ∀ t : Fin cfg0.N, win0_4.index t = ![t.val / 4, t.val % 4] := (by decide +kernel : ∀ t : Fin grid0.N, _)
theorem ix_5 : ∀ t : Fin cfg0.N, win0_5.index t = ![t.val / 4, t.val % 4] := (by decide +kernel : ∀ t : Fin grid0.N, _)
theorem coord : ∀ t : Fin cfg0.N, ((grid0.coords t) 0).val = t.val / 4 := (by decide +kernel : ∀ t : Fin grid0.N, _)

theorem N_le (t : Fin cfg0.N) : t.val < 44 := t.isLt.trans_eq N_0

theorem blk_0 (t : Fin cfg0.N) (r : Fin 768) (k : Fin 4096) :
    iblk m c 0 t (ix2 r k) = at2 (m ((c : Thread nD τ).loc main_arg0) : (⟨2, ![8448, 4096]⟩ : Shape).Idx → EReal) (t.val / 4 * 768 + r.val) k.val := by
  have h := N_le t
  rw [at2_lt _ (by omega) (by omega)]
  blk_ext! [iblk, V, ix_0 t]

theorem blk_1 (t : Fin cfg0.N) (s : Fin 512) (k : Fin 4096) :
    iblk m c 1 t (ix2 k s) = at2 (m ((c : Thread nD τ).loc main_arg1) : (⟨2, ![4096, 2048]⟩ : Shape).Idx → EReal) k.val (t.val % 4 * 512 + s.val) := by
  have h := N_le t
  rw [at2_lt _ (by omega) (by omega)]
  blk_ext! [iblk, V, ix_1 t]

theorem blk_2 (t : Fin cfg0.N) (r : Fin 768) (s : Fin 512) :
    iblk m c 2 t (ix2 r s) = at2 (m ((c : Thread nD τ).loc main_arg2) : (⟨2, ![8448, 2048]⟩ : Shape).Idx → EReal) (t.val / 4 * 768 + r.val) (t.val % 4 * 512 + s.val) := by
  have h := N_le t
  rw [at2_lt _ (by omega) (by omega)]
  blk_ext! [iblk, V, ix_2 t]

theorem blk_3 (t : Fin cfg0.N) (q : Fin 2) (s : Fin 512) :
    iblk m c 3 t (ix2 q s) = at2 (m ((c : Thread nD τ).loc main_arg3) : (⟨2, ![2, 2048]⟩ : Shape).Idx → EReal) q.val (t.val % 4 * 512 + s.val) := by
  have h := N_le t
  rw [at2_lt _ (by omega) (by omega)]
  blk_ext! [iblk, V, ix_3 t]

theorem pay1_apply (w : Vec Ideal S4096x512 .bf16) (a : Vec Ideal S768x4096 .bf16) (r : Fin 768) (s : Fin 512) :
    k0_pay1 (F := Ideal) w a (ix2 r s) = ∑ k : Fin 4096, a (ix2 r k) * w (ix2 k s) := by
  pointwise [k0_pay1]

theorem pay2_apply (t : Fin cfg0.N) (w : Vec Ideal S4096x512 .bf16) (a : Vec Ideal S768x4096 .bf16) (g h : Vec Ideal S1x512 .f32) (x : Vec Ideal S768x512 .f32)
    (r : Fin 768) (s : Fin 512) : k0_pay2 (F := Ideal) (grid0.coords t) w a g h x (ix2 r s)
      = x (ix2 r s) + (if t.val / 4 * 768 + r.val < 256 then g (ix2 0 s) else h (ix2 0 s)) * ∑ k : Fin 4096, a (ix2 r k) * w (ix2 k s) := by
  have hN := N_le t
  pointwise [k0_pay2]
  rw [pay1_apply w a r s, coord t, pick _ _ (by omega) r.isLt]

theorem row_0 (x : Vec Ideal S2x512 .f32) (s : Fin 512) : View.ld x r0_3 (ix2 0 s) = x (ix2 0 s) :=
  View.ld_unit_apply_of x _ _ _ _ _ fun a => by match a with | 0 => rfl | 1 => exact (Nat.zero_add _).symm

theorem row_1 (x : Vec Ideal S2x512 .f32) (s : Fin 512) : View.ld x r0_4 (ix2 0 s) = x (ix2 1 s) :=
  View.ld_unit_apply_of x _ _ _ _ _ fun a => by match a with | 0 => rfl | 1 => exact (Nat.zero_add _).symm

theorem out4_apply (t : Fin cfg0.N) (r : Fin 768) (s : Fin 512) :
    out0_4 (grid0.coords t) (iblk m c 0 t) (iblk m c 1 t) (iblk m c 2 t) (iblk m c 3 t) (ix2 r s)
      = ∑ k : Fin 4096, at2 (m ((c : Thread nD τ).loc main_arg0) : (⟨2, ![8448, 4096]⟩ : Shape).Idx → EReal) (t.val / 4 * 768 + r.val) k.val * at2 (m ((c : Thread nD τ).loc main_arg1) : (⟨2, ![4096, 2048]⟩ : Shape).Idx → EReal) k.val (t.val % 4 * 512 + s.val) := by
  unfold out0_4
  rw [View.canon_unit_zero (S := S768x512) z2]
  simp only [View.ld_unit_zero (S := S768x4096) z2, View.ld_unit_zero (S := S4096x512) z2]
  rw [pay1_apply]
  simp only [blk_0, blk_1]

theorem out5_apply (t : Fin cfg0.N) (r : Fin 768) (s : Fin 512) :
    out0_5 (grid0.coords t) (iblk m c 0 t) (iblk m c 1 t) (iblk m c 2 t) (iblk m c 3 t) (ix2 r s)
      = at2 (m ((c : Thread nD τ).loc main_arg2) : (⟨2, ![8448, 2048]⟩ : Shape).Idx → EReal) (t.val / 4 * 768 + r.val) (t.val % 4 * 512 + s.val) + (if (t.val / 4 * 768 + r.val) < 256 then at2 (m ((c : Thread nD τ).loc main_arg3) : (⟨2, ![2, 2048]⟩ : Shape).Idx → EReal) 0 (t.val % 4 * 512 + s.val) else at2 (m ((c : Thread nD τ).loc main_arg3) : (⟨2, ![2, 2048]⟩ : Shape).Idx → EReal) 1 (t.val % 4 * 512 + s.val))
        * ∑ k : Fin 4096, at2 (m ((c : Thread nD τ).loc main_arg0) : (⟨2, ![8448, 4096]⟩ : Shape).Idx → EReal) (t.val / 4 * 768 + r.val) k.val * at2 (m ((c : Thread nD τ).loc main_arg1) : (⟨2, ![4096, 2048]⟩ : Shape).Idx → EReal) k.val (t.val % 4 * 512 + s.val) := by
  unfold out0_5
  rw [View.canon_unit_zero (S := S768x512) z2]
  simp only [View.ld_unit_zero (S := S768x4096) z2, View.ld_unit_zero (S := S4096x512) z2, View.ld_unit_zero (S := S768x512) z2]
  rw [pay2_apply, row_0, row_1]
  simp only [blk_0, blk_1]
  rw [blk_2, blk_3, blk_3]
  simp only [Fin.val_zero, Fin.val_one]

theorem final_4 : (dats (F := Ideal) m 0 c).arrAt 4 cfg0.N = spec (m ((c : Thread nD τ).loc main_arg0)) (m ((c : Thread nD τ).loc main_arg1)) := by
  refine (dats m 0 c).arrAt_eq_of_covers 4 _ (by decide +kernel) fun t hf y => ?_
  have h := N_le t
  blk_simp
  rw [after0_4]
  obtain ⟨r, s, rfl⟩ : ∃ (r : Fin 768) (s : Fin 512), y = ix2 r s := ⟨y 0, y 1, funext fun a => by match a with | 0 => rfl | 1 => rfl⟩
  refine (out4_apply m c t r s).trans ?_
  unfold spec
  blk_simp [ix_4 t]

theorem final_5 : (dats (F := Ideal) m 0 c).arrAt 5 cfg0.N = gatedAt (m ((c : Thread nD τ).loc main_arg2)) (m ((c : Thread nD τ).loc main_arg3)) (spec (m ((c : Thread nD τ).loc main_arg0)) (m ((c : Thread nD τ).loc main_arg1))) := by
  refine (dats m 0 c).arrAt_eq_of_covers 5 _ (by decide +kernel) fun t hf y => ?_
  have h := N_le t
  blk_simp
  rw [after0_5]
  obtain ⟨r, s, rfl⟩ : ∃ (r : Fin 768) (s : Fin 512), y = ix2 r s := ⟨y 0, y 1, funext fun a => by match a with | 0 => rfl | 1 => rfl⟩
  refine (out5_apply m c t r s).trans ?_
  unfold gatedAt spec
  blk_simp [ix_5 t]

end Cert.SsdOutIdeal.Hand

end
-- ==== Proof.Prod.SsdOutClaim.lean ====
/-
  The scan layer's last product, and the stream after it: kernel and reference end with the same arrays.
-/
module

public import proofs.«01_k».proof.Defs
public import proofs.«01_k».proof.Proof.Prod.SsdOut
public import proofs.«01_k».proof.Proof.Gen.SsdOut
public import proofs.«01_k».proof.Proof.Gen.SsdOut.Frame
public import proofs.«01_k».proof.Proof.Gen.SsdOutIdeal
public import proofs.«01_k».proof.Proof.Gen.SsdOutRefIdeal.Run
public import proofs.«01_k».proof.Proof.Gen.SsdOutRefIdeal.Read
public import Idealize.ShloMosaic.Lib.Quiescent
public import Idealize.ShloMosaic.Lib.Claim

@[expose] public section

set_option maxRecDepth 16384

noncomputable section

namespace Cert.SsdOutRefIdeal.Hand

open Cert.SsdOutRefIdeal Cert.SsdOutRefIdeal.Gen Cert.SsdOutRefIdeal.Read Cert.Prod Cert.Prod.SsdOut
open Idealize.ShloMosaic Idealize.ShloMosaic.TcCoe Idealize.ShloMosaic.Tactic

theorem product (x0 : (⟨2, ![8448, 4096]⟩ : Shape).Idx → EReal) (x1 : (⟨2, ![4096, 2048]⟩ : Shape).Idx → EReal) : val_main_v2 (F := Ideal) x0 x1 = spec x0 x1 := by
  funext i
  have h0 : (i 0).val < 8448 := (i 0).isLt
  have h1 : (i 1).val < 2048 := (i 1).isLt
  simp only [val_main_v2_apply, val_main_v1_apply, val_main_v0_apply]
  show ∑ k : Fin 4096, x0 _ * x1 _ = _
  unfold spec
  refine Finset.sum_congr rfl fun k _ => ?_
  have hk : k.val < 4096 := k.isLt
  refine congrArg₂ (· * ·) ?_ ?_
  · rw [at2_lt _ (by omega) (by omega)]
    exact congrArg x0 (funext fun a => by match a with | 0 => rfl | 1 => rfl)
  · rw [at2_lt _ (by omega) (by omega)]
    exact congrArg x1 (funext fun a => by match a with | 0 => rfl | 1 => rfl)

theorem stream (x0 : (⟨2, ![8448, 4096]⟩ : Shape).Idx → EReal) (x1 : (⟨2, ![4096, 2048]⟩ : Shape).Idx → EReal) (x2 : (⟨2, ![8448, 2048]⟩ : Shape).Idx → EReal) (x3 : (⟨2, ![2, 2048]⟩ : Shape).Idx → EReal) :
    val_main_v19 (F := Ideal) x0 x1 x2 x3 = gatedAt x2 x3 (spec x0 x1) := by
  rw [← product x0 x1]
  funext i
  obtain ⟨r, j, rfl⟩ : ∃ (r : Fin 8448) (j : Fin 2048), i = ix2 r j := ⟨i 0, i 1, funext fun b => by match b with | 0 => rfl | 1 => rfl⟩
  rw [gatedAt_apply]
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3]
  by_cases h : r.val < 256
  · rw [dif_pos h]
    exact congrArg (_ + ·) (congrArg (· * _) (if_pos h).symm)
  · rw [dif_neg h]
    have e : (⟨256 + (r.val - 256), by omega⟩ : Fin 8448) = r := Fin.ext (by show 256 + (r.val - 256) = r.val; omega)
    simp only [e]
    exact congrArg (_ + ·) (congrArg (· * _) (if_neg h).symm)

end Cert.SsdOutRefIdeal.Hand

namespace Cert.Prod.SsdOut

open Idealize.ShloMosaic Idealize.SL.Sem

theorem frame_ideal : Cert.quiescent_SsdOutIdeal := fun m g _ => Cert.SsdOutIdeal.Gen.frame (F := Ideal) m g

theorem frame_kernel : Cert.quiescent_SsdOut := fun m g _ => Cert.SsdOut.Gen.frame (F := Bits) m g

theorem frame_reference : Cert.quiescent_SsdOutRefIdeal := fun m g _ =>
  (θ_run (Cert.SsdOutRefIdeal.defs (F := Ideal)) _ _).mono (fun r h => ⟨fun c => (h c).2.2, sem_eq_zero_of_no_sems rfl r.2⟩) (Cert.SsdOutRefIdeal.Value.run (F := Ideal) m g)

/-- From equal arguments the two programs end with equal results. -/
theorem same : Cert.algebraic_SsdOutIdeal_SsdOutRefIdeal := fun m g m' g' _ hagree => by
  refine ⟨fun c => spec (m ((c.tc : Thread Cert.SsdOutIdeal.nD Cert.SsdOutIdeal.τ).loc Cert.SsdOutIdeal.main_arg0)) (m ((c.tc : Thread Cert.SsdOutIdeal.nD Cert.SsdOutIdeal.τ).loc Cert.SsdOutIdeal.main_arg1)), fun c => gatedAt (m ((c.tc : Thread Cert.SsdOutIdeal.nD Cert.SsdOutIdeal.τ).loc Cert.SsdOutIdeal.main_arg2)) (m ((c.tc : Thread Cert.SsdOutIdeal.nD Cert.SsdOutIdeal.τ).loc Cert.SsdOutIdeal.main_arg3)) (spec (m ((c.tc : Thread Cert.SsdOutIdeal.nD Cert.SsdOutIdeal.τ).loc Cert.SsdOutIdeal.main_arg0)) (m ((c.tc : Thread Cert.SsdOutIdeal.nD Cert.SsdOutIdeal.τ).loc Cert.SsdOutIdeal.main_arg1))), ?_, ?_⟩
  · refine (θ_run (Cert.SsdOutIdeal.defs (F := Ideal)) _ _).mono (fun r h c => ?_)
      (θ_run_and (Cert.SsdOutIdeal.Gen.run_main (F := Ideal) m g) (Cert.SsdOutIdeal.Gen.frame (F := Ideal) m g))
    exact ⟨(h.1.out_eq c 4).trans (Cert.SsdOutIdeal.Hand.final_4 m c), (h.1.out_eq c 5).trans (Cert.SsdOutIdeal.Hand.final_5 m c), h.2.1 c⟩
  · refine (θ_run (Cert.SsdOutRefIdeal.defs (F := Ideal)) _ _).mono (fun r h c => ?_) (Cert.SsdOutRefIdeal.Value.run (F := Ideal) m' g')
    obtain ⟨h0, h1, ha⟩ := h c
    obtain ⟨a0, a1, a2, a3⟩ := hagree c
    rw [Cert.SsdOutRefIdeal.Read.val_main_v2_eq, a0, a1] at h0
    rw [Cert.SsdOutRefIdeal.Read.val_main_v19_eq, a0, a1, a2, a3] at h1
    exact ⟨h0.trans (Cert.SsdOutRefIdeal.Hand.product _ _), h1.trans (Cert.SsdOutRefIdeal.Hand.stream _ _ _ _), ha⟩

end Cert.Prod.SsdOut

end
-- ==== Proof.Prod.AttnOut.lean ====
/-
  The attention layer's last product, and the stream after it: the arrays the call leaves, of the arrays it is handed.
-/
module

public import proofs.«01_k».proof.Proof.Prod.Gate
public import proofs.«01_k».proof.Proof.Gen.AttnOutIdeal.Frame
public import Idealize.ShloMosaic.Lib.Pipeline.ValueKit.Point

@[expose] public section

set_option maxRecDepth 16384

noncomputable section

namespace Cert.Prod.AttnOut

open Idealize.ShloMosaic Idealize.ShloMosaic.Tactic Cert.Prod

/-- The product. -/
def spec (x0 : (⟨2, ![8448, 2048]⟩ : Shape).Idx → EReal) (x1 : (⟨2, ![2048, 2048]⟩ : Shape).Idx → EReal) : (⟨2, ![8448, 2048]⟩ : Shape).Idx → EReal :=
  fun i => ∑ k : Fin 2048, at2 x0 (i 0).val k.val * at2 x1 k.val (i 1).val

end Cert.Prod.AttnOut

namespace Cert.AttnOutIdeal.Hand

open Cert.AttnOutIdeal Cert.AttnOutIdeal.Gen Cert.Prod Cert.Prod.AttnOut
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![t.val / 2, 0] := (by decide +kernel : ∀ t : Fin grid0.N, _)
theorem ix_1 : ∀ t : Fin cfg0.N, win0_1.index t = ![0, t.val % 2] := (by decide +kernel : ∀ t : Fin grid0.N, _)
theorem ix_2 : ∀ t : Fin cfg0.N, win0_2.index t = ![t.val / 2, t.val % 2] := (by decide +kernel : ∀ t : Fin grid0.N, _)
theorem ix_3 : ∀ t : Fin cfg0.N, win0_3.index t = ![0, t.val % 2] := (by decide +kernel : ∀ t : Fin grid0.N, _)
theorem ix_4 : ∀ t : Fin cfg0.N, win0_4.index t = ![t.val / 2, t.val % 2] := (by decide +kernel : ∀ t : Fin grid0.N, _)
theorem ix_5 : ∀ t : Fin cfg0.N, win0_5.index t = ![t.val / 2, t.val % 2] := (by decide +kernel : ∀ t : Fin grid0.N, _)
theorem coord : ∀ t : Fin cfg0.N, ((grid0.coords t) 0).val = t.val / 2 := (by decide +kernel : ∀ t : Fin grid0.N, _)

theorem N_le (t : Fin cfg0.N) : t.val < 22 := t.isLt.trans_eq N_0

theorem blk_0 (t : Fin cfg0.N) (r : Fin 768) (k : Fin 2048) :
    iblk m c 0 t (ix2 r k) = at2 (m ((c : Thread nD τ).loc main_arg0) : (⟨2, ![8448, 2048]⟩ : Shape).Idx → EReal) (t.val / 2 * 768 + r.val) k.val := by
  have h := N_le t
  rw [at2_lt _ (by omega) (by omega)]
  blk_ext! [iblk, V, ix_0 t]

theorem blk_1 (t : Fin cfg0.N) (s : Fin 1024) (k : Fin 2048) :
    iblk m c 1 t (ix2 k s) = at2 (m ((c : Thread nD τ).loc main_arg1) : (⟨2, ![2048, 2048]⟩ : Shape).Idx → EReal) k.val (t.val % 2 * 1024 + s.val) := by
  have h := N_le t
  rw [at2_lt _ (by omega) (by omega)]
  blk_ext! [iblk, V, ix_1 t]

theorem blk_2 (t : Fin cfg0.N) (r : Fin 768) (s : Fin 1024) :
    iblk m c 2 t (ix2 r s) = at2 (m ((c : Thread nD τ).loc main_arg2) : (⟨2, ![8448, 2048]⟩ : Shape).Idx → EReal) (t.val / 2 * 768 + r.val) (t.val % 2 * 1024 + s.val) := by
  have h := N_le t
  rw [at2_lt _ (by omega) (by omega)]
  blk_ext! [iblk, V, ix_2 t]

theorem blk_3 (t : Fin cfg0.N) (q : Fin 2) (s : Fin 1024) :
    iblk m c 3 t (ix2 q s) = at2 (m ((c : Thread nD τ).loc main_arg3) : (⟨2, ![2, 2048]⟩ : Shape).Idx → EReal) q.val (t.val % 2 * 1024 + s.val) := by
  have h := N_le t
  rw [at2_lt _ (by omega) (by omega)]
  blk_ext! [iblk, V, ix_3 t]

theorem pay1_apply (w : Vec Ideal S2048x1024 .bf16) (a : Vec Ideal S768x2048 .bf16) (r : Fin 768) (s : Fin 1024) :
    k0_pay1 (F := Ideal) w a (ix2 r s) = ∑ k : Fin 2048, a (ix2 r k) * w (ix2 k s) := by
  pointwise [k0_pay1]

theorem pay2_apply (t : Fin cfg0.N) (w : Vec Ideal S2048x1024 .bf16) (a : Vec Ideal S768x2048 .bf16) (g h : Vec Ideal S1x1024 .f32) (x : Vec Ideal S768x1024 .f32)
    (r : Fin 768) (s : Fin 1024) : k0_pay2 (F := Ideal) (grid0.coords t) w a g h x (ix2 r s)
      = x (ix2 r s) + (if t.val / 2 * 768 + r.val < 256 then g (ix2 0 s) else h (ix2 0 s)) * ∑ k : Fin 2048, a (ix2 r k) * w (ix2 k s) := by
  have hN := N_le t
  pointwise [k0_pay2]
  rw [pay1_apply w a r s, coord t, pick _ _ (by omega) r.isLt]

theorem row_0 (x : Vec Ideal S2x1024 .f32) (s : Fin 1024) : View.ld x r0_3 (ix2 0 s) = x (ix2 0 s) :=
  View.ld_unit_apply_of x _ _ _ _ _ fun a => by match a with | 0 => rfl | 1 => exact (Nat.zero_add _).symm

theorem row_1 (x : Vec Ideal S2x1024 .f32) (s : Fin 1024) : View.ld x r0_4 (ix2 0 s) = x (ix2 1 s) :=
  View.ld_unit_apply_of x _ _ _ _ _ fun a => by match a with | 0 => rfl | 1 => exact (Nat.zero_add _).symm

theorem out4_apply (t : Fin cfg0.N) (r : Fin 768) (s : Fin 1024) :
    out0_4 (grid0.coords t) (iblk m c 0 t) (iblk m c 1 t) (iblk m c 2 t) (iblk m c 3 t) (ix2 r s)
      = ∑ k : Fin 2048, at2 (m ((c : Thread nD τ).loc main_arg0) : (⟨2, ![8448, 2048]⟩ : Shape).Idx → EReal) (t.val / 2 * 768 + r.val) k.val * at2 (m ((c : Thread nD τ).loc main_arg1) : (⟨2, ![2048, 2048]⟩ : Shape).Idx → EReal) k.val (t.val % 2 * 1024 + s.val) := by
  unfold out0_4
  rw [View.canon_unit_zero (S := S768x1024) z2]
  simp only [View.ld_unit_zero (S := S768x2048) z2, View.ld_unit_zero (S := S2048x1024) z2]
  rw [pay1_apply]
  simp only [blk_0, blk_1]

theorem out5_apply (t : Fin cfg0.N) (r : Fin 768) (s : Fin 1024) :
    out0_5 (grid0.coords t) (iblk m c 0 t) (iblk m c 1 t) (iblk m c 2 t) (iblk m c 3 t) (ix2 r s)
      = at2 (m ((c : Thread nD τ).loc main_arg2) : (⟨2, ![8448, 2048]⟩ : Shape).Idx → EReal) (t.val / 2 * 768 + r.val) (t.val % 2 * 1024 + s.val) + (if (t.val / 2 * 768 + r.val) < 256 then at2 (m ((c : Thread nD τ).loc main_arg3) : (⟨2, ![2, 2048]⟩ : Shape).Idx → EReal) 0 (t.val % 2 * 1024 + s.val) else at2 (m ((c : Thread nD τ).loc main_arg3) : (⟨2, ![2, 2048]⟩ : Shape).Idx → EReal) 1 (t.val % 2 * 1024 + s.val))
        * ∑ k : Fin 2048, at2 (m ((c : Thread nD τ).loc main_arg0) : (⟨2, ![8448, 2048]⟩ : Shape).Idx → EReal) (t.val / 2 * 768 + r.val) k.val * at2 (m ((c : Thread nD τ).loc main_arg1) : (⟨2, ![2048, 2048]⟩ : Shape).Idx → EReal) k.val (t.val % 2 * 1024 + s.val) := by
  unfold out0_5
  rw [View.canon_unit_zero (S := S768x1024) z2]
  simp only [View.ld_unit_zero (S := S768x2048) z2, View.ld_unit_zero (S := S2048x1024) z2, View.ld_unit_zero (S := S768x1024) z2]
  rw [pay2_apply, row_0, row_1]
  simp only [blk_0, blk_1]
  rw [blk_2, blk_3, blk_3]
  simp only [Fin.val_zero, Fin.val_one]

theorem final_4 : (dats (F := Ideal) m 0 c).arrAt 4 cfg0.N = spec (m ((c : Thread nD τ).loc main_arg0)) (m ((c : Thread nD τ).loc main_arg1)) := by
  refine (dats m 0 c).arrAt_eq_of_covers 4 _ (by decide +kernel) fun t hf y => ?_
  have h := N_le t
  blk_simp
  rw [after0_4]
  obtain ⟨r, s, rfl⟩ : ∃ (r : Fin 768) (s : Fin 1024), y = ix2 r s := ⟨y 0, y 1, funext fun a => by match a with | 0 => rfl | 1 => rfl⟩
  refine (out4_apply m c t r s).trans ?_
  unfold spec
  blk_simp [ix_4 t]

theorem final_5 : (dats (F := Ideal) m 0 c).arrAt 5 cfg0.N = gatedAt (m ((c : Thread nD τ).loc main_arg2)) (m ((c : Thread nD τ).loc main_arg3)) (spec (m ((c : Thread nD τ).loc main_arg0)) (m ((c : Thread nD τ).loc main_arg1))) := by
  refine (dats m 0 c).arrAt_eq_of_covers 5 _ (by decide +kernel) fun t hf y => ?_
  have h := N_le t
  blk_simp
  rw [after0_5]
  obtain ⟨r, s, rfl⟩ : ∃ (r : Fin 768) (s : Fin 1024), y = ix2 r s := ⟨y 0, y 1, funext fun a => by match a with | 0 => rfl | 1 => rfl⟩
  refine (out5_apply m c t r s).trans ?_
  unfold gatedAt spec
  blk_simp [ix_5 t]

end Cert.AttnOutIdeal.Hand

end
-- ==== Proof.Prod.AttnOutClaim.lean ====
/-
  The attention layer's last product, and the stream after it: kernel and reference end with the same arrays.
-/
module

public import proofs.«01_k».proof.Defs
public import proofs.«01_k».proof.Proof.Prod.AttnOut
public import proofs.«01_k».proof.Proof.Gen.AttnOut
public import proofs.«01_k».proof.Proof.Gen.AttnOut.Frame
public import proofs.«01_k».proof.Proof.Gen.AttnOutIdeal
public import proofs.«01_k».proof.Proof.Gen.AttnOutRefIdeal.Run
public import proofs.«01_k».proof.Proof.Gen.AttnOutRefIdeal.Read
public import Idealize.ShloMosaic.Lib.Quiescent
public import Idealize.ShloMosaic.Lib.Claim

@[expose] public section

set_option maxRecDepth 16384

noncomputable section

namespace Cert.AttnOutRefIdeal.Hand

open Cert.AttnOutRefIdeal Cert.AttnOutRefIdeal.Gen Cert.AttnOutRefIdeal.Read Cert.Prod Cert.Prod.AttnOut
open Idealize.ShloMosaic Idealize.ShloMosaic.TcCoe Idealize.ShloMosaic.Tactic

theorem product (x0 : (⟨2, ![8448, 2048]⟩ : Shape).Idx → EReal) (x1 : (⟨2, ![2048, 2048]⟩ : Shape).Idx → EReal) : val_main_v2 (F := Ideal) x0 x1 = spec x0 x1 := by
  funext i
  have h0 : (i 0).val < 8448 := (i 0).isLt
  have h1 : (i 1).val < 2048 := (i 1).isLt
  simp only [val_main_v2_apply, val_main_v1_apply, val_main_v0_apply]
  show ∑ k : Fin 2048, x0 _ * x1 _ = _
  unfold spec
  refine Finset.sum_congr rfl fun k _ => ?_
  have hk : k.val < 2048 := k.isLt
  refine congrArg₂ (· * ·) ?_ ?_
  · rw [at2_lt _ (by omega) (by omega)]
    exact congrArg x0 (funext fun a => by match a with | 0 => rfl | 1 => rfl)
  · rw [at2_lt _ (by omega) (by omega)]
    exact congrArg x1 (funext fun a => by match a with | 0 => rfl | 1 => rfl)

theorem stream (x0 : (⟨2, ![8448, 2048]⟩ : Shape).Idx → EReal) (x1 : (⟨2, ![2048, 2048]⟩ : Shape).Idx → EReal) (x2 : (⟨2, ![8448, 2048]⟩ : Shape).Idx → EReal) (x3 : (⟨2, ![2, 2048]⟩ : Shape).Idx → EReal) :
    val_main_v19 (F := Ideal) x0 x1 x2 x3 = gatedAt x2 x3 (spec x0 x1) := by
  rw [← product x0 x1]
  funext i
  obtain ⟨r, j, rfl⟩ : ∃ (r : Fin 8448) (j : Fin 2048), i = ix2 r j := ⟨i 0, i 1, funext fun b => by match b with | 0 => rfl | 1 => rfl⟩
  rw [gatedAt_apply]
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3]
  by_cases h : r.val < 256
  · rw [dif_pos h]
    exact congrArg (_ + ·) (congrArg (· * _) (if_pos h).symm)
  · rw [dif_neg h]
    have e : (⟨256 + (r.val - 256), by omega⟩ : Fin 8448) = r := Fin.ext (by show 256 + (r.val - 256) = r.val; omega)
    simp only [e]
    exact congrArg (_ + ·) (congrArg (· * _) (if_neg h).symm)

end Cert.AttnOutRefIdeal.Hand

namespace Cert.Prod.AttnOut

open Idealize.ShloMosaic Idealize.SL.Sem

theorem frame_ideal : Cert.quiescent_AttnOutIdeal := fun m g _ => Cert.AttnOutIdeal.Gen.frame (F := Ideal) m g

theorem frame_kernel : Cert.quiescent_AttnOut := fun m g _ => Cert.AttnOut.Gen.frame (F := Bits) m g

theorem frame_reference : Cert.quiescent_AttnOutRefIdeal := fun m g _ =>
  (θ_run (Cert.AttnOutRefIdeal.defs (F := Ideal)) _ _).mono (fun r h => ⟨fun c => (h c).2.2, sem_eq_zero_of_no_sems rfl r.2⟩) (Cert.AttnOutRefIdeal.Value.run (F := Ideal) m g)

/-- From equal arguments the two programs end with equal results. -/
theorem same : Cert.algebraic_AttnOutIdeal_AttnOutRefIdeal := fun m g m' g' _ hagree => by
  refine ⟨fun c => spec (m ((c.tc : Thread Cert.AttnOutIdeal.nD Cert.AttnOutIdeal.τ).loc Cert.AttnOutIdeal.main_arg0)) (m ((c.tc : Thread Cert.AttnOutIdeal.nD Cert.AttnOutIdeal.τ).loc Cert.AttnOutIdeal.main_arg1)), fun c => gatedAt (m ((c.tc : Thread Cert.AttnOutIdeal.nD Cert.AttnOutIdeal.τ).loc Cert.AttnOutIdeal.main_arg2)) (m ((c.tc : Thread Cert.AttnOutIdeal.nD Cert.AttnOutIdeal.τ).loc Cert.AttnOutIdeal.main_arg3)) (spec (m ((c.tc : Thread Cert.AttnOutIdeal.nD Cert.AttnOutIdeal.τ).loc Cert.AttnOutIdeal.main_arg0)) (m ((c.tc : Thread Cert.AttnOutIdeal.nD Cert.AttnOutIdeal.τ).loc Cert.AttnOutIdeal.main_arg1))), ?_, ?_⟩
  · refine (θ_run (Cert.AttnOutIdeal.defs (F := Ideal)) _ _).mono (fun r h c => ?_)
      (θ_run_and (Cert.AttnOutIdeal.Gen.run_main (F := Ideal) m g) (Cert.AttnOutIdeal.Gen.frame (F := Ideal) m g))
    exact ⟨(h.1.out_eq c 4).trans (Cert.AttnOutIdeal.Hand.final_4 m c), (h.1.out_eq c 5).trans (Cert.AttnOutIdeal.Hand.final_5 m c), h.2.1 c⟩
  · refine (θ_run (Cert.AttnOutRefIdeal.defs (F := Ideal)) _ _).mono (fun r h c => ?_) (Cert.AttnOutRefIdeal.Value.run (F := Ideal) m' g')
    obtain ⟨h0, h1, ha⟩ := h c
    obtain ⟨a0, a1, a2, a3⟩ := hagree c
    rw [Cert.AttnOutRefIdeal.Read.val_main_v2_eq, a0, a1] at h0
    rw [Cert.AttnOutRefIdeal.Read.val_main_v19_eq, a0, a1, a2, a3] at h1
    exact ⟨h0.trans (Cert.AttnOutRefIdeal.Hand.product _ _), h1.trans (Cert.AttnOutRefIdeal.Hand.stream _ _ _ _), ha⟩

end Cert.Prod.AttnOut

end
-- ==== Proof.Prod.FfnDown.lean ====
/-
  The FFN's second product, and the stream after it: the arrays the call leaves, of the arrays it is handed.
-/
module

public import proofs.«01_k».proof.Proof.Prod.Gate
public import proofs.«01_k».proof.Proof.Gen.FfnDownIdeal.Frame
public import Idealize.ShloMosaic.Lib.Pipeline.ValueKit.Point

@[expose] public section

set_option maxRecDepth 16384

noncomputable section

namespace Cert.Prod.FfnDown

open Idealize.ShloMosaic Idealize.ShloMosaic.Tactic Cert.Prod

/-- The product. -/
def spec (x0 : (⟨2, ![8448, 5632]⟩ : Shape).Idx → EReal) (x1 : (⟨2, ![5632, 2048]⟩ : Shape).Idx → EReal) : (⟨2, ![8448, 2048]⟩ : Shape).Idx → EReal :=
  fun i => ∑ k : Fin 5632, at2 x0 (i 0).val k.val * at2 x1 k.val (i 1).val

end Cert.Prod.FfnDown

namespace Cert.FfnDownIdeal.Hand

open Cert.FfnDownIdeal Cert.FfnDownIdeal.Gen Cert.Prod Cert.Prod.FfnDown
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![t.val / 4, 0] := (by decide +kernel : ∀ t : Fin grid0.N, _)
theorem ix_1 : ∀ t : Fin cfg0.N, win0_1.index t = ![0, t.val % 4] := (by decide +kernel : ∀ t : Fin grid0.N, _)
theorem ix_2 : ∀ t : Fin cfg0.N, win0_2.index t = ![t.val / 4, t.val % 4] := (by decide +kernel : ∀ t : Fin grid0.N, _)
theorem ix_3 : ∀ t : Fin cfg0.N, win0_3.index t = ![0, t.val % 4] := (by decide +kernel : ∀ t : Fin grid0.N, _)
theorem ix_4 : ∀ t : Fin cfg0.N, win0_4.index t = ![t.val / 4, t.val % 4] := (by decide +kernel : ∀ t : Fin grid0.N, _)
theorem ix_5 : ∀ t : Fin cfg0.N, win0_5.index t = ![t.val / 4, t.val % 4] := (by decide +kernel : ∀ t : Fin grid0.N, _)
theorem coord : ∀ t : Fin cfg0.N, ((grid0.coords t) 0).val = t.val / 4 := (by decide +kernel : ∀ t : Fin grid0.N, _)

theorem N_le (t : Fin cfg0.N) : t.val < 44 := t.isLt.trans_eq N_0

theorem blk_0 (t : Fin cfg0.N) (r : Fin 768) (k : Fin 5632) :
    iblk m c 0 t (ix2 r k) = at2 (m ((c : Thread nD τ).loc main_arg0) : (⟨2, ![8448, 5632]⟩ : Shape).Idx → EReal) (t.val / 4 * 768 + r.val) k.val := by
  have h := N_le t
  rw [at2_lt _ (by omega) (by omega)]
  blk_ext! [iblk, V, ix_0 t]

theorem blk_1 (t : Fin cfg0.N) (s : Fin 512) (k : Fin 5632) :
    iblk m c 1 t (ix2 k s) = at2 (m ((c : Thread nD τ).loc main_arg1) : (⟨2, ![5632, 2048]⟩ : Shape).Idx → EReal) k.val (t.val % 4 * 512 + s.val) := by
  have h := N_le t
  rw [at2_lt _ (by omega) (by omega)]
  blk_ext! [iblk, V, ix_1 t]

theorem blk_2 (t : Fin cfg0.N) (r : Fin 768) (s : Fin 512) :
    iblk m c 2 t (ix2 r s) = at2 (m ((c : Thread nD τ).loc main_arg2) : (⟨2, ![8448, 2048]⟩ : Shape).Idx → EReal) (t.val / 4 * 768 + r.val) (t.val % 4 * 512 + s.val) := by
  have h := N_le t
  rw [at2_lt _ (by omega) (by omega)]
  blk_ext! [iblk, V, ix_2 t]

theorem blk_3 (t : Fin cfg0.N) (q : Fin 2) (s : Fin 512) :
    iblk m c 3 t (ix2 q s) = at2 (m ((c : Thread nD τ).loc main_arg3) : (⟨2, ![2, 2048]⟩ : Shape).Idx → EReal) q.val (t.val % 4 * 512 + s.val) := by
  have h := N_le t
  rw [at2_lt _ (by omega) (by omega)]
  blk_ext! [iblk, V, ix_3 t]

theorem pay1_apply (w : Vec Ideal S5632x512 .bf16) (a : Vec Ideal S768x5632 .bf16) (r : Fin 768) (s : Fin 512) :
    k0_pay1 (F := Ideal) w a (ix2 r s) = ∑ k : Fin 5632, a (ix2 r k) * w (ix2 k s) := by
  pointwise [k0_pay1]

theorem pay2_apply (t : Fin cfg0.N) (w : Vec Ideal S5632x512 .bf16) (a : Vec Ideal S768x5632 .bf16) (g h : Vec Ideal S1x512 .f32) (x : Vec Ideal S768x512 .f32)
    (r : Fin 768) (s : Fin 512) : k0_pay2 (F := Ideal) (grid0.coords t) w a g h x (ix2 r s)
      = x (ix2 r s) + (if t.val / 4 * 768 + r.val < 256 then g (ix2 0 s) else h (ix2 0 s)) * ∑ k : Fin 5632, a (ix2 r k) * w (ix2 k s) := by
  have hN := N_le t
  pointwise [k0_pay2]
  rw [pay1_apply w a r s, coord t, pick _ _ (by omega) r.isLt]

theorem row_0 (x : Vec Ideal S2x512 .f32) (s : Fin 512) : View.ld x r0_3 (ix2 0 s) = x (ix2 0 s) :=
  View.ld_unit_apply_of x _ _ _ _ _ fun a => by match a with | 0 => rfl | 1 => exact (Nat.zero_add _).symm

theorem row_1 (x : Vec Ideal S2x512 .f32) (s : Fin 512) : View.ld x r0_4 (ix2 0 s) = x (ix2 1 s) :=
  View.ld_unit_apply_of x _ _ _ _ _ fun a => by match a with | 0 => rfl | 1 => exact (Nat.zero_add _).symm

theorem out4_apply (t : Fin cfg0.N) (r : Fin 768) (s : Fin 512) :
    out0_4 (grid0.coords t) (iblk m c 0 t) (iblk m c 1 t) (iblk m c 2 t) (iblk m c 3 t) (ix2 r s)
      = ∑ k : Fin 5632, at2 (m ((c : Thread nD τ).loc main_arg0) : (⟨2, ![8448, 5632]⟩ : Shape).Idx → EReal) (t.val / 4 * 768 + r.val) k.val * at2 (m ((c : Thread nD τ).loc main_arg1) : (⟨2, ![5632, 2048]⟩ : Shape).Idx → EReal) k.val (t.val % 4 * 512 + s.val) := by
  unfold out0_4
  rw [View.canon_unit_zero (S := S768x512) z2]
  simp only [View.ld_unit_zero (S := S768x5632) z2, View.ld_unit_zero (S := S5632x512) z2]
  rw [pay1_apply]
  simp only [blk_0, blk_1]

theorem out5_apply (t : Fin cfg0.N) (r : Fin 768) (s : Fin 512) :
    out0_5 (grid0.coords t) (iblk m c 0 t) (iblk m c 1 t) (iblk m c 2 t) (iblk m c 3 t) (ix2 r s)
      = at2 (m ((c : Thread nD τ).loc main_arg2) : (⟨2, ![8448, 2048]⟩ : Shape).Idx → EReal) (t.val / 4 * 768 + r.val) (t.val % 4 * 512 + s.val) + (if (t.val / 4 * 768 + r.val) < 256 then at2 (m ((c : Thread nD τ).loc main_arg3) : (⟨2, ![2, 2048]⟩ : Shape).Idx → EReal) 0 (t.val % 4 * 512 + s.val) else at2 (m ((c : Thread nD τ).loc main_arg3) : (⟨2, ![2, 2048]⟩ : Shape).Idx → EReal) 1 (t.val % 4 * 512 + s.val))
        * ∑ k : Fin 5632, at2 (m ((c : Thread nD τ).loc main_arg0) : (⟨2, ![8448, 5632]⟩ : Shape).Idx → EReal) (t.val / 4 * 768 + r.val) k.val * at2 (m ((c : Thread nD τ).loc main_arg1) : (⟨2, ![5632, 2048]⟩ : Shape).Idx → EReal) k.val (t.val % 4 * 512 + s.val) := by
  unfold out0_5
  rw [View.canon_unit_zero (S := S768x512) z2]
  simp only [View.ld_unit_zero (S := S768x5632) z2, View.ld_unit_zero (S := S5632x512) z2, View.ld_unit_zero (S := S768x512) z2]
  rw [pay2_apply, row_0, row_1]
  simp only [blk_0, blk_1]
  rw [blk_2, blk_3, blk_3]
  simp only [Fin.val_zero, Fin.val_one]

theorem final_4 : (dats (F := Ideal) m 0 c).arrAt 4 cfg0.N = spec (m ((c : Thread nD τ).loc main_arg0)) (m ((c : Thread nD τ).loc main_arg1)) := by
  refine (dats m 0 c).arrAt_eq_of_covers 4 _ (by decide +kernel) fun t hf y => ?_
  have h := N_le t
  blk_simp
  rw [after0_4]
  obtain ⟨r, s, rfl⟩ : ∃ (r : Fin 768) (s : Fin 512), y = ix2 r s := ⟨y 0, y 1, funext fun a => by match a with | 0 => rfl | 1 => rfl⟩
  refine (out4_apply m c t r s).trans ?_
  unfold spec
  blk_simp [ix_4 t]

theorem final_5 : (dats (F := Ideal) m 0 c).arrAt 5 cfg0.N = gatedAt (m ((c : Thread nD τ).loc main_arg2)) (m ((c : Thread nD τ).loc main_arg3)) (spec (m ((c : Thread nD τ).loc main_arg0)) (m ((c : Thread nD τ).loc main_arg1))) := by
  refine (dats m 0 c).arrAt_eq_of_covers 5 _ (by decide +kernel) fun t hf y => ?_
  have h := N_le t
  blk_simp
  rw [after0_5]
  obtain ⟨r, s, rfl⟩ : ∃ (r : Fin 768) (s : Fin 512), y = ix2 r s := ⟨y 0, y 1, funext fun a => by match a with | 0 => rfl | 1 => rfl⟩
  refine (out5_apply m c t r s).trans ?_
  unfold gatedAt spec
  blk_simp [ix_5 t]

end Cert.FfnDownIdeal.Hand

end
-- ==== Proof.Prod.FfnDownClaim.lean ====
/-
  The FFN's second product, and the stream after it: kernel and reference end with the same arrays.
-/
module

public import proofs.«01_k».proof.Defs
public import proofs.«01_k».proof.Proof.Prod.FfnDown
public import proofs.«01_k».proof.Proof.Gen.FfnDown
public import proofs.«01_k».proof.Proof.Gen.FfnDown.Frame
public import proofs.«01_k».proof.Proof.Gen.FfnDownIdeal
public import proofs.«01_k».proof.Proof.Gen.FfnDownRefIdeal.Run
public import proofs.«01_k».proof.Proof.Gen.FfnDownRefIdeal.Read
public import Idealize.ShloMosaic.Lib.Quiescent
public import Idealize.ShloMosaic.Lib.Claim

@[expose] public section

set_option maxRecDepth 16384

noncomputable section

namespace Cert.FfnDownRefIdeal.Hand

open Cert.FfnDownRefIdeal Cert.FfnDownRefIdeal.Gen Cert.FfnDownRefIdeal.Read Cert.Prod Cert.Prod.FfnDown
open Idealize.ShloMosaic Idealize.ShloMosaic.TcCoe Idealize.ShloMosaic.Tactic

theorem product (x0 : (⟨2, ![8448, 5632]⟩ : Shape).Idx → EReal) (x1 : (⟨2, ![5632, 2048]⟩ : Shape).Idx → EReal) : val_main_v2 (F := Ideal) x0 x1 = spec x0 x1 := by
  funext i
  have h0 : (i 0).val < 8448 := (i 0).isLt
  have h1 : (i 1).val < 2048 := (i 1).isLt
  simp only [val_main_v2_apply, val_main_v1_apply, val_main_v0_apply]
  show ∑ k : Fin 5632, x0 _ * x1 _ = _
  unfold spec
  refine Finset.sum_congr rfl fun k _ => ?_
  have hk : k.val < 5632 := k.isLt
  refine congrArg₂ (· * ·) ?_ ?_
  · rw [at2_lt _ (by omega) (by omega)]
    exact congrArg x0 (funext fun a => by match a with | 0 => rfl | 1 => rfl)
  · rw [at2_lt _ (by omega) (by omega)]
    exact congrArg x1 (funext fun a => by match a with | 0 => rfl | 1 => rfl)

theorem stream (x0 : (⟨2, ![8448, 5632]⟩ : Shape).Idx → EReal) (x1 : (⟨2, ![5632, 2048]⟩ : Shape).Idx → EReal) (x2 : (⟨2, ![8448, 2048]⟩ : Shape).Idx → EReal) (x3 : (⟨2, ![2, 2048]⟩ : Shape).Idx → EReal) :
    val_main_v19 (F := Ideal) x0 x1 x2 x3 = gatedAt x2 x3 (spec x0 x1) := by
  rw [← product x0 x1]
  funext i
  obtain ⟨r, j, rfl⟩ : ∃ (r : Fin 8448) (j : Fin 2048), i = ix2 r j := ⟨i 0, i 1, funext fun b => by match b with | 0 => rfl | 1 => rfl⟩
  rw [gatedAt_apply]
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3]
  by_cases h : r.val < 256
  · rw [dif_pos h]
    exact congrArg (_ + ·) (congrArg (· * _) (if_pos h).symm)
  · rw [dif_neg h]
    have e : (⟨256 + (r.val - 256), by omega⟩ : Fin 8448) = r := Fin.ext (by show 256 + (r.val - 256) = r.val; omega)
    simp only [e]
    exact congrArg (_ + ·) (congrArg (· * _) (if_neg h).symm)

end Cert.FfnDownRefIdeal.Hand

namespace Cert.Prod.FfnDown

open Idealize.ShloMosaic Idealize.SL.Sem

theorem frame_ideal : Cert.quiescent_FfnDownIdeal := fun m g _ => Cert.FfnDownIdeal.Gen.frame (F := Ideal) m g

theorem frame_kernel : Cert.quiescent_FfnDown := fun m g _ => Cert.FfnDown.Gen.frame (F := Bits) m g

theorem frame_reference : Cert.quiescent_FfnDownRefIdeal := fun m g _ =>
  (θ_run (Cert.FfnDownRefIdeal.defs (F := Ideal)) _ _).mono (fun r h => ⟨fun c => (h c).2.2, sem_eq_zero_of_no_sems rfl r.2⟩) (Cert.FfnDownRefIdeal.Value.run (F := Ideal) m g)

/-- From equal arguments the two programs end with equal results. -/
theorem same : Cert.algebraic_FfnDownIdeal_FfnDownRefIdeal := fun m g m' g' _ hagree => by
  refine ⟨fun c => spec (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1)), fun c => gatedAt (m ((c.tc : Thread Cert.FfnDownIdeal.nD Cert.FfnDownIdeal.τ).loc Cert.FfnDownIdeal.main_arg2)) (m ((c.tc : Thread Cert.FfnDownIdeal.nD Cert.FfnDownIdeal.τ).loc Cert.FfnDownIdeal.main_arg3)) (spec (m ((c.tc : Thread Cert.FfnDownIdeal.nD Cert.FfnDownIdeal.τ).loc Cert.FfnDownIdeal.main_arg0)) (m ((c.tc : Thread Cert.FfnDownIdeal.nD Cert.FfnDownIdeal.τ).loc Cert.FfnDownIdeal.main_arg1))), ?_, ?_⟩
  · refine (θ_run (Cert.FfnDownIdeal.defs (F := Ideal)) _ _).mono (fun r h c => ?_)
      (θ_run_and (Cert.FfnDownIdeal.Gen.run_main (F := Ideal) m g) (Cert.FfnDownIdeal.Gen.frame (F := Ideal) m g))
    exact ⟨(h.1.out_eq c 4).trans (Cert.FfnDownIdeal.Hand.final_4 m c), (h.1.out_eq c 5).trans (Cert.FfnDownIdeal.Hand.final_5 m c), h.2.1 c⟩
  · refine (θ_run (Cert.FfnDownRefIdeal.defs (F := Ideal)) _ _).mono (fun r h c => ?_) (Cert.FfnDownRefIdeal.Value.run (F := Ideal) m' g')
    obtain ⟨h0, h1, ha⟩ := h c
    obtain ⟨a0, a1, a2, a3⟩ := hagree c
    rw [Cert.FfnDownRefIdeal.Read.val_main_v2_eq, a0, a1] at h0
    rw [Cert.FfnDownRefIdeal.Read.val_main_v19_eq, a0, a1, a2, a3] at h1
    exact ⟨h0.trans (Cert.FfnDownRefIdeal.Hand.product _ _), h1.trans (Cert.FfnDownRefIdeal.Hand.stream _ _ _ _), ha⟩

end Cert.Prod.FfnDown

end
-- ==== Proof.Stream.Base.lean ====
/-
  Sums over the rows of a stream. The first 256 rows are one stream, the others the second; a call adds up the rows of a
  stream block by block, each block of 256 rows.
-/
module

public import proofs.«01_k».proof.Proof.Prod.Base

@[expose] public section

noncomputable section

namespace Cert.Stream

/-- The stream of the row `r`. -/
def st (r : ℕ) : ℕ := if r < 256 then 0 else 1

/-- The sum of `f` over the rows of the stream `s`. -/
def total (f : ℕ → EReal) (s : ℕ) : EReal :=
  if s = 0 then ∑ k ∈ Finset.range 256, f k else ∑ k ∈ Finset.range 8192, f (256 + k)

/-- The sum of `f` over the rows of the stream of block `n` up to that block. -/
def upTo (f : ℕ → EReal) (n : ℕ) : EReal :=
  if n = 0 then ∑ k ∈ Finset.range 256, f k else ∑ k ∈ Finset.range (n * 256), f (256 + k)

theorem upTo_first (f : ℕ → EReal) {n : ℕ} (h : n < 2) : ∑ k : Fin 256, f (n * 256 + k.val) = upTo f n := by
  match n, h with
  | 0, _ => unfold upTo; rw [if_pos rfl, Finset.sum_range]; simp only [Nat.zero_mul, Nat.zero_add]
  | 1, _ => unfold upTo; rw [if_neg (by decide), Finset.sum_range]

theorem upTo_later (f : ℕ → EReal) {n : ℕ} (h : ¬ n < 2) : upTo f (n - 1) + ∑ k : Fin 256, f (n * 256 + k.val) = upTo f n := by
  obtain ⟨p, rfl⟩ : ∃ p, n = p + 2 := ⟨n - 2, by omega⟩
  unfold upTo
  rw [if_neg (by omega), if_neg (by omega), show p + 2 - 1 = p + 1 by omega, show (p + 2) * 256 = (p + 1) * 256 + 256 by omega,
    Finset.sum_range_add, Finset.sum_range fun x => f (256 + ((p + 1) * 256 + x))]
  refine congrArg (_ + ·) (Finset.sum_congr rfl fun k _ => congrArg f ?_)
  omega

theorem upTo_zero (f : ℕ → EReal) : upTo f 0 = total f 0 := by
  unfold upTo total; rw [if_pos rfl, if_pos rfl]
theorem upTo_last (f : ℕ → EReal) : upTo f 32 = total f 1 := by
  unfold upTo total; rw [if_neg (by decide), if_neg (by decide)]

theorem st_blk (n : ℕ) (k : Fin 256) : st (n * 256 + k.val) = if n = 0 then 0 else 1 := by
  have := k.isLt
  unfold st
  rcases Nat.eq_zero_or_pos n with h | h
  · rw [if_pos h, if_pos (by omega)]
  · rw [if_neg (by omega), if_neg (by omega)]

theorem total_congr {f g : ℕ → EReal} (s : ℕ) (h : ∀ k, f k = g k) : total f s = total g s := by rw [show f = g from funext h]

end Cert.Stream

end
-- ==== Proof.Stream.GateFfnFrame.lean ====
/-
  The gradient of the gate: the run of the call. What the body leaves of the blocks it is handed, in its two cases, at the first block of
  a stream (the sums are overwritten) and at a later one (they are added to).
-/
module

public import proofs.«01_k».proof.Proof.Put
public import proofs.«01_k».proof.Proof.Gen.GateFfnIdeal.Frame
public import proofs.«01_k».proof.Proof.Gen.GateFfnIdeal.Skeleton
public import Idealize.ShloMosaic.Lib.Claim
public import Idealize.ShloMosaic.Lib.Tactic

@[expose] public section

set_option maxRecDepth 16384

noncomputable section

namespace Cert.GateFfnIdeal.Hand

open Cert.GateFfnIdeal Cert.GateFfnIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### What the body computes -/

abbrev rX : Rect S256x2048 := Rect.unit (s := S256x2048) ![0, 0] S256x2048.size inb_S256x2048_S256x2048_0_0
abbrev rS : Rect S1x8x2048 := Rect.unit (s := S1x8x2048) ![0, 0, 0] S1x8x2048.size inb_S1x8x2048_S1x8x2048_0_0_0
abbrev rM : Rect S1x6x2048 := Rect.unit (s := S1x6x2048) ![0, 5, 0] S1x1x2048.size inb_S1x6x2048_S1x1x2048_0_5_0

/-- The rows that the body leaves, the sums of a first block, and those of a later one. -/
def rowv (x0 : Vec F S256x2048 .f32) (x1 : Vec F S256x2048 .f32) (x2 : Vec F S1x6x2048 .f32) : Vec F S256x2048 .bf16 := k0_pay1 (View.ld x0 rX) (View.ld x2 rM)
def acc1 (x0 : Vec F S256x2048 .f32) (x1 : Vec F S256x2048 .f32) (x2 : Vec F S1x6x2048 .f32) : Vec F S1x8x2048 .f32 := k0_pay3 (View.ld x0 rX) (View.ld x1 rX)
def acc2 (x0 : Vec F S256x2048 .f32) (x1 : Vec F S256x2048 .f32) (x2 : Vec F S1x6x2048 .f32) (y : Vec F S1x8x2048 .f32) : Vec F S1x8x2048 .f32 := k0_pay4 (View.ld x0 rX) (View.ld x1 rX) (View.ld y rS)

set_option maxHeartbeats 4000000 in
/-- A later block of a stream. -/
theorem runB (c : Dev nD) (i : grid0.Coords)
    (arg1 : Memref sig .tc .vmem S256x2048 .f32) (harg1 : arg1.IsWhole)
    (arg2 : Memref sig .tc .vmem S256x2048 .f32) (harg2 : arg2.IsWhole)
    (arg3 : Memref sig .tc .vmem S1x6x2048 .f32) (harg3 : arg3.IsWhole)
    (arg4 : Memref sig .tc .vmem S256x2048 .bf16) (harg4 : arg4.IsWhole)
    (arg5 : Memref sig .tc .vmem S1x8x2048 .f32) (harg5 : arg5.IsWhole)
    (hc1 : ¬ k0_cond1 i = 1#1) (hc2 : k0_cond2 i = 1#1)
    (x0 : Vec F S256x2048 .f32) (x1 : Vec F S256x2048 .f32) (x2 : Vec F S1x6x2048 .f32) (y : Vec F S1x8x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare y
      ∗ (iprop(owns (c : Thread nD τ) arg1 fullShare x0 ∗ owns (c : Thread nD τ) arg2 fullShare x1 ∗ owns (c : Thread nD τ) arg3 fullShare x2 ∗ owns (c : Thread nD τ) arg4 fullShare (rowv x0 x1 x2)
      ∗ owns (c : Thread nD τ) arg5 fullShare (acc2 x0 x1 x2 y)) -∗ K ⟨⟩))
    ⊢ wp frame (wpE (defs₀ (F := F)) Variants.none c none) E
        (cc0_gate_bwd i arg1 harg1 arg2 harg2 arg3 harg3 arg4 harg4 arg5 harg5) K := by
  simp only [cc0_gate_bwd_eq_skeleton]; unfold cc0_gate_bwd_skel
  unfold owns
  iintro ⟨⟨%f0, %hf0, H0⟩, ⟨%f1, %hf1, H1⟩, ⟨%f2, %hf2, H2⟩, ⟨%d3, %f3, -, H3⟩, ⟨%f4, %hf4, H4⟩, Hk⟩
  sl_exec (disch := first | sl_exact hc1 | sl_exact hc2)
  sl_step
  iapply Hk
  subst hf0 hf1 hf2 hf4
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]
  · iexists _; isplitr; swap; · iexact H3
    ipureintro
    rw [read_writes_put, put_whole _ (by decide)]
    rfl
  · iexists _; isplitr; swap; · iexact H4
    ipureintro
    rw [read_writes_put, put_whole _ (by decide)]
    rfl

set_option maxHeartbeats 4000000 in
/-- The first block of a stream. -/
theorem runA (c : Dev nD) (i : grid0.Coords)
    (arg1 : Memref sig .tc .vmem S256x2048 .f32) (harg1 : arg1.IsWhole)
    (arg2 : Memref sig .tc .vmem S256x2048 .f32) (harg2 : arg2.IsWhole)
    (arg3 : Memref sig .tc .vmem S1x6x2048 .f32) (harg3 : arg3.IsWhole)
    (arg4 : Memref sig .tc .vmem S256x2048 .bf16) (harg4 : arg4.IsWhole)
    (arg5 : Memref sig .tc .vmem S1x8x2048 .f32) (harg5 : arg5.IsWhole)
    (hc1 : k0_cond1 i = 1#1) (hc2 : ¬ k0_cond2 i = 1#1)
    (x0 : Vec F S256x2048 .f32) (x1 : Vec F S256x2048 .f32) (x2 : Vec F S1x6x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
      ∗ (iprop(owns (c : Thread nD τ) arg1 fullShare x0 ∗ owns (c : Thread nD τ) arg2 fullShare x1 ∗ owns (c : Thread nD τ) arg3 fullShare x2 ∗ owns (c : Thread nD τ) arg4 fullShare (rowv x0 x1 x2)
      ∗ owns (c : Thread nD τ) arg5 fullShare (acc1 x0 x1 x2)) -∗ K ⟨⟩))
    ⊢ wp frame (wpE (defs₀ (F := F)) Variants.none c none) E
        (cc0_gate_bwd i arg1 harg1 arg2 harg2 arg3 harg3 arg4 harg4 arg5 harg5) K := by
  simp only [cc0_gate_bwd_eq_skeleton]; unfold cc0_gate_bwd_skel
  unfold owns
  iintro ⟨⟨%f0, %hf0, H0⟩, ⟨%f1, %hf1, H1⟩, ⟨%f2, %hf2, H2⟩, ⟨%d3, %f3, -, H3⟩, ⟨%d4, %f4, -, H4⟩, Hk⟩
  sl_exec (disch := first | sl_exact hc1 | sl_exact hc2)
  sl_step
  iapply Hk
  subst hf0 hf1 hf2
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]
  · iexists _; isplitr; swap; · iexact H3
    ipureintro
    rw [read_writes_put, put_whole _ (by decide)]
    rfl
  · iexists _; isplitr; swap; · iexact H4
    ipureintro
    rw [read_writes_put, put_whole _ (by decide)]
    rfl

variable (m : (ℓ : Loc nD τ sig) → Buf (Elt F) ℓ) (ρ : Dev nD → PrngReg)

/-! ### Which case a point is in -/

theorem cond1_iff : ∀ t : Fin cfg0.N, k0_cond1 (grid0.coords t) = 1#1 ↔ t.val < 2 :=
  (by decide +kernel : ∀ t : Fin grid0.N, k0_cond1 (grid0.coords t) = 1#1 ↔ t.val < 2)
theorem cond2_iff : ∀ t : Fin cfg0.N, k0_cond2 (grid0.coords t) = 1#1 ↔ ¬ t.val < 2 :=
  (by decide +kernel : ∀ t : Fin grid0.N, k0_cond2 (grid0.coords t) = 1#1 ↔ ¬ t.val < 2)
theorem live (i : grid0.Coords) : cfg0.idle 4 i = false := by
  have h : ∀ q : Fin 33, (!(Scalar.cmpi .ne (Scalar.extui (Scalar.ori (Scalar.cmpi .eq (BitVec.ofNat 32 q.val) 0#32) (Scalar.cmpi .eq (BitVec.ofNat 32 q.val) 1#32))) 0#32 == 1#1)
      && !(Scalar.cmpi .ne (Scalar.extui (Scalar.andi (Scalar.cmpi .ne (BitVec.ofNat 32 q.val) 0#32) (Scalar.cmpi .ne (BitVec.ofNat 32 q.val) 1#32))) 0#32 == 1#1)) = false := by
    decide +kernel
  exact h (i 0)
theorem flush_sum : ∀ t : Fin cfg0.N, (cfg0.win 4).flush t = true ↔ t.val = 0 ∨ t.val = 32 :=
  (by decide +kernel : ∀ t : Fin grid0.N, (cfg0.win 4).flush t = true ↔ t.val = 0 ∨ t.val = 32)

/-! ### The sums -/

abbrev b0 (c : Dev nD) (t : Fin cfg0.N) : Vec F S256x2048 .f32 := iblk m c 0 t
abbrev b1 (c : Dev nD) (t : Fin cfg0.N) : Vec F S256x2048 .f32 := iblk m c 1 t
abbrev b2 (c : Dev nD) (t : Fin cfg0.N) : Vec F S1x6x2048 .f32 := iblk m c 2 t

/-- The sums after point `n`. -/
def accAt (c : Dev nD) : (n : ℕ) → n < cfg0.N → Vec F S1x8x2048 .f32
  | 0, h => acc1 (b0 m c ⟨0, h⟩) (b1 m c ⟨0, h⟩) (b2 m c ⟨0, h⟩)
  | n + 1, h => if n + 1 < 2 then acc1 (b0 m c ⟨n + 1, h⟩) (b1 m c ⟨n + 1, h⟩) (b2 m c ⟨n + 1, h⟩)
      else acc2 (b0 m c ⟨n + 1, h⟩) (b1 m c ⟨n + 1, h⟩) (b2 m c ⟨n + 1, h⟩) (accAt c n (Nat.lt_of_succ_lt h))

theorem accAt_first (c : Dev nD) (t : Fin cfg0.N) (h : t.val < 2) : accAt m c t.val t.isLt = acc1 (b0 m c t) (b1 m c t) (b2 m c t) := by
  obtain ⟨n, hn⟩ := t
  cases n with
  | zero => rfl
  | succ n => unfold accAt; rw [if_pos h]

theorem accAt_later (c : Dev nD) (t : Fin cfg0.N) (h : ¬ t.val < 2) :
    accAt m c t.val t.isLt = acc2 (b0 m c t) (b1 m c t) (b2 m c t) (accAt m c (t.val - 1) (Nat.lt_of_le_of_lt (Nat.sub_le _ _) t.isLt)) := by
  obtain ⟨n, hn⟩ := t
  cases n with
  | zero => exact absurd (show 0 < 2 by decide) h
  | succ n => conv_lhs => unfold accAt
              rw [if_neg h]; rfl

/-! ### The proof data -/

/-- What each window's buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rowv (b0 m c t) (b1 m c t) (b2 m c t)
    | ⟨4, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = rowv (b0 m c t) (b1 m c t) (b2 m c t) := by dsimp only [dats]
theorem after_4 (c : Dev nD) (t : Fin cfg0.N) : (dats m 0 c).after 4 t = accAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

theorem before_4 (c : Dev nD) (t : Fin cfg0.N) (h : ¬ t.val < 2) (d) :
    (dats m 0 c).before 4 t d = accAt m c (t.val - 1) (Nat.lt_of_le_of_lt (Nat.sub_le _ _) t.isLt) := by
  have hN : t.val < 33 := t.isLt.trans_eq N_0
  rw [(dats m 0 c).before_out_kept 4 rfl t (fun e => h (by rw [e]; decide)) (by
    refine Bool.eq_false_iff.mpr fun e => ?_
    have := (flush_sum _).mp e
    dsimp only at this; omega) live (fun _ _ => rfl), after_4]

/-! ### The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t)

theorem leaves_of (c : Dev nD) (w : Fin cfg0.W) (t : Fin cfg0.N) (hl : cfg0.idle w (grid0.coords t) = false) :
    (dats (F := F) m 0 c).leavesExact w t = owns (c : Thread nD τ) ((cfg0.win w).stage (cfg0.slots t w)) fullShare ((dats m 0 c).after w t) := by
  unfold Dat.leavesExact; rw [hl]

set_option maxHeartbeats 3200000 in
/-- The body at any point: the inputs' buffers hold their blocks, the sums what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = (dats m 0 c).Φ t.castSucc from rfl]
  rw [leaves_of m c 0 t rfl, leaves_of m c 1 t rfl, leaves_of m c 2 t rfl, leaves_of m c 3 t rfl, leaves_of m c 4 t (live _)]
  rw [after_0, after_1, after_2, after_3, after_4]
  by_cases h : t.val < 2
  · rw [accAt_first m c t h]
    iintro ⟨HΦ, Ho, ⟨%d0, H0⟩, ⟨%d1, H1⟩, ⟨%d2, H2⟩, ⟨%d3, H3⟩, ⟨%d4, H4⟩⟩
    iapply (runA c (grid0.coords t) _ _ _ _ _ _ _ _ _ _ ((cond1_iff t).mpr h) (fun e => (cond2_iff t).mp e h)
      (b0 m c t) (b1 m c t) (b2 m c t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [accAt_later m c t h]
    simp only [before_4 m c t h]
    iintro ⟨HΦ, Ho, ⟨%d0, H0⟩, ⟨%d1, H1⟩, ⟨%d2, H2⟩, ⟨%d3, H3⟩, ⟨%d4, H4⟩⟩
    iapply (runB c (grid0.coords t) _ _ _ _ _ _ _ _ _ _ (fun e => h ((cond1_iff t).mp e)) ((cond2_iff t).mpr h)
      (b0 m c t) (b1 m c t) (b2 m c t) _ Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

set_option backward.isDefEq.respectTransparency.types false in
/-- The whole call's run: every array of the pipeline at what the proof data says, every other buffer as it was,
    every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they began and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.GateFfnIdeal.Hand

end
-- ==== Proof.Stream.GateFfn.lean ====
/-
  The gradient of the gate of the feed-forward layer: the arrays the call leaves, of the arrays it is handed.
-/
module

public import proofs.«01_k».proof.Proof.Stream.Base
public import proofs.«01_k».proof.Proof.Stream.GateFfnFrame
public import Idealize.ShloMosaic.Lib.Pipeline.ValueKit.Point

@[expose] public section

set_option maxRecDepth 16384

noncomputable section

namespace Cert.Stream.GateFfn

open Idealize.ShloMosaic Idealize.ShloMosaic.Tactic Cert.Prod

variable (x0 x1 : (⟨2, ![8448, 2048]⟩ : Shape).Idx → EReal) (x2 : (⟨3, ![2, 6, 2048]⟩ : Shape).Idx → EReal)

/-- The gradient of the row `r` of what is gated: the stream's, times the gate of the row's stream. -/
def dm (r j : ℕ) : EReal := at2 x0 r j * at3 x2 (st r) 5 j

/-- What the row `k` adds to the row `a` of the sums: to the first the gate's gradient, to the others nothing. -/
def term (a j k : ℕ) : EReal := if a = 0 then at2 x0 k j * at2 x1 k j else 0

def specM : (⟨2, ![8448, 2048]⟩ : Shape).Idx → EReal := fun i => dm x0 x2 (i 0).val (i 1).val
def specS : (⟨3, ![2, 8, 2048]⟩ : Shape).Idx → EReal := fun i => total (term x0 x1 (i 1).val (i 2).val) (i 0).val

end Cert.Stream.GateFfn

namespace Cert.GateFfnIdeal.Hand

open Cert.GateFfnIdeal Cert.GateFfnIdeal.Gen Cert.Prod Cert.Stream Cert.Stream.GateFfn
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![if t.val = 0 then 0 else 1, 0, 0] := (by decide +kernel : ∀ t : Fin grid0.N, _)
theorem ix_3 : ∀ t : Fin cfg0.N, win0_3.index t = ![t.val, 0] := (by decide +kernel : ∀ t : Fin grid0.N, _)
theorem ix_4 : ∀ t : Fin cfg0.N, win0_4.index t = ![if t.val = 0 then 0 else 1, 0, 0] := (by decide +kernel : ∀ t : Fin grid0.N, _)

theorem N_le (t : Fin cfg0.N) : t.val < 33 := t.isLt.trans_eq N_0

def m0 (r j : ℕ) : EReal := at2 (m ((c : Thread nD τ).loc main_arg0)) r j
def m1 (r j : ℕ) : EReal := at2 (m ((c : Thread nD τ).loc main_arg1)) r j
def m2 (s a j : ℕ) : EReal := at3 (m ((c : Thread nD τ).loc main_arg2)) s a j

theorem blk_0 (t : Fin cfg0.N) (k : Fin 256) (j : Fin 2048) : b0 m c t (ix2 k j) = m0 m c (t.val * 256 + k.val) j.val := by
  have h := N_le t
  unfold m0
  rw [at2_lt _ (by omega) (by omega)]
  blk_ext! [b0, iblk, V, ix_0 t]

theorem blk_1 (t : Fin cfg0.N) (k : Fin 256) (j : Fin 2048) : b1 m c t (ix2 k j) = m1 m c (t.val * 256 + k.val) j.val := by
  have h := N_le t
  unfold m1
  rw [at2_lt _ (by omega) (by omega)]
  blk_ext! [b1, iblk, V, ix_1 t]

theorem blk_2 (t : Fin cfg0.N) (a : Fin 6) (j : Fin 2048) :
    b2 m c t (ix3 0 a j) = m2 m c (if t.val = 0 then 0 else 1) a.val j.val := by
  have h := N_le t
  have hs : (if t.val = 0 then 0 else 1) < 2 := by split <;> omega
  unfold m2
  rw [at3_lt _ hs (by omega) (by omega)]
  blk_ext! [b2, iblk, V, ix_2 t]

theorem ld_2 (t : Fin cfg0.N) (j : Fin 2048) : View.ld (b2 m c t) rM (ix3 0 0 j) = b2 m c t (ix3 0 5 j) :=
  View.ld_unit_apply_of _ _ _ _ _ (ix3 0 5 j) (fun a => by
    match a with
    | 0 => rfl
    | 1 => rfl
    | 2 => exact (Nat.zero_add _).symm)

theorem pay1_apply (v0 : Vec Ideal S256x2048 .f32) (v1 : Vec Ideal S1x1x2048 .f32) (k : Fin 256) (j : Fin 2048) :
    k0_pay1 (F := Ideal) v0 v1 (ix2 k j) = v0 (ix2 k j) * v1 (ix3 0 0 j) := by
  pointwise [k0_pay1]

theorem rowv_apply (t : Fin cfg0.N) (k : Fin 256) (j : Fin 2048) :
    rowv (b0 m c t) (b1 m c t) (b2 m c t) (ix2 k j) = dm (m ((c : Thread nD τ).loc main_arg0)) (m ((c : Thread nD τ).loc main_arg2)) (t.val * 256 + k.val) j.val := by
  unfold rowv
  rw [pay1_apply, View.ld_unit_zero (S := S256x2048) z2, ld_2, blk_0, blk_2]
  unfold dm
  rw [st_blk]
  rfl

theorem pay2_apply (v0 v7 : Vec Ideal S256x2048 .f32) (a : Fin 8) (j : Fin 2048) :
    k0_pay2 (F := Ideal) v0 v7 (ix2 a j) = ∑ k : Fin 256, if a.val = 0 then v0 (ix2 k j) * v7 (ix2 k j) else 0 := by
  by_cases h : a.val = 0
  · simp only [if_pos h]
    pointwise [k0_pay2]
    split
    · rfl
    · omega
  · simp only [if_neg h, Finset.sum_const_zero]
    pointwise [k0_pay2]
    split
    · omega
    · rfl

def T (a j k : ℕ) : EReal := term (m ((c : Thread nD τ).loc main_arg0)) (m ((c : Thread nD τ).loc main_arg1)) a j k

theorem part_apply (t : Fin cfg0.N) (a : Fin 8) (j : Fin 2048) :
    k0_pay2 (F := Ideal) (b0 m c t) (b1 m c t) (ix2 a j) = ∑ k : Fin 256, T m c a.val j.val (t.val * 256 + k.val) := by
  rw [pay2_apply]
  simp only [blk_0, blk_1]
  rfl

theorem acc1_apply (t : Fin cfg0.N) (a : Fin 8) (j : Fin 2048) : acc1 (b0 m c t) (b1 m c t) (b2 m c t) (ix3 0 a j)
    = ∑ k : Fin 256, T m c a.val j.val (t.val * 256 + k.val) := by
  unfold acc1
  rw [View.ld_unit_zero (S := S256x2048) z2, View.ld_unit_zero (S := S256x2048) z2]
  refine Eq.trans ?_ (part_apply m c t a j)
  pointwise [k0_pay3]

theorem acc2_apply (t : Fin cfg0.N) (y : Vec Ideal S1x8x2048 .f32) (a : Fin 8) (j : Fin 2048) : acc2 (b0 m c t) (b1 m c t) (b2 m c t) y (ix3 0 a j)
    = y (ix3 0 a j) + ∑ k : Fin 256, T m c a.val j.val (t.val * 256 + k.val) := by
  unfold acc2
  rw [View.ld_unit_zero (S := S256x2048) z2, View.ld_unit_zero (S := S256x2048) z2, View.ld_unit_zero (S := S1x8x2048) z3]
  rw [← part_apply m c t a j]
  pointwise [k0_pay4]

theorem acc_apply (n : ℕ) : ∀ (hn : n < cfg0.N) (a : Fin 8) (j : Fin 2048), accAt m c n hn (ix3 0 a j) = upTo (T m c a.val j.val) n := by
  induction n using Nat.strong_induction_on with
  | _ n ih =>
    intro hn a j
    by_cases h : n < 2
    · refine (congrFun (accAt_first m c ⟨n, hn⟩ h) (ix3 0 a j)).trans ((acc1_apply m c _ a j).trans ?_)
      exact upTo_first _ h
    · refine (congrFun (accAt_later m c ⟨n, hn⟩ h) (ix3 0 a j)).trans ((acc2_apply m c _ _ a j).trans ?_)
      rw [ih (n - 1) (by omega)]
      exact upTo_later _ h

theorem final_M : (dats (F := Ideal) m 0 c).arrAt 3 cfg0.N = specM (m ((c : Thread nD τ).loc main_arg0)) (m ((c : Thread nD τ).loc main_arg2)) := by
  refine (dats m 0 c).arrAt_eq_of_covers 3 _ (by decide +kernel) fun t hf y => ?_
  have h := N_le t
  blk_simp
  rw [after_3]
  obtain ⟨r, s, rfl⟩ : ∃ (r : Fin 256) (s : Fin 2048), y = ix2 r s := ⟨y 0, y 1, funext fun a => by match a with | 0 => rfl | 1 => rfl⟩
  refine (rowv_apply m c t r s).trans ?_
  unfold specM
  blk_simp [ix_3 t]

theorem final_S : (dats (F := Ideal) m 0 c).arrAt 4 cfg0.N = specS (m ((c : Thread nD τ).loc main_arg0)) (m ((c : Thread nD τ).loc main_arg1)) := by
  refine (dats m 0 c).arrAt_eq_of_covers 4 _ (by decide +kernel) fun t hf y => ?_
  have h := N_le t
  have h2 := (flush_sum t).mp hf
  blk_simp
  rw [after_4]
  obtain ⟨r, s, rfl⟩ : ∃ (r : Fin 8) (s : Fin 2048), y = ix3 0 r s := ⟨y 1, y 2, funext fun a => by
    match a with
    | 0 => exact Fin.ext (by have h0 : (y 0).val < 1 := (y 0).isLt; show (y 0).val = 0; omega)
    | 1 => rfl
    | 2 => rfl⟩
  refine (acc_apply m c t.val t.isLt r s).trans ?_
  unfold specS
  blk_simp [ix_4 t]
  rcases h2 with e | e
  · rw [e]; exact upTo_zero _
  · rw [e]; exact upTo_last _

end Cert.GateFfnIdeal.Hand

end
-- ==== Proof.Stream.GateFfnClaim.lean ====
/-
  The gradient of the gate of the feed-forward layer: kernel and reference end with the same arrays.
-/
module

public import proofs.«01_k».proof.Defs
public import proofs.«01_k».proof.Proof.Stream.GateFfn
public import proofs.«01_k».proof.Proof.Gen.GateFfn
public import proofs.«01_k».proof.Proof.Gen.GateFfnRefIdeal.Run
public import proofs.«01_k».proof.Proof.Gen.GateFfnRefIdeal.Read
public import Idealize.ShloMosaic.Lib.Quiescent
public import Idealize.ShloMosaic.Lib.Claim
public import Idealize.ShloMosaic.Lib.KernelVsHost

@[expose] public section

set_option maxRecDepth 16384

noncomputable section

namespace Cert.GateFfnRefIdeal.Hand

open Cert.GateFfnRefIdeal Cert.GateFfnRefIdeal.Gen Cert.GateFfnRefIdeal.Read Cert.Prod Cert.Stream Cert.Stream.GateFfn
open Idealize.ShloMosaic Idealize.ShloMosaic.TcCoe Idealize.ShloMosaic.Tactic

variable (x0 x1 : (⟨2, ![8448, 2048]⟩ : Shape).Idx → EReal) (x2 : (⟨3, ![2, 6, 2048]⟩ : Shape).Idx → EReal)

theorem result_M : val_main_v36 (F := Ideal) x0 x2 = specM x0 x2 := by
  funext i
  have h0 : (i 0).val < 8448 := (i 0).isLt
  have h1 : (i 1).val < 2048 := (i 1).isLt
  refine (val_main_v36_apply (F := Ideal) x0 x2 i).trans ?_
  show val_main_v35 (F := Ideal) x0 x2 i = _
  unfold val_main_v35 specM dm st
  rw [at2_lt _ h0 h1, mul_comm]
  by_cases h : (i 0).val < 256
  · rw [if_pos h, at3_lt _ (by decide) (by decide) h1]
    refine (concatenate_pair_apply_left (t := S8448x2048) (s₁ := S256x2048) 0 _ _ _ i rfl (ix2 ⟨(i 0).val, h⟩ (i 1)) (fun b => by match b with | 0 => rfl | 1 => rfl)).trans ?_
    simp only [val_main_v14_apply, val_main_v13_apply, val_main_v10_apply, val_main_v9_apply, val_main_v8_apply, val_main_v5_apply, val_main_v4_apply, val_main_v0_apply]
    show x2 _ * x0 _ = _
    refine congrArg₂ (· * ·) (congrArg x2 ?_) (congrArg x0 ?_)
    · exact funext fun a => Fin.ext (by
        match a with
        | 0 => first | rfl | (show _ = 0; (try dsimp only); omega)
        | 1 => first | rfl | (show _ = 5; dsimp only [ix2]; omega)
        | 2 => first | rfl | (show _ = (i 1).val; dsimp only [ix2]; omega))
    · exact funext fun a => Fin.ext (by
        match a with
        | 0 => rfl
        | 1 => rfl)
  · rw [if_neg h, at3_lt _ (by decide) (by decide) h1]
    refine (concatenate_pair_apply_right (t := S8448x2048) (s₁ := S256x2048) (s₂ := S8192x2048) 0 _ _ _ i rfl rfl (ix2 ⟨(i 0).val - 256, by omega⟩ (i 1))
      (fun b hb => by match b with | 0 => exact absurd rfl hb | 1 => rfl) (by show (i 0).val - 256 + 256 = (i 0).val; omega)).trans ?_
    simp only [val_main_v25_apply, val_main_v24_apply, val_main_v21_apply, val_main_v20_apply, val_main_v19_apply, val_main_v7_apply, val_main_v6_apply, val_main_v1_apply]
    show x2 _ * x0 _ = _
    refine congrArg₂ (· * ·) (congrArg x2 ?_) (congrArg x0 ?_)
    · exact funext fun a => Fin.ext (by
        match a with
        | 0 => first | rfl | (show _ = 1; (try dsimp only); omega)
        | 1 => first | rfl | (show _ = 5; dsimp only [ix2]; omega)
        | 2 => first | rfl | (show _ = (i 1).val; dsimp only [ix2]; omega))
    · exact funext fun a => Fin.ext (by
        match a with
        | 0 => (show _ = (i 0).val; dsimp only [ix2]; omega)
        | 1 => rfl)

theorem zero_word : (FloatOps.ofBits (F := Ideal) .f32 0x00000000#32 : EReal) = 0 := by simp

theorem gate_0 (j : Fin 2048) : val_main_v18 (F := Ideal) x0 x1 (ix1 j) = total (term x0 x1 0 j.val) 0 := by
  simp only [val_main_v18_apply, val_main_cst_0_apply, val_main_v17_apply, val_main_v16_apply, val_main_cst_apply, zero_word, zero_add,
    Fin.sum_univ_one, val_main_v15_apply, val_main_v0_apply, val_main_v2_apply]
  unfold total term
  rw [if_pos rfl, Finset.sum_range]
  refine Finset.sum_congr rfl fun k _ => ?_
  have hk : k.val < 256 := k.isLt
  have hj : j.val < 2048 := j.isLt
  rw [if_pos rfl, at2_lt _ (by omega) hj, at2_lt _ (by omega) hj]
  show x0 _ * x1 _ = _
  refine congrArg₂ (· * ·) (congrArg x0 ?_) (congrArg x1 ?_) <;>
  · exact funext fun a => Fin.ext (by
      match a with
      | 0 => rfl
      | 1 => first | rfl | (show _ = j.val; (try dsimp only [ix1]); first | rfl | omega | simp))

theorem gate_1 (j : Fin 2048) : val_main_v29 (F := Ideal) x0 x1 (ix1 j) = total (term x0 x1 0 j.val) 1 := by
  simp only [val_main_v29_apply, val_main_cst_2_apply, val_main_v28_apply, val_main_v27_apply, val_main_cst_1_apply, zero_word, zero_add,
    Fin.sum_univ_one, val_main_v26_apply, val_main_v1_apply, val_main_v3_apply]
  unfold total term
  rw [if_neg (by decide), Finset.sum_range]
  refine Finset.sum_congr rfl fun k _ => ?_
  have hk : k.val < 8192 := k.isLt
  have hj : j.val < 2048 := j.isLt
  rw [if_pos rfl, at2_lt _ (by omega) hj, at2_lt _ (by omega) hj]
  show x0 _ * x1 _ = _
  refine congrArg₂ (· * ·) (congrArg x0 ?_) (congrArg x1 ?_) <;>
  · exact funext fun a => Fin.ext (by
      match a with
      | 0 => rfl
      | 1 => first | rfl | (show _ = j.val; (try dsimp only [ix1]); first | rfl | omega | simp))

theorem pad_zero (i : S_.Idx) : val_main_call0_v0 (F := Ideal) i = (0 : EReal) := by
  rw [val_main_call0_v0_apply, val_main_c_apply]
  show (((0#32 : BitVec 32).toInt : ℝ) : EReal) = 0
  simp

theorem result_S : val_main_v34 (F := Ideal) x0 x1 = specS x0 x1 := by
  funext i
  have h0 : (i 0).val < 2 := (i 0).isLt
  have h1 : (i 1).val < 8 := (i 1).isLt
  have h2 : (i 2).val < 2048 := (i 2).isLt
  unfold val_main_v34 specS
  by_cases h : (i 1).val = 0
  · refine (pad_apply_of_inside (s := S2x1x2048) (t := S2x8x2048) ![0, 0, 0] ![0, 7, 0] ![0, 0, 0] _ _ _ _ i (ix3 (i 0) 0 (i 2)) (fun a => by
      match a with
      | 0 => show (i 0).val = 0 + (i 0).val * 1; omega
      | 1 => show (i 1).val = 0 + 0 * 1; omega
      | 2 => show (i 2).val = 0 + (i 2).val * 1; omega)).trans ?_
    rw [h, val_main_v33_apply]
    unfold val_main_v32
    by_cases hs : (i 0).val = 0
    · rw [hs]
      refine (concatenate_pair_apply_left (t := S2x2048) (s₁ := S1x2048) 0 _ _ _ _ rfl (ix2 0 (i 2)) (fun b => by match b with | 0 => exact hs.symm | 1 => rfl)).trans ?_
      rw [val_main_v30_apply]
      exact (congrArg (val_main_v18 (F := Ideal) x0 x1) (funext fun a => by match a with | 0 => rfl)).trans (gate_0 x0 x1 (i 2))
    · rw [show (i 0).val = 1 by omega]
      refine (concatenate_pair_apply_right (t := S2x2048) (s₁ := S1x2048) (s₂ := S1x2048) 0 _ _ _ _ rfl rfl (ix2 0 (i 2))
        (fun b hb => by match b with | 0 => exact absurd rfl hb | 1 => rfl) (by show 0 + 1 = (i 0).val; omega)).trans ?_
      rw [val_main_v31_apply]
      exact (congrArg (val_main_v29 (F := Ideal) x0 x1) (funext fun a => by match a with | 0 => rfl)).trans (gate_1 x0 x1 (i 2))
  · refine (pad_apply_of_not_inside (s := S2x1x2048) (t := S2x8x2048) ![0, 0, 0] ![0, 7, 0] ![0, 0, 0] _ _ _ _ i 1 (fun e => h (by
      have e2 : ((i 1).val - 0) / (0 + 1) < 1 := e.2.2
      omega))).trans ?_
    rw [pad_zero]
    unfold total term
    simp only [if_neg h, Finset.sum_const_zero, ite_self]

end Cert.GateFfnRefIdeal.Hand

namespace Cert.Stream.GateFfn

open Idealize.ShloMosaic Idealize.SL.Sem

section Twin

variable {F : FTy → Type} [FloatOps F]

theorem e_body : @Cert.GateFfn.cc0_gate_bwd F _ Cert.GateFfn.Gen.facts = @Cert.GateFfnIdeal.cc0_gate_bwd F _ Cert.GateFfnIdeal.Gen.facts := rfl

theorem e_defs₀ : @Cert.GateFfn.defs₀ F _ Cert.GateFfn.Gen.facts = @Cert.GateFfnIdeal.defs₀ F _ Cert.GateFfnIdeal.Gen.facts := by
  unfold Cert.GateFfn.defs₀ Cert.GateFfnIdeal.defs₀
  refine congrArg (Defs.onTc (nD := Cert.GateFfnIdeal.nD) (τ := Cert.GateFfnIdeal.τ) (sig := Cert.GateFfnIdeal.sig) (Val := Elt F) (Λ := Cert.GateFfnIdeal.Λ₀)) ?_
  funext l a
  match l, a with
  | 0, (t, s) => rfl
  | ⟨n + 1, h⟩, _ => exact absurd h (Nat.not_lt.2 (Nat.le_add_left _ _))

theorem e_defs : @Cert.GateFfn.defs F _ Cert.GateFfn.Gen.facts = @Cert.GateFfnIdeal.defs F _ Cert.GateFfnIdeal.Gen.facts := by
  unfold Cert.GateFfn.defs Cert.GateFfnIdeal.defs
  exact congrArg (Pipeline.defs Cert.GateFfnIdeal.pcfgs) e_defs₀

theorem e_main : @Cert.GateFfn.main F _ = @Cert.GateFfnIdeal.main F _ := rfl

end Twin

/-- The kernel as printed runs, its arguments end as they began and every counter is at zero: it is the idealized
    program's text, of which the run is proved for every float instance. -/
theorem frame_kernel : Cert.quiescent_GateFfn := fun m g _ => by
  rw [e_defs, e_main]
  exact Cert.GateFfnIdeal.Hand.frame (F := Bits) m g

theorem frame_ideal : Cert.quiescent_GateFfnIdeal := fun m g _ => Cert.GateFfnIdeal.Hand.frame (F := Ideal) m g

theorem frame_reference : Cert.quiescent_GateFfnRefIdeal := fun m g _ =>
  (θ_run (Cert.GateFfnRefIdeal.defs (F := Ideal)) _ _).mono (fun r h => ⟨fun c => (h c).2.2, sem_eq_zero_of_no_sems rfl r.2⟩) (Cert.GateFfnRefIdeal.Value.run (F := Ideal) m g)

/-- From equal arguments the two programs end with equal results. -/
theorem same : Cert.algebraic_GateFfnIdeal_GateFfnRefIdeal := fun m g m' g' _ hagree => by
  refine ⟨fun c => specM (m ((c.tc : Thread Cert.GateFfnIdeal.nD Cert.GateFfnIdeal.τ).loc Cert.GateFfnIdeal.main_arg0)) (m ((c.tc : Thread Cert.GateFfnIdeal.nD Cert.GateFfnIdeal.τ).loc Cert.GateFfnIdeal.main_arg2)),
    fun c => specS (m ((c.tc : Thread Cert.GateFfnIdeal.nD Cert.GateFfnIdeal.τ).loc Cert.GateFfnIdeal.main_arg0)) (m ((c.tc : Thread Cert.GateFfnIdeal.nD Cert.GateFfnIdeal.τ).loc Cert.GateFfnIdeal.main_arg1)), ?_, ?_⟩
  · refine (θ_run (Cert.GateFfnIdeal.defs (F := Ideal)) _ _).mono (fun r h c => ?_)
      (θ_run_and (Cert.GateFfnIdeal.Hand.run_main (F := Ideal) m g) (Cert.GateFfnIdeal.Hand.frame (F := Ideal) m g))
    exact ⟨(h.1.1.out_eq c 3).trans (Cert.GateFfnIdeal.Hand.final_M m c), (h.1.1.out_eq c 4).trans (Cert.GateFfnIdeal.Hand.final_S m c), h.2.1 c⟩
  · refine (θ_run (Cert.GateFfnRefIdeal.defs (F := Ideal)) _ _).mono (fun r h c => ?_) (Cert.GateFfnRefIdeal.Value.run (F := Ideal) m' g')
    obtain ⟨h0, h1, ha⟩ := h c
    obtain ⟨a0, a1, a2⟩ := hagree c
    rw [Cert.GateFfnRefIdeal.Read.val_main_v36_eq, a0, a2] at h0
    rw [Cert.GateFfnRefIdeal.Read.val_main_v34_eq, a0, a1] at h1
    exact ⟨h0.trans (Cert.GateFfnRefIdeal.Hand.result_M _ _), h1.trans (Cert.GateFfnRefIdeal.Hand.result_S _ _), ha⟩

end Cert.Stream.GateFfn

end
-- ==== Proof.Stream.GateMixFrame.lean ====
/-
  The gradient of the gate: the run of the call. What the body leaves of the blocks it is handed, in its two cases, at the first block of
  a stream (the sums are overwritten) and at a later one (they are added to).
-/
module

public import proofs.«01_k».proof.Proof.Put
public import proofs.«01_k».proof.Proof.Gen.GateMixIdeal.Frame
public import proofs.«01_k».proof.Proof.Gen.GateMixIdeal.Skeleton
public import Idealize.ShloMosaic.Lib.Claim
public import Idealize.ShloMosaic.Lib.Tactic

@[expose] public section

set_option maxRecDepth 16384

noncomputable section

namespace Cert.GateMixIdeal.Hand

open Cert.GateMixIdeal Cert.GateMixIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### What the body computes -/

abbrev rX : Rect S256x2048 := Rect.unit (s := S256x2048) ![0, 0] S256x2048.size inb_S256x2048_S256x2048_0_0
abbrev rS : Rect S1x8x2048 := Rect.unit (s := S1x8x2048) ![0, 0, 0] S1x8x2048.size inb_S1x8x2048_S1x8x2048_0_0_0
abbrev rM : Rect S1x6x2048 := Rect.unit (s := S1x6x2048) ![0, 2, 0] S1x1x2048.size inb_S1x6x2048_S1x1x2048_0_2_0

/-- The rows that the body leaves, the sums of a first block, and those of a later one. -/
def rowv (x0 : Vec F S256x2048 .f32) (x1 : Vec F S256x2048 .f32) (x2 : Vec F S1x6x2048 .f32) : Vec F S256x2048 .bf16 := k0_pay1 (View.ld x0 rX) (View.ld x2 rM)
def acc1 (x0 : Vec F S256x2048 .f32) (x1 : Vec F S256x2048 .f32) (x2 : Vec F S1x6x2048 .f32) : Vec F S1x8x2048 .f32 := k0_pay3 (View.ld x0 rX) (View.ld x1 rX)
def acc2 (x0 : Vec F S256x2048 .f32) (x1 : Vec F S256x2048 .f32) (x2 : Vec F S1x6x2048 .f32) (y : Vec F S1x8x2048 .f32) : Vec F S1x8x2048 .f32 := k0_pay4 (View.ld x0 rX) (View.ld x1 rX) (View.ld y rS)

set_option maxHeartbeats 4000000 in
/-- A later block of a stream. -/
theorem runB (c : Dev nD) (i : grid0.Coords)
    (arg1 : Memref sig .tc .vmem S256x2048 .f32) (harg1 : arg1.IsWhole)
    (arg2 : Memref sig .tc .vmem S256x2048 .f32) (harg2 : arg2.IsWhole)
    (arg3 : Memref sig .tc .vmem S1x6x2048 .f32) (harg3 : arg3.IsWhole)
    (arg4 : Memref sig .tc .vmem S256x2048 .bf16) (harg4 : arg4.IsWhole)
    (arg5 : Memref sig .tc .vmem S1x8x2048 .f32) (harg5 : arg5.IsWhole)
    (hc1 : ¬ k0_cond1 i = 1#1) (hc2 : k0_cond2 i = 1#1)
    (x0 : Vec F S256x2048 .f32) (x1 : Vec F S256x2048 .f32) (x2 : Vec F S1x6x2048 .f32) (y : Vec F S1x8x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare y
      ∗ (iprop(owns (c : Thread nD τ) arg1 fullShare x0 ∗ owns (c : Thread nD τ) arg2 fullShare x1 ∗ owns (c : Thread nD τ) arg3 fullShare x2 ∗ owns (c : Thread nD τ) arg4 fullShare (rowv x0 x1 x2)
      ∗ owns (c : Thread nD τ) arg5 fullShare (acc2 x0 x1 x2 y)) -∗ K ⟨⟩))
    ⊢ wp frame (wpE (defs₀ (F := F)) Variants.none c none) E
        (cc0_gate_bwd i arg1 harg1 arg2 harg2 arg3 harg3 arg4 harg4 arg5 harg5) K := by
  simp only [cc0_gate_bwd_eq_skeleton]; unfold cc0_gate_bwd_skel
  unfold owns
  iintro ⟨⟨%f0, %hf0, H0⟩, ⟨%f1, %hf1, H1⟩, ⟨%f2, %hf2, H2⟩, ⟨%d3, %f3, -, H3⟩, ⟨%f4, %hf4, H4⟩, Hk⟩
  sl_exec (disch := first | sl_exact hc1 | sl_exact hc2)
  sl_step
  iapply Hk
  subst hf0 hf1 hf2 hf4
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]
  · iexists _; isplitr; swap; · iexact H3
    ipureintro
    rw [read_writes_put, put_whole _ (by decide)]
    rfl
  · iexists _; isplitr; swap; · iexact H4
    ipureintro
    rw [read_writes_put, put_whole _ (by decide)]
    rfl

set_option maxHeartbeats 4000000 in
/-- The first block of a stream. -/
theorem runA (c : Dev nD) (i : grid0.Coords)
    (arg1 : Memref sig .tc .vmem S256x2048 .f32) (harg1 : arg1.IsWhole)
    (arg2 : Memref sig .tc .vmem S256x2048 .f32) (harg2 : arg2.IsWhole)
    (arg3 : Memref sig .tc .vmem S1x6x2048 .f32) (harg3 : arg3.IsWhole)
    (arg4 : Memref sig .tc .vmem S256x2048 .bf16) (harg4 : arg4.IsWhole)
    (arg5 : Memref sig .tc .vmem S1x8x2048 .f32) (harg5 : arg5.IsWhole)
    (hc1 : k0_cond1 i = 1#1) (hc2 : ¬ k0_cond2 i = 1#1)
    (x0 : Vec F S256x2048 .f32) (x1 : Vec F S256x2048 .f32) (x2 : Vec F S1x6x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
      ∗ (iprop(owns (c : Thread nD τ) arg1 fullShare x0 ∗ owns (c : Thread nD τ) arg2 fullShare x1 ∗ owns (c : Thread nD τ) arg3 fullShare x2 ∗ owns (c : Thread nD τ) arg4 fullShare (rowv x0 x1 x2)
      ∗ owns (c : Thread nD τ) arg5 fullShare (acc1 x0 x1 x2)) -∗ K ⟨⟩))
    ⊢ wp frame (wpE (defs₀ (F := F)) Variants.none c none) E
        (cc0_gate_bwd i arg1 harg1 arg2 harg2 arg3 harg3 arg4 harg4 arg5 harg5) K := by
  simp only [cc0_gate_bwd_eq_skeleton]; unfold cc0_gate_bwd_skel
  unfold owns
  iintro ⟨⟨%f0, %hf0, H0⟩, ⟨%f1, %hf1, H1⟩, ⟨%f2, %hf2, H2⟩, ⟨%d3, %f3, -, H3⟩, ⟨%d4, %f4, -, H4⟩, Hk⟩
  sl_exec (disch := first | sl_exact hc1 | sl_exact hc2)
  sl_step
  iapply Hk
  subst hf0 hf1 hf2
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]
  · iexists _; isplitr; swap; · iexact H3
    ipureintro
    rw [read_writes_put, put_whole _ (by decide)]
    rfl
  · iexists _; isplitr; swap; · iexact H4
    ipureintro
    rw [read_writes_put, put_whole _ (by decide)]
    rfl

variable (m : (ℓ : Loc nD τ sig) → Buf (Elt F) ℓ) (ρ : Dev nD → PrngReg)

/-! ### Which case a point is in -/

theorem cond1_iff : ∀ t : Fin cfg0.N, k0_cond1 (grid0.coords t) = 1#1 ↔ t.val < 2 :=
  (by decide +kernel : ∀ t : Fin grid0.N, k0_cond1 (grid0.coords t) = 1#1 ↔ t.val < 2)
theorem cond2_iff : ∀ t : Fin cfg0.N, k0_cond2 (grid0.coords t) = 1#1 ↔ ¬ t.val < 2 :=
  (by decide +kernel : ∀ t : Fin grid0.N, k0_cond2 (grid0.coords t) = 1#1 ↔ ¬ t.val < 2)
theorem live (i : grid0.Coords) : cfg0.idle 4 i = false := by
  have h : ∀ q : Fin 33, (!(Scalar.cmpi .ne (Scalar.extui (Scalar.ori (Scalar.cmpi .eq (BitVec.ofNat 32 q.val) 0#32) (Scalar.cmpi .eq (BitVec.ofNat 32 q.val) 1#32))) 0#32 == 1#1)
      && !(Scalar.cmpi .ne (Scalar.extui (Scalar.andi (Scalar.cmpi .ne (BitVec.ofNat 32 q.val) 0#32) (Scalar.cmpi .ne (BitVec.ofNat 32 q.val) 1#32))) 0#32 == 1#1)) = false := by
    decide +kernel
  exact h (i 0)
theorem flush_sum : ∀ t : Fin cfg0.N, (cfg0.win 4).flush t = true ↔ t.val = 0 ∨ t.val = 32 :=
  (by decide +kernel : ∀ t : Fin grid0.N, (cfg0.win 4).flush t = true ↔ t.val = 0 ∨ t.val = 32)

/-! ### The sums -/

abbrev b0 (c : Dev nD) (t : Fin cfg0.N) : Vec F S256x2048 .f32 := iblk m c 0 t
abbrev b1 (c : Dev nD) (t : Fin cfg0.N) : Vec F S256x2048 .f32 := iblk m c 1 t
abbrev b2 (c : Dev nD) (t : Fin cfg0.N) : Vec F S1x6x2048 .f32 := iblk m c 2 t

/-- The sums after point `n`. -/
def accAt (c : Dev nD) : (n : ℕ) → n < cfg0.N → Vec F S1x8x2048 .f32
  | 0, h => acc1 (b0 m c ⟨0, h⟩) (b1 m c ⟨0, h⟩) (b2 m c ⟨0, h⟩)
  | n + 1, h => if n + 1 < 2 then acc1 (b0 m c ⟨n + 1, h⟩) (b1 m c ⟨n + 1, h⟩) (b2 m c ⟨n + 1, h⟩)
      else acc2 (b0 m c ⟨n + 1, h⟩) (b1 m c ⟨n + 1, h⟩) (b2 m c ⟨n + 1, h⟩) (accAt c n (Nat.lt_of_succ_lt h))

theorem accAt_first (c : Dev nD) (t : Fin cfg0.N) (h : t.val < 2) : accAt m c t.val t.isLt = acc1 (b0 m c t) (b1 m c t) (b2 m c t) := by
  obtain ⟨n, hn⟩ := t
  cases n with
  | zero => rfl
  | succ n => unfold accAt; rw [if_pos h]

theorem accAt_later (c : Dev nD) (t : Fin cfg0.N) (h : ¬ t.val < 2) :
    accAt m c t.val t.isLt = acc2 (b0 m c t) (b1 m c t) (b2 m c t) (accAt m c (t.val - 1) (Nat.lt_of_le_of_lt (Nat.sub_le _ _) t.isLt)) := by
  obtain ⟨n, hn⟩ := t
  cases n with
  | zero => exact absurd (show 0 < 2 by decide) h
  | succ n => conv_lhs => unfold accAt
              rw [if_neg h]; rfl

/-! ### The proof data -/

/-- What each window's buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rowv (b0 m c t) (b1 m c t) (b2 m c t)
    | ⟨4, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = rowv (b0 m c t) (b1 m c t) (b2 m c t) := by dsimp only [dats]
theorem after_4 (c : Dev nD) (t : Fin cfg0.N) : (dats m 0 c).after 4 t = accAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

theorem before_4 (c : Dev nD) (t : Fin cfg0.N) (h : ¬ t.val < 2) (d) :
    (dats m 0 c).before 4 t d = accAt m c (t.val - 1) (Nat.lt_of_le_of_lt (Nat.sub_le _ _) t.isLt) := by
  have hN : t.val < 33 := t.isLt.trans_eq N_0
  rw [(dats m 0 c).before_out_kept 4 rfl t (fun e => h (by rw [e]; decide)) (by
    refine Bool.eq_false_iff.mpr fun e => ?_
    have := (flush_sum _).mp e
    dsimp only at this; omega) live (fun _ _ => rfl), after_4]

/-! ### The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t)

theorem leaves_of (c : Dev nD) (w : Fin cfg0.W) (t : Fin cfg0.N) (hl : cfg0.idle w (grid0.coords t) = false) :
    (dats (F := F) m 0 c).leavesExact w t = owns (c : Thread nD τ) ((cfg0.win w).stage (cfg0.slots t w)) fullShare ((dats m 0 c).after w t) := by
  unfold Dat.leavesExact; rw [hl]

set_option maxHeartbeats 3200000 in
/-- The body at any point: the inputs' buffers hold their blocks, the sums what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = (dats m 0 c).Φ t.castSucc from rfl]
  rw [leaves_of m c 0 t rfl, leaves_of m c 1 t rfl, leaves_of m c 2 t rfl, leaves_of m c 3 t rfl, leaves_of m c 4 t (live _)]
  rw [after_0, after_1, after_2, after_3, after_4]
  by_cases h : t.val < 2
  · rw [accAt_first m c t h]
    iintro ⟨HΦ, Ho, ⟨%d0, H0⟩, ⟨%d1, H1⟩, ⟨%d2, H2⟩, ⟨%d3, H3⟩, ⟨%d4, H4⟩⟩
    iapply (runA c (grid0.coords t) _ _ _ _ _ _ _ _ _ _ ((cond1_iff t).mpr h) (fun e => (cond2_iff t).mp e h)
      (b0 m c t) (b1 m c t) (b2 m c t) Set.univ _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [accAt_later m c t h]
    simp only [before_4 m c t h]
    iintro ⟨HΦ, Ho, ⟨%d0, H0⟩, ⟨%d1, H1⟩, ⟨%d2, H2⟩, ⟨%d3, H3⟩, ⟨%d4, H4⟩⟩
    iapply (runB c (grid0.coords t) _ _ _ _ _ _ _ _ _ _ (fun e => h ((cond1_iff t).mp e)) ((cond2_iff t).mpr h)
      (b0 m c t) (b1 m c t) (b2 m c t) _ Set.univ _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

set_option backward.isDefEq.respectTransparency.types false in
/-- The whole call's run: every array of the pipeline at what the proof data says, every other buffer as it was,
    every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they began and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.GateMixIdeal.Hand

end
-- ==== Proof.Stream.GateMix.lean ====
/-
  The gradient of the gate of the mixer: the arrays the call leaves, of the arrays it is handed.
-/
module

public import proofs.«01_k».proof.Proof.Stream.Base
public import proofs.«01_k».proof.Proof.Stream.GateMixFrame
public import Idealize.ShloMosaic.Lib.Pipeline.ValueKit.Point

@[expose] public section

set_option maxRecDepth 16384

noncomputable section

namespace Cert.Stream.GateMix

open Idealize.ShloMosaic Idealize.ShloMosaic.Tactic Cert.Prod

variable (x0 x1 : (⟨2, ![8448, 2048]⟩ : Shape).Idx → EReal) (x2 : (⟨3, ![2, 6, 2048]⟩ : Shape).Idx → EReal)

/-- The gradient of the row `r` of what is gated: the stream's, times the gate of the row's stream. -/
def dm (r j : ℕ) : EReal := at2 x0 r j * at3 x2 (st r) 2 j

/-- What the row `k` adds to the row `a` of the sums: to the first the gate's gradient, to the others nothing. -/
def term (a j k : ℕ) : EReal := if a = 0 then at2 x0 k j * at2 x1 k j else 0

def specM : (⟨2, ![8448, 2048]⟩ : Shape).Idx → EReal := fun i => dm x0 x2 (i 0).val (i 1).val
def specS : (⟨3, ![2, 8, 2048]⟩ : Shape).Idx → EReal := fun i => total (term x0 x1 (i 1).val (i 2).val) (i 0).val

end Cert.Stream.GateMix

namespace Cert.GateMixIdeal.Hand

open Cert.GateMixIdeal Cert.GateMixIdeal.Gen Cert.Prod Cert.Stream Cert.Stream.GateMix
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![if t.val = 0 then 0 else 1, 0, 0] := (by decide +kernel : ∀ t : Fin grid0.N, _)
theorem ix_3 : ∀ t : Fin cfg0.N, win0_3.index t = ![t.val, 0] := (by decide +kernel : ∀ t : Fin grid0.N, _)
theorem ix_4 : ∀ t : Fin cfg0.N, win0_4.index t = ![if t.val = 0 then 0 else 1, 0, 0] := (by decide +kernel : ∀ t : Fin grid0.N, _)

theorem N_le (t : Fin cfg0.N) : t.val < 33 := t.isLt.trans_eq N_0

def m0 (r j : ℕ) : EReal := at2 (m ((c : Thread nD τ).loc main_arg0)) r j
def m1 (r j : ℕ) : EReal := at2 (m ((c : Thread nD τ).loc main_arg1)) r j
def m2 (s a j : ℕ) : EReal := at3 (m ((c : Thread nD τ).loc main_arg2)) s a j

theorem blk_0 (t : Fin cfg0.N) (k : Fin 256) (j : Fin 2048) : b0 m c t (ix2 k j) = m0 m c (t.val * 256 + k.val) j.val := by
  have h := N_le t
  unfold m0
  rw [at2_lt _ (by omega) (by omega)]
  blk_ext! [b0, iblk, V, ix_0 t]

theorem blk_1 (t : Fin cfg0.N) (k : Fin 256) (j : Fin 2048) : b1 m c t (ix2 k j) = m1 m c (t.val * 256 + k.val) j.val := by
  have h := N_le t
  unfold m1
  rw [at2_lt _ (by omega) (by omega)]
  blk_ext! [b1, iblk, V, ix_1 t]

theorem blk_2 (t : Fin cfg0.N) (a : Fin 6) (j : Fin 2048) :
    b2 m c t (ix3 0 a j) = m2 m c (if t.val = 0 then 0 else 1) a.val j.val := by
  have h := N_le t
  have hs : (if t.val = 0 then 0 else 1) < 2 := by split <;> omega
  unfold m2
  rw [at3_lt _ hs (by omega) (by omega)]
  blk_ext! [b2, iblk, V, ix_2 t]

theorem ld_2 (t : Fin cfg0.N) (j : Fin 2048) : View.ld (b2 m c t) rM (ix3 0 0 j) = b2 m c t (ix3 0 2 j) :=
  View.ld_unit_apply_of _ _ _ _ _ (ix3 0 2 j) (fun a => by
    match a with
    | 0 => rfl
    | 1 => rfl
    | 2 => exact (Nat.zero_add _).symm)

theorem pay1_apply (v0 : Vec Ideal S256x2048 .f32) (v1 : Vec Ideal S1x1x2048 .f32) (k : Fin 256) (j : Fin 2048) :
    k0_pay1 (F := Ideal) v0 v1 (ix2 k j) = v0 (ix2 k j) * v1 (ix3 0 0 j) := by
  pointwise [k0_pay1]

theorem rowv_apply (t : Fin cfg0.N) (k : Fin 256) (j : Fin 2048) :
    rowv (b0 m c t) (b1 m c t) (b2 m c t) (ix2 k j) = dm (m ((c : Thread nD τ).loc main_arg0)) (m ((c : Thread nD τ).loc main_arg2)) (t.val * 256 + k.val) j.val := by
  unfold rowv
  rw [pay1_apply, View.ld_unit_zero (S := S256x2048) z2, ld_2, blk_0, blk_2]
  unfold dm
  rw [st_blk]
  rfl

theorem pay2_apply (v0 v7 : Vec Ideal S256x2048 .f32) (a : Fin 8) (j : Fin 2048) :
    k0_pay2 (F := Ideal) v0 v7 (ix2 a j) = ∑ k : Fin 256, if a.val = 0 then v0 (ix2 k j) * v7 (ix2 k j) else 0 := by
  by_cases h : a.val = 0
  · simp only [if_pos h]
    pointwise [k0_pay2]
    split
    · rfl
    · omega
  · simp only [if_neg h, Finset.sum_const_zero]
    pointwise [k0_pay2]
    split
    · omega
    · rfl

def T (a j k : ℕ) : EReal := term (m ((c : Thread nD τ).loc main_arg0)) (m ((c : Thread nD τ).loc main_arg1)) a j k

theorem part_apply (t : Fin cfg0.N) (a : Fin 8) (j : Fin 2048) :
    k0_pay2 (F := Ideal) (b0 m c t) (b1 m c t) (ix2 a j) = ∑ k : Fin 256, T m c a.val j.val (t.val * 256 + k.val) := by
  rw [pay2_apply]
  simp only [blk_0, blk_1]
  rfl

theorem acc1_apply (t : Fin cfg0.N) (a : Fin 8) (j : Fin 2048) : acc1 (b0 m c t) (b1 m c t) (b2 m c t) (ix3 0 a j)
    = ∑ k : Fin 256, T m c a.val j.val (t.val * 256 + k.val) := by
  unfold acc1
  rw [View.ld_unit_zero (S := S256x2048) z2, View.ld_unit_zero (S := S256x2048) z2]
  refine Eq.trans ?_ (part_apply m c t a j)
  pointwise [k0_pay3]

theorem acc2_apply (t : Fin cfg0.N) (y : Vec Ideal S1x8x2048 .f32) (a : Fin 8) (j : Fin 2048) : acc2 (b0 m c t) (b1 m c t) (b2 m c t) y (ix3 0 a j)
    = y (ix3 0 a j) + ∑ k : Fin 256, T m c a.val j.val (t.val * 256 + k.val) := by
  unfold acc2
  rw [View.ld_unit_zero (S := S256x2048) z2, View.ld_unit_zero (S := S256x2048) z2, View.ld_unit_zero (S := S1x8x2048) z3]
  rw [← part_apply m c t a j]
  pointwise [k0_pay4]

theorem acc_apply (n : ℕ) : ∀ (hn : n < cfg0.N) (a : Fin 8) (j : Fin 2048), accAt m c n hn (ix3 0 a j) = upTo (T m c a.val j.val) n := by
  induction n using Nat.strong_induction_on with
  | _ n ih =>
    intro hn a j
    by_cases h : n < 2
    · refine (congrFun (accAt_first m c ⟨n, hn⟩ h) (ix3 0 a j)).trans ((acc1_apply m c _ a j).trans ?_)
      exact upTo_first _ h
    · refine (congrFun (accAt_later m c ⟨n, hn⟩ h) (ix3 0 a j)).trans ((acc2_apply m c _ _ a j).trans ?_)
      rw [ih (n - 1) (by omega)]
      exact upTo_later _ h

theorem final_M : (dats (F := Ideal) m 0 c).arrAt 3 cfg0.N = specM (m ((c : Thread nD τ).loc main_arg0)) (m ((c : Thread nD τ).loc main_arg2)) := by
  refine (dats m 0 c).arrAt_eq_of_covers 3 _ (by decide +kernel) fun t hf y => ?_
  have h := N_le t
  blk_simp
  rw [after_3]
  obtain ⟨r, s, rfl⟩ : ∃ (r : Fin 256) (s : Fin 2048), y = ix2 r s := ⟨y 0, y 1, funext fun a => by match a with | 0 => rfl | 1 => rfl⟩
  refine (rowv_apply m c t r s).trans ?_
  unfold specM
  blk_simp [ix_3 t]

theorem final_S : (dats (F := Ideal) m 0 c).arrAt 4 cfg0.N = specS (m ((c : Thread nD τ).loc main_arg0)) (m ((c : Thread nD τ).loc main_arg1)) := by
  refine (dats m 0 c).arrAt_eq_of_covers 4 _ (by decide +kernel) fun t hf y => ?_
  have h := N_le t
  have h2 := (flush_sum t).mp hf
  blk_simp
  rw [after_4]
  obtain ⟨r, s, rfl⟩ : ∃ (r : Fin 8) (s : Fin 2048), y = ix3 0 r s := ⟨y 1, y 2, funext fun a => by
    match a with
    | 0 => exact Fin.ext (by have h0 : (y 0).val < 1 := (y 0).isLt; show (y 0).val = 0; omega)
    | 1 => rfl
    | 2 => rfl⟩
  refine (acc_apply m c t.val t.isLt r s).trans ?_
  unfold specS
  blk_simp [ix_4 t]
  rcases h2 with e | e
  · rw [e]; exact upTo_zero _
  · rw [e]; exact upTo_last _

end Cert.GateMixIdeal.Hand

end
-- ==== Proof.Stream.GateMixClaim.lean ====
/-
  The gradient of the gate of the mixer: kernel and reference end with the same arrays.
-/
module

public import proofs.«01_k».proof.Defs
public import proofs.«01_k».proof.Proof.Stream.GateMix
public import proofs.«01_k».proof.Proof.Gen.GateMix
public import proofs.«01_k».proof.Proof.Gen.GateMixRefIdeal.Run
public import proofs.«01_k».proof.Proof.Gen.GateMixRefIdeal.Read
public import Idealize.ShloMosaic.Lib.Quiescent
public import Idealize.ShloMosaic.Lib.Claim
public import Idealize.ShloMosaic.Lib.KernelVsHost

@[expose] public section

set_option maxRecDepth 16384

noncomputable section

namespace Cert.GateMixRefIdeal.Hand

open Cert.GateMixRefIdeal Cert.GateMixRefIdeal.Gen Cert.GateMixRefIdeal.Read Cert.Prod Cert.Stream Cert.Stream.GateMix
open Idealize.ShloMosaic Idealize.ShloMosaic.TcCoe Idealize.ShloMosaic.Tactic

variable (x0 x1 : (⟨2, ![8448, 2048]⟩ : Shape).Idx → EReal) (x2 : (⟨3, ![2, 6, 2048]⟩ : Shape).Idx → EReal)

theorem result_M : val_main_v36 (F := Ideal) x0 x2 = specM x0 x2 := by
  funext i
  have h0 : (i 0).val < 8448 := (i 0).isLt
  have h1 : (i 1).val < 2048 := (i 1).isLt
  refine (val_main_v36_apply (F := Ideal) x0 x2 i).trans ?_
  show val_main_v35 (F := Ideal) x0 x2 i = _
  unfold val_main_v35 specM dm st
  rw [at2_lt _ h0 h1, mul_comm]
  by_cases h : (i 0).val < 256
  · rw [if_pos h, at3_lt _ (by decide) (by decide) h1]
    refine (concatenate_pair_apply_left (t := S8448x2048) (s₁ := S256x2048) 0 _ _ _ i rfl (ix2 ⟨(i 0).val, h⟩ (i 1)) (fun b => by match b with | 0 => rfl | 1 => rfl)).trans ?_
    simp only [val_main_v14_apply, val_main_v13_apply, val_main_v10_apply, val_main_v9_apply, val_main_v8_apply, val_main_v5_apply, val_main_v4_apply, val_main_v0_apply]
    show x2 _ * x0 _ = _
    refine congrArg₂ (· * ·) (congrArg x2 ?_) (congrArg x0 ?_)
    · exact funext fun a => Fin.ext (by
        match a with
        | 0 => first | rfl | (show _ = 0; (try dsimp only); omega)
        | 1 => first | rfl | (show _ = 2; dsimp only [ix2]; omega)
        | 2 => first | rfl | (show _ = (i 1).val; dsimp only [ix2]; omega))
    · exact funext fun a => Fin.ext (by
        match a with
        | 0 => rfl
        | 1 => rfl)
  · rw [if_neg h, at3_lt _ (by decide) (by decide) h1]
    refine (concatenate_pair_apply_right (t := S8448x2048) (s₁ := S256x2048) (s₂ := S8192x2048) 0 _ _ _ i rfl rfl (ix2 ⟨(i 0).val - 256, by omega⟩ (i 1))
      (fun b hb => by match b with | 0 => exact absurd rfl hb | 1 => rfl) (by show (i 0).val - 256 + 256 = (i 0).val; omega)).trans ?_
    simp only [val_main_v25_apply, val_main_v24_apply, val_main_v21_apply, val_main_v20_apply, val_main_v19_apply, val_main_v7_apply, val_main_v6_apply, val_main_v1_apply]
    show x2 _ * x0 _ = _
    refine congrArg₂ (· * ·) (congrArg x2 ?_) (congrArg x0 ?_)
    · exact funext fun a => Fin.ext (by
        match a with
        | 0 => first | rfl | (show _ = 1; (try dsimp only); omega)
        | 1 => first | rfl | (show _ = 2; dsimp only [ix2]; omega)
        | 2 => first | rfl | (show _ = (i 1).val; dsimp only [ix2]; omega))
    · exact funext fun a => Fin.ext (by
        match a with
        | 0 => (show _ = (i 0).val; dsimp only [ix2]; omega)
        | 1 => rfl)

theorem zero_word : (FloatOps.ofBits (F := Ideal) .f32 0x00000000#32 : EReal) = 0 := by simp

theorem gate_0 (j : Fin 2048) : val_main_v18 (F := Ideal) x0 x1 (ix1 j) = total (term x0 x1 0 j.val) 0 := by
  simp only [val_main_v18_apply, val_main_cst_0_apply, val_main_v17_apply, val_main_v16_apply, val_main_cst_apply, zero_word, zero_add,
    Fin.sum_univ_one, val_main_v15_apply, val_main_v0_apply, val_main_v2_apply]
  unfold total term
  rw [if_pos rfl, Finset.sum_range]
  refine Finset.sum_congr rfl fun k _ => ?_
  have hk : k.val < 256 := k.isLt
  have hj : j.val < 2048 := j.isLt
  rw [if_pos rfl, at2_lt _ (by omega) hj, at2_lt _ (by omega) hj]
  show x0 _ * x1 _ = _
  refine congrArg₂ (· * ·) (congrArg x0 ?_) (congrArg x1 ?_) <;>
  · exact funext fun a => Fin.ext (by
      match a with
      | 0 => rfl
      | 1 => first | rfl | (show _ = j.val; (try dsimp only [ix1]); first | rfl | omega | simp))

theorem gate_1 (j : Fin 2048) : val_main_v29 (F := Ideal) x0 x1 (ix1 j) = total (term x0 x1 0 j.val) 1 := by
  simp only [val_main_v29_apply, val_main_cst_2_apply, val_main_v28_apply, val_main_v27_apply, val_main_cst_1_apply, zero_word, zero_add,
    Fin.sum_univ_one, val_main_v26_apply, val_main_v1_apply, val_main_v3_apply]
  unfold total term
  rw [if_neg (by decide), Finset.sum_range]
  refine Finset.sum_congr rfl fun k _ => ?_
  have hk : k.val < 8192 := k.isLt
  have hj : j.val < 2048 := j.isLt
  rw [if_pos rfl, at2_lt _ (by omega) hj, at2_lt _ (by omega) hj]
  show x0 _ * x1 _ = _
  refine congrArg₂ (· * ·) (congrArg x0 ?_) (congrArg x1 ?_) <;>
  · exact funext fun a => Fin.ext (by
      match a with
      | 0 => rfl
      | 1 => first | rfl | (show _ = j.val; (try dsimp only [ix1]); first | rfl | omega | simp))

theorem pad_zero (i : S_.Idx) : val_main_call0_v0 (F := Ideal) i = (0 : EReal) := by
  rw [val_main_call0_v0_apply, val_main_c_apply]
  show (((0#32 : BitVec 32).toInt : ℝ) : EReal) = 0
  simp

theorem result_S : val_main_v34 (F := Ideal) x0 x1 = specS x0 x1 := by
  funext i
  have h0 : (i 0).val < 2 := (i 0).isLt
  have h1 : (i 1).val < 8 := (i 1).isLt
  have h2 : (i 2).val < 2048 := (i 2).isLt
  unfold val_main_v34 specS
  by_cases h : (i 1).val = 0
  · refine (pad_apply_of_inside (s := S2x1x2048) (t := S2x8x2048) ![0, 0, 0] ![0, 7, 0] ![0, 0, 0] _ _ _ _ i (ix3 (i 0) 0 (i 2)) (fun a => by
      match a with
      | 0 => show (i 0).val = 0 + (i 0).val * 1; omega
      | 1 => show (i 1).val = 0 + 0 * 1; omega
      | 2 => show (i 2).val = 0 + (i 2).val * 1; omega)).trans ?_
    rw [h, val_main_v33_apply]
    unfold val_main_v32
    by_cases hs : (i 0).val = 0
    · rw [hs]
      refine (concatenate_pair_apply_left (t := S2x2048) (s₁ := S1x2048) 0 _ _ _ _ rfl (ix2 0 (i 2)) (fun b => by match b with | 0 => exact hs.symm | 1 => rfl)).trans ?_
      rw [val_main_v30_apply]
      exact (congrArg (val_main_v18 (F := Ideal) x0 x1) (funext fun a => by match a with | 0 => rfl)).trans (gate_0 x0 x1 (i 2))
    · rw [show (i 0).val = 1 by omega]
      refine (concatenate_pair_apply_right (t := S2x2048) (s₁ := S1x2048) (s₂ := S1x2048) 0 _ _ _ _ rfl rfl (ix2 0 (i 2))
        (fun b hb => by match b with | 0 => exact absurd rfl hb | 1 => rfl) (by show 0 + 1 = (i 0).val; omega)).trans ?_
      rw [val_main_v31_apply]
      exact (congrArg (val_main_v29 (F := Ideal) x0 x1) (funext fun a => by match a with | 0 => rfl)).trans (gate_1 x0 x1 (i 2))
  · refine (pad_apply_of_not_inside (s := S2x1x2048) (t := S2x8x2048) ![0, 0, 0] ![0, 7, 0] ![0, 0, 0] _ _ _ _ i 1 (fun e => h (by
      have e2 : ((i 1).val - 0) / (0 + 1) < 1 := e.2.2
      omega))).trans ?_
    rw [pad_zero]
    unfold total term
    simp only [if_neg h, Finset.sum_const_zero, ite_self]

end Cert.GateMixRefIdeal.Hand

namespace Cert.Stream.GateMix

open Idealize.ShloMosaic Idealize.SL.Sem

section Twin

variable {F : FTy → Type} [FloatOps F]

theorem e_body : @Cert.GateMix.cc0_gate_bwd F _ Cert.GateMix.Gen.facts = @Cert.GateMixIdeal.cc0_gate_bwd F _ Cert.GateMixIdeal.Gen.facts := rfl

theorem e_defs₀ : @Cert.GateMix.defs₀ F _ Cert.GateMix.Gen.facts = @Cert.GateMixIdeal.defs₀ F _ Cert.GateMixIdeal.Gen.facts := by
  unfold Cert.GateMix.defs₀ Cert.GateMixIdeal.defs₀
  refine congrArg (Defs.onTc (nD := Cert.GateMixIdeal.nD) (τ := Cert.GateMixIdeal.τ) (sig := Cert.GateMixIdeal.sig) (Val := Elt F) (Λ := Cert.GateMixIdeal.Λ₀)) ?_
  funext l a
  match l, a with
  | 0, (t, s) => rfl
  | ⟨n + 1, h⟩, _ => exact absurd h (Nat.not_lt.2 (Nat.le_add_left _ _))

theorem e_defs : @Cert.GateMix.defs F _ Cert.GateMix.Gen.facts = @Cert.GateMixIdeal.defs F _ Cert.GateMixIdeal.Gen.facts := by
  unfold Cert.GateMix.defs Cert.GateMixIdeal.defs
  exact congrArg (Pipeline.defs Cert.GateMixIdeal.pcfgs) e_defs₀

theorem e_main : @Cert.GateMix.main F _ = @Cert.GateMixIdeal.main F _ := rfl

end Twin

/-- The kernel as printed runs, its arguments end as they began and every counter is at zero: it is the idealized
    program's text, of which the run is proved for every float instance. -/
theorem frame_kernel : Cert.quiescent_GateMix := fun m g _ => by
  rw [e_defs, e_main]
  exact Cert.GateMixIdeal.Hand.frame (F := Bits) m g

theorem frame_ideal : Cert.quiescent_GateMixIdeal := fun m g _ => Cert.GateMixIdeal.Hand.frame (F := Ideal) m g

theorem frame_reference : Cert.quiescent_GateMixRefIdeal := fun m g _ =>
  (θ_run (Cert.GateMixRefIdeal.defs (F := Ideal)) _ _).mono (fun r h => ⟨fun c => (h c).2.2, sem_eq_zero_of_no_sems rfl r.2⟩) (Cert.GateMixRefIdeal.Value.run (F := Ideal) m g)

/-- From equal arguments the two programs end with equal results. -/
theorem same : Cert.algebraic_GateMixIdeal_GateMixRefIdeal := fun m g m' g' _ hagree => by
  refine ⟨fun c => specM (m ((c.tc : Thread Cert.GateMixIdeal.nD Cert.GateMixIdeal.τ).loc Cert.GateMixIdeal.main_arg0)) (m ((c.tc : Thread Cert.GateMixIdeal.nD Cert.GateMixIdeal.τ).loc Cert.GateMixIdeal.main_arg2)),
    fun c => specS (m ((c.tc : Thread Cert.GateMixIdeal.nD Cert.GateMixIdeal.τ).loc Cert.GateMixIdeal.main_arg0)) (m ((c.tc : Thread Cert.GateMixIdeal.nD Cert.GateMixIdeal.τ).loc Cert.GateMixIdeal.main_arg1)), ?_, ?_⟩
  · refine (θ_run (Cert.GateMixIdeal.defs (F := Ideal)) _ _).mono (fun r h c => ?_)
      (θ_run_and (Cert.GateMixIdeal.Hand.run_main (F := Ideal) m g) (Cert.GateMixIdeal.Hand.frame (F := Ideal) m g))
    exact ⟨(h.1.1.out_eq c 3).trans (Cert.GateMixIdeal.Hand.final_M m c), (h.1.1.out_eq c 4).trans (Cert.GateMixIdeal.Hand.final_S m c), h.2.1 c⟩
  · refine (θ_run (Cert.GateMixRefIdeal.defs (F := Ideal)) _ _).mono (fun r h c => ?_) (Cert.GateMixRefIdeal.Value.run (F := Ideal) m' g')
    obtain ⟨h0, h1, ha⟩ := h c
    obtain ⟨a0, a1, a2⟩ := hagree c
    rw [Cert.GateMixRefIdeal.Read.val_main_v36_eq, a0, a2] at h0
    rw [Cert.GateMixRefIdeal.Read.val_main_v34_eq, a0, a1] at h1
    exact ⟨h0.trans (Cert.GateMixRefIdeal.Hand.result_M _ _), h1.trans (Cert.GateMixRefIdeal.Hand.result_S _ _), ha⟩

end Cert.Stream.GateMix

end
-- ==== Proof.Stream.Norm.lean ====
/-
  The gradient of the root-mean-square norm, two ways of writing it. With `v` the row's mean square plus the constant, `r`
  its inverse root and `g` the cotangent of the normalized row: `r * (g - x r * (∑ g (x r)) / w)`, and
  `g r + x d + d x` where `d = (∑ x g) * (-1/2 * (r / v)) / w`. They are equal on the extended reals whatever the arrays
  hold: `r` is a non-negative real number, which distributes over every sum.
-/
module

public import Idealize.ShloMosaic.PureOps.Ideal.Laws

@[expose] public section

set_option maxRecDepth 16384

noncomputable section

namespace Cert.Stream

open Idealize.ShloMosaic

theorem width_real : Ideal.ofBits .f32 0x45000000#32 = ((2048 : ℝ) : EReal) := by
  simp only [Ideal.ofBits, Ideal.ieee]
  simp
  exact (EReal.coe_mul _ _).symm.trans (congrArg _ (by norm_num))
theorem half_real : Ideal.ofBits .f32 0xBF000000#32 = ((-(1 / 2) : ℝ) : EReal) := by
  simp only [Ideal.ofBits, Ideal.ieee]
  simp
  exact (EReal.coe_mul _ _).symm.trans (congrArg _ (by norm_num))
theorem eps_real : ∃ e : ℝ, 0 < e ∧ Ideal.ofBits .f32 0x358637BD#32 = (e : EReal) := by
  simp only [Ideal.ofBits, Ideal.ieee]
  simp
  exact ⟨_, by positivity, (EReal.coe_mul _ _).symm⟩

theorem coe_mul_add {p : ℝ} (hp : 0 ≤ p) (x y : EReal) : (p : EReal) * (x + y) = p * x + p * y :=
  EReal.left_distrib_of_nonneg_of_ne_top (by exact_mod_cast hp) (EReal.coe_ne_top p) x y

theorem coe_mul_sum {p : ℝ} (hp : 0 ≤ p) {ι : Type} (s : Finset ι) (f : ι → EReal) : (p : EReal) * ∑ i ∈ s, f i = ∑ i ∈ s, (p : EReal) * f i := by
  classical
  induction s using Finset.induction_on with
  | empty => simp
  | insert a s ha ih => rw [Finset.sum_insert ha, Finset.sum_insert ha, coe_mul_add hp, ih]

theorem halves (w : EReal) : ((-(1 / 2) : ℝ) : EReal) * w + ((-(1 / 2) : ℝ) : EReal) * w = -w := by
  induction w with
  | bot => rw [EReal.coe_mul_bot_of_neg (by norm_num)]; rfl
  | top => rw [EReal.coe_mul_top_of_neg (by norm_num)]; rfl
  | coe w =>
    rw [← EReal.coe_mul, ← EReal.coe_add, ← EReal.coe_neg]
    exact congrArg _ (by ring)

theorem div_width (x : EReal) : Ideal.div x (Ideal.ofBits .f32 0x45000000#32) = x * ((1 / 2048 : ℝ) : EReal) := by
  rw [width_real]
  unfold Ideal.div
  rw [if_neg (by exact_mod_cast (by norm_num : (2048 : ℝ) ≠ 0)), ← EReal.coe_inv, one_div]

theorem sq_nonneg' (x : EReal) : 0 ≤ x * x := by
  induction x with
  | bot => simp
  | top => simp
  | coe x => rw [← EReal.coe_mul]; exact_mod_cast mul_self_nonneg x

/-- The inverse root is a non-negative real number, and its quotient by `v` is its cube. -/
theorem root (s : EReal) (hs : 0 ≤ s) : ∃ ρ : ℝ, 0 ≤ ρ ∧ Ideal.rsqrt (Ideal.div s (Ideal.ofBits .f32 0x45000000#32) + Ideal.ofBits .f32 0x358637BD#32) = (ρ : EReal)
    ∧ Ideal.div (Ideal.rsqrt (Ideal.div s (Ideal.ofBits .f32 0x45000000#32) + Ideal.ofBits .f32 0x358637BD#32))
        (Ideal.div s (Ideal.ofBits .f32 0x45000000#32) + Ideal.ofBits .f32 0x358637BD#32) = ((ρ * ρ * ρ : ℝ) : EReal) := by
  obtain ⟨e, he, ee⟩ := eps_real
  rw [div_width, ee]
  induction s with
  | bot => exact absurd hs (by simp)
  | top =>
    refine ⟨0, le_refl _, ?_, ?_⟩
    · rw [EReal.top_mul_coe_of_pos (by norm_num), EReal.top_add_coe]; simp
    · rw [EReal.top_mul_coe_of_pos (by norm_num), EReal.top_add_coe]; simp [Ideal.div]
  | coe s =>
    have hs' : 0 ≤ s := by exact_mod_cast hs
    have hv : 0 < s * (1 / 2048) + e := by positivity
    refine ⟨(Real.sqrt (s * (1 / 2048) + e))⁻¹, by positivity, ?_, ?_⟩
    · rw [← EReal.coe_mul, ← EReal.coe_add, Ideal.rsqrt_coe, if_neg (not_lt.2 hv.le), if_neg hv.ne']
    · rw [← EReal.coe_mul, ← EReal.coe_add, Ideal.rsqrt_coe, if_neg (not_lt.2 hv.le), if_neg hv.ne']
      unfold Ideal.div
      rw [if_neg (by exact_mod_cast hv.ne'), ← EReal.coe_inv, ← EReal.coe_mul]
      refine congrArg _ ?_
      rw [mul_assoc, ← mul_inv, ← mul_inv, Real.mul_self_sqrt hv.le, mul_inv]

theorem norm_eq {n : ℕ} (ρ : ℝ) (hρ : 0 ≤ ρ) (x g : Fin n → EReal) (y z : EReal) :
    (ρ : EReal) * (z - y * ρ * ((∑ l, g l * (x l * ρ)) * ((1 / 2048 : ℝ) : EReal)))
      = z * ρ + y * ((∑ l, x l * g l) * (((-(1 / 2) : ℝ) : EReal) * ((ρ * ρ * ρ : ℝ) : EReal)) * ((1 / 2048 : ℝ) : EReal))
        + (∑ l, x l * g l) * (((-(1 / 2) : ℝ) : EReal) * ((ρ * ρ * ρ : ℝ) : EReal)) * ((1 / 2048 : ℝ) : EReal) * y := by
  have e : ∑ l, g l * (x l * (ρ : EReal)) = (ρ : EReal) * ∑ l, x l * g l := by
    rw [coe_mul_sum hρ]
    exact Finset.sum_congr rfl fun l _ => by rw [← mul_assoc, mul_comm, mul_comm (g l)]
  rw [e]
  generalize ∑ l, x l * g l = S
  have e1 : y * (S * (((-(1 / 2) : ℝ) : EReal) * ((ρ * ρ * ρ : ℝ) : EReal)) * ((1 / 2048 : ℝ) : EReal))
      = ((-(1 / 2) : ℝ) : EReal) * (y * S * ((ρ * ρ * ρ : ℝ) : EReal) * ((1 / 2048 : ℝ) : EReal)) := by ac_rfl
  rw [mul_comm _ y, e1, add_assoc, halves, sub_eq_add_neg, coe_mul_add hρ, EReal.coe_mul, EReal.coe_mul]
  refine congrArg₂ (· + ·) (mul_comm _ _) ?_
  rw [mul_neg]
  refine congrArg (- ·) ?_
  ac_rfl

end Cert.Stream

end
-- ==== Proof.Stream.NormFfnFrame.lean ====
/-
  The gradient of the norm: the run of the call. What the body leaves of the blocks it is handed, in its two cases, at the first block of
  a stream (the sums are overwritten) and at a later one (they are added to).
-/
module

public import proofs.«01_k».proof.Proof.Put
public import proofs.«01_k».proof.Proof.Gen.NormFfnIdeal.Frame
public import proofs.«01_k».proof.Proof.Gen.NormFfnIdeal.Skeleton
public import Idealize.ShloMosaic.Lib.Claim
public import Idealize.ShloMosaic.Lib.Tactic

@[expose] public section

set_option maxRecDepth 16384

noncomputable section

namespace Cert.NormFfnIdeal.Hand

open Cert.NormFfnIdeal Cert.NormFfnIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### What the body computes -/

abbrev rX : Rect S256x2048 := Rect.unit (s := S256x2048) ![0, 0] S256x2048.size inb_S256x2048_S256x2048_0_0
abbrev rS : Rect S1x8x2048 := Rect.unit (s := S1x8x2048) ![0, 0, 0] S1x8x2048.size inb_S1x8x2048_S1x8x2048_0_0_0
abbrev rM : Rect S1x6x2048 := Rect.unit (s := S1x6x2048) ![0, 4, 0] S1x1x2048.size inb_S1x6x2048_S1x1x2048_0_4_0
abbrev rW : Rect S1x2048 := Rect.unit (s := S1x2048) ![0, 0] S1x2048.size inb_S1x2048_S1x2048_0_0

/-- The rows that the body leaves, the sums of a first block, and those of a later one. -/
def rowv (x0 : Vec F S256x2048 .f32) (x1 : Vec F S1x2048 .f32) (x2 : Vec F S1x6x2048 .f32) (x3 : Vec F S256x2048 .bf16) (x4 : Vec F S256x2048 .f32) : Vec F S256x2048 .f32 := k0_pay8 (View.ld x0 rX) (View.ld x3 rX) (View.ld x2 rM) (View.ld x1 rW) (View.ld x4 rX)
def acc1 (x0 : Vec F S256x2048 .f32) (x1 : Vec F S1x2048 .f32) (x2 : Vec F S1x6x2048 .f32) (x3 : Vec F S256x2048 .bf16) (x4 : Vec F S256x2048 .f32) : Vec F S1x8x2048 .f32 := k0_pay2 (k0_pay7 (View.ld x2 rM)) (k0_pay9 (View.ld x0 rX) (View.ld x3 rX)) (k0_pay10 (View.ld x3 rX)) (k0_pay11 (View.ld x1 rW))
def acc2 (x0 : Vec F S256x2048 .f32) (x1 : Vec F S1x2048 .f32) (x2 : Vec F S1x6x2048 .f32) (x3 : Vec F S256x2048 .bf16) (x4 : Vec F S256x2048 .f32) (y : Vec F S1x8x2048 .f32) : Vec F S1x8x2048 .f32 := k0_pay3 (k0_pay7 (View.ld x2 rM)) (k0_pay9 (View.ld x0 rX) (View.ld x3 rX)) (k0_pay10 (View.ld x3 rX)) (k0_pay11 (View.ld x1 rW)) (View.ld y rS)

set_option maxHeartbeats 4000000 in
/-- A later block of a stream. -/
theorem runB (c : Dev nD) (i : grid0.Coords)
    (arg1 : Memref sig .tc .vmem S256x2048 .f32) (harg1 : arg1.IsWhole)
    (arg2 : Memref sig .tc .vmem S1x2048 .f32) (harg2 : arg2.IsWhole)
    (arg3 : Memref sig .tc .vmem S1x6x2048 .f32) (harg3 : arg3.IsWhole)
    (arg4 : Memref sig .tc .vmem S256x2048 .bf16) (harg4 : arg4.IsWhole)
    (arg5 : Memref sig .tc .vmem S256x2048 .f32) (harg5 : arg5.IsWhole)
    (arg6 : Memref sig .tc .vmem S256x2048 .f32) (harg6 : arg6.IsWhole)
    (arg7 : Memref sig .tc .vmem S1x8x2048 .f32) (harg7 : arg7.IsWhole)
    (hc1 : ¬ k0_cond1 i = 1#1) (hc2 : k0_cond2 i = 1#1)
    (x0 : Vec F S256x2048 .f32) (x1 : Vec F S1x2048 .f32) (x2 : Vec F S1x6x2048 .f32) (x3 : Vec F S256x2048 .bf16) (x4 : Vec F S256x2048 .f32) (y : Vec F S1x8x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare y
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (rowv x0 x1 x2 x3 x4)
      ∗ owns (c : Thread nD τ) arg7 fullShare (acc2 x0 x1 x2 x3 x4 y)) -∗ K ⟨⟩))
    ⊢ wp frame (wpE (defs₀ (F := F)) Variants.none c none) E
        (cc0_normmod_bwd i arg1 harg1 arg2 harg2 arg3 harg3 arg4 harg4 arg5 harg5 arg6 harg6 arg7 harg7) K := by
  simp only [cc0_normmod_bwd_eq_skeleton]; unfold cc0_normmod_bwd_skel
  simp only [k0_part1_eq_skeleton]
  unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  sl_exec (disch := first | sl_exact hc1 | sl_exact hc2)
  sl_step
  iapply Hk
  subst hf0 hf1 hf2 hf3 hf4 hf6
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]
  · iexists _; isplitr; swap; · iexact H5
    ipureintro
    rw [read_writes_put, put_whole _ (by decide)]
    rfl
  · iexists _; isplitr; swap; · iexact H6
    ipureintro
    rw [read_writes_put, put_whole _ (by decide)]
    rfl

set_option maxHeartbeats 4000000 in
/-- The first block of a stream. -/
theorem runA (c : Dev nD) (i : grid0.Coords)
    (arg1 : Memref sig .tc .vmem S256x2048 .f32) (harg1 : arg1.IsWhole)
    (arg2 : Memref sig .tc .vmem S1x2048 .f32) (harg2 : arg2.IsWhole)
    (arg3 : Memref sig .tc .vmem S1x6x2048 .f32) (harg3 : arg3.IsWhole)
    (arg4 : Memref sig .tc .vmem S256x2048 .bf16) (harg4 : arg4.IsWhole)
    (arg5 : Memref sig .tc .vmem S256x2048 .f32) (harg5 : arg5.IsWhole)
    (arg6 : Memref sig .tc .vmem S256x2048 .f32) (harg6 : arg6.IsWhole)
    (arg7 : Memref sig .tc .vmem S1x8x2048 .f32) (harg7 : arg7.IsWhole)
    (hc1 : k0_cond1 i = 1#1) (hc2 : ¬ k0_cond2 i = 1#1)
    (x0 : Vec F S256x2048 .f32) (x1 : Vec F S1x2048 .f32) (x2 : Vec F S1x6x2048 .f32) (x3 : Vec F S256x2048 .bf16) (x4 : Vec F S256x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (rowv x0 x1 x2 x3 x4)
      ∗ owns (c : Thread nD τ) arg7 fullShare (acc1 x0 x1 x2 x3 x4)) -∗ K ⟨⟩))
    ⊢ wp frame (wpE (defs₀ (F := F)) Variants.none c none) E
        (cc0_normmod_bwd i arg1 harg1 arg2 harg2 arg3 harg3 arg4 harg4 arg5 harg5 arg6 harg6 arg7 harg7) K := by
  simp only [cc0_normmod_bwd_eq_skeleton]; unfold cc0_normmod_bwd_skel
  simp only [k0_part1_eq_skeleton]
  unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  sl_exec (disch := first | sl_exact hc1 | sl_exact hc2)
  sl_step
  iapply Hk
  subst hf0 hf1 hf2 hf3 hf4
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]
  · iexists _; isplitr; swap; · iexact H5
    ipureintro
    rw [read_writes_put, put_whole _ (by decide)]
    rfl
  · iexists _; isplitr; swap; · iexact H6
    ipureintro
    rw [read_writes_put, put_whole _ (by decide)]
    rfl

variable (m : (ℓ : Loc nD τ sig) → Buf (Elt F) ℓ) (ρ : Dev nD → PrngReg)

/-! ### Which case a point is in -/

theorem cond1_iff : ∀ t : Fin cfg0.N, k0_cond1 (grid0.coords t) = 1#1 ↔ t.val < 2 :=
  (by decide +kernel : ∀ t : Fin grid0.N, k0_cond1 (grid0.coords t) = 1#1 ↔ t.val < 2)
theorem cond2_iff : ∀ t : Fin cfg0.N, k0_cond2 (grid0.coords t) = 1#1 ↔ ¬ t.val < 2 :=
  (by decide +kernel : ∀ t : Fin grid0.N, k0_cond2 (grid0.coords t) = 1#1 ↔ ¬ t.val < 2)
theorem live (i : grid0.Coords) : cfg0.idle 6 i = false := by
  have h : ∀ q : Fin 33, (!(Scalar.cmpi .ne (Scalar.extui (Scalar.ori (Scalar.cmpi .eq (BitVec.ofNat 32 q.val) 0#32) (Scalar.cmpi .eq (BitVec.ofNat 32 q.val) 1#32))) 0#32 == 1#1)
      && !(Scalar.cmpi .ne (Scalar.extui (Scalar.andi (Scalar.cmpi .ne (BitVec.ofNat 32 q.val) 0#32) (Scalar.cmpi .ne (BitVec.ofNat 32 q.val) 1#32))) 0#32 == 1#1)) = false := by
    decide +kernel
  exact h (i 0)
theorem flush_sum : ∀ t : Fin cfg0.N, (cfg0.win 6).flush t = true ↔ t.val = 0 ∨ t.val = 32 :=
  (by decide +kernel : ∀ t : Fin grid0.N, (cfg0.win 6).flush t = true ↔ t.val = 0 ∨ t.val = 32)

/-! ### The sums -/

abbrev b0 (c : Dev nD) (t : Fin cfg0.N) : Vec F S256x2048 .f32 := iblk m c 0 t
abbrev b1 (c : Dev nD) (t : Fin cfg0.N) : Vec F S1x2048 .f32 := iblk m c 1 t
abbrev b2 (c : Dev nD) (t : Fin cfg0.N) : Vec F S1x6x2048 .f32 := iblk m c 2 t
abbrev b3 (c : Dev nD) (t : Fin cfg0.N) : Vec F S256x2048 .bf16 := iblk m c 3 t
abbrev b4 (c : Dev nD) (t : Fin cfg0.N) : Vec F S256x2048 .f32 := iblk m c 4 t

/-- The sums after point `n`. -/
def accAt (c : Dev nD) : (n : ℕ) → n < cfg0.N → Vec F S1x8x2048 .f32
  | 0, h => acc1 (b0 m c ⟨0, h⟩) (b1 m c ⟨0, h⟩) (b2 m c ⟨0, h⟩) (b3 m c ⟨0, h⟩) (b4 m c ⟨0, h⟩)
  | n + 1, h => if n + 1 < 2 then acc1 (b0 m c ⟨n + 1, h⟩) (b1 m c ⟨n + 1, h⟩) (b2 m c ⟨n + 1, h⟩) (b3 m c ⟨n + 1, h⟩) (b4 m c ⟨n + 1, h⟩)
      else acc2 (b0 m c ⟨n + 1, h⟩) (b1 m c ⟨n + 1, h⟩) (b2 m c ⟨n + 1, h⟩) (b3 m c ⟨n + 1, h⟩) (b4 m c ⟨n + 1, h⟩) (accAt c n (Nat.lt_of_succ_lt h))

theorem accAt_first (c : Dev nD) (t : Fin cfg0.N) (h : t.val < 2) : accAt m c t.val t.isLt = acc1 (b0 m c t) (b1 m c t) (b2 m c t) (b3 m c t) (b4 m c t) := by
  obtain ⟨n, hn⟩ := t
  cases n with
  | zero => rfl
  | succ n => unfold accAt; rw [if_pos h]

theorem accAt_later (c : Dev nD) (t : Fin cfg0.N) (h : ¬ t.val < 2) :
    accAt m c t.val t.isLt = acc2 (b0 m c t) (b1 m c t) (b2 m c t) (b3 m c t) (b4 m c t) (accAt m c (t.val - 1) (Nat.lt_of_le_of_lt (Nat.sub_le _ _) t.isLt)) := by
  obtain ⟨n, hn⟩ := t
  cases n with
  | zero => exact absurd (show 0 < 2 by decide) h
  | succ n => conv_lhs => unfold accAt
              rw [if_neg h]; rfl

/-! ### The proof data -/

/-- What each window's buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => rowv (b0 m c t) (b1 m c t) (b2 m c t) (b3 m c t) (b4 m c t)
    | ⟨6, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = rowv (b0 m c t) (b1 m c t) (b2 m c t) (b3 m c t) (b4 m c t) := by dsimp only [dats]
theorem after_6 (c : Dev nD) (t : Fin cfg0.N) : (dats m 0 c).after 6 t = accAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

theorem before_6 (c : Dev nD) (t : Fin cfg0.N) (h : ¬ t.val < 2) (d) :
    (dats m 0 c).before 6 t d = accAt m c (t.val - 1) (Nat.lt_of_le_of_lt (Nat.sub_le _ _) t.isLt) := by
  have hN : t.val < 33 := t.isLt.trans_eq N_0
  rw [(dats m 0 c).before_out_kept 6 rfl t (fun e => h (by rw [e]; decide)) (by
    refine Bool.eq_false_iff.mpr fun e => ?_
    have := (flush_sum _).mp e
    dsimp only at this; omega) live (fun _ _ => rfl), after_6]

/-! ### The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t)

theorem leaves_of (c : Dev nD) (w : Fin cfg0.W) (t : Fin cfg0.N) (hl : cfg0.idle w (grid0.coords t) = false) :
    (dats (F := F) m 0 c).leavesExact w t = owns (c : Thread nD τ) ((cfg0.win w).stage (cfg0.slots t w)) fullShare ((dats m 0 c).after w t) := by
  unfold Dat.leavesExact; rw [hl]

set_option maxHeartbeats 3200000 in
/-- The body at any point: the inputs' buffers hold their blocks, the sums what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = (dats m 0 c).Φ t.castSucc from rfl]
  rw [leaves_of m c 0 t rfl, leaves_of m c 1 t rfl, leaves_of m c 2 t rfl, leaves_of m c 3 t rfl, leaves_of m c 4 t rfl, leaves_of m c 5 t rfl, leaves_of m c 6 t (live _)]
  rw [after_0, after_1, after_2, after_3, after_4, after_5, after_6]
  by_cases h : t.val < 2
  · rw [accAt_first m c t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ ((cond1_iff t).mpr h) (fun e => (cond2_iff t).mp e h)
      (b0 m c t) (b1 m c t) (b2 m c t) (b3 m c t) (b4 m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [accAt_later m c t h]
    simp only [before_6 m c t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (runB c (grid0.coords t) _ _ _ _ _ _ _ _ _ _ _ _ _ _ (fun e => h ((cond1_iff t).mp e)) ((cond2_iff t).mpr h)
      (b0 m c t) (b1 m c t) (b2 m c t) (b3 m c t) (b4 m c t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

set_option backward.isDefEq.respectTransparency.types false in
/-- The whole call's run: every array of the pipeline at what the proof data says, every other buffer as it was,
    every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they began and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.NormFfnIdeal.Hand

end
-- ==== Proof.Stream.NormFfn.lean ====
/-
  The gradient of the norm of the feed-forward layer: the arrays the call leaves, of the arrays it is handed.
-/
module

public import proofs.«01_k».proof.Proof.Stream.Base
public import proofs.«01_k».proof.Proof.Stream.NormFfnFrame
public import Idealize.ShloMosaic.Lib.Pipeline.ValueKit.Point

@[expose] public section

set_option maxRecDepth 16384

noncomputable section

namespace Cert.Stream.NormFfn

open Idealize.ShloMosaic Idealize.ShloMosaic.Tactic Cert.Prod

abbrev width : EReal := Ideal.ofBits .f32 0x45000000#32
abbrev eps : EReal := Ideal.ofBits .f32 0x358637BD#32
abbrev one : EReal := Ideal.ofBits .f32 0x3F800000#32

variable (x0 : (⟨2, ![8448, 2048]⟩ : Shape).Idx → EReal) (x1 : (⟨2, ![1, 2048]⟩ : Shape).Idx → EReal) (x2 : (⟨3, ![2, 6, 2048]⟩ : Shape).Idx → EReal)
  (x3 x4 : (⟨2, ![8448, 2048]⟩ : Shape).Idx → EReal)

/-- The row's inverse root mean square, and the row normalized by it. -/
def rms (r : ℕ) : EReal := Ideal.rsqrt (Ideal.div (∑ l : Fin 2048, at2 x0 r l.val * at2 x0 r l.val) width + eps)
def xh (r j : ℕ) : EReal := at2 x0 r j * rms x0 r

/-- One plus the scale of the stream `s`. -/
def sc (s j : ℕ) : EReal := one + at3 x2 s 4 j

/-- The cotangent of the normalized row. -/
def g (r j : ℕ) : EReal := at2 x3 r j * (at2 x1 0 j * sc x2 (st r) j)

/-- The gradient of the row `r`, added to the stream's own. -/
def dx (r j : ℕ) : EReal :=
  at2 x4 r j + rms x0 r * (g x1 x2 x3 r j - xh x0 r j * Ideal.div (∑ l : Fin 2048, g x1 x2 x3 r l.val * xh x0 r l.val) width)

/-- What the row `k` adds to the row `a` of the sums: the gradients of the shift, of the scale, of the norm's weight. -/
def term (a j k : ℕ) : EReal :=
  if a = 0 then at2 x3 k j else if a = 1 then at2 x3 k j * xh x0 k j * at2 x1 0 j
  else if a = 2 then at2 x3 k j * xh x0 k j * sc x2 (st k) j else 0

def specM : (⟨2, ![8448, 2048]⟩ : Shape).Idx → EReal := fun i => dx x0 x1 x2 x3 x4 (i 0).val (i 1).val
def specS : (⟨3, ![2, 8, 2048]⟩ : Shape).Idx → EReal := fun i => total (term x0 x1 x2 x3 (i 1).val (i 2).val) (i 0).val

end Cert.Stream.NormFfn

namespace Cert.NormFfnIdeal.Hand

open Cert.NormFfnIdeal Cert.NormFfnIdeal.Gen Cert.Prod Cert.Stream Cert.Stream.NormFfn
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![if t.val = 0 then 0 else 1, 0, 0] := (by decide +kernel : ∀ t : Fin grid0.N, _)
theorem ix_3 : ∀ t : Fin cfg0.N, win0_3.index t = ![t.val, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![t.val, 0] := (by decide +kernel : ∀ t : Fin grid0.N, _)
theorem ix_6 : ∀ t : Fin cfg0.N, win0_6.index t = ![if t.val = 0 then 0 else 1, 0, 0] := (by decide +kernel : ∀ t : Fin grid0.N, _)

theorem N_le (t : Fin cfg0.N) : t.val < 33 := t.isLt.trans_eq N_0

theorem blk_0 (t : Fin cfg0.N) (k : Fin 256) (j : Fin 2048) :
    b0 m c t (ix2 k j) = at2 (m ((c : Thread nD τ).loc main_arg0)) (t.val * 256 + k.val) j.val := by
  have h := N_le t
  rw [at2_lt _ (by omega) (by omega)]
  blk_ext! [b0, iblk, V, ix_0 t]

theorem blk_1 (t : Fin cfg0.N) (j : Fin 2048) : b1 m c t (ix2 0 j) = at2 (m ((c : Thread nD τ).loc main_arg1)) 0 j.val := by
  have h := N_le t
  rw [at2_lt _ (by omega) (by omega)]
  blk_ext! [b1, iblk, V, ix_1 t]

theorem blk_2 (t : Fin cfg0.N) (a : Fin 6) (j : Fin 2048) :
    b2 m c t (ix3 0 a j) = at3 (m ((c : Thread nD τ).loc main_arg2)) (if t.val = 0 then 0 else 1) a.val j.val := by
  have h := N_le t
  have hs : (if t.val = 0 then 0 else 1) < 2 := by split <;> omega
  rw [at3_lt _ hs (by omega) (by omega)]
  blk_ext! [b2, iblk, V, ix_2 t]

theorem blk_3 (t : Fin cfg0.N) (k : Fin 256) (j : Fin 2048) :
    b3 m c t (ix2 k j) = at2 (m ((c : Thread nD τ).loc main_arg3)) (t.val * 256 + k.val) j.val := by
  have h := N_le t
  rw [at2_lt _ (by omega) (by omega)]
  blk_ext! [b3, iblk, V, ix_3 t]

theorem blk_4 (t : Fin cfg0.N) (k : Fin 256) (j : Fin 2048) :
    b4 m c t (ix2 k j) = at2 (m ((c : Thread nD τ).loc main_arg4)) (t.val * 256 + k.val) j.val := by
  have h := N_le t
  rw [at2_lt _ (by omega) (by omega)]
  blk_ext! [b4, iblk, V, ix_4 t]

theorem ld_2 (t : Fin cfg0.N) (j : Fin 2048) : View.ld (b2 m c t) rM (ix3 0 0 j) = b2 m c t (ix3 0 4 j) :=
  View.ld_unit_apply_of _ _ _ _ _ (ix3 0 4 j) (fun a => by
    match a with
    | 0 => rfl
    | 1 => rfl
    | 2 => exact (Nat.zero_add _).symm)

/-! ### The body's values -/

theorem pay4_apply (v0 : Vec Ideal S256x2048 .f32) (k : Fin 256) :
    k0_pay4 (F := Ideal) v0 (ix2 k 0) = Ideal.rsqrt (Ideal.div (∑ l : Fin 2048, v0 (ix2 k l) * v0 (ix2 k l)) width + eps) := by
  pointwise [k0_pay4]

theorem pay5_apply (v0 : Vec Ideal S256x2048 .f32) (k : Fin 256) (j : Fin 2048) :
    k0_pay5 (F := Ideal) v0 (ix2 k j) = v0 (ix2 k j) * k0_pay4 (F := Ideal) v0 (ix2 k 0) := by
  pointwise [k0_pay5]

theorem pay6_apply (v11 : Vec Ideal S256x2048 .bf16) (k : Fin 256) (j : Fin 2048) :
    k0_pay6 (F := Ideal) v11 (ix2 k j) = v11 (ix2 k j) := by
  pointwise [k0_pay6]

theorem pay7_apply (v13 : Vec Ideal S1x1x2048 .f32) (j : Fin 2048) :
    k0_pay7 (F := Ideal) v13 (ix2 0 j) = one + v13 (ix3 0 0 j) := by
  pointwise [k0_pay7]

theorem pay8_apply (v0 : Vec Ideal S256x2048 .f32) (v11 : Vec Ideal S256x2048 .bf16) (v13 : Vec Ideal S1x1x2048 .f32) (v17 : Vec Ideal S1x2048 .f32)
    (v21 : Vec Ideal S256x2048 .f32) (k : Fin 256) (j : Fin 2048) :
    k0_pay8 (F := Ideal) v0 v11 v13 v17 v21 (ix2 k j) = v21 (ix2 k j) + k0_pay4 (F := Ideal) v0 (ix2 k 0)
      * (k0_pay6 (F := Ideal) v11 (ix2 k j) * (v17 (ix2 0 j) * k0_pay7 (F := Ideal) v13 (ix2 0 j))
        - k0_pay5 (F := Ideal) v0 (ix2 k j) * Ideal.div (∑ l : Fin 2048, k0_pay6 (F := Ideal) v11 (ix2 k l) * (v17 (ix2 0 l) * k0_pay7 (F := Ideal) v13 (ix2 0 l))
          * k0_pay5 (F := Ideal) v0 (ix2 k l)) width) := by
  pointwise [k0_pay8]

theorem pay9_apply (v0 : Vec Ideal S256x2048 .f32) (v11 : Vec Ideal S256x2048 .bf16) (k : Fin 256) (j : Fin 2048) :
    k0_pay9 (F := Ideal) v0 v11 (ix2 k j) = k0_pay6 (F := Ideal) v11 (ix2 k j) * k0_pay5 (F := Ideal) v0 (ix2 k j) := by
  pointwise [k0_pay9]

theorem pay10_apply (v11 : Vec Ideal S256x2048 .bf16) (j : Fin 2048) :
    k0_pay10 (F := Ideal) v11 (ix2 0 j) = ∑ k : Fin 256, k0_pay6 (F := Ideal) v11 (ix2 k j) := by
  pointwise [k0_pay10]

theorem pay11_apply (v17 : Vec Ideal S1x2048 .f32) (k : Fin 256) (j : Fin 2048) :
    k0_pay11 (F := Ideal) v17 (ix2 k j) = v17 (ix2 0 j) := by
  pointwise [k0_pay11]

theorem pay1_apply (v16 v36 : Vec Ideal S1x2048 .f32) (v34 v37 : Vec Ideal S256x2048 .f32) (a : Fin 8) (j : Fin 2048) :
    k0_pay1 (F := Ideal) v16 v34 v36 v37 (ix2 a j) = if a.val = 0 then v36 (ix2 0 j) else if a.val = 1 then ∑ k : Fin 256, v34 (ix2 k j) * v37 (ix2 k j)
      else if a.val = 2 then ∑ k : Fin 256, v34 (ix2 k j) * v16 (ix2 0 j) else 0 := by
  pointwise [k0_pay1]
  by_cases h0 : a.val = 0
  · rw [dif_pos (by omega), if_pos h0]
    exact congrArg v36 (funext fun b => Fin.ext (by
      match b with
      | 0 => exact h0
      | 1 => rfl))
  rw [dif_neg (by omega), if_neg h0]
  by_cases h1 : a.val = 1
  · rw [dif_pos (by omega), if_pos h1]
  rw [dif_neg (by omega), if_neg h1]
  by_cases h2 : a.val = 2
  · rw [dif_pos (by omega), if_pos h2]
  rw [dif_neg (by omega), if_neg h2]

/-! ### The arrays -/

section Rows
variable (t : Fin cfg0.N) (k : Fin 256) (j : Fin 2048)

theorem row_rms : k0_pay4 (F := Ideal) (b0 m c t) (ix2 k 0) = rms (m ((c : Thread nD τ).loc main_arg0)) (t.val * 256 + k.val) := by
  rw [pay4_apply]; simp only [blk_0]; rfl

theorem row_xh : k0_pay5 (F := Ideal) (b0 m c t) (ix2 k j) = xh (m ((c : Thread nD τ).loc main_arg0)) (t.val * 256 + k.val) j.val := by
  rw [pay5_apply, row_rms, blk_0]; rfl

theorem row_sc : k0_pay7 (F := Ideal) (View.ld (b2 m c t) rM) (ix2 0 j) = sc (m ((c : Thread nD τ).loc main_arg2)) (st (t.val * 256 + k.val)) j.val := by
  rw [pay7_apply, ld_2, blk_2, st_blk]; rfl

theorem rowv_apply :
    rowv (b0 m c t) (b1 m c t) (b2 m c t) (b3 m c t) (b4 m c t) (ix2 k j)
      = dx (m ((c : Thread nD τ).loc main_arg0)) (m ((c : Thread nD τ).loc main_arg1)) (m ((c : Thread nD τ).loc main_arg2))
        (m ((c : Thread nD τ).loc main_arg3)) (m ((c : Thread nD τ).loc main_arg4)) (t.val * 256 + k.val) j.val := by
  unfold rowv
  rw [View.ld_unit_zero (S := S256x2048) z2, View.ld_unit_zero (S := S256x2048) z2, View.ld_unit_zero (S := S256x2048) z2, View.ld_unit_zero (S := S1x2048) z2]
  rw [pay8_apply, row_rms]
  simp only [row_xh, row_sc m c t k, pay6_apply, blk_1, blk_3, blk_4]
  rfl

end Rows

def T (a j k : ℕ) : EReal := term (m ((c : Thread nD τ).loc main_arg0)) (m ((c : Thread nD τ).loc main_arg1)) (m ((c : Thread nD τ).loc main_arg2))
  (m ((c : Thread nD τ).loc main_arg3)) a j k

theorem part_apply (t : Fin cfg0.N) (a : Fin 8) (j : Fin 2048) :
    k0_pay1 (F := Ideal) (k0_pay7 (View.ld (b2 m c t) rM)) (k0_pay9 (b0 m c t) (b3 m c t)) (k0_pay10 (b3 m c t)) (k0_pay11 (b1 m c t)) (ix2 a j)
      = ∑ k : Fin 256, T m c a.val j.val (t.val * 256 + k.val) := by
  rw [pay1_apply]
  unfold T term
  by_cases h0 : a.val = 0
  · simp only [if_pos h0, pay10_apply, pay6_apply, blk_3]
  by_cases h1 : a.val = 1
  · simp only [if_neg h0, if_pos h1, pay9_apply, pay11_apply, pay6_apply, blk_3, row_xh, blk_1]
  by_cases h2 : a.val = 2
  · simp only [if_neg h0, if_neg h1, if_pos h2, pay9_apply, pay6_apply, blk_3, row_xh]
    exact Finset.sum_congr rfl fun k _ => by rw [row_sc m c t k]
  · simp only [if_neg h0, if_neg h1, if_neg h2, Finset.sum_const_zero]

theorem acc1_apply (t : Fin cfg0.N) (a : Fin 8) (j : Fin 2048) : acc1 (b0 m c t) (b1 m c t) (b2 m c t) (b3 m c t) (b4 m c t) (ix3 0 a j)
    = ∑ k : Fin 256, T m c a.val j.val (t.val * 256 + k.val) := by
  unfold acc1
  rw [View.ld_unit_zero (S := S256x2048) z2, View.ld_unit_zero (S := S256x2048) z2, View.ld_unit_zero (S := S1x2048) z2]
  refine Eq.trans ?_ (part_apply m c t a j)
  pointwise [k0_pay2]

theorem acc2_apply (t : Fin cfg0.N) (y : Vec Ideal S1x8x2048 .f32) (a : Fin 8) (j : Fin 2048) : acc2 (b0 m c t) (b1 m c t) (b2 m c t) (b3 m c t) (b4 m c t) y (ix3 0 a j)
    = y (ix3 0 a j) + ∑ k : Fin 256, T m c a.val j.val (t.val * 256 + k.val) := by
  unfold acc2
  rw [View.ld_unit_zero (S := S256x2048) z2, View.ld_unit_zero (S := S256x2048) z2, View.ld_unit_zero (S := S1x2048) z2, View.ld_unit_zero (S := S1x8x2048) z3]
  rw [← part_apply m c t a j]
  pointwise [k0_pay3]

theorem acc_apply (n : ℕ) : ∀ (hn : n < cfg0.N) (a : Fin 8) (j : Fin 2048), accAt m c n hn (ix3 0 a j) = upTo (T m c a.val j.val) n := by
  induction n using Nat.strong_induction_on with
  | _ n ih =>
    intro hn a j
    by_cases h : n < 2
    · refine (congrFun (accAt_first m c ⟨n, hn⟩ h) (ix3 0 a j)).trans ((acc1_apply m c _ a j).trans ?_)
      exact upTo_first _ h
    · refine (congrFun (accAt_later m c ⟨n, hn⟩ h) (ix3 0 a j)).trans ((acc2_apply m c _ _ a j).trans ?_)
      rw [ih (n - 1) (by omega)]
      exact upTo_later _ h

theorem final_M : (dats (F := Ideal) m 0 c).arrAt 5 cfg0.N = specM (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h := N_le t
  blk_simp
  rw [after_5]
  obtain ⟨r, s, rfl⟩ : ∃ (r : Fin 256) (s : Fin 2048), y = ix2 r s := ⟨y 0, y 1, funext fun a => by match a with | 0 => rfl | 1 => rfl⟩
  refine (rowv_apply m c t r s).trans ?_
  unfold specM
  blk_simp [ix_5 t]

theorem final_S : (dats (F := Ideal) m 0 c).arrAt 6 cfg0.N = specS (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have h := N_le t
  have h2 := (flush_sum t).mp hf
  blk_simp
  rw [after_6]
  obtain ⟨r, s, rfl⟩ : ∃ (r : Fin 8) (s : Fin 2048), y = ix3 0 r s := ⟨y 1, y 2, funext fun a => by
    match a with
    | 0 => exact Fin.ext (by have h0 : (y 0).val < 1 := (y 0).isLt; show (y 0).val = 0; omega)
    | 1 => rfl
    | 2 => rfl⟩
  refine (acc_apply m c t.val t.isLt r s).trans ?_
  unfold specS
  blk_simp [ix_6 t]
  rcases h2 with e | e
  · rw [e]; exact upTo_zero _
  · rw [e]; exact upTo_last _

end Cert.NormFfnIdeal.Hand

end
-- ==== Proof.Stream.NormFfnClaim.lean ====
/-
  The gradient of the norm of the feed-forward layer: kernel and reference end with the same arrays.
-/
module

public import proofs.«01_k».proof.Defs
public import proofs.«01_k».proof.Proof.Stream.Norm
public import proofs.«01_k».proof.Proof.Stream.NormFfn
public import proofs.«01_k».proof.Proof.Gen.NormFfn
public import proofs.«01_k».proof.Proof.Gen.NormFfnRefIdeal.Run
public import proofs.«01_k».proof.Proof.Gen.NormFfnRefIdeal.Read
public import Idealize.ShloMosaic.Lib.Quiescent
public import Idealize.ShloMosaic.Lib.Claim
public import Idealize.ShloMosaic.Lib.KernelVsHost

@[expose] public section

set_option maxRecDepth 16384

noncomputable section

namespace Cert.NormFfnRefIdeal.Hand

open Cert.NormFfnRefIdeal Cert.NormFfnRefIdeal.Gen Cert.NormFfnRefIdeal.Read Cert.Prod Cert.Stream Cert.Stream.NormFfn
open Idealize.ShloMosaic Idealize.ShloMosaic.TcCoe Idealize.ShloMosaic.Tactic

variable (x0 : (⟨2, ![8448, 2048]⟩ : Shape).Idx → EReal) (x1 : (⟨2, ![1, 2048]⟩ : Shape).Idx → EReal) (x2 : (⟨3, ![2, 6, 2048]⟩ : Shape).Idx → EReal)
  (x3 x4 : (⟨2, ![8448, 2048]⟩ : Shape).Idx → EReal)

/-- The mean square of a row, the small number added. -/
abbrev ms (r : ℕ) : EReal := Ideal.div (∑ l : Fin 2048, at2 x0 r l.val * at2 x0 r l.val) width + eps

theorem one_one : one = 1 := by simp [one]

/-- The reference's gradient of a row is the kernel's. -/
theorem row_eq (r j : ℕ) :
    g x1 x2 x3 r j * rms x0 r + at2 x0 r j * Ideal.div ((∑ l : Fin 2048, at2 x0 r l.val * g x1 x2 x3 r l.val) * (Ideal.ofBits .f32 0xBF000000#32 * Ideal.div (rms x0 r) (ms x0 r))) width
      + Ideal.div ((∑ l : Fin 2048, at2 x0 r l.val * g x1 x2 x3 r l.val) * (Ideal.ofBits .f32 0xBF000000#32 * Ideal.div (rms x0 r) (ms x0 r))) width * at2 x0 r j
    = rms x0 r * (g x1 x2 x3 r j - xh x0 r j * Ideal.div (∑ l : Fin 2048, g x1 x2 x3 r l.val * xh x0 r l.val) width) := by
  obtain ⟨ρ, hρ, e1, e2⟩ := root (∑ l : Fin 2048, at2 x0 r l.val * at2 x0 r l.val) (Finset.sum_nonneg fun l _ => sq_nonneg' _)
  have e1' : rms x0 r = (ρ : EReal) := e1
  have e2' : Ideal.div (rms x0 r) (ms x0 r) = ((ρ * ρ * ρ : ℝ) : EReal) := e2
  rw [e2', half_real]
  unfold xh
  simp only [e1', div_width]
  exact (norm_eq ρ hρ (fun l : Fin 2048 => at2 x0 r l.val) (fun l => g x1 x2 x3 r l.val) _ _).symm

/-! ### The rows 0 to 255 -/

theorem c_x (k : Fin 256) (j : Fin 2048) : val_main_v0 (F := Ideal) x0 (ix2 k j) = at2 x0 k.val j.val := by
  pointwise [val_main_v0]
  exact (at2_lt x0 (by omega) j.isLt).symm

theorem c_dh (k : Fin 256) (j : Fin 2048) : val_main_v3 (F := Ideal) x3 (ix2 k j) = at2 x3 k.val j.val := by
  pointwise [val_main_v3, val_main_v2]
  exact (at2_lt x3 (by omega) j.isLt).symm

theorem c_nw (j : Fin 2048) : val_main_v27 (F := Ideal) x1 (ix2 0 j) = at2 x1 0 j.val := by
  pointwise [val_main_v27, val_main_v9]
  exact (at2_lt x1 (by decide) j.isLt).symm

theorem c_sc (j : Fin 2048) : val_main_v32 (F := Ideal) x2 (ix2 0 j) = sc x2 0 j.val := by
  pointwise [val_main_v32, val_main_v31, val_main_v30, val_main_cst_3, val_main_v13, val_main_v12, val_main_v6, val_main_v5]
  unfold sc
  rw [at3_lt _ (by decide) (by decide) j.isLt, one_one]
  rfl

theorem c_ms (k : Fin 256) : val_main_v20 (F := Ideal) x0 (ix2 k 0) = ms x0 k.val := by
  pointwise [val_main_v20, val_main_v19, val_main_v18, val_main_v17, val_main_v16, val_main_v15, val_main_v14, val_main_cst, val_main_cst_0, val_main_cst_1]
  simp only [c_x]

theorem c_rms (k : Fin 256) : val_main_v21 (F := Ideal) x0 (ix2 k 0) = rms x0 k.val := by
  pointwise [val_main_v21]
  rw [c_ms]
  rfl

theorem c_cube (k : Fin 256) : val_main_v24 (F := Ideal) x0 (ix2 k 0) = Ideal.ofBits .f32 0xBF000000#32 * Ideal.div (rms x0 k.val) (ms x0 k.val) := by
  pointwise [val_main_v24, val_main_v23, val_main_cst_2, val_main_v22]
  rw [c_rms, c_ms]

theorem c_xh (k : Fin 256) (j : Fin 2048) : val_main_v26 (F := Ideal) x0 (ix2 k j) = xh x0 k.val j.val := by
  pointwise [val_main_v26, val_main_v25]
  rw [c_rms, c_x]
  rfl

theorem c_st (k : Fin 256) : st k.val = 0 := if_pos k.isLt

theorem c_t (k : Fin 256) (j : Fin 2048) : val_main_v45 (F := Ideal) x2 x3 (ix2 k j) = at2 x3 k.val j.val * sc x2 (st k.val) j.val := by
  pointwise [val_main_v45, val_main_v44]
  rw [c_sc, c_dh, c_st]

theorem c_g (k : Fin 256) (j : Fin 2048) : val_main_v51 (F := Ideal) x1 x2 x3 (ix2 k j) = g x1 x2 x3 k.val j.val := by
  pointwise [val_main_v51, val_main_v50]
  rw [c_nw, c_t]
  exact (mul_assoc _ _ _).trans (congrArg (_ * ·) (mul_comm _ _))

theorem c_row (k : Fin 256) (j : Fin 2048) : val_main_v66 (F := Ideal) x0 x1 x2 x3 (ix2 k j)
    = rms x0 k.val * (g x1 x2 x3 k.val j.val - xh x0 k.val j.val * Ideal.div (∑ l : Fin 2048, g x1 x2 x3 k.val l.val * xh x0 k.val l.val) width) := by
  pointwise [val_main_v66, val_main_v65, val_main_v64, val_main_v63, val_main_v62, val_main_v57, val_main_v56, val_main_v61, val_main_cst_12, val_main_v60, val_main_v59, val_main_v58, val_main_v55, val_main_v54, val_main_v53, val_main_cst_10, val_main_cst_11]
  simp only [c_x, c_g, c_rms, c_cube, Fin.sum_univ_one]
  exact row_eq x0 x1 x2 x3 k.val j.val

theorem c_rows (a : Fin 3) (j : Fin 2048) : val_main_v70 (F := Ideal) x0 x1 x2 x3 (ix2 a j) = total (term x0 x1 x2 x3 a.val j.val) 0 := by
  pointwise [val_main_v70, val_main_v67, val_main_v68, val_main_v69, val_main_v52, val_main_v49, val_main_v48, val_main_v47, val_main_cst_9, val_main_cst_8, val_main_v46, val_main_v43, val_main_v42, val_main_v41, val_main_v29, val_main_v28, val_main_cst_7, val_main_cst_6, val_main_v40, val_main_v39, val_main_v38, val_main_cst_5, val_main_cst_4]
  simp only [c_xh, c_nw, c_dh, c_t, Fin.sum_univ_one]
  unfold total term
  rw [if_pos rfl, Finset.sum_range]
  match a with
  | 0 => rfl
  | 1 =>
    show (∑ k : Fin 256, xh x0 k.val j.val * at2 x1 0 j.val * at2 x3 k.val j.val) = ∑ k : Fin 256, at2 x3 k.val j.val * xh x0 k.val j.val * at2 x1 0 j.val
    exact Finset.sum_congr rfl fun k _ => by ac_rfl
  | 2 =>
    show (∑ k : Fin 256, xh x0 k.val j.val * (at2 x3 k.val j.val * sc x2 (st k.val) j.val)) = ∑ k : Fin 256, at2 x3 k.val j.val * xh x0 k.val j.val * sc x2 (st k.val) j.val
    exact Finset.sum_congr rfl fun k _ => by ac_rfl

/-! ### The rows after the first 256 -/

theorem l_x (k : Fin 8192) (j : Fin 2048) : val_main_v1 (F := Ideal) x0 (ix2 k j) = at2 x0 (256 + k.val) j.val := by
  pointwise [val_main_v1]
  exact (at2_lt x0 (by omega) j.isLt).symm

theorem l_dh (k : Fin 8192) (j : Fin 2048) : val_main_v4 (F := Ideal) x3 (ix2 k j) = at2 x3 (256 + k.val) j.val := by
  pointwise [val_main_v4, val_main_v2]
  exact (at2_lt x3 (by omega) j.isLt).symm

theorem l_nw (j : Fin 2048) : val_main_v89 (F := Ideal) x1 (ix2 0 j) = at2 x1 0 j.val := by
  pointwise [val_main_v89, val_main_v71]
  exact (at2_lt x1 (by decide) j.isLt).symm

theorem l_sc (j : Fin 2048) : val_main_v94 (F := Ideal) x2 (ix2 0 j) = sc x2 1 j.val := by
  pointwise [val_main_v94, val_main_v93, val_main_v92, val_main_cst_17, val_main_v75, val_main_v74, val_main_v8, val_main_v7]
  unfold sc
  rw [at3_lt _ (by decide) (by decide) j.isLt, one_one]
  rfl

theorem l_ms (k : Fin 8192) : val_main_v82 (F := Ideal) x0 (ix2 k 0) = ms x0 (256 + k.val) := by
  pointwise [val_main_v82, val_main_v81, val_main_v80, val_main_v79, val_main_v78, val_main_v77, val_main_v76, val_main_cst_13, val_main_cst_14, val_main_cst_15]
  simp only [l_x]

theorem l_rms (k : Fin 8192) : val_main_v83 (F := Ideal) x0 (ix2 k 0) = rms x0 (256 + k.val) := by
  pointwise [val_main_v83]
  rw [l_ms]
  rfl

theorem l_cube (k : Fin 8192) : val_main_v86 (F := Ideal) x0 (ix2 k 0) = Ideal.ofBits .f32 0xBF000000#32 * Ideal.div (rms x0 (256 + k.val)) (ms x0 (256 + k.val)) := by
  pointwise [val_main_v86, val_main_v85, val_main_cst_16, val_main_v84]
  rw [l_rms, l_ms]

theorem l_xh (k : Fin 8192) (j : Fin 2048) : val_main_v88 (F := Ideal) x0 (ix2 k j) = xh x0 (256 + k.val) j.val := by
  pointwise [val_main_v88, val_main_v87]
  rw [l_rms, l_x]
  rfl

theorem l_st (k : Fin 8192) : st (256 + k.val) = 1 := if_neg (by omega)

theorem l_t (k : Fin 8192) (j : Fin 2048) : val_main_v107 (F := Ideal) x2 x3 (ix2 k j) = at2 x3 (256 + k.val) j.val * sc x2 (st (256 + k.val)) j.val := by
  pointwise [val_main_v107, val_main_v106]
  rw [l_sc, l_dh, l_st]

theorem l_g (k : Fin 8192) (j : Fin 2048) : val_main_v113 (F := Ideal) x1 x2 x3 (ix2 k j) = g x1 x2 x3 (256 + k.val) j.val := by
  pointwise [val_main_v113, val_main_v112]
  rw [l_nw, l_t]
  exact (mul_assoc _ _ _).trans (congrArg (_ * ·) (mul_comm _ _))

theorem l_row (k : Fin 8192) (j : Fin 2048) : val_main_v128 (F := Ideal) x0 x1 x2 x3 (ix2 k j)
    = rms x0 (256 + k.val) * (g x1 x2 x3 (256 + k.val) j.val - xh x0 (256 + k.val) j.val * Ideal.div (∑ l : Fin 2048, g x1 x2 x3 (256 + k.val) l.val * xh x0 (256 + k.val) l.val) width) := by
  pointwise [val_main_v128, val_main_v127, val_main_v126, val_main_v125, val_main_v124, val_main_v119, val_main_v118, val_main_v123, val_main_cst_26, val_main_v122, val_main_v121, val_main_v120, val_main_v117, val_main_v116, val_main_v115, val_main_cst_24, val_main_cst_25]
  simp only [l_x, l_g, l_rms, l_cube, Fin.sum_univ_one]
  exact row_eq x0 x1 x2 x3 (256 + k.val) j.val

theorem l_rows (a : Fin 3) (j : Fin 2048) : val_main_v132 (F := Ideal) x0 x1 x2 x3 (ix2 a j) = total (term x0 x1 x2 x3 a.val j.val) 1 := by
  pointwise [val_main_v132, val_main_v129, val_main_v130, val_main_v131, val_main_v114, val_main_v111, val_main_v110, val_main_v109, val_main_cst_23, val_main_cst_22, val_main_v108, val_main_v105, val_main_v104, val_main_v103, val_main_v91, val_main_v90, val_main_cst_21, val_main_cst_20, val_main_v102, val_main_v101, val_main_v100, val_main_cst_19, val_main_cst_18]
  simp only [l_xh, l_nw, l_dh, l_t, Fin.sum_univ_one]
  unfold total term
  rw [if_neg (by decide), Finset.sum_range]
  match a with
  | 0 => rfl
  | 1 =>
    show (∑ k : Fin 8192, xh x0 (256 + k.val) j.val * at2 x1 0 j.val * at2 x3 (256 + k.val) j.val) = ∑ k : Fin 8192, at2 x3 (256 + k.val) j.val * xh x0 (256 + k.val) j.val * at2 x1 0 j.val
    exact Finset.sum_congr rfl fun k _ => by ac_rfl
  | 2 =>
    show (∑ k : Fin 8192, xh x0 (256 + k.val) j.val * (at2 x3 (256 + k.val) j.val * sc x2 (st (256 + k.val)) j.val)) = ∑ k : Fin 8192, at2 x3 (256 + k.val) j.val * xh x0 (256 + k.val) j.val * sc x2 (st (256 + k.val)) j.val
    exact Finset.sum_congr rfl fun k _ => by ac_rfl

/-! ### The results -/

theorem result_M : val_main_v134 (F := Ideal) x0 x1 x2 x3 x4 = specM x0 x1 x2 x3 x4 := by
  funext i
  obtain ⟨r, j, rfl⟩ : ∃ (r : Fin 8448) (j : Fin 2048), i = ix2 r j := ⟨i 0, i 1, funext fun b => by match b with | 0 => rfl | 1 => rfl⟩
  pointwise [val_main_v134, val_main_v133]
  simp only [c_row, l_row]
  show _ = dx x0 x1 x2 x3 x4 r.val j.val
  unfold dx
  rw [at2_lt x4 r.isLt j.isLt]
  refine congrArg (_ + ·) ?_
  split
  · rfl
  · rw [show 256 + (r.val - 256) = r.val by omega]

theorem pad_zero (i : S_.Idx) : val_main_call0_v0 (F := Ideal) i = (0 : EReal) := by
  rw [val_main_call0_v0_apply, val_main_c_apply]
  show (((0#32 : BitVec 32).toInt : ℝ) : EReal) = 0
  simp

theorem result_S : val_main_v138 (F := Ideal) x0 x1 x2 x3 = specS x0 x1 x2 x3 := by
  funext i
  obtain ⟨r, a, j, rfl⟩ : ∃ (r : Fin 2) (a : Fin 8) (j : Fin 2048), i = ix3 r a j := ⟨i 0, i 1, i 2, funext fun b => by match b with | 0 => rfl | 1 => rfl | 2 => rfl⟩
  pointwise [val_main_v138, val_main_v137, val_main_v136, val_main_v135]
  simp only [c_rows, l_rows, pad_zero]
  show _ = total (term x0 x1 x2 x3 a.val j.val) r.val
  split
  · match r with
    | 0 => rfl
    | 1 => rfl
  · unfold total term
    simp only [if_neg (show ¬ a.val = 0 by omega), if_neg (show ¬ a.val = 1 by omega), if_neg (show ¬ a.val = 2 by omega),
      Finset.sum_const_zero, ite_self]

end Cert.NormFfnRefIdeal.Hand

namespace Cert.Stream.NormFfn

open Idealize.ShloMosaic Idealize.SL.Sem

section Twin

variable {F : FTy → Type} [FloatOps F]

theorem e_body : @Cert.NormFfn.cc0_normmod_bwd F _ Cert.NormFfn.Gen.facts = @Cert.NormFfnIdeal.cc0_normmod_bwd F _ Cert.NormFfnIdeal.Gen.facts := rfl

theorem e_defs₀ : @Cert.NormFfn.defs₀ F _ Cert.NormFfn.Gen.facts = @Cert.NormFfnIdeal.defs₀ F _ Cert.NormFfnIdeal.Gen.facts := by
  unfold Cert.NormFfn.defs₀ Cert.NormFfnIdeal.defs₀
  refine congrArg (Defs.onTc (nD := Cert.NormFfnIdeal.nD) (τ := Cert.NormFfnIdeal.τ) (sig := Cert.NormFfnIdeal.sig) (Val := Elt F) (Λ := Cert.NormFfnIdeal.Λ₀)) ?_
  funext l a
  match l, a with
  | 0, (t, s) => rfl
  | ⟨n + 1, h⟩, _ => exact absurd h (Nat.not_lt.2 (Nat.le_add_left _ _))

theorem e_defs : @Cert.NormFfn.defs F _ Cert.NormFfn.Gen.facts = @Cert.NormFfnIdeal.defs F _ Cert.NormFfnIdeal.Gen.facts := by
  unfold Cert.NormFfn.defs Cert.NormFfnIdeal.defs
  exact congrArg (Pipeline.defs Cert.NormFfnIdeal.pcfgs) e_defs₀

theorem e_main : @Cert.NormFfn.main F _ = @Cert.NormFfnIdeal.main F _ := rfl

end Twin

/-- The kernel as printed runs, its arguments end as they began and every counter is at zero: it is the idealized
    program's text, of which the run is proved for every float instance. -/
theorem frame_kernel : Cert.quiescent_NormFfn := fun m g _ => by
  rw [e_defs, e_main]
  exact Cert.NormFfnIdeal.Hand.frame (F := Bits) m g

theorem frame_ideal : Cert.quiescent_NormFfnIdeal := fun m g _ => Cert.NormFfnIdeal.Hand.frame (F := Ideal) m g

theorem frame_reference : Cert.quiescent_NormFfnRefIdeal := fun m g _ =>
  (θ_run (Cert.NormFfnRefIdeal.defs (F := Ideal)) _ _).mono (fun r h => ⟨fun c => (h c).2.2, sem_eq_zero_of_no_sems rfl r.2⟩) (Cert.NormFfnRefIdeal.Value.run (F := Ideal) m g)

/-- From equal arguments the two programs end with equal results. -/
theorem same : Cert.algebraic_NormFfnIdeal_NormFfnRefIdeal := fun m g m' g' _ hagree => by
  refine ⟨fun c => specM (m ((c.tc : Thread Cert.NormFfnIdeal.nD Cert.NormFfnIdeal.τ).loc Cert.NormFfnIdeal.main_arg0)) (m ((c.tc : Thread Cert.NormFfnIdeal.nD Cert.NormFfnIdeal.τ).loc Cert.NormFfnIdeal.main_arg1)) (m ((c.tc : Thread Cert.NormFfnIdeal.nD Cert.NormFfnIdeal.τ).loc Cert.NormFfnIdeal.main_arg2)) (m ((c.tc : Thread Cert.NormFfnIdeal.nD Cert.NormFfnIdeal.τ).loc Cert.NormFfnIdeal.main_arg3)) (m ((c.tc : Thread Cert.NormFfnIdeal.nD Cert.NormFfnIdeal.τ).loc Cert.NormFfnIdeal.main_arg4)),
    fun c => specS (m ((c.tc : Thread Cert.NormFfnIdeal.nD Cert.NormFfnIdeal.τ).loc Cert.NormFfnIdeal.main_arg0)) (m ((c.tc : Thread Cert.NormFfnIdeal.nD Cert.NormFfnIdeal.τ).loc Cert.NormFfnIdeal.main_arg1)) (m ((c.tc : Thread Cert.NormFfnIdeal.nD Cert.NormFfnIdeal.τ).loc Cert.NormFfnIdeal.main_arg2)) (m ((c.tc : Thread Cert.NormFfnIdeal.nD Cert.NormFfnIdeal.τ).loc Cert.NormFfnIdeal.main_arg3)), ?_, ?_⟩
  · refine (θ_run (Cert.NormFfnIdeal.defs (F := Ideal)) _ _).mono (fun r h c => ?_)
      (θ_run_and (Cert.NormFfnIdeal.Hand.run_main (F := Ideal) m g) (Cert.NormFfnIdeal.Hand.frame (F := Ideal) m g))
    exact ⟨(h.1.1.out_eq c 5).trans (Cert.NormFfnIdeal.Hand.final_M m c), (h.1.1.out_eq c 6).trans (Cert.NormFfnIdeal.Hand.final_S m c), h.2.1 c⟩
  · refine (θ_run (Cert.NormFfnRefIdeal.defs (F := Ideal)) _ _).mono (fun r h c => ?_) (Cert.NormFfnRefIdeal.Value.run (F := Ideal) m' g')
    obtain ⟨h0, h1, ha⟩ := h c
    obtain ⟨a0, a1, a2, a3, a4⟩ := hagree c
    rw [Cert.NormFfnRefIdeal.Read.val_main_v134_eq, a0, a1, a2, a3, a4] at h0
    rw [Cert.NormFfnRefIdeal.Read.val_main_v138_eq, a0, a1, a2, a3] at h1
    exact ⟨h0.trans (Cert.NormFfnRefIdeal.Hand.result_M _ _ _ _ _), h1.trans (Cert.NormFfnRefIdeal.Hand.result_S _ _ _ _), ha⟩

end Cert.Stream.NormFfn

end
-- ==== Proof.Stream.NormMixFrame.lean ====
/-
  The gradient of the norm: the run of the call. What the body leaves of the blocks it is handed, in its two cases, at the first block of
  a stream (the sums are overwritten) and at a later one (they are added to).
-/
module

public import proofs.«01_k».proof.Proof.Put
public import proofs.«01_k».proof.Proof.Gen.NormMixIdeal.Frame
public import proofs.«01_k».proof.Proof.Gen.NormMixIdeal.Skeleton
public import Idealize.ShloMosaic.Lib.Claim
public import Idealize.ShloMosaic.Lib.Tactic

@[expose] public section

set_option maxRecDepth 16384

noncomputable section

namespace Cert.NormMixIdeal.Hand

open Cert.NormMixIdeal Cert.NormMixIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### What the body computes -/

abbrev rX : Rect S256x2048 := Rect.unit (s := S256x2048) ![0, 0] S256x2048.size inb_S256x2048_S256x2048_0_0
abbrev rS : Rect S1x8x2048 := Rect.unit (s := S1x8x2048) ![0, 0, 0] S1x8x2048.size inb_S1x8x2048_S1x8x2048_0_0_0
abbrev rM : Rect S1x6x2048 := Rect.unit (s := S1x6x2048) ![0, 1, 0] S1x1x2048.size inb_S1x6x2048_S1x1x2048_0_1_0
abbrev rW : Rect S1x2048 := Rect.unit (s := S1x2048) ![0, 0] S1x2048.size inb_S1x2048_S1x2048_0_0

/-- The rows that the body leaves, the sums of a first block, and those of a later one. -/
def rowv (x0 : Vec F S256x2048 .f32) (x1 : Vec F S1x2048 .f32) (x2 : Vec F S1x6x2048 .f32) (x3 : Vec F S256x2048 .bf16) (x4 : Vec F S256x2048 .f32) : Vec F S256x2048 .f32 := k0_pay8 (View.ld x0 rX) (View.ld x3 rX) (View.ld x2 rM) (View.ld x1 rW) (View.ld x4 rX)
def acc1 (x0 : Vec F S256x2048 .f32) (x1 : Vec F S1x2048 .f32) (x2 : Vec F S1x6x2048 .f32) (x3 : Vec F S256x2048 .bf16) (x4 : Vec F S256x2048 .f32) : Vec F S1x8x2048 .f32 := k0_pay2 (k0_pay7 (View.ld x2 rM)) (k0_pay9 (View.ld x0 rX) (View.ld x3 rX)) (k0_pay10 (View.ld x3 rX)) (k0_pay11 (View.ld x1 rW))
def acc2 (x0 : Vec F S256x2048 .f32) (x1 : Vec F S1x2048 .f32) (x2 : Vec F S1x6x2048 .f32) (x3 : Vec F S256x2048 .bf16) (x4 : Vec F S256x2048 .f32) (y : Vec F S1x8x2048 .f32) : Vec F S1x8x2048 .f32 := k0_pay3 (k0_pay7 (View.ld x2 rM)) (k0_pay9 (View.ld x0 rX) (View.ld x3 rX)) (k0_pay10 (View.ld x3 rX)) (k0_pay11 (View.ld x1 rW)) (View.ld y rS)

set_option maxHeartbeats 4000000 in
/-- A later block of a stream. -/
theorem runB (c : Dev nD) (i : grid0.Coords)
    (arg1 : Memref sig .tc .vmem S256x2048 .f32) (harg1 : arg1.IsWhole)
    (arg2 : Memref sig .tc .vmem S1x2048 .f32) (harg2 : arg2.IsWhole)
    (arg3 : Memref sig .tc .vmem S1x6x2048 .f32) (harg3 : arg3.IsWhole)
    (arg4 : Memref sig .tc .vmem S256x2048 .bf16) (harg4 : arg4.IsWhole)
    (arg5 : Memref sig .tc .vmem S256x2048 .f32) (harg5 : arg5.IsWhole)
    (arg6 : Memref sig .tc .vmem S256x2048 .f32) (harg6 : arg6.IsWhole)
    (arg7 : Memref sig .tc .vmem S1x8x2048 .f32) (harg7 : arg7.IsWhole)
    (hc1 : ¬ k0_cond1 i = 1#1) (hc2 : k0_cond2 i = 1#1)
    (x0 : Vec F S256x2048 .f32) (x1 : Vec F S1x2048 .f32) (x2 : Vec F S1x6x2048 .f32) (x3 : Vec F S256x2048 .bf16) (x4 : Vec F S256x2048 .f32) (y : Vec F S1x8x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare y
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (rowv x0 x1 x2 x3 x4)
      ∗ owns (c : Thread nD τ) arg7 fullShare (acc2 x0 x1 x2 x3 x4 y)) -∗ K ⟨⟩))
    ⊢ wp frame (wpE (defs₀ (F := F)) Variants.none c none) E
        (cc0_normmod_bwd i arg1 harg1 arg2 harg2 arg3 harg3 arg4 harg4 arg5 harg5 arg6 harg6 arg7 harg7) K := by
  simp only [cc0_normmod_bwd_eq_skeleton]; unfold cc0_normmod_bwd_skel
  simp only [k0_part1_eq_skeleton]
  unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  sl_exec (disch := first | sl_exact hc1 | sl_exact hc2)
  sl_step
  iapply Hk
  subst hf0 hf1 hf2 hf3 hf4 hf6
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]
  · iexists _; isplitr; swap; · iexact H5
    ipureintro
    rw [read_writes_put, put_whole _ (by decide)]
    rfl
  · iexists _; isplitr; swap; · iexact H6
    ipureintro
    rw [read_writes_put, put_whole _ (by decide)]
    rfl

set_option maxHeartbeats 4000000 in
/-- The first block of a stream. -/
theorem runA (c : Dev nD) (i : grid0.Coords)
    (arg1 : Memref sig .tc .vmem S256x2048 .f32) (harg1 : arg1.IsWhole)
    (arg2 : Memref sig .tc .vmem S1x2048 .f32) (harg2 : arg2.IsWhole)
    (arg3 : Memref sig .tc .vmem S1x6x2048 .f32) (harg3 : arg3.IsWhole)
    (arg4 : Memref sig .tc .vmem S256x2048 .bf16) (harg4 : arg4.IsWhole)
    (arg5 : Memref sig .tc .vmem S256x2048 .f32) (harg5 : arg5.IsWhole)
    (arg6 : Memref sig .tc .vmem S256x2048 .f32) (harg6 : arg6.IsWhole)
    (arg7 : Memref sig .tc .vmem S1x8x2048 .f32) (harg7 : arg7.IsWhole)
    (hc1 : k0_cond1 i = 1#1) (hc2 : ¬ k0_cond2 i = 1#1)
    (x0 : Vec F S256x2048 .f32) (x1 : Vec F S1x2048 .f32) (x2 : Vec F S1x6x2048 .f32) (x3 : Vec F S256x2048 .bf16) (x4 : Vec F S256x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (rowv x0 x1 x2 x3 x4)
      ∗ owns (c : Thread nD τ) arg7 fullShare (acc1 x0 x1 x2 x3 x4)) -∗ K ⟨⟩))
    ⊢ wp frame (wpE (defs₀ (F := F)) Variants.none c none) E
        (cc0_normmod_bwd i arg1 harg1 arg2 harg2 arg3 harg3 arg4 harg4 arg5 harg5 arg6 harg6 arg7 harg7) K := by
  simp only [cc0_normmod_bwd_eq_skeleton]; unfold cc0_normmod_bwd_skel
  simp only [k0_part1_eq_skeleton]
  unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  sl_exec (disch := first | sl_exact hc1 | sl_exact hc2)
  sl_step
  iapply Hk
  subst hf0 hf1 hf2 hf3 hf4
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]
  · iexists _; isplitr; swap; · iexact H5
    ipureintro
    rw [read_writes_put, put_whole _ (by decide)]
    rfl
  · iexists _; isplitr; swap; · iexact H6
    ipureintro
    rw [read_writes_put, put_whole _ (by decide)]
    rfl

variable (m : (ℓ : Loc nD τ sig) → Buf (Elt F) ℓ) (ρ : Dev nD → PrngReg)

/-! ### Which case a point is in -/

theorem cond1_iff : ∀ t : Fin cfg0.N, k0_cond1 (grid0.coords t) = 1#1 ↔ t.val < 2 :=
  (by decide +kernel : ∀ t : Fin grid0.N, k0_cond1 (grid0.coords t) = 1#1 ↔ t.val < 2)
theorem cond2_iff : ∀ t : Fin cfg0.N, k0_cond2 (grid0.coords t) = 1#1 ↔ ¬ t.val < 2 :=
  (by decide +kernel : ∀ t : Fin grid0.N, k0_cond2 (grid0.coords t) = 1#1 ↔ ¬ t.val < 2)
theorem live (i : grid0.Coords) : cfg0.idle 6 i = false := by
  have h : ∀ q : Fin 33, (!(Scalar.cmpi .ne (Scalar.extui (Scalar.ori (Scalar.cmpi .eq (BitVec.ofNat 32 q.val) 0#32) (Scalar.cmpi .eq (BitVec.ofNat 32 q.val) 1#32))) 0#32 == 1#1)
      && !(Scalar.cmpi .ne (Scalar.extui (Scalar.andi (Scalar.cmpi .ne (BitVec.ofNat 32 q.val) 0#32) (Scalar.cmpi .ne (BitVec.ofNat 32 q.val) 1#32))) 0#32 == 1#1)) = false := by
    decide +kernel
  exact h (i 0)
theorem flush_sum : ∀ t : Fin cfg0.N, (cfg0.win 6).flush t = true ↔ t.val = 0 ∨ t.val = 32 :=
  (by decide +kernel : ∀ t : Fin grid0.N, (cfg0.win 6).flush t = true ↔ t.val = 0 ∨ t.val = 32)

/-! ### The sums -/

abbrev b0 (c : Dev nD) (t : Fin cfg0.N) : Vec F S256x2048 .f32 := iblk m c 0 t
abbrev b1 (c : Dev nD) (t : Fin cfg0.N) : Vec F S1x2048 .f32 := iblk m c 1 t
abbrev b2 (c : Dev nD) (t : Fin cfg0.N) : Vec F S1x6x2048 .f32 := iblk m c 2 t
abbrev b3 (c : Dev nD) (t : Fin cfg0.N) : Vec F S256x2048 .bf16 := iblk m c 3 t
abbrev b4 (c : Dev nD) (t : Fin cfg0.N) : Vec F S256x2048 .f32 := iblk m c 4 t

/-- The sums after point `n`. -/
def accAt (c : Dev nD) : (n : ℕ) → n < cfg0.N → Vec F S1x8x2048 .f32
  | 0, h => acc1 (b0 m c ⟨0, h⟩) (b1 m c ⟨0, h⟩) (b2 m c ⟨0, h⟩) (b3 m c ⟨0, h⟩) (b4 m c ⟨0, h⟩)
  | n + 1, h => if n + 1 < 2 then acc1 (b0 m c ⟨n + 1, h⟩) (b1 m c ⟨n + 1, h⟩) (b2 m c ⟨n + 1, h⟩) (b3 m c ⟨n + 1, h⟩) (b4 m c ⟨n + 1, h⟩)
      else acc2 (b0 m c ⟨n + 1, h⟩) (b1 m c ⟨n + 1, h⟩) (b2 m c ⟨n + 1, h⟩) (b3 m c ⟨n + 1, h⟩) (b4 m c ⟨n + 1, h⟩) (accAt c n (Nat.lt_of_succ_lt h))

theorem accAt_first (c : Dev nD) (t : Fin cfg0.N) (h : t.val < 2) : accAt m c t.val t.isLt = acc1 (b0 m c t) (b1 m c t) (b2 m c t) (b3 m c t) (b4 m c t) := by
  obtain ⟨n, hn⟩ := t
  cases n with
  | zero => rfl
  | succ n => unfold accAt; rw [if_pos h]

theorem accAt_later (c : Dev nD) (t : Fin cfg0.N) (h : ¬ t.val < 2) :
    accAt m c t.val t.isLt = acc2 (b0 m c t) (b1 m c t) (b2 m c t) (b3 m c t) (b4 m c t) (accAt m c (t.val - 1) (Nat.lt_of_le_of_lt (Nat.sub_le _ _) t.isLt)) := by
  obtain ⟨n, hn⟩ := t
  cases n with
  | zero => exact absurd (show 0 < 2 by decide) h
  | succ n => conv_lhs => unfold accAt
              rw [if_neg h]; rfl

/-! ### The proof data -/

/-- What each window's buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => rowv (b0 m c t) (b1 m c t) (b2 m c t) (b3 m c t) (b4 m c t)
    | ⟨6, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = rowv (b0 m c t) (b1 m c t) (b2 m c t) (b3 m c t) (b4 m c t) := by dsimp only [dats]
theorem after_6 (c : Dev nD) (t : Fin cfg0.N) : (dats m 0 c).after 6 t = accAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

theorem before_6 (c : Dev nD) (t : Fin cfg0.N) (h : ¬ t.val < 2) (d) :
    (dats m 0 c).before 6 t d = accAt m c (t.val - 1) (Nat.lt_of_le_of_lt (Nat.sub_le _ _) t.isLt) := by
  have hN : t.val < 33 := t.isLt.trans_eq N_0
  rw [(dats m 0 c).before_out_kept 6 rfl t (fun e => h (by rw [e]; decide)) (by
    refine Bool.eq_false_iff.mpr fun e => ?_
    have := (flush_sum _).mp e
    dsimp only at this; omega) live (fun _ _ => rfl), after_6]

/-! ### The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t)

theorem leaves_of (c : Dev nD) (w : Fin cfg0.W) (t : Fin cfg0.N) (hl : cfg0.idle w (grid0.coords t) = false) :
    (dats (F := F) m 0 c).leavesExact w t = owns (c : Thread nD τ) ((cfg0.win w).stage (cfg0.slots t w)) fullShare ((dats m 0 c).after w t) := by
  unfold Dat.leavesExact; rw [hl]

set_option maxHeartbeats 3200000 in
/-- The body at any point: the inputs' buffers hold their blocks, the sums what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = (dats m 0 c).Φ t.castSucc from rfl]
  rw [leaves_of m c 0 t rfl, leaves_of m c 1 t rfl, leaves_of m c 2 t rfl, leaves_of m c 3 t rfl, leaves_of m c 4 t rfl, leaves_of m c 5 t rfl, leaves_of m c 6 t (live _)]
  rw [after_0, after_1, after_2, after_3, after_4, after_5, after_6]
  by_cases h : t.val < 2
  · rw [accAt_first m c t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ ((cond1_iff t).mpr h) (fun e => (cond2_iff t).mp e h)
      (b0 m c t) (b1 m c t) (b2 m c t) (b3 m c t) (b4 m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [accAt_later m c t h]
    simp only [before_6 m c t h]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (runB c (grid0.coords t) _ _ _ _ _ _ _ _ _ _ _ _ _ _ (fun e => h ((cond1_iff t).mp e)) ((cond2_iff t).mpr h)
      (b0 m c t) (b1 m c t) (b2 m c t) (b3 m c t) (b4 m c t) _ Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

set_option backward.isDefEq.respectTransparency.types false in
/-- The whole call's run: every array of the pipeline at what the proof data says, every other buffer as it was,
    every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as they began and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.NormMixIdeal.Hand

end
-- ==== Proof.Stream.NormMix.lean ====
/-
  The gradient of the norm of the mixer: the arrays the call leaves, of the arrays it is handed.
-/
module

public import proofs.«01_k».proof.Proof.Stream.Base
public import proofs.«01_k».proof.Proof.Stream.NormMixFrame
public import Idealize.ShloMosaic.Lib.Pipeline.ValueKit.Point

@[expose] public section

set_option maxRecDepth 16384

noncomputable section

namespace Cert.Stream.NormMix

open Idealize.ShloMosaic Idealize.ShloMosaic.Tactic Cert.Prod

abbrev width : EReal := Ideal.ofBits .f32 0x45000000#32
abbrev eps : EReal := Ideal.ofBits .f32 0x358637BD#32
abbrev one : EReal := Ideal.ofBits .f32 0x3F800000#32

variable (x0 : (⟨2, ![8448, 2048]⟩ : Shape).Idx → EReal) (x1 : (⟨2, ![1, 2048]⟩ : Shape).Idx → EReal) (x2 : (⟨3, ![2, 6, 2048]⟩ : Shape).Idx → EReal)
  (x3 x4 : (⟨2, ![8448, 2048]⟩ : Shape).Idx → EReal)

/-- The row's inverse root mean square, and the row normalized by it. -/
def rms (r : ℕ) : EReal := Ideal.rsqrt (Ideal.div (∑ l : Fin 2048, at2 x0 r l.val * at2 x0 r l.val) width + eps)
def xh (r j : ℕ) : EReal := at2 x0 r j * rms x0 r

/-- One plus the scale of the stream `s`. -/
def sc (s j : ℕ) : EReal := one + at3 x2 s 1 j

/-- The cotangent of the normalized row. -/
def g (r j : ℕ) : EReal := at2 x3 r j * (at2 x1 0 j * sc x2 (st r) j)

/-- The gradient of the row `r`, added to the stream's own. -/
def dx (r j : ℕ) : EReal :=
  at2 x4 r j + rms x0 r * (g x1 x2 x3 r j - xh x0 r j * Ideal.div (∑ l : Fin 2048, g x1 x2 x3 r l.val * xh x0 r l.val) width)

/-- What the row `k` adds to the row `a` of the sums: the gradients of the shift, of the scale, of the norm's weight. -/
def term (a j k : ℕ) : EReal :=
  if a = 0 then at2 x3 k j else if a = 1 then at2 x3 k j * xh x0 k j * at2 x1 0 j
  else if a = 2 then at2 x3 k j * xh x0 k j * sc x2 (st k) j else 0

def specM : (⟨2, ![8448, 2048]⟩ : Shape).Idx → EReal := fun i => dx x0 x1 x2 x3 x4 (i 0).val (i 1).val
def specS : (⟨3, ![2, 8, 2048]⟩ : Shape).Idx → EReal := fun i => total (term x0 x1 x2 x3 (i 1).val (i 2).val) (i 0).val

end Cert.Stream.NormMix

namespace Cert.NormMixIdeal.Hand

open Cert.NormMixIdeal Cert.NormMixIdeal.Gen Cert.Prod Cert.Stream Cert.Stream.NormMix
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![if t.val = 0 then 0 else 1, 0, 0] := (by decide +kernel : ∀ t : Fin grid0.N, _)
theorem ix_3 : ∀ t : Fin cfg0.N, win0_3.index t = ![t.val, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![t.val, 0] := (by decide +kernel : ∀ t : Fin grid0.N, _)
theorem ix_6 : ∀ t : Fin cfg0.N, win0_6.index t = ![if t.val = 0 then 0 else 1, 0, 0] := (by decide +kernel : ∀ t : Fin grid0.N, _)

theorem N_le (t : Fin cfg0.N) : t.val < 33 := t.isLt.trans_eq N_0

theorem blk_0 (t : Fin cfg0.N) (k : Fin 256) (j : Fin 2048) :
    b0 m c t (ix2 k j) = at2 (m ((c : Thread nD τ).loc main_arg0)) (t.val * 256 + k.val) j.val := by
  have h := N_le t
  rw [at2_lt _ (by omega) (by omega)]
  blk_ext! [b0, iblk, V, ix_0 t]

theorem blk_1 (t : Fin cfg0.N) (j : Fin 2048) : b1 m c t (ix2 0 j) = at2 (m ((c : Thread nD τ).loc main_arg1)) 0 j.val := by
  have h := N_le t
  rw [at2_lt _ (by omega) (by omega)]
  blk_ext! [b1, iblk, V, ix_1 t]

theorem blk_2 (t : Fin cfg0.N) (a : Fin 6) (j : Fin 2048) :
    b2 m c t (ix3 0 a j) = at3 (m ((c : Thread nD τ).loc main_arg2)) (if t.val = 0 then 0 else 1) a.val j.val := by
  have h := N_le t
  have hs : (if t.val = 0 then 0 else 1) < 2 := by split <;> omega
  rw [at3_lt _ hs (by omega) (by omega)]
  blk_ext! [b2, iblk, V, ix_2 t]

theorem blk_3 (t : Fin cfg0.N) (k : Fin 256) (j : Fin 2048) :
    b3 m c t (ix2 k j) = at2 (m ((c : Thread nD τ).loc main_arg3)) (t.val * 256 + k.val) j.val := by
  have h := N_le t
  rw [at2_lt _ (by omega) (by omega)]
  blk_ext! [b3, iblk, V, ix_3 t]

theorem blk_4 (t : Fin cfg0.N) (k : Fin 256) (j : Fin 2048) :
    b4 m c t (ix2 k j) = at2 (m ((c : Thread nD τ).loc main_arg4)) (t.val * 256 + k.val) j.val := by
  have h := N_le t
  rw [at2_lt _ (by omega) (by omega)]
  blk_ext! [b4, iblk, V, ix_4 t]

theorem ld_2 (t : Fin cfg0.N) (j : Fin 2048) : View.ld (b2 m c t) rM (ix3 0 0 j) = b2 m c t (ix3 0 1 j) :=
  View.ld_unit_apply_of _ _ _ _ _ (ix3 0 1 j) (fun a => by
    match a with
    | 0 => rfl
    | 1 => rfl
    | 2 => exact (Nat.zero_add _).symm)

/-! ### The body's values -/

theorem pay4_apply (v0 : Vec Ideal S256x2048 .f32) (k : Fin 256) :
    k0_pay4 (F := Ideal) v0 (ix2 k 0) = Ideal.rsqrt (Ideal.div (∑ l : Fin 2048, v0 (ix2 k l) * v0 (ix2 k l)) width + eps) := by
  pointwise [k0_pay4]

theorem pay5_apply (v0 : Vec Ideal S256x2048 .f32) (k : Fin 256) (j : Fin 2048) :
    k0_pay5 (F := Ideal) v0 (ix2 k j) = v0 (ix2 k j) * k0_pay4 (F := Ideal) v0 (ix2 k 0) := by
  pointwise [k0_pay5]

theorem pay6_apply (v11 : Vec Ideal S256x2048 .bf16) (k : Fin 256) (j : Fin 2048) :
    k0_pay6 (F := Ideal) v11 (ix2 k j) = v11 (ix2 k j) := by
  pointwise [k0_pay6]

theorem pay7_apply (v13 : Vec Ideal S1x1x2048 .f32) (j : Fin 2048) :
    k0_pay7 (F := Ideal) v13 (ix2 0 j) = one + v13 (ix3 0 0 j) := by
  pointwise [k0_pay7]

theorem pay8_apply (v0 : Vec Ideal S256x2048 .f32) (v11 : Vec Ideal S256x2048 .bf16) (v13 : Vec Ideal S1x1x2048 .f32) (v17 : Vec Ideal S1x2048 .f32)
    (v21 : Vec Ideal S256x2048 .f32) (k : Fin 256) (j : Fin 2048) :
    k0_pay8 (F := Ideal) v0 v11 v13 v17 v21 (ix2 k j) = v21 (ix2 k j) + k0_pay4 (F := Ideal) v0 (ix2 k 0)
      * (k0_pay6 (F := Ideal) v11 (ix2 k j) * (v17 (ix2 0 j) * k0_pay7 (F := Ideal) v13 (ix2 0 j))
        - k0_pay5 (F := Ideal) v0 (ix2 k j) * Ideal.div (∑ l : Fin 2048, k0_pay6 (F := Ideal) v11 (ix2 k l) * (v17 (ix2 0 l) * k0_pay7 (F := Ideal) v13 (ix2 0 l))
          * k0_pay5 (F := Ideal) v0 (ix2 k l)) width) := by
  pointwise [k0_pay8]

theorem pay9_apply (v0 : Vec Ideal S256x2048 .f32) (v11 : Vec Ideal S256x2048 .bf16) (k : Fin 256) (j : Fin 2048) :
    k0_pay9 (F := Ideal) v0 v11 (ix2 k j) = k0_pay6 (F := Ideal) v11 (ix2 k j) * k0_pay5 (F := Ideal) v0 (ix2 k j) := by
  pointwise [k0_pay9]

theorem pay10_apply (v11 : Vec Ideal S256x2048 .bf16) (j : Fin 2048) :
    k0_pay10 (F := Ideal) v11 (ix2 0 j) = ∑ k : Fin 256, k0_pay6 (F := Ideal) v11 (ix2 k j) := by
  pointwise [k0_pay10]

theorem pay11_apply (v17 : Vec Ideal S1x2048 .f32) (k : Fin 256) (j : Fin 2048) :
    k0_pay11 (F := Ideal) v17 (ix2 k j) = v17 (ix2 0 j) := by
  pointwise [k0_pay11]

theorem pay1_apply (v16 v36 : Vec Ideal S1x2048 .f32) (v34 v37 : Vec Ideal S256x2048 .f32) (a : Fin 8) (j : Fin 2048) :
    k0_pay1 (F := Ideal) v16 v34 v36 v37 (ix2 a j) = if a.val = 0 then v36 (ix2 0 j) else if a.val = 1 then ∑ k : Fin 256, v34 (ix2 k j) * v37 (ix2 k j)
      else if a.val = 2 then ∑ k : Fin 256, v34 (ix2 k j) * v16 (ix2 0 j) else 0 := by
  pointwise [k0_pay1]
  by_cases h0 : a.val = 0
  · rw [dif_pos (by omega), if_pos h0]
    exact congrArg v36 (funext fun b => Fin.ext (by
      match b with
      | 0 => exact h0
      | 1 => rfl))
  rw [dif_neg (by omega), if_neg h0]
  by_cases h1 : a.val = 1
  · rw [dif_pos (by omega), if_pos h1]
  rw [dif_neg (by omega), if_neg h1]
  by_cases h2 : a.val = 2
  · rw [dif_pos (by omega), if_pos h2]
  rw [dif_neg (by omega), if_neg h2]

/-! ### The arrays -/

section Rows
variable (t : Fin cfg0.N) (k : Fin 256) (j : Fin 2048)

theorem row_rms : k0_pay4 (F := Ideal) (b0 m c t) (ix2 k 0) = rms (m ((c : Thread nD τ).loc main_arg0)) (t.val * 256 + k.val) := by
  rw [pay4_apply]; simp only [blk_0]; rfl

theorem row_xh : k0_pay5 (F := Ideal) (b0 m c t) (ix2 k j) = xh (m ((c : Thread nD τ).loc main_arg0)) (t.val * 256 + k.val) j.val := by
  rw [pay5_apply, row_rms, blk_0]; rfl

theorem row_sc : k0_pay7 (F := Ideal) (View.ld (b2 m c t) rM) (ix2 0 j) = sc (m ((c : Thread nD τ).loc main_arg2)) (st (t.val * 256 + k.val)) j.val := by
  rw [pay7_apply, ld_2, blk_2, st_blk]; rfl

theorem rowv_apply :
    rowv (b0 m c t) (b1 m c t) (b2 m c t) (b3 m c t) (b4 m c t) (ix2 k j)
      = dx (m ((c : Thread nD τ).loc main_arg0)) (m ((c : Thread nD τ).loc main_arg1)) (m ((c : Thread nD τ).loc main_arg2))
        (m ((c : Thread nD τ).loc main_arg3)) (m ((c : Thread nD τ).loc main_arg4)) (t.val * 256 + k.val) j.val := by
  unfold rowv
  rw [View.ld_unit_zero (S := S256x2048) z2, View.ld_unit_zero (S := S256x2048) z2, View.ld_unit_zero (S := S256x2048) z2, View.ld_unit_zero (S := S1x2048) z2]
  rw [pay8_apply, row_rms]
  simp only [row_xh, row_sc m c t k, pay6_apply, blk_1, blk_3, blk_4]
  rfl

end Rows

def T (a j k : ℕ) : EReal := term (m ((c : Thread nD τ).loc main_arg0)) (m ((c : Thread nD τ).loc main_arg1)) (m ((c : Thread nD τ).loc main_arg2))
  (m ((c : Thread nD τ).loc main_arg3)) a j k

theorem part_apply (t : Fin cfg0.N) (a : Fin 8) (j : Fin 2048) :
    k0_pay1 (F := Ideal) (k0_pay7 (View.ld (b2 m c t) rM)) (k0_pay9 (b0 m c t) (b3 m c t)) (k0_pay10 (b3 m c t)) (k0_pay11 (b1 m c t)) (ix2 a j)
      = ∑ k : Fin 256, T m c a.val j.val (t.val * 256 + k.val) := by
  rw [pay1_apply]
  unfold T term
  by_cases h0 : a.val = 0
  · simp only [if_pos h0, pay10_apply, pay6_apply, blk_3]
  by_cases h1 : a.val = 1
  · simp only [if_neg h0, if_pos h1, pay9_apply, pay11_apply, pay6_apply, blk_3, row_xh, blk_1]
  by_cases h2 : a.val = 2
  · simp only [if_neg h0, if_neg h1, if_pos h2, pay9_apply, pay6_apply, blk_3, row_xh]
    exact Finset.sum_congr rfl fun k _ => by rw [row_sc m c t k]
  · simp only [if_neg h0, if_neg h1, if_neg h2, Finset.sum_const_zero]

theorem acc1_apply (t : Fin cfg0.N) (a : Fin 8) (j : Fin 2048) : acc1 (b0 m c t) (b1 m c t) (b2 m c t) (b3 m c t) (b4 m c t) (ix3 0 a j)
    = ∑ k : Fin 256, T m c a.val j.val (t.val * 256 + k.val) := by
  unfold acc1
  rw [View.ld_unit_zero (S := S256x2048) z2, View.ld_unit_zero (S := S256x2048) z2, View.ld_unit_zero (S := S1x2048) z2]
  refine Eq.trans ?_ (part_apply m c t a j)
  pointwise [k0_pay2]

theorem acc2_apply (t : Fin cfg0.N) (y : Vec Ideal S1x8x2048 .f32) (a : Fin 8) (j : Fin 2048) : acc2 (b0 m c t) (b1 m c t) (b2 m c t) (b3 m c t) (b4 m c t) y (ix3 0 a j)
    = y (ix3 0 a j) + ∑ k : Fin 256, T m c a.val j.val (t.val * 256 + k.val) := by
  unfold acc2
  rw [View.ld_unit_zero (S := S256x2048) z2, View.ld_unit_zero (S := S256x2048) z2, View.ld_unit_zero (S := S1x2048) z2, View.ld_unit_zero (S := S1x8x2048) z3]
  rw [← part_apply m c t a j]
  pointwise [k0_pay3]

theorem acc_apply (n : ℕ) : ∀ (hn : n < cfg0.N) (a : Fin 8) (j : Fin 2048), accAt m c n hn (ix3 0 a j) = upTo (T m c a.val j.val) n := by
  induction n using Nat.strong_induction_on with
  | _ n ih =>
    intro hn a j
    by_cases h : n < 2
    · refine (congrFun (accAt_first m c ⟨n, hn⟩ h) (ix3 0 a j)).trans ((acc1_apply m c _ a j).trans ?_)
      exact upTo_first _ h
    · refine (congrFun (accAt_later m c ⟨n, hn⟩ h) (ix3 0 a j)).trans ((acc2_apply m c _ _ a j).trans ?_)
      rw [ih (n - 1) (by omega)]
      exact upTo_later _ h

theorem final_M : (dats (F := Ideal) m 0 c).arrAt 5 cfg0.N = specM (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h := N_le t
  blk_simp
  rw [after_5]
  obtain ⟨r, s, rfl⟩ : ∃ (r : Fin 256) (s : Fin 2048), y = ix2 r s := ⟨y 0, y 1, funext fun a => by match a with | 0 => rfl | 1 => rfl⟩
  refine (rowv_apply m c t r s).trans ?_
  unfold specM
  blk_simp [ix_5 t]

theorem final_S : (dats (F := Ideal) m 0 c).arrAt 6 cfg0.N = specS (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have h := N_le t
  have h2 := (flush_sum t).mp hf
  blk_simp
  rw [after_6]
  obtain ⟨r, s, rfl⟩ : ∃ (r : Fin 8) (s : Fin 2048), y = ix3 0 r s := ⟨y 1, y 2, funext fun a => by
    match a with
    | 0 => exact Fin.ext (by have h0 : (y 0).val < 1 := (y 0).isLt; show (y 0).val = 0; omega)
    | 1 => rfl
    | 2 => rfl⟩
  refine (acc_apply m c t.val t.isLt r s).trans ?_
  unfold specS
  blk_simp [ix_6 t]
  rcases h2 with e | e
  · rw [e]; exact upTo_zero _
  · rw [e]; exact upTo_last _

end Cert.NormMixIdeal.Hand

end
-- ==== Proof.Stream.NormMixClaim.lean ====
/-
  The gradient of the norm of the mixer: kernel and reference end with the same arrays.
-/
module

public import proofs.«01_k».proof.Defs
public import proofs.«01_k».proof.Proof.Stream.Norm
public import proofs.«01_k».proof.Proof.Stream.NormMix
public import proofs.«01_k».proof.Proof.Gen.NormMix
public import proofs.«01_k».proof.Proof.Gen.NormMixRefIdeal.Run
public import proofs.«01_k».proof.Proof.Gen.NormMixRefIdeal.Read
public import Idealize.ShloMosaic.Lib.Quiescent
public import Idealize.ShloMosaic.Lib.Claim
public import Idealize.ShloMosaic.Lib.KernelVsHost

@[expose] public section

set_option maxRecDepth 16384

noncomputable section

namespace Cert.NormMixRefIdeal.Hand

open Cert.NormMixRefIdeal Cert.NormMixRefIdeal.Gen Cert.NormMixRefIdeal.Read Cert.Prod Cert.Stream Cert.Stream.NormMix
open Idealize.ShloMosaic Idealize.ShloMosaic.TcCoe Idealize.ShloMosaic.Tactic

variable (x0 : (⟨2, ![8448, 2048]⟩ : Shape).Idx → EReal) (x1 : (⟨2, ![1, 2048]⟩ : Shape).Idx → EReal) (x2 : (⟨3, ![2, 6, 2048]⟩ : Shape).Idx → EReal)
  (x3 x4 : (⟨2, ![8448, 2048]⟩ : Shape).Idx → EReal)

/-- The mean square of a row, the small number added. -/
abbrev ms (r : ℕ) : EReal := Ideal.div (∑ l : Fin 2048, at2 x0 r l.val * at2 x0 r l.val) width + eps

theorem one_one : one = 1 := by simp [one]

/-- The reference's gradient of a row is the kernel's. -/
theorem row_eq (r j : ℕ) :
    g x1 x2 x3 r j * rms x0 r + at2 x0 r j * Ideal.div ((∑ l : Fin 2048, at2 x0 r l.val * g x1 x2 x3 r l.val) * (Ideal.ofBits .f32 0xBF000000#32 * Ideal.div (rms x0 r) (ms x0 r))) width
      + Ideal.div ((∑ l : Fin 2048, at2 x0 r l.val * g x1 x2 x3 r l.val) * (Ideal.ofBits .f32 0xBF000000#32 * Ideal.div (rms x0 r) (ms x0 r))) width * at2 x0 r j
    = rms x0 r * (g x1 x2 x3 r j - xh x0 r j * Ideal.div (∑ l : Fin 2048, g x1 x2 x3 r l.val * xh x0 r l.val) width) := by
  obtain ⟨ρ, hρ, e1, e2⟩ := root (∑ l : Fin 2048, at2 x0 r l.val * at2 x0 r l.val) (Finset.sum_nonneg fun l _ => sq_nonneg' _)
  have e1' : rms x0 r = (ρ : EReal) := e1
  have e2' : Ideal.div (rms x0 r) (ms x0 r) = ((ρ * ρ * ρ : ℝ) : EReal) := e2
  rw [e2', half_real]
  unfold xh
  simp only [e1', div_width]
  exact (norm_eq ρ hρ (fun l : Fin 2048 => at2 x0 r l.val) (fun l => g x1 x2 x3 r l.val) _ _).symm

/-! ### The rows 0 to 255 -/

theorem c_x (k : Fin 256) (j : Fin 2048) : val_main_v0 (F := Ideal) x0 (ix2 k j) = at2 x0 k.val j.val := by
  pointwise [val_main_v0]
  exact (at2_lt x0 (by omega) j.isLt).symm

theorem c_dh (k : Fin 256) (j : Fin 2048) : val_main_v3 (F := Ideal) x3 (ix2 k j) = at2 x3 k.val j.val := by
  pointwise [val_main_v3, val_main_v2]
  exact (at2_lt x3 (by omega) j.isLt).symm

theorem c_nw (j : Fin 2048) : val_main_v27 (F := Ideal) x1 (ix2 0 j) = at2 x1 0 j.val := by
  pointwise [val_main_v27, val_main_v9]
  exact (at2_lt x1 (by decide) j.isLt).symm

theorem c_sc (j : Fin 2048) : val_main_v32 (F := Ideal) x2 (ix2 0 j) = sc x2 0 j.val := by
  pointwise [val_main_v32, val_main_v31, val_main_v30, val_main_cst_3, val_main_v13, val_main_v12, val_main_v6, val_main_v5]
  unfold sc
  rw [at3_lt _ (by decide) (by decide) j.isLt, one_one]
  rfl

theorem c_ms (k : Fin 256) : val_main_v20 (F := Ideal) x0 (ix2 k 0) = ms x0 k.val := by
  pointwise [val_main_v20, val_main_v19, val_main_v18, val_main_v17, val_main_v16, val_main_v15, val_main_v14, val_main_cst, val_main_cst_0, val_main_cst_1]
  simp only [c_x]

theorem c_rms (k : Fin 256) : val_main_v21 (F := Ideal) x0 (ix2 k 0) = rms x0 k.val := by
  pointwise [val_main_v21]
  rw [c_ms]
  rfl

theorem c_cube (k : Fin 256) : val_main_v24 (F := Ideal) x0 (ix2 k 0) = Ideal.ofBits .f32 0xBF000000#32 * Ideal.div (rms x0 k.val) (ms x0 k.val) := by
  pointwise [val_main_v24, val_main_v23, val_main_cst_2, val_main_v22]
  rw [c_rms, c_ms]

theorem c_xh (k : Fin 256) (j : Fin 2048) : val_main_v26 (F := Ideal) x0 (ix2 k j) = xh x0 k.val j.val := by
  pointwise [val_main_v26, val_main_v25]
  rw [c_rms, c_x]
  rfl

theorem c_st (k : Fin 256) : st k.val = 0 := if_pos k.isLt

theorem c_t (k : Fin 256) (j : Fin 2048) : val_main_v45 (F := Ideal) x2 x3 (ix2 k j) = at2 x3 k.val j.val * sc x2 (st k.val) j.val := by
  pointwise [val_main_v45, val_main_v44]
  rw [c_sc, c_dh, c_st]

theorem c_g (k : Fin 256) (j : Fin 2048) : val_main_v51 (F := Ideal) x1 x2 x3 (ix2 k j) = g x1 x2 x3 k.val j.val := by
  pointwise [val_main_v51, val_main_v50]
  rw [c_nw, c_t]
  exact (mul_assoc _ _ _).trans (congrArg (_ * ·) (mul_comm _ _))

theorem c_row (k : Fin 256) (j : Fin 2048) : val_main_v66 (F := Ideal) x0 x1 x2 x3 (ix2 k j)
    = rms x0 k.val * (g x1 x2 x3 k.val j.val - xh x0 k.val j.val * Ideal.div (∑ l : Fin 2048, g x1 x2 x3 k.val l.val * xh x0 k.val l.val) width) := by
  pointwise [val_main_v66, val_main_v65, val_main_v64, val_main_v63, val_main_v62, val_main_v57, val_main_v56, val_main_v61, val_main_cst_12, val_main_v60, val_main_v59, val_main_v58, val_main_v55, val_main_v54, val_main_v53, val_main_cst_10, val_main_cst_11]
  simp only [c_x, c_g, c_rms, c_cube, Fin.sum_univ_one]
  exact row_eq x0 x1 x2 x3 k.val j.val

theorem c_rows (a : Fin 3) (j : Fin 2048) : val_main_v70 (F := Ideal) x0 x1 x2 x3 (ix2 a j) = total (term x0 x1 x2 x3 a.val j.val) 0 := by
  pointwise [val_main_v70, val_main_v67, val_main_v68, val_main_v69, val_main_v52, val_main_v49, val_main_v48, val_main_v47, val_main_cst_9, val_main_cst_8, val_main_v46, val_main_v43, val_main_v42, val_main_v41, val_main_v29, val_main_v28, val_main_cst_7, val_main_cst_6, val_main_v40, val_main_v39, val_main_v38, val_main_cst_5, val_main_cst_4]
  simp only [c_xh, c_nw, c_dh, c_t, Fin.sum_univ_one]
  unfold total term
  rw [if_pos rfl, Finset.sum_range]
  match a with
  | 0 => rfl
  | 1 =>
    show (∑ k : Fin 256, xh x0 k.val j.val * at2 x1 0 j.val * at2 x3 k.val j.val) = ∑ k : Fin 256, at2 x3 k.val j.val * xh x0 k.val j.val * at2 x1 0 j.val
    exact Finset.sum_congr rfl fun k _ => by ac_rfl
  | 2 =>
    show (∑ k : Fin 256, xh x0 k.val j.val * (at2 x3 k.val j.val * sc x2 (st k.val) j.val)) = ∑ k : Fin 256, at2 x3 k.val j.val * xh x0 k.val j.val * sc x2 (st k.val) j.val
    exact Finset.sum_congr rfl fun k _ => by ac_rfl

/-! ### The rows after the first 256 -/

theorem l_x (k : Fin 8192) (j : Fin 2048) : val_main_v1 (F := Ideal) x0 (ix2 k j) = at2 x0 (256 + k.val) j.val := by
  pointwise [val_main_v1]
  exact (at2_lt x0 (by omega) j.isLt).symm

theorem l_dh (k : Fin 8192) (j : Fin 2048) : val_main_v4 (F := Ideal) x3 (ix2 k j) = at2 x3 (256 + k.val) j.val := by
  pointwise [val_main_v4, val_main_v2]
  exact (at2_lt x3 (by omega) j.isLt).symm

theorem l_nw (j : Fin 2048) : val_main_v89 (F := Ideal) x1 (ix2 0 j) = at2 x1 0 j.val := by
  pointwise [val_main_v89, val_main_v71]
  exact (at2_lt x1 (by decide) j.isLt).symm

theorem l_sc (j : Fin 2048) : val_main_v94 (F := Ideal) x2 (ix2 0 j) = sc x2 1 j.val := by
  pointwise [val_main_v94, val_main_v93, val_main_v92, val_main_cst_17, val_main_v75, val_main_v74, val_main_v8, val_main_v7]
  unfold sc
  rw [at3_lt _ (by decide) (by decide) j.isLt, one_one]
  rfl

theorem l_ms (k : Fin 8192) : val_main_v82 (F := Ideal) x0 (ix2 k 0) = ms x0 (256 + k.val) := by
  pointwise [val_main_v82, val_main_v81, val_main_v80, val_main_v79, val_main_v78, val_main_v77, val_main_v76, val_main_cst_13, val_main_cst_14, val_main_cst_15]
  simp only [l_x]

theorem l_rms (k : Fin 8192) : val_main_v83 (F := Ideal) x0 (ix2 k 0) = rms x0 (256 + k.val) := by
  pointwise [val_main_v83]
  rw [l_ms]
  rfl

theorem l_cube (k : Fin 8192) : val_main_v86 (F := Ideal) x0 (ix2 k 0) = Ideal.ofBits .f32 0xBF000000#32 * Ideal.div (rms x0 (256 + k.val)) (ms x0 (256 + k.val)) := by
  pointwise [val_main_v86, val_main_v85, val_main_cst_16, val_main_v84]
  rw [l_rms, l_ms]

theorem l_xh (k : Fin 8192) (j : Fin 2048) : val_main_v88 (F := Ideal) x0 (ix2 k j) = xh x0 (256 + k.val) j.val := by
  pointwise [val_main_v88, val_main_v87]
  rw [l_rms, l_x]
  rfl

theorem l_st (k : Fin 8192) : st (256 + k.val) = 1 := if_neg (by omega)

theorem l_t (k : Fin 8192) (j : Fin 2048) : val_main_v107 (F := Ideal) x2 x3 (ix2 k j) = at2 x3 (256 + k.val) j.val * sc x2 (st (256 + k.val)) j.val := by
  pointwise [val_main_v107, val_main_v106]
  rw [l_sc, l_dh, l_st]

theorem l_g (k : Fin 8192) (j : Fin 2048) : val_main_v113 (F := Ideal) x1 x2 x3 (ix2 k j) = g x1 x2 x3 (256 + k.val) j.val := by
  pointwise [val_main_v113, val_main_v112]
  rw [l_nw, l_t]
  exact (mul_assoc _ _ _).trans (congrArg (_ * ·) (mul_comm _ _))

theorem l_row (k : Fin 8192) (j : Fin 2048) : val_main_v128 (F := Ideal) x0 x1 x2 x3 (ix2 k j)
    = rms x0 (256 + k.val) * (g x1 x2 x3 (256 + k.val) j.val - xh x0 (256 + k.val) j.val * Ideal.div (∑ l : Fin 2048, g x1 x2 x3 (256 + k.val) l.val * xh x0 (256 + k.val) l.val) width) := by
  pointwise [val_main_v128, val_main_v127, val_main_v126, val_main_v125, val_main_v124, val_main_v119, val_main_v118, val_main_v123, val_main_cst_26, val_main_v122, val_main_v121, val_main_v120, val_main_v117, val_main_v116, val_main_v115, val_main_cst_24, val_main_cst_25]
  simp only [l_x, l_g, l_rms, l_cube, Fin.sum_univ_one]
  exact row_eq x0 x1 x2 x3 (256 + k.val) j.val

theorem l_rows (a : Fin 3) (j : Fin 2048) : val_main_v132 (F := Ideal) x0 x1 x2 x3 (ix2 a j) = total (term x0 x1 x2 x3 a.val j.val) 1 := by
  pointwise [val_main_v132, val_main_v129, val_main_v130, val_main_v131, val_main_v114, val_main_v111, val_main_v110, val_main_v109, val_main_cst_23, val_main_cst_22, val_main_v108, val_main_v105, val_main_v104, val_main_v103, val_main_v91, val_main_v90, val_main_cst_21, val_main_cst_20, val_main_v102, val_main_v101, val_main_v100, val_main_cst_19, val_main_cst_18]
  simp only [l_xh, l_nw, l_dh, l_t, Fin.sum_univ_one]
  unfold total term
  rw [if_neg (by decide), Finset.sum_range]
  match a with
  | 0 => rfl
  | 1 =>
    show (∑ k : Fin 8192, xh x0 (256 + k.val) j.val * at2 x1 0 j.val * at2 x3 (256 + k.val) j.val) = ∑ k : Fin 8192, at2 x3 (256 + k.val) j.val * xh x0 (256 + k.val) j.val * at2 x1 0 j.val
    exact Finset.sum_congr rfl fun k _ => by ac_rfl
  | 2 =>
    show (∑ k : Fin 8192, xh x0 (256 + k.val) j.val * (at2 x3 (256 + k.val) j.val * sc x2 (st (256 + k.val)) j.val)) = ∑ k : Fin 8192, at2 x3 (256 + k.val) j.val * xh x0 (256 + k.val) j.val * sc x2 (st (256 + k.val)) j.val
    exact Finset.sum_congr rfl fun k _ => by ac_rfl

/-! ### The results -/

theorem result_M : val_main_v134 (F := Ideal) x0 x1 x2 x3 x4 = specM x0 x1 x2 x3 x4 := by
  funext i
  obtain ⟨r, j, rfl⟩ : ∃ (r : Fin 8448) (j : Fin 2048), i = ix2 r j := ⟨i 0, i 1, funext fun b => by match b with | 0 => rfl | 1 => rfl⟩
  pointwise [val_main_v134, val_main_v133]
  simp only [c_row, l_row]
  show _ = dx x0 x1 x2 x3 x4 r.val j.val
  unfold dx
  rw [at2_lt x4 r.isLt j.isLt]
  refine congrArg (_ + ·) ?_
  split
  · rfl
  · rw [show 256 + (r.val - 256) = r.val by omega]

theorem pad_zero (i : S_.Idx) : val_main_call0_v0 (F := Ideal) i = (0 : EReal) := by
  rw [val_main_call0_v0_apply, val_main_c_apply]
  show (((0#32 : BitVec 32).toInt : ℝ) : EReal) = 0
  simp

theorem result_S : val_main_v138 (F := Ideal) x0 x1 x2 x3 = specS x0 x1 x2 x3 := by
  funext i
  obtain ⟨r, a, j, rfl⟩ : ∃ (r : Fin 2) (a : Fin 8) (j : Fin 2048), i = ix3 r a j := ⟨i 0, i 1, i 2, funext fun b => by match b with | 0 => rfl | 1 => rfl | 2 => rfl⟩
  pointwise [val_main_v138, val_main_v137, val_main_v136, val_main_v135]
  simp only [c_rows, l_rows, pad_zero]
  show _ = total (term x0 x1 x2 x3 a.val j.val) r.val
  split
  · match r with
    | 0 => rfl
    | 1 => rfl
  · unfold total term
    simp only [if_neg (show ¬ a.val = 0 by omega), if_neg (show ¬ a.val = 1 by omega), if_neg (show ¬ a.val = 2 by omega),
      Finset.sum_const_zero, ite_self]

end Cert.NormMixRefIdeal.Hand

namespace Cert.Stream.NormMix

open Idealize.ShloMosaic Idealize.SL.Sem

section Twin

variable {F : FTy → Type} [FloatOps F]

theorem e_body : @Cert.NormMix.cc0_normmod_bwd F _ Cert.NormMix.Gen.facts = @Cert.NormMixIdeal.cc0_normmod_bwd F _ Cert.NormMixIdeal.Gen.facts := rfl

theorem e_defs₀ : @Cert.NormMix.defs₀ F _ Cert.NormMix.Gen.facts = @Cert.NormMixIdeal.defs₀ F _ Cert.NormMixIdeal.Gen.facts := by
  unfold Cert.NormMix.defs₀ Cert.NormMixIdeal.defs₀
  refine congrArg (Defs.onTc (nD := Cert.NormMixIdeal.nD) (τ := Cert.NormMixIdeal.τ) (sig := Cert.NormMixIdeal.sig) (Val := Elt F) (Λ := Cert.NormMixIdeal.Λ₀)) ?_
  funext l a
  match l, a with
  | 0, (t, s) => rfl
  | ⟨n + 1, h⟩, _ => exact absurd h (Nat.not_lt.2 (Nat.le_add_left _ _))

theorem e_defs : @Cert.NormMix.defs F _ Cert.NormMix.Gen.facts = @Cert.NormMixIdeal.defs F _ Cert.NormMixIdeal.Gen.facts := by
  unfold Cert.NormMix.defs Cert.NormMixIdeal.defs
  exact congrArg (Pipeline.defs Cert.NormMixIdeal.pcfgs) e_defs₀

theorem e_main : @Cert.NormMix.main F _ = @Cert.NormMixIdeal.main F _ := rfl

end Twin

/-- The kernel as printed runs, its arguments end as they began and every counter is at zero: it is the idealized
    program's text, of which the run is proved for every float instance. -/
theorem frame_kernel : Cert.quiescent_NormMix := fun m g _ => by
  rw [e_defs, e_main]
  exact Cert.NormMixIdeal.Hand.frame (F := Bits) m g

theorem frame_ideal : Cert.quiescent_NormMixIdeal := fun m g _ => Cert.NormMixIdeal.Hand.frame (F := Ideal) m g

theorem frame_reference : Cert.quiescent_NormMixRefIdeal := fun m g _ =>
  (θ_run (Cert.NormMixRefIdeal.defs (F := Ideal)) _ _).mono (fun r h => ⟨fun c => (h c).2.2, sem_eq_zero_of_no_sems rfl r.2⟩) (Cert.NormMixRefIdeal.Value.run (F := Ideal) m g)

/-- From equal arguments the two programs end with equal results. -/
theorem same : Cert.algebraic_NormMixIdeal_NormMixRefIdeal := fun m g m' g' _ hagree => by
  refine ⟨fun c => specM (m ((c.tc : Thread Cert.NormMixIdeal.nD Cert.NormMixIdeal.τ).loc Cert.NormMixIdeal.main_arg0)) (m ((c.tc : Thread Cert.NormMixIdeal.nD Cert.NormMixIdeal.τ).loc Cert.NormMixIdeal.main_arg1)) (m ((c.tc : Thread Cert.NormMixIdeal.nD Cert.NormMixIdeal.τ).loc Cert.NormMixIdeal.main_arg2)) (m ((c.tc : Thread Cert.NormMixIdeal.nD Cert.NormMixIdeal.τ).loc Cert.NormMixIdeal.main_arg3)) (m ((c.tc : Thread Cert.NormMixIdeal.nD Cert.NormMixIdeal.τ).loc Cert.NormMixIdeal.main_arg4)),
    fun c => specS (m ((c.tc : Thread Cert.NormMixIdeal.nD Cert.NormMixIdeal.τ).loc Cert.NormMixIdeal.main_arg0)) (m ((c.tc : Thread Cert.NormMixIdeal.nD Cert.NormMixIdeal.τ).loc Cert.NormMixIdeal.main_arg1)) (m ((c.tc : Thread Cert.NormMixIdeal.nD Cert.NormMixIdeal.τ).loc Cert.NormMixIdeal.main_arg2)) (m ((c.tc : Thread Cert.NormMixIdeal.nD Cert.NormMixIdeal.τ).loc Cert.NormMixIdeal.main_arg3)), ?_, ?_⟩
  · refine (θ_run (Cert.NormMixIdeal.defs (F := Ideal)) _ _).mono (fun r h c => ?_)
      (θ_run_and (Cert.NormMixIdeal.Hand.run_main (F := Ideal) m g) (Cert.NormMixIdeal.Hand.frame (F := Ideal) m g))
    exact ⟨(h.1.1.out_eq c 5).trans (Cert.NormMixIdeal.Hand.final_M m c), (h.1.1.out_eq c 6).trans (Cert.NormMixIdeal.Hand.final_S m c), h.2.1 c⟩
  · refine (θ_run (Cert.NormMixRefIdeal.defs (F := Ideal)) _ _).mono (fun r h c => ?_) (Cert.NormMixRefIdeal.Value.run (F := Ideal) m' g')
    obtain ⟨h0, h1, ha⟩ := h c
    obtain ⟨a0, a1, a2, a3, a4⟩ := hagree c
    rw [Cert.NormMixRefIdeal.Read.val_main_v134_eq, a0, a1, a2, a3, a4] at h0
    rw [Cert.NormMixRefIdeal.Read.val_main_v138_eq, a0, a1, a2, a3] at h1
    exact ⟨h0.trans (Cert.NormMixRefIdeal.Hand.result_M _ _ _ _ _), h1.trans (Cert.NormMixRefIdeal.Hand.result_S _ _ _ _), ha⟩

end Cert.Stream.NormMix

end
-- ==== Proof.Ffn.Spec.lean ====
/-
  The gradient of the feed-forward layer's convolution and gate: what it is, of the arrays, at a row and a column of the
  step's own order (in each block of 2816 columns 1408 of the value, then 1408 of its gate). The rows 0 to 255 are one
  stream, the others the second; the convolution does not reach from one to the other.
-/
module

public import proofs.«01_k».proof.Proof.Prod.Base

@[expose] public section

noncomputable section

namespace Cert.Ffn

open Idealize.ShloMosaic Cert.Prod

/-- The value at the row before `r` in its stream, and at the row after; nothing at the stream's ends. -/
def pv (f : ℕ → EReal) (r : ℕ) : EReal := if r ≠ 0 ∧ r ≠ 256 then f (r - 1) else 0
def nx (f : ℕ → EReal) (r : ℕ) : EReal := if r ≠ 255 ∧ r ≠ 8447 then f (r + 1) else 0

def sg (x : EReal) : EReal := Ideal.logistic x

variable (x0 : (⟨2, ![8448, 11264]⟩ : Shape).Idx → EReal) (x1 : (⟨2, ![8448, 5632]⟩ : Shape).Idx → EReal)
  (x2 : (⟨2, ![3, 11264]⟩ : Shape).Idx → EReal) (x3 : (⟨2, ![1, 11264]⟩ : Shape).Idx → EReal)

/-- The convolved column `C`. -/
def uc (r C : ℕ) : EReal :=
  pv (fun r => at2 x0 r C) r * at2 x2 0 C + at2 x0 r C * at2 x2 1 C + nx (fun r => at2 x0 r C) r * at2 x2 2 C + at2 x3 0 C

/-- The gradient of a column of the value, of `d`, the gated product's gradient, and `g`, the gate. -/
def dval (d g : EReal) : EReal := d * (g * sg g)
/-- That of a column of the gate, and `v`, the value. -/
def dgate (d v g : EReal) : EReal := d * v * (sg g * (1 + g * (1 - sg g)))

/-- The gradient of the convolved column `C`. -/
def duc (r C : ℕ) : EReal :=
  if C % 2816 < 1408 then dval (at2 x1 r (C / 2816 * 1408 + C % 2816)) (uc x0 x2 x3 r (C + 1408))
  else dgate (at2 x1 r (C / 2816 * 1408 + (C % 2816 - 1408))) (uc x0 x2 x3 r (C - 1408)) (uc x0 x2 x3 r C)

/-- The gradient of the column `C`. -/
def du (r C : ℕ) : EReal :=
  nx (fun r => duc x0 x1 x2 x3 r C) r * at2 x2 0 C + duc x0 x1 x2 x3 r C * at2 x2 1 C + pv (fun r => duc x0 x1 x2 x3 r C) r * at2 x2 2 C

/-- What the row `r` adds to the row `a` of the sums: three rows of the weight's gradient, then the bias's. -/
def term (a C r : ℕ) : EReal :=
  if a = 0 then duc x0 x1 x2 x3 r C * pv (fun r => at2 x0 r C) r
  else if a = 1 then duc x0 x1 x2 x3 r C * at2 x0 r C
  else if a = 2 then duc x0 x1 x2 x3 r C * nx (fun r => at2 x0 r C) r
  else if a = 3 then duc x0 x1 x2 x3 r C else 0

def specU : (⟨2, ![8448, 11264]⟩ : Shape).Idx → EReal := fun i => du x0 x1 x2 x3 (i 0).val (i 1).val
def specW : (⟨2, ![8, 11264]⟩ : Shape).Idx → EReal := fun i => ∑ k ∈ Finset.range 8448, term x0 x1 x2 x3 (i 0).val (i 1).val k

end Cert.Ffn

end
-- ==== Proof.Ffn.Tile.lean ====
/-
  The gradient of the feed-forward layer's convolution and gate on one tile: 128 rows, with eight rows of the tiles on
  either side. A row of the tile is read at its place in the array; the rows at the ends of a stream have no neighbour.
-/
module

public import proofs.«01_k».proof.Proof.Ffn.Spec
public import proofs.«01_k».proof.Proof.Gen.FfnMidIdeal.Frame
public import Idealize.ShloMosaic.Lib.Pipeline.ValueKit.Point

@[expose] public section

set_option maxRecDepth 16384

noncomputable section

namespace Cert.FfnMidIdeal.Hand

open Cert.FfnMidIdeal Cert.FfnMidIdeal.Gen Cert.Prod Cert.Ffn
open Idealize.ShloMosaic Idealize.ShloMosaic.TcCoe Idealize.ShloMosaic.Tactic
open Idealize.ShloMosaic.Pipeline (Dat Cfg Window)

/-- The rows `lo` to `hi` of the tile `i` hold `f`, as far as they lie in the array. -/
def Rd (lo hi i : ℕ) (x : FVec Ideal S144x2816 .f32) (f : ℕ → ℕ → EReal) : Prop :=
  ∀ (a : Fin 144) (k : Fin 2816), lo ≤ a.val → a.val ≤ hi → 8 ≤ i * 128 + a.val → i * 128 + a.val < 8456 →
    x (ix2 a k) = f (i * 128 + a.val - 8) k.val

theorem mask_ne (i a v : ℕ) (hi : i < 66) (ha : a < 144) (h : 8 ≤ i * 128 + a) (hv : v < 8448) :
    IntOp.cmpi .ne (IntOp.addi (Scalar.subi (Scalar.muli (BitVec.ofNat 32 i) 128#32) 8#32) (BitVec.ofNat 32 a)) (BitVec.ofNat 32 v)
      = if i * 128 + a - 8 ≠ v then 1#1 else 0#1 := by
  have e : IntOp.addi (Scalar.subi (Scalar.muli (BitVec.ofNat 32 i) 128#32) 8#32) (BitVec.ofNat 32 a) = BitVec.ofNat 32 (i * 128 + a - 8) := by
    apply BitVec.eq_of_toNat_eq
    simp only [IntOp.addi, Scalar.subi, Scalar.muli, IntOp.subi, IntOp.muli, BitVec.toNat_add, BitVec.toNat_sub, BitVec.toNat_mul, BitVec.toNat_ofNat]
    omega
  rw [e]
  by_cases hr : i * 128 + a - 8 = v
  · rw [if_neg (by omega), hr]
    simp [IntOp.cmpi]
  · rw [if_pos hr]
    have : BitVec.ofNat 32 (i * 128 + a - 8) ≠ BitVec.ofNat 32 v := fun h => by
      have := congrArg BitVec.toNat h
      simp only [BitVec.toNat_ofNat] at this
      omega
    show BitVec.ofBool (_ != _) = 1#1
    rw [bne_iff_ne.mpr this]
    rfl

theorem sel_ne (i a v w : ℕ) (hi : i < 66) (ha : a < 144) (h : 8 ≤ i * 128 + a) (hv : v < 8448) (hw : w < 8448) (x y : EReal) :
    Scalar.select (IntOp.andi
      (IntOp.cmpi .ne (IntOp.addi (Scalar.subi (Scalar.muli (BitVec.ofNat 32 i) 128#32) 8#32) (BitVec.ofNat 32 a)) (BitVec.ofNat 32 v))
      (IntOp.cmpi .ne (IntOp.addi (Scalar.subi (Scalar.muli (BitVec.ofNat 32 i) 128#32) 8#32) (BitVec.ofNat 32 a)) (BitVec.ofNat 32 w))) x y
      = if i * 128 + a - 8 ≠ v ∧ i * 128 + a - 8 ≠ w then x else y := by
  rw [mask_ne i a v hi ha h hv, mask_ne i a w hi ha h hw]
  by_cases h1 : i * 128 + a - 8 = v <;> by_cases h2 : i * 128 + a - 8 = w <;> simp [h1, h2, Scalar.select, IntOp.andi]

theorem sel_mul (c : BitVec 1) (x w : EReal) : Scalar.select c (x * w) 0 = Scalar.select c x 0 * w := by
  unfold Scalar.select
  split
  · rfl
  · exact (zero_mul w).symm

variable {lo hi i : ℕ} {x : FVec Ideal S144x2816 .f32} {f : ℕ → ℕ → EReal}

theorem rot_pv (hx : Rd lo hi i x f) (a : Fin 144) (k : Fin 2816) (p) (h1 : lo + 1 ≤ a.val) (h2 : a.val ≤ hi + 1)
    (h3 : 9 ≤ i * 128 + a.val) (h4 : i * 128 + a.val < 8456) (h5 : i * 128 + a.val - 8 ≠ 256) :
    x (ix2 ⟨(a.val + 144 - 1) % 144, p⟩ k) = pv (fun r => f r k.val) (i * 128 + a.val - 8) := by
  have e : (a.val + 144 - 1) % 144 = a.val - 1 := by omega
  unfold pv
  rw [if_pos (by omega), hx ⟨_, p⟩ k (by dsimp only; omega) (by dsimp only; omega) (by dsimp only; omega) (by dsimp only; omega)]
  dsimp only
  rw [e, show i * 128 + (a.val - 1) - 8 = i * 128 + a.val - 8 - 1 by omega]

theorem rot_nx (hx : Rd lo hi i x f) (a : Fin 144) (k : Fin 2816) (p) (h1 : lo ≤ a.val + 1) (h2 : a.val + 1 ≤ hi) (h : hi ≤ 143)
    (h3 : 8 ≤ i * 128 + a.val) (h4 : i * 128 + a.val < 8455) (h5 : i * 128 + a.val - 8 ≠ 255) :
    x (ix2 ⟨(a.val + 144 - 143) % 144, p⟩ k) = nx (fun r => f r k.val) (i * 128 + a.val - 8) := by
  have e : (a.val + 144 - 143) % 144 = a.val + 1 := by omega
  unfold nx
  rw [if_pos (by omega), hx ⟨_, p⟩ k (by dsimp only; omega) (by dsimp only; omega) (by dsimp only; omega) (by dsimp only; omega)]
  dsimp only
  rw [e, show i * 128 + (a.val + 1) - 8 = i * 128 + a.val - 8 + 1 by omega]

theorem sel_pv (hi' : i < 66) (hx : Rd lo hi i x f) (a : Fin 144) (k : Fin 2816) (p) (h1 : lo + 1 ≤ a.val) (h2 : a.val ≤ hi + 1)
    (h3 : 8 ≤ i * 128 + a.val) (h4 : i * 128 + a.val < 8456) :
    Scalar.select (IntOp.andi
      (IntOp.cmpi .ne (IntOp.addi (Scalar.subi (Scalar.muli (BitVec.ofNat 32 i) 128#32) 8#32) (BitVec.ofNat 32 a.val)) 0#32)
      (IntOp.cmpi .ne (IntOp.addi (Scalar.subi (Scalar.muli (BitVec.ofNat 32 i) 128#32) 8#32) (BitVec.ofNat 32 a.val)) 256#32))
      (x (ix2 ⟨(a.val + 144 - 1) % 144, p⟩ k)) 0 = pv (fun r => f r k.val) (i * 128 + a.val - 8) := by
  rw [sel_ne i a.val 0 256 hi' a.isLt h3 (by omega) (by omega)]
  by_cases h : i * 128 + a.val - 8 ≠ 0 ∧ i * 128 + a.val - 8 ≠ 256
  · rw [if_pos h]
    exact rot_pv hx a k p h1 h2 (by omega) h4 h.2
  · rw [if_neg h]
    unfold pv
    rw [if_neg h]

theorem sel_nx (hi' : i < 66) (hx : Rd lo hi i x f) (a : Fin 144) (k : Fin 2816) (p) (h1 : lo ≤ a.val + 1) (h2 : a.val + 1 ≤ hi) (h : hi ≤ 143)
    (h3 : 8 ≤ i * 128 + a.val) (h4 : i * 128 + a.val < 8456) :
    Scalar.select (IntOp.andi
      (IntOp.cmpi .ne (IntOp.addi (Scalar.subi (Scalar.muli (BitVec.ofNat 32 i) 128#32) 8#32) (BitVec.ofNat 32 a.val)) 255#32)
      (IntOp.cmpi .ne (IntOp.addi (Scalar.subi (Scalar.muli (BitVec.ofNat 32 i) 128#32) 8#32) (BitVec.ofNat 32 a.val)) 8447#32))
      (x (ix2 ⟨(a.val + 144 - 143) % 144, p⟩ k)) 0 = nx (fun r => f r k.val) (i * 128 + a.val - 8) := by
  rw [sel_ne i a.val 255 8447 hi' a.isLt h3 (by omega) (by omega)]
  by_cases h' : i * 128 + a.val - 8 ≠ 255 ∧ i * 128 + a.val - 8 ≠ 8447
  · rw [if_pos h']
    exact rot_nx hx a k p h1 h2 h h3 (by omega) h'.1
  · rw [if_neg h']
    unfold nx
    rw [if_neg h']

theorem prev_A (hi' : i < 66) (p : Vec Ideal S8x2816 .f32) (m : Vec Ideal S128x2816 .f32) (n : Vec Ideal S8x2816 .f32)
    (hx : Rd 0 143 i (k0_pay10 p m n) f) : Rd 1 143 i (k0_pay11 (BitVec.ofNat 32 i) p m n) (fun r k => pv (fun r => f r k) r) := by
  intro a k h1 h2 h3 h4
  pointwise [k0_pay11, k0_pay8, k0_pay7]
  exact sel_pv hi' hx a k _ (by omega) (by omega) h3 h4

theorem next_A (hi' : i < 66) (p : Vec Ideal S8x2816 .f32) (m : Vec Ideal S128x2816 .f32) (n : Vec Ideal S8x2816 .f32)
    (hx : Rd 0 143 i (k0_pay10 p m n) f) : Rd 0 142 i (k0_pay12 (BitVec.ofNat 32 i) p m n) (fun r k => nx (fun r => f r k) r) := by
  intro a k h1 h2 h3 h4
  pointwise [k0_pay12, k0_pay9, k0_pay7]
  exact sel_nx hi' hx a k _ (by omega) (by omega) (by omega) h3 h4

theorem prev_C (hi' : 3 ≤ i) (p : Vec Ideal S8x2816 .f32) (m : Vec Ideal S128x2816 .f32) (n : Vec Ideal S8x2816 .f32)
    (hx : Rd 0 143 i (k0_pay10 p m n) f) : Rd 1 143 i (k0_pay17 p m n) (fun r k => pv (fun r => f r k) r) := by
  intro a k h1 h2 h3 h4
  pointwise [k0_pay17]
  exact rot_pv hx a k _ (by omega) (by omega) (by omega) h4 (by omega)

theorem next_C (hi' : 3 ≤ i) (hj' : i ≤ 64) (p : Vec Ideal S8x2816 .f32) (m : Vec Ideal S128x2816 .f32) (n : Vec Ideal S8x2816 .f32)
    (hx : Rd 0 143 i (k0_pay10 p m n) f) : Rd 0 142 i (k0_pay18 p m n) (fun r k => nx (fun r => f r k) r) := by
  intro a k h1 h2 h3 h4
  pointwise [k0_pay18]
  exact rot_nx hx a k _ (by omega) (by omega) (by omega) h3 (by omega) (by omega)

/-- The convolution of an inner tile, before the bias. -/
def conv (p : Vec Ideal S8x2816 .f32) (m : Vec Ideal S128x2816 .f32) (n : Vec Ideal S8x2816 .f32) (w : Vec Ideal S3x2816 .f32) : FVec Ideal S144x2816 .f32 :=
  addf (addf (mulf (k0_pay17 p m n) (broadcastTo S144x2816 (extractStridedSlice S1x2816 ![0, 0] w slices_S3x2816_o0_0_S1x2816) broadcasts_S1x2816_S144x2816))
    (mulf (k0_pay16 p m n) (broadcastTo S144x2816 (extractStridedSlice S1x2816 ![1, 0] w slices_S3x2816_o1_0_S1x2816) broadcasts_S1x2816_S144x2816)))
    (mulf (k0_pay18 p m n) (broadcastTo S144x2816 (extractStridedSlice S1x2816 ![2, 0] w slices_S3x2816_o2_0_S1x2816) broadcasts_S1x2816_S144x2816))

variable (u : ℕ → ℕ → EReal)

theorem conv_A (b : BitVec 32) (p : Vec Ideal S8x2816 .f32) (m : Vec Ideal S128x2816 .f32) (n : Vec Ideal S8x2816 .f32) (w : Vec Ideal S3x2816 .f32)
    (hx : Rd 0 143 i (k0_pay10 p m n) f) (hp : Rd 1 143 i (k0_pay11 b p m n) (fun r k => pv (fun r => f r k) r))
    (hn : Rd 0 142 i (k0_pay12 b p m n) (fun r k => nx (fun r => f r k) r)) (g : ℕ → ℕ → EReal)
    (hw : ∀ (q : Fin 3) (k : Fin 2816), w (ix2 q k) = g q.val k.val) :
    Rd 1 142 i (k0_pay13 b p m n w) (fun r k => pv (fun r => f r k) r * g 0 k + f r k * g 1 k + nx (fun r => f r k) r * g 2 k) := by
  intro a k h1 h2 h3 h4
  pointwise [k0_pay13]
  rw [hx a k (by omega) (by omega) h3 h4, hp a k (by omega) (by omega) h3 h4, hn a k (by omega) (by omega) h3 h4]
  have e0 := hw 0 k
  have e1 := hw 1 k
  have e2 := hw 2 k
  simp only [hw] <;> rfl

theorem conv_C (p : Vec Ideal S8x2816 .f32) (m : Vec Ideal S128x2816 .f32) (n : Vec Ideal S8x2816 .f32) (w : Vec Ideal S3x2816 .f32)
    (hx : Rd 0 143 i (k0_pay10 p m n) f) (hp : Rd 1 143 i (k0_pay17 p m n) (fun r k => pv (fun r => f r k) r))
    (hn : Rd 0 142 i (k0_pay18 p m n) (fun r k => nx (fun r => f r k) r)) (g : ℕ → ℕ → EReal)
    (hw : ∀ (q : Fin 3) (k : Fin 2816), w (ix2 q k) = g q.val k.val) :
    Rd 1 142 i (conv p m n w) (fun r k => pv (fun r => f r k) r * g 0 k + f r k * g 1 k + nx (fun r => f r k) r * g 2 k) := by
  intro a k h1 h2 h3 h4
  have hx' : k0_pay16 (F := Ideal) p m n (ix2 a k) = _ := hx a k (by omega) (by omega) h3 h4
  pointwise [conv]
  rw [hx', hp a k (by omega) (by omega) h3 h4, hn a k (by omega) (by omega) h3 h4]
  simp only [hw] <;> rfl

/-- The gradient of the convolved columns, of the convolution and of the gated product's gradient. -/
theorem duc_tile (v : FVec Ideal S144x2816 .f32) (b : Vec Ideal S1x2816 .f32) (p : Vec Ideal S8x1408 .bf16) (m : Vec Ideal S128x1408 .bf16)
    (n : Vec Ideal S8x1408 .bf16) (U : ℕ → ℕ → EReal) (D : ℕ → ℕ → EReal)
    (hU : Rd lo hi i v f) (hb : ∀ r (k : Fin 2816), f r k.val + b (ix2 0 k) = U r k.val)
    (hD : ∀ (a : Fin 144) (k : Fin 1408), 8 ≤ i * 128 + a.val → i * 128 + a.val < 8456 →
      (if h : a.val < 8 then p (ix2 ⟨a.val, h⟩ k) else if h' : a.val - 8 < 128 then m (ix2 ⟨a.val - 8, h'⟩ k) else n (ix2 ⟨a.val - 8 - 128, by omega⟩ k))
        = D (i * 128 + a.val - 8) k.val) :
    Rd lo hi i (k0_pay14 v b p m n) (fun r k => if k < 1408 then dval (D r k) (U r (k + 1408)) else dgate (D r (k - 1408)) (U r (k - 1408)) (U r k)) := by
  intro a k h1 h2 h3 h4
  have hU' : ∀ k : Fin 2816, v (ix2 a k) + b (ix2 0 k) = U (i * 128 + a.val - 8) k.val := fun k => by rw [hU a k h1 h2 h3 h4]; exact hb _ k
  pointwise [k0_pay14]
  by_cases hk : k.val < 1408
  · rw [dif_pos hk, if_pos hk]
    refine congrArg₂ _ (hD a ⟨k.val, hk⟩ h3 h4) ?_
    rw [hU' ⟨1408 + k.val, _⟩, Nat.add_comm k.val 1408]
    rfl
  · rw [dif_neg hk, if_neg hk]
    have e : 1408 + (k.val - 1408) = k.val := by omega
    refine congrArg₂ _ (congrArg₂ _ (hD a ⟨k.val - 1408, by omega⟩ h3 h4) (hU' ⟨k.val - 1408, by omega⟩)) ?_
    rw [hU' ⟨1408 + (k.val - 1408), _⟩]
    dsimp only
    rw [e]
    rfl

theorem du_A (hi' : i < 66) (w : Vec Ideal S3x2816 .f32) (v : FVec Ideal S144x2816 .f32) (b : Vec Ideal S1x2816 .f32) (p : Vec Ideal S8x1408 .bf16)
    (m : Vec Ideal S128x1408 .bf16) (n : Vec Ideal S8x1408 .bf16) (hx : Rd 1 142 i (k0_pay14 v b p m n) f) (g : ℕ → ℕ → EReal)
    (hw : ∀ (q : Fin 3) (k : Fin 2816), w (ix2 q k) = g q.val k.val) (a : Fin 128) (k : Fin 2816) :
    k0_pay15 (k0_pay8 (BitVec.ofNat 32 i)) (k0_pay9 (BitVec.ofNat 32 i)) w v b p m n (ix2 a k)
      = nx (fun r => f r k.val) (i * 128 + a.val) * g 0 k.val + f (i * 128 + a.val) k.val * g 1 k.val + pv (fun r => f r k.val) (i * 128 + a.val) * g 2 k.val := by
  have ha := a.isLt
  pointwise [k0_pay15, k0_pay8, k0_pay9, k0_pay7]
  have e : i * 128 + (8 + a.val) - 8 = i * 128 + a.val := by omega
  have q1 := sel_pv hi' hx ⟨8 + a.val, by omega⟩ k (by dsimp only; omega) (by dsimp only; omega) (by dsimp only; omega) (by dsimp only; omega) (by dsimp only; omega)
  have q2 := sel_nx hi' hx ⟨8 + a.val, by omega⟩ k (by dsimp only; omega) (by dsimp only; omega) (by dsimp only; omega) (by omega) (by dsimp only; omega) (by dsimp only; omega)
  have q3 := hx ⟨8 + a.val, by omega⟩ k (by dsimp only; omega) (by dsimp only; omega) (by dsimp only; omega) (by dsimp only; omega)
  dsimp only at q1 q2 q3
  rw [e] at q1 q2 q3
  exact congrArg₂ (· + ·) (congrArg₂ (· + ·) ((sel_mul _ _ _).trans (congrArg₂ (· * ·) q2 (hw 0 k))) (congrArg₂ (· * ·) q3 (hw 1 k)))
    ((sel_mul _ _ _).trans (congrArg₂ (· * ·) q1 (hw 2 k)))

theorem du_C (h5 : 3 ≤ i) (h6 : i ≤ 64) (w : Vec Ideal S3x2816 .f32) (x y z : FVec Ideal S144x1408 .f32) (hx : Rd 1 142 i (k0_pay3 x y z) f) (g : ℕ → ℕ → EReal)
    (hw : ∀ (q : Fin 3) (k : Fin 2816), w (ix2 q k) = g q.val k.val) (a : Fin 128) (k : Fin 2816) :
    k0_pay4 w x y z (ix2 a k)
      = nx (fun r => f r k.val) (i * 128 + a.val) * g 0 k.val + f (i * 128 + a.val) k.val * g 1 k.val + pv (fun r => f r k.val) (i * 128 + a.val) * g 2 k.val := by
  have ha := a.isLt
  pointwise [k0_pay4]
  have e : i * 128 + (8 + a.val) - 8 = i * 128 + a.val := by omega
  have q1 := rot_pv hx ⟨8 + a.val, by omega⟩ k (by dsimp only; omega) (by dsimp only; omega) (by dsimp only; omega) (by dsimp only; omega) (by dsimp only; omega) (by dsimp only; omega)
  have q2 := rot_nx hx ⟨8 + a.val, by omega⟩ k (by dsimp only; omega) (by dsimp only; omega) (by dsimp only; omega) (by omega) (by dsimp only; omega) (by dsimp only; omega) (by dsimp only; omega)
  have q3 := hx ⟨8 + a.val, by omega⟩ k (by dsimp only; omega) (by dsimp only; omega) (by dsimp only; omega) (by dsimp only; omega)
  dsimp only at q1 q2 q3
  rw [e] at q1 q2 q3
  exact congrArg₂ (· + ·) (congrArg₂ (· + ·) (congrArg₂ (· * ·) q2 (hw 0 k)) (congrArg₂ (· * ·) q3 (hw 1 k))) (congrArg₂ (· * ·) q1 (hw 2 k))

/-- What a tile adds to the sums. -/
theorem part_tile (hi' : i < 66) (e p n d : FVec Ideal S144x2816 .f32) (g : ℕ → ℕ → EReal) (he : Rd 0 143 i e f) (hp : Rd 1 143 i p (fun r k => pv (fun r => f r k) r))
    (hn : Rd 0 142 i n (fun r k => nx (fun r => f r k) r)) (hd : Rd 1 142 i d g) (a : Fin 8) (k : Fin 2816) :
    k0_pay1 e p n d (ix2 a k) = ∑ x : Fin 128, (if a.val = 0 then g (i * 128 + x.val) k.val * pv (fun r => f r k.val) (i * 128 + x.val)
      else if a.val = 1 then g (i * 128 + x.val) k.val * f (i * 128 + x.val) k.val
      else if a.val = 2 then g (i * 128 + x.val) k.val * nx (fun r => f r k.val) (i * 128 + x.val)
      else if a.val = 3 then g (i * 128 + x.val) k.val else 0) := by
  have e8 : ∀ x : Fin 128, i * 128 + (8 + x.val) - 8 = i * 128 + x.val := fun x => by omega
  have rd : ∀ {lo hi : ℕ} {y : FVec Ideal S144x2816 .f32} {h : ℕ → ℕ → EReal}, Rd lo hi i y h → lo ≤ 8 → 135 ≤ hi → ∀ (x : Fin 128) (p),
      y (ix2 ⟨8 + x.val, p⟩ k) = h (i * 128 + x.val) k.val := by
    intro lo hi y h hy h1 h2 x p
    have hx := x.isLt
    rw [hy ⟨8 + x.val, p⟩ k (by dsimp only; omega) (by dsimp only; omega) (by dsimp only; omega) (by dsimp only; omega)]
    dsimp only
    rw [e8]
  pointwise [k0_pay1]
  simp only [rd he (by omega) (by omega), rd hp (by omega) (by omega), rd hn (by omega) (by omega), rd hd (by omega) (by omega)]
  have ha := a.isLt
  by_cases h0 : a.val = 0
  · rw [dif_pos (by omega)]; simp only [h0, if_true]
  rw [dif_neg (by omega)]
  by_cases h1 : a.val = 1
  · rw [dif_pos (by omega)]; simp [h1]
  rw [dif_neg (by omega)]
  by_cases h2 : a.val = 2
  · rw [dif_pos (by omega)]; simp [h2]
  rw [dif_neg (by omega)]
  by_cases h3 : a.val = 3
  · rw [dif_pos (by omega)]; simp [h3]
  rw [dif_neg (by omega)]
  simp only [h0, h1, h2, h3, if_false, Finset.sum_const_zero]

end Cert.FfnMidIdeal.Hand

end
-- ==== Proof.Ffn.Kern.lean ====
/-
  The gradient of the feed-forward layer's convolution and gate: the arrays the call leaves, of the arrays it is handed.
-/
module

public import proofs.«01_k».proof.Proof.Ffn.Tile

@[expose] public section

set_option maxRecDepth 16384

noncomputable section

namespace Cert.FfnMidIdeal.Hand

open Cert.FfnMidIdeal Cert.FfnMidIdeal.Gen Cert.Prod Cert.Ffn
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![16 * (t.val % 66) - 1, t.val / 66] := (by decide +kernel : ∀ t : Fin grid0.N, _)
theorem ix_1 : ∀ t : Fin cfg0.N, win0_1.index t = ![t.val % 66, t.val / 66] := (by decide +kernel : ∀ t : Fin grid0.N, _)
theorem ix_2 : ∀ t : Fin cfg0.N, win0_2.index t = ![min (16 * (t.val % 66 + 1)) 1055, t.val / 66] := (by decide +kernel : ∀ t : Fin grid0.N, _)
theorem ix_3 : ∀ t : Fin cfg0.N, win0_3.index t = ![16 * (t.val % 66) - 1, t.val / 66] := (by decide +kernel : ∀ t : Fin grid0.N, _)
theorem ix_4 : ∀ t : Fin cfg0.N, win0_4.index t = ![t.val % 66, t.val / 66] := (by decide +kernel : ∀ t : Fin grid0.N, _)
theorem ix_5 : ∀ t : Fin cfg0.N, win0_5.index t = ![min (16 * (t.val % 66 + 1)) 1055, t.val / 66] := (by decide +kernel : ∀ t : Fin grid0.N, _)
theorem ix_6 : ∀ t : Fin cfg0.N, win0_6.index t = ![0, t.val / 66] := (by decide +kernel : ∀ t : Fin grid0.N, _)
theorem ix_7 : ∀ t : Fin cfg0.N, win0_7.index t = ![0, t.val / 66] := (by decide +kernel : ∀ t : Fin grid0.N, _)
theorem ix_8 : ∀ t : Fin cfg0.N, win0_8.index t = ![t.val % 66, t.val / 66] := (by decide +kernel : ∀ t : Fin grid0.N, _)
theorem ix_9 : ∀ t : Fin cfg0.N, win0_9.index t = ![0, t.val / 66] := (by decide +kernel : ∀ t : Fin grid0.N, _)
theorem co_1 : ∀ t : Fin cfg0.N, (grid0.coords t 1).val = t.val % 66 := (by decide +kernel : ∀ t : Fin grid0.N, (grid0.coords t 1).val = t.val % 66)
theorem N_le (t : Fin cfg0.N) : t.val < 264 := t.isLt.trans_eq N_0

def mu (r C : ℕ) : EReal := at2 (n := 8448) (k := 11264) (m ((c : Thread nD τ).loc main_arg0)) r C
def md (r C : ℕ) : EReal := at2 (n := 8448) (k := 5632) (m ((c : Thread nD τ).loc main_arg1)) r C
def mw (q C : ℕ) : EReal := at2 (n := 3) (k := 11264) (m ((c : Thread nD τ).loc main_arg2)) q C
def mb (q C : ℕ) : EReal := at2 (n := 1) (k := 11264) (m ((c : Thread nD τ).loc main_arg3)) q C
def muc (r C : ℕ) : EReal := uc (m ((c : Thread nD τ).loc main_arg0)) (m ((c : Thread nD τ).loc main_arg2)) (m ((c : Thread nD τ).loc main_arg3)) r C
def mduc (r C : ℕ) : EReal := duc (m ((c : Thread nD τ).loc main_arg0)) (m ((c : Thread nD τ).loc main_arg1)) (m ((c : Thread nD τ).loc main_arg2)) (m ((c : Thread nD τ).loc main_arg3)) r C
def mdu (r C : ℕ) : EReal := du (m ((c : Thread nD τ).loc main_arg0)) (m ((c : Thread nD τ).loc main_arg1)) (m ((c : Thread nD τ).loc main_arg2)) (m ((c : Thread nD τ).loc main_arg3)) r C
def mterm (a C r : ℕ) : EReal := term (m ((c : Thread nD τ).loc main_arg0)) (m ((c : Thread nD τ).loc main_arg1)) (m ((c : Thread nD τ).loc main_arg2)) (m ((c : Thread nD τ).loc main_arg3)) a C r

theorem blk_0 (t : Fin cfg0.N) (a : Fin 8) (k : Fin 2816) :
    iblk m c 0 t (ix2 a k) = mu m c ((16 * (t.val % 66) - 1) * 8 + a.val) (t.val / 66 * 2816 + k.val) := by
  have h := N_le t
  unfold mu
  rw [at2_lt _ (by omega) (by omega)]
  blk_ext! [iblk, V, ix_0 t]

theorem blk_1 (t : Fin cfg0.N) (a : Fin 128) (k : Fin 2816) :
    iblk m c 1 t (ix2 a k) = mu m c (t.val % 66 * 128 + a.val) (t.val / 66 * 2816 + k.val) := by
  have h := N_le t
  unfold mu
  rw [at2_lt _ (by omega) (by omega)]
  blk_ext! [iblk, V, ix_1 t]

theorem blk_2 (t : Fin cfg0.N) (a : Fin 8) (k : Fin 2816) :
    iblk m c 2 t (ix2 a k) = mu m c (min (16 * (t.val % 66 + 1)) 1055 * 8 + a.val) (t.val / 66 * 2816 + k.val) := by
  have h := N_le t
  unfold mu
  rw [at2_lt _ (by omega) (by omega)]
  blk_ext! [iblk, V, ix_2 t]

theorem blk_3 (t : Fin cfg0.N) (a : Fin 8) (k : Fin 1408) :
    iblk m c 3 t (ix2 a k) = md m c ((16 * (t.val % 66) - 1) * 8 + a.val) (t.val / 66 * 1408 + k.val) := by
  have h := N_le t
  unfold md
  rw [at2_lt _ (by omega) (by omega)]
  blk_ext! [iblk, V, ix_3 t]

theorem blk_4 (t : Fin cfg0.N) (a : Fin 128) (k : Fin 1408) :
    iblk m c 4 t (ix2 a k) = md m c (t.val % 66 * 128 + a.val) (t.val / 66 * 1408 + k.val) := by
  have h := N_le t
  unfold md
  rw [at2_lt _ (by omega) (by omega)]
  blk_ext! [iblk, V, ix_4 t]

theorem blk_5 (t : Fin cfg0.N) (a : Fin 8) (k : Fin 1408) :
    iblk m c 5 t (ix2 a k) = md m c (min (16 * (t.val % 66 + 1)) 1055 * 8 + a.val) (t.val / 66 * 1408 + k.val) := by
  have h := N_le t
  unfold md
  rw [at2_lt _ (by omega) (by omega)]
  blk_ext! [iblk, V, ix_5 t]

theorem blk_6 (t : Fin cfg0.N) (a : Fin 3) (k : Fin 2816) :
    iblk m c 6 t (ix2 a k) = mw m c (a.val) (t.val / 66 * 2816 + k.val) := by
  have h := N_le t
  unfold mw
  rw [at2_lt _ (by omega) (by omega)]
  blk_ext! [iblk, V, ix_6 t]

theorem blk_7 (t : Fin cfg0.N) (a : Fin 1) (k : Fin 2816) :
    iblk m c 7 t (ix2 a k) = mb m c (a.val) (t.val / 66 * 2816 + k.val) := by
  have h := N_le t
  unfold mb
  rw [at2_lt _ (by omega) (by omega)]
  blk_ext! [iblk, V, ix_7 t]

/-- The tile of the array, with the rows beside it. -/
theorem tile_u (t : Fin cfg0.N) :
    Rd 0 143 (t.val % 66) (k0_pay10 (iblk m c 0 t) (iblk m c 1 t) (iblk m c 2 t)) (fun r k => mu m c r (t.val / 66 * 2816 + k)) := by
  intro a k h1 h2 h3 h4
  have h := N_le t
  pointwise [k0_pay10]
  split
  · rw [blk_0]
    exact congrArg (fun r => mu m c r _) (by dsimp only; omega)
  split
  · rw [blk_1]
    exact congrArg (fun r => mu m c r _) (by dsimp only; omega)
  · rw [blk_2]
    exact congrArg (fun r => mu m c r _) (by dsimp only; omega)

theorem tile_d (t : Fin cfg0.N) (a : Fin 144) (k : Fin 1408) (h3 : 8 ≤ t.val % 66 * 128 + a.val) (h4 : t.val % 66 * 128 + a.val < 8456) :
    (if h : a.val < 8 then iblk m c 3 t (ix2 ⟨a.val, h⟩ k) else if h' : a.val - 8 < 128 then iblk m c 4 t (ix2 ⟨a.val - 8, h'⟩ k)
      else iblk m c 5 t (ix2 ⟨a.val - 8 - 128, by omega⟩ k)) = md m c (t.val % 66 * 128 + a.val - 8) (t.val / 66 * 1408 + k.val) := by
  have h := N_le t
  split
  · rw [blk_3]
    exact congrArg (fun r => md m c r _) (by dsimp only; omega)
  split
  · rw [blk_4]
    exact congrArg (fun r => md m c r _) (by dsimp only; omega)
  · rw [blk_5]
    exact congrArg (fun r => md m c r _) (by dsimp only; omega)

theorem muc_def (t : Fin cfg0.N) (r k : ℕ) : (pv (fun r => mu m c r (t.val / 66 * 2816 + k)) r * mw m c 0 (t.val / 66 * 2816 + k)
    + mu m c r (t.val / 66 * 2816 + k) * mw m c 1 (t.val / 66 * 2816 + k) + nx (fun r => mu m c r (t.val / 66 * 2816 + k)) r * mw m c 2 (t.val / 66 * 2816 + k))
    + mb m c 0 (t.val / 66 * 2816 + k) = muc m c r (t.val / 66 * 2816 + k) := rfl

theorem tile_duc (t : Fin cfg0.N) (v : FVec Ideal S144x2816 .f32) (hv : Rd 1 142 (t.val % 66) v (fun r k =>
      pv (fun r => mu m c r (t.val / 66 * 2816 + k)) r * mw m c 0 (t.val / 66 * 2816 + k) + mu m c r (t.val / 66 * 2816 + k) * mw m c 1 (t.val / 66 * 2816 + k)
        + nx (fun r => mu m c r (t.val / 66 * 2816 + k)) r * mw m c 2 (t.val / 66 * 2816 + k))) :
    Rd 1 142 (t.val % 66) (k0_pay14 v (iblk m c 7 t) (iblk m c 3 t) (iblk m c 4 t) (iblk m c 5 t)) (fun r k => mduc m c r (t.val / 66 * 2816 + k)) := by
  have q := duc_tile v (iblk m c 7 t) (iblk m c 3 t) (iblk m c 4 t) (iblk m c 5 t) (fun r k => muc m c r (t.val / 66 * 2816 + k))
    (fun r k => md m c r (t.val / 66 * 1408 + k)) hv (fun r k => by
      rw [blk_7]
      exact muc_def m c t r k.val) (tile_d m c t)
  intro a k h1 h2 h3 h4
  have hk := k.isLt
  refine (q a k h1 h2 h3 h4).trans ?_
  dsimp only
  unfold mduc duc
  have e1 : (t.val / 66 * 2816 + k.val) % 2816 = k.val := by omega
  have e2 : (t.val / 66 * 2816 + k.val) / 2816 = t.val / 66 := by omega
  rw [e1, e2]
  by_cases h : k.val < 1408
  · rw [if_pos h, if_pos h, ← Nat.add_assoc]
    rfl
  · rw [if_neg h, if_neg h, show t.val / 66 * 2816 + (k.val - 1408) = t.val / 66 * 2816 + k.val - 1408 by omega]
    rfl

theorem hw (t : Fin cfg0.N) (q : Fin 3) (k : Fin 2816) : iblk m c 6 t (ix2 q k) = (fun q k => mw m c q (t.val / 66 * 2816 + k)) q.val k.val := blk_6 m c t q k

/-- The gradient of the convolved columns on a tile at the ends of a stream, and on an inner one. -/
def dA (t : Fin cfg0.N) : FVec Ideal S144x2816 .f32 := k0_pay14 (k0_pay13 (BitVec.ofNat 32 (t.val % 66)) (iblk m c 0 t) (iblk m c 1 t) (iblk m c 2 t) (iblk m c 6 t)) (iblk m c 7 t) (iblk m c 3 t) (iblk m c 4 t) (iblk m c 5 t)
def dC (t : Fin cfg0.N) : FVec Ideal S144x2816 .f32 := k0_pay14 (conv (iblk m c 0 t) (iblk m c 1 t) (iblk m c 2 t) (iblk m c 6 t)) (iblk m c 7 t) (iblk m c 3 t) (iblk m c 4 t) (iblk m c 5 t)

theorem dA_rd (t : Fin cfg0.N) : Rd 1 142 (t.val % 66) (dA m c t) (fun r k => mduc m c r (t.val / 66 * 2816 + k)) :=
  tile_duc m c t _ (conv_A _ _ _ _ (iblk m c 6 t) (tile_u m c t) (prev_A (by omega) _ _ _ (tile_u m c t)) (next_A (by omega) _ _ _ (tile_u m c t)) (fun q k => mw m c q (t.val / 66 * 2816 + k)) (hw m c t))

theorem dC_rd (t : Fin cfg0.N) (h : 3 ≤ t.val % 66 ∧ t.val % 66 ≤ 64) : Rd 1 142 (t.val % 66) (dC m c t) (fun r k => mduc m c r (t.val / 66 * 2816 + k)) :=
  tile_duc m c t _ (conv_C _ _ _ (iblk m c 6 t) (tile_u m c t) (prev_C h.1 _ _ _ (tile_u m c t)) (next_C h.1 h.2 _ _ _ (tile_u m c t)) (fun q k => mw m c q (t.val / 66 * 2816 + k)) (hw m c t))

theorem dC_eq (t : Fin cfg0.N) : k0_pay3 (F := Ideal) (k0_pay23 (iblk m c 0 t) (iblk m c 1 t) (iblk m c 2 t) (iblk m c 6 t) (iblk m c 7 t) (iblk m c 3 t) (iblk m c 4 t) (iblk m c 5 t))
    (k0_pay24 (iblk m c 0 t) (iblk m c 1 t) (iblk m c 2 t) (iblk m c 6 t) (iblk m c 7 t) (iblk m c 3 t) (iblk m c 4 t) (iblk m c 5 t))
    (k0_pay25 (iblk m c 0 t) (iblk m c 1 t) (iblk m c 2 t) (iblk m c 6 t) (iblk m c 7 t)) = dC m c t := rfl

/-- What a tile adds to the sums. -/
def partA (t : Fin cfg0.N) : FVec Ideal S8x2816 .f32 :=
  k0_pay1 (k0_pay10 (iblk m c 0 t) (iblk m c 1 t) (iblk m c 2 t)) (k0_pay11 (BitVec.ofNat 32 (t.val % 66)) (iblk m c 0 t) (iblk m c 1 t) (iblk m c 2 t))
    (k0_pay12 (BitVec.ofNat 32 (t.val % 66)) (iblk m c 0 t) (iblk m c 1 t) (iblk m c 2 t)) (dA m c t)
def partC (t : Fin cfg0.N) : FVec Ideal S8x2816 .f32 :=
  k0_pay1 (k0_pay10 (iblk m c 0 t) (iblk m c 1 t) (iblk m c 2 t)) (k0_pay17 (iblk m c 0 t) (iblk m c 1 t) (iblk m c 2 t))
    (k0_pay18 (iblk m c 0 t) (iblk m c 1 t) (iblk m c 2 t)) (dC m c t)

theorem pay2_apply (e p n d : FVec Ideal S144x2816 .f32) (v : Vec Ideal S8x2816 .f32) (a : Fin 8) (k : Fin 2816) :
    k0_pay2 e p n d v (ix2 a k) = v (ix2 a k) + k0_pay1 e p n d (ix2 a k) := by
  pointwise [k0_pay2]

theorem partA_apply (t : Fin cfg0.N) (a : Fin 8) (k : Fin 2816) : partA m c t (ix2 a k) = ∑ x : Fin 128, mterm m c a.val (t.val / 66 * 2816 + k.val) (t.val % 66 * 128 + x.val) :=
  part_tile (by omega) _ _ _ _ _ (tile_u m c t) (prev_A (by omega) _ _ _ (tile_u m c t)) (next_A (by omega) _ _ _ (tile_u m c t)) (dA_rd m c t) a k

theorem partC_apply (t : Fin cfg0.N) (h : 3 ≤ t.val % 66 ∧ t.val % 66 ≤ 64) (a : Fin 8) (k : Fin 2816) : partC m c t (ix2 a k) = ∑ x : Fin 128, mterm m c a.val (t.val / 66 * 2816 + k.val) (t.val % 66 * 128 + x.val) :=
  part_tile (by omega) _ _ _ _ _ (tile_u m c t) (prev_C h.1 _ _ _ (tile_u m c t)) (next_C h.1 h.2 _ _ _ (tile_u m c t)) (dC_rd m c t h) a k

theorem outA_1 (t : Fin cfg0.N) (h1 : t.val % 66 = 0) :
    (outsAt0 m c t.val t.isLt).1 = k0_pay15 (k0_pay8 (BitVec.ofNat 32 (t.val % 66))) (k0_pay9 (BitVec.ofNat 32 (t.val % 66))) (iblk m c 6 t) (k0_pay13 (BitVec.ofNat 32 (t.val % 66)) (iblk m c 0 t) (iblk m c 1 t) (iblk m c 2 t) (iblk m c 6 t)) (iblk m c 7 t) (iblk m c 3 t) (iblk m c 4 t) (iblk m c 5 t) := by
  rw [outsAt0_A m c t (by omega) h1 (by omega) (by omega)]
  dsimp only
  unfold out0_A_8
  rw [View.read_writes_eq_canon _ _ _ (cover0_A_8 c _ _ _ _ _ _ _ _ _ _ _ _ _ _ _ _ _ _ _ _ _ _ _ _ _ _ _ _ _ _ _ _ _ )]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  simp only [View.canon_unit_zero (S := S128x2816) z2, View.ld_unit_zero (S := S8x2816) z2, View.ld_unit_zero (S := S128x2816) z2, View.ld_unit_zero (S := S8x1408) z2, View.ld_unit_zero (S := S128x1408) z2, View.ld_unit_zero (S := S3x2816) z2, View.ld_unit_zero (S := S1x2816) z2, View.readCov_unit_zero (S := S8x2816) _ z2, co_1]

theorem outB_1 (t : Fin cfg0.N) (h : ¬(3 ≤ t.val % 66 ∧ t.val % 66 ≤ 64)) (h1 : ¬t.val % 66 = 0) :
    (outsAt0 m c t.val t.isLt).1 = k0_pay15 (k0_pay8 (BitVec.ofNat 32 (t.val % 66))) (k0_pay9 (BitVec.ofNat 32 (t.val % 66))) (iblk m c 6 t) (k0_pay13 (BitVec.ofNat 32 (t.val % 66)) (iblk m c 0 t) (iblk m c 1 t) (iblk m c 2 t) (iblk m c 6 t)) (iblk m c 7 t) (iblk m c 3 t) (iblk m c 4 t) (iblk m c 5 t) := by
  rw [outsAt0_B m c t h h1 (by omega) h]
  dsimp only
  unfold out0_B_8
  rw [View.read_writes_eq_canon _ _ _ (cover0_B_8 c _ _ _ _ _ _ _ _ _ _ _ _ _ _ _ _ _ _ _ _ _ _ _ _ _ _ _ _ _ _ _ _ _ _ )]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_9 t).read_unread]
  simp only [View.canon_unit_zero (S := S128x2816) z2, View.ld_unit_zero (S := S8x2816) z2, View.ld_unit_zero (S := S128x2816) z2, View.ld_unit_zero (S := S8x1408) z2, View.ld_unit_zero (S := S128x1408) z2, View.ld_unit_zero (S := S3x2816) z2, View.ld_unit_zero (S := S1x2816) z2, View.readCov_unit_zero (S := S8x2816) _ z2, co_1]

theorem outC_1 (t : Fin cfg0.N) (h : 3 ≤ t.val % 66 ∧ t.val % 66 ≤ 64) :
    (outsAt0 m c t.val t.isLt).1 = k0_pay4 (iblk m c 6 t) (k0_pay23 (iblk m c 0 t) (iblk m c 1 t) (iblk m c 2 t) (iblk m c 6 t) (iblk m c 7 t) (iblk m c 3 t) (iblk m c 4 t) (iblk m c 5 t)) (k0_pay24 (iblk m c 0 t) (iblk m c 1 t) (iblk m c 2 t) (iblk m c 6 t) (iblk m c 7 t) (iblk m c 3 t) (iblk m c 4 t) (iblk m c 5 t)) (k0_pay25 (iblk m c 0 t) (iblk m c 1 t) (iblk m c 2 t) (iblk m c 6 t) (iblk m c 7 t)) := by
  rw [outsAt0_C m c t (fun h' => h' h) h (by omega) (by omega)]
  dsimp only
  unfold out0_C_8
  rw [View.read_writes_eq_canon _ _ _ (cover0_C_8 c _ _ _ _ _ _ _ _ _ _ _ _ _ _ _ _ _ _ _ _ _ _ _ _ _ _ _ _ _ _ _ _ _ _ )]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_9 t).read_unread]
  simp only [View.canon_unit_zero (S := S128x2816) z2, View.ld_unit_zero (S := S8x2816) z2, View.ld_unit_zero (S := S128x2816) z2, View.ld_unit_zero (S := S8x1408) z2, View.ld_unit_zero (S := S128x1408) z2, View.ld_unit_zero (S := S3x2816) z2, View.ld_unit_zero (S := S1x2816) z2, View.readCov_unit_zero (S := S8x2816) _ z2, co_1]

theorem outA_2 (t : Fin cfg0.N) (h1 : t.val % 66 = 0) :
    (outsAt0 m c t.val t.isLt).2 = partA m c t := by
  rw [outsAt0_A m c t (by omega) h1 (by omega) (by omega)]
  dsimp only
  unfold out0_A_9
  rw [View.read_writes_eq_canon _ _ _ (cover0_A_9 c _ _ _ _ _ _ _ _ _ _ _ _ _ _ _ _ _ _ _ _ _ _ _ _ _ _ _ _ _ _ _ _ _ )]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread]
  simp only [View.canon_unit_zero (S := S8x2816) z2, View.ld_unit_zero (S := S8x2816) z2, View.ld_unit_zero (S := S128x2816) z2, View.ld_unit_zero (S := S8x1408) z2, View.ld_unit_zero (S := S128x1408) z2, View.ld_unit_zero (S := S3x2816) z2, View.ld_unit_zero (S := S1x2816) z2, View.readCov_unit_zero (S := S8x2816) _ z2, co_1]
  rfl

theorem outB_2 (t : Fin cfg0.N) (h : ¬(3 ≤ t.val % 66 ∧ t.val % 66 ≤ 64)) (h1 : ¬t.val % 66 = 0) :
    (outsAt0 m c t.val t.isLt).2 = k0_pay2 (k0_pay10 (iblk m c 0 t) (iblk m c 1 t) (iblk m c 2 t)) (k0_pay11 (BitVec.ofNat 32 (t.val % 66)) (iblk m c 0 t) (iblk m c 1 t) (iblk m c 2 t)) (k0_pay12 (BitVec.ofNat 32 (t.val % 66)) (iblk m c 0 t) (iblk m c 1 t) (iblk m c 2 t)) (dA m c t) (outsAt0 m c (t.val - 1) (Nat.lt_of_le_of_lt (Nat.sub_le _ _) t.isLt)).2 := by
  rw [outsAt0_B m c t h h1 (by omega) h]
  dsimp only
  unfold out0_B_9
  rw [View.read_writes_eq_canon _ _ _ (cover0_B_9 c _ _ _ _ _ _ _ _ _ _ _ _ _ _ _ _ _ _ _ _ _ _ _ _ _ _ _ _ _ _ _ _ _ _ )]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_9 t).read_unread]
  simp only [View.canon_unit_zero (S := S8x2816) z2, View.ld_unit_zero (S := S8x2816) z2, View.ld_unit_zero (S := S128x2816) z2, View.ld_unit_zero (S := S8x1408) z2, View.ld_unit_zero (S := S128x1408) z2, View.ld_unit_zero (S := S3x2816) z2, View.ld_unit_zero (S := S1x2816) z2, View.readCov_unit_zero (S := S8x2816) _ z2, co_1]
  rfl

theorem outC_2 (t : Fin cfg0.N) (h : 3 ≤ t.val % 66 ∧ t.val % 66 ≤ 64) :
    (outsAt0 m c t.val t.isLt).2 = k0_pay2 (k0_pay10 (iblk m c 0 t) (iblk m c 1 t) (iblk m c 2 t)) (k0_pay17 (iblk m c 0 t) (iblk m c 1 t) (iblk m c 2 t)) (k0_pay18 (iblk m c 0 t) (iblk m c 1 t) (iblk m c 2 t)) (dC m c t) (outsAt0 m c (t.val - 1) (Nat.lt_of_le_of_lt (Nat.sub_le _ _) t.isLt)).2 := by
  rw [outsAt0_C m c t (fun h' => h' h) h (by omega) (by omega)]
  dsimp only
  unfold out0_C_9
  rw [View.read_writes_eq_canon _ _ _ (cover0_C_9 c _ _ _ _ _ _ _ _ _ _ _ _ _ _ _ _ _ _ _ _ _ _ _ _ _ _ _ _ _ _ _ _ _ _ )]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_9 t).read_unread]
  simp only [View.canon_unit_zero (S := S8x2816) z2, View.ld_unit_zero (S := S8x2816) z2, View.ld_unit_zero (S := S128x2816) z2, View.ld_unit_zero (S := S8x1408) z2, View.ld_unit_zero (S := S128x1408) z2, View.ld_unit_zero (S := S3x2816) z2, View.ld_unit_zero (S := S1x2816) z2, View.readCov_unit_zero (S := S8x2816) _ z2, co_1]
  rfl

theorem du_apply (t : Fin cfg0.N) (a : Fin 128) (k : Fin 2816) :
    (outsAt0 m c t.val t.isLt).1 (ix2 a k) = mdu m c (t.val % 66 * 128 + a.val) (t.val / 66 * 2816 + k.val) := by
  by_cases h : 3 ≤ t.val % 66 ∧ t.val % 66 ≤ 64
  · refine (congrFun (outC_1 m c t h) (ix2 a k)).trans ?_
    exact du_C h.1 h.2 (iblk m c 6 t) _ _ _ (dC_rd m c t h) (fun q k => mw m c q (t.val / 66 * 2816 + k)) (hw m c t) a k
  by_cases h1 : t.val % 66 = 0
  · refine (congrFun (outA_1 m c t h1) (ix2 a k)).trans ?_
    exact du_A (by omega) (iblk m c 6 t) _ _ _ _ _ (dA_rd m c t) (fun q k => mw m c q (t.val / 66 * 2816 + k)) (hw m c t) a k
  · refine (congrFun (outB_1 m c t h h1) (ix2 a k)).trans ?_
    exact du_A (by omega) (iblk m c 6 t) _ _ _ _ _ (dA_rd m c t) (fun q k => mw m c q (t.val / 66 * 2816 + k)) (hw m c t) a k

theorem gw_apply : ∀ (n : ℕ) (hn : n < cfg0.N) (a : Fin 8) (k : Fin 2816), (outsAt0 m c n hn).2 (ix2 a k)
    = ∑ x ∈ Finset.range ((n % 66 + 1) * 128), mterm m c a.val (n / 66 * 2816 + k.val) x := by
  intro n
  induction n using Nat.strong_induction_on with
  | _ n ih =>
    intro hn a k
    by_cases h1 : n % 66 = 0
    · refine (congrFun (outA_2 m c ⟨n, hn⟩ h1) (ix2 a k)).trans ((partA_apply m c ⟨n, hn⟩ a k).trans ?_)
      exact sum_first (fun x => mterm m c a.val (n / 66 * 2816 + k.val) x) h1
    have e1 : (n - 1) / 66 = n / 66 := by omega
    have e2 : (n - 1) % 66 + 1 = n % 66 := by omega
    have p := ih (n - 1) (by omega) (Nat.lt_of_le_of_lt (Nat.sub_le _ _) hn) a k
    rw [e1] at p
    by_cases h : 3 ≤ n % 66 ∧ n % 66 ≤ 64
    · refine (congrFun (outC_2 m c ⟨n, hn⟩ h) (ix2 a k)).trans ?_
      refine (pay2_apply _ _ _ _ _ a k).trans ?_
      exact (congrArg₂ (· + ·) p (partC_apply m c ⟨n, hn⟩ h a k)).trans (sum_next (fun x => mterm m c a.val (n / 66 * 2816 + k.val) x) e2)
    · refine (congrFun (outB_2 m c ⟨n, hn⟩ h h1) (ix2 a k)).trans ?_
      refine (pay2_apply _ _ _ _ _ a k).trans ?_
      exact (congrArg₂ (· + ·) p (partA_apply m c ⟨n, hn⟩ a k)).trans (sum_next (fun x => mterm m c a.val (n / 66 * 2816 + k.val) x) e2)

theorem final_U : (dats (F := Ideal) m 0 c).arrAt 8 cfg0.N = specU (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  obtain ⟨r, s, rfl⟩ : ∃ (r : Fin 128) (s : Fin 2816), y = ix2 r s := ⟨y 0, y 1, funext fun a => by match a with | 0 => rfl | 1 => rfl⟩
  refine (du_apply m c t r s).trans ?_
  unfold specU
  blk_simp [ix_8 t]
  rfl

theorem final_W : (dats (F := Ideal) m 0 c).arrAt 9 cfg0.N = specW (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  have h2 : t.val % 66 = 65 := (flush0_9 t).mp hf
  blk_simp
  rw [after0_9]
  obtain ⟨r, s, rfl⟩ : ∃ (r : Fin 8) (s : Fin 2816), y = ix2 r s := ⟨y 0, y 1, funext fun a => by match a with | 0 => rfl | 1 => rfl⟩
  refine (gw_apply m c t.val t.isLt r s).trans ?_
  rw [h2]
  unfold specW
  blk_simp [ix_9 t]
  rfl

end Cert.FfnMidIdeal.Hand

end
-- ==== Proof.Ffn.Real.lean ====
/-
  Real numbers in the gradient of the convolution and gate: what the precondition gives, and the one identity that
  needs it, the derivative of `g · logistic g` taken as a product and taken in one.
-/
module

public import proofs.«01_k».proof.Proof.Gen.Pre_finite_ffn
public import proofs.«01_k».proof.Proof.Attn.Arrays
public import proofs.«01_k».proof.Proof.Ffn.Spec

@[expose] public section

set_option maxRecDepth 16384

noncomputable section

namespace Cert.Ffn

open Idealize.ShloMosaic Cert.Prod

/-- `x` is a real number. -/
def Rl (x : EReal) : Prop := ∃ r : ℝ, x = r

theorem Rl.add {x y : EReal} (hx : Rl x) (hy : Rl y) : Rl (x + y) := by
  obtain ⟨a, rfl⟩ := hx; obtain ⟨b, rfl⟩ := hy
  exact ⟨a + b, (EReal.coe_add a b).symm⟩
theorem Rl.mul {x y : EReal} (hx : Rl x) (hy : Rl y) : Rl (x * y) := by
  obtain ⟨a, rfl⟩ := hx; obtain ⟨b, rfl⟩ := hy
  exact ⟨a * b, (EReal.coe_mul a b).symm⟩
theorem Rl.zero : Rl 0 := ⟨0, rfl⟩

theorem rl_pv {f : ℕ → EReal} (h : ∀ r, Rl (f r)) (r : ℕ) : Rl (pv f r) := by unfold pv; split; exacts [h _, Rl.zero]
theorem rl_nx {f : ℕ → EReal} (h : ∀ r, Rl (f r)) (r : ℕ) : Rl (nx f r) := by unfold nx; split; exacts [h _, Rl.zero]

theorem rl_at2 {n k : ℕ} {x : (⟨2, ![n, k]⟩ : Shape).Idx → EReal} (h : ∀ i, Rl (x i)) (i j : ℕ) : Rl (at2 x i j) := by
  unfold at2; split; exacts [h _, Rl.zero]

theorem sg_coe (g : ℝ) : sg (g : EReal) = ((1 / (1 + Real.exp (-g)) : ℝ) : EReal) := by
  unfold sg Ideal.logistic
  rw [← EReal.coe_neg, Attn.exp_coe, ← EReal.coe_one, ← EReal.coe_add, Attn.div_coe _ _ (by positivity)]

/-- The gate's gradient, taken as a product's. -/
theorem dgate_eq {d v g : EReal} (hd : Rl d) (hv : Rl v) (hg : Rl g) : d * v * sg g + g * (d * v) * (sg g * (1 - sg g)) = dgate d v g := by
  obtain ⟨d, rfl⟩ := hd; obtain ⟨v, rfl⟩ := hv; obtain ⟨g, rfl⟩ := hg
  unfold dgate
  rw [sg_coe, ← EReal.coe_one]
  simp only [← EReal.coe_mul, ← EReal.coe_add, ← EReal.coe_sub]
  exact congrArg _ (by ring)

/-- The four arrays hold real numbers. -/
structure Reals (x0 : (⟨2, ![8448, 11264]⟩ : Shape).Idx → EReal) (x1 : (⟨2, ![8448, 5632]⟩ : Shape).Idx → EReal)
    (x2 : (⟨2, ![3, 11264]⟩ : Shape).Idx → EReal) (x3 : (⟨2, ![1, 11264]⟩ : Shape).Idx → EReal) : Prop where
  r0 : ∀ i, Rl (x0 i)
  r1 : ∀ i, Rl (x1 i)
  r2 : ∀ i, Rl (x2 i)
  r3 : ∀ i, Rl (x3 i)

theorem reals_of_pre (x0 : FVec Ideal Cert.Pre_finite_ffn.S8448x11264 .f32) (x1 : FVec Ideal Cert.Pre_finite_ffn.S8448x5632 .bf16)
    (x2 : FVec Ideal Cert.Pre_finite_ffn.S3x11264 .f32) (x3 : FVec Ideal Cert.Pre_finite_ffn.S1x11264 .f32)
    (h : Cert.Pre_finite_ffn.fn (F := Ideal) x0 x1 x2 x3 = fun _ => 1#1) : Reals x0 x1 x2 x3 := by
  have h0 := congrFun h default
  unfold Cert.Pre_finite_ffn.fn Cert.Pre_finite_ffn.fn_part1 at h0
  obtain ⟨h0, h3⟩ := IntOp.andi_eq_one.mp h0
  obtain ⟨h0, h2⟩ := IntOp.andi_eq_one.mp h0
  obtain ⟨h0, h1⟩ := IntOp.andi_eq_one.mp h0
  have hs : Subsingleton Cert.Pre_finite_ffn.S_.Idx := ⟨fun a b => funext fun k => k.elim0⟩
  exact
    { r0 := fun i => ⟨_, Attn.real_of_lt (Host.reduce_andi_all _ _ _ _ _ h0 i)⟩
      r1 := fun i => ⟨_, Attn.real_of_lt (Host.reduce_andi_all _ _ _ _ _ h1 i)⟩
      r2 := fun i => ⟨_, Attn.real_of_lt (Host.reduce_andi_all _ _ _ _ _ h2 i)⟩
      r3 := fun i => ⟨_, Attn.real_of_lt (Host.reduce_andi_all _ _ _ _ _ h3 i)⟩ }

variable {x0 : (⟨2, ![8448, 11264]⟩ : Shape).Idx → EReal} {x1 : (⟨2, ![8448, 5632]⟩ : Shape).Idx → EReal}
  {x2 : (⟨2, ![3, 11264]⟩ : Shape).Idx → EReal} {x3 : (⟨2, ![1, 11264]⟩ : Shape).Idx → EReal}

theorem Reals.uc (R : Reals x0 x1 x2 x3) (r C : ℕ) : Rl (uc x0 x2 x3 r C) :=
  (((rl_pv (fun _ => rl_at2 R.r0 _ _) r).mul (rl_at2 R.r2 _ _)).add ((rl_at2 R.r0 _ _).mul (rl_at2 R.r2 _ _))
    |>.add ((rl_nx (fun _ => rl_at2 R.r0 _ _) r).mul (rl_at2 R.r2 _ _))).add (rl_at2 R.r3 _ _)

end Cert.Ffn

end
-- ==== Proof.Ffn.Ref.lean ====
/-
  The gradient of the convolution and gate: the reference reads the specification. Its columns are in the layer's own
  order, the values and then the gates; `sc` is where a column stands in the step's order and `rc` the way back.
-/
module

public import proofs.«01_k».proof.Proof.Ffn.Real
public import proofs.«01_k».proof.Proof.Gen.FfnMidRefIdeal.Run
public import proofs.«01_k».proof.Proof.Gen.FfnMidRefIdeal.Read
public import Idealize.ShloMosaic.Lib.KernelVsHost

@[expose] public section

set_option maxRecDepth 16384

noncomputable section

namespace Cert.FfnMidRefIdeal.Hand

open Cert.FfnMidRefIdeal Cert.FfnMidRefIdeal.Gen Cert.FfnMidRefIdeal.Read Cert.Prod Cert.Ffn
open Idealize.ShloMosaic Idealize.ShloMosaic.TcCoe Idealize.ShloMosaic.Tactic

def sc (K : ℕ) : ℕ := K / 1408 % 4 * 2816 + K / 5632 * 1408 + K % 1408
def rc (K : ℕ) : ℕ := K / 1408 % 2 * 5632 + K / 2816 * 1408 + K % 1408

theorem sc_rc {K : ℕ} (h : K < 11264) : sc (rc K) = K := by
  have e1 : rc K / 1408 = K / 1408 % 2 * 4 + K / 2816 := by unfold rc; omega
  have e2 : rc K % 1408 = K % 1408 := by unfold rc; omega
  have e3 : rc K / 5632 = K / 1408 % 2 := by unfold rc; omega
  have e4 : (K / 1408 % 2 * 4 + K / 2816) % 4 = K / 2816 := by omega
  unfold sc
  rw [e1, e2, e3, e4]
  omega

/-! ### A stream's rows -/

/-- Rows `o` to `o + n - 1` are one stream. -/
def Str (o n : ℕ) : Prop := (o = 0 ∧ n = 256) ∨ (o = 256 ∧ n = 8192)

section Rows

variable {o n : ℕ} (hs : Str o n) (f : ℕ → EReal) (w : EReal) {r : ℕ} (hr : r < n)
include hs hr

theorem pv_row : (if h : r < 1 then 0 else f (o + (r - 1))) = pv f (o + r) := by
  unfold Str at hs; unfold pv
  by_cases h : r < 1
  · rw [dif_pos h, if_neg (by omega)]
  · rw [dif_neg h, if_pos (by omega), show o + r - 1 = o + (r - 1) by omega]

theorem nx_row : (if h : r < n - 1 then f (o + (1 + r)) else 0) = nx f (o + r) := by
  unfold Str at hs; unfold nx
  by_cases h : r < n - 1
  · rw [dif_pos h, if_pos (by omega), show o + r + 1 = o + (1 + r) by omega]
  · rw [dif_neg h, if_neg (by omega)]

theorem pv_pad : (if h : 1 ≤ r ∧ r - 1 < n - 1 then f (o + (r - 1)) * w else 0) = pv f (o + r) * w := by
  rw [← pv_row hs f hr]
  by_cases h : r < 1
  · rw [dif_neg (by omega), dif_pos h, zero_mul]
  · rw [dif_pos (by unfold Str at hs; omega), dif_neg h]

theorem nx_pad : (if h : r < n - 1 then f (o + (1 + r)) * w else 0) = nx f (o + r) * w := by
  rw [← nx_row hs f hr]
  by_cases h : r < n - 1
  · rw [dif_pos h, dif_pos h]
  · rw [dif_neg h, dif_neg h, zero_mul]

end Rows

/-- The three padded sums are the three rows of one. -/
theorem pad_rows (a : Fin 3) (s0 s1 s2 : EReal) : ((if h : 2 ≤ a.val ∧ a.val - 2 < 1 then s2 else 0) + if h : 1 ≤ a.val ∧ a.val - 1 < 1 then s1 else 0) + (if h : a.val < 1 then s0 else 0)
    = if a.val = 0 then s0 else if a.val = 1 then s1 else s2 := by
  match a with
  | 0 => simp
  | 1 => simp
  | 2 => simp

variable (x0 : (⟨2, ![8448, 11264]⟩ : Shape).Idx → EReal) (x1 : (⟨2, ![8448, 5632]⟩ : Shape).Idx → EReal)
  (x2 : (⟨2, ![3, 11264]⟩ : Shape).Idx → EReal) (x3 : (⟨2, ![1, 11264]⟩ : Shape).Idx → EReal)

/-- The two halves of the columns' gradient, added. -/
theorem duc_row (R : Reals x0 x1 x2 x3) (r K : ℕ) (hK : K < 11264) :
    (if h : 5632 ≤ K ∧ K - 5632 < 5632 then
        at2 x1 r (K - 5632) * uc x0 x2 x3 r (sc (K - 5632)) * Ideal.div 1 (1 + Ideal.exp (-uc x0 x2 x3 r (sc (5632 + (K - 5632)))))
          + uc x0 x2 x3 r (sc (5632 + (K - 5632))) * (at2 x1 r (K - 5632) * uc x0 x2 x3 r (sc (K - 5632)))
            * (Ideal.div 1 (1 + Ideal.exp (-uc x0 x2 x3 r (sc (5632 + (K - 5632))))) * (1 - Ideal.div 1 (1 + Ideal.exp (-uc x0 x2 x3 r (sc (5632 + (K - 5632)))))))
      else 0)
      + (if h : K < 5632 then uc x0 x2 x3 r (sc (5632 + K)) * Ideal.div 1 (1 + Ideal.exp (-uc x0 x2 x3 r (sc (5632 + K)))) * at2 x1 r K else 0)
    = duc x0 x1 x2 x3 r (sc K) := by
  unfold duc
  by_cases h : K < 5632
  · rw [dif_neg (by omega), dif_pos h, if_pos (by unfold sc; omega), zero_add, mul_comm,
      show sc K / 2816 * 1408 + sc K % 2816 = K by unfold sc; omega, show sc K + 1408 = sc (5632 + K) by unfold sc; omega]
    rfl
  · rw [dif_pos (by omega), dif_neg h, if_neg (by unfold sc; omega), add_zero,
      show sc K / 2816 * 1408 + (sc K % 2816 - 1408) = K - 5632 by unfold sc; omega, show sc K - 1408 = sc (K - 5632) by unfold sc; omega,
      show 5632 + (K - 5632) = K by omega]
    exact dgate_eq (rl_at2 R.r1 _ _) (R.uc _ _) (R.uc _ _)

/-- A row of the weight's sums over a stream. -/
theorem term_rows (a : Fin 3) (n o C : ℕ) : (if a.val = 0 then ∑ r : Fin n, pv (fun r => at2 x0 r C) (o + r.val) * duc x0 x1 x2 x3 (o + r.val) C
      else if a.val = 1 then ∑ r : Fin n, at2 x0 (o + r.val) C * duc x0 x1 x2 x3 (o + r.val) C
      else ∑ r : Fin n, nx (fun r => at2 x0 r C) (o + r.val) * duc x0 x1 x2 x3 (o + r.val) C)
    = ∑ r : Fin n, term x0 x1 x2 x3 a.val C (o + r.val) := by
  unfold term
  by_cases h0 : a.val = 0
  · simp only [if_pos h0, mul_comm]
  · by_cases h1 : a.val = 1
    · simp only [if_neg h0, if_pos h1, mul_comm]
    · simp only [if_neg h0, if_neg h1, if_pos (show a.val = 2 by omega), mul_comm]

theorem rd_w (q : Fin 3) (K : Fin 11264) : val_main_v2 (F := Ideal) x2 (ix2 q K) = at2 x2 q.val (sc K.val) := by
  pointwise [val_main_v2, val_main_v1, val_main_v0]
  exact (at2_lt x2 q.isLt _).symm

theorem rd_b (K : Fin 11264) : val_main_v6 (F := Ideal) x3 (ix1 K) = at2 x3 0 (sc K.val) := by
  pointwise [val_main_v6, val_main_v5, val_main_v4, val_main_v3]
  exact (at2_lt x3 (by decide) _).symm

theorem rd_u (r : Fin 8448) (K : Fin 11264) : val_main_v9 (F := Ideal) x0 (ix2 r K) = at2 x0 r.val (sc K.val) := by
  pointwise [val_main_v9, val_main_v8, val_main_v7]
  exact (at2_lt x0 r.isLt _).symm

theorem rd_d (r : Fin 8448) (K : Fin 5632) : x1 (ix2 r K) = at2 x1 r.val K.val := (at2_lt x1 r.isLt K.isLt).symm

/-! ### The first stream -/

def o_c : ℕ := 0

theorem str_c : Str o_c 256 := by unfold Str o_c; omega

theorem u_c (r : Fin 256) (K : Fin 11264) : val_main_v10 (F := Ideal) x0 (ix2 r K) = at2 x0 (o_c + r.val) (sc K.val) := by
  pointwise [val_main_v10]
  exact (rd_u x0 _ K).trans (congrArg (at2 x0 · _) (by unfold o_c; first | rfl | omega | (dsimp only; omega)))

theorem d_c (r : Fin 256) (K : Fin 5632) : val_main_v13 (F := Ideal) x1 (ix2 r K) = at2 x1 (o_c + r.val) K.val := by
  pointwise [val_main_v13, val_main_v12]
  exact (rd_d x1 _ K).trans (congrArg (at2 x1 · _) (by unfold o_c; first | rfl | omega | (dsimp only; omega)))

theorem p_c (r : Fin 256) (K : Fin 11264) : val_main_v18 (F := Ideal) x0 (ix2 r K) = pv (fun r => at2 x0 r (sc K.val)) (o_c + r.val) := by
  pointwise [val_main_v18, val_main_v17, val_main_v16, val_main_cst]
  simp only [u_c]
  exact pv_row str_c (fun r => at2 x0 r (sc K.val)) r.isLt

theorem n_c (r : Fin 256) (K : Fin 11264) : val_main_v32 (F := Ideal) x0 (ix2 r K) = nx (fun r => at2 x0 r (sc K.val)) (o_c + r.val) := by
  pointwise [val_main_v32, val_main_v31, val_main_v16, val_main_cst]
  simp only [u_c]
  exact nx_row str_c (fun r => at2 x0 r (sc K.val)) r.isLt

theorem uc_c (r : Fin 256) (K : Fin 11264) : val_main_v42 (F := Ideal) x0 x2 x3 (ix2 r K) = uc x0 x2 x3 (o_c + r.val) (sc K.val) := by
  pointwise [val_main_v42, val_main_v41, val_main_v40, val_main_v39, val_main_v38, val_main_v37, val_main_v36, val_main_v35, val_main_v34, val_main_v30, val_main_v29, val_main_v28, val_main_v27, val_main_v26, val_main_v25, val_main_v24, val_main_v23, val_main_v22, val_main_v21, val_main_v20]
  simp only [p_c, u_c, n_c, rd_w, rd_b]
  rfl

theorem duc_c (R : Reals x0 x1 x2 x3) (r : Fin 256) (K : Fin 11264) :
    val_main_v52 (F := Ideal) x0 x1 x2 x3 (ix2 r K) = duc x0 x1 x2 x3 (o_c + r.val) (sc K.val) := by
  pointwise [val_main_v52, val_main_v51, val_main_v50, val_main_v49, val_main_v48, val_main_v47, val_main_v44, val_main_v43, val_main_v45_0, val_main_v45_1, val_main_v45_2, val_main_call0_v7, val_main_call0_v6, val_main_call0_v4, val_main_call0_v3, val_main_call0_v2, val_main_call0_v1, val_main_call0_v0, val_main_call0_cst, val_main_call0_cst_0, val_main_call0_cst_1, val_main_call1_v2, val_main_call1_v1, val_main_call1_v0, val_main_cst_2, val_main_cst_3]
  simp only [uc_c, d_c]
  exact duc_row x0 x1 x2 x3 R (o_c + r.val) K.val K.isLt

theorem du_c (R : Reals x0 x1 x2 x3) (r : Fin 256) (K : Fin 11264) :
    val_main_v89 (F := Ideal) x0 x1 x2 x3 (ix2 r K) = du x0 x1 x2 x3 (o_c + r.val) (sc K.val) := by
  pointwise [val_main_v89, val_main_v88, val_main_v87, val_main_v81, val_main_v80, val_main_v72, val_main_v71, val_main_v70, val_main_v66, val_main_v64, val_main_v60, val_main_v59, val_main_v36, val_main_v35, val_main_v34, val_main_v27, val_main_v26, val_main_v25, val_main_v22, val_main_v21, val_main_v20, val_main_cst_16, val_main_cst_9]
  simp only [duc_c x0 x1 x2 x3 R, rd_w]
  unfold du
  rw [← nx_pad str_c _ _ r.isLt, ← pv_pad str_c _ _ r.isLt]
  exact (add_comm _ _).trans ((congrArg (_ + ·) (add_comm _ _)).trans (add_assoc _ _ _).symm)

theorem sw_c (R : Reals x0 x1 x2 x3) (a : Fin 3) (K : Fin 11264) :
    val_main_v91 (F := Ideal) x0 x1 x2 x3 (ix2 a K) = ∑ r : Fin 256, term x0 x1 x2 x3 a.val (sc K.val) (o_c + r.val) := by
  pointwise [val_main_v91, val_main_v90, val_main_v85, val_main_v84, val_main_v83, val_main_v82, val_main_v79, val_main_v78, val_main_v77, val_main_v76, val_main_v75, val_main_v74, val_main_v73, val_main_v69, val_main_v68, val_main_v67, val_main_v63, val_main_v62, val_main_v61, val_main_v58, val_main_v57, val_main_v56, val_main_cst_17, val_main_cst_15, val_main_cst_14, val_main_cst_13, val_main_cst_12, val_main_cst_11, val_main_cst_10, val_main_cst_8, val_main_cst_7, val_main_cst_6]
  simp only [Fin.sum_univ_one, duc_c x0 x1 x2 x3 R, p_c, u_c, n_c]
  exact (pad_rows a _ _ _).trans (term_rows x0 x1 x2 x3 a 256 o_c (sc K.val))

theorem sb_c (R : Reals x0 x1 x2 x3) (K : Fin 11264) :
    val_main_v93 (F := Ideal) x0 x1 x2 x3 (ix1 K) = ∑ r : Fin 256, term x0 x1 x2 x3 3 (sc K.val) (o_c + r.val) := by
  pointwise [val_main_v93, val_main_v92, val_main_v55, val_main_v54, val_main_v53, val_main_cst_18, val_main_cst_5, val_main_cst_4]
  simp only [Fin.sum_univ_one, duc_c x0 x1 x2 x3 R]
  rfl

/-! ### The second stream -/

def o_s : ℕ := 256

theorem str_s : Str o_s 8192 := by unfold Str o_s; omega

theorem u_s (r : Fin 8192) (K : Fin 11264) : val_main_v11 (F := Ideal) x0 (ix2 r K) = at2 x0 (o_s + r.val) (sc K.val) := by
  pointwise [val_main_v11]
  exact (rd_u x0 _ K).trans (congrArg (at2 x0 · _) (by unfold o_s; first | rfl | omega | (dsimp only; omega)))

theorem d_s (r : Fin 8192) (K : Fin 5632) : val_main_v14 (F := Ideal) x1 (ix2 r K) = at2 x1 (o_s + r.val) K.val := by
  pointwise [val_main_v14, val_main_v12]
  exact (rd_d x1 _ K).trans (congrArg (at2 x1 · _) (by unfold o_s; first | rfl | omega | (dsimp only; omega)))

theorem p_s (r : Fin 8192) (K : Fin 11264) : val_main_v97 (F := Ideal) x0 (ix2 r K) = pv (fun r => at2 x0 r (sc K.val)) (o_s + r.val) := by
  pointwise [val_main_v97, val_main_v96, val_main_v95, val_main_cst_19]
  simp only [u_s]
  exact pv_row str_s (fun r => at2 x0 r (sc K.val)) r.isLt

theorem n_s (r : Fin 8192) (K : Fin 11264) : val_main_v111 (F := Ideal) x0 (ix2 r K) = nx (fun r => at2 x0 r (sc K.val)) (o_s + r.val) := by
  pointwise [val_main_v111, val_main_v110, val_main_v95, val_main_cst_19]
  simp only [u_s]
  exact nx_row str_s (fun r => at2 x0 r (sc K.val)) r.isLt

theorem uc_s (r : Fin 8192) (K : Fin 11264) : val_main_v121 (F := Ideal) x0 x2 x3 (ix2 r K) = uc x0 x2 x3 (o_s + r.val) (sc K.val) := by
  pointwise [val_main_v121, val_main_v120, val_main_v119, val_main_v118, val_main_v117, val_main_v116, val_main_v115, val_main_v114, val_main_v113, val_main_v109, val_main_v108, val_main_v107, val_main_v106, val_main_v105, val_main_v104, val_main_v103, val_main_v102, val_main_v101, val_main_v100, val_main_v99]
  simp only [p_s, u_s, n_s, rd_w, rd_b]
  rfl

theorem duc_s (R : Reals x0 x1 x2 x3) (r : Fin 8192) (K : Fin 11264) :
    val_main_v131 (F := Ideal) x0 x1 x2 x3 (ix2 r K) = duc x0 x1 x2 x3 (o_s + r.val) (sc K.val) := by
  pointwise [val_main_v131, val_main_v130, val_main_v129, val_main_v128, val_main_v127, val_main_v126, val_main_v123, val_main_v122, val_main_v124_0, val_main_v124_1, val_main_v124_2, val_main_call2_v7, val_main_call2_v6, val_main_call2_v4, val_main_call2_v3, val_main_call2_v2, val_main_call2_v1, val_main_call2_v0, val_main_call2_cst, val_main_call2_cst_0, val_main_call2_cst_1, val_main_call3_v2, val_main_call3_v1, val_main_call3_v0, val_main_cst_22, val_main_cst_23]
  simp only [uc_s, d_s]
  exact duc_row x0 x1 x2 x3 R (o_s + r.val) K.val K.isLt

theorem du_s (R : Reals x0 x1 x2 x3) (r : Fin 8192) (K : Fin 11264) :
    val_main_v168 (F := Ideal) x0 x1 x2 x3 (ix2 r K) = du x0 x1 x2 x3 (o_s + r.val) (sc K.val) := by
  pointwise [val_main_v168, val_main_v167, val_main_v166, val_main_v160, val_main_v159, val_main_v151, val_main_v150, val_main_v149, val_main_v145, val_main_v143, val_main_v139, val_main_v138, val_main_v115, val_main_v114, val_main_v113, val_main_v106, val_main_v105, val_main_v104, val_main_v101, val_main_v100, val_main_v99, val_main_cst_36, val_main_cst_29]
  simp only [duc_s x0 x1 x2 x3 R, rd_w]
  unfold du
  rw [← nx_pad str_s _ _ r.isLt, ← pv_pad str_s _ _ r.isLt]
  exact (add_comm _ _).trans ((congrArg (_ + ·) (add_comm _ _)).trans (add_assoc _ _ _).symm)

theorem sw_s (R : Reals x0 x1 x2 x3) (a : Fin 3) (K : Fin 11264) :
    val_main_v164 (F := Ideal) x0 x1 x2 x3 (ix2 a K) = ∑ r : Fin 8192, term x0 x1 x2 x3 a.val (sc K.val) (o_s + r.val) := by
  pointwise [val_main_v164, val_main_v163, val_main_v162, val_main_v161, val_main_v158, val_main_v157, val_main_v156, val_main_v155, val_main_v154, val_main_v153, val_main_v152, val_main_v148, val_main_v147, val_main_v146, val_main_v142, val_main_v141, val_main_v140, val_main_v137, val_main_v136, val_main_v135, val_main_cst_35, val_main_cst_34, val_main_cst_33, val_main_cst_32, val_main_cst_31, val_main_cst_30, val_main_cst_28, val_main_cst_27, val_main_cst_26]
  simp only [Fin.sum_univ_one, duc_s x0 x1 x2 x3 R, p_s, u_s, n_s]
  exact (pad_rows a _ _ _).trans (term_rows x0 x1 x2 x3 a 8192 o_s (sc K.val))

theorem sb_s (R : Reals x0 x1 x2 x3) (K : Fin 11264) :
    val_main_v134 (F := Ideal) x0 x1 x2 x3 (ix1 K) = ∑ r : Fin 8192, term x0 x1 x2 x3 3 (sc K.val) (o_s + r.val) := by
  pointwise [val_main_v134, val_main_v133, val_main_v132, val_main_cst_25, val_main_cst_24]
  simp only [Fin.sum_univ_one, duc_s x0 x1 x2 x3 R]
  rfl

/-! ### The results -/

theorem both (f : ℕ → EReal) : (∑ r : Fin 256, f (o_c + r.val)) + ∑ r : Fin 8192, f (o_s + r.val) = ∑ k ∈ Finset.range 8448, f k := by
  unfold o_c o_s
  rw [show 8448 = 256 + 8192 from rfl, Finset.sum_range_add, Finset.sum_range, Finset.sum_range]
  simp only [zero_add]

theorem eta2 {a b : ℕ} (i : (⟨2, ![a, b]⟩ : Shape).Idx) : ∃ (r : Fin a) (s : Fin b), i = ix2 r s :=
  ⟨i 0, i 1, funext fun k => by match k with | 0 => rfl | 1 => rfl⟩

theorem result_U (R : Reals x0 x1 x2 x3) : val_main_v175 (F := Ideal) x0 x1 x2 x3 = specU x0 x1 x2 x3 := by
  funext i
  obtain ⟨r, K, rfl⟩ := eta2 i
  pointwise [val_main_v175, val_main_v174, val_main_v173, val_main_v172, val_main_v171]
  show _ = du x0 x1 x2 x3 r.val K.val
  have e : sc (K.val / 1408 % 2 * 5632 + K.val / 2816 * 1408 + K.val % 1408) = K.val := sc_rc K.isLt
  simp only [du_c x0 x1 x2 x3 R, du_s x0 x1 x2 x3 R, e]
  by_cases h : r.val < 256
  · rw [dif_pos h, show o_c + r.val = r.val from Nat.zero_add _]
  · rw [dif_neg h, show o_s + (r.val - 256) = r.val by unfold o_s; omega]

theorem pad_zero (i : S_.Idx) : val_main_call4_v0 (F := Ideal) i = (0 : EReal) := by
  rw [val_main_call4_v0_apply, val_main_c_apply]
  show (((0#32 : BitVec 32).toInt : ℝ) : EReal) = 0
  simp

theorem result_W (R : Reals x0 x1 x2 x3) : val_main_v181 (F := Ideal) x0 x1 x2 x3 = specW x0 x1 x2 x3 := by
  funext i
  obtain ⟨a, K, rfl⟩ := eta2 i
  pointwise [val_main_v181, val_main_v180, val_main_v179, val_main_v178, val_main_v177, val_main_v176, val_main_v170, val_main_v169]
  show _ = ∑ k ∈ Finset.range 8448, term x0 x1 x2 x3 a.val K.val k
  have e : sc (K.val / 1408 % 2 * 5632 + K.val / 2816 * 1408 + K.val % 1408) = K.val := sc_rc K.isLt
  simp only [sw_c x0 x1 x2 x3 R, sw_s x0 x1 x2 x3 R, sb_c x0 x1 x2 x3 R, sb_s x0 x1 x2 x3 R, e, pad_zero]
  by_cases h : a.val < 4
  · rw [dif_pos h]
    by_cases h3 : a.val < 3
    · rw [dif_pos h3]
      exact both _
    · rw [dif_neg h3, show a.val = 3 by omega]
      exact both _
  · rw [dif_neg h]
    refine (Finset.sum_eq_zero fun k _ => ?_).symm
    unfold term
    rw [if_neg (by omega), if_neg (by omega), if_neg (by omega), if_neg (by omega)]

end Cert.FfnMidRefIdeal.Hand

end
-- ==== Proof.Ffn.Claim.lean ====
/-
  The gradient of the feed-forward layer's convolution and gate: kernel and reference end with the specification's arrays.
-/
module

public import proofs.«01_k».proof.Defs
public import proofs.«01_k».proof.Proof.Ffn.Kern
public import proofs.«01_k».proof.Proof.Ffn.Ref
public import proofs.«01_k».proof.Proof.Gen.FfnMid.Frame
public import Idealize.ShloMosaic.Lib.Quiescent
public import Idealize.ShloMosaic.Lib.Claim

@[expose] public section

set_option maxRecDepth 16384

noncomputable section

namespace Cert.Ffn

open Idealize.ShloMosaic Idealize.SL.Sem

/-- The kernel as printed runs, its arguments end as they began and every counter is at zero. -/
theorem frame_kernel : Cert.quiescent_FfnMid := fun m g _ => FfnMid.Gen.frame (F := Bits) m g

theorem frame_ideal : Cert.quiescent_FfnMidIdeal := fun m g _ => FfnMidIdeal.Gen.frame (F := Ideal) m g

theorem frame_ideal_finite : Cert.quiescent_FfnMidIdeal_pre_finite_ffn := fun m g _ => FfnMidIdeal.Gen.frame (F := Ideal) m g

theorem frame_reference : Cert.quiescent_FfnMidRefIdeal := fun m g _ =>
  (θ_run (Cert.FfnMidRefIdeal.defs (F := Ideal)) _ _).mono (fun r h => ⟨fun c => (h c).2.2, sem_eq_zero_of_no_sems rfl r.2⟩) (Cert.FfnMidRefIdeal.Value.run (F := Ideal) m g)

theorem frame_reference_finite : Cert.quiescent_FfnMidRefIdeal_pre_finite_ffn := fun m g _ => frame_reference m g trivial

/-- Equal arguments that hold real numbers: the two programs end with equal results. -/
theorem same : Cert.algebraic_FfnMidIdeal_FfnMidRefIdeal_pre_finite_ffn := fun m g m' g' hpre hagree => by
  have R := fun c => reals_of_pre _ _ _ _ (hpre c)
  refine ⟨fun c => specU (m ((c.tc : Thread Cert.FfnMidIdeal.nD Cert.FfnMidIdeal.τ).loc Cert.FfnMidIdeal.main_arg0)) (m ((c.tc : Thread Cert.FfnMidIdeal.nD Cert.FfnMidIdeal.τ).loc Cert.FfnMidIdeal.main_arg1))
      (m ((c.tc : Thread Cert.FfnMidIdeal.nD Cert.FfnMidIdeal.τ).loc Cert.FfnMidIdeal.main_arg2)) (m ((c.tc : Thread Cert.FfnMidIdeal.nD Cert.FfnMidIdeal.τ).loc Cert.FfnMidIdeal.main_arg3)),
    fun c => specW (m ((c.tc : Thread Cert.FfnMidIdeal.nD Cert.FfnMidIdeal.τ).loc Cert.FfnMidIdeal.main_arg0)) (m ((c.tc : Thread Cert.FfnMidIdeal.nD Cert.FfnMidIdeal.τ).loc Cert.FfnMidIdeal.main_arg1))
      (m ((c.tc : Thread Cert.FfnMidIdeal.nD Cert.FfnMidIdeal.τ).loc Cert.FfnMidIdeal.main_arg2)) (m ((c.tc : Thread Cert.FfnMidIdeal.nD Cert.FfnMidIdeal.τ).loc Cert.FfnMidIdeal.main_arg3)), ?_, ?_⟩
  · refine (θ_run (Cert.FfnMidIdeal.defs (F := Ideal)) _ _).mono (fun r h c => ?_)
      (θ_run_and (FfnMidIdeal.Gen.run_main (F := Ideal) m g) (FfnMidIdeal.Gen.frame (F := Ideal) m g))
    exact ⟨(h.1.out_eq c 8).trans (FfnMidIdeal.Hand.final_U m c), (h.1.out_eq c 9).trans (FfnMidIdeal.Hand.final_W m c), h.2.1 c⟩
  · refine (θ_run (Cert.FfnMidRefIdeal.defs (F := Ideal)) _ _).mono (fun r h c => ?_) (Cert.FfnMidRefIdeal.Value.run (F := Ideal) m' g')
    obtain ⟨h0, h1, ha⟩ := h c
    obtain ⟨a0, a1, a2, a3⟩ := hagree c
    have e0 := h0.trans (FfnMidRefIdeal.Read.val_main_v175_eq (F := Ideal) (StableHlo.launchContents m' c))
    have e1 := h1.trans (FfnMidRefIdeal.Read.val_main_v181_eq (F := Ideal) (StableHlo.launchContents m' c))
    exact ⟨(e0.trans (congr (congr (congr (congrArg (FfnMidRefIdeal.Read.val_main_v175 (F := Ideal)) a0) a1) a2) a3)).trans (FfnMidRefIdeal.Hand.result_U _ _ _ _ (R c)),
      (e1.trans (congr (congr (congr (congrArg (FfnMidRefIdeal.Read.val_main_v181 (F := Ideal)) a0) a1) a2) a3)).trans (FfnMidRefIdeal.Hand.result_W _ _ _ _ (R c)), ha⟩

end Cert.Ffn

end
-- ==== Proof.Stream.NormFwd.lean ====
/-
  The norm with its modulation, forward: what it is, of the arrays.
-/
module

public import proofs.«01_k».proof.Proof.Stream.NormFfn

@[expose] public section

noncomputable section

namespace Cert.Stream.NormFwd

open Idealize.ShloMosaic Cert.Prod Cert.Stream Cert.Stream.NormFfn

/-- The normalized row times the norm's weight, times one plus the scale, plus the shift; of the stream's six rows of the
modulation the row `q` is the shift, the next one the scale. -/
def hrow (q : ℕ) (x0 : (⟨2, ![8448, 2048]⟩ : Shape).Idx → EReal) (x1 : (⟨2, ![1, 2048]⟩ : Shape).Idx → EReal) (x2 : (⟨3, ![2, 6, 2048]⟩ : Shape).Idx → EReal) (s r j : ℕ) : EReal :=
  at2 x0 r j * Ideal.rsqrt (Ideal.div (∑ l : Fin 2048, at2 x0 r l.val * at2 x0 r l.val) width + eps) * at2 x1 0 j * (1 + at3 x2 s (q + 1) j) + at3 x2 s q j

def spec (q : ℕ) (x0 : (⟨2, ![8448, 2048]⟩ : Shape).Idx → EReal) (x1 : (⟨2, ![1, 2048]⟩ : Shape).Idx → EReal) (x2 : (⟨3, ![2, 6, 2048]⟩ : Shape).Idx → EReal) :
    (⟨2, ![8448, 2048]⟩ : Shape).Idx → EReal := fun i => hrow q x0 x1 x2 (st (i 0).val) (i 0).val (i 1).val

end Cert.Stream.NormFwd

end
-- ==== Proof.Stream.NormFfnFwdClaim.lean ====
/-
  The norm of the feed-forward layer, forward: kernel and reference end with the same array.
-/
module

public import proofs.«01_k».proof.Defs
public import proofs.«01_k».proof.Proof.Stream.NormFwd
public import proofs.«01_k».proof.Proof.Gen.NormFfnFwd
public import proofs.«01_k».proof.Proof.Gen.NormFfnFwd.Frame
public import proofs.«01_k».proof.Proof.Gen.NormFfnFwdIdeal.Frame
public import proofs.«01_k».proof.Proof.Gen.NormFfnFwdRefIdeal.Run
public import proofs.«01_k».proof.Proof.Gen.NormFfnFwdRefIdeal.Read
public import Idealize.ShloMosaic.Lib.Pipeline.ValueKit.Point
public import Idealize.ShloMosaic.Lib.Quiescent
public import Idealize.ShloMosaic.Lib.Claim

@[expose] public section

set_option maxRecDepth 16384

noncomputable section

namespace Cert.NormFfnFwdIdeal.Hand

open Cert.NormFfnFwdIdeal Cert.NormFfnFwdIdeal.Gen Cert.Prod Cert.Stream Cert.Stream.NormFwd
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![if t.val = 0 then 0 else 1, 0, 0] := (by decide +kernel : ∀ t : Fin grid0.N, _)
theorem ix_3 : ∀ t : Fin cfg0.N, win0_3.index t = ![t.val, 0] := (by decide +kernel : ∀ t : Fin grid0.N, _)

theorem N_le (t : Fin cfg0.N) : t.val < 33 := t.isLt.trans_eq N_0

theorem blk_0 (t : Fin cfg0.N) (k : Fin 256) (j : Fin 2048) :
    iblk m c 0 t (ix2 k j) = at2 (m ((c : Thread nD τ).loc main_arg0) : (⟨2, ![8448, 2048]⟩ : Shape).Idx → EReal) (t.val * 256 + k.val) j.val := by
  have h := N_le t
  rw [at2_lt _ (by omega) (by omega)]
  blk_ext! [iblk, V, ix_0 t]

theorem blk_1 (t : Fin cfg0.N) (j : Fin 2048) :
    iblk m c 1 t (ix2 0 j) = at2 (m ((c : Thread nD τ).loc main_arg1) : (⟨2, ![1, 2048]⟩ : Shape).Idx → EReal) 0 j.val := by
  have h := N_le t
  rw [at2_lt _ (by omega) (by omega)]
  blk_ext! [iblk, V, ix_1 t]

theorem blk_2 (t : Fin cfg0.N) (a : Fin 6) (j : Fin 2048) :
    iblk m c 2 t (ix3 0 a j) = at3 (m ((c : Thread nD τ).loc main_arg2) : (⟨3, ![2, 6, 2048]⟩ : Shape).Idx → EReal) (if t.val = 0 then 0 else 1) a.val j.val := by
  have h := N_le t
  have hs : (if t.val = 0 then 0 else 1) < 2 := by split <;> omega
  rw [at3_lt _ hs (by omega) (by omega)]
  blk_ext! [iblk, V, ix_2 t]

theorem scale (x : Vec Ideal S1x6x2048 .f32) (j : Fin 2048) : View.ld x r0_2 (ix3 0 0 j) = x (ix3 0 4 j) :=
  View.ld_unit_apply_of x _ _ _ _ _ fun a => by match a with | 0 => rfl | 1 => rfl | 2 => exact (Nat.zero_add _).symm

theorem shift (x : Vec Ideal S1x6x2048 .f32) (j : Fin 2048) : View.ld x r0_3 (ix3 0 0 j) = x (ix3 0 3 j) :=
  View.ld_unit_apply_of x _ _ _ _ _ fun a => by match a with | 0 => rfl | 1 => rfl | 2 => exact (Nat.zero_add _).symm

theorem pay1_apply (x : Vec Ideal S256x2048 .f32) (w : Vec Ideal S1x2048 .f32) (p q : Vec Ideal S1x1x2048 .f32) (k : Fin 256) (j : Fin 2048) :
    k0_pay1 (F := Ideal) x w p q (ix2 k j) = x (ix2 k j) * Ideal.rsqrt (Ideal.div (∑ l : Fin 2048, x (ix2 k l) * x (ix2 k l)) NormFfn.width + NormFfn.eps) * w (ix2 0 j)
      * (1 + p (ix3 0 0 j)) + q (ix3 0 0 j) := by
  pointwise [k0_pay1]

theorem final : (dats (F := Ideal) m 0 c).arrAt 3 cfg0.N = spec 3 (m ((c : Thread nD τ).loc main_arg0)) (m ((c : Thread nD τ).loc main_arg1)) (m ((c : Thread nD τ).loc main_arg2)) := by
  refine (dats m 0 c).arrAt_eq_of_covers 3 _ (by decide +kernel) fun t hf y => ?_
  have h := N_le t
  blk_simp
  rw [after0_3]
  obtain ⟨k, j, rfl⟩ : ∃ (k : Fin 256) (j : Fin 2048), y = ix2 k j := ⟨y 0, y 1, funext fun a => by match a with | 0 => rfl | 1 => rfl⟩
  unfold out0_3
  rw [View.canon_unit_zero (S := S256x2048) z2]
  simp only [View.ld_unit_zero (S := S256x2048) z2, View.ld_unit_zero (S := S1x2048) z2]
  rw [pay1_apply, scale, shift]
  simp only [blk_0, blk_1, blk_2]
  have e : (if t.val = 0 then 0 else 1) = st (t.val * 256 + k.val) := by
    unfold st
    split <;> split <;> omega
  rw [e]
  unfold spec hrow
  blk_simp [ix_3 t]
  rfl

end Cert.NormFfnFwdIdeal.Hand

namespace Cert.NormFfnFwdRefIdeal.Hand

open Cert.NormFfnFwdRefIdeal Cert.NormFfnFwdRefIdeal.Gen Cert.NormFfnFwdRefIdeal.Read Cert.Prod Cert.Stream Cert.Stream.NormFwd
open Idealize.ShloMosaic Idealize.ShloMosaic.TcCoe Idealize.ShloMosaic.Tactic

variable (x0 : (⟨2, ![8448, 2048]⟩ : Shape).Idx → EReal) (x1 : (⟨2, ![1, 2048]⟩ : Shape).Idx → EReal) (x2 : (⟨3, ![2, 6, 2048]⟩ : Shape).Idx → EReal)

theorem c_row (k : Fin 256) (j : Fin 2048) : val_main_v31 (F := Ideal) x0 x1 x2 (ix2 k j) = hrow 3 x0 x1 x2 0 k.val j.val := by
  pointwise [val_main_v0, val_main_v2, val_main_v3, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_0, val_main_cst_1, val_main_cst_2]
  unfold hrow
  simp only [at2_lt x0 (show k.val < 8448 by omega) (Fin.isLt _), at2_lt x1 (show 0 < 1 by decide) j.isLt, at3_lt x2 (show 0 < 2 by decide) (show 4 < 6 by decide) j.isLt,
    at3_lt x2 (show 0 < 2 by decide) (show 3 < 6 by decide) j.isLt, Nat.reduceAdd]
  rfl

theorem l_row (k : Fin 8192) (j : Fin 2048) : val_main_v57 (F := Ideal) x0 x1 x2 (ix2 k j) = hrow 3 x0 x1 x2 1 (256 + k.val) j.val := by
  pointwise [val_main_v1, val_main_v4, val_main_v5, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_cst_3, val_main_cst_4, val_main_cst_5, val_main_cst_6]
  unfold hrow
  simp only [at2_lt x0 (show 256 + k.val < 8448 by omega) (Fin.isLt _), at2_lt x1 (show 0 < 1 by decide) j.isLt, at3_lt x2 (show 1 < 2 by decide) (show 4 < 6 by decide) j.isLt,
    at3_lt x2 (show 1 < 2 by decide) (show 3 < 6 by decide) j.isLt, Nat.reduceAdd]
  rfl

theorem result : val_main_v59 (F := Ideal) x0 x1 x2 = spec 3 x0 x1 x2 := by
  funext i
  obtain ⟨r, j, rfl⟩ : ∃ (r : Fin 8448) (j : Fin 2048), i = ix2 r j := ⟨i 0, i 1, funext fun b => by match b with | 0 => rfl | 1 => rfl⟩
  pointwise [val_main_v59, val_main_v58]
  simp only [c_row, l_row]
  show _ = hrow 3 x0 x1 x2 (st r.val) r.val j.val
  unfold st
  split
  · rfl
  · rw [show 256 + (r.val - 256) = r.val by omega]

end Cert.NormFfnFwdRefIdeal.Hand

namespace Cert.Stream.NormFfnFwd

open Idealize.ShloMosaic Idealize.SL.Sem

theorem frame_ideal : Cert.quiescent_NormFfnFwdIdeal := fun m g _ => Cert.NormFfnFwdIdeal.Gen.frame (F := Ideal) m g

theorem frame_kernel : Cert.quiescent_NormFfnFwd := fun m g _ => Cert.NormFfnFwd.Gen.frame (F := Bits) m g

theorem frame_reference : Cert.quiescent_NormFfnFwdRefIdeal := fun m g _ =>
  (θ_run (Cert.NormFfnFwdRefIdeal.defs (F := Ideal)) _ _).mono (fun r h => ⟨fun c => (h c).2, sem_eq_zero_of_no_sems rfl r.2⟩) (Cert.NormFfnFwdRefIdeal.Value.run (F := Ideal) m g)

/-- From equal arguments the two programs end with equal results. -/
theorem same : Cert.algebraic_NormFfnFwdIdeal_NormFfnFwdRefIdeal := fun m g m' g' _ hagree => by
  refine ⟨fun c => NormFwd.spec 3 (m ((c.tc : Thread Cert.NormFfnFwdIdeal.nD Cert.NormFfnFwdIdeal.τ).loc Cert.NormFfnFwdIdeal.main_arg0)) (m ((c.tc : Thread Cert.NormFfnFwdIdeal.nD Cert.NormFfnFwdIdeal.τ).loc Cert.NormFfnFwdIdeal.main_arg1)) (m ((c.tc : Thread Cert.NormFfnFwdIdeal.nD Cert.NormFfnFwdIdeal.τ).loc Cert.NormFfnFwdIdeal.main_arg2)), ?_, ?_⟩
  · refine (θ_run (Cert.NormFfnFwdIdeal.defs (F := Ideal)) _ _).mono (fun r h c => ?_)
      (θ_run_and (Cert.NormFfnFwdIdeal.Gen.run_main (F := Ideal) m g) (Cert.NormFfnFwdIdeal.Gen.frame (F := Ideal) m g))
    exact ⟨(h.1.out_eq c 3).trans (Cert.NormFfnFwdIdeal.Hand.final m c), h.2.1 c⟩
  · refine (θ_run (Cert.NormFfnFwdRefIdeal.defs (F := Ideal)) _ _).mono (fun r h c => ?_) (Cert.NormFfnFwdRefIdeal.Value.run (F := Ideal) m' g')
    obtain ⟨h0, ha⟩ := h c
    obtain ⟨a0, a1, a2⟩ := hagree c
    rw [Cert.NormFfnFwdRefIdeal.Read.val_main_v59_eq, a0, a1, a2] at h0
    exact ⟨h0.trans (Cert.NormFfnFwdRefIdeal.Hand.result _ _ _), ha⟩

end Cert.Stream.NormFfnFwd

end
-- ==== Proof.Stream.NormMixFwdClaim.lean ====
/-
  The norm of the mixer, forward: kernel and reference end with the same array.
-/
module

public import proofs.«01_k».proof.Defs
public import proofs.«01_k».proof.Proof.Stream.NormFwd
public import proofs.«01_k».proof.Proof.Gen.NormMixFwd
public import proofs.«01_k».proof.Proof.Gen.NormMixFwd.Frame
public import proofs.«01_k».proof.Proof.Gen.NormMixFwdIdeal.Frame
public import proofs.«01_k».proof.Proof.Gen.NormMixFwdRefIdeal.Run
public import proofs.«01_k».proof.Proof.Gen.NormMixFwdRefIdeal.Read
public import Idealize.ShloMosaic.Lib.Pipeline.ValueKit.Point
public import Idealize.ShloMosaic.Lib.Quiescent
public import Idealize.ShloMosaic.Lib.Claim

@[expose] public section

set_option maxRecDepth 16384

noncomputable section

namespace Cert.NormMixFwdIdeal.Hand

open Cert.NormMixFwdIdeal Cert.NormMixFwdIdeal.Gen Cert.Prod Cert.Stream Cert.Stream.NormFwd
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

theorem ix_0 : ∀ t : Fin cfg0.N, win0_0.index t = ![t.val, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![if t.val = 0 then 0 else 1, 0, 0] := (by decide +kernel : ∀ t : Fin grid0.N, _)
theorem ix_3 : ∀ t : Fin cfg0.N, win0_3.index t = ![t.val, 0] := (by decide +kernel : ∀ t : Fin grid0.N, _)

theorem N_le (t : Fin cfg0.N) : t.val < 33 := t.isLt.trans_eq N_0

theorem blk_0 (t : Fin cfg0.N) (k : Fin 256) (j : Fin 2048) :
    iblk m c 0 t (ix2 k j) = at2 (m ((c : Thread nD τ).loc main_arg0) : (⟨2, ![8448, 2048]⟩ : Shape).Idx → EReal) (t.val * 256 + k.val) j.val := by
  have h := N_le t
  rw [at2_lt _ (by omega) (by omega)]
  blk_ext! [iblk, V, ix_0 t]

theorem blk_1 (t : Fin cfg0.N) (j : Fin 2048) :
    iblk m c 1 t (ix2 0 j) = at2 (m ((c : Thread nD τ).loc main_arg1) : (⟨2, ![1, 2048]⟩ : Shape).Idx → EReal) 0 j.val := by
  have h := N_le t
  rw [at2_lt _ (by omega) (by omega)]
  blk_ext! [iblk, V, ix_1 t]

theorem blk_2 (t : Fin cfg0.N) (a : Fin 6) (j : Fin 2048) :
    iblk m c 2 t (ix3 0 a j) = at3 (m ((c : Thread nD τ).loc main_arg2) : (⟨3, ![2, 6, 2048]⟩ : Shape).Idx → EReal) (if t.val = 0 then 0 else 1) a.val j.val := by
  have h := N_le t
  have hs : (if t.val = 0 then 0 else 1) < 2 := by split <;> omega
  rw [at3_lt _ hs (by omega) (by omega)]
  blk_ext! [iblk, V, ix_2 t]

theorem scale (x : Vec Ideal S1x6x2048 .f32) (j : Fin 2048) : View.ld x r0_2 (ix3 0 0 j) = x (ix3 0 1 j) :=
  View.ld_unit_apply_of x _ _ _ _ _ fun a => by match a with | 0 => rfl | 1 => rfl | 2 => exact (Nat.zero_add _).symm

theorem shift (x : Vec Ideal S1x6x2048 .f32) (j : Fin 2048) : View.ld x r0_3 (ix3 0 0 j) = x (ix3 0 0 j) :=
  View.ld_unit_apply_of x _ _ _ _ _ fun a => by match a with | 0 => rfl | 1 => rfl | 2 => exact (Nat.zero_add _).symm

theorem pay1_apply (x : Vec Ideal S256x2048 .f32) (w : Vec Ideal S1x2048 .f32) (p q : Vec Ideal S1x1x2048 .f32) (k : Fin 256) (j : Fin 2048) :
    k0_pay1 (F := Ideal) x w p q (ix2 k j) = x (ix2 k j) * Ideal.rsqrt (Ideal.div (∑ l : Fin 2048, x (ix2 k l) * x (ix2 k l)) NormFfn.width + NormFfn.eps) * w (ix2 0 j)
      * (1 + p (ix3 0 0 j)) + q (ix3 0 0 j) := by
  pointwise [k0_pay1]

theorem final : (dats (F := Ideal) m 0 c).arrAt 3 cfg0.N = spec 0 (m ((c : Thread nD τ).loc main_arg0)) (m ((c : Thread nD τ).loc main_arg1)) (m ((c : Thread nD τ).loc main_arg2)) := by
  refine (dats m 0 c).arrAt_eq_of_covers 3 _ (by decide +kernel) fun t hf y => ?_
  have h := N_le t
  blk_simp
  rw [after0_3]
  obtain ⟨k, j, rfl⟩ : ∃ (k : Fin 256) (j : Fin 2048), y = ix2 k j := ⟨y 0, y 1, funext fun a => by match a with | 0 => rfl | 1 => rfl⟩
  unfold out0_3
  rw [View.canon_unit_zero (S := S256x2048) z2]
  simp only [View.ld_unit_zero (S := S256x2048) z2, View.ld_unit_zero (S := S1x2048) z2]
  rw [pay1_apply, scale, shift]
  simp only [blk_0, blk_1, blk_2]
  have e : (if t.val = 0 then 0 else 1) = st (t.val * 256 + k.val) := by
    unfold st
    split <;> split <;> omega
  rw [e]
  unfold spec hrow
  blk_simp [ix_3 t]
  rfl

end Cert.NormMixFwdIdeal.Hand

namespace Cert.NormMixFwdRefIdeal.Hand

open Cert.NormMixFwdRefIdeal Cert.NormMixFwdRefIdeal.Gen Cert.NormMixFwdRefIdeal.Read Cert.Prod Cert.Stream Cert.Stream.NormFwd
open Idealize.ShloMosaic Idealize.ShloMosaic.TcCoe Idealize.ShloMosaic.Tactic

variable (x0 : (⟨2, ![8448, 2048]⟩ : Shape).Idx → EReal) (x1 : (⟨2, ![1, 2048]⟩ : Shape).Idx → EReal) (x2 : (⟨3, ![2, 6, 2048]⟩ : Shape).Idx → EReal)

theorem c_row (k : Fin 256) (j : Fin 2048) : val_main_v31 (F := Ideal) x0 x1 x2 (ix2 k j) = hrow 0 x0 x1 x2 0 k.val j.val := by
  pointwise [val_main_v0, val_main_v2, val_main_v3, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_cst, val_main_cst_0, val_main_cst_1, val_main_cst_2]
  unfold hrow
  simp only [at2_lt x0 (show k.val < 8448 by omega) (Fin.isLt _), at2_lt x1 (show 0 < 1 by decide) j.isLt, at3_lt x2 (show 0 < 2 by decide) (show 1 < 6 by decide) j.isLt,
    at3_lt x2 (show 0 < 2 by decide) (show 0 < 6 by decide) j.isLt, Nat.reduceAdd]
  rfl

theorem l_row (k : Fin 8192) (j : Fin 2048) : val_main_v57 (F := Ideal) x0 x1 x2 (ix2 k j) = hrow 0 x0 x1 x2 1 (256 + k.val) j.val := by
  pointwise [val_main_v1, val_main_v4, val_main_v5, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_cst_3, val_main_cst_4, val_main_cst_5, val_main_cst_6]
  unfold hrow
  simp only [at2_lt x0 (show 256 + k.val < 8448 by omega) (Fin.isLt _), at2_lt x1 (show 0 < 1 by decide) j.isLt, at3_lt x2 (show 1 < 2 by decide) (show 1 < 6 by decide) j.isLt,
    at3_lt x2 (show 1 < 2 by decide) (show 0 < 6 by decide) j.isLt, Nat.reduceAdd]
  rfl

theorem result : val_main_v59 (F := Ideal) x0 x1 x2 = spec 0 x0 x1 x2 := by
  funext i
  obtain ⟨r, j, rfl⟩ : ∃ (r : Fin 8448) (j : Fin 2048), i = ix2 r j := ⟨i 0, i 1, funext fun b => by match b with | 0 => rfl | 1 => rfl⟩
  pointwise [val_main_v59, val_main_v58]
  simp only [c_row, l_row]
  show _ = hrow 0 x0 x1 x2 (st r.val) r.val j.val
  unfold st
  split
  · rfl
  · rw [show 256 + (r.val - 256) = r.val by omega]

end Cert.NormMixFwdRefIdeal.Hand

namespace Cert.Stream.NormMixFwd

open Idealize.ShloMosaic Idealize.SL.Sem

theorem frame_ideal : Cert.quiescent_NormMixFwdIdeal := fun m g _ => Cert.NormMixFwdIdeal.Gen.frame (F := Ideal) m g

theorem frame_kernel : Cert.quiescent_NormMixFwd := fun m g _ => Cert.NormMixFwd.Gen.frame (F := Bits) m g

theorem frame_reference : Cert.quiescent_NormMixFwdRefIdeal := fun m g _ =>
  (θ_run (Cert.NormMixFwdRefIdeal.defs (F := Ideal)) _ _).mono (fun r h => ⟨fun c => (h c).2, sem_eq_zero_of_no_sems rfl r.2⟩) (Cert.NormMixFwdRefIdeal.Value.run (F := Ideal) m g)

/-- From equal arguments the two programs end with equal results. -/
theorem same : Cert.algebraic_NormMixFwdIdeal_NormMixFwdRefIdeal := fun m g m' g' _ hagree => by
  refine ⟨fun c => NormFwd.spec 0 (m ((c.tc : Thread Cert.NormMixFwdIdeal.nD Cert.NormMixFwdIdeal.τ).loc Cert.NormMixFwdIdeal.main_arg0)) (m ((c.tc : Thread Cert.NormMixFwdIdeal.nD Cert.NormMixFwdIdeal.τ).loc Cert.NormMixFwdIdeal.main_arg1)) (m ((c.tc : Thread Cert.NormMixFwdIdeal.nD Cert.NormMixFwdIdeal.τ).loc Cert.NormMixFwdIdeal.main_arg2)), ?_, ?_⟩
  · refine (θ_run (Cert.NormMixFwdIdeal.defs (F := Ideal)) _ _).mono (fun r h c => ?_)
      (θ_run_and (Cert.NormMixFwdIdeal.Gen.run_main (F := Ideal) m g) (Cert.NormMixFwdIdeal.Gen.frame (F := Ideal) m g))
    exact ⟨(h.1.out_eq c 3).trans (Cert.NormMixFwdIdeal.Hand.final m c), h.2.1 c⟩
  · refine (θ_run (Cert.NormMixFwdRefIdeal.defs (F := Ideal)) _ _).mono (fun r h c => ?_) (Cert.NormMixFwdRefIdeal.Value.run (F := Ideal) m' g')
    obtain ⟨h0, ha⟩ := h c
    obtain ⟨a0, a1, a2⟩ := hagree c
    rw [Cert.NormMixFwdRefIdeal.Read.val_main_v59_eq, a0, a1, a2] at h0
    exact ⟨h0.trans (Cert.NormMixFwdRefIdeal.Hand.result _ _ _), ha⟩

end Cert.Stream.NormMixFwd

end
-- ==== Proof.lean ====
/-
  The proof of the claims.
-/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.ReferenceIdeal.Read
public import proofs.«01_k».proof.Proof.Gen.Pre_finite
public import proofs.«01_k».proof.Proof.Attn.Claim
public import proofs.«01_k».proof.Proof.Prod.DownDxClaim
public import proofs.«01_k».proof.Proof.Prod.DownDwClaim
public import proofs.«01_k».proof.Proof.Prod.UpDxClaim
public import proofs.«01_k».proof.Proof.Prod.UpDwClaim
public import proofs.«01_k».proof.Proof.Prod.SsdOutDxClaim
public import proofs.«01_k».proof.Proof.Prod.SsdOutDwClaim
public import proofs.«01_k».proof.Proof.Prod.SsdInDxClaim
public import proofs.«01_k».proof.Proof.Prod.SsdInDwClaim
public import proofs.«01_k».proof.Proof.Prod.AttnOutDxClaim
public import proofs.«01_k».proof.Proof.Prod.AttnOutDwClaim
public import proofs.«01_k».proof.Proof.Prod.QkvDxClaim
public import proofs.«01_k».proof.Proof.Prod.QkvDwClaim
public import proofs.«01_k».proof.Proof.Prod.SsdInClaim
public import proofs.«01_k».proof.Proof.Prod.QkvClaim
public import proofs.«01_k».proof.Proof.Prod.FfnUpClaim
public import proofs.«01_k».proof.Proof.Prod.SsdOutClaim
public import proofs.«01_k».proof.Proof.Prod.AttnOutClaim
public import proofs.«01_k».proof.Proof.Prod.FfnDownClaim
public import proofs.«01_k».proof.Proof.Stream.GateFfnClaim
public import proofs.«01_k».proof.Proof.Stream.GateMixClaim
public import proofs.«01_k».proof.Proof.Stream.NormFfnClaim
public import proofs.«01_k».proof.Proof.Stream.NormMixClaim
public import proofs.«01_k».proof.Proof.Ffn.Claim
public import proofs.«01_k».proof.Proof.Stream.NormFfnFwdClaim
public import proofs.«01_k».proof.Proof.Stream.NormMixFwdClaim
public import Idealize.ShloMosaic.Adequacy
public import Idealize.ShloMosaic.Init

@[expose] public section

noncomputable section

namespace Cert.Proof

open Idealize.ShloMosaic Idealize.SL.Sem

theorem claim : Cert.Claim :=
  ⟨Kernel.Gen.facts, KernelIdeal.Gen.facts, ReferenceIdeal.Gen.facts,
    DownDx.Gen.facts, DownDxIdeal.Gen.facts, DownDxRefIdeal.Gen.facts,
    DownDw.Gen.facts, DownDwIdeal.Gen.facts, DownDwRefIdeal.Gen.facts,
    UpDx.Gen.facts, UpDxIdeal.Gen.facts, UpDxRefIdeal.Gen.facts,
    UpDw.Gen.facts, UpDwIdeal.Gen.facts, UpDwRefIdeal.Gen.facts,
    SsdOutDx.Gen.facts, SsdOutDxIdeal.Gen.facts, SsdOutDxRefIdeal.Gen.facts,
    SsdOutDw.Gen.facts, SsdOutDwIdeal.Gen.facts, SsdOutDwRefIdeal.Gen.facts,
    SsdInDx.Gen.facts, SsdInDxIdeal.Gen.facts, SsdInDxRefIdeal.Gen.facts,
    SsdInDw.Gen.facts, SsdInDwIdeal.Gen.facts, SsdInDwRefIdeal.Gen.facts,
    AttnOutDx.Gen.facts, AttnOutDxIdeal.Gen.facts, AttnOutDxRefIdeal.Gen.facts,
    AttnOutDw.Gen.facts, AttnOutDwIdeal.Gen.facts, AttnOutDwRefIdeal.Gen.facts,
    QkvDx.Gen.facts, QkvDxIdeal.Gen.facts, QkvDxRefIdeal.Gen.facts,
    QkvDw.Gen.facts, QkvDwIdeal.Gen.facts, QkvDwRefIdeal.Gen.facts,
    SsdIn.Gen.facts, SsdInIdeal.Gen.facts, SsdInRefIdeal.Gen.facts,
    Qkv.Gen.facts, QkvIdeal.Gen.facts, QkvRefIdeal.Gen.facts,
    FfnUp.Gen.facts, FfnUpIdeal.Gen.facts, FfnUpRefIdeal.Gen.facts,
    SsdOut.Gen.facts, SsdOutIdeal.Gen.facts, SsdOutRefIdeal.Gen.facts,
    AttnOut.Gen.facts, AttnOutIdeal.Gen.facts, AttnOutRefIdeal.Gen.facts,
    FfnDown.Gen.facts, FfnDownIdeal.Gen.facts, FfnDownRefIdeal.Gen.facts,
    GateFfn.Gen.facts, GateFfnIdeal.Gen.facts, GateFfnRefIdeal.Gen.facts,
    GateMix.Gen.facts, GateMixIdeal.Gen.facts, GateMixRefIdeal.Gen.facts,
    NormFfn.Gen.facts, NormFfnIdeal.Gen.facts, NormFfnRefIdeal.Gen.facts,
    NormMix.Gen.facts, NormMixIdeal.Gen.facts, NormMixRefIdeal.Gen.facts,
    FfnMid.Gen.facts, FfnMidIdeal.Gen.facts, FfnMidRefIdeal.Gen.facts,
    NormFfnFwd.Gen.facts, NormFfnFwdIdeal.Gen.facts, NormFfnFwdRefIdeal.Gen.facts,
    NormMixFwd.Gen.facts, NormMixFwdIdeal.Gen.facts, NormMixFwdRefIdeal.Gen.facts,
    Pre_finite.Gen.facts, Pre_finite_ffn.Gen.facts,
    Attn.frame_kernel, Attn.frame_ideal, Attn.frame_ideal_finite, Attn.frame_reference, Attn.frame_reference_finite,
    Prod.DownDx.frame_kernel, Prod.DownDx.frame_ideal, Prod.DownDx.frame_reference,
    Prod.DownDw.frame_kernel, Prod.DownDw.frame_ideal, Prod.DownDw.frame_reference,
    Prod.UpDx.frame_kernel, Prod.UpDx.frame_ideal, Prod.UpDx.frame_reference,
    Prod.UpDw.frame_kernel, Prod.UpDw.frame_ideal, Prod.UpDw.frame_reference,
    Prod.SsdOutDx.frame_kernel, Prod.SsdOutDx.frame_ideal, Prod.SsdOutDx.frame_reference,
    Prod.SsdOutDw.frame_kernel, Prod.SsdOutDw.frame_ideal, Prod.SsdOutDw.frame_reference,
    Prod.SsdInDx.frame_kernel, Prod.SsdInDx.frame_ideal, Prod.SsdInDx.frame_reference,
    Prod.SsdInDw.frame_kernel, Prod.SsdInDw.frame_ideal, Prod.SsdInDw.frame_reference,
    Prod.AttnOutDx.frame_kernel, Prod.AttnOutDx.frame_ideal, Prod.AttnOutDx.frame_reference,
    Prod.AttnOutDw.frame_kernel, Prod.AttnOutDw.frame_ideal, Prod.AttnOutDw.frame_reference,
    Prod.QkvDx.frame_kernel, Prod.QkvDx.frame_ideal, Prod.QkvDx.frame_reference,
    Prod.QkvDw.frame_kernel, Prod.QkvDw.frame_ideal, Prod.QkvDw.frame_reference,
    Prod.SsdIn.frame_kernel, Prod.SsdIn.frame_ideal, Prod.SsdIn.frame_reference,
    Prod.Qkv.frame_kernel, Prod.Qkv.frame_ideal, Prod.Qkv.frame_reference,
    Prod.FfnUp.frame_kernel, Prod.FfnUp.frame_ideal, Prod.FfnUp.frame_reference,
    Prod.SsdOut.frame_kernel, Prod.SsdOut.frame_ideal, Prod.SsdOut.frame_reference,
    Prod.AttnOut.frame_kernel, Prod.AttnOut.frame_ideal, Prod.AttnOut.frame_reference,
    Prod.FfnDown.frame_kernel, Prod.FfnDown.frame_ideal, Prod.FfnDown.frame_reference,
    Stream.GateFfn.frame_kernel, Stream.GateFfn.frame_ideal, Stream.GateFfn.frame_reference,
    Stream.GateMix.frame_kernel, Stream.GateMix.frame_ideal, Stream.GateMix.frame_reference,
    Stream.NormFfn.frame_kernel, Stream.NormFfn.frame_ideal, Stream.NormFfn.frame_reference,
    Stream.NormMix.frame_kernel, Stream.NormMix.frame_ideal, Stream.NormMix.frame_reference,
    Ffn.frame_kernel, Ffn.frame_ideal, Ffn.frame_ideal_finite, Ffn.frame_reference, Ffn.frame_reference_finite,
    Stream.NormFfnFwd.frame_kernel, Stream.NormFfnFwd.frame_ideal, Stream.NormFfnFwd.frame_reference,
    Stream.NormMixFwd.frame_kernel, Stream.NormMixFwd.frame_ideal, Stream.NormMixFwd.frame_reference,
    trivial, Attn.same,
    trivial, Prod.DownDx.same,
    trivial, Prod.DownDw.same,
    trivial, Prod.UpDx.same,
    trivial, Prod.UpDw.same,
    trivial, Prod.SsdOutDx.same,
    trivial, Prod.SsdOutDw.same,
    trivial, Prod.SsdInDx.same,
    trivial, Prod.SsdInDw.same,
    trivial, Prod.AttnOutDx.same,
    trivial, Prod.AttnOutDw.same,
    trivial, Prod.QkvDx.same,
    trivial, Prod.QkvDw.same,
    trivial, Prod.SsdIn.same,
    trivial, Prod.Qkv.same,
    trivial, Prod.FfnUp.same,
    trivial, Prod.SsdOut.same,
    trivial, Prod.AttnOut.same,
    trivial, Prod.FfnDown.same,
    trivial, Stream.GateFfn.same,
    trivial, Stream.GateMix.same,
    trivial, Stream.NormFfn.same,
    trivial, Stream.NormMix.same,
    trivial, Ffn.same,
    trivial, Stream.NormFfnFwd.same,
    trivial, Stream.NormMixFwd.same⟩

end Cert.Proof

end
